-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def Pre_Kernel54 (m : (ℓ : Loc Cert.Kernel54.nD Cert.Kernel54.τ Cert.Kernel54.sig) → Buf (Elt Bits) ℓ) : Prop :=
  True

def Pre_Kernel54Ideal (m : (ℓ : Loc Cert.Kernel54Ideal.nD Cert.Kernel54Ideal.τ Cert.Kernel54Ideal.sig) → Buf (Elt Ideal) ℓ) : Prop :=
  True

def Pre_Reference54Ideal (m : (ℓ : Loc Cert.Reference54Ideal.nD Cert.Reference54Ideal.τ Cert.Reference54Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7)
      ∧ r.2.mem ((c.tc : Thread Cert.Kernel39.nD Cert.Kernel39.τ).loc Cert.Kernel39.main_arg8) = m ((c.tc : Thread Cert.Kernel39.nD Cert.Kernel39.τ).loc Cert.Kernel39.main_arg8)
      ∧ r.2.mem ((c.tc : Thread Cert.Kernel39.nD Cert.Kernel39.τ).loc Cert.Kernel39.main_arg9) = m ((c.tc : Thread Cert.Kernel39.nD Cert.Kernel39.τ).loc Cert.Kernel39.main_arg9)
      ∧ r.2.mem ((c.tc : Thread Cert.Kernel39.nD Cert.Kernel39.τ).loc Cert.Kernel39.main_arg10) = m ((c.tc : Thread Cert.Kernel39.nD Cert.Kernel39.τ).loc Cert.Kernel39.main_arg10)
      ∧ r.2.mem ((c.tc : Thread Cert.Kernel39.nD Cert.Kernel39.τ).loc Cert.Kernel39.main_arg11) = m ((c.tc : Thread Cert.Kernel39.nD Cert.Kernel39.τ).loc Cert.Kernel39.main_arg11)
      ∧ r.2.mem ((c.tc : Thread Cert.Kernel39.nD Cert.Kernel39.τ).loc Cert.Kernel39.main_arg12) = m ((c.tc : Thread Cert.Kernel39.nD Cert.Kernel39.τ).loc Cert.Kernel39.main_arg12))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
      ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10)
      ∧ r.2.mem ((c.tc : Thread Cert.Kernel39Ideal.nD Cert.Kernel39Ideal.τ).loc Cert.Kernel39Ideal.main_arg11) = m ((c.tc : Thread Cert.Kernel39Ideal.nD Cert.Kernel39Ideal.τ).loc Cert.Kernel39Ideal.main_arg11)
      ∧ r.2.mem ((c.tc : Thread Cert.Kernel39Ideal.nD Cert.Kernel39Ideal.τ).loc Cert.Kernel39Ideal.main_arg12) = m ((c.tc : Thread Cert.Kernel39Ideal.nD Cert.Kernel39Ideal.τ).loc Cert.Kernel39Ideal.main_arg12))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9)
      ∧ r.2.mem ((c.tc : Thread Cert.Reference39Ideal.nD Cert.Reference39Ideal.τ).loc Cert.Reference39Ideal.main_arg10) = m ((c.tc : Thread Cert.Reference39Ideal.nD Cert.Reference39Ideal.τ).loc Cert.Reference39Ideal.main_arg10)
      ∧ r.2.mem ((c.tc : Thread Cert.Reference39Ideal.nD Cert.Reference39Ideal.τ).loc Cert.Reference39Ideal.main_arg11) = m ((c.tc : Thread Cert.Reference39Ideal.nD Cert.Reference39Ideal.τ).loc Cert.Reference39Ideal.main_arg11)
      ∧ r.2.mem ((c.tc : Thread Cert.Reference39Ideal.nD Cert.Reference39Ideal.τ).loc Cert.Reference39Ideal.main_arg12) = m ((c.tc : Thread Cert.Reference39Ideal.nD Cert.Reference39Ideal.τ).loc Cert.Reference39Ideal.main_arg12))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5)
      ∧ r.2.mem ((c.tc : Thread Cert.Kernel40.nD Cert.Kernel40.τ).loc Cert.Kernel40.main_arg6) = m ((c.tc : Thread Cert.Kernel40.nD Cert.Kernel40.τ).loc Cert.Kernel40.main_arg6)
      ∧ r.2.mem ((c.tc : Thread Cert.Kernel40.nD Cert.Kernel40.τ).loc Cert.Kernel40.main_arg7) = m ((c.tc : Thread Cert.Kernel40.nD Cert.Kernel40.τ).loc Cert.Kernel40.main_arg7))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
      ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
      ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5)
      ∧ r.2.mem ((c.tc : Thread Cert.Reference40Ideal.nD Cert.Reference40Ideal.τ).loc Cert.Reference40Ideal.main_arg6) = m ((c.tc : Thread Cert.Reference40Ideal.nD Cert.Reference40Ideal.τ).loc Cert.Reference40Ideal.main_arg6)
      ∧ r.2.mem ((c.tc : Thread Cert.Reference40Ideal.nD Cert.Reference40Ideal.τ).loc Cert.Reference40Ideal.main_arg7) = m ((c.tc : Thread Cert.Reference40Ideal.nD Cert.Reference40Ideal.τ).loc Cert.Reference40Ideal.main_arg7))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6)
      ∧ r.2.mem ((c.tc : Thread Cert.Kernel41.nD Cert.Kernel41.τ).loc Cert.Kernel41.main_arg7) = m ((c.tc : Thread Cert.Kernel41.nD Cert.Kernel41.τ).loc Cert.Kernel41.main_arg7))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
      ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6)
      ∧ r.2.mem ((c.tc : Thread Cert.Reference41Ideal.nD Cert.Reference41Ideal.τ).loc Cert.Reference41Ideal.main_arg7) = m ((c.tc : Thread Cert.Reference41Ideal.nD Cert.Reference41Ideal.τ).loc Cert.Reference41Ideal.main_arg7))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4)
      ∧ r.2.mem ((c.tc : Thread Cert.Kernel42.nD Cert.Kernel42.τ).loc Cert.Kernel42.main_arg5) = m ((c.tc : Thread Cert.Kernel42.nD Cert.Kernel42.τ).loc Cert.Kernel42.main_arg5)
      ∧ r.2.mem ((c.tc : Thread Cert.Kernel42.nD Cert.Kernel42.τ).loc Cert.Kernel42.main_arg6) = m ((c.tc : Thread Cert.Kernel42.nD Cert.Kernel42.τ).loc Cert.Kernel42.main_arg6)
      ∧ r.2.mem ((c.tc : Thread Cert.Kernel42.nD Cert.Kernel42.τ).loc Cert.Kernel42.main_arg7) = m ((c.tc : Thread Cert.Kernel42.nD Cert.Kernel42.τ).loc Cert.Kernel42.main_arg7))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4)
      ∧ r.2.mem ((c.tc : Thread Cert.Kernel42Ideal.nD Cert.Kernel42Ideal.τ).loc Cert.Kernel42Ideal.main_arg5) = m ((c.tc : Thread Cert.Kernel42Ideal.nD Cert.Kernel42Ideal.τ).loc Cert.Kernel42Ideal.main_arg5)
      ∧ r.2.mem ((c.tc : Thread Cert.Kernel42Ideal.nD Cert.Kernel42Ideal.τ).loc Cert.Kernel42Ideal.main_arg6) = m ((c.tc : Thread Cert.Kernel42Ideal.nD Cert.Kernel42Ideal.τ).loc Cert.Kernel42Ideal.main_arg6)
      ∧ r.2.mem ((c.tc : Thread Cert.Kernel42Ideal.nD Cert.Kernel42Ideal.τ).loc Cert.Kernel42Ideal.main_arg7) = m ((c.tc : Thread Cert.Kernel42Ideal.nD Cert.Kernel42Ideal.τ).loc Cert.Kernel42Ideal.main_arg7))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3)
      ∧ r.2.mem ((c.tc : Thread Cert.Reference42Ideal.nD Cert.Reference42Ideal.τ).loc Cert.Reference42Ideal.main_arg4) = m ((c.tc : Thread Cert.Reference42Ideal.nD Cert.Reference42Ideal.τ).loc Cert.Reference42Ideal.main_arg4)
      ∧ r.2.mem ((c.tc : Thread Cert.Reference42Ideal.nD Cert.Reference42Ideal.τ).loc Cert.Reference42Ideal.main_arg5) = m ((c.tc : Thread Cert.Reference42Ideal.nD Cert.Reference42Ideal.τ).loc Cert.Reference42Ideal.main_arg5)
      ∧ r.2.mem ((c.tc : Thread Cert.Reference42Ideal.nD Cert.Reference42Ideal.τ).loc Cert.Reference42Ideal.main_arg6) = m ((c.tc : Thread Cert.Reference42Ideal.nD Cert.Reference42Ideal.τ).loc Cert.Reference42Ideal.main_arg6)
      ∧ r.2.mem ((c.tc : Thread Cert.Reference42Ideal.nD Cert.Reference42Ideal.τ).loc Cert.Reference42Ideal.main_arg7) = m ((c.tc : Thread Cert.Reference42Ideal.nD Cert.Reference42Ideal.τ).loc Cert.Reference42Ideal.main_arg7))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3)
      ∧ r.2.mem ((c.tc : Thread Cert.Kernel43.nD Cert.Kernel43.τ).loc Cert.Kernel43.main_arg4) = m ((c.tc : Thread Cert.Kernel43.nD Cert.Kernel43.τ).loc Cert.Kernel43.main_arg4)
      ∧ r.2.mem ((c.tc : Thread Cert.Kernel43.nD Cert.Kernel43.τ).loc Cert.Kernel43.main_arg5) = m ((c.tc : Thread Cert.Kernel43.nD Cert.Kernel43.τ).loc Cert.Kernel43.main_arg5)
      ∧ r.2.mem ((c.tc : Thread Cert.Kernel43.nD Cert.Kernel43.τ).loc Cert.Kernel43.main_arg6) = m ((c.tc : Thread Cert.Kernel43.nD Cert.Kernel43.τ).loc Cert.Kernel43.main_arg6)
      ∧ r.2.mem ((c.tc : Thread Cert.Kernel43.nD Cert.Kernel43.τ).loc Cert.Kernel43.main_arg7) = m ((c.tc : Thread Cert.Kernel43.nD Cert.Kernel43.τ).loc Cert.Kernel43.main_arg7))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
      ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
      ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5)
      ∧ r.2.mem ((c.tc : Thread Cert.Kernel43Ideal.nD Cert.Kernel43Ideal.τ).loc Cert.Kernel43Ideal.main_arg6) = m ((c.tc : Thread Cert.Kernel43Ideal.nD Cert.Kernel43Ideal.τ).loc Cert.Kernel43Ideal.main_arg6)
      ∧ r.2.mem ((c.tc : Thread Cert.Kernel43Ideal.nD Cert.Kernel43Ideal.τ).loc Cert.Kernel43Ideal.main_arg7) = m ((c.tc : Thread Cert.Kernel43Ideal.nD Cert.Kernel43Ideal.τ).loc Cert.Kernel43Ideal.main_arg7))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3)
      ∧ r.2.mem ((c.tc : Thread Cert.Reference43Ideal.nD Cert.Reference43Ideal.τ).loc Cert.Reference43Ideal.main_arg4) = m ((c.tc : Thread Cert.Reference43Ideal.nD Cert.Reference43Ideal.τ).loc Cert.Reference43Ideal.main_arg4)
      ∧ r.2.mem ((c.tc : Thread Cert.Reference43Ideal.nD Cert.Reference43Ideal.τ).loc Cert.Reference43Ideal.main_arg5) = m ((c.tc : Thread Cert.Reference43Ideal.nD Cert.Reference43Ideal.τ).loc Cert.Reference43Ideal.main_arg5)
      ∧ r.2.mem ((c.tc : Thread Cert.Reference43Ideal.nD Cert.Reference43Ideal.τ).loc Cert.Reference43Ideal.main_arg6) = m ((c.tc : Thread Cert.Reference43Ideal.nD Cert.Reference43Ideal.τ).loc Cert.Reference43Ideal.main_arg6)
      ∧ r.2.mem ((c.tc : Thread Cert.Reference43Ideal.nD Cert.Reference43Ideal.τ).loc Cert.Reference43Ideal.main_arg7) = m ((c.tc : Thread Cert.Reference43Ideal.nD Cert.Reference43Ideal.τ).loc Cert.Reference43Ideal.main_arg7))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3)
      ∧ r.2.mem ((c.tc : Thread Cert.Kernel44.nD Cert.Kernel44.τ).loc Cert.Kernel44.main_arg4) = m ((c.tc : Thread Cert.Kernel44.nD Cert.Kernel44.τ).loc Cert.Kernel44.main_arg4)
      ∧ r.2.mem ((c.tc : Thread Cert.Kernel44.nD Cert.Kernel44.τ).loc Cert.Kernel44.main_arg5) = m ((c.tc : Thread Cert.Kernel44.nD Cert.Kernel44.τ).loc Cert.Kernel44.main_arg5)
      ∧ r.2.mem ((c.tc : Thread Cert.Kernel44.nD Cert.Kernel44.τ).loc Cert.Kernel44.main_arg6) = m ((c.tc : Thread Cert.Kernel44.nD Cert.Kernel44.τ).loc Cert.Kernel44.main_arg6)
      ∧ r.2.mem ((c.tc : Thread Cert.Kernel44.nD Cert.Kernel44.τ).loc Cert.Kernel44.main_arg7) = m ((c.tc : Thread Cert.Kernel44.nD Cert.Kernel44.τ).loc Cert.Kernel44.main_arg7))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
      ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4)
      ∧ r.2.mem ((c.tc : Thread Cert.Kernel44Ideal.nD Cert.Kernel44Ideal.τ).loc Cert.Kernel44Ideal.main_arg5) = m ((c.tc : Thread Cert.Kernel44Ideal.nD Cert.Kernel44Ideal.τ).loc Cert.Kernel44Ideal.main_arg5)
      ∧ r.2.mem ((c.tc : Thread Cert.Kernel44Ideal.nD Cert.Kernel44Ideal.τ).loc Cert.Kernel44Ideal.main_arg6) = m ((c.tc : Thread Cert.Kernel44Ideal.nD Cert.Kernel44Ideal.τ).loc Cert.Kernel44Ideal.main_arg6)
      ∧ r.2.mem ((c.tc : Thread Cert.Kernel44Ideal.nD Cert.Kernel44Ideal.τ).loc Cert.Kernel44Ideal.main_arg7) = m ((c.tc : Thread Cert.Kernel44Ideal.nD Cert.Kernel44Ideal.τ).loc Cert.Kernel44Ideal.main_arg7))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3)
      ∧ r.2.mem ((c.tc : Thread Cert.Reference44Ideal.nD Cert.Reference44Ideal.τ).loc Cert.Reference44Ideal.main_arg4) = m ((c.tc : Thread Cert.Reference44Ideal.nD Cert.Reference44Ideal.τ).loc Cert.Reference44Ideal.main_arg4)
      ∧ r.2.mem ((c.tc : Thread Cert.Reference44Ideal.nD Cert.Reference44Ideal.τ).loc Cert.Reference44Ideal.main_arg5) = m ((c.tc : Thread Cert.Reference44Ideal.nD Cert.Reference44Ideal.τ).loc Cert.Reference44Ideal.main_arg5)
      ∧ r.2.mem ((c.tc : Thread Cert.Reference44Ideal.nD Cert.Reference44Ideal.τ).loc Cert.Reference44Ideal.main_arg6) = m ((c.tc : Thread Cert.Reference44Ideal.nD Cert.Reference44Ideal.τ).loc Cert.Reference44Ideal.main_arg6)
      ∧ r.2.mem ((c.tc : Thread Cert.Reference44Ideal.nD Cert.Reference44Ideal.τ).loc Cert.Reference44Ideal.main_arg7) = m ((c.tc : Thread Cert.Reference44Ideal.nD Cert.Reference44Ideal.τ).loc Cert.Reference44Ideal.main_arg7))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3)
      ∧ r.2.mem ((c.tc : Thread Cert.Kernel45.nD Cert.Kernel45.τ).loc Cert.Kernel45.main_arg4) = m ((c.tc : Thread Cert.Kernel45.nD Cert.Kernel45.τ).loc Cert.Kernel45.main_arg4)
      ∧ r.2.mem ((c.tc : Thread Cert.Kernel45.nD Cert.Kernel45.τ).loc Cert.Kernel45.main_arg5) = m ((c.tc : Thread Cert.Kernel45.nD Cert.Kernel45.τ).loc Cert.Kernel45.main_arg5)
      ∧ r.2.mem ((c.tc : Thread Cert.Kernel45.nD Cert.Kernel45.τ).loc Cert.Kernel45.main_arg6) = m ((c.tc : Thread Cert.Kernel45.nD Cert.Kernel45.τ).loc Cert.Kernel45.main_arg6)
      ∧ r.2.mem ((c.tc : Thread Cert.Kernel45.nD Cert.Kernel45.τ).loc Cert.Kernel45.main_arg7) = m ((c.tc : Thread Cert.Kernel45.nD Cert.Kernel45.τ).loc Cert.Kernel45.main_arg7))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
      ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4)
      ∧ r.2.mem ((c.tc : Thread Cert.Kernel45Ideal.nD Cert.Kernel45Ideal.τ).loc Cert.Kernel45Ideal.main_arg5) = m ((c.tc : Thread Cert.Kernel45Ideal.nD Cert.Kernel45Ideal.τ).loc Cert.Kernel45Ideal.main_arg5)
      ∧ r.2.mem ((c.tc : Thread Cert.Kernel45Ideal.nD Cert.Kernel45Ideal.τ).loc Cert.Kernel45Ideal.main_arg6) = m ((c.tc : Thread Cert.Kernel45Ideal.nD Cert.Kernel45Ideal.τ).loc Cert.Kernel45Ideal.main_arg6)
      ∧ r.2.mem ((c.tc : Thread Cert.Kernel45Ideal.nD Cert.Kernel45Ideal.τ).loc Cert.Kernel45Ideal.main_arg7) = m ((c.tc : Thread Cert.Kernel45Ideal.nD Cert.Kernel45Ideal.τ).loc Cert.Kernel45Ideal.main_arg7))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3)
      ∧ r.2.mem ((c.tc : Thread Cert.Reference45Ideal.nD Cert.Reference45Ideal.τ).loc Cert.Reference45Ideal.main_arg4) = m ((c.tc : Thread Cert.Reference45Ideal.nD Cert.Reference45Ideal.τ).loc Cert.Reference45Ideal.main_arg4)
      ∧ r.2.mem ((c.tc : Thread Cert.Reference45Ideal.nD Cert.Reference45Ideal.τ).loc Cert.Reference45Ideal.main_arg5) = m ((c.tc : Thread Cert.Reference45Ideal.nD Cert.Reference45Ideal.τ).loc Cert.Reference45Ideal.main_arg5)
      ∧ r.2.mem ((c.tc : Thread Cert.Reference45Ideal.nD Cert.Reference45Ideal.τ).loc Cert.Reference45Ideal.main_arg6) = m ((c.tc : Thread Cert.Reference45Ideal.nD Cert.Reference45Ideal.τ).loc Cert.Reference45Ideal.main_arg6)
      ∧ r.2.mem ((c.tc : Thread Cert.Reference45Ideal.nD Cert.Reference45Ideal.τ).loc Cert.Reference45Ideal.main_arg7) = m ((c.tc : Thread Cert.Reference45Ideal.nD Cert.Reference45Ideal.τ).loc Cert.Reference45Ideal.main_arg7))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3)
      ∧ r.2.mem ((c.tc : Thread Cert.Kernel46.nD Cert.Kernel46.τ).loc Cert.Kernel46.main_arg4) = m ((c.tc : Thread Cert.Kernel46.nD Cert.Kernel46.τ).loc Cert.Kernel46.main_arg4)
      ∧ r.2.mem ((c.tc : Thread Cert.Kernel46.nD Cert.Kernel46.τ).loc Cert.Kernel46.main_arg5) = m ((c.tc : Thread Cert.Kernel46.nD Cert.Kernel46.τ).loc Cert.Kernel46.main_arg5)
      ∧ r.2.mem ((c.tc : Thread Cert.Kernel46.nD Cert.Kernel46.τ).loc Cert.Kernel46.main_arg6) = m ((c.tc : Thread Cert.Kernel46.nD Cert.Kernel46.τ).loc Cert.Kernel46.main_arg6)
      ∧ r.2.mem ((c.tc : Thread Cert.Kernel46.nD Cert.Kernel46.τ).loc Cert.Kernel46.main_arg7) = m ((c.tc : Thread Cert.Kernel46.nD Cert.Kernel46.τ).loc Cert.Kernel46.main_arg7))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3)
      ∧ r.2.mem ((c.tc : Thread Cert.Kernel46Ideal.nD Cert.Kernel46Ideal.τ).loc Cert.Kernel46Ideal.main_arg4) = m ((c.tc : Thread Cert.Kernel46Ideal.nD Cert.Kernel46Ideal.τ).loc Cert.Kernel46Ideal.main_arg4)
      ∧ r.2.mem ((c.tc : Thread Cert.Kernel46Ideal.nD Cert.Kernel46Ideal.τ).loc Cert.Kernel46Ideal.main_arg5) = m ((c.tc : Thread Cert.Kernel46Ideal.nD Cert.Kernel46Ideal.τ).loc Cert.Kernel46Ideal.main_arg5)
      ∧ r.2.mem ((c.tc : Thread Cert.Kernel46Ideal.nD Cert.Kernel46Ideal.τ).loc Cert.Kernel46Ideal.main_arg6) = m ((c.tc : Thread Cert.Kernel46Ideal.nD Cert.Kernel46Ideal.τ).loc Cert.Kernel46Ideal.main_arg6)
      ∧ r.2.mem ((c.tc : Thread Cert.Kernel46Ideal.nD Cert.Kernel46Ideal.τ).loc Cert.Kernel46Ideal.main_arg7) = m ((c.tc : Thread Cert.Kernel46Ideal.nD Cert.Kernel46Ideal.τ).loc Cert.Kernel46Ideal.main_arg7))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3)
      ∧ r.2.mem ((c.tc : Thread Cert.Reference46Ideal.nD Cert.Reference46Ideal.τ).loc Cert.Reference46Ideal.main_arg4) = m ((c.tc : Thread Cert.Reference46Ideal.nD Cert.Reference46Ideal.τ).loc Cert.Reference46Ideal.main_arg4)
      ∧ r.2.mem ((c.tc : Thread Cert.Reference46Ideal.nD Cert.Reference46Ideal.τ).loc Cert.Reference46Ideal.main_arg5) = m ((c.tc : Thread Cert.Reference46Ideal.nD Cert.Reference46Ideal.τ).loc Cert.Reference46Ideal.main_arg5)
      ∧ r.2.mem ((c.tc : Thread Cert.Reference46Ideal.nD Cert.Reference46Ideal.τ).loc Cert.Reference46Ideal.main_arg6) = m ((c.tc : Thread Cert.Reference46Ideal.nD Cert.Reference46Ideal.τ).loc Cert.Reference46Ideal.main_arg6)
      ∧ r.2.mem ((c.tc : Thread Cert.Reference46Ideal.nD Cert.Reference46Ideal.τ).loc Cert.Reference46Ideal.main_arg7) = m ((c.tc : Thread Cert.Reference46Ideal.nD Cert.Reference46Ideal.τ).loc Cert.Reference46Ideal.main_arg7))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3)
      ∧ r.2.mem ((c.tc : Thread Cert.Kernel47.nD Cert.Kernel47.τ).loc Cert.Kernel47.main_arg4) = m ((c.tc : Thread Cert.Kernel47.nD Cert.Kernel47.τ).loc Cert.Kernel47.main_arg4)
      ∧ r.2.mem ((c.tc : Thread Cert.Kernel47.nD Cert.Kernel47.τ).loc Cert.Kernel47.main_arg5) = m ((c.tc : Thread Cert.Kernel47.nD Cert.Kernel47.τ).loc Cert.Kernel47.main_arg5)
      ∧ r.2.mem ((c.tc : Thread Cert.Kernel47.nD Cert.Kernel47.τ).loc Cert.Kernel47.main_arg6) = m ((c.tc : Thread Cert.Kernel47.nD Cert.Kernel47.τ).loc Cert.Kernel47.main_arg6)
      ∧ r.2.mem ((c.tc : Thread Cert.Kernel47.nD Cert.Kernel47.τ).loc Cert.Kernel47.main_arg7) = m ((c.tc : Thread Cert.Kernel47.nD Cert.Kernel47.τ).loc Cert.Kernel47.main_arg7))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
      ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4)
      ∧ r.2.mem ((c.tc : Thread Cert.Kernel47Ideal.nD Cert.Kernel47Ideal.τ).loc Cert.Kernel47Ideal.main_arg5) = m ((c.tc : Thread Cert.Kernel47Ideal.nD Cert.Kernel47Ideal.τ).loc Cert.Kernel47Ideal.main_arg5)
      ∧ r.2.mem ((c.tc : Thread Cert.Kernel47Ideal.nD Cert.Kernel47Ideal.τ).loc Cert.Kernel47Ideal.main_arg6) = m ((c.tc : Thread Cert.Kernel47Ideal.nD Cert.Kernel47Ideal.τ).loc Cert.Kernel47Ideal.main_arg6)
      ∧ r.2.mem ((c.tc : Thread Cert.Kernel47Ideal.nD Cert.Kernel47Ideal.τ).loc Cert.Kernel47Ideal.main_arg7) = m ((c.tc : Thread Cert.Kernel47Ideal.nD Cert.Kernel47Ideal.τ).loc Cert.Kernel47Ideal.main_arg7))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3)
      ∧ r.2.mem ((c.tc : Thread Cert.Reference47Ideal.nD Cert.Reference47Ideal.τ).loc Cert.Reference47Ideal.main_arg4) = m ((c.tc : Thread Cert.Reference47Ideal.nD Cert.Reference47Ideal.τ).loc Cert.Reference47Ideal.main_arg4)
      ∧ r.2.mem ((c.tc : Thread Cert.Reference47Ideal.nD Cert.Reference47Ideal.τ).loc Cert.Reference47Ideal.main_arg5) = m ((c.tc : Thread Cert.Reference47Ideal.nD Cert.Reference47Ideal.τ).loc Cert.Reference47Ideal.main_arg5)
      ∧ r.2.mem ((c.tc : Thread Cert.Reference47Ideal.nD Cert.Reference47Ideal.τ).loc Cert.Reference47Ideal.main_arg6) = m ((c.tc : Thread Cert.Reference47Ideal.nD Cert.Reference47Ideal.τ).loc Cert.Reference47Ideal.main_arg6)
      ∧ r.2.mem ((c.tc : Thread Cert.Reference47Ideal.nD Cert.Reference47Ideal.τ).loc Cert.Reference47Ideal.main_arg7) = m ((c.tc : Thread Cert.Reference47Ideal.nD Cert.Reference47Ideal.τ).loc Cert.Reference47Ideal.main_arg7))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3)
      ∧ r.2.mem ((c.tc : Thread Cert.Kernel48.nD Cert.Kernel48.τ).loc Cert.Kernel48.main_arg4) = m ((c.tc : Thread Cert.Kernel48.nD Cert.Kernel48.τ).loc Cert.Kernel48.main_arg4)
      ∧ r.2.mem ((c.tc : Thread Cert.Kernel48.nD Cert.Kernel48.τ).loc Cert.Kernel48.main_arg5) = m ((c.tc : Thread Cert.Kernel48.nD Cert.Kernel48.τ).loc Cert.Kernel48.main_arg5)
      ∧ r.2.mem ((c.tc : Thread Cert.Kernel48.nD Cert.Kernel48.τ).loc Cert.Kernel48.main_arg6) = m ((c.tc : Thread Cert.Kernel48.nD Cert.Kernel48.τ).loc Cert.Kernel48.main_arg6)
      ∧ r.2.mem ((c.tc : Thread Cert.Kernel48.nD Cert.Kernel48.τ).loc Cert.Kernel48.main_arg7) = m ((c.tc : Thread Cert.Kernel48.nD Cert.Kernel48.τ).loc Cert.Kernel48.main_arg7))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3)
      ∧ r.2.mem ((c.tc : Thread Cert.Kernel48Ideal.nD Cert.Kernel48Ideal.τ).loc Cert.Kernel48Ideal.main_arg4) = m ((c.tc : Thread Cert.Kernel48Ideal.nD Cert.Kernel48Ideal.τ).loc Cert.Kernel48Ideal.main_arg4)
      ∧ r.2.mem ((c.tc : Thread Cert.Kernel48Ideal.nD Cert.Kernel48Ideal.τ).loc Cert.Kernel48Ideal.main_arg5) = m ((c.tc : Thread Cert.Kernel48Ideal.nD Cert.Kernel48Ideal.τ).loc Cert.Kernel48Ideal.main_arg5)
      ∧ r.2.mem ((c.tc : Thread Cert.Kernel48Ideal.nD Cert.Kernel48Ideal.τ).loc Cert.Kernel48Ideal.main_arg6) = m ((c.tc : Thread Cert.Kernel48Ideal.nD Cert.Kernel48Ideal.τ).loc Cert.Kernel48Ideal.main_arg6)
      ∧ r.2.mem ((c.tc : Thread Cert.Kernel48Ideal.nD Cert.Kernel48Ideal.τ).loc Cert.Kernel48Ideal.main_arg7) = m ((c.tc : Thread Cert.Kernel48Ideal.nD Cert.Kernel48Ideal.τ).loc Cert.Kernel48Ideal.main_arg7))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3)
      ∧ r.2.mem ((c.tc : Thread Cert.Reference48Ideal.nD Cert.Reference48Ideal.τ).loc Cert.Reference48Ideal.main_arg4) = m ((c.tc : Thread Cert.Reference48Ideal.nD Cert.Reference48Ideal.τ).loc Cert.Reference48Ideal.main_arg4)
      ∧ r.2.mem ((c.tc : Thread Cert.Reference48Ideal.nD Cert.Reference48Ideal.τ).loc Cert.Reference48Ideal.main_arg5) = m ((c.tc : Thread Cert.Reference48Ideal.nD Cert.Reference48Ideal.τ).loc Cert.Reference48Ideal.main_arg5)
      ∧ r.2.mem ((c.tc : Thread Cert.Reference48Ideal.nD Cert.Reference48Ideal.τ).loc Cert.Reference48Ideal.main_arg6) = m ((c.tc : Thread Cert.Reference48Ideal.nD Cert.Reference48Ideal.τ).loc Cert.Reference48Ideal.main_arg6)
      ∧ r.2.mem ((c.tc : Thread Cert.Reference48Ideal.nD Cert.Reference48Ideal.τ).loc Cert.Reference48Ideal.main_arg7) = m ((c.tc : Thread Cert.Reference48Ideal.nD Cert.Reference48Ideal.τ).loc Cert.Reference48Ideal.main_arg7))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3)
      ∧ r.2.mem ((c.tc : Thread Cert.Kernel49.nD Cert.Kernel49.τ).loc Cert.Kernel49.main_arg4) = m ((c.tc : Thread Cert.Kernel49.nD Cert.Kernel49.τ).loc Cert.Kernel49.main_arg4)
      ∧ r.2.mem ((c.tc : Thread Cert.Kernel49.nD Cert.Kernel49.τ).loc Cert.Kernel49.main_arg5) = m ((c.tc : Thread Cert.Kernel49.nD Cert.Kernel49.τ).loc Cert.Kernel49.main_arg5)
      ∧ r.2.mem ((c.tc : Thread Cert.Kernel49.nD Cert.Kernel49.τ).loc Cert.Kernel49.main_arg6) = m ((c.tc : Thread Cert.Kernel49.nD Cert.Kernel49.τ).loc Cert.Kernel49.main_arg6)
      ∧ r.2.mem ((c.tc : Thread Cert.Kernel49.nD Cert.Kernel49.τ).loc Cert.Kernel49.main_arg7) = m ((c.tc : Thread Cert.Kernel49.nD Cert.Kernel49.τ).loc Cert.Kernel49.main_arg7))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
      ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
      ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5)
      ∧ r.2.mem ((c.tc : Thread Cert.Kernel49Ideal.nD Cert.Kernel49Ideal.τ).loc Cert.Kernel49Ideal.main_arg6) = m ((c.tc : Thread Cert.Kernel49Ideal.nD Cert.Kernel49Ideal.τ).loc Cert.Kernel49Ideal.main_arg6)
      ∧ r.2.mem ((c.tc : Thread Cert.Kernel49Ideal.nD Cert.Kernel49Ideal.τ).loc Cert.Kernel49Ideal.main_arg7) = m ((c.tc : Thread Cert.Kernel49Ideal.nD Cert.Kernel49Ideal.τ).loc Cert.Kernel49Ideal.main_arg7))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3)
      ∧ r.2.mem ((c.tc : Thread Cert.Reference49Ideal.nD Cert.Reference49Ideal.τ).loc Cert.Reference49Ideal.main_arg4) = m ((c.tc : Thread Cert.Reference49Ideal.nD Cert.Reference49Ideal.τ).loc Cert.Reference49Ideal.main_arg4)
      ∧ r.2.mem ((c.tc : Thread Cert.Reference49Ideal.nD Cert.Reference49Ideal.τ).loc Cert.Reference49Ideal.main_arg5) = m ((c.tc : Thread Cert.Reference49Ideal.nD Cert.Reference49Ideal.τ).loc Cert.Reference49Ideal.main_arg5)
      ∧ r.2.mem ((c.tc : Thread Cert.Reference49Ideal.nD Cert.Reference49Ideal.τ).loc Cert.Reference49Ideal.main_arg6) = m ((c.tc : Thread Cert.Reference49Ideal.nD Cert.Reference49Ideal.τ).loc Cert.Reference49Ideal.main_arg6)
      ∧ r.2.mem ((c.tc : Thread Cert.Reference49Ideal.nD Cert.Reference49Ideal.τ).loc Cert.Reference49Ideal.main_arg7) = m ((c.tc : Thread Cert.Reference49Ideal.nD Cert.Reference49Ideal.τ).loc Cert.Reference49Ideal.main_arg7))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3)
      ∧ r.2.mem ((c.tc : Thread Cert.Kernel50.nD Cert.Kernel50.τ).loc Cert.Kernel50.main_arg4) = m ((c.tc : Thread Cert.Kernel50.nD Cert.Kernel50.τ).loc Cert.Kernel50.main_arg4)
      ∧ r.2.mem ((c.tc : Thread Cert.Kernel50.nD Cert.Kernel50.τ).loc Cert.Kernel50.main_arg5) = m ((c.tc : Thread Cert.Kernel50.nD Cert.Kernel50.τ).loc Cert.Kernel50.main_arg5)
      ∧ r.2.mem ((c.tc : Thread Cert.Kernel50.nD Cert.Kernel50.τ).loc Cert.Kernel50.main_arg6) = m ((c.tc : Thread Cert.Kernel50.nD Cert.Kernel50.τ).loc Cert.Kernel50.main_arg6)
      ∧ r.2.mem ((c.tc : Thread Cert.Kernel50.nD Cert.Kernel50.τ).loc Cert.Kernel50.main_arg7) = m ((c.tc : Thread Cert.Kernel50.nD Cert.Kernel50.τ).loc Cert.Kernel50.main_arg7))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3)
      ∧ r.2.mem ((c.tc : Thread Cert.Kernel50Ideal.nD Cert.Kernel50Ideal.τ).loc Cert.Kernel50Ideal.main_arg4) = m ((c.tc : Thread Cert.Kernel50Ideal.nD Cert.Kernel50Ideal.τ).loc Cert.Kernel50Ideal.main_arg4)
      ∧ r.2.mem ((c.tc : Thread Cert.Kernel50Ideal.nD Cert.Kernel50Ideal.τ).loc Cert.Kernel50Ideal.main_arg5) = m ((c.tc : Thread Cert.Kernel50Ideal.nD Cert.Kernel50Ideal.τ).loc Cert.Kernel50Ideal.main_arg5)
      ∧ r.2.mem ((c.tc : Thread Cert.Kernel50Ideal.nD Cert.Kernel50Ideal.τ).loc Cert.Kernel50Ideal.main_arg6) = m ((c.tc : Thread Cert.Kernel50Ideal.nD Cert.Kernel50Ideal.τ).loc Cert.Kernel50Ideal.main_arg6)
      ∧ r.2.mem ((c.tc : Thread Cert.Kernel50Ideal.nD Cert.Kernel50Ideal.τ).loc Cert.Kernel50Ideal.main_arg7) = m ((c.tc : Thread Cert.Kernel50Ideal.nD Cert.Kernel50Ideal.τ).loc Cert.Kernel50Ideal.main_arg7))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3)
      ∧ r.2.mem ((c.tc : Thread Cert.Reference50Ideal.nD Cert.Reference50Ideal.τ).loc Cert.Reference50Ideal.main_arg4) = m ((c.tc : Thread Cert.Reference50Ideal.nD Cert.Reference50Ideal.τ).loc Cert.Reference50Ideal.main_arg4)
      ∧ r.2.mem ((c.tc : Thread Cert.Reference50Ideal.nD Cert.Reference50Ideal.τ).loc Cert.Reference50Ideal.main_arg5) = m ((c.tc : Thread Cert.Reference50Ideal.nD Cert.Reference50Ideal.τ).loc Cert.Reference50Ideal.main_arg5)
      ∧ r.2.mem ((c.tc : Thread Cert.Reference50Ideal.nD Cert.Reference50Ideal.τ).loc Cert.Reference50Ideal.main_arg6) = m ((c.tc : Thread Cert.Reference50Ideal.nD Cert.Reference50Ideal.τ).loc Cert.Reference50Ideal.main_arg6)
      ∧ r.2.mem ((c.tc : Thread Cert.Reference50Ideal.nD Cert.Reference50Ideal.τ).loc Cert.Reference50Ideal.main_arg7) = m ((c.tc : Thread Cert.Reference50Ideal.nD Cert.Reference50Ideal.τ).loc Cert.Reference50Ideal.main_arg7))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3)
      ∧ r.2.mem ((c.tc : Thread Cert.Kernel51.nD Cert.Kernel51.τ).loc Cert.Kernel51.main_arg4) = m ((c.tc : Thread Cert.Kernel51.nD Cert.Kernel51.τ).loc Cert.Kernel51.main_arg4)
      ∧ r.2.mem ((c.tc : Thread Cert.Kernel51.nD Cert.Kernel51.τ).loc Cert.Kernel51.main_arg5) = m ((c.tc : Thread Cert.Kernel51.nD Cert.Kernel51.τ).loc Cert.Kernel51.main_arg5)
      ∧ r.2.mem ((c.tc : Thread Cert.Kernel51.nD Cert.Kernel51.τ).loc Cert.Kernel51.main_arg6) = m ((c.tc : Thread Cert.Kernel51.nD Cert.Kernel51.τ).loc Cert.Kernel51.main_arg6)
      ∧ r.2.mem ((c.tc : Thread Cert.Kernel51.nD Cert.Kernel51.τ).loc Cert.Kernel51.main_arg7) = m ((c.tc : Thread Cert.Kernel51.nD Cert.Kernel51.τ).loc Cert.Kernel51.main_arg7))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3)
      ∧ r.2.mem ((c.tc : Thread Cert.Kernel51Ideal.nD Cert.Kernel51Ideal.τ).loc Cert.Kernel51Ideal.main_arg4) = m ((c.tc : Thread Cert.Kernel51Ideal.nD Cert.Kernel51Ideal.τ).loc Cert.Kernel51Ideal.main_arg4)
      ∧ r.2.mem ((c.tc : Thread Cert.Kernel51Ideal.nD Cert.Kernel51Ideal.τ).loc Cert.Kernel51Ideal.main_arg5) = m ((c.tc : Thread Cert.Kernel51Ideal.nD Cert.Kernel51Ideal.τ).loc Cert.Kernel51Ideal.main_arg5)
      ∧ r.2.mem ((c.tc : Thread Cert.Kernel51Ideal.nD Cert.Kernel51Ideal.τ).loc Cert.Kernel51Ideal.main_arg6) = m ((c.tc : Thread Cert.Kernel51Ideal.nD Cert.Kernel51Ideal.τ).loc Cert.Kernel51Ideal.main_arg6)
      ∧ r.2.mem ((c.tc : Thread Cert.Kernel51Ideal.nD Cert.Kernel51Ideal.τ).loc Cert.Kernel51Ideal.main_arg7) = m ((c.tc : Thread Cert.Kernel51Ideal.nD Cert.Kernel51Ideal.τ).loc Cert.Kernel51Ideal.main_arg7))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3)
      ∧ r.2.mem ((c.tc : Thread Cert.Reference51Ideal.nD Cert.Reference51Ideal.τ).loc Cert.Reference51Ideal.main_arg4) = m ((c.tc : Thread Cert.Reference51Ideal.nD Cert.Reference51Ideal.τ).loc Cert.Reference51Ideal.main_arg4)
      ∧ r.2.mem ((c.tc : Thread Cert.Reference51Ideal.nD Cert.Reference51Ideal.τ).loc Cert.Reference51Ideal.main_arg5) = m ((c.tc : Thread Cert.Reference51Ideal.nD Cert.Reference51Ideal.τ).loc Cert.Reference51Ideal.main_arg5)
      ∧ r.2.mem ((c.tc : Thread Cert.Reference51Ideal.nD Cert.Reference51Ideal.τ).loc Cert.Reference51Ideal.main_arg6) = m ((c.tc : Thread Cert.Reference51Ideal.nD Cert.Reference51Ideal.τ).loc Cert.Reference51Ideal.main_arg6)
      ∧ r.2.mem ((c.tc : Thread Cert.Reference51Ideal.nD Cert.Reference51Ideal.τ).loc Cert.Reference51Ideal.main_arg7) = m ((c.tc : Thread Cert.Reference51Ideal.nD Cert.Reference51Ideal.τ).loc Cert.Reference51Ideal.main_arg7))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3)
      ∧ r.2.mem ((c.tc : Thread Cert.Kernel52.nD Cert.Kernel52.τ).loc Cert.Kernel52.main_arg4) = m ((c.tc : Thread Cert.Kernel52.nD Cert.Kernel52.τ).loc Cert.Kernel52.main_arg4)
      ∧ r.2.mem ((c.tc : Thread Cert.Kernel52.nD Cert.Kernel52.τ).loc Cert.Kernel52.main_arg5) = m ((c.tc : Thread Cert.Kernel52.nD Cert.Kernel52.τ).loc Cert.Kernel52.main_arg5)
      ∧ r.2.mem ((c.tc : Thread Cert.Kernel52.nD Cert.Kernel52.τ).loc Cert.Kernel52.main_arg6) = m ((c.tc : Thread Cert.Kernel52.nD Cert.Kernel52.τ).loc Cert.Kernel52.main_arg6)
      ∧ r.2.mem ((c.tc : Thread Cert.Kernel52.nD Cert.Kernel52.τ).loc Cert.Kernel52.main_arg7) = m ((c.tc : Thread Cert.Kernel52.nD Cert.Kernel52.τ).loc Cert.Kernel52.main_arg7))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
      ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4)
      ∧ r.2.mem ((c.tc : Thread Cert.Kernel52Ideal.nD Cert.Kernel52Ideal.τ).loc Cert.Kernel52Ideal.main_arg5) = m ((c.tc : Thread Cert.Kernel52Ideal.nD Cert.Kernel52Ideal.τ).loc Cert.Kernel52Ideal.main_arg5)
      ∧ r.2.mem ((c.tc : Thread Cert.Kernel52Ideal.nD Cert.Kernel52Ideal.τ).loc Cert.Kernel52Ideal.main_arg6) = m ((c.tc : Thread Cert.Kernel52Ideal.nD Cert.Kernel52Ideal.τ).loc Cert.Kernel52Ideal.main_arg6)
      ∧ r.2.mem ((c.tc : Thread Cert.Kernel52Ideal.nD Cert.Kernel52Ideal.τ).loc Cert.Kernel52Ideal.main_arg7) = m ((c.tc : Thread Cert.Kernel52Ideal.nD Cert.Kernel52Ideal.τ).loc Cert.Kernel52Ideal.main_arg7))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3)
      ∧ r.2.mem ((c.tc : Thread Cert.Reference52Ideal.nD Cert.Reference52Ideal.τ).loc Cert.Reference52Ideal.main_arg4) = m ((c.tc : Thread Cert.Reference52Ideal.nD Cert.Reference52Ideal.τ).loc Cert.Reference52Ideal.main_arg4)
      ∧ r.2.mem ((c.tc : Thread Cert.Reference52Ideal.nD Cert.Reference52Ideal.τ).loc Cert.Reference52Ideal.main_arg5) = m ((c.tc : Thread Cert.Reference52Ideal.nD Cert.Reference52Ideal.τ).loc Cert.Reference52Ideal.main_arg5)
      ∧ r.2.mem ((c.tc : Thread Cert.Reference52Ideal.nD Cert.Reference52Ideal.τ).loc Cert.Reference52Ideal.main_arg6) = m ((c.tc : Thread Cert.Reference52Ideal.nD Cert.Reference52Ideal.τ).loc Cert.Reference52Ideal.main_arg6)
      ∧ r.2.mem ((c.tc : Thread Cert.Reference52Ideal.nD Cert.Reference52Ideal.τ).loc Cert.Reference52Ideal.main_arg7) = m ((c.tc : Thread Cert.Reference52Ideal.nD Cert.Reference52Ideal.τ).loc Cert.Reference52Ideal.main_arg7))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1)
      ∧ r.2.mem ((c.tc : Thread Cert.Kernel53.nD Cert.Kernel53.τ).loc Cert.Kernel53.main_arg2) = m ((c.tc : Thread Cert.Kernel53.nD Cert.Kernel53.τ).loc Cert.Kernel53.main_arg2)
      ∧ r.2.mem ((c.tc : Thread Cert.Kernel53.nD Cert.Kernel53.τ).loc Cert.Kernel53.main_arg3) = m ((c.tc : Thread Cert.Kernel53.nD Cert.Kernel53.τ).loc Cert.Kernel53.main_arg3)
      ∧ r.2.mem ((c.tc : Thread Cert.Kernel53.nD Cert.Kernel53.τ).loc Cert.Kernel53.main_arg4) = m ((c.tc : Thread Cert.Kernel53.nD Cert.Kernel53.τ).loc Cert.Kernel53.main_arg4)
      ∧ r.2.mem ((c.tc : Thread Cert.Kernel53.nD Cert.Kernel53.τ).loc Cert.Kernel53.main_arg5) = m ((c.tc : Thread Cert.Kernel53.nD Cert.Kernel53.τ).loc Cert.Kernel53.main_arg5)
      ∧ r.2.mem ((c.tc : Thread Cert.Kernel53.nD Cert.Kernel53.τ).loc Cert.Kernel53.main_arg6) = m ((c.tc : Thread Cert.Kernel53.nD Cert.Kernel53.τ).loc Cert.Kernel53.main_arg6)
      ∧ r.2.mem ((c.tc : Thread Cert.Kernel53.nD Cert.Kernel53.τ).loc Cert.Kernel53.main_arg7) = m ((c.tc : Thread Cert.Kernel53.nD Cert.Kernel53.τ).loc Cert.Kernel53.main_arg7)
      ∧ r.2.mem ((c.tc : Thread Cert.Kernel53.nD Cert.Kernel53.τ).loc Cert.Kernel53.main_arg8) = m ((c.tc : Thread Cert.Kernel53.nD Cert.Kernel53.τ).loc Cert.Kernel53.main_arg8)
      ∧ r.2.mem ((c.tc : Thread Cert.Kernel53.nD Cert.Kernel53.τ).loc Cert.Kernel53.main_arg9) = m ((c.tc : Thread Cert.Kernel53.nD Cert.Kernel53.τ).loc Cert.Kernel53.main_arg9)
      ∧ r.2.mem ((c.tc : Thread Cert.Kernel53.nD Cert.Kernel53.τ).loc Cert.Kernel53.main_arg10) = m ((c.tc : Thread Cert.Kernel53.nD Cert.Kernel53.τ).loc Cert.Kernel53.main_arg10)
      ∧ r.2.mem ((c.tc : Thread Cert.Kernel53.nD Cert.Kernel53.τ).loc Cert.Kernel53.main_arg11) = m ((c.tc : Thread Cert.Kernel53.nD Cert.Kernel53.τ).loc Cert.Kernel53.main_arg11))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
      ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
      ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3)
      ∧ r.2.mem ((c.tc : Thread Cert.Kernel53Ideal.nD Cert.Kernel53Ideal.τ).loc Cert.Kernel53Ideal.main_arg4) = m ((c.tc : Thread Cert.Kernel53Ideal.nD Cert.Kernel53Ideal.τ).loc Cert.Kernel53Ideal.main_arg4)
      ∧ r.2.mem ((c.tc : Thread Cert.Kernel53Ideal.nD Cert.Kernel53Ideal.τ).loc Cert.Kernel53Ideal.main_arg5) = m ((c.tc : Thread Cert.Kernel53Ideal.nD Cert.Kernel53Ideal.τ).loc Cert.Kernel53Ideal.main_arg5)
      ∧ r.2.mem ((c.tc : Thread Cert.Kernel53Ideal.nD Cert.Kernel53Ideal.τ).loc Cert.Kernel53Ideal.main_arg6) = m ((c.tc : Thread Cert.Kernel53Ideal.nD Cert.Kernel53Ideal.τ).loc Cert.Kernel53Ideal.main_arg6)
      ∧ r.2.mem ((c.tc : Thread Cert.Kernel53Ideal.nD Cert.Kernel53Ideal.τ).loc Cert.Kernel53Ideal.main_arg7) = m ((c.tc : Thread Cert.Kernel53Ideal.nD Cert.Kernel53Ideal.τ).loc Cert.Kernel53Ideal.main_arg7)
      ∧ r.2.mem ((c.tc : Thread Cert.Kernel53Ideal.nD Cert.Kernel53Ideal.τ).loc Cert.Kernel53Ideal.main_arg8) = m ((c.tc : Thread Cert.Kernel53Ideal.nD Cert.Kernel53Ideal.τ).loc Cert.Kernel53Ideal.main_arg8)
      ∧ r.2.mem ((c.tc : Thread Cert.Kernel53Ideal.nD Cert.Kernel53Ideal.τ).loc Cert.Kernel53Ideal.main_arg9) = m ((c.tc : Thread Cert.Kernel53Ideal.nD Cert.Kernel53Ideal.τ).loc Cert.Kernel53Ideal.main_arg9)
      ∧ r.2.mem ((c.tc : Thread Cert.Kernel53Ideal.nD Cert.Kernel53Ideal.τ).loc Cert.Kernel53Ideal.main_arg10) = m ((c.tc : Thread Cert.Kernel53Ideal.nD Cert.Kernel53Ideal.τ).loc Cert.Kernel53Ideal.main_arg10)
      ∧ r.2.mem ((c.tc : Thread Cert.Kernel53Ideal.nD Cert.Kernel53Ideal.τ).loc Cert.Kernel53Ideal.main_arg11) = m ((c.tc : Thread Cert.Kernel53Ideal.nD Cert.Kernel53Ideal.τ).loc Cert.Kernel53Ideal.main_arg11))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1)
      ∧ r.2.mem ((c.tc : Thread Cert.Reference53Ideal.nD Cert.Reference53Ideal.τ).loc Cert.Reference53Ideal.main_arg2) = m ((c.tc : Thread Cert.Reference53Ideal.nD Cert.Reference53Ideal.τ).loc Cert.Reference53Ideal.main_arg2)
      ∧ r.2.mem ((c.tc : Thread Cert.Reference53Ideal.nD Cert.Reference53Ideal.τ).loc Cert.Reference53Ideal.main_arg3) = m ((c.tc : Thread Cert.Reference53Ideal.nD Cert.Reference53Ideal.τ).loc Cert.Reference53Ideal.main_arg3)
      ∧ r.2.mem ((c.tc : Thread Cert.Reference53Ideal.nD Cert.Reference53Ideal.τ).loc Cert.Reference53Ideal.main_arg4) = m ((c.tc : Thread Cert.Reference53Ideal.nD Cert.Reference53Ideal.τ).loc Cert.Reference53Ideal.main_arg4)
      ∧ r.2.mem ((c.tc : Thread Cert.Reference53Ideal.nD Cert.Reference53Ideal.τ).loc Cert.Reference53Ideal.main_arg5) = m ((c.tc : Thread Cert.Reference53Ideal.nD Cert.Reference53Ideal.τ).loc Cert.Reference53Ideal.main_arg5)
      ∧ r.2.mem ((c.tc : Thread Cert.Reference53Ideal.nD Cert.Reference53Ideal.τ).loc Cert.Reference53Ideal.main_arg6) = m ((c.tc : Thread Cert.Reference53Ideal.nD Cert.Reference53Ideal.τ).loc Cert.Reference53Ideal.main_arg6)
      ∧ r.2.mem ((c.tc : Thread Cert.Reference53Ideal.nD Cert.Reference53Ideal.τ).loc Cert.Reference53Ideal.main_arg7) = m ((c.tc : Thread Cert.Reference53Ideal.nD Cert.Reference53Ideal.τ).loc Cert.Reference53Ideal.main_arg7)
      ∧ r.2.mem ((c.tc : Thread Cert.Reference53Ideal.nD Cert.Reference53Ideal.τ).loc Cert.Reference53Ideal.main_arg8) = m ((c.tc : Thread Cert.Reference53Ideal.nD Cert.Reference53Ideal.τ).loc Cert.Reference53Ideal.main_arg8)
      ∧ r.2.mem ((c.tc : Thread Cert.Reference53Ideal.nD Cert.Reference53Ideal.τ).loc Cert.Reference53Ideal.main_arg9) = m ((c.tc : Thread Cert.Reference53Ideal.nD Cert.Reference53Ideal.τ).loc Cert.Reference53Ideal.main_arg9)
      ∧ r.2.mem ((c.tc : Thread Cert.Reference53Ideal.nD Cert.Reference53Ideal.τ).loc Cert.Reference53Ideal.main_arg10) = m ((c.tc : Thread Cert.Reference53Ideal.nD Cert.Reference53Ideal.τ).loc Cert.Reference53Ideal.main_arg10)
      ∧ r.2.mem ((c.tc : Thread Cert.Reference53Ideal.nD Cert.Reference53Ideal.τ).loc Cert.Reference53Ideal.main_arg11) = m ((c.tc : Thread Cert.Reference53Ideal.nD Cert.Reference53Ideal.τ).loc Cert.Reference53Ideal.main_arg11))
      ∧ r.2.sem = fun _ => 0)

def quiescent_Kernel54 [hKernel54 : Cert.Kernel54.Facts] : Prop :=
  ∀ (m : (ℓ : Loc Cert.Kernel54.nD Cert.Kernel54.τ Cert.Kernel54.sig) → Buf (Elt Bits) ℓ) (g : Dev Cert.Kernel54.nD → PrngReg), Pre_Kernel54 m →
    θ_run (Cert.Kernel54.defs (F := Bits)) (onTc (τ := Cert.Kernel54.τ) (Cert.Kernel54.main (F := Bits))) ⟨m, fun _ => 0, g⟩ (fun r => (∀ c : Dev Cert.Kernel54.nD,
      r.2.mem ((c.tc : Thread Cert.Kernel54.nD Cert.Kernel54.τ).loc Cert.Kernel54.main_arg0) = m ((c.tc : Thread Cert.Kernel54.nD Cert.Kernel54.τ).loc Cert.Kernel54.main_arg0)
      ∧ r.2.mem ((c.tc : Thread Cert.Kernel54.nD Cert.Kernel54.τ).loc Cert.Kernel54.main_arg1) = m ((c.tc : Thread Cert.Kernel54.nD Cert.Kernel54.τ).loc Cert.Kernel54.main_arg1)
      ∧ r.2.mem ((c.tc : Thread Cert.Kernel54.nD Cert.Kernel54.τ).loc Cert.Kernel54.main_arg2) = m ((c.tc : Thread Cert.Kernel54.nD Cert.Kernel54.τ).loc Cert.Kernel54.main_arg2)
      ∧ r.2.mem ((c.tc : Thread Cert.Kernel54.nD Cert.Kernel54.τ).loc Cert.Kernel54.main_arg3) = m ((c.tc : Thread Cert.Kernel54.nD Cert.Kernel54.τ).loc Cert.Kernel54.main_arg3)
      ∧ r.2.mem ((c.tc : Thread Cert.Kernel54.nD Cert.Kernel54.τ).loc Cert.Kernel54.main_arg4) = m ((c.tc : Thread Cert.Kernel54.nD Cert.Kernel54.τ).loc Cert.Kernel54.main_arg4)
      ∧ r.2.mem ((c.tc : Thread Cert.Kernel54.nD Cert.Kernel54.τ).loc Cert.Kernel54.main_arg5) = m ((c.tc : Thread Cert.Kernel54.nD Cert.Kernel54.τ).loc Cert.Kernel54.main_arg5)
      ∧ r.2.mem ((c.tc : Thread Cert.Kernel54.nD Cert.Kernel54.τ).loc Cert.Kernel54.main_arg6) = m ((c.tc : Thread Cert.Kernel54.nD Cert.Kernel54.τ).loc Cert.Kernel54.main_arg6)
      ∧ r.2.mem ((c.tc : Thread Cert.Kernel54.nD Cert.Kernel54.τ).loc Cert.Kernel54.main_arg7) = m ((c.tc : Thread Cert.Kernel54.nD Cert.Kernel54.τ).loc Cert.Kernel54.main_arg7)
      ∧ r.2.mem ((c.tc : Thread Cert.Kernel54.nD Cert.Kernel54.τ).loc Cert.Kernel54.main_arg8) = m ((c.tc : Thread Cert.Kernel54.nD Cert.Kernel54.τ).loc Cert.Kernel54.main_arg8))
      ∧ r.2.sem = fun _ => 0)

def quiescent_Kernel54Ideal [hKernel54Ideal : Cert.Kernel54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg), Pre_Kernel54Ideal m →
    θ_run (Cert.Kernel54Ideal.defs (F := Ideal)) (onTc (τ := Cert.Kernel54Ideal.τ) (Cert.Kernel54Ideal.main (F := Ideal))) ⟨m, fun _ => 0, g⟩ (fun r => (∀ c : Dev Cert.Kernel54Ideal.nD,
      r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
      ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
      ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
      ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3)
      ∧ r.2.mem ((c.tc : Thread Cert.Kernel54Ideal.nD Cert.Kernel54Ideal.τ).loc Cert.Kernel54Ideal.main_arg4) = m ((c.tc : Thread Cert.Kernel54Ideal.nD Cert.Kernel54Ideal.τ).loc Cert.Kernel54Ideal.main_arg4)
      ∧ r.2.mem ((c.tc : Thread Cert.Kernel54Ideal.nD Cert.Kernel54Ideal.τ).loc Cert.Kernel54Ideal.main_arg5) = m ((c.tc : Thread Cert.Kernel54Ideal.nD Cert.Kernel54Ideal.τ).loc Cert.Kernel54Ideal.main_arg5)
      ∧ r.2.mem ((c.tc : Thread Cert.Kernel54Ideal.nD Cert.Kernel54Ideal.τ).loc Cert.Kernel54Ideal.main_arg6) = m ((c.tc : Thread Cert.Kernel54Ideal.nD Cert.Kernel54Ideal.τ).loc Cert.Kernel54Ideal.main_arg6)
      ∧ r.2.mem ((c.tc : Thread Cert.Kernel54Ideal.nD Cert.Kernel54Ideal.τ).loc Cert.Kernel54Ideal.main_arg7) = m ((c.tc : Thread Cert.Kernel54Ideal.nD Cert.Kernel54Ideal.τ).loc Cert.Kernel54Ideal.main_arg7)
      ∧ r.2.mem ((c.tc : Thread Cert.Kernel54Ideal.nD Cert.Kernel54Ideal.τ).loc Cert.Kernel54Ideal.main_arg8) = m ((c.tc : Thread Cert.Kernel54Ideal.nD Cert.Kernel54Ideal.τ).loc Cert.Kernel54Ideal.main_arg8))
      ∧ r.2.sem = fun _ => 0)

def quiescent_Reference54Ideal [hReference54Ideal : Cert.Reference54Ideal.Facts] : Prop :=
  ∀ (m : (ℓ : Loc Cert.Reference54Ideal.nD Cert.Reference54Ideal.τ Cert.Reference54Ideal.sig) → Buf (Elt Ideal) ℓ) (g : Dev Cert.Reference54Ideal.nD → PrngReg), Pre_Reference54Ideal m →
    θ_run (Cert.Reference54Ideal.defs (F := Ideal)) (onTc (τ := Cert.Reference54Ideal.τ) (Cert.Reference54Ideal.main (F := Ideal))) ⟨m, fun _ => 0, g⟩ (fun r => (∀ c : Dev Cert.Reference54Ideal.nD,
      r.2.mem ((c.tc : Thread Cert.Reference54Ideal.nD Cert.Reference54Ideal.τ).loc Cert.Reference54Ideal.main_arg0) = m ((c.tc : Thread Cert.Reference54Ideal.nD Cert.Reference54Ideal.τ).loc Cert.Reference54Ideal.main_arg0)
      ∧ r.2.mem ((c.tc : Thread Cert.Reference54Ideal.nD Cert.Reference54Ideal.τ).loc Cert.Reference54Ideal.main_arg1) = m ((c.tc : Thread Cert.Reference54Ideal.nD Cert.Reference54Ideal.τ).loc Cert.Reference54Ideal.main_arg1)
      ∧ r.2.mem ((c.tc : Thread Cert.Reference54Ideal.nD Cert.Reference54Ideal.τ).loc Cert.Reference54Ideal.main_arg2) = m ((c.tc : Thread Cert.Reference54Ideal.nD Cert.Reference54Ideal.τ).loc Cert.Reference54Ideal.main_arg2)
      ∧ r.2.mem ((c.tc : Thread Cert.Reference54Ideal.nD Cert.Reference54Ideal.τ).loc Cert.Reference54Ideal.main_arg3) = m ((c.tc : Thread Cert.Reference54Ideal.nD Cert.Reference54Ideal.τ).loc Cert.Reference54Ideal.main_arg3)
      ∧ r.2.mem ((c.tc : Thread Cert.Reference54Ideal.nD Cert.Reference54Ideal.τ).loc Cert.Reference54Ideal.main_arg4) = m ((c.tc : Thread Cert.Reference54Ideal.nD Cert.Reference54Ideal.τ).loc Cert.Reference54Ideal.main_arg4)
      ∧ r.2.mem ((c.tc : Thread Cert.Reference54Ideal.nD Cert.Reference54Ideal.τ).loc Cert.Reference54Ideal.main_arg5) = m ((c.tc : Thread Cert.Reference54Ideal.nD Cert.Reference54Ideal.τ).loc Cert.Reference54Ideal.main_arg5)
      ∧ r.2.mem ((c.tc : Thread Cert.Reference54Ideal.nD Cert.Reference54Ideal.τ).loc Cert.Reference54Ideal.main_arg6) = m ((c.tc : Thread Cert.Reference54Ideal.nD Cert.Reference54Ideal.τ).loc Cert.Reference54Ideal.main_arg6)
      ∧ r.2.mem ((c.tc : Thread Cert.Reference54Ideal.nD Cert.Reference54Ideal.τ).loc Cert.Reference54Ideal.main_arg7) = m ((c.tc : Thread Cert.Reference54Ideal.nD Cert.Reference54Ideal.τ).loc Cert.Reference54Ideal.main_arg7)
      ∧ r.2.mem ((c.tc : Thread Cert.Reference54Ideal.nD Cert.Reference54Ideal.τ).loc Cert.Reference54Ideal.main_arg8) = m ((c.tc : Thread Cert.Reference54Ideal.nD Cert.Reference54Ideal.τ).loc Cert.Reference54Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_v56) = v2 c
          ∧ r.2.mem ((c.tc : Thread Cert.Reference8Ideal.nD Cert.Reference8Ideal.τ).loc Cert.Reference8Ideal.main_v41) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_v41) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v55) = v1 c
          ∧ r.2.mem ((c.tc : Thread Cert.Reference14Ideal.nD Cert.Reference14Ideal.τ).loc Cert.Reference14Ideal.main_v56) = v2 c
          ∧ r.2.mem ((c.tc : Thread Cert.Reference14Ideal.nD Cert.Reference14Ideal.τ).loc Cert.Reference14Ideal.main_v41) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v78) = v0 c
          ∧ r.2.mem ((c.tc : Thread Cert.Reference18Ideal.nD Cert.Reference18Ideal.τ).loc Cert.Reference18Ideal.main_v79) = v1 c
          ∧ r.2.mem ((c.tc : Thread Cert.Reference18Ideal.nD Cert.Reference18Ideal.τ).loc Cert.Reference18Ideal.main_v80) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v6) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v11) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v40) = v0 c
          ∧ r.2.mem ((c.tc : Thread Cert.Reference23Ideal.nD Cert.Reference23Ideal.τ).loc Cert.Reference23Ideal.main_v42) = v1 c
          ∧ r.2.mem ((c.tc : Thread Cert.Reference23Ideal.nD Cert.Reference23Ideal.τ).loc Cert.Reference23Ideal.main_v41) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_v17) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_v17) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_v10) = v1 c
          ∧ r.2.mem ((c.tc : Thread Cert.Reference31Ideal.nD Cert.Reference31Ideal.τ).loc Cert.Reference31Ideal.main_v24) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_v10) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v13) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v2_0)) (v1 : (c : Dev Cert.Kernel34Ideal.nD) → Buf (Elt Ideal) ((c.tc : Thread Cert.Kernel34Ideal.nD Cert.Kernel34Ideal.τ).loc Cert.Kernel34Ideal.main_v2_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2_0) = v0 c
          ∧ r.2.mem ((c.tc : Thread Cert.Kernel34Ideal.nD Cert.Kernel34Ideal.τ).loc Cert.Kernel34Ideal.main_v2_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v16) = v0 c
          ∧ r.2.mem ((c.tc : Thread Cert.Reference34Ideal.nD Cert.Reference34Ideal.τ).loc Cert.Reference34Ideal.main_v30) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v18) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v2_0)) (v1 : (c : Dev Cert.Kernel36Ideal.nD) → Buf (Elt Ideal) ((c.tc : Thread Cert.Kernel36Ideal.nD Cert.Kernel36Ideal.τ).loc Cert.Kernel36Ideal.main_v2_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2_0) = v0 c
          ∧ r.2.mem ((c.tc : Thread Cert.Kernel36Ideal.nD Cert.Kernel36Ideal.τ).loc Cert.Kernel36Ideal.main_v2_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v16) = v0 c
          ∧ r.2.mem ((c.tc : Thread Cert.Reference36Ideal.nD Cert.Reference36Ideal.τ).loc Cert.Reference36Ideal.main_v39) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)) →
    ∃ (v0 : (c : Dev Cert.Kernel37Ideal.nD) → Buf (Elt Ideal) ((c.tc : Thread Cert.Kernel37Ideal.nD Cert.Kernel37Ideal.τ).loc Cert.Kernel37Ideal.main_v2_1)) (v1 : (c : Dev Cert.Kernel37Ideal.nD) → Buf (Elt Ideal) ((c.tc : Thread Cert.Kernel37Ideal.nD Cert.Kernel37Ideal.τ).loc Cert.Kernel37Ideal.main_v2_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2_1) = v0 c
          ∧ r.2.mem ((c.tc : Thread Cert.Kernel37Ideal.nD Cert.Kernel37Ideal.τ).loc Cert.Kernel37Ideal.main_v2_2) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v46) = v0 c
          ∧ r.2.mem ((c.tc : Thread Cert.Reference37Ideal.nD Cert.Reference37Ideal.τ).loc Cert.Reference37Ideal.main_v47) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v14) = v0 c
          ∧ r.2.mem ((c.tc : Thread Cert.Reference38Ideal.nD Cert.Reference38Ideal.τ).loc Cert.Reference38Ideal.main_v28) = v1 c
          ∧ r.2.mem ((c.tc : Thread Cert.Reference38Ideal.nD Cert.Reference38Ideal.τ).loc Cert.Reference38Ideal.main_v29) = v2 c
          ∧ r.2.mem ((c.tc : Thread Cert.Reference38Ideal.nD Cert.Reference38Ideal.τ).loc Cert.Reference38Ideal.main_v30) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)
      ∧ m' ((c.tc : Thread Cert.Reference39Ideal.nD Cert.Reference39Ideal.τ).loc Cert.Reference39Ideal.main_arg8) = m ((c.tc : Thread Cert.Kernel39Ideal.nD Cert.Kernel39Ideal.τ).loc Cert.Kernel39Ideal.main_arg8)
      ∧ m' ((c.tc : Thread Cert.Reference39Ideal.nD Cert.Reference39Ideal.τ).loc Cert.Reference39Ideal.main_arg9) = m ((c.tc : Thread Cert.Kernel39Ideal.nD Cert.Kernel39Ideal.τ).loc Cert.Kernel39Ideal.main_arg9)
      ∧ m' ((c.tc : Thread Cert.Reference39Ideal.nD Cert.Reference39Ideal.τ).loc Cert.Reference39Ideal.main_arg10) = m ((c.tc : Thread Cert.Kernel39Ideal.nD Cert.Kernel39Ideal.τ).loc Cert.Kernel39Ideal.main_arg10)
      ∧ m' ((c.tc : Thread Cert.Reference39Ideal.nD Cert.Reference39Ideal.τ).loc Cert.Reference39Ideal.main_arg11) = m ((c.tc : Thread Cert.Kernel39Ideal.nD Cert.Kernel39Ideal.τ).loc Cert.Kernel39Ideal.main_arg11)
      ∧ m' ((c.tc : Thread Cert.Reference39Ideal.nD Cert.Reference39Ideal.τ).loc Cert.Reference39Ideal.main_arg12) = m ((c.tc : Thread Cert.Kernel39Ideal.nD Cert.Kernel39Ideal.τ).loc Cert.Kernel39Ideal.main_arg12)) →
    ∃ (v0 : (c : Dev Cert.Kernel39Ideal.nD) → Buf (Elt Ideal) ((c.tc : Thread Cert.Kernel39Ideal.nD Cert.Kernel39Ideal.τ).loc Cert.Kernel39Ideal.main_v4_1)) (v1 : (c : Dev Cert.Kernel39Ideal.nD) → Buf (Elt Ideal) ((c.tc : Thread Cert.Kernel39Ideal.nD Cert.Kernel39Ideal.τ).loc Cert.Kernel39Ideal.main_v4_3)) (v2 : (c : Dev Cert.Kernel39Ideal.nD) → Buf (Elt Ideal) ((c.tc : Thread Cert.Kernel39Ideal.nD Cert.Kernel39Ideal.τ).loc Cert.Kernel39Ideal.main_v4_5)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_1) = v0 c
          ∧ r.2.mem ((c.tc : Thread Cert.Kernel39Ideal.nD Cert.Kernel39Ideal.τ).loc Cert.Kernel39Ideal.main_v4_3) = v1 c
          ∧ r.2.mem ((c.tc : Thread Cert.Kernel39Ideal.nD Cert.Kernel39Ideal.τ).loc Cert.Kernel39Ideal.main_v4_5) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
          ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
          ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
          ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10)
          ∧ r.2.mem ((c.tc : Thread Cert.Kernel39Ideal.nD Cert.Kernel39Ideal.τ).loc Cert.Kernel39Ideal.main_arg11) = m ((c.tc : Thread Cert.Kernel39Ideal.nD Cert.Kernel39Ideal.τ).loc Cert.Kernel39Ideal.main_arg11)
          ∧ r.2.mem ((c.tc : Thread Cert.Kernel39Ideal.nD Cert.Kernel39Ideal.τ).loc Cert.Kernel39Ideal.main_arg12) = m ((c.tc : Thread Cert.Kernel39Ideal.nD Cert.Kernel39Ideal.τ).loc Cert.Kernel39Ideal.main_arg12))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v58) = v0 c
          ∧ r.2.mem ((c.tc : Thread Cert.Reference39Ideal.nD Cert.Reference39Ideal.τ).loc Cert.Reference39Ideal.main_v63) = v1 c
          ∧ r.2.mem ((c.tc : Thread Cert.Reference39Ideal.nD Cert.Reference39Ideal.τ).loc Cert.Reference39Ideal.main_v64) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7)
          ∧ r.2.mem ((c.tc : Thread Cert.Reference39Ideal.nD Cert.Reference39Ideal.τ).loc Cert.Reference39Ideal.main_arg8) = m' ((c.tc : Thread Cert.Reference39Ideal.nD Cert.Reference39Ideal.τ).loc Cert.Reference39Ideal.main_arg8)
          ∧ r.2.mem ((c.tc : Thread Cert.Reference39Ideal.nD Cert.Reference39Ideal.τ).loc Cert.Reference39Ideal.main_arg9) = m' ((c.tc : Thread Cert.Reference39Ideal.nD Cert.Reference39Ideal.τ).loc Cert.Reference39Ideal.main_arg9)
          ∧ r.2.mem ((c.tc : Thread Cert.Reference39Ideal.nD Cert.Reference39Ideal.τ).loc Cert.Reference39Ideal.main_arg10) = m' ((c.tc : Thread Cert.Reference39Ideal.nD Cert.Reference39Ideal.τ).loc Cert.Reference39Ideal.main_arg10)
          ∧ r.2.mem ((c.tc : Thread Cert.Reference39Ideal.nD Cert.Reference39Ideal.τ).loc Cert.Reference39Ideal.main_arg11) = m' ((c.tc : Thread Cert.Reference39Ideal.nD Cert.Reference39Ideal.τ).loc Cert.Reference39Ideal.main_arg11)
          ∧ r.2.mem ((c.tc : Thread Cert.Reference39Ideal.nD Cert.Reference39Ideal.τ).loc Cert.Reference39Ideal.main_arg12) = m' ((c.tc : Thread Cert.Reference39Ideal.nD Cert.Reference39Ideal.τ).loc Cert.Reference39Ideal.main_arg12))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)
      ∧ m' ((c.tc : Thread Cert.Reference40Ideal.nD Cert.Reference40Ideal.τ).loc Cert.Reference40Ideal.main_arg6) = m ((c.tc : Thread Cert.Kernel40Ideal.nD Cert.Kernel40Ideal.τ).loc Cert.Kernel40Ideal.main_arg6)
      ∧ m' ((c.tc : Thread Cert.Reference40Ideal.nD Cert.Reference40Ideal.τ).loc Cert.Reference40Ideal.main_arg7) = m ((c.tc : Thread Cert.Kernel40Ideal.nD Cert.Kernel40Ideal.τ).loc Cert.Kernel40Ideal.main_arg7)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
          ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
          ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v6) = v2 c
          ∧ r.2.mem ((c.tc : Thread Cert.Reference40Ideal.nD Cert.Reference40Ideal.τ).loc Cert.Reference40Ideal.main_v12) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5)
          ∧ r.2.mem ((c.tc : Thread Cert.Reference40Ideal.nD Cert.Reference40Ideal.τ).loc Cert.Reference40Ideal.main_arg6) = m' ((c.tc : Thread Cert.Reference40Ideal.nD Cert.Reference40Ideal.τ).loc Cert.Reference40Ideal.main_arg6)
          ∧ r.2.mem ((c.tc : Thread Cert.Reference40Ideal.nD Cert.Reference40Ideal.τ).loc Cert.Reference40Ideal.main_arg7) = m' ((c.tc : Thread Cert.Reference40Ideal.nD Cert.Reference40Ideal.τ).loc Cert.Reference40Ideal.main_arg7))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)
      ∧ m' ((c.tc : Thread Cert.Reference41Ideal.nD Cert.Reference41Ideal.τ).loc Cert.Reference41Ideal.main_arg7) = m ((c.tc : Thread Cert.Kernel41Ideal.nD Cert.Kernel41Ideal.τ).loc Cert.Kernel41Ideal.main_arg7)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
          ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v1) = v0 c
          ∧ r.2.mem ((c.tc : Thread Cert.Reference41Ideal.nD Cert.Reference41Ideal.τ).loc Cert.Reference41Ideal.main_v25) = v1 c
          ∧ r.2.mem ((c.tc : Thread Cert.Reference41Ideal.nD Cert.Reference41Ideal.τ).loc Cert.Reference41Ideal.main_v6) = v2 c
          ∧ r.2.mem ((c.tc : Thread Cert.Reference41Ideal.nD Cert.Reference41Ideal.τ).loc Cert.Reference41Ideal.main_v12) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6)
          ∧ r.2.mem ((c.tc : Thread Cert.Reference41Ideal.nD Cert.Reference41Ideal.τ).loc Cert.Reference41Ideal.main_arg7) = m' ((c.tc : Thread Cert.Reference41Ideal.nD Cert.Reference41Ideal.τ).loc Cert.Reference41Ideal.main_arg7))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)
      ∧ m' ((c.tc : Thread Cert.Reference42Ideal.nD Cert.Reference42Ideal.τ).loc Cert.Reference42Ideal.main_arg4) = m ((c.tc : Thread Cert.Kernel42Ideal.nD Cert.Kernel42Ideal.τ).loc Cert.Kernel42Ideal.main_arg4)
      ∧ m' ((c.tc : Thread Cert.Reference42Ideal.nD Cert.Reference42Ideal.τ).loc Cert.Reference42Ideal.main_arg5) = m ((c.tc : Thread Cert.Kernel42Ideal.nD Cert.Kernel42Ideal.τ).loc Cert.Kernel42Ideal.main_arg5)
      ∧ m' ((c.tc : Thread Cert.Reference42Ideal.nD Cert.Reference42Ideal.τ).loc Cert.Reference42Ideal.main_arg6) = m ((c.tc : Thread Cert.Kernel42Ideal.nD Cert.Kernel42Ideal.τ).loc Cert.Kernel42Ideal.main_arg6)
      ∧ m' ((c.tc : Thread Cert.Reference42Ideal.nD Cert.Reference42Ideal.τ).loc Cert.Reference42Ideal.main_arg7) = m ((c.tc : Thread Cert.Kernel42Ideal.nD Cert.Kernel42Ideal.τ).loc Cert.Kernel42Ideal.main_arg7)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)) (v3 : (c : Dev Cert.Kernel42Ideal.nD) → Buf (Elt Ideal) ((c.tc : Thread Cert.Kernel42Ideal.nD Cert.Kernel42Ideal.τ).loc Cert.Kernel42Ideal.main_v0_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_v0_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
          ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4)
          ∧ r.2.mem ((c.tc : Thread Cert.Kernel42Ideal.nD Cert.Kernel42Ideal.τ).loc Cert.Kernel42Ideal.main_arg5) = m ((c.tc : Thread Cert.Kernel42Ideal.nD Cert.Kernel42Ideal.τ).loc Cert.Kernel42Ideal.main_arg5)
          ∧ r.2.mem ((c.tc : Thread Cert.Kernel42Ideal.nD Cert.Kernel42Ideal.τ).loc Cert.Kernel42Ideal.main_arg6) = m ((c.tc : Thread Cert.Kernel42Ideal.nD Cert.Kernel42Ideal.τ).loc Cert.Kernel42Ideal.main_arg6)
          ∧ r.2.mem ((c.tc : Thread Cert.Kernel42Ideal.nD Cert.Kernel42Ideal.τ).loc Cert.Kernel42Ideal.main_arg7) = m ((c.tc : Thread Cert.Kernel42Ideal.nD Cert.Kernel42Ideal.τ).loc Cert.Kernel42Ideal.main_arg7))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v34) = v0 c
          ∧ r.2.mem ((c.tc : Thread Cert.Reference42Ideal.nD Cert.Reference42Ideal.τ).loc Cert.Reference42Ideal.main_v37) = v1 c
          ∧ r.2.mem ((c.tc : Thread Cert.Reference42Ideal.nD Cert.Reference42Ideal.τ).loc Cert.Reference42Ideal.main_v40) = v2 c
          ∧ r.2.mem ((c.tc : Thread Cert.Reference42Ideal.nD Cert.Reference42Ideal.τ).loc Cert.Reference42Ideal.main_v43) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3)
          ∧ r.2.mem ((c.tc : Thread Cert.Reference42Ideal.nD Cert.Reference42Ideal.τ).loc Cert.Reference42Ideal.main_arg4) = m' ((c.tc : Thread Cert.Reference42Ideal.nD Cert.Reference42Ideal.τ).loc Cert.Reference42Ideal.main_arg4)
          ∧ r.2.mem ((c.tc : Thread Cert.Reference42Ideal.nD Cert.Reference42Ideal.τ).loc Cert.Reference42Ideal.main_arg5) = m' ((c.tc : Thread Cert.Reference42Ideal.nD Cert.Reference42Ideal.τ).loc Cert.Reference42Ideal.main_arg5)
          ∧ r.2.mem ((c.tc : Thread Cert.Reference42Ideal.nD Cert.Reference42Ideal.τ).loc Cert.Reference42Ideal.main_arg6) = m' ((c.tc : Thread Cert.Reference42Ideal.nD Cert.Reference42Ideal.τ).loc Cert.Reference42Ideal.main_arg6)
          ∧ r.2.mem ((c.tc : Thread Cert.Reference42Ideal.nD Cert.Reference42Ideal.τ).loc Cert.Reference42Ideal.main_arg7) = m' ((c.tc : Thread Cert.Reference42Ideal.nD Cert.Reference42Ideal.τ).loc Cert.Reference42Ideal.main_arg7))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)
      ∧ m' ((c.tc : Thread Cert.Reference43Ideal.nD Cert.Reference43Ideal.τ).loc Cert.Reference43Ideal.main_arg4) = m ((c.tc : Thread Cert.Kernel43Ideal.nD Cert.Kernel43Ideal.τ).loc Cert.Kernel43Ideal.main_arg4)
      ∧ m' ((c.tc : Thread Cert.Reference43Ideal.nD Cert.Reference43Ideal.τ).loc Cert.Reference43Ideal.main_arg5) = m ((c.tc : Thread Cert.Kernel43Ideal.nD Cert.Kernel43Ideal.τ).loc Cert.Kernel43Ideal.main_arg5)
      ∧ m' ((c.tc : Thread Cert.Reference43Ideal.nD Cert.Reference43Ideal.τ).loc Cert.Reference43Ideal.main_arg6) = m ((c.tc : Thread Cert.Kernel43Ideal.nD Cert.Kernel43Ideal.τ).loc Cert.Kernel43Ideal.main_arg6)
      ∧ m' ((c.tc : Thread Cert.Reference43Ideal.nD Cert.Reference43Ideal.τ).loc Cert.Reference43Ideal.main_arg7) = m ((c.tc : Thread Cert.Kernel43Ideal.nD Cert.Kernel43Ideal.τ).loc Cert.Kernel43Ideal.main_arg7)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)) (v3 : (c : Dev Cert.Kernel43Ideal.nD) → Buf (Elt Ideal) ((c.tc : Thread Cert.Kernel43Ideal.nD Cert.Kernel43Ideal.τ).loc Cert.Kernel43Ideal.main_v0_3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_v0_3) = v3 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
          ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
          ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5)
          ∧ r.2.mem ((c.tc : Thread Cert.Kernel43Ideal.nD Cert.Kernel43Ideal.τ).loc Cert.Kernel43Ideal.main_arg6) = m ((c.tc : Thread Cert.Kernel43Ideal.nD Cert.Kernel43Ideal.τ).loc Cert.Kernel43Ideal.main_arg6)
          ∧ r.2.mem ((c.tc : Thread Cert.Kernel43Ideal.nD Cert.Kernel43Ideal.τ).loc Cert.Kernel43Ideal.main_arg7) = m ((c.tc : Thread Cert.Kernel43Ideal.nD Cert.Kernel43Ideal.τ).loc Cert.Kernel43Ideal.main_arg7))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v34) = v0 c
          ∧ r.2.mem ((c.tc : Thread Cert.Reference43Ideal.nD Cert.Reference43Ideal.τ).loc Cert.Reference43Ideal.main_v37) = v1 c
          ∧ r.2.mem ((c.tc : Thread Cert.Reference43Ideal.nD Cert.Reference43Ideal.τ).loc Cert.Reference43Ideal.main_v40) = v2 c
          ∧ r.2.mem ((c.tc : Thread Cert.Reference43Ideal.nD Cert.Reference43Ideal.τ).loc Cert.Reference43Ideal.main_v43) = v3 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3)
          ∧ r.2.mem ((c.tc : Thread Cert.Reference43Ideal.nD Cert.Reference43Ideal.τ).loc Cert.Reference43Ideal.main_arg4) = m' ((c.tc : Thread Cert.Reference43Ideal.nD Cert.Reference43Ideal.τ).loc Cert.Reference43Ideal.main_arg4)
          ∧ r.2.mem ((c.tc : Thread Cert.Reference43Ideal.nD Cert.Reference43Ideal.τ).loc Cert.Reference43Ideal.main_arg5) = m' ((c.tc : Thread Cert.Reference43Ideal.nD Cert.Reference43Ideal.τ).loc Cert.Reference43Ideal.main_arg5)
          ∧ r.2.mem ((c.tc : Thread Cert.Reference43Ideal.nD Cert.Reference43Ideal.τ).loc Cert.Reference43Ideal.main_arg6) = m' ((c.tc : Thread Cert.Reference43Ideal.nD Cert.Reference43Ideal.τ).loc Cert.Reference43Ideal.main_arg6)
          ∧ r.2.mem ((c.tc : Thread Cert.Reference43Ideal.nD Cert.Reference43Ideal.τ).loc Cert.Reference43Ideal.main_arg7) = m' ((c.tc : Thread Cert.Reference43Ideal.nD Cert.Reference43Ideal.τ).loc Cert.Reference43Ideal.main_arg7))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)
      ∧ m' ((c.tc : Thread Cert.Reference44Ideal.nD Cert.Reference44Ideal.τ).loc Cert.Reference44Ideal.main_arg4) = m ((c.tc : Thread Cert.Kernel44Ideal.nD Cert.Kernel44Ideal.τ).loc Cert.Kernel44Ideal.main_arg4)
      ∧ m' ((c.tc : Thread Cert.Reference44Ideal.nD Cert.Reference44Ideal.τ).loc Cert.Reference44Ideal.main_arg5) = m ((c.tc : Thread Cert.Kernel44Ideal.nD Cert.Kernel44Ideal.τ).loc Cert.Kernel44Ideal.main_arg5)
      ∧ m' ((c.tc : Thread Cert.Reference44Ideal.nD Cert.Reference44Ideal.τ).loc Cert.Reference44Ideal.main_arg6) = m ((c.tc : Thread Cert.Kernel44Ideal.nD Cert.Kernel44Ideal.τ).loc Cert.Kernel44Ideal.main_arg6)
      ∧ m' ((c.tc : Thread Cert.Reference44Ideal.nD Cert.Reference44Ideal.τ).loc Cert.Reference44Ideal.main_arg7) = m ((c.tc : Thread Cert.Kernel44Ideal.nD Cert.Kernel44Ideal.τ).loc Cert.Kernel44Ideal.main_arg7)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)) (v3 : (c : Dev Cert.Kernel44Ideal.nD) → Buf (Elt Ideal) ((c.tc : Thread Cert.Kernel44Ideal.nD Cert.Kernel44Ideal.τ).loc Cert.Kernel44Ideal.main_v0_3)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_v0_3) = v3 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
          ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4)
          ∧ r.2.mem ((c.tc : Thread Cert.Kernel44Ideal.nD Cert.Kernel44Ideal.τ).loc Cert.Kernel44Ideal.main_arg5) = m ((c.tc : Thread Cert.Kernel44Ideal.nD Cert.Kernel44Ideal.τ).loc Cert.Kernel44Ideal.main_arg5)
          ∧ r.2.mem ((c.tc : Thread Cert.Kernel44Ideal.nD Cert.Kernel44Ideal.τ).loc Cert.Kernel44Ideal.main_arg6) = m ((c.tc : Thread Cert.Kernel44Ideal.nD Cert.Kernel44Ideal.τ).loc Cert.Kernel44Ideal.main_arg6)
          ∧ r.2.mem ((c.tc : Thread Cert.Kernel44Ideal.nD Cert.Kernel44Ideal.τ).loc Cert.Kernel44Ideal.main_arg7) = m ((c.tc : Thread Cert.Kernel44Ideal.nD Cert.Kernel44Ideal.τ).loc Cert.Kernel44Ideal.main_arg7))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v34) = v0 c
          ∧ r.2.mem ((c.tc : Thread Cert.Reference44Ideal.nD Cert.Reference44Ideal.τ).loc Cert.Reference44Ideal.main_v37) = v1 c
          ∧ r.2.mem ((c.tc : Thread Cert.Reference44Ideal.nD Cert.Reference44Ideal.τ).loc Cert.Reference44Ideal.main_v40) = v2 c
          ∧ r.2.mem ((c.tc : Thread Cert.Reference44Ideal.nD Cert.Reference44Ideal.τ).loc Cert.Reference44Ideal.main_v43) = v3 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3)
          ∧ r.2.mem ((c.tc : Thread Cert.Reference44Ideal.nD Cert.Reference44Ideal.τ).loc Cert.Reference44Ideal.main_arg4) = m' ((c.tc : Thread Cert.Reference44Ideal.nD Cert.Reference44Ideal.τ).loc Cert.Reference44Ideal.main_arg4)
          ∧ r.2.mem ((c.tc : Thread Cert.Reference44Ideal.nD Cert.Reference44Ideal.τ).loc Cert.Reference44Ideal.main_arg5) = m' ((c.tc : Thread Cert.Reference44Ideal.nD Cert.Reference44Ideal.τ).loc Cert.Reference44Ideal.main_arg5)
          ∧ r.2.mem ((c.tc : Thread Cert.Reference44Ideal.nD Cert.Reference44Ideal.τ).loc Cert.Reference44Ideal.main_arg6) = m' ((c.tc : Thread Cert.Reference44Ideal.nD Cert.Reference44Ideal.τ).loc Cert.Reference44Ideal.main_arg6)
          ∧ r.2.mem ((c.tc : Thread Cert.Reference44Ideal.nD Cert.Reference44Ideal.τ).loc Cert.Reference44Ideal.main_arg7) = m' ((c.tc : Thread Cert.Reference44Ideal.nD Cert.Reference44Ideal.τ).loc Cert.Reference44Ideal.main_arg7))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)
      ∧ m' ((c.tc : Thread Cert.Reference45Ideal.nD Cert.Reference45Ideal.τ).loc Cert.Reference45Ideal.main_arg4) = m ((c.tc : Thread Cert.Kernel45Ideal.nD Cert.Kernel45Ideal.τ).loc Cert.Kernel45Ideal.main_arg4)
      ∧ m' ((c.tc : Thread Cert.Reference45Ideal.nD Cert.Reference45Ideal.τ).loc Cert.Reference45Ideal.main_arg5) = m ((c.tc : Thread Cert.Kernel45Ideal.nD Cert.Kernel45Ideal.τ).loc Cert.Kernel45Ideal.main_arg5)
      ∧ m' ((c.tc : Thread Cert.Reference45Ideal.nD Cert.Reference45Ideal.τ).loc Cert.Reference45Ideal.main_arg6) = m ((c.tc : Thread Cert.Kernel45Ideal.nD Cert.Kernel45Ideal.τ).loc Cert.Kernel45Ideal.main_arg6)
      ∧ m' ((c.tc : Thread Cert.Reference45Ideal.nD Cert.Reference45Ideal.τ).loc Cert.Reference45Ideal.main_arg7) = m ((c.tc : Thread Cert.Kernel45Ideal.nD Cert.Kernel45Ideal.τ).loc Cert.Kernel45Ideal.main_arg7)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)) (v2 : (c : Dev Cert.Kernel45Ideal.nD) → Buf (Elt Ideal) ((c.tc : Thread Cert.Kernel45Ideal.nD Cert.Kernel45Ideal.τ).loc Cert.Kernel45Ideal.main_v0_2)) (v3 : (c : Dev Cert.Kernel45Ideal.nD) → Buf (Elt Ideal) ((c.tc : Thread Cert.Kernel45Ideal.nD Cert.Kernel45Ideal.τ).loc Cert.Kernel45Ideal.main_v0_3)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_v0_2) = v2 c
          ∧ r.2.mem ((c.tc : Thread Cert.Kernel45Ideal.nD Cert.Kernel45Ideal.τ).loc Cert.Kernel45Ideal.main_v0_3) = v3 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
          ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4)
          ∧ r.2.mem ((c.tc : Thread Cert.Kernel45Ideal.nD Cert.Kernel45Ideal.τ).loc Cert.Kernel45Ideal.main_arg5) = m ((c.tc : Thread Cert.Kernel45Ideal.nD Cert.Kernel45Ideal.τ).loc Cert.Kernel45Ideal.main_arg5)
          ∧ r.2.mem ((c.tc : Thread Cert.Kernel45Ideal.nD Cert.Kernel45Ideal.τ).loc Cert.Kernel45Ideal.main_arg6) = m ((c.tc : Thread Cert.Kernel45Ideal.nD Cert.Kernel45Ideal.τ).loc Cert.Kernel45Ideal.main_arg6)
          ∧ r.2.mem ((c.tc : Thread Cert.Kernel45Ideal.nD Cert.Kernel45Ideal.τ).loc Cert.Kernel45Ideal.main_arg7) = m ((c.tc : Thread Cert.Kernel45Ideal.nD Cert.Kernel45Ideal.τ).loc Cert.Kernel45Ideal.main_arg7))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v34) = v0 c
          ∧ r.2.mem ((c.tc : Thread Cert.Reference45Ideal.nD Cert.Reference45Ideal.τ).loc Cert.Reference45Ideal.main_v37) = v1 c
          ∧ r.2.mem ((c.tc : Thread Cert.Reference45Ideal.nD Cert.Reference45Ideal.τ).loc Cert.Reference45Ideal.main_v40) = v2 c
          ∧ r.2.mem ((c.tc : Thread Cert.Reference45Ideal.nD Cert.Reference45Ideal.τ).loc Cert.Reference45Ideal.main_v43) = v3 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3)
          ∧ r.2.mem ((c.tc : Thread Cert.Reference45Ideal.nD Cert.Reference45Ideal.τ).loc Cert.Reference45Ideal.main_arg4) = m' ((c.tc : Thread Cert.Reference45Ideal.nD Cert.Reference45Ideal.τ).loc Cert.Reference45Ideal.main_arg4)
          ∧ r.2.mem ((c.tc : Thread Cert.Reference45Ideal.nD Cert.Reference45Ideal.τ).loc Cert.Reference45Ideal.main_arg5) = m' ((c.tc : Thread Cert.Reference45Ideal.nD Cert.Reference45Ideal.τ).loc Cert.Reference45Ideal.main_arg5)
          ∧ r.2.mem ((c.tc : Thread Cert.Reference45Ideal.nD Cert.Reference45Ideal.τ).loc Cert.Reference45Ideal.main_arg6) = m' ((c.tc : Thread Cert.Reference45Ideal.nD Cert.Reference45Ideal.τ).loc Cert.Reference45Ideal.main_arg6)
          ∧ r.2.mem ((c.tc : Thread Cert.Reference45Ideal.nD Cert.Reference45Ideal.τ).loc Cert.Reference45Ideal.main_arg7) = m' ((c.tc : Thread Cert.Reference45Ideal.nD Cert.Reference45Ideal.τ).loc Cert.Reference45Ideal.main_arg7))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)
      ∧ m' ((c.tc : Thread Cert.Reference46Ideal.nD Cert.Reference46Ideal.τ).loc Cert.Reference46Ideal.main_arg4) = m ((c.tc : Thread Cert.Kernel46Ideal.nD Cert.Kernel46Ideal.τ).loc Cert.Kernel46Ideal.main_arg4)
      ∧ m' ((c.tc : Thread Cert.Reference46Ideal.nD Cert.Reference46Ideal.τ).loc Cert.Reference46Ideal.main_arg5) = m ((c.tc : Thread Cert.Kernel46Ideal.nD Cert.Kernel46Ideal.τ).loc Cert.Kernel46Ideal.main_arg5)
      ∧ m' ((c.tc : Thread Cert.Reference46Ideal.nD Cert.Reference46Ideal.τ).loc Cert.Reference46Ideal.main_arg6) = m ((c.tc : Thread Cert.Kernel46Ideal.nD Cert.Kernel46Ideal.τ).loc Cert.Kernel46Ideal.main_arg6)
      ∧ m' ((c.tc : Thread Cert.Reference46Ideal.nD Cert.Reference46Ideal.τ).loc Cert.Reference46Ideal.main_arg7) = m ((c.tc : Thread Cert.Kernel46Ideal.nD Cert.Kernel46Ideal.τ).loc Cert.Kernel46Ideal.main_arg7)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)) (v2 : (c : Dev Cert.Kernel46Ideal.nD) → Buf (Elt Ideal) ((c.tc : Thread Cert.Kernel46Ideal.nD Cert.Kernel46Ideal.τ).loc Cert.Kernel46Ideal.main_v0_2)) (v3 : (c : Dev Cert.Kernel46Ideal.nD) → Buf (Elt Ideal) ((c.tc : Thread Cert.Kernel46Ideal.nD Cert.Kernel46Ideal.τ).loc Cert.Kernel46Ideal.main_v0_3)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_v0_2) = v2 c
          ∧ r.2.mem ((c.tc : Thread Cert.Kernel46Ideal.nD Cert.Kernel46Ideal.τ).loc Cert.Kernel46Ideal.main_v0_3) = v3 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3)
          ∧ r.2.mem ((c.tc : Thread Cert.Kernel46Ideal.nD Cert.Kernel46Ideal.τ).loc Cert.Kernel46Ideal.main_arg4) = m ((c.tc : Thread Cert.Kernel46Ideal.nD Cert.Kernel46Ideal.τ).loc Cert.Kernel46Ideal.main_arg4)
          ∧ r.2.mem ((c.tc : Thread Cert.Kernel46Ideal.nD Cert.Kernel46Ideal.τ).loc Cert.Kernel46Ideal.main_arg5) = m ((c.tc : Thread Cert.Kernel46Ideal.nD Cert.Kernel46Ideal.τ).loc Cert.Kernel46Ideal.main_arg5)
          ∧ r.2.mem ((c.tc : Thread Cert.Kernel46Ideal.nD Cert.Kernel46Ideal.τ).loc Cert.Kernel46Ideal.main_arg6) = m ((c.tc : Thread Cert.Kernel46Ideal.nD Cert.Kernel46Ideal.τ).loc Cert.Kernel46Ideal.main_arg6)
          ∧ r.2.mem ((c.tc : Thread Cert.Kernel46Ideal.nD Cert.Kernel46Ideal.τ).loc Cert.Kernel46Ideal.main_arg7) = m ((c.tc : Thread Cert.Kernel46Ideal.nD Cert.Kernel46Ideal.τ).loc Cert.Kernel46Ideal.main_arg7))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v34) = v0 c
          ∧ r.2.mem ((c.tc : Thread Cert.Reference46Ideal.nD Cert.Reference46Ideal.τ).loc Cert.Reference46Ideal.main_v37) = v1 c
          ∧ r.2.mem ((c.tc : Thread Cert.Reference46Ideal.nD Cert.Reference46Ideal.τ).loc Cert.Reference46Ideal.main_v40) = v2 c
          ∧ r.2.mem ((c.tc : Thread Cert.Reference46Ideal.nD Cert.Reference46Ideal.τ).loc Cert.Reference46Ideal.main_v43) = v3 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3)
          ∧ r.2.mem ((c.tc : Thread Cert.Reference46Ideal.nD Cert.Reference46Ideal.τ).loc Cert.Reference46Ideal.main_arg4) = m' ((c.tc : Thread Cert.Reference46Ideal.nD Cert.Reference46Ideal.τ).loc Cert.Reference46Ideal.main_arg4)
          ∧ r.2.mem ((c.tc : Thread Cert.Reference46Ideal.nD Cert.Reference46Ideal.τ).loc Cert.Reference46Ideal.main_arg5) = m' ((c.tc : Thread Cert.Reference46Ideal.nD Cert.Reference46Ideal.τ).loc Cert.Reference46Ideal.main_arg5)
          ∧ r.2.mem ((c.tc : Thread Cert.Reference46Ideal.nD Cert.Reference46Ideal.τ).loc Cert.Reference46Ideal.main_arg6) = m' ((c.tc : Thread Cert.Reference46Ideal.nD Cert.Reference46Ideal.τ).loc Cert.Reference46Ideal.main_arg6)
          ∧ r.2.mem ((c.tc : Thread Cert.Reference46Ideal.nD Cert.Reference46Ideal.τ).loc Cert.Reference46Ideal.main_arg7) = m' ((c.tc : Thread Cert.Reference46Ideal.nD Cert.Reference46Ideal.τ).loc Cert.Reference46Ideal.main_arg7))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)
      ∧ m' ((c.tc : Thread Cert.Reference47Ideal.nD Cert.Reference47Ideal.τ).loc Cert.Reference47Ideal.main_arg4) = m ((c.tc : Thread Cert.Kernel47Ideal.nD Cert.Kernel47Ideal.τ).loc Cert.Kernel47Ideal.main_arg4)
      ∧ m' ((c.tc : Thread Cert.Reference47Ideal.nD Cert.Reference47Ideal.τ).loc Cert.Reference47Ideal.main_arg5) = m ((c.tc : Thread Cert.Kernel47Ideal.nD Cert.Kernel47Ideal.τ).loc Cert.Kernel47Ideal.main_arg5)
      ∧ m' ((c.tc : Thread Cert.Reference47Ideal.nD Cert.Reference47Ideal.τ).loc Cert.Reference47Ideal.main_arg6) = m ((c.tc : Thread Cert.Kernel47Ideal.nD Cert.Kernel47Ideal.τ).loc Cert.Kernel47Ideal.main_arg6)
      ∧ m' ((c.tc : Thread Cert.Reference47Ideal.nD Cert.Reference47Ideal.τ).loc Cert.Reference47Ideal.main_arg7) = m ((c.tc : Thread Cert.Kernel47Ideal.nD Cert.Kernel47Ideal.τ).loc Cert.Kernel47Ideal.main_arg7)) →
    ∃ (v0 : (c : Dev Cert.Kernel47Ideal.nD) → Buf (Elt Ideal) ((c.tc : Thread Cert.Kernel47Ideal.nD Cert.Kernel47Ideal.τ).loc Cert.Kernel47Ideal.main_v0_0)) (v1 : (c : Dev Cert.Kernel47Ideal.nD) → Buf (Elt Ideal) ((c.tc : Thread Cert.Kernel47Ideal.nD Cert.Kernel47Ideal.τ).loc Cert.Kernel47Ideal.main_v0_1)) (v2 : (c : Dev Cert.Kernel47Ideal.nD) → Buf (Elt Ideal) ((c.tc : Thread Cert.Kernel47Ideal.nD Cert.Kernel47Ideal.τ).loc Cert.Kernel47Ideal.main_v0_2)) (v3 : (c : Dev Cert.Kernel47Ideal.nD) → Buf (Elt Ideal) ((c.tc : Thread Cert.Kernel47Ideal.nD Cert.Kernel47Ideal.τ).loc Cert.Kernel47Ideal.main_v0_3)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0_0) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_v0_2) = v2 c
          ∧ r.2.mem ((c.tc : Thread Cert.Kernel47Ideal.nD Cert.Kernel47Ideal.τ).loc Cert.Kernel47Ideal.main_v0_3) = v3 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
          ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4)
          ∧ r.2.mem ((c.tc : Thread Cert.Kernel47Ideal.nD Cert.Kernel47Ideal.τ).loc Cert.Kernel47Ideal.main_arg5) = m ((c.tc : Thread Cert.Kernel47Ideal.nD Cert.Kernel47Ideal.τ).loc Cert.Kernel47Ideal.main_arg5)
          ∧ r.2.mem ((c.tc : Thread Cert.Kernel47Ideal.nD Cert.Kernel47Ideal.τ).loc Cert.Kernel47Ideal.main_arg6) = m ((c.tc : Thread Cert.Kernel47Ideal.nD Cert.Kernel47Ideal.τ).loc Cert.Kernel47Ideal.main_arg6)
          ∧ r.2.mem ((c.tc : Thread Cert.Kernel47Ideal.nD Cert.Kernel47Ideal.τ).loc Cert.Kernel47Ideal.main_arg7) = m ((c.tc : Thread Cert.Kernel47Ideal.nD Cert.Kernel47Ideal.τ).loc Cert.Kernel47Ideal.main_arg7))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v34) = v0 c
          ∧ r.2.mem ((c.tc : Thread Cert.Reference47Ideal.nD Cert.Reference47Ideal.τ).loc Cert.Reference47Ideal.main_v37) = v1 c
          ∧ r.2.mem ((c.tc : Thread Cert.Reference47Ideal.nD Cert.Reference47Ideal.τ).loc Cert.Reference47Ideal.main_v40) = v2 c
          ∧ r.2.mem ((c.tc : Thread Cert.Reference47Ideal.nD Cert.Reference47Ideal.τ).loc Cert.Reference47Ideal.main_v43) = v3 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3)
          ∧ r.2.mem ((c.tc : Thread Cert.Reference47Ideal.nD Cert.Reference47Ideal.τ).loc Cert.Reference47Ideal.main_arg4) = m' ((c.tc : Thread Cert.Reference47Ideal.nD Cert.Reference47Ideal.τ).loc Cert.Reference47Ideal.main_arg4)
          ∧ r.2.mem ((c.tc : Thread Cert.Reference47Ideal.nD Cert.Reference47Ideal.τ).loc Cert.Reference47Ideal.main_arg5) = m' ((c.tc : Thread Cert.Reference47Ideal.nD Cert.Reference47Ideal.τ).loc Cert.Reference47Ideal.main_arg5)
          ∧ r.2.mem ((c.tc : Thread Cert.Reference47Ideal.nD Cert.Reference47Ideal.τ).loc Cert.Reference47Ideal.main_arg6) = m' ((c.tc : Thread Cert.Reference47Ideal.nD Cert.Reference47Ideal.τ).loc Cert.Reference47Ideal.main_arg6)
          ∧ r.2.mem ((c.tc : Thread Cert.Reference47Ideal.nD Cert.Reference47Ideal.τ).loc Cert.Reference47Ideal.main_arg7) = m' ((c.tc : Thread Cert.Reference47Ideal.nD Cert.Reference47Ideal.τ).loc Cert.Reference47Ideal.main_arg7))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)
      ∧ m' ((c.tc : Thread Cert.Reference48Ideal.nD Cert.Reference48Ideal.τ).loc Cert.Reference48Ideal.main_arg4) = m ((c.tc : Thread Cert.Kernel48Ideal.nD Cert.Kernel48Ideal.τ).loc Cert.Kernel48Ideal.main_arg4)
      ∧ m' ((c.tc : Thread Cert.Reference48Ideal.nD Cert.Reference48Ideal.τ).loc Cert.Reference48Ideal.main_arg5) = m ((c.tc : Thread Cert.Kernel48Ideal.nD Cert.Kernel48Ideal.τ).loc Cert.Kernel48Ideal.main_arg5)
      ∧ m' ((c.tc : Thread Cert.Reference48Ideal.nD Cert.Reference48Ideal.τ).loc Cert.Reference48Ideal.main_arg6) = m ((c.tc : Thread Cert.Kernel48Ideal.nD Cert.Kernel48Ideal.τ).loc Cert.Kernel48Ideal.main_arg6)
      ∧ m' ((c.tc : Thread Cert.Reference48Ideal.nD Cert.Reference48Ideal.τ).loc Cert.Reference48Ideal.main_arg7) = m ((c.tc : Thread Cert.Kernel48Ideal.nD Cert.Kernel48Ideal.τ).loc Cert.Kernel48Ideal.main_arg7)) →
    ∃ (v0 : (c : Dev Cert.Kernel48Ideal.nD) → Buf (Elt Ideal) ((c.tc : Thread Cert.Kernel48Ideal.nD Cert.Kernel48Ideal.τ).loc Cert.Kernel48Ideal.main_v0_0)) (v1 : (c : Dev Cert.Kernel48Ideal.nD) → Buf (Elt Ideal) ((c.tc : Thread Cert.Kernel48Ideal.nD Cert.Kernel48Ideal.τ).loc Cert.Kernel48Ideal.main_v0_1)) (v2 : (c : Dev Cert.Kernel48Ideal.nD) → Buf (Elt Ideal) ((c.tc : Thread Cert.Kernel48Ideal.nD Cert.Kernel48Ideal.τ).loc Cert.Kernel48Ideal.main_v0_2)) (v3 : (c : Dev Cert.Kernel48Ideal.nD) → Buf (Elt Ideal) ((c.tc : Thread Cert.Kernel48Ideal.nD Cert.Kernel48Ideal.τ).loc Cert.Kernel48Ideal.main_v0_3)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0_0) = v0 c
          ∧ r.2.mem ((c.tc : Thread Cert.Kernel48Ideal.nD Cert.Kernel48Ideal.τ).loc Cert.Kernel48Ideal.main_v0_1) = v1 c
          ∧ r.2.mem ((c.tc : Thread Cert.Kernel48Ideal.nD Cert.Kernel48Ideal.τ).loc Cert.Kernel48Ideal.main_v0_2) = v2 c
          ∧ r.2.mem ((c.tc : Thread Cert.Kernel48Ideal.nD Cert.Kernel48Ideal.τ).loc Cert.Kernel48Ideal.main_v0_3) = v3 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3)
          ∧ r.2.mem ((c.tc : Thread Cert.Kernel48Ideal.nD Cert.Kernel48Ideal.τ).loc Cert.Kernel48Ideal.main_arg4) = m ((c.tc : Thread Cert.Kernel48Ideal.nD Cert.Kernel48Ideal.τ).loc Cert.Kernel48Ideal.main_arg4)
          ∧ r.2.mem ((c.tc : Thread Cert.Kernel48Ideal.nD Cert.Kernel48Ideal.τ).loc Cert.Kernel48Ideal.main_arg5) = m ((c.tc : Thread Cert.Kernel48Ideal.nD Cert.Kernel48Ideal.τ).loc Cert.Kernel48Ideal.main_arg5)
          ∧ r.2.mem ((c.tc : Thread Cert.Kernel48Ideal.nD Cert.Kernel48Ideal.τ).loc Cert.Kernel48Ideal.main_arg6) = m ((c.tc : Thread Cert.Kernel48Ideal.nD Cert.Kernel48Ideal.τ).loc Cert.Kernel48Ideal.main_arg6)
          ∧ r.2.mem ((c.tc : Thread Cert.Kernel48Ideal.nD Cert.Kernel48Ideal.τ).loc Cert.Kernel48Ideal.main_arg7) = m ((c.tc : Thread Cert.Kernel48Ideal.nD Cert.Kernel48Ideal.τ).loc Cert.Kernel48Ideal.main_arg7))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v34) = v0 c
          ∧ r.2.mem ((c.tc : Thread Cert.Reference48Ideal.nD Cert.Reference48Ideal.τ).loc Cert.Reference48Ideal.main_v37) = v1 c
          ∧ r.2.mem ((c.tc : Thread Cert.Reference48Ideal.nD Cert.Reference48Ideal.τ).loc Cert.Reference48Ideal.main_v40) = v2 c
          ∧ r.2.mem ((c.tc : Thread Cert.Reference48Ideal.nD Cert.Reference48Ideal.τ).loc Cert.Reference48Ideal.main_v43) = v3 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3)
          ∧ r.2.mem ((c.tc : Thread Cert.Reference48Ideal.nD Cert.Reference48Ideal.τ).loc Cert.Reference48Ideal.main_arg4) = m' ((c.tc : Thread Cert.Reference48Ideal.nD Cert.Reference48Ideal.τ).loc Cert.Reference48Ideal.main_arg4)
          ∧ r.2.mem ((c.tc : Thread Cert.Reference48Ideal.nD Cert.Reference48Ideal.τ).loc Cert.Reference48Ideal.main_arg5) = m' ((c.tc : Thread Cert.Reference48Ideal.nD Cert.Reference48Ideal.τ).loc Cert.Reference48Ideal.main_arg5)
          ∧ r.2.mem ((c.tc : Thread Cert.Reference48Ideal.nD Cert.Reference48Ideal.τ).loc Cert.Reference48Ideal.main_arg6) = m' ((c.tc : Thread Cert.Reference48Ideal.nD Cert.Reference48Ideal.τ).loc Cert.Reference48Ideal.main_arg6)
          ∧ r.2.mem ((c.tc : Thread Cert.Reference48Ideal.nD Cert.Reference48Ideal.τ).loc Cert.Reference48Ideal.main_arg7) = m' ((c.tc : Thread Cert.Reference48Ideal.nD Cert.Reference48Ideal.τ).loc Cert.Reference48Ideal.main_arg7))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)
      ∧ m' ((c.tc : Thread Cert.Reference49Ideal.nD Cert.Reference49Ideal.τ).loc Cert.Reference49Ideal.main_arg4) = m ((c.tc : Thread Cert.Kernel49Ideal.nD Cert.Kernel49Ideal.τ).loc Cert.Kernel49Ideal.main_arg4)
      ∧ m' ((c.tc : Thread Cert.Reference49Ideal.nD Cert.Reference49Ideal.τ).loc Cert.Reference49Ideal.main_arg5) = m ((c.tc : Thread Cert.Kernel49Ideal.nD Cert.Kernel49Ideal.τ).loc Cert.Kernel49Ideal.main_arg5)
      ∧ m' ((c.tc : Thread Cert.Reference49Ideal.nD Cert.Reference49Ideal.τ).loc Cert.Reference49Ideal.main_arg6) = m ((c.tc : Thread Cert.Kernel49Ideal.nD Cert.Kernel49Ideal.τ).loc Cert.Kernel49Ideal.main_arg6)
      ∧ m' ((c.tc : Thread Cert.Reference49Ideal.nD Cert.Reference49Ideal.τ).loc Cert.Reference49Ideal.main_arg7) = m ((c.tc : Thread Cert.Kernel49Ideal.nD Cert.Kernel49Ideal.τ).loc Cert.Kernel49Ideal.main_arg7)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)) (v2 : (c : Dev Cert.Kernel49Ideal.nD) → Buf (Elt Ideal) ((c.tc : Thread Cert.Kernel49Ideal.nD Cert.Kernel49Ideal.τ).loc Cert.Kernel49Ideal.main_v0_2)) (v3 : (c : Dev Cert.Kernel49Ideal.nD) → Buf (Elt Ideal) ((c.tc : Thread Cert.Kernel49Ideal.nD Cert.Kernel49Ideal.τ).loc Cert.Kernel49Ideal.main_v0_3)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_v0_2) = v2 c
          ∧ r.2.mem ((c.tc : Thread Cert.Kernel49Ideal.nD Cert.Kernel49Ideal.τ).loc Cert.Kernel49Ideal.main_v0_3) = v3 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
          ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
          ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5)
          ∧ r.2.mem ((c.tc : Thread Cert.Kernel49Ideal.nD Cert.Kernel49Ideal.τ).loc Cert.Kernel49Ideal.main_arg6) = m ((c.tc : Thread Cert.Kernel49Ideal.nD Cert.Kernel49Ideal.τ).loc Cert.Kernel49Ideal.main_arg6)
          ∧ r.2.mem ((c.tc : Thread Cert.Kernel49Ideal.nD Cert.Kernel49Ideal.τ).loc Cert.Kernel49Ideal.main_arg7) = m ((c.tc : Thread Cert.Kernel49Ideal.nD Cert.Kernel49Ideal.τ).loc Cert.Kernel49Ideal.main_arg7))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v34) = v0 c
          ∧ r.2.mem ((c.tc : Thread Cert.Reference49Ideal.nD Cert.Reference49Ideal.τ).loc Cert.Reference49Ideal.main_v37) = v1 c
          ∧ r.2.mem ((c.tc : Thread Cert.Reference49Ideal.nD Cert.Reference49Ideal.τ).loc Cert.Reference49Ideal.main_v40) = v2 c
          ∧ r.2.mem ((c.tc : Thread Cert.Reference49Ideal.nD Cert.Reference49Ideal.τ).loc Cert.Reference49Ideal.main_v43) = v3 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3)
          ∧ r.2.mem ((c.tc : Thread Cert.Reference49Ideal.nD Cert.Reference49Ideal.τ).loc Cert.Reference49Ideal.main_arg4) = m' ((c.tc : Thread Cert.Reference49Ideal.nD Cert.Reference49Ideal.τ).loc Cert.Reference49Ideal.main_arg4)
          ∧ r.2.mem ((c.tc : Thread Cert.Reference49Ideal.nD Cert.Reference49Ideal.τ).loc Cert.Reference49Ideal.main_arg5) = m' ((c.tc : Thread Cert.Reference49Ideal.nD Cert.Reference49Ideal.τ).loc Cert.Reference49Ideal.main_arg5)
          ∧ r.2.mem ((c.tc : Thread Cert.Reference49Ideal.nD Cert.Reference49Ideal.τ).loc Cert.Reference49Ideal.main_arg6) = m' ((c.tc : Thread Cert.Reference49Ideal.nD Cert.Reference49Ideal.τ).loc Cert.Reference49Ideal.main_arg6)
          ∧ r.2.mem ((c.tc : Thread Cert.Reference49Ideal.nD Cert.Reference49Ideal.τ).loc Cert.Reference49Ideal.main_arg7) = m' ((c.tc : Thread Cert.Reference49Ideal.nD Cert.Reference49Ideal.τ).loc Cert.Reference49Ideal.main_arg7))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)
      ∧ m' ((c.tc : Thread Cert.Reference50Ideal.nD Cert.Reference50Ideal.τ).loc Cert.Reference50Ideal.main_arg4) = m ((c.tc : Thread Cert.Kernel50Ideal.nD Cert.Kernel50Ideal.τ).loc Cert.Kernel50Ideal.main_arg4)
      ∧ m' ((c.tc : Thread Cert.Reference50Ideal.nD Cert.Reference50Ideal.τ).loc Cert.Reference50Ideal.main_arg5) = m ((c.tc : Thread Cert.Kernel50Ideal.nD Cert.Kernel50Ideal.τ).loc Cert.Kernel50Ideal.main_arg5)
      ∧ m' ((c.tc : Thread Cert.Reference50Ideal.nD Cert.Reference50Ideal.τ).loc Cert.Reference50Ideal.main_arg6) = m ((c.tc : Thread Cert.Kernel50Ideal.nD Cert.Kernel50Ideal.τ).loc Cert.Kernel50Ideal.main_arg6)
      ∧ m' ((c.tc : Thread Cert.Reference50Ideal.nD Cert.Reference50Ideal.τ).loc Cert.Reference50Ideal.main_arg7) = m ((c.tc : Thread Cert.Kernel50Ideal.nD Cert.Kernel50Ideal.τ).loc Cert.Kernel50Ideal.main_arg7)) →
    ∃ (v0 : (c : Dev Cert.Kernel50Ideal.nD) → Buf (Elt Ideal) ((c.tc : Thread Cert.Kernel50Ideal.nD Cert.Kernel50Ideal.τ).loc Cert.Kernel50Ideal.main_v0_0)) (v1 : (c : Dev Cert.Kernel50Ideal.nD) → Buf (Elt Ideal) ((c.tc : Thread Cert.Kernel50Ideal.nD Cert.Kernel50Ideal.τ).loc Cert.Kernel50Ideal.main_v0_1)) (v2 : (c : Dev Cert.Kernel50Ideal.nD) → Buf (Elt Ideal) ((c.tc : Thread Cert.Kernel50Ideal.nD Cert.Kernel50Ideal.τ).loc Cert.Kernel50Ideal.main_v0_2)) (v3 : (c : Dev Cert.Kernel50Ideal.nD) → Buf (Elt Ideal) ((c.tc : Thread Cert.Kernel50Ideal.nD Cert.Kernel50Ideal.τ).loc Cert.Kernel50Ideal.main_v0_3)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0_0) = v0 c
          ∧ r.2.mem ((c.tc : Thread Cert.Kernel50Ideal.nD Cert.Kernel50Ideal.τ).loc Cert.Kernel50Ideal.main_v0_1) = v1 c
          ∧ r.2.mem ((c.tc : Thread Cert.Kernel50Ideal.nD Cert.Kernel50Ideal.τ).loc Cert.Kernel50Ideal.main_v0_2) = v2 c
          ∧ r.2.mem ((c.tc : Thread Cert.Kernel50Ideal.nD Cert.Kernel50Ideal.τ).loc Cert.Kernel50Ideal.main_v0_3) = v3 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3)
          ∧ r.2.mem ((c.tc : Thread Cert.Kernel50Ideal.nD Cert.Kernel50Ideal.τ).loc Cert.Kernel50Ideal.main_arg4) = m ((c.tc : Thread Cert.Kernel50Ideal.nD Cert.Kernel50Ideal.τ).loc Cert.Kernel50Ideal.main_arg4)
          ∧ r.2.mem ((c.tc : Thread Cert.Kernel50Ideal.nD Cert.Kernel50Ideal.τ).loc Cert.Kernel50Ideal.main_arg5) = m ((c.tc : Thread Cert.Kernel50Ideal.nD Cert.Kernel50Ideal.τ).loc Cert.Kernel50Ideal.main_arg5)
          ∧ r.2.mem ((c.tc : Thread Cert.Kernel50Ideal.nD Cert.Kernel50Ideal.τ).loc Cert.Kernel50Ideal.main_arg6) = m ((c.tc : Thread Cert.Kernel50Ideal.nD Cert.Kernel50Ideal.τ).loc Cert.Kernel50Ideal.main_arg6)
          ∧ r.2.mem ((c.tc : Thread Cert.Kernel50Ideal.nD Cert.Kernel50Ideal.τ).loc Cert.Kernel50Ideal.main_arg7) = m ((c.tc : Thread Cert.Kernel50Ideal.nD Cert.Kernel50Ideal.τ).loc Cert.Kernel50Ideal.main_arg7))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v34) = v0 c
          ∧ r.2.mem ((c.tc : Thread Cert.Reference50Ideal.nD Cert.Reference50Ideal.τ).loc Cert.Reference50Ideal.main_v37) = v1 c
          ∧ r.2.mem ((c.tc : Thread Cert.Reference50Ideal.nD Cert.Reference50Ideal.τ).loc Cert.Reference50Ideal.main_v40) = v2 c
          ∧ r.2.mem ((c.tc : Thread Cert.Reference50Ideal.nD Cert.Reference50Ideal.τ).loc Cert.Reference50Ideal.main_v43) = v3 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3)
          ∧ r.2.mem ((c.tc : Thread Cert.Reference50Ideal.nD Cert.Reference50Ideal.τ).loc Cert.Reference50Ideal.main_arg4) = m' ((c.tc : Thread Cert.Reference50Ideal.nD Cert.Reference50Ideal.τ).loc Cert.Reference50Ideal.main_arg4)
          ∧ r.2.mem ((c.tc : Thread Cert.Reference50Ideal.nD Cert.Reference50Ideal.τ).loc Cert.Reference50Ideal.main_arg5) = m' ((c.tc : Thread Cert.Reference50Ideal.nD Cert.Reference50Ideal.τ).loc Cert.Reference50Ideal.main_arg5)
          ∧ r.2.mem ((c.tc : Thread Cert.Reference50Ideal.nD Cert.Reference50Ideal.τ).loc Cert.Reference50Ideal.main_arg6) = m' ((c.tc : Thread Cert.Reference50Ideal.nD Cert.Reference50Ideal.τ).loc Cert.Reference50Ideal.main_arg6)
          ∧ r.2.mem ((c.tc : Thread Cert.Reference50Ideal.nD Cert.Reference50Ideal.τ).loc Cert.Reference50Ideal.main_arg7) = m' ((c.tc : Thread Cert.Reference50Ideal.nD Cert.Reference50Ideal.τ).loc Cert.Reference50Ideal.main_arg7))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)
      ∧ m' ((c.tc : Thread Cert.Reference51Ideal.nD Cert.Reference51Ideal.τ).loc Cert.Reference51Ideal.main_arg4) = m ((c.tc : Thread Cert.Kernel51Ideal.nD Cert.Kernel51Ideal.τ).loc Cert.Kernel51Ideal.main_arg4)
      ∧ m' ((c.tc : Thread Cert.Reference51Ideal.nD Cert.Reference51Ideal.τ).loc Cert.Reference51Ideal.main_arg5) = m ((c.tc : Thread Cert.Kernel51Ideal.nD Cert.Kernel51Ideal.τ).loc Cert.Kernel51Ideal.main_arg5)
      ∧ m' ((c.tc : Thread Cert.Reference51Ideal.nD Cert.Reference51Ideal.τ).loc Cert.Reference51Ideal.main_arg6) = m ((c.tc : Thread Cert.Kernel51Ideal.nD Cert.Kernel51Ideal.τ).loc Cert.Kernel51Ideal.main_arg6)
      ∧ m' ((c.tc : Thread Cert.Reference51Ideal.nD Cert.Reference51Ideal.τ).loc Cert.Reference51Ideal.main_arg7) = m ((c.tc : Thread Cert.Kernel51Ideal.nD Cert.Kernel51Ideal.τ).loc Cert.Kernel51Ideal.main_arg7)) →
    ∃ (v0 : (c : Dev Cert.Kernel51Ideal.nD) → Buf (Elt Ideal) ((c.tc : Thread Cert.Kernel51Ideal.nD Cert.Kernel51Ideal.τ).loc Cert.Kernel51Ideal.main_v0_0)) (v1 : (c : Dev Cert.Kernel51Ideal.nD) → Buf (Elt Ideal) ((c.tc : Thread Cert.Kernel51Ideal.nD Cert.Kernel51Ideal.τ).loc Cert.Kernel51Ideal.main_v0_1)) (v2 : (c : Dev Cert.Kernel51Ideal.nD) → Buf (Elt Ideal) ((c.tc : Thread Cert.Kernel51Ideal.nD Cert.Kernel51Ideal.τ).loc Cert.Kernel51Ideal.main_v0_2)) (v3 : (c : Dev Cert.Kernel51Ideal.nD) → Buf (Elt Ideal) ((c.tc : Thread Cert.Kernel51Ideal.nD Cert.Kernel51Ideal.τ).loc Cert.Kernel51Ideal.main_v0_3)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0_0) = v0 c
          ∧ r.2.mem ((c.tc : Thread Cert.Kernel51Ideal.nD Cert.Kernel51Ideal.τ).loc Cert.Kernel51Ideal.main_v0_1) = v1 c
          ∧ r.2.mem ((c.tc : Thread Cert.Kernel51Ideal.nD Cert.Kernel51Ideal.τ).loc Cert.Kernel51Ideal.main_v0_2) = v2 c
          ∧ r.2.mem ((c.tc : Thread Cert.Kernel51Ideal.nD Cert.Kernel51Ideal.τ).loc Cert.Kernel51Ideal.main_v0_3) = v3 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3)
          ∧ r.2.mem ((c.tc : Thread Cert.Kernel51Ideal.nD Cert.Kernel51Ideal.τ).loc Cert.Kernel51Ideal.main_arg4) = m ((c.tc : Thread Cert.Kernel51Ideal.nD Cert.Kernel51Ideal.τ).loc Cert.Kernel51Ideal.main_arg4)
          ∧ r.2.mem ((c.tc : Thread Cert.Kernel51Ideal.nD Cert.Kernel51Ideal.τ).loc Cert.Kernel51Ideal.main_arg5) = m ((c.tc : Thread Cert.Kernel51Ideal.nD Cert.Kernel51Ideal.τ).loc Cert.Kernel51Ideal.main_arg5)
          ∧ r.2.mem ((c.tc : Thread Cert.Kernel51Ideal.nD Cert.Kernel51Ideal.τ).loc Cert.Kernel51Ideal.main_arg6) = m ((c.tc : Thread Cert.Kernel51Ideal.nD Cert.Kernel51Ideal.τ).loc Cert.Kernel51Ideal.main_arg6)
          ∧ r.2.mem ((c.tc : Thread Cert.Kernel51Ideal.nD Cert.Kernel51Ideal.τ).loc Cert.Kernel51Ideal.main_arg7) = m ((c.tc : Thread Cert.Kernel51Ideal.nD Cert.Kernel51Ideal.τ).loc Cert.Kernel51Ideal.main_arg7))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v33) = v0 c
          ∧ r.2.mem ((c.tc : Thread Cert.Reference51Ideal.nD Cert.Reference51Ideal.τ).loc Cert.Reference51Ideal.main_v36) = v1 c
          ∧ r.2.mem ((c.tc : Thread Cert.Reference51Ideal.nD Cert.Reference51Ideal.τ).loc Cert.Reference51Ideal.main_v39) = v2 c
          ∧ r.2.mem ((c.tc : Thread Cert.Reference51Ideal.nD Cert.Reference51Ideal.τ).loc Cert.Reference51Ideal.main_v42) = v3 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3)
          ∧ r.2.mem ((c.tc : Thread Cert.Reference51Ideal.nD Cert.Reference51Ideal.τ).loc Cert.Reference51Ideal.main_arg4) = m' ((c.tc : Thread Cert.Reference51Ideal.nD Cert.Reference51Ideal.τ).loc Cert.Reference51Ideal.main_arg4)
          ∧ r.2.mem ((c.tc : Thread Cert.Reference51Ideal.nD Cert.Reference51Ideal.τ).loc Cert.Reference51Ideal.main_arg5) = m' ((c.tc : Thread Cert.Reference51Ideal.nD Cert.Reference51Ideal.τ).loc Cert.Reference51Ideal.main_arg5)
          ∧ r.2.mem ((c.tc : Thread Cert.Reference51Ideal.nD Cert.Reference51Ideal.τ).loc Cert.Reference51Ideal.main_arg6) = m' ((c.tc : Thread Cert.Reference51Ideal.nD Cert.Reference51Ideal.τ).loc Cert.Reference51Ideal.main_arg6)
          ∧ r.2.mem ((c.tc : Thread Cert.Reference51Ideal.nD Cert.Reference51Ideal.τ).loc Cert.Reference51Ideal.main_arg7) = m' ((c.tc : Thread Cert.Reference51Ideal.nD Cert.Reference51Ideal.τ).loc Cert.Reference51Ideal.main_arg7))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)
      ∧ m' ((c.tc : Thread Cert.Reference52Ideal.nD Cert.Reference52Ideal.τ).loc Cert.Reference52Ideal.main_arg4) = m ((c.tc : Thread Cert.Kernel52Ideal.nD Cert.Kernel52Ideal.τ).loc Cert.Kernel52Ideal.main_arg4)
      ∧ m' ((c.tc : Thread Cert.Reference52Ideal.nD Cert.Reference52Ideal.τ).loc Cert.Reference52Ideal.main_arg5) = m ((c.tc : Thread Cert.Kernel52Ideal.nD Cert.Kernel52Ideal.τ).loc Cert.Kernel52Ideal.main_arg5)
      ∧ m' ((c.tc : Thread Cert.Reference52Ideal.nD Cert.Reference52Ideal.τ).loc Cert.Reference52Ideal.main_arg6) = m ((c.tc : Thread Cert.Kernel52Ideal.nD Cert.Kernel52Ideal.τ).loc Cert.Kernel52Ideal.main_arg6)
      ∧ m' ((c.tc : Thread Cert.Reference52Ideal.nD Cert.Reference52Ideal.τ).loc Cert.Reference52Ideal.main_arg7) = m ((c.tc : Thread Cert.Kernel52Ideal.nD Cert.Kernel52Ideal.τ).loc Cert.Kernel52Ideal.main_arg7)) →
    ∃ (v0 : (c : Dev Cert.Kernel52Ideal.nD) → Buf (Elt Ideal) ((c.tc : Thread Cert.Kernel52Ideal.nD Cert.Kernel52Ideal.τ).loc Cert.Kernel52Ideal.main_v0_0)) (v1 : (c : Dev Cert.Kernel52Ideal.nD) → Buf (Elt Ideal) ((c.tc : Thread Cert.Kernel52Ideal.nD Cert.Kernel52Ideal.τ).loc Cert.Kernel52Ideal.main_v0_1)) (v2 : (c : Dev Cert.Kernel52Ideal.nD) → Buf (Elt Ideal) ((c.tc : Thread Cert.Kernel52Ideal.nD Cert.Kernel52Ideal.τ).loc Cert.Kernel52Ideal.main_v0_2)) (v3 : (c : Dev Cert.Kernel52Ideal.nD) → Buf (Elt Ideal) ((c.tc : Thread Cert.Kernel52Ideal.nD Cert.Kernel52Ideal.τ).loc Cert.Kernel52Ideal.main_v0_3)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0_0) = v0 c
          ∧ r.2.mem ((c.tc : Thread Cert.Kernel52Ideal.nD Cert.Kernel52Ideal.τ).loc Cert.Kernel52Ideal.main_v0_1) = v1 c
          ∧ r.2.mem ((c.tc : Thread Cert.Kernel52Ideal.nD Cert.Kernel52Ideal.τ).loc Cert.Kernel52Ideal.main_v0_2) = v2 c
          ∧ r.2.mem ((c.tc : Thread Cert.Kernel52Ideal.nD Cert.Kernel52Ideal.τ).loc Cert.Kernel52Ideal.main_v0_3) = v3 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
          ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4)
          ∧ r.2.mem ((c.tc : Thread Cert.Kernel52Ideal.nD Cert.Kernel52Ideal.τ).loc Cert.Kernel52Ideal.main_arg5) = m ((c.tc : Thread Cert.Kernel52Ideal.nD Cert.Kernel52Ideal.τ).loc Cert.Kernel52Ideal.main_arg5)
          ∧ r.2.mem ((c.tc : Thread Cert.Kernel52Ideal.nD Cert.Kernel52Ideal.τ).loc Cert.Kernel52Ideal.main_arg6) = m ((c.tc : Thread Cert.Kernel52Ideal.nD Cert.Kernel52Ideal.τ).loc Cert.Kernel52Ideal.main_arg6)
          ∧ r.2.mem ((c.tc : Thread Cert.Kernel52Ideal.nD Cert.Kernel52Ideal.τ).loc Cert.Kernel52Ideal.main_arg7) = m ((c.tc : Thread Cert.Kernel52Ideal.nD Cert.Kernel52Ideal.τ).loc Cert.Kernel52Ideal.main_arg7))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v34) = v0 c
          ∧ r.2.mem ((c.tc : Thread Cert.Reference52Ideal.nD Cert.Reference52Ideal.τ).loc Cert.Reference52Ideal.main_v37) = v1 c
          ∧ r.2.mem ((c.tc : Thread Cert.Reference52Ideal.nD Cert.Reference52Ideal.τ).loc Cert.Reference52Ideal.main_v40) = v2 c
          ∧ r.2.mem ((c.tc : Thread Cert.Reference52Ideal.nD Cert.Reference52Ideal.τ).loc Cert.Reference52Ideal.main_v43) = v3 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3)
          ∧ r.2.mem ((c.tc : Thread Cert.Reference52Ideal.nD Cert.Reference52Ideal.τ).loc Cert.Reference52Ideal.main_arg4) = m' ((c.tc : Thread Cert.Reference52Ideal.nD Cert.Reference52Ideal.τ).loc Cert.Reference52Ideal.main_arg4)
          ∧ r.2.mem ((c.tc : Thread Cert.Reference52Ideal.nD Cert.Reference52Ideal.τ).loc Cert.Reference52Ideal.main_arg5) = m' ((c.tc : Thread Cert.Reference52Ideal.nD Cert.Reference52Ideal.τ).loc Cert.Reference52Ideal.main_arg5)
          ∧ r.2.mem ((c.tc : Thread Cert.Reference52Ideal.nD Cert.Reference52Ideal.τ).loc Cert.Reference52Ideal.main_arg6) = m' ((c.tc : Thread Cert.Reference52Ideal.nD Cert.Reference52Ideal.τ).loc Cert.Reference52Ideal.main_arg6)
          ∧ r.2.mem ((c.tc : Thread Cert.Reference52Ideal.nD Cert.Reference52Ideal.τ).loc Cert.Reference52Ideal.main_arg7) = m' ((c.tc : Thread Cert.Reference52Ideal.nD Cert.Reference52Ideal.τ).loc Cert.Reference52Ideal.main_arg7))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)
      ∧ m' ((c.tc : Thread Cert.Reference53Ideal.nD Cert.Reference53Ideal.τ).loc Cert.Reference53Ideal.main_arg2) = m ((c.tc : Thread Cert.Kernel53Ideal.nD Cert.Kernel53Ideal.τ).loc Cert.Kernel53Ideal.main_arg2)
      ∧ m' ((c.tc : Thread Cert.Reference53Ideal.nD Cert.Reference53Ideal.τ).loc Cert.Reference53Ideal.main_arg3) = m ((c.tc : Thread Cert.Kernel53Ideal.nD Cert.Kernel53Ideal.τ).loc Cert.Kernel53Ideal.main_arg3)
      ∧ m' ((c.tc : Thread Cert.Reference53Ideal.nD Cert.Reference53Ideal.τ).loc Cert.Reference53Ideal.main_arg4) = m ((c.tc : Thread Cert.Kernel53Ideal.nD Cert.Kernel53Ideal.τ).loc Cert.Kernel53Ideal.main_arg4)
      ∧ m' ((c.tc : Thread Cert.Reference53Ideal.nD Cert.Reference53Ideal.τ).loc Cert.Reference53Ideal.main_arg5) = m ((c.tc : Thread Cert.Kernel53Ideal.nD Cert.Kernel53Ideal.τ).loc Cert.Kernel53Ideal.main_arg5)
      ∧ m' ((c.tc : Thread Cert.Reference53Ideal.nD Cert.Reference53Ideal.τ).loc Cert.Reference53Ideal.main_arg6) = m ((c.tc : Thread Cert.Kernel53Ideal.nD Cert.Kernel53Ideal.τ).loc Cert.Kernel53Ideal.main_arg6)
      ∧ m' ((c.tc : Thread Cert.Reference53Ideal.nD Cert.Reference53Ideal.τ).loc Cert.Reference53Ideal.main_arg7) = m ((c.tc : Thread Cert.Kernel53Ideal.nD Cert.Kernel53Ideal.τ).loc Cert.Kernel53Ideal.main_arg7)
      ∧ m' ((c.tc : Thread Cert.Reference53Ideal.nD Cert.Reference53Ideal.τ).loc Cert.Reference53Ideal.main_arg8) = m ((c.tc : Thread Cert.Kernel53Ideal.nD Cert.Kernel53Ideal.τ).loc Cert.Kernel53Ideal.main_arg8)
      ∧ m' ((c.tc : Thread Cert.Reference53Ideal.nD Cert.Reference53Ideal.τ).loc Cert.Reference53Ideal.main_arg9) = m ((c.tc : Thread Cert.Kernel53Ideal.nD Cert.Kernel53Ideal.τ).loc Cert.Kernel53Ideal.main_arg9)
      ∧ m' ((c.tc : Thread Cert.Reference53Ideal.nD Cert.Reference53Ideal.τ).loc Cert.Reference53Ideal.main_arg10) = m ((c.tc : Thread Cert.Kernel53Ideal.nD Cert.Kernel53Ideal.τ).loc Cert.Kernel53Ideal.main_arg10)
      ∧ m' ((c.tc : Thread Cert.Reference53Ideal.nD Cert.Reference53Ideal.τ).loc Cert.Reference53Ideal.main_arg11) = m ((c.tc : Thread Cert.Kernel53Ideal.nD Cert.Kernel53Ideal.τ).loc Cert.Kernel53Ideal.main_arg11)) →
    ∃ (v0 : (c : Dev Cert.Kernel53Ideal.nD) → Buf (Elt Ideal) ((c.tc : Thread Cert.Kernel53Ideal.nD Cert.Kernel53Ideal.τ).loc Cert.Kernel53Ideal.main_v4_4)) (v1 : (c : Dev Cert.Kernel53Ideal.nD) → Buf (Elt Ideal) ((c.tc : Thread Cert.Kernel53Ideal.nD Cert.Kernel53Ideal.τ).loc Cert.Kernel53Ideal.main_v4_6)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v4_4) = v0 c
          ∧ r.2.mem ((c.tc : Thread Cert.Kernel53Ideal.nD Cert.Kernel53Ideal.τ).loc Cert.Kernel53Ideal.main_v4_6) = v1 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
          ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
          ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3)
          ∧ r.2.mem ((c.tc : Thread Cert.Kernel53Ideal.nD Cert.Kernel53Ideal.τ).loc Cert.Kernel53Ideal.main_arg4) = m ((c.tc : Thread Cert.Kernel53Ideal.nD Cert.Kernel53Ideal.τ).loc Cert.Kernel53Ideal.main_arg4)
          ∧ r.2.mem ((c.tc : Thread Cert.Kernel53Ideal.nD Cert.Kernel53Ideal.τ).loc Cert.Kernel53Ideal.main_arg5) = m ((c.tc : Thread Cert.Kernel53Ideal.nD Cert.Kernel53Ideal.τ).loc Cert.Kernel53Ideal.main_arg5)
          ∧ r.2.mem ((c.tc : Thread Cert.Kernel53Ideal.nD Cert.Kernel53Ideal.τ).loc Cert.Kernel53Ideal.main_arg6) = m ((c.tc : Thread Cert.Kernel53Ideal.nD Cert.Kernel53Ideal.τ).loc Cert.Kernel53Ideal.main_arg6)
          ∧ r.2.mem ((c.tc : Thread Cert.Kernel53Ideal.nD Cert.Kernel53Ideal.τ).loc Cert.Kernel53Ideal.main_arg7) = m ((c.tc : Thread Cert.Kernel53Ideal.nD Cert.Kernel53Ideal.τ).loc Cert.Kernel53Ideal.main_arg7)
          ∧ r.2.mem ((c.tc : Thread Cert.Kernel53Ideal.nD Cert.Kernel53Ideal.τ).loc Cert.Kernel53Ideal.main_arg8) = m ((c.tc : Thread Cert.Kernel53Ideal.nD Cert.Kernel53Ideal.τ).loc Cert.Kernel53Ideal.main_arg8)
          ∧ r.2.mem ((c.tc : Thread Cert.Kernel53Ideal.nD Cert.Kernel53Ideal.τ).loc Cert.Kernel53Ideal.main_arg9) = m ((c.tc : Thread Cert.Kernel53Ideal.nD Cert.Kernel53Ideal.τ).loc Cert.Kernel53Ideal.main_arg9)
          ∧ r.2.mem ((c.tc : Thread Cert.Kernel53Ideal.nD Cert.Kernel53Ideal.τ).loc Cert.Kernel53Ideal.main_arg10) = m ((c.tc : Thread Cert.Kernel53Ideal.nD Cert.Kernel53Ideal.τ).loc Cert.Kernel53Ideal.main_arg10)
          ∧ r.2.mem ((c.tc : Thread Cert.Kernel53Ideal.nD Cert.Kernel53Ideal.τ).loc Cert.Kernel53Ideal.main_arg11) = m ((c.tc : Thread Cert.Kernel53Ideal.nD Cert.Kernel53Ideal.τ).loc Cert.Kernel53Ideal.main_arg11))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v96) = v0 c
          ∧ r.2.mem ((c.tc : Thread Cert.Reference53Ideal.nD Cert.Reference53Ideal.τ).loc Cert.Reference53Ideal.main_v115) = v1 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1)
          ∧ r.2.mem ((c.tc : Thread Cert.Reference53Ideal.nD Cert.Reference53Ideal.τ).loc Cert.Reference53Ideal.main_arg2) = m' ((c.tc : Thread Cert.Reference53Ideal.nD Cert.Reference53Ideal.τ).loc Cert.Reference53Ideal.main_arg2)
          ∧ r.2.mem ((c.tc : Thread Cert.Reference53Ideal.nD Cert.Reference53Ideal.τ).loc Cert.Reference53Ideal.main_arg3) = m' ((c.tc : Thread Cert.Reference53Ideal.nD Cert.Reference53Ideal.τ).loc Cert.Reference53Ideal.main_arg3)
          ∧ r.2.mem ((c.tc : Thread Cert.Reference53Ideal.nD Cert.Reference53Ideal.τ).loc Cert.Reference53Ideal.main_arg4) = m' ((c.tc : Thread Cert.Reference53Ideal.nD Cert.Reference53Ideal.τ).loc Cert.Reference53Ideal.main_arg4)
          ∧ r.2.mem ((c.tc : Thread Cert.Reference53Ideal.nD Cert.Reference53Ideal.τ).loc Cert.Reference53Ideal.main_arg5) = m' ((c.tc : Thread Cert.Reference53Ideal.nD Cert.Reference53Ideal.τ).loc Cert.Reference53Ideal.main_arg5)
          ∧ r.2.mem ((c.tc : Thread Cert.Reference53Ideal.nD Cert.Reference53Ideal.τ).loc Cert.Reference53Ideal.main_arg6) = m' ((c.tc : Thread Cert.Reference53Ideal.nD Cert.Reference53Ideal.τ).loc Cert.Reference53Ideal.main_arg6)
          ∧ r.2.mem ((c.tc : Thread Cert.Reference53Ideal.nD Cert.Reference53Ideal.τ).loc Cert.Reference53Ideal.main_arg7) = m' ((c.tc : Thread Cert.Reference53Ideal.nD Cert.Reference53Ideal.τ).loc Cert.Reference53Ideal.main_arg7)
          ∧ r.2.mem ((c.tc : Thread Cert.Reference53Ideal.nD Cert.Reference53Ideal.τ).loc Cert.Reference53Ideal.main_arg8) = m' ((c.tc : Thread Cert.Reference53Ideal.nD Cert.Reference53Ideal.τ).loc Cert.Reference53Ideal.main_arg8)
          ∧ r.2.mem ((c.tc : Thread Cert.Reference53Ideal.nD Cert.Reference53Ideal.τ).loc Cert.Reference53Ideal.main_arg9) = m' ((c.tc : Thread Cert.Reference53Ideal.nD Cert.Reference53Ideal.τ).loc Cert.Reference53Ideal.main_arg9)
          ∧ r.2.mem ((c.tc : Thread Cert.Reference53Ideal.nD Cert.Reference53Ideal.τ).loc Cert.Reference53Ideal.main_arg10) = m' ((c.tc : Thread Cert.Reference53Ideal.nD Cert.Reference53Ideal.τ).loc Cert.Reference53Ideal.main_arg10)
          ∧ r.2.mem ((c.tc : Thread Cert.Reference53Ideal.nD Cert.Reference53Ideal.τ).loc Cert.Reference53Ideal.main_arg11) = m' ((c.tc : Thread Cert.Reference53Ideal.nD Cert.Reference53Ideal.τ).loc Cert.Reference53Ideal.main_arg11))

def preserves_Kernel54_Kernel54Ideal : Prop :=
  True

def algebraic_Kernel54Ideal_Reference54Ideal [hKernel54Ideal : Cert.Kernel54Ideal.Facts] [hReference54Ideal : Cert.Reference54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg)
    (m' : (ℓ : Loc Cert.Reference54Ideal.nD Cert.Reference54Ideal.τ Cert.Reference54Ideal.sig) → Buf (Elt Ideal) ℓ) (g' : Dev Cert.Reference54Ideal.nD → PrngReg), Pre_Kernel54Ideal m →
    (∀ c : Dev Cert.Kernel54Ideal.nD,
      m' ((c.tc : Thread Cert.Reference54Ideal.nD Cert.Reference54Ideal.τ).loc Cert.Reference54Ideal.main_arg0) = m ((c.tc : Thread Cert.Kernel54Ideal.nD Cert.Kernel54Ideal.τ).loc Cert.Kernel54Ideal.main_arg0)
      ∧ m' ((c.tc : Thread Cert.Reference54Ideal.nD Cert.Reference54Ideal.τ).loc Cert.Reference54Ideal.main_arg1) = m ((c.tc : Thread Cert.Kernel54Ideal.nD Cert.Kernel54Ideal.τ).loc Cert.Kernel54Ideal.main_arg1)
      ∧ m' ((c.tc : Thread Cert.Reference54Ideal.nD Cert.Reference54Ideal.τ).loc Cert.Reference54Ideal.main_arg2) = m ((c.tc : Thread Cert.Kernel54Ideal.nD Cert.Kernel54Ideal.τ).loc Cert.Kernel54Ideal.main_arg2)
      ∧ m' ((c.tc : Thread Cert.Reference54Ideal.nD Cert.Reference54Ideal.τ).loc Cert.Reference54Ideal.main_arg3) = m ((c.tc : Thread Cert.Kernel54Ideal.nD Cert.Kernel54Ideal.τ).loc Cert.Kernel54Ideal.main_arg3)
      ∧ m' ((c.tc : Thread Cert.Reference54Ideal.nD Cert.Reference54Ideal.τ).loc Cert.Reference54Ideal.main_arg4) = m ((c.tc : Thread Cert.Kernel54Ideal.nD Cert.Kernel54Ideal.τ).loc Cert.Kernel54Ideal.main_arg4)
      ∧ m' ((c.tc : Thread Cert.Reference54Ideal.nD Cert.Reference54Ideal.τ).loc Cert.Reference54Ideal.main_arg5) = m ((c.tc : Thread Cert.Kernel54Ideal.nD Cert.Kernel54Ideal.τ).loc Cert.Kernel54Ideal.main_arg5)
      ∧ m' ((c.tc : Thread Cert.Reference54Ideal.nD Cert.Reference54Ideal.τ).loc Cert.Reference54Ideal.main_arg6) = m ((c.tc : Thread Cert.Kernel54Ideal.nD Cert.Kernel54Ideal.τ).loc Cert.Kernel54Ideal.main_arg6)
      ∧ m' ((c.tc : Thread Cert.Reference54Ideal.nD Cert.Reference54Ideal.τ).loc Cert.Reference54Ideal.main_arg7) = m ((c.tc : Thread Cert.Kernel54Ideal.nD Cert.Kernel54Ideal.τ).loc Cert.Kernel54Ideal.main_arg7)
      ∧ m' ((c.tc : Thread Cert.Reference54Ideal.nD Cert.Reference54Ideal.τ).loc Cert.Reference54Ideal.main_arg8) = m ((c.tc : Thread Cert.Kernel54Ideal.nD Cert.Kernel54Ideal.τ).loc Cert.Kernel54Ideal.main_arg8)) →
    ∃ (v0 : (c : Dev Cert.Kernel54Ideal.nD) → Buf (Elt Ideal) ((c.tc : Thread Cert.Kernel54Ideal.nD Cert.Kernel54Ideal.τ).loc Cert.Kernel54Ideal.main_v4_0)) (v1 : (c : Dev Cert.Kernel54Ideal.nD) → Buf (Elt Ideal) ((c.tc : Thread Cert.Kernel54Ideal.nD Cert.Kernel54Ideal.τ).loc Cert.Kernel54Ideal.main_v4_1)) (v2 : (c : Dev Cert.Kernel54Ideal.nD) → Buf (Elt Ideal) ((c.tc : Thread Cert.Kernel54Ideal.nD Cert.Kernel54Ideal.τ).loc Cert.Kernel54Ideal.main_v4_2)),
      θ_run (Cert.Kernel54Ideal.defs (F := Ideal)) (onTc (τ := Cert.Kernel54Ideal.τ) (Cert.Kernel54Ideal.main (F := Ideal))) ⟨m, fun _ => 0, g⟩ (fun r => ∀ c : Dev Cert.Kernel54Ideal.nD,
          r.2.mem ((c.tc : Thread Cert.Kernel54Ideal.nD Cert.Kernel54Ideal.τ).loc Cert.Kernel54Ideal.main_v4_0) = v0 c
          ∧ r.2.mem ((c.tc : Thread Cert.Kernel54Ideal.nD Cert.Kernel54Ideal.τ).loc Cert.Kernel54Ideal.main_v4_1) = v1 c
          ∧ r.2.mem ((c.tc : Thread Cert.Kernel54Ideal.nD Cert.Kernel54Ideal.τ).loc Cert.Kernel54Ideal.main_v4_2) = v2 c
          ∧ r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
          ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
          ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
          ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3)
          ∧ r.2.mem ((c.tc : Thread Cert.Kernel54Ideal.nD Cert.Kernel54Ideal.τ).loc Cert.Kernel54Ideal.main_arg4) = m ((c.tc : Thread Cert.Kernel54Ideal.nD Cert.Kernel54Ideal.τ).loc Cert.Kernel54Ideal.main_arg4)
          ∧ r.2.mem ((c.tc : Thread Cert.Kernel54Ideal.nD Cert.Kernel54Ideal.τ).loc Cert.Kernel54Ideal.main_arg5) = m ((c.tc : Thread Cert.Kernel54Ideal.nD Cert.Kernel54Ideal.τ).loc Cert.Kernel54Ideal.main_arg5)
          ∧ r.2.mem ((c.tc : Thread Cert.Kernel54Ideal.nD Cert.Kernel54Ideal.τ).loc Cert.Kernel54Ideal.main_arg6) = m ((c.tc : Thread Cert.Kernel54Ideal.nD Cert.Kernel54Ideal.τ).loc Cert.Kernel54Ideal.main_arg6)
          ∧ r.2.mem ((c.tc : Thread Cert.Kernel54Ideal.nD Cert.Kernel54Ideal.τ).loc Cert.Kernel54Ideal.main_arg7) = m ((c.tc : Thread Cert.Kernel54Ideal.nD Cert.Kernel54Ideal.τ).loc Cert.Kernel54Ideal.main_arg7)
          ∧ r.2.mem ((c.tc : Thread Cert.Kernel54Ideal.nD Cert.Kernel54Ideal.τ).loc Cert.Kernel54Ideal.main_arg8) = m ((c.tc : Thread Cert.Kernel54Ideal.nD Cert.Kernel54Ideal.τ).loc Cert.Kernel54Ideal.main_arg8))
      ∧ θ_run (Cert.Reference54Ideal.defs (F := Ideal)) (onTc (τ := Cert.Reference54Ideal.τ) (Cert.Reference54Ideal.main (F := Ideal))) ⟨m', fun _ => 0, g'⟩ (fun r => ∀ c : Dev Cert.Reference54Ideal.nD,
          r.2.mem ((c.tc : Thread Cert.Reference54Ideal.nD Cert.Reference54Ideal.τ).loc Cert.Reference54Ideal.main_v96) = v0 c
          ∧ r.2.mem ((c.tc : Thread Cert.Reference54Ideal.nD Cert.Reference54Ideal.τ).loc Cert.Reference54Ideal.main_v97) = v1 c
          ∧ r.2.mem ((c.tc : Thread Cert.Reference54Ideal.nD Cert.Reference54Ideal.τ).loc Cert.Reference54Ideal.main_v98) = v2 c
          ∧ r.2.mem ((c.tc : Thread Cert.Reference54Ideal.nD Cert.Reference54Ideal.τ).loc Cert.Reference54Ideal.main_arg0) = m' ((c.tc : Thread Cert.Reference54Ideal.nD Cert.Reference54Ideal.τ).loc Cert.Reference54Ideal.main_arg0)
          ∧ r.2.mem ((c.tc : Thread Cert.Reference54Ideal.nD Cert.Reference54Ideal.τ).loc Cert.Reference54Ideal.main_arg1) = m' ((c.tc : Thread Cert.Reference54Ideal.nD Cert.Reference54Ideal.τ).loc Cert.Reference54Ideal.main_arg1)
          ∧ r.2.mem ((c.tc : Thread Cert.Reference54Ideal.nD Cert.Reference54Ideal.τ).loc Cert.Reference54Ideal.main_arg2) = m' ((c.tc : Thread Cert.Reference54Ideal.nD Cert.Reference54Ideal.τ).loc Cert.Reference54Ideal.main_arg2)
          ∧ r.2.mem ((c.tc : Thread Cert.Reference54Ideal.nD Cert.Reference54Ideal.τ).loc Cert.Reference54Ideal.main_arg3) = m' ((c.tc : Thread Cert.Reference54Ideal.nD Cert.Reference54Ideal.τ).loc Cert.Reference54Ideal.main_arg3)
          ∧ r.2.mem ((c.tc : Thread Cert.Reference54Ideal.nD Cert.Reference54Ideal.τ).loc Cert.Reference54Ideal.main_arg4) = m' ((c.tc : Thread Cert.Reference54Ideal.nD Cert.Reference54Ideal.τ).loc Cert.Reference54Ideal.main_arg4)
          ∧ r.2.mem ((c.tc : Thread Cert.Reference54Ideal.nD Cert.Reference54Ideal.τ).loc Cert.Reference54Ideal.main_arg5) = m' ((c.tc : Thread Cert.Reference54Ideal.nD Cert.Reference54Ideal.τ).loc Cert.Reference54Ideal.main_arg5)
          ∧ r.2.mem ((c.tc : Thread Cert.Reference54Ideal.nD Cert.Reference54Ideal.τ).loc Cert.Reference54Ideal.main_arg6) = m' ((c.tc : Thread Cert.Reference54Ideal.nD Cert.Reference54Ideal.τ).loc Cert.Reference54Ideal.main_arg6)
          ∧ r.2.mem ((c.tc : Thread Cert.Reference54Ideal.nD Cert.Reference54Ideal.τ).loc Cert.Reference54Ideal.main_arg7) = m' ((c.tc : Thread Cert.Reference54Ideal.nD Cert.Reference54Ideal.τ).loc Cert.Reference54Ideal.main_arg7)
          ∧ r.2.mem ((c.tc : Thread Cert.Reference54Ideal.nD Cert.Reference54Ideal.τ).loc Cert.Reference54Ideal.main_arg8) = m' ((c.tc : Thread Cert.Reference54Ideal.nD Cert.Reference54Ideal.τ).loc Cert.Reference54Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hKernel54 : Cert.Kernel54.Facts) (hKernel54Ideal : Cert.Kernel54Ideal.Facts) (hReference54Ideal : Cert.Reference54Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ quiescent_Kernel54 (hKernel54 := hKernel54)
    ∧ quiescent_Kernel54Ideal (hKernel54Ideal := hKernel54Ideal)
    ∧ quiescent_Reference54Ideal (hReference54Ideal := hReference54Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
    ∧ preserves_Kernel54_Kernel54Ideal
    ∧ algebraic_Kernel54Ideal_Reference54Ideal (hKernel54Ideal := hKernel54Ideal) (hReference54Ideal := hReference54Ideal)
-- ==== Kernel.lean ====
abbrev S4096x2048 : Shape := ⟨2, ![4096, 2048]⟩
abbrev S8x128x128 : Shape := ⟨3, ![8, 128, 128]⟩
abbrev S8x128 : Shape := ⟨2, ![8, 128]⟩
abbrev S8x128x1 : Shape := ⟨3, ![8, 128, 1]⟩
abbrev S2048x256 : Shape := ⟨2, ![2048, 256]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S128x256 : Shape := ⟨2, ![128, 256]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S4096x2048, .bf16⟩
  | .hbm, ⟨7, _⟩ => ⟨S4096x2048, .bf16⟩
  | .hbm, ⟨8, _⟩ => ⟨S8x128x128, .f32⟩
  | .hbm, ⟨9, _⟩ => ⟨S8x128x1, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x128x128, .f32⟩
  | .local _ .vmem, ⟨15, _⟩ => ⟨S1x128x128, .f32⟩
  | .local _ .vmem, ⟨16, _⟩ => ⟨S1x128x1, .f32⟩
  | .local _ .vmem, ⟨17, _⟩ => ⟨S1x128x1, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x2048 : Shape := ⟨2, ![4096, 2048]⟩
abbrev S8x128x128 : Shape := ⟨3, ![8, 128, 128]⟩
abbrev S8x128 : Shape := ⟨2, ![8, 128]⟩
abbrev S2x16x128x8x256 : Shape := ⟨5, ![2, 16, 128, 8, 256]⟩
abbrev S_ : Shape := ⟨0, ![]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S2x2048x2048 : Shape := ⟨3, ![2, 2048, 2048]⟩
abbrev S8x128x1 : Shape := ⟨3, ![8, 128, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S8x128x128, .f32⟩
  | .hbm, ⟨4, _⟩ => ⟨S8x128, .f32⟩
  | .hbm, ⟨5, _⟩ => ⟨S4096x2048, .f32⟩
  | .hbm, ⟨6, _⟩ => ⟨S4096x2048, .f32⟩
  | .hbm, ⟨7, _⟩ => ⟨S2x16x128x8x256, .f32⟩
  | .hbm, ⟨8, _⟩ => ⟨S_, .f32⟩
  | .hbm, ⟨9, _⟩ => ⟨S128x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S1x128x128, .f32⟩
  | .hbm, ⟨20, _⟩ => ⟨S8x128x128, .f32⟩
  | .hbm, ⟨21, _⟩ => ⟨S8x128x128, .f32⟩
  | .hbm, ⟨22, _⟩ => ⟨S8x2x16x256x128, .f32⟩
  | .hbm, ⟨23, _⟩ => ⟨S2x16x128x8x256, .f32⟩
  | .hbm, ⟨24, _⟩ => ⟨S128x8, .f32⟩
  | .hbm, ⟨25, _⟩ => ⟨S1x1x128x8x1, .f32⟩
  | .hbm, ⟨26, _⟩ => ⟨S2x16x128x8x256, .f32⟩
  | .hbm, ⟨27, _⟩ => ⟨S2x16x128x8x256, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S4096x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S2x16x128x8x256, .f32⟩
  | .hbm, ⟨36, _⟩ => ⟨S4096x2048, .f32⟩
  | .hbm, ⟨37, _⟩ => ⟨S_, .f32⟩
  | .hbm, ⟨38, _⟩ => ⟨S128x8, .f32⟩
  | .hbm, ⟨39, _⟩ => ⟨S1x1x128x8x1, .f32⟩
  | .hbm, ⟨40, _⟩ => ⟨S_, .f32⟩
  | .hbm, ⟨41, _⟩ => ⟨S128x8, .f32⟩
  | .hbm, ⟨42, _⟩ => ⟨S8x128, .f32⟩
  | .hbm, ⟨43, _⟩ => ⟨S8x2x16x256x128, .f32⟩
  | .hbm, ⟨44, _⟩ => ⟨S8x128x128, .f32⟩
  | .hbm, ⟨45, _⟩ => ⟨S8x2x16x256x128, .f32⟩
  | .hbm, ⟨46, _⟩ => ⟨S2x16x128x8x256, .f32⟩
  | .hbm, ⟨47, _⟩ => ⟨S8x128x128, .f32⟩
  | .hbm, ⟨48, _⟩ => ⟨S8x128x128, .f32⟩
  | .hbm, ⟨49, _⟩ => ⟨S4096x2048, .f32⟩
  | .hbm, ⟨50, _⟩ => ⟨S4096x2048, .bf16⟩
  | .hbm, ⟨51, _⟩ => ⟨S4096x2048, .bf16⟩
  | .hbm, ⟨52, _⟩ => ⟨S8x128x1, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S4096x4096, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_21 : BitVec 32 := 0#32
  let v46 : BitVec 1 := Scalar.cmpi .ne v45 c0_i32_21
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference5Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .f32⟩
  | .hbm, ⟨2, _⟩ => ⟨S4096x1024, .bf16⟩
  | .hbm, ⟨3, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .f32⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x1024, .bf16⟩
  | .hbm, ⟨3, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_31 : BitVec 32 := 0#32
  let v63 : BitVec 1 := Scalar.cmpi .ne v62 c0_i32_31
  v63

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v64 : BitVec 1 := Scalar.xori v61 v_true
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== Reference8Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .bf16⟩
  | .hbm, ⟨3, _⟩ => ⟨S4096x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_21 : BitVec 32 := 0#32
  let v46 : BitVec 1 := Scalar.cmpi .ne v45 c0_i32_21
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference9Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S4096x256, .bf16⟩
  | .local _ .vmem, ⟨1, _⟩ => ⟨S4096x1024, .bf16⟩
  | .local _ .vmem, ⟨2, _⟩ => ⟨S256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S1024x1024 : Shape := ⟨2, ![1024, 1024]⟩
abbrev S4096x1024 : Shape := ⟨2, ![4096, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .f32⟩
  | .hbm, ⟨2, _⟩ => ⟨S4096x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1024x704 : Shape := ⟨2, ![1024, 704]⟩
abbrev S4096x704 : Shape := ⟨2, ![4096, 704]⟩
abbrev S1x1024 : Shape := ⟨2, ![1, 1024]⟩
abbrev S512x704 : Shape := ⟨2, ![512, 704]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x704, .bf16⟩
  | .hbm, ⟨3, _⟩ => ⟨S4096x704, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S1x1024, .f32⟩
  | .local _ .vmem, ⟨0, _⟩ => ⟨S512x704, .bf16⟩
  | .local _ .vmem, ⟨1, _⟩ => ⟨S512x704, .bf16⟩
  | .local _ .vmem, ⟨2, _⟩ => ⟨S1024x704, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_31 : BitVec 32 := 0#32
  let v63 : BitVec 1 := Scalar.cmpi .ne v62 c0_i32_31
  v63

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v64 : BitVec 1 := Scalar.xori v61 v_true
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== Reference14Ideal.lean ====
abbrev S4096x1024 : Shape := ⟨2, ![4096, 1024]⟩
abbrev S1024 : Shape := ⟨1, ![1024]⟩
abbrev S1024x704 : Shape := ⟨2, ![1024, 704]⟩
abbrev S4096x704 : Shape := ⟨2, ![4096, 704]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x704, .bf16⟩
  | .hbm, ⟨3, _⟩ => ⟨S4096x704, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x704, .f32⟩
  | .hbm, ⟨28, _⟩ => ⟨S4096x704, .f32⟩
  | .hbm, ⟨29, _⟩ => ⟨S4096x704, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel15.lean ====
abbrev S4096x1024 : Shape := ⟨2, ![4096, 1024]⟩
abbrev S4096x704 : Shape := ⟨2, ![4096, 704]⟩
abbrev S1024x704 : Shape := ⟨2, ![1024, 704]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x704, .bf16⟩
  | .hbm, ⟨2, _⟩ => ⟨S1024x704, .bf16⟩
  | .local _ .vmem, ⟨0, _⟩ => ⟨S4096x1024, .bf16⟩
  | .local _ .vmem, ⟨1, _⟩ => ⟨S4096x704, .bf16⟩
  | .local _ .vmem, ⟨2, _⟩ => ⟨S1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x704 : Shape := ⟨2, ![4096, 704]⟩
abbrev S_ : Shape := ⟨0, ![]⟩
abbrev S1024x704 : Shape := ⟨2, ![1024, 704]⟩
abbrev S704x1024 : Shape := ⟨2, ![704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x704, .bf16⟩
  | .hbm, ⟨2, _⟩ => ⟨S_, .f32⟩
  | .hbm, ⟨3, _⟩ => ⟨S1024x704, .f32⟩
  | .hbm, ⟨4, _⟩ => ⟨S4096x1024, .f32⟩
  | .hbm, ⟨5, _⟩ => ⟨S4096x704, .f32⟩
  | .hbm, ⟨6, _⟩ => ⟨S4096x704, .f32⟩
  | .hbm, ⟨7, _⟩ => ⟨S704x1024, .f32⟩
  | .hbm, ⟨8, _⟩ => ⟨S1024x704, .f32⟩
  | .hbm, ⟨9, _⟩ => ⟨S1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x384 : Shape := ⟨2, ![4096, 384]⟩
abbrev S8x4096x192 : Shape := ⟨3, ![8, 4096, 192]⟩
abbrev S8x384x192 : Shape := ⟨3, ![8, 384, 192]⟩
abbrev S1x4096x192 : Shape := ⟨3, ![1, 4096, 192]⟩
abbrev S1x384x192 : Shape := ⟨3, ![1, 384, 192]⟩
abbrev S4096x192 : Shape := ⟨2, ![4096, 192]⟩
abbrev S384x192 : Shape := ⟨2, ![384, 192]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S8x4096x192, .bf16⟩
  | .hbm, ⟨2, _⟩ => ⟨S8x384x192, .bf16⟩
  | .local _ .vmem, ⟨0, _⟩ => ⟨S4096x384, .bf16⟩
  | .local _ .vmem, ⟨1, _⟩ => ⟨S1x4096x192, .bf16⟩
  | .local _ .vmem, ⟨2, _⟩ => ⟨S1x4096x192, .bf16⟩
  | .local _ .vmem, ⟨3, _⟩ => ⟨S1x384x192, .bf16⟩
  | .local _ .vmem, ⟨4, _⟩ => ⟨S1x384x192, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x384 : Shape := ⟨2, ![4096, 384]⟩
abbrev S8x4096x192 : Shape := ⟨3, ![8, 4096, 192]⟩
abbrev S_ : Shape := ⟨0, ![]⟩
abbrev S384x1536 : Shape := ⟨2, ![384, 1536]⟩
abbrev S4096x1536 : Shape := ⟨2, ![4096, 1536]⟩
abbrev S4096x8x192 : Shape := ⟨3, ![4096, 8, 192]⟩
abbrev S1536x384 : Shape := ⟨2, ![1536, 384]⟩
abbrev S384x8x192 : Shape := ⟨3, ![384, 8, 192]⟩
abbrev S8x384x192 : Shape := ⟨3, ![8, 384, 192]⟩

abbrev nBuf : Space → Nat
  | .hbm => 16
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S8x4096x192, .bf16⟩
  | .hbm, ⟨2, _⟩ => ⟨S_, .f32⟩
  | .hbm, ⟨3, _⟩ => ⟨S384x1536, .f32⟩
  | .hbm, ⟨4, _⟩ => ⟨S4096x384, .f32⟩
  | .hbm, ⟨5, _⟩ => ⟨S4096x1536, .f32⟩
  | .hbm, ⟨6, _⟩ => ⟨S4096x8x192, .f32⟩
  | .hbm, ⟨7, _⟩ => ⟨S8x4096x192, .f32⟩
  | .hbm, ⟨8, _⟩ => ⟨S8x4096x192, .f32⟩
  | .hbm, ⟨9, _⟩ => ⟨S4096x8x192, .f32⟩
  | .hbm, ⟨10, _⟩ => ⟨S4096x1536, .f32⟩
  | .hbm, ⟨11, _⟩ => ⟨S1536x384, .f32⟩
  | .hbm, ⟨12, _⟩ => ⟨S384x1536, .f32⟩
  | .hbm, ⟨13, _⟩ => ⟨S384x8x192, .f32⟩
  | .hbm, ⟨14, _⟩ => ⟨S8x384x192, .f32⟩
  | .hbm, ⟨15, _⟩ => ⟨S8x384x192, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel17.lean ====
abbrev S4096x256 : Shape := ⟨2, ![4096, 256]⟩
abbrev S8x4096x256 : Shape := ⟨3, ![8, 4096, 256]⟩
abbrev S8x256x256 : Shape := ⟨3, ![8, 256, 256]⟩
abbrev S1x4096x256 : Shape := ⟨3, ![1, 4096, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S8x4096x256, .bf16⟩
  | .hbm, ⟨2, _⟩ => ⟨S8x256x256, .bf16⟩
  | .local _ .vmem, ⟨0, _⟩ => ⟨S4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x256x256, .bf16⟩
  | .local _ .vmem, ⟨4, _⟩ => ⟨S1x256x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x256 : Shape := ⟨2, ![4096, 256]⟩
abbrev S8x4096x256 : Shape := ⟨3, ![8, 4096, 256]⟩
abbrev S_ : Shape := ⟨0, ![]⟩
abbrev S256x2048 : Shape := ⟨2, ![256, 2048]⟩
abbrev S4096x2048 : Shape := ⟨2, ![4096, 2048]⟩
abbrev S4096x8x256 : Shape := ⟨3, ![4096, 8, 256]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S8x4096x256, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x8x256, .f32⟩
  | .hbm, ⟨7, _⟩ => ⟨S8x4096x256, .f32⟩
  | .hbm, ⟨8, _⟩ => ⟨S8x4096x256, .f32⟩
  | .hbm, ⟨9, _⟩ => ⟨S4096x8x256, .f32⟩
  | .hbm, ⟨10, _⟩ => ⟨S4096x2048, .f32⟩
  | .hbm, ⟨11, _⟩ => ⟨S2048x256, .f32⟩
  | .hbm, ⟨12, _⟩ => ⟨S256x2048, .f32⟩
  | .hbm, ⟨13, _⟩ => ⟨S256x8x256, .f32⟩
  | .hbm, ⟨14, _⟩ => ⟨S8x256x256, .f32⟩
  | .hbm, ⟨15, _⟩ => ⟨S8x256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel18.lean ====
abbrev S4096x704 : Shape := ⟨2, ![4096, 704]⟩
abbrev S384 : Shape := ⟨1, ![384]⟩
abbrev S256 : Shape := ⟨1, ![256]⟩
abbrev S4096x384 : Shape := ⟨2, ![4096, 384]⟩
abbrev S4096x256 : Shape := ⟨2, ![4096, 256]⟩
abbrev S4096x64 : Shape := ⟨2, ![4096, 64]⟩
abbrev S1x384 : Shape := ⟨2, ![1, 384]⟩
abbrev S1x256 : Shape := ⟨2, ![1, 256]⟩
abbrev S512x704 : Shape := ⟨2, ![512, 704]⟩
abbrev S512x384 : Shape := ⟨2, ![512, 384]⟩
abbrev S512x256 : Shape := ⟨2, ![512, 256]⟩
abbrev S512x64 : Shape := ⟨2, ![512, 64]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S384, .f32⟩
  | .hbm, ⟨2, _⟩ => ⟨S256, .f32⟩
  | .hbm, ⟨3, _⟩ => ⟨S4096x384, .bf16⟩
  | .hbm, ⟨4, _⟩ => ⟨S4096x256, .bf16⟩
  | .hbm, ⟨5, _⟩ => ⟨S4096x64, .f32⟩
  | .hbm, ⟨6, _⟩ => ⟨S1x384, .f32⟩
  | .hbm, ⟨7, _⟩ => ⟨S1x256, .f32⟩
  | .hbm, ⟨8, _⟩ => ⟨S4096x704, .bf16⟩
  | .hbm, ⟨9, _⟩ => ⟨S1x384, .f32⟩
  | .hbm, ⟨10, _⟩ => ⟨S1x256, .f32⟩
  | .local _ .vmem, ⟨0, _⟩ => ⟨S512x704, .f32⟩
  | .local _ .vmem, ⟨1, _⟩ => ⟨S512x704, .f32⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x64, .f32⟩
  | .local _ .vmem, ⟨7, _⟩ => ⟨S512x64, .f32⟩
  | .local _ .vmem, ⟨8, _⟩ => ⟨S1x384, .f32⟩
  | .local _ .vmem, ⟨9, _⟩ => ⟨S1x256, .f32⟩
  | .local _ .vmem, ⟨10, _⟩ => ⟨S512x704, .bf16⟩
  | .local _ .vmem, ⟨11, _⟩ => ⟨S512x704, .bf16⟩
  | .local _ .vmem, ⟨12, _⟩ => ⟨S1x384, .f32⟩
  | .local _ .vmem, ⟨13, _⟩ => ⟨S1x256, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S4096x704 : Shape := ⟨2, ![4096, 704]⟩
abbrev S384 : Shape := ⟨1, ![384]⟩
abbrev S256 : Shape := ⟨1, ![256]⟩
abbrev S4096x384 : Shape := ⟨2, ![4096, 384]⟩
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩

abbrev nBuf : Space → Nat
  | .hbm => 105
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S384, .f32⟩
  | .hbm, ⟨2, _⟩ => ⟨S256, .f32⟩
  | .hbm, ⟨3, _⟩ => ⟨S4096x384, .bf16⟩
  | .hbm, ⟨4, _⟩ => ⟨S4096x256, .bf16⟩
  | .hbm, ⟨5, _⟩ => ⟨S4096x64, .f32⟩
  | .hbm, ⟨6, _⟩ => ⟨S4096x384, .f32⟩
  | .hbm, ⟨7, _⟩ => ⟨S4096x256, .f32⟩
  | .hbm, ⟨8, _⟩ => ⟨S4096x64, .f32⟩
  | .hbm, ⟨9, _⟩ => ⟨S4096x384, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x384, .f32⟩
  | .hbm, ⟨25, _⟩ => ⟨S4096x384, .f32⟩
  | .hbm, ⟨26, _⟩ => ⟨S1x384, .f32⟩
  | .hbm, ⟨27, _⟩ => ⟨S4096x384, .f32⟩
  | .hbm, ⟨28, _⟩ => ⟨S4096x384, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x256, .f32⟩
  | .hbm, ⟨45, _⟩ => ⟨S4096x256, .f32⟩
  | .hbm, ⟨46, _⟩ => ⟨S1x256, .f32⟩
  | .hbm, ⟨47, _⟩ => ⟨S4096x256, .f32⟩
  | .hbm, ⟨48, _⟩ => ⟨S4096x256, .f32⟩
  | .hbm, ⟨49, _⟩ => ⟨S4096x384, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S4096x256, .f32⟩
  | .hbm, ⟨56, _⟩ => ⟨S4096x256, .f32⟩
  | .hbm, ⟨57, _⟩ => ⟨S_, .f32⟩
  | .hbm, ⟨58, _⟩ => ⟨S256, .f32⟩
  | .hbm, ⟨59, _⟩ => ⟨S4096x256, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x256, .f32⟩
  | .hbm, ⟨64, _⟩ => ⟨S4096x256, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x384, .f32⟩
  | .hbm, ⟨77, _⟩ => ⟨S_, .f32⟩
  | .hbm, ⟨78, _⟩ => ⟨S384, .f32⟩
  | .hbm, ⟨79, _⟩ => ⟨S1x384, .f32⟩
  | .hbm, ⟨80, _⟩ => ⟨S4096x384, .f32⟩
  | .hbm, ⟨81, _⟩ => ⟨S4096x384, .f32⟩
  | .hbm, ⟨82, _⟩ => ⟨S_, .f32⟩
  | .hbm, ⟨83, _⟩ => ⟨S384, .f32⟩
  | .hbm, ⟨84, _⟩ => ⟨S4096x384, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x384, .f32⟩
  | .hbm, ⟨89, _⟩ => ⟨S4096x384, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x384, .f32⟩
  | .hbm, ⟨97, _⟩ => ⟨S4096x384, .f32⟩
  | .hbm, ⟨98, _⟩ => ⟨S4096x384, .f32⟩
  | .hbm, ⟨99, _⟩ => ⟨S4096x384, .f32⟩
  | .hbm, ⟨100, _⟩ => ⟨S4096x384, .f32⟩
  | .hbm, ⟨101, _⟩ => ⟨S4096x704, .f32⟩
  | .hbm, ⟨102, _⟩ => ⟨S4096x704, .bf16⟩
  | .hbm, ⟨103, _⟩ => ⟨S1x384, .f32⟩
  | .hbm, ⟨104, _⟩ => ⟨S1x256, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel19.lean ====
abbrev S8x384x192 : Shape := ⟨3, ![8, 384, 192]⟩
abbrev S8x4096x192 : Shape := ⟨3, ![8, 4096, 192]⟩
abbrev S4096x384 : Shape := ⟨2, ![4096, 384]⟩
abbrev S1x2048x192 : Shape := ⟨3, ![1, 2048, 192]⟩
abbrev S1x384x192 : Shape := ⟨3, ![1, 384, 192]⟩
abbrev S2048x384 : Shape := ⟨2, ![2048, 384]⟩
abbrev S2048x192 : Shape := ⟨2, ![2048, 192]⟩
abbrev S384x192 : Shape := ⟨2, ![384, 192]⟩

abbrev nBuf : Space → Nat
  | .hbm => 3
  | .vmem => 7
  | .smem => 0
  | _ => 0

abbrev bufTy : (tb : Table) → Fin (tcTables nBuf tb) → BufTy
  | .hbm, ⟨0, _⟩ => ⟨S8x384x192, .bf16⟩
  | .hbm, ⟨1, _⟩ => ⟨S8x4096x192, .bf16⟩
  | .hbm, ⟨2, _⟩ => ⟨S4096x384, .bf16⟩
  | .local _ .vmem, ⟨0, _⟩ => ⟨S1x2048x192, .bf16⟩
  | .local _ .vmem, ⟨1, _⟩ => ⟨S1x2048x192, .bf16⟩
  | .local _ .vmem, ⟨2, _⟩ => ⟨S1x384x192, .bf16⟩
  | .local _ .vmem, ⟨3, _⟩ => ⟨S1x384x192, .bf16⟩
  | .local _ .vmem, ⟨4, _⟩ => ⟨S2048x384, .bf16⟩
  | .local _ .vmem, ⟨5, _⟩ => ⟨S2048x384, .bf16⟩
  | .local _ .vmem, ⟨6, _⟩ => ⟨S2048x384, .f32⟩
  | _, _ => ⟨S8x384x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8x384x192 : Shape := ⟨3, ![8, 384, 192]⟩
abbrev S8x4096x192 : Shape := ⟨3, ![8, 4096, 192]⟩
abbrev S384x8x192 : Shape := ⟨3, ![384, 8, 192]⟩
abbrev S384x1536 : Shape := ⟨2, ![384, 1536]⟩
abbrev S_ : Shape := ⟨0, ![]⟩
abbrev S4096x384 : Shape := ⟨2, ![4096, 384]⟩
abbrev S4096x1536 : Shape := ⟨2, ![4096, 1536]⟩
abbrev S4096x8x192 : Shape := ⟨3, ![4096, 8, 192]⟩

abbrev nBuf : Space → Nat
  | .hbm => 15
  | .vmem => 0
  | .smem => 0
  | _ => 0

abbrev bufTy : (tb : Table) → Fin (tcTables nBuf tb) → BufTy
  | .hbm, ⟨0, _⟩ => ⟨S8x384x192, .bf16⟩
  | .hbm, ⟨1, _⟩ => ⟨S8x4096x192, .bf16⟩
  | .hbm, ⟨2, _⟩ => ⟨S8x384x192, .f32⟩
  | .hbm, ⟨3, _⟩ => ⟨S384x8x192, .f32⟩
  | .hbm, ⟨4, _⟩ => ⟨S384x1536, .f32⟩
  | .hbm, ⟨5, _⟩ => ⟨S_, .f32⟩
  | .hbm, ⟨6, _⟩ => ⟨S4096x384, .f32⟩
  | .hbm, ⟨7, _⟩ => ⟨S4096x1536, .f32⟩
  | .hbm, ⟨8, _⟩ => ⟨S4096x8x192, .f32⟩
  | .hbm, ⟨9, _⟩ => ⟨S8x4096x192, .f32⟩
  | .hbm, ⟨10, _⟩ => ⟨S8x4096x192, .f32⟩
  | .hbm, ⟨11, _⟩ => ⟨S4096x8x192, .f32⟩
  | .hbm, ⟨12, _⟩ => ⟨S4096x1536, .f32⟩
  | .hbm, ⟨13, _⟩ => ⟨S4096x384, .f32⟩
  | .hbm, ⟨14, _⟩ => ⟨S4096x384, .bf16⟩
  | _, _ => ⟨S8x384x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel20.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference21Ideal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel22.lean ====
abbrev S8x256x256 : Shape := ⟨3, ![8, 256, 256]⟩
abbrev S8x4096x256 : Shape := ⟨3, ![8, 4096, 256]⟩
abbrev S4096x256 : Shape := ⟨2, ![4096, 256]⟩
abbrev S1x2048x256 : Shape := ⟨3, ![1, 2048, 256]⟩
abbrev S1x256x256 : Shape := ⟨3, ![1, 256, 256]⟩
abbrev S2048x256 : Shape := ⟨2, ![2048, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S8x256x256, .bf16⟩
  | .hbm, ⟨1, _⟩ => ⟨S8x4096x256, .bf16⟩
  | .hbm, ⟨2, _⟩ => ⟨S4096x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8x256x256 : Shape := ⟨3, ![8, 256, 256]⟩
abbrev S8x4096x256 : Shape := ⟨3, ![8, 4096, 256]⟩
abbrev S256x8x256 : Shape := ⟨3, ![256, 8, 256]⟩
abbrev S256x2048 : Shape := ⟨2, ![256, 2048]⟩
abbrev S_ : Shape := ⟨0, ![]⟩
abbrev S4096x256 : Shape := ⟨2, ![4096, 256]⟩
abbrev S4096x2048 : Shape := ⟨2, ![4096, 2048]⟩
abbrev S4096x8x256 : Shape := ⟨3, ![4096, 8, 256]⟩

abbrev nBuf : Space → Nat
  | .hbm => 15
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x4096x256, .bf16⟩
  | .hbm, ⟨2, _⟩ => ⟨S8x256x256, .f32⟩
  | .hbm, ⟨3, _⟩ => ⟨S256x8x256, .f32⟩
  | .hbm, ⟨4, _⟩ => ⟨S256x2048, .f32⟩
  | .hbm, ⟨5, _⟩ => ⟨S_, .f32⟩
  | .hbm, ⟨6, _⟩ => ⟨S4096x256, .f32⟩
  | .hbm, ⟨7, _⟩ => ⟨S4096x2048, .f32⟩
  | .hbm, ⟨8, _⟩ => ⟨S4096x8x256, .f32⟩
  | .hbm, ⟨9, _⟩ => ⟨S8x4096x256, .f32⟩
  | .hbm, ⟨10, _⟩ => ⟨S8x4096x256, .f32⟩
  | .hbm, ⟨11, _⟩ => ⟨S4096x8x256, .f32⟩
  | .hbm, ⟨12, _⟩ => ⟨S4096x2048, .f32⟩
  | .hbm, ⟨13, _⟩ => ⟨S4096x256, .f32⟩
  | .hbm, ⟨14, _⟩ => ⟨S4096x256, .bf16⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel23.lean ====
abbrev S4096x1024 : Shape := ⟨2, ![4096, 1024]⟩
abbrev S1024 : Shape := ⟨1, ![1024]⟩
abbrev S1024x704 : Shape := ⟨2, ![1024, 704]⟩
abbrev S4096x704 : Shape := ⟨2, ![4096, 704]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x704, .bf16⟩
  | .hbm, ⟨3, _⟩ => ⟨S4096x704, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1024x704, .bf16⟩
  | .local _ .vmem, ⟨1, _⟩ => ⟨S1024x704, .bf16⟩
  | .local _ .vmem, ⟨2, _⟩ => ⟨S1024x704, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_21 : BitVec 32 := 0#32
  let v46 : BitVec 1 := Scalar.cmpi .ne v45 c0_i32_21
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference23Ideal.lean ====
abbrev S4096x1024 : Shape := ⟨2, ![4096, 1024]⟩
abbrev S1024 : Shape := ⟨1, ![1024]⟩
abbrev S1024x704 : Shape := ⟨2, ![1024, 704]⟩
abbrev S4096x704 : Shape := ⟨2, ![4096, 704]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x704, .bf16⟩
  | .hbm, ⟨3, _⟩ => ⟨S4096x704, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x704, .f32⟩
  | .hbm, ⟨26, _⟩ => ⟨S4096x704, .f32⟩
  | .hbm, ⟨27, _⟩ => ⟨S4096x704, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel24.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S4096x1024 : Shape := ⟨2, ![4096, 1024]⟩
abbrev S1024x704 : Shape := ⟨2, ![1024, 704]⟩
abbrev S4096x704 : Shape := ⟨2, ![4096, 704]⟩
abbrev S2048x1024 : Shape := ⟨2, ![2048, 1024]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x704, .bf16⟩
  | .hbm, ⟨2, _⟩ => ⟨S4096x704, .f32⟩
  | .local _ .vmem, ⟨0, _⟩ => ⟨S2048x1024, .bf16⟩
  | .local _ .vmem, ⟨1, _⟩ => ⟨S2048x1024, .bf16⟩
  | .local _ .vmem, ⟨2, _⟩ => ⟨S1024x704, .bf16⟩
  | .local _ .vmem, ⟨3, _⟩ => ⟨S2048x704, .f32⟩
  | .local _ .vmem, ⟨4, _⟩ => ⟨S2048x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S1024x704 : Shape := ⟨2, ![1024, 704]⟩
abbrev S4096x704 : Shape := ⟨2, ![4096, 704]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x704, .bf16⟩
  | .hbm, ⟨2, _⟩ => ⟨S4096x1024, .f32⟩
  | .hbm, ⟨3, _⟩ => ⟨S1024x704, .f32⟩
  | .hbm, ⟨4, _⟩ => ⟨S4096x704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S4096x384 : Shape := ⟨2, ![4096, 384]⟩
abbrev S8x384x192 : Shape := ⟨3, ![8, 384, 192]⟩
abbrev S8x4096x192 : Shape := ⟨3, ![8, 4096, 192]⟩
abbrev S2048x384 : Shape := ⟨2, ![2048, 384]⟩
abbrev S1x384x192 : Shape := ⟨3, ![1, 384, 192]⟩
abbrev S1x2048x192 : Shape := ⟨3, ![1, 2048, 192]⟩
abbrev S384x192 : Shape := ⟨2, ![384, 192]⟩
abbrev S2048x192 : Shape := ⟨2, ![2048, 192]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S8x384x192, .bf16⟩
  | .hbm, ⟨2, _⟩ => ⟨S8x4096x192, .f32⟩
  | .local _ .vmem, ⟨0, _⟩ => ⟨S2048x384, .bf16⟩
  | .local _ .vmem, ⟨1, _⟩ => ⟨S2048x384, .bf16⟩
  | .local _ .vmem, ⟨2, _⟩ => ⟨S1x384x192, .bf16⟩
  | .local _ .vmem, ⟨3, _⟩ => ⟨S1x384x192, .bf16⟩
  | .local _ .vmem, ⟨4, _⟩ => ⟨S1x2048x192, .f32⟩
  | .local _ .vmem, ⟨5, _⟩ => ⟨S1x2048x192, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x384 : Shape := ⟨2, ![4096, 384]⟩
abbrev S8x384x192 : Shape := ⟨3, ![8, 384, 192]⟩
abbrev S384x8x192 : Shape := ⟨3, ![384, 8, 192]⟩
abbrev S384x1536 : Shape := ⟨2, ![384, 1536]⟩
abbrev S4096x1536 : Shape := ⟨2, ![4096, 1536]⟩
abbrev S4096x8x192 : Shape := ⟨3, ![4096, 8, 192]⟩
abbrev S8x4096x192 : Shape := ⟨3, ![8, 4096, 192]⟩

abbrev nBuf : Space → Nat
  | .hbm => 9
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S8x384x192, .bf16⟩
  | .hbm, ⟨2, _⟩ => ⟨S4096x384, .f32⟩
  | .hbm, ⟨3, _⟩ => ⟨S8x384x192, .f32⟩
  | .hbm, ⟨4, _⟩ => ⟨S384x8x192, .f32⟩
  | .hbm, ⟨5, _⟩ => ⟨S384x1536, .f32⟩
  | .hbm, ⟨6, _⟩ => ⟨S4096x1536, .f32⟩
  | .hbm, ⟨7, _⟩ => ⟨S4096x8x192, .f32⟩
  | .hbm, ⟨8, _⟩ => ⟨S8x4096x192, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel27.lean ====
abbrev S4096x256 : Shape := ⟨2, ![4096, 256]⟩
abbrev S8x256x256 : Shape := ⟨3, ![8, 256, 256]⟩
abbrev S8x4096x256 : Shape := ⟨3, ![8, 4096, 256]⟩
abbrev S2048x256 : Shape := ⟨2, ![2048, 256]⟩
abbrev S1x256x256 : Shape := ⟨3, ![1, 256, 256]⟩
abbrev S1x2048x256 : Shape := ⟨3, ![1, 2048, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S8x256x256, .bf16⟩
  | .hbm, ⟨2, _⟩ => ⟨S8x4096x256, .f32⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .f32⟩
  | .local _ .vmem, ⟨5, _⟩ => ⟨S1x2048x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x256 : Shape := ⟨2, ![4096, 256]⟩
abbrev S8x256x256 : Shape := ⟨3, ![8, 256, 256]⟩
abbrev S256x8x256 : Shape := ⟨3, ![256, 8, 256]⟩
abbrev S256x2048 : Shape := ⟨2, ![256, 2048]⟩
abbrev S4096x2048 : Shape := ⟨2, ![4096, 2048]⟩
abbrev S4096x8x256 : Shape := ⟨3, ![4096, 8, 256]⟩
abbrev S8x4096x256 : Shape := ⟨3, ![8, 4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S8x256x256, .bf16⟩
  | .hbm, ⟨2, _⟩ => ⟨S4096x256, .f32⟩
  | .hbm, ⟨3, _⟩ => ⟨S8x256x256, .f32⟩
  | .hbm, ⟨4, _⟩ => ⟨S256x8x256, .f32⟩
  | .hbm, ⟨5, _⟩ => ⟨S256x2048, .f32⟩
  | .hbm, ⟨6, _⟩ => ⟨S4096x2048, .f32⟩
  | .hbm, ⟨7, _⟩ => ⟨S4096x8x256, .f32⟩
  | .hbm, ⟨8, _⟩ => ⟨S8x4096x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel28.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference28Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel29.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference29Ideal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel30.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S4096x256 : Shape := ⟨2, ![4096, 256]⟩
abbrev S256x1024 : Shape := ⟨2, ![256, 1024]⟩
abbrev S4096x1024 : Shape := ⟨2, ![4096, 1024]⟩
abbrev S1024 : Shape := ⟨1, ![1024]⟩
abbrev S1x1024 : Shape := ⟨2, ![1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference31Ideal.lean ====
abbrev S4096x256 : Shape := ⟨2, ![4096, 256]⟩
abbrev S256x1024 : Shape := ⟨2, ![256, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x256, .f32⟩
  | .hbm, ⟨6, _⟩ => ⟨S256x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel32.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference32Ideal.lean ====
abbrev S4096x256 : Shape := ⟨2, ![4096, 256]⟩
abbrev S256x1024 : Shape := ⟨2, ![256, 1024]⟩
abbrev S4096x1024 : Shape := ⟨2, ![4096, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .hbm, ⟨3, _⟩ => ⟨S4096x1024, .f32⟩
  | .hbm, ⟨4, _⟩ => ⟨S4096x256, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel33.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel34.lean ====
abbrev S4096x704 : Shape := ⟨2, ![4096, 704]⟩
abbrev S384 : Shape := ⟨1, ![384]⟩
abbrev S256 : Shape := ⟨1, ![256]⟩
abbrev S1x384 : Shape := ⟨2, ![1, 384]⟩
abbrev S1x256 : Shape := ⟨2, ![1, 256]⟩
abbrev S4096x384 : Shape := ⟨2, ![4096, 384]⟩
abbrev S4096x256 : Shape := ⟨2, ![4096, 256]⟩
abbrev S512x704 : Shape := ⟨2, ![512, 704]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x704, .f32⟩
  | .hbm, ⟨1, _⟩ => ⟨S384, .f32⟩
  | .hbm, ⟨2, _⟩ => ⟨S256, .f32⟩
  | .hbm, ⟨3, _⟩ => ⟨S1x384, .f32⟩
  | .hbm, ⟨4, _⟩ => ⟨S1x256, .f32⟩
  | .hbm, ⟨5, _⟩ => ⟨S4096x384, .bf16⟩
  | .hbm, ⟨6, _⟩ => ⟨S4096x256, .bf16⟩
  | .local _ .vmem, ⟨0, _⟩ => ⟨S512x704, .f32⟩
  | .local _ .vmem, ⟨1, _⟩ => ⟨S512x704, .f32⟩
  | .local _ .vmem, ⟨2, _⟩ => ⟨S1x384, .f32⟩
  | .local _ .vmem, ⟨3, _⟩ => ⟨S1x256, .f32⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S4096x704 : Shape := ⟨2, ![4096, 704]⟩
abbrev S384 : Shape := ⟨1, ![384]⟩
abbrev S256 : Shape := ⟨1, ![256]⟩
abbrev S4096x384 : Shape := ⟨2, ![4096, 384]⟩
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S384, .f32⟩
  | .hbm, ⟨2, _⟩ => ⟨S256, .f32⟩
  | .hbm, ⟨3, _⟩ => ⟨S4096x384, .f32⟩
  | .hbm, ⟨4, _⟩ => ⟨S4096x256, .f32⟩
  | .hbm, ⟨5, _⟩ => ⟨S4096x64, .f32⟩
  | .hbm, ⟨6, _⟩ => ⟨S4096x384, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x384, .f32⟩
  | .hbm, ⟨18, _⟩ => ⟨S4096x384, .f32⟩
  | .hbm, ⟨19, _⟩ => ⟨S1x384, .f32⟩
  | .hbm, ⟨20, _⟩ => ⟨S4096x384, .f32⟩
  | .hbm, ⟨21, _⟩ => ⟨S4096x384, .f32⟩
  | .hbm, ⟨22, _⟩ => ⟨S4096x384, .bf16⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x256, .f32⟩
  | .hbm, ⟨35, _⟩ => ⟨S4096x256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S4096x256, .bf16⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel35.lean ====
abbrev S4096x2048 : Shape := ⟨2, ![4096, 2048]⟩
abbrev S8x128x128 : Shape := ⟨3, ![8, 128, 128]⟩
abbrev S8x128 : Shape := ⟨2, ![8, 128]⟩
abbrev S8x128x1 : Shape := ⟨3, ![8, 128, 1]⟩
abbrev S2048x256 : Shape := ⟨2, ![2048, 256]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S128x256 : Shape := ⟨2, ![128, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x128x128, .f32⟩
  | .hbm, ⟨3, _⟩ => ⟨S8x128, .f32⟩
  | .hbm, ⟨4, _⟩ => ⟨S8x128x1, .f32⟩
  | .hbm, ⟨5, _⟩ => ⟨S4096x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S2048x256, .bf16⟩
  | .local _ .vmem, ⟨9, _⟩ => ⟨S2048x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference35Ideal.lean ====
abbrev S4096x2048 : Shape := ⟨2, ![4096, 2048]⟩
abbrev S8x128x128 : Shape := ⟨3, ![8, 128, 128]⟩
abbrev S8x128 : Shape := ⟨2, ![8, 128]⟩
abbrev S2x16x128x8x256 : Shape := ⟨5, ![2, 16, 128, 8, 256]⟩
abbrev S_ : Shape := ⟨0, ![]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S2x2048x2048 : Shape := ⟨3, ![2, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x128x128, .f32⟩
  | .hbm, ⟨3, _⟩ => ⟨S8x128, .f32⟩
  | .hbm, ⟨4, _⟩ => ⟨S4096x2048, .f32⟩
  | .hbm, ⟨5, _⟩ => ⟨S4096x2048, .f32⟩
  | .hbm, ⟨6, _⟩ => ⟨S2x16x128x8x256, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S8x128x128, .f32⟩
  | .hbm, ⟨20, _⟩ => ⟨S8x128x128, .f32⟩
  | .hbm, ⟨21, _⟩ => ⟨S8x2x16x256x128, .f32⟩
  | .hbm, ⟨22, _⟩ => ⟨S2x16x128x8x256, .f32⟩
  | .hbm, ⟨23, _⟩ => ⟨S128x8, .f32⟩
  | .hbm, ⟨24, _⟩ => ⟨S1x1x128x8x1, .f32⟩
  | .hbm, ⟨25, _⟩ => ⟨S2x16x128x8x256, .f32⟩
  | .hbm, ⟨26, _⟩ => ⟨S2x16x128x8x256, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S2x2048x2048, .bf16⟩
  | .hbm, ⟨31, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel36.lean ====
abbrev S4096x4096 : Shape := ⟨2, ![4096, 4096]⟩
abbrev S2048 : Shape := ⟨1, ![2048]⟩
abbrev S1x2048 : Shape := ⟨2, ![1, 2048]⟩
abbrev S4096x2048 : Shape := ⟨2, ![4096, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference36Ideal.lean ====
abbrev S4096x4096 : Shape := ⟨2, ![4096, 4096]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048, .f32⟩
  | .hbm, ⟨2, _⟩ => ⟨S2048, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x2048, .f32⟩
  | .hbm, ⟨22, _⟩ => ⟨S4096x2048, .f32⟩
  | .hbm, ⟨23, _⟩ => ⟨S4096x2048, .bf16⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel37.lean ====
abbrev S4096x4096 : Shape := ⟨2, ![4096, 4096]⟩
abbrev S4096x2048 : Shape := ⟨2, ![4096, 2048]⟩
abbrev S2048 : Shape := ⟨1, ![2048]⟩
abbrev S1x2048 : Shape := ⟨2, ![1, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S4096x4096, .bf16⟩
  | .hbm, ⟨8, _⟩ => ⟨S1x2048, .f32⟩
  | .hbm, ⟨9, _⟩ => ⟨S1x2048, .f32⟩
  | .local _ .vmem, ⟨0, _⟩ => ⟨S128x4096, .bf16⟩
  | .local _ .vmem, ⟨1, _⟩ => ⟨S128x4096, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S128x4096, .bf16⟩
  | .local _ .vmem, ⟨9, _⟩ => ⟨S128x4096, .bf16⟩
  | .local _ .vmem, ⟨10, _⟩ => ⟨S1x2048, .f32⟩
  | .local _ .vmem, ⟨11, _⟩ => ⟨S1x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference37Ideal.lean ====
abbrev S4096x4096 : Shape := ⟨2, ![4096, 4096]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S2048, .f32⟩
  | .hbm, ⟨4, _⟩ => ⟨S2048, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S1x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel38.lean ====
abbrev S4096x1024 : Shape := ⟨2, ![4096, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference38Ideal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel39.lean ====
abbrev S8x4096x192 : Shape := ⟨3, ![8, 4096, 192]⟩
abbrev S8x4096x256 : Shape := ⟨3, ![8, 4096, 256]⟩
abbrev S4096x704 : Shape := ⟨2, ![4096, 704]⟩
abbrev S4096x64 : Shape := ⟨2, ![4096, 64]⟩
abbrev S64x64 : Shape := ⟨2, ![64, 64]⟩
abbrev S128 : Shape := ⟨1, ![128]⟩
abbrev S64 : Shape := ⟨1, ![64]⟩
abbrev S8x4096x128 : Shape := ⟨3, ![8, 4096, 128]⟩
abbrev S1x128 : Shape := ⟨2, ![1, 128]⟩
abbrev S1x64 : Shape := ⟨2, ![1, 64]⟩
abbrev S1x1024x192 : Shape := ⟨3, ![1, 1024, 192]⟩
abbrev S1x1024x256 : Shape := ⟨3, ![1, 1024, 256]⟩
abbrev S1024x704 : Shape := ⟨2, ![1024, 704]⟩
abbrev S1024x64 : Shape := ⟨2, ![1024, 64]⟩
abbrev S1x1024x128 : Shape := ⟨3, ![1, 1024, 128]⟩
abbrev S1024x192 : Shape := ⟨2, ![1024, 192]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 24
  | .vmem => 31
  | .smem => 0
  | _ => 0

abbrev bufTy : (tb : Table) → Fin (tcTables nBuf tb) → BufTy
  | .hbm, ⟨0, _⟩ => ⟨S8x4096x192, .f32⟩
  | .hbm, ⟨1, _⟩ => ⟨S8x4096x256, .f32⟩
  | .hbm, ⟨2, _⟩ => ⟨S4096x704, .f32⟩
  | .hbm, ⟨3, _⟩ => ⟨S4096x64, .f32⟩
  | .hbm, ⟨4, _⟩ => ⟨S4096x64, .f32⟩
  | .hbm, ⟨5, _⟩ => ⟨S64x64, .f32⟩
  | .hbm, ⟨6, _⟩ => ⟨S128, .f32⟩
  | .hbm, ⟨7, _⟩ => ⟨S64, .f32⟩
  | .hbm, ⟨8, _⟩ => ⟨S128, .f32⟩
  | .hbm, ⟨9, _⟩ => ⟨S64, .f32⟩
  | .hbm, ⟨10, _⟩ => ⟨S8x4096x192, .f32⟩
  | .hbm, ⟨11, _⟩ => ⟨S8x4096x192, .f32⟩
  | .hbm, ⟨12, _⟩ => ⟨S8x4096x128, .f32⟩
  | .hbm, ⟨13, _⟩ => ⟨S1x128, .f32⟩
  | .hbm, ⟨14, _⟩ => ⟨S1x64, .f32⟩
  | .hbm, ⟨15, _⟩ => ⟨S1x128, .f32⟩
  | .hbm, ⟨16, _⟩ => ⟨S1x64, .f32⟩
  | .hbm, ⟨17, _⟩ => ⟨S8x4096x192, .bf16⟩
  | .hbm, ⟨18, _⟩ => ⟨S8x4096x256, .bf16⟩
  | .hbm, ⟨19, _⟩ => ⟨S4096x64, .f32⟩
  | .hbm, ⟨20, _⟩ => ⟨S1x128, .f32⟩
  | .hbm, ⟨21, _⟩ => ⟨S1x64, .f32⟩
  | .hbm, ⟨22, _⟩ => ⟨S1x128, .f32⟩
  | .hbm, ⟨23, _⟩ => ⟨S1x64, .f32⟩
  | .local _ .vmem, ⟨0, _⟩ => ⟨S1x1024x192, .f32⟩
  | .local _ .vmem, ⟨1, _⟩ => ⟨S1x1024x192, .f32⟩
  | .local _ .vmem, ⟨2, _⟩ => ⟨S1x1024x256, .f32⟩
  | .local _ .vmem, ⟨3, _⟩ => ⟨S1x1024x256, .f32⟩
  | .local _ .vmem, ⟨4, _⟩ => ⟨S1024x704, .f32⟩
  | .local _ .vmem, ⟨5, _⟩ => ⟨S1024x704, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S64x64, .f32⟩
  | .local _ .vmem, ⟨11, _⟩ => ⟨S1x128, .f32⟩
  | .local _ .vmem, ⟨12, _⟩ => ⟨S1x64, .f32⟩
  | .local _ .vmem, ⟨13, _⟩ => ⟨S1x128, .f32⟩
  | .local _ .vmem, ⟨14, _⟩ => ⟨S1x64, .f32⟩
  | .local _ .vmem, ⟨15, _⟩ => ⟨S1x1024x192, .f32⟩
  | .local _ .vmem, ⟨16, _⟩ => ⟨S1x1024x192, .f32⟩
  | .local _ .vmem, ⟨17, _⟩ => ⟨S1x1024x192, .f32⟩
  | .local _ .vmem, ⟨18, _⟩ => ⟨S1x1024x192, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x192, .bf16⟩
  | .local _ .vmem, ⟨22, _⟩ => ⟨S1x1024x192, .bf16⟩
  | .local _ .vmem, ⟨23, _⟩ => ⟨S1x1024x256, .bf16⟩
  | .local _ .vmem, ⟨24, _⟩ => ⟨S1x1024x256, .bf16⟩
  | .local _ .vmem, ⟨25, _⟩ => ⟨S1024x64, .f32⟩
  | .local _ .vmem, ⟨26, _⟩ => ⟨S1024x64, .f32⟩
  | .local _ .vmem, ⟨27, _⟩ => ⟨S1x128, .f32⟩
  | .local _ .vmem, ⟨28, _⟩ => ⟨S1x64, .f32⟩
  | .local _ .vmem, ⟨29, _⟩ => ⟨S1x128, .f32⟩
  | .local _ .vmem, ⟨30, _⟩ => ⟨S1x64, .f32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== Reference39Ideal.lean ====
abbrev S8x4096x192 : Shape := ⟨3, ![8, 4096, 192]⟩
abbrev S8x4096x256 : Shape := ⟨3, ![8, 4096, 256]⟩
abbrev S4096x704 : Shape := ⟨2, ![4096, 704]⟩
abbrev S4096x64 : Shape := ⟨2, ![4096, 64]⟩
abbrev S64x64 : Shape := ⟨2, ![64, 64]⟩
abbrev S128 : Shape := ⟨1, ![128]⟩
abbrev S64 : Shape := ⟨1, ![64]⟩
abbrev S8x4096x128 : Shape := ⟨3, ![8, 4096, 128]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S1x1x128 : Shape := ⟨3, ![1, 1, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x256, .f32⟩
  | .hbm, ⟨2, _⟩ => ⟨S4096x704, .f32⟩
  | .hbm, ⟨3, _⟩ => ⟨S4096x64, .f32⟩
  | .hbm, ⟨4, _⟩ => ⟨S4096x64, .f32⟩
  | .hbm, ⟨5, _⟩ => ⟨S64x64, .f32⟩
  | .hbm, ⟨6, _⟩ => ⟨S128, .f32⟩
  | .hbm, ⟨7, _⟩ => ⟨S64, .f32⟩
  | .hbm, ⟨8, _⟩ => ⟨S128, .f32⟩
  | .hbm, ⟨9, _⟩ => ⟨S64, .f32⟩
  | .hbm, ⟨10, _⟩ => ⟨S8x4096x192, .f32⟩
  | .hbm, ⟨11, _⟩ => ⟨S8x4096x192, .f32⟩
  | .hbm, ⟨12, _⟩ => ⟨S8x4096x128, .f32⟩
  | .hbm, ⟨13, _⟩ => ⟨S8x4096x128, .f32⟩
  | .hbm, ⟨14, _⟩ => ⟨S8x4096x64, .f32⟩
  | .hbm, ⟨15, _⟩ => ⟨S8x4096x128, .f32⟩
  | .hbm, ⟨16, _⟩ => ⟨S8x4096x64, .f32⟩
  | .hbm, ⟨17, _⟩ => ⟨S8x4096x128, .f32⟩
  | .hbm, ⟨18, _⟩ => ⟨S8x4096x64, .f32⟩
  | .hbm, ⟨19, _⟩ => ⟨S8x4096x128, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x128, .f32⟩
  | .hbm, ⟨31, _⟩ => ⟨S8x4096x128, .f32⟩
  | .hbm, ⟨32, _⟩ => ⟨S1x1x128, .f32⟩
  | .hbm, ⟨33, _⟩ => ⟨S8x4096x128, .f32⟩
  | .hbm, ⟨34, _⟩ => ⟨S8x4096x128, .f32⟩
  | .hbm, ⟨35, _⟩ => ⟨S8x4096x128, .f32⟩
  | .hbm, ⟨36, _⟩ => ⟨S8x4096x128, .f32⟩
  | .hbm, ⟨37, _⟩ => ⟨S8x4096x128, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x128, .f32⟩
  | .hbm, ⟨53, _⟩ => ⟨S8x4096x128, .f32⟩
  | .hbm, ⟨54, _⟩ => ⟨S1x1x128, .f32⟩
  | .hbm, ⟨55, _⟩ => ⟨S8x4096x128, .f32⟩
  | .hbm, ⟨56, _⟩ => ⟨S8x4096x128, .f32⟩
  | .hbm, ⟨57, _⟩ => ⟨S8x4096x128, .f32⟩
  | .hbm, ⟨58, _⟩ => ⟨S_, .f32⟩
  | .hbm, ⟨59, _⟩ => ⟨S128, .f32⟩
  | .hbm, ⟨60, _⟩ => ⟨S1x1x128, .f32⟩
  | .hbm, ⟨61, _⟩ => ⟨S8x4096x128, .f32⟩
  | .hbm, ⟨62, _⟩ => ⟨S8x4096x128, .f32⟩
  | .hbm, ⟨63, _⟩ => ⟨S_, .f32⟩
  | .hbm, ⟨64, _⟩ => ⟨S128, .f32⟩
  | .hbm, ⟨65, _⟩ => ⟨S8x4096x128, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x128, .f32⟩
  | .hbm, ⟨70, _⟩ => ⟨S8x4096x128, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096, .f32⟩
  | .hbm, ⟨77, _⟩ => ⟨S8x4096x128, .f32⟩
  | .hbm, ⟨78, _⟩ => ⟨S8x4096x128, .f32⟩
  | .hbm, ⟨79, _⟩ => ⟨S8x4096x128, .f32⟩
  | .hbm, ⟨80, _⟩ => ⟨S8x4096x128, .f32⟩
  | .hbm, ⟨81, _⟩ => ⟨S8x4096x128, .f32⟩
  | .hbm, ⟨82, _⟩ => ⟨S8x4096x256, .f32⟩
  | .hbm, ⟨83, _⟩ => ⟨S8x4096x256, .bf16⟩
  | .hbm, ⟨84, _⟩ => ⟨S8x4096x128, .f32⟩
  | .hbm, ⟨85, _⟩ => ⟨S_, .f32⟩
  | .hbm, ⟨86, _⟩ => ⟨S128, .f32⟩
  | .hbm, ⟨87, _⟩ => ⟨S1x1x128, .f32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S1x128, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Kernel40.lean ====
abbrev S8x112x128 : Shape := ⟨3, ![8, 112, 128]⟩
abbrev S1x112x128 : Shape := ⟨3, ![1, 112, 128]⟩
abbrev S8x128 : Shape := ⟨2, ![8, 128]⟩
abbrev S112x128 : Shape := ⟨2, ![112, 128]⟩

abbrev nBuf : Space → Nat
  | .hbm => 13
  | .vmem => 9
  | .smem => 0
  | _ => 0

abbrev bufTy : (tb : Table) → Fin (tcTables nBuf tb) → BufTy
  | .hbm, ⟨0, _⟩ => ⟨S8x112x128, .f32⟩
  | .hbm, ⟨1, _⟩ => ⟨S1x112x128, .f32⟩
  | .hbm, ⟨2, _⟩ => ⟨S1x112x128, .f32⟩
  | .hbm, ⟨3, _⟩ => ⟨S1x112x128, .f32⟩
  | .hbm, ⟨4, _⟩ => ⟨S1x112x128, .f32⟩
  | .hbm, ⟨5, _⟩ => ⟨S1x112x128, .f32⟩
  | .hbm, ⟨6, _⟩ => ⟨S1x112x128, .f32⟩
  | .hbm, ⟨7, _⟩ => ⟨S1x112x128, .f32⟩
  | .hbm, ⟨8, _⟩ => ⟨S1x112x128, .f32⟩
  | .hbm, ⟨9, _⟩ => ⟨S1x112x128, .f32⟩
  | .hbm, ⟨10, _⟩ => ⟨S1x112x128, .f32⟩
  | .hbm, ⟨11, _⟩ => ⟨S1x112x128, .f32⟩
  | .hbm, ⟨12, _⟩ => ⟨S8x128, .f32⟩
  | .local _ .vmem, ⟨0, _⟩ => ⟨S8x112x128, .f32⟩
  | .local _ .vmem, ⟨1, _⟩ => ⟨S1x112x128, .f32⟩
  | .local _ .vmem, ⟨2, _⟩ => ⟨S1x112x128, .f32⟩
  | .local _ .vmem, ⟨3, _⟩ => ⟨S1x112x128, .f32⟩
  | .local _ .vmem, ⟨4, _⟩ => ⟨S1x112x128, .f32⟩
  | .local _ .vmem, ⟨5, _⟩ => ⟨S1x112x128, .f32⟩
  | .local _ .vmem, ⟨6, _⟩ => ⟨S1x112x128, .f32⟩
  | .local _ .vmem, ⟨7, _⟩ => ⟨S1x112x128, .f32⟩
  | .local _ .vmem, ⟨8, _⟩ => ⟨S8x128, .f32⟩
  | _, _ => ⟨S8x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference40Ideal.lean ====
abbrev S8x112x128 : Shape := ⟨3, ![8, 112, 128]⟩
abbrev S1x112x128 : Shape := ⟨3, ![1, 112, 128]⟩
abbrev S_ : Shape := ⟨0, ![]⟩
abbrev S112x128 : Shape := ⟨2, ![112, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x112x128, .f32⟩
  | .hbm, ⟨1, _⟩ => ⟨S1x112x128, .f32⟩
  | .hbm, ⟨2, _⟩ => ⟨S1x112x128, .f32⟩
  | .hbm, ⟨3, _⟩ => ⟨S1x112x128, .f32⟩
  | .hbm, ⟨4, _⟩ => ⟨S1x112x128, .f32⟩
  | .hbm, ⟨5, _⟩ => ⟨S1x112x128, .f32⟩
  | .hbm, ⟨6, _⟩ => ⟨S1x112x128, .f32⟩
  | .hbm, ⟨7, _⟩ => ⟨S1x112x128, .f32⟩
  | .hbm, ⟨8, _⟩ => ⟨S_, .f32⟩
  | .hbm, ⟨9, _⟩ => ⟨S112x128, .f32⟩
  | .hbm, ⟨10, _⟩ => ⟨S1x112x128, .f32⟩
  | .hbm, ⟨11, _⟩ => ⟨S_, .f32⟩
  | .hbm, ⟨12, _⟩ => ⟨S1x112x128, .f32⟩
  | .hbm, ⟨13, _⟩ => ⟨S1x112x128, .f32⟩
  | .hbm, ⟨14, _⟩ => ⟨S_, .f32⟩
  | .hbm, ⟨15, _⟩ => ⟨S1x112x128, .f32⟩
  | .hbm, ⟨16, _⟩ => ⟨S1x112x128, .f32⟩
  | .hbm, ⟨17, _⟩ => ⟨S1x112x128, .f32⟩
  | .hbm, ⟨18, _⟩ => ⟨S_, .f32⟩
  | .hbm, ⟨19, _⟩ => ⟨S1x112x128, .f32⟩
  | .hbm, ⟨20, _⟩ => ⟨S1x112x128, .f32⟩
  | .hbm, ⟨21, _⟩ => ⟨S1x112x128, .f32⟩
  | .hbm, ⟨22, _⟩ => ⟨S_, .f32⟩
  | .hbm, ⟨23, _⟩ => ⟨S1x112x128, .f32⟩
  | .hbm, ⟨24, _⟩ => ⟨S1x112x128, .f32⟩
  | .hbm, ⟨25, _⟩ => ⟨S1x112x128, .f32⟩
  | .hbm, ⟨26, _⟩ => ⟨S_, .f32⟩
  | .hbm, ⟨27, _⟩ => ⟨S1x112x128, .f32⟩
  | .hbm, ⟨28, _⟩ => ⟨S1x112x128, .f32⟩
  | .hbm, ⟨29, _⟩ => ⟨S_, .f32⟩
  | .hbm, ⟨30, _⟩ => ⟨S1x112x128, .f32⟩
  | .hbm, ⟨31, _⟩ => ⟨S1x112x128, .f32⟩
  | .hbm, ⟨32, _⟩ => ⟨S1x112x128, .f32⟩
  | .hbm, ⟨33, _⟩ => ⟨S_, .f32⟩
  | .hbm, ⟨34, _⟩ => ⟨S1x112x128, .f32⟩
  | .hbm, ⟨35, _⟩ => ⟨S1x112x128, .f32⟩
  | .hbm, ⟨36, _⟩ => ⟨S1x112x128, .f32⟩
  | .hbm, ⟨37, _⟩ => ⟨S_, .f32⟩
  | .hbm, ⟨38, _⟩ => ⟨S1x112x128, .f32⟩
  | .hbm, ⟨39, _⟩ => ⟨S1x112x128, .f32⟩
  | .hbm, ⟨40, _⟩ => ⟨S1x112x128, .f32⟩
  | .hbm, ⟨41, _⟩ => ⟨S_, .f32⟩
  | .hbm, ⟨42, _⟩ => ⟨S1x112x128, .f32⟩
  | .hbm, ⟨43, _⟩ => ⟨S1x112x128, .f32⟩
  | _, _ => ⟨S8x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel41.lean ====
abbrev S8x2064x128 : Shape := ⟨3, ![8, 2064, 128]⟩
abbrev S1x2064x128 : Shape := ⟨3, ![1, 2064, 128]⟩
abbrev S8x128 : Shape := ⟨2, ![8, 128]⟩
abbrev S8x1032x128 : Shape := ⟨3, ![8, 1032, 128]⟩
abbrev S1x1032x128 : Shape := ⟨3, ![1, 1032, 128]⟩
abbrev S1032x128 : Shape := ⟨2, ![1032, 128]⟩

abbrev nBuf : Space → Nat
  | .hbm => 13
  | .vmem => 17
  | .smem => 0
  | _ => 0

abbrev bufTy : (tb : Table) → Fin (tcTables nBuf tb) → BufTy
  | .hbm, ⟨0, _⟩ => ⟨S8x2064x128, .f32⟩
  | .hbm, ⟨1, _⟩ => ⟨S1x2064x128, .f32⟩
  | .hbm, ⟨2, _⟩ => ⟨S1x2064x128, .f32⟩
  | .hbm, ⟨3, _⟩ => ⟨S1x2064x128, .f32⟩
  | .hbm, ⟨4, _⟩ => ⟨S1x2064x128, .f32⟩
  | .hbm, ⟨5, _⟩ => ⟨S1x2064x128, .f32⟩
  | .hbm, ⟨6, _⟩ => ⟨S1x2064x128, .f32⟩
  | .hbm, ⟨7, _⟩ => ⟨S1x2064x128, .f32⟩
  | .hbm, ⟨8, _⟩ => ⟨S1x2064x128, .f32⟩
  | .hbm, ⟨9, _⟩ => ⟨S1x2064x128, .f32⟩
  | .hbm, ⟨10, _⟩ => ⟨S1x2064x128, .f32⟩
  | .hbm, ⟨11, _⟩ => ⟨S1x2064x128, .f32⟩
  | .hbm, ⟨12, _⟩ => ⟨S8x128, .f32⟩
  | .local _ .vmem, ⟨0, _⟩ => ⟨S8x1032x128, .f32⟩
  | .local _ .vmem, ⟨1, _⟩ => ⟨S8x1032x128, .f32⟩
  | .local _ .vmem, ⟨2, _⟩ => ⟨S1x1032x128, .f32⟩
  | .local _ .vmem, ⟨3, _⟩ => ⟨S1x1032x128, .f32⟩
  | .local _ .vmem, ⟨4, _⟩ => ⟨S1x1032x128, .f32⟩
  | .local _ .vmem, ⟨5, _⟩ => ⟨S1x1032x128, .f32⟩
  | .local _ .vmem, ⟨6, _⟩ => ⟨S1x1032x128, .f32⟩
  | .local _ .vmem, ⟨7, _⟩ => ⟨S1x1032x128, .f32⟩
  | .local _ .vmem, ⟨8, _⟩ => ⟨S1x1032x128, .f32⟩
  | .local _ .vmem, ⟨9, _⟩ => ⟨S1x1032x128, .f32⟩
  | .local _ .vmem, ⟨10, _⟩ => ⟨S1x1032x128, .f32⟩
  | .local _ .vmem, ⟨11, _⟩ => ⟨S1x1032x128, .f32⟩
  | .local _ .vmem, ⟨12, _⟩ => ⟨S1x1032x128, .f32⟩
  | .local _ .vmem, ⟨13, _⟩ => ⟨S1x1032x128, .f32⟩
  | .local _ .vmem, ⟨14, _⟩ => ⟨S1x1032x128, .f32⟩
  | .local _ .vmem, ⟨15, _⟩ => ⟨S1x1032x128, .f32⟩
  | .local _ .vmem, ⟨16, _⟩ => ⟨S8x128, .f32⟩
  | _, _ => ⟨S8x2064x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1032x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1032x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1032x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1032x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1032x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1032x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1032x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1032x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference41Ideal.lean ====
abbrev S8x2064x128 : Shape := ⟨3, ![8, 2064, 128]⟩
abbrev S1x2064x128 : Shape := ⟨3, ![1, 2064, 128]⟩
abbrev S_ : Shape := ⟨0, ![]⟩
abbrev S2064x128 : Shape := ⟨2, ![2064, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x2064x128, .f32⟩
  | .hbm, ⟨1, _⟩ => ⟨S1x2064x128, .f32⟩
  | .hbm, ⟨2, _⟩ => ⟨S1x2064x128, .f32⟩
  | .hbm, ⟨3, _⟩ => ⟨S1x2064x128, .f32⟩
  | .hbm, ⟨4, _⟩ => ⟨S1x2064x128, .f32⟩
  | .hbm, ⟨5, _⟩ => ⟨S1x2064x128, .f32⟩
  | .hbm, ⟨6, _⟩ => ⟨S1x2064x128, .f32⟩
  | .hbm, ⟨7, _⟩ => ⟨S1x2064x128, .f32⟩
  | .hbm, ⟨8, _⟩ => ⟨S_, .f32⟩
  | .hbm, ⟨9, _⟩ => ⟨S2064x128, .f32⟩
  | .hbm, ⟨10, _⟩ => ⟨S1x2064x128, .f32⟩
  | .hbm, ⟨11, _⟩ => ⟨S_, .f32⟩
  | .hbm, ⟨12, _⟩ => ⟨S1x2064x128, .f32⟩
  | .hbm, ⟨13, _⟩ => ⟨S1x2064x128, .f32⟩
  | .hbm, ⟨14, _⟩ => ⟨S_, .f32⟩
  | .hbm, ⟨15, _⟩ => ⟨S1x2064x128, .f32⟩
  | .hbm, ⟨16, _⟩ => ⟨S1x2064x128, .f32⟩
  | .hbm, ⟨17, _⟩ => ⟨S1x2064x128, .f32⟩
  | .hbm, ⟨18, _⟩ => ⟨S_, .f32⟩
  | .hbm, ⟨19, _⟩ => ⟨S1x2064x128, .f32⟩
  | .hbm, ⟨20, _⟩ => ⟨S1x2064x128, .f32⟩
  | .hbm, ⟨21, _⟩ => ⟨S1x2064x128, .f32⟩
  | .hbm, ⟨22, _⟩ => ⟨S_, .f32⟩
  | .hbm, ⟨23, _⟩ => ⟨S1x2064x128, .f32⟩
  | .hbm, ⟨24, _⟩ => ⟨S1x2064x128, .f32⟩
  | .hbm, ⟨25, _⟩ => ⟨S1x2064x128, .f32⟩
  | .hbm, ⟨26, _⟩ => ⟨S_, .f32⟩
  | .hbm, ⟨27, _⟩ => ⟨S1x2064x128, .f32⟩
  | .hbm, ⟨28, _⟩ => ⟨S1x2064x128, .f32⟩
  | .hbm, ⟨29, _⟩ => ⟨S_, .f32⟩
  | .hbm, ⟨30, _⟩ => ⟨S1x2064x128, .f32⟩
  | .hbm, ⟨31, _⟩ => ⟨S1x2064x128, .f32⟩
  | .hbm, ⟨32, _⟩ => ⟨S1x2064x128, .f32⟩
  | .hbm, ⟨33, _⟩ => ⟨S_, .f32⟩
  | .hbm, ⟨34, _⟩ => ⟨S1x2064x128, .f32⟩
  | .hbm, ⟨35, _⟩ => ⟨S1x2064x128, .f32⟩
  | .hbm, ⟨36, _⟩ => ⟨S1x2064x128, .f32⟩
  | .hbm, ⟨37, _⟩ => ⟨S_, .f32⟩
  | .hbm, ⟨38, _⟩ => ⟨S1x2064x128, .f32⟩
  | .hbm, ⟨39, _⟩ => ⟨S1x2064x128, .f32⟩
  | .hbm, ⟨40, _⟩ => ⟨S1x2064x128, .f32⟩
  | .hbm, ⟨41, _⟩ => ⟨S_, .f32⟩
  | .hbm, ⟨42, _⟩ => ⟨S1x2064x128, .f32⟩
  | .hbm, ⟨43, _⟩ => ⟨S1x2064x128, .f32⟩
  | _, _ => ⟨S8x2064x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel42.lean ====
abbrev S8x1024x512 : Shape := ⟨3, ![8, 1024, 512]⟩
abbrev S4x1024x512 : Shape := ⟨3, ![4, 1024, 512]⟩
abbrev S8x128 : Shape := ⟨2, ![8, 128]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 13
  | .vmem => 17
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S8x128, .f32⟩
  | .local _ .vmem, ⟨0, _⟩ => ⟨S8x512x512, .bf16⟩
  | .local _ .vmem, ⟨1, _⟩ => ⟨S8x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x128, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference42Ideal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩
abbrev S3x1024x512 : Shape := ⟨3, ![3, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S1x1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S3x1024x512, .f32⟩
  | .hbm, ⟨52, _⟩ => ⟨S4x1024x512, .f32⟩
  | .hbm, ⟨53, _⟩ => ⟨S1x1024x512, .f32⟩
  | .hbm, ⟨54, _⟩ => ⟨S3x1024x512, .f32⟩
  | .hbm, ⟨55, _⟩ => ⟨S4x1024x512, .f32⟩
  | .hbm, ⟨56, _⟩ => ⟨S1x1024x512, .f32⟩
  | .hbm, ⟨57, _⟩ => ⟨S3x1024x512, .f32⟩
  | .hbm, ⟨58, _⟩ => ⟨S4x1024x512, .f32⟩
  | .hbm, ⟨59, _⟩ => ⟨S1x1024x512, .f32⟩
  | .hbm, ⟨60, _⟩ => ⟨S3x1024x512, .f32⟩
  | .hbm, ⟨61, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel43.lean ====
abbrev S8x512x1024 : Shape := ⟨3, ![8, 512, 1024]⟩
abbrev S4x512x1024 : Shape := ⟨3, ![4, 512, 1024]⟩
abbrev S8x128 : Shape := ⟨2, ![8, 128]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 13
  | .vmem => 17
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x512x1024, .f32⟩
  | .hbm, ⟨12, _⟩ => ⟨S8x128, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S8x128, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference43Ideal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩
abbrev S3x512x1024 : Shape := ⟨3, ![3, 512, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | .hbm, ⟨50, _⟩ => ⟨S1x512x1024, .f32⟩
  | .hbm, ⟨51, _⟩ => ⟨S3x512x1024, .f32⟩
  | .hbm, ⟨52, _⟩ => ⟨S4x512x1024, .f32⟩
  | .hbm, ⟨53, _⟩ => ⟨S1x512x1024, .f32⟩
  | .hbm, ⟨54, _⟩ => ⟨S3x512x1024, .f32⟩
  | .hbm, ⟨55, _⟩ => ⟨S4x512x1024, .f32⟩
  | .hbm, ⟨56, _⟩ => ⟨S1x512x1024, .f32⟩
  | .hbm, ⟨57, _⟩ => ⟨S3x512x1024, .f32⟩
  | .hbm, ⟨58, _⟩ => ⟨S4x512x1024, .f32⟩
  | .hbm, ⟨59, _⟩ => ⟨S1x512x1024, .f32⟩
  | .hbm, ⟨60, _⟩ => ⟨S3x512x1024, .f32⟩
  | .hbm, ⟨61, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel44.lean ====
abbrev S8x128x1024 : Shape := ⟨3, ![8, 128, 1024]⟩
abbrev S4x128x1024 : Shape := ⟨3, ![4, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S8x128, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference44Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S3x128x1024, .f32⟩
  | .hbm, ⟨52, _⟩ => ⟨S4x128x1024, .f32⟩
  | .hbm, ⟨53, _⟩ => ⟨S1x128x1024, .f32⟩
  | .hbm, ⟨54, _⟩ => ⟨S3x128x1024, .f32⟩
  | .hbm, ⟨55, _⟩ => ⟨S4x128x1024, .f32⟩
  | .hbm, ⟨56, _⟩ => ⟨S1x128x1024, .f32⟩
  | .hbm, ⟨57, _⟩ => ⟨S3x128x1024, .f32⟩
  | .hbm, ⟨58, _⟩ => ⟨S4x128x1024, .f32⟩
  | .hbm, ⟨59, _⟩ => ⟨S1x128x1024, .f32⟩
  | .hbm, ⟨60, _⟩ => ⟨S3x128x1024, .f32⟩
  | .hbm, ⟨61, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel45.lean ====
abbrev S8x256x128 : Shape := ⟨3, ![8, 256, 128]⟩
abbrev S4x256x128 : Shape := ⟨3, ![4, 256, 128]⟩
abbrev S8x128 : Shape := ⟨2, ![8, 128]⟩
abbrev S1x256x128 : Shape := ⟨3, ![1, 256, 128]⟩
abbrev S256x128 : Shape := ⟨2, ![256, 128]⟩

abbrev nBuf : Space → Nat
  | .hbm => 13
  | .vmem => 9
  | .smem => 0
  | _ => 0

abbrev bufTy : (tb : Table) → Fin (tcTables nBuf tb) → BufTy
  | .hbm, ⟨0, _⟩ => ⟨S8x256x128, .bf16⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S4x256x128, .f32⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S4x256x128, .f32⟩
  | .hbm, ⟨12, _⟩ => ⟨S8x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S8x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference45Ideal.lean ====
abbrev S8x256x128 : Shape := ⟨3, ![8, 256, 128]⟩
abbrev S4x256x128 : Shape := ⟨3, ![4, 256, 128]⟩
abbrev S_ : Shape := ⟨0, ![]⟩
abbrev S256x128 : Shape := ⟨2, ![256, 128]⟩
abbrev S1x256x128 : Shape := ⟨3, ![1, 256, 128]⟩
abbrev S3x256x128 : Shape := ⟨3, ![3, 256, 128]⟩

abbrev nBuf : Space → Nat
  | .hbm => 62
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S4x256x128, .f32⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S256x128, .f32⟩
  | .hbm, ⟨13, _⟩ => ⟨S1x256x128, .f32⟩
  | .hbm, ⟨14, _⟩ => ⟨S256x128, .f32⟩
  | .hbm, ⟨15, _⟩ => ⟨S1x256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S_, .f32⟩
  | .hbm, ⟨48, _⟩ => ⟨S256x128, .f32⟩
  | .hbm, ⟨49, _⟩ => ⟨S256x128, .f32⟩
  | .hbm, ⟨50, _⟩ => ⟨S1x256x128, .f32⟩
  | .hbm, ⟨51, _⟩ => ⟨S3x256x128, .f32⟩
  | .hbm, ⟨52, _⟩ => ⟨S4x256x128, .f32⟩
  | .hbm, ⟨53, _⟩ => ⟨S1x256x128, .f32⟩
  | .hbm, ⟨54, _⟩ => ⟨S3x256x128, .f32⟩
  | .hbm, ⟨55, _⟩ => ⟨S4x256x128, .f32⟩
  | .hbm, ⟨56, _⟩ => ⟨S1x256x128, .f32⟩
  | .hbm, ⟨57, _⟩ => ⟨S3x256x128, .f32⟩
  | .hbm, ⟨58, _⟩ => ⟨S4x256x128, .f32⟩
  | .hbm, ⟨59, _⟩ => ⟨S1x256x128, .f32⟩
  | .hbm, ⟨60, _⟩ => ⟨S3x256x128, .f32⟩
  | .hbm, ⟨61, _⟩ => ⟨S4x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel46.lean ====
abbrev S8x128x704 : Shape := ⟨3, ![8, 128, 704]⟩
abbrev S2x128x704 : Shape := ⟨3, ![2, 128, 704]⟩
abbrev S8x128 : Shape := ⟨2, ![8, 128]⟩
abbrev S1x128x704 : Shape := ⟨3, ![1, 128, 704]⟩
abbrev S128x704 : Shape := ⟨2, ![128, 704]⟩

abbrev nBuf : Space → Nat
  | .hbm => 13
  | .vmem => 9
  | .smem => 0
  | _ => 0

abbrev bufTy : (tb : Table) → Fin (tcTables nBuf tb) → BufTy
  | .hbm, ⟨0, _⟩ => ⟨S8x128x704, .bf16⟩
  | .hbm, ⟨1, _⟩ => ⟨S2x128x704, .f32⟩
  | .hbm, ⟨2, _⟩ => ⟨S2x128x704, .f32⟩
  | .hbm, ⟨3, _⟩ => ⟨S2x128x704, .f32⟩
  | .hbm, ⟨4, _⟩ => ⟨S2x128x704, .f32⟩
  | .hbm, ⟨5, _⟩ => ⟨S2x128x704, .f32⟩
  | .hbm, ⟨6, _⟩ => ⟨S2x128x704, .f32⟩
  | .hbm, ⟨7, _⟩ => ⟨S2x128x704, .f32⟩
  | .hbm, ⟨8, _⟩ => ⟨S2x128x704, .f32⟩
  | .hbm, ⟨9, _⟩ => ⟨S2x128x704, .f32⟩
  | .hbm, ⟨10, _⟩ => ⟨S2x128x704, .f32⟩
  | .hbm, ⟨11, _⟩ => ⟨S2x128x704, .f32⟩
  | .hbm, ⟨12, _⟩ => ⟨S8x128, .f32⟩
  | .local _ .vmem, ⟨0, _⟩ => ⟨S8x128x704, .bf16⟩
  | .local _ .vmem, ⟨1, _⟩ => ⟨S1x128x704, .f32⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S8x128, .f32⟩
  | _, _ => ⟨S8x128x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference46Ideal.lean ====
abbrev S8x128x704 : Shape := ⟨3, ![8, 128, 704]⟩
abbrev S2x128x704 : Shape := ⟨3, ![2, 128, 704]⟩
abbrev S_ : Shape := ⟨0, ![]⟩
abbrev S128x704 : Shape := ⟨2, ![128, 704]⟩
abbrev S1x128x704 : Shape := ⟨3, ![1, 128, 704]⟩

abbrev nBuf : Space → Nat
  | .hbm => 62
  | .vmem => 0
  | .smem => 0
  | _ => 0

abbrev bufTy : (tb : Table) → Fin (tcTables nBuf tb) → BufTy
  | .hbm, ⟨0, _⟩ => ⟨S8x128x704, .bf16⟩
  | .hbm, ⟨1, _⟩ => ⟨S2x128x704, .f32⟩
  | .hbm, ⟨2, _⟩ => ⟨S2x128x704, .f32⟩
  | .hbm, ⟨3, _⟩ => ⟨S2x128x704, .f32⟩
  | .hbm, ⟨4, _⟩ => ⟨S2x128x704, .f32⟩
  | .hbm, ⟨5, _⟩ => ⟨S2x128x704, .f32⟩
  | .hbm, ⟨6, _⟩ => ⟨S2x128x704, .f32⟩
  | .hbm, ⟨7, _⟩ => ⟨S2x128x704, .f32⟩
  | .hbm, ⟨8, _⟩ => ⟨S8x128x704, .f32⟩
  | .hbm, ⟨9, _⟩ => ⟨S_, .f32⟩
  | .hbm, ⟨10, _⟩ => ⟨S128x704, .f32⟩
  | .hbm, ⟨11, _⟩ => ⟨S1x128x704, .f32⟩
  | .hbm, ⟨12, _⟩ => ⟨S128x704, .f32⟩
  | .hbm, ⟨13, _⟩ => ⟨S1x128x704, .f32⟩
  | .hbm, ⟨14, _⟩ => ⟨S128x704, .f32⟩
  | .hbm, ⟨15, _⟩ => ⟨S1x128x704, .f32⟩
  | .hbm, ⟨16, _⟩ => ⟨S128x704, .f32⟩
  | .hbm, ⟨17, _⟩ => ⟨S_, .f32⟩
  | .hbm, ⟨18, _⟩ => ⟨S128x704, .f32⟩
  | .hbm, ⟨19, _⟩ => ⟨S128x704, .f32⟩
  | .hbm, ⟨20, _⟩ => ⟨S_, .f32⟩
  | .hbm, ⟨21, _⟩ => ⟨S128x704, .f32⟩
  | .hbm, ⟨22, _⟩ => ⟨S128x704, .f32⟩
  | .hbm, ⟨23, _⟩ => ⟨S128x704, .f32⟩
  | .hbm, ⟨24, _⟩ => ⟨S_, .f32⟩
  | .hbm, ⟨25, _⟩ => ⟨S128x704, .f32⟩
  | .hbm, ⟨26, _⟩ => ⟨S128x704, .f32⟩
  | .hbm, ⟨27, _⟩ => ⟨S128x704, .f32⟩
  | .hbm, ⟨28, _⟩ => ⟨S_, .f32⟩
  | .hbm, ⟨29, _⟩ => ⟨S128x704, .f32⟩
  | .hbm, ⟨30, _⟩ => ⟨S128x704, .f32⟩
  | .hbm, ⟨31, _⟩ => ⟨S128x704, .f32⟩
  | .hbm, ⟨32, _⟩ => ⟨S_, .f32⟩
  | .hbm, ⟨33, _⟩ => ⟨S128x704, .f32⟩
  | .hbm, ⟨34, _⟩ => ⟨S128x704, .f32⟩
  | .hbm, ⟨35, _⟩ => ⟨S_, .f32⟩
  | .hbm, ⟨36, _⟩ => ⟨S128x704, .f32⟩
  | .hbm, ⟨37, _⟩ => ⟨S128x704, .f32⟩
  | .hbm, ⟨38, _⟩ => ⟨S128x704, .f32⟩
  | .hbm, ⟨39, _⟩ => ⟨S_, .f32⟩
  | .hbm, ⟨40, _⟩ => ⟨S128x704, .f32⟩
  | .hbm, ⟨41, _⟩ => ⟨S128x704, .f32⟩
  | .hbm, ⟨42, _⟩ => ⟨S128x704, .f32⟩
  | .hbm, ⟨43, _⟩ => ⟨S_, .f32⟩
  | .hbm, ⟨44, _⟩ => ⟨S128x704, .f32⟩
  | .hbm, ⟨45, _⟩ => ⟨S128x704, .f32⟩
  | .hbm, ⟨46, _⟩ => ⟨S128x704, .f32⟩
  | .hbm, ⟨47, _⟩ => ⟨S_, .f32⟩
  | .hbm, ⟨48, _⟩ => ⟨S128x704, .f32⟩
  | .hbm, ⟨49, _⟩ => ⟨S128x704, .f32⟩
  | .hbm, ⟨50, _⟩ => ⟨S1x128x704, .f32⟩
  | .hbm, ⟨51, _⟩ => ⟨S1x128x704, .f32⟩
  | .hbm, ⟨52, _⟩ => ⟨S2x128x704, .f32⟩
  | .hbm, ⟨53, _⟩ => ⟨S1x128x704, .f32⟩
  | .hbm, ⟨54, _⟩ => ⟨S1x128x704, .f32⟩
  | .hbm, ⟨55, _⟩ => ⟨S2x128x704, .f32⟩
  | .hbm, ⟨56, _⟩ => ⟨S1x128x704, .f32⟩
  | .hbm, ⟨57, _⟩ => ⟨S1x128x704, .f32⟩
  | .hbm, ⟨58, _⟩ => ⟨S2x128x704, .f32⟩
  | .hbm, ⟨59, _⟩ => ⟨S1x128x704, .f32⟩
  | .hbm, ⟨60, _⟩ => ⟨S1x128x704, .f32⟩
  | .hbm, ⟨61, _⟩ => ⟨S2x128x704, .f32⟩
  | _, _ => ⟨S8x128x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel47.lean ====
abbrev S8x384x192 : Shape := ⟨3, ![8, 384, 192]⟩
abbrev S2x384x192 : Shape := ⟨3, ![2, 384, 192]⟩
abbrev S8x128 : Shape := ⟨2, ![8, 128]⟩
abbrev S1x384x192 : Shape := ⟨3, ![1, 384, 192]⟩
abbrev S384x192 : Shape := ⟨2, ![384, 192]⟩

abbrev nBuf : Space → Nat
  | .hbm => 13
  | .vmem => 9
  | .smem => 0
  | _ => 0

abbrev bufTy : (tb : Table) → Fin (tcTables nBuf tb) → BufTy
  | .hbm, ⟨0, _⟩ => ⟨S8x384x192, .bf16⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S2x384x192, .f32⟩
  | .hbm, ⟨5, _⟩ => ⟨S2x384x192, .f32⟩
  | .hbm, ⟨6, _⟩ => ⟨S2x384x192, .f32⟩
  | .hbm, ⟨7, _⟩ => ⟨S2x384x192, .f32⟩
  | .hbm, ⟨8, _⟩ => ⟨S2x384x192, .f32⟩
  | .hbm, ⟨9, _⟩ => ⟨S2x384x192, .f32⟩
  | .hbm, ⟨10, _⟩ => ⟨S2x384x192, .f32⟩
  | .hbm, ⟨11, _⟩ => ⟨S2x384x192, .f32⟩
  | .hbm, ⟨12, _⟩ => ⟨S8x128, .f32⟩
  | .local _ .vmem, ⟨0, _⟩ => ⟨S8x384x192, .bf16⟩
  | .local _ .vmem, ⟨1, _⟩ => ⟨S1x384x192, .f32⟩
  | .local _ .vmem, ⟨2, _⟩ => ⟨S1x384x192, .f32⟩
  | .local _ .vmem, ⟨3, _⟩ => ⟨S1x384x192, .f32⟩
  | .local _ .vmem, ⟨4, _⟩ => ⟨S1x384x192, .f32⟩
  | .local _ .vmem, ⟨5, _⟩ => ⟨S1x384x192, .f32⟩
  | .local _ .vmem, ⟨6, _⟩ => ⟨S1x384x192, .f32⟩
  | .local _ .vmem, ⟨7, _⟩ => ⟨S1x384x192, .f32⟩
  | .local _ .vmem, ⟨8, _⟩ => ⟨S8x128, .f32⟩
  | _, _ => ⟨S8x384x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x384x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x384x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x384x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x384x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x384x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x384x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x384x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x384x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference47Ideal.lean ====
abbrev S8x384x192 : Shape := ⟨3, ![8, 384, 192]⟩
abbrev S2x384x192 : Shape := ⟨3, ![2, 384, 192]⟩
abbrev S_ : Shape := ⟨0, ![]⟩
abbrev S384x192 : Shape := ⟨2, ![384, 192]⟩
abbrev S1x384x192 : Shape := ⟨3, ![1, 384, 192]⟩

abbrev nBuf : Space → Nat
  | .hbm => 62
  | .vmem => 0
  | .smem => 0
  | _ => 0

abbrev bufTy : (tb : Table) → Fin (tcTables nBuf tb) → BufTy
  | .hbm, ⟨0, _⟩ => ⟨S8x384x192, .bf16⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S2x384x192, .f32⟩
  | .hbm, ⟨5, _⟩ => ⟨S2x384x192, .f32⟩
  | .hbm, ⟨6, _⟩ => ⟨S2x384x192, .f32⟩
  | .hbm, ⟨7, _⟩ => ⟨S2x384x192, .f32⟩
  | .hbm, ⟨8, _⟩ => ⟨S8x384x192, .f32⟩
  | .hbm, ⟨9, _⟩ => ⟨S_, .f32⟩
  | .hbm, ⟨10, _⟩ => ⟨S384x192, .f32⟩
  | .hbm, ⟨11, _⟩ => ⟨S1x384x192, .f32⟩
  | .hbm, ⟨12, _⟩ => ⟨S384x192, .f32⟩
  | .hbm, ⟨13, _⟩ => ⟨S1x384x192, .f32⟩
  | .hbm, ⟨14, _⟩ => ⟨S384x192, .f32⟩
  | .hbm, ⟨15, _⟩ => ⟨S1x384x192, .f32⟩
  | .hbm, ⟨16, _⟩ => ⟨S384x192, .f32⟩
  | .hbm, ⟨17, _⟩ => ⟨S_, .f32⟩
  | .hbm, ⟨18, _⟩ => ⟨S384x192, .f32⟩
  | .hbm, ⟨19, _⟩ => ⟨S384x192, .f32⟩
  | .hbm, ⟨20, _⟩ => ⟨S_, .f32⟩
  | .hbm, ⟨21, _⟩ => ⟨S384x192, .f32⟩
  | .hbm, ⟨22, _⟩ => ⟨S384x192, .f32⟩
  | .hbm, ⟨23, _⟩ => ⟨S384x192, .f32⟩
  | .hbm, ⟨24, _⟩ => ⟨S_, .f32⟩
  | .hbm, ⟨25, _⟩ => ⟨S384x192, .f32⟩
  | .hbm, ⟨26, _⟩ => ⟨S384x192, .f32⟩
  | .hbm, ⟨27, _⟩ => ⟨S384x192, .f32⟩
  | .hbm, ⟨28, _⟩ => ⟨S_, .f32⟩
  | .hbm, ⟨29, _⟩ => ⟨S384x192, .f32⟩
  | .hbm, ⟨30, _⟩ => ⟨S384x192, .f32⟩
  | .hbm, ⟨31, _⟩ => ⟨S384x192, .f32⟩
  | .hbm, ⟨32, _⟩ => ⟨S_, .f32⟩
  | .hbm, ⟨33, _⟩ => ⟨S384x192, .f32⟩
  | .hbm, ⟨34, _⟩ => ⟨S384x192, .f32⟩
  | .hbm, ⟨35, _⟩ => ⟨S_, .f32⟩
  | .hbm, ⟨36, _⟩ => ⟨S384x192, .f32⟩
  | .hbm, ⟨37, _⟩ => ⟨S384x192, .f32⟩
  | .hbm, ⟨38, _⟩ => ⟨S384x192, .f32⟩
  | .hbm, ⟨39, _⟩ => ⟨S_, .f32⟩
  | .hbm, ⟨40, _⟩ => ⟨S384x192, .f32⟩
  | .hbm, ⟨41, _⟩ => ⟨S384x192, .f32⟩
  | .hbm, ⟨42, _⟩ => ⟨S384x192, .f32⟩
  | .hbm, ⟨43, _⟩ => ⟨S_, .f32⟩
  | .hbm, ⟨44, _⟩ => ⟨S384x192, .f32⟩
  | .hbm, ⟨45, _⟩ => ⟨S384x192, .f32⟩
  | .hbm, ⟨46, _⟩ => ⟨S384x192, .f32⟩
  | .hbm, ⟨47, _⟩ => ⟨S_, .f32⟩
  | .hbm, ⟨48, _⟩ => ⟨S384x192, .f32⟩
  | .hbm, ⟨49, _⟩ => ⟨S384x192, .f32⟩
  | .hbm, ⟨50, _⟩ => ⟨S1x384x192, .f32⟩
  | .hbm, ⟨51, _⟩ => ⟨S1x384x192, .f32⟩
  | .hbm, ⟨52, _⟩ => ⟨S2x384x192, .f32⟩
  | .hbm, ⟨53, _⟩ => ⟨S1x384x192, .f32⟩
  | .hbm, ⟨54, _⟩ => ⟨S1x384x192, .f32⟩
  | .hbm, ⟨55, _⟩ => ⟨S2x384x192, .f32⟩
  | .hbm, ⟨56, _⟩ => ⟨S1x384x192, .f32⟩
  | .hbm, ⟨57, _⟩ => ⟨S1x384x192, .f32⟩
  | .hbm, ⟨58, _⟩ => ⟨S2x384x192, .f32⟩
  | .hbm, ⟨59, _⟩ => ⟨S1x384x192, .f32⟩
  | .hbm, ⟨60, _⟩ => ⟨S1x384x192, .f32⟩
  | .hbm, ⟨61, _⟩ => ⟨S2x384x192, .f32⟩
  | _, _ => ⟨S8x384x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel48.lean ====
abbrev S8x256x256 : Shape := ⟨3, ![8, 256, 256]⟩
abbrev S2x256x256 : Shape := ⟨3, ![2, 256, 256]⟩
abbrev S8x128 : Shape := ⟨2, ![8, 128]⟩
abbrev S1x256x256 : Shape := ⟨3, ![1, 256, 256]⟩
abbrev S256x256 : Shape := ⟨2, ![256, 256]⟩

abbrev nBuf : Space → Nat
  | .hbm => 13
  | .vmem => 9
  | .smem => 0
  | _ => 0

abbrev bufTy : (tb : Table) → Fin (tcTables nBuf tb) → BufTy
  | .hbm, ⟨0, _⟩ => ⟨S8x256x256, .bf16⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S2x256x256, .f32⟩
  | .hbm, ⟨12, _⟩ => ⟨S8x128, .f32⟩
  | .local _ .vmem, ⟨0, _⟩ => ⟨S8x256x256, .bf16⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S8x128, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference48Ideal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S1x256x256, .f32⟩
  | .hbm, ⟨12, _⟩ => ⟨S256x256, .f32⟩
  | .hbm, ⟨13, _⟩ => ⟨S1x256x256, .f32⟩
  | .hbm, ⟨14, _⟩ => ⟨S256x256, .f32⟩
  | .hbm, ⟨15, _⟩ => ⟨S1x256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S1x256x256, .f32⟩
  | .hbm, ⟨51, _⟩ => ⟨S1x256x256, .f32⟩
  | .hbm, ⟨52, _⟩ => ⟨S2x256x256, .f32⟩
  | .hbm, ⟨53, _⟩ => ⟨S1x256x256, .f32⟩
  | .hbm, ⟨54, _⟩ => ⟨S1x256x256, .f32⟩
  | .hbm, ⟨55, _⟩ => ⟨S2x256x256, .f32⟩
  | .hbm, ⟨56, _⟩ => ⟨S1x256x256, .f32⟩
  | .hbm, ⟨57, _⟩ => ⟨S1x256x256, .f32⟩
  | .hbm, ⟨58, _⟩ => ⟨S2x256x256, .f32⟩
  | .hbm, ⟨59, _⟩ => ⟨S1x256x256, .f32⟩
  | .hbm, ⟨60, _⟩ => ⟨S1x256x256, .f32⟩
  | .hbm, ⟨61, _⟩ => ⟨S2x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel49.lean ====
abbrev S8x128x1024 : Shape := ⟨3, ![8, 128, 1024]⟩
abbrev S2x128x1024 : Shape := ⟨3, ![2, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S8x128, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference49Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S1x128x1024, .f32⟩
  | .hbm, ⟨52, _⟩ => ⟨S2x128x1024, .f32⟩
  | .hbm, ⟨53, _⟩ => ⟨S1x128x1024, .f32⟩
  | .hbm, ⟨54, _⟩ => ⟨S1x128x1024, .f32⟩
  | .hbm, ⟨55, _⟩ => ⟨S2x128x1024, .f32⟩
  | .hbm, ⟨56, _⟩ => ⟨S1x128x1024, .f32⟩
  | .hbm, ⟨57, _⟩ => ⟨S1x128x1024, .f32⟩
  | .hbm, ⟨58, _⟩ => ⟨S2x128x1024, .f32⟩
  | .hbm, ⟨59, _⟩ => ⟨S1x128x1024, .f32⟩
  | .hbm, ⟨60, _⟩ => ⟨S1x128x1024, .f32⟩
  | .hbm, ⟨61, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel50.lean ====
abbrev S8x1024x512 : Shape := ⟨3, ![8, 1024, 512]⟩
abbrev S2x1024x512 : Shape := ⟨3, ![2, 1024, 512]⟩
abbrev S8x128 : Shape := ⟨2, ![8, 128]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 13
  | .vmem => 17
  | .smem => 0
  | _ => 0

abbrev bufTy : (tb : Table) → Fin (tcTables nBuf tb) → BufTy
  | .hbm, ⟨0, _⟩ => ⟨S8x1024x512, .bf16⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S8x128, .f32⟩
  | .local _ .vmem, ⟨0, _⟩ => ⟨S8x512x512, .bf16⟩
  | .local _ .vmem, ⟨1, _⟩ => ⟨S8x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x128, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference50Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S1x1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S1x1024x512, .f32⟩
  | .hbm, ⟨52, _⟩ => ⟨S2x1024x512, .f32⟩
  | .hbm, ⟨53, _⟩ => ⟨S1x1024x512, .f32⟩
  | .hbm, ⟨54, _⟩ => ⟨S1x1024x512, .f32⟩
  | .hbm, ⟨55, _⟩ => ⟨S2x1024x512, .f32⟩
  | .hbm, ⟨56, _⟩ => ⟨S1x1024x512, .f32⟩
  | .hbm, ⟨57, _⟩ => ⟨S1x1024x512, .f32⟩
  | .hbm, ⟨58, _⟩ => ⟨S2x1024x512, .f32⟩
  | .hbm, ⟨59, _⟩ => ⟨S1x1024x512, .f32⟩
  | .hbm, ⟨60, _⟩ => ⟨S1x1024x512, .f32⟩
  | .hbm, ⟨61, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel51.lean ====
abbrev S8x1x256 : Shape := ⟨3, ![8, 1, 256]⟩
abbrev S2x1x256 : Shape := ⟨3, ![2, 1, 256]⟩
abbrev S8x128 : Shape := ⟨2, ![8, 128]⟩
abbrev S1x1x256 : Shape := ⟨3, ![1, 1, 256]⟩
abbrev S1x256 : Shape := ⟨2, ![1, 256]⟩

abbrev nBuf : Space → Nat
  | .hbm => 13
  | .vmem => 9
  | .smem => 0
  | _ => 0

abbrev bufTy : (tb : Table) → Fin (tcTables nBuf tb) → BufTy
  | .hbm, ⟨0, _⟩ => ⟨S8x1x256, .f32⟩
  | .hbm, ⟨1, _⟩ => ⟨S2x1x256, .f32⟩
  | .hbm, ⟨2, _⟩ => ⟨S2x1x256, .f32⟩
  | .hbm, ⟨3, _⟩ => ⟨S2x1x256, .f32⟩
  | .hbm, ⟨4, _⟩ => ⟨S2x1x256, .f32⟩
  | .hbm, ⟨5, _⟩ => ⟨S2x1x256, .f32⟩
  | .hbm, ⟨6, _⟩ => ⟨S2x1x256, .f32⟩
  | .hbm, ⟨7, _⟩ => ⟨S2x1x256, .f32⟩
  | .hbm, ⟨8, _⟩ => ⟨S2x1x256, .f32⟩
  | .hbm, ⟨9, _⟩ => ⟨S2x1x256, .f32⟩
  | .hbm, ⟨10, _⟩ => ⟨S2x1x256, .f32⟩
  | .hbm, ⟨11, _⟩ => ⟨S2x1x256, .f32⟩
  | .hbm, ⟨12, _⟩ => ⟨S8x128, .f32⟩
  | .local _ .vmem, ⟨0, _⟩ => ⟨S8x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S8x128, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference51Ideal.lean ====
abbrev S8x1x256 : Shape := ⟨3, ![8, 1, 256]⟩
abbrev S2x1x256 : Shape := ⟨3, ![2, 1, 256]⟩
abbrev S_ : Shape := ⟨0, ![]⟩
abbrev S1x256 : Shape := ⟨2, ![1, 256]⟩
abbrev S1x1x256 : Shape := ⟨3, ![1, 1, 256]⟩

abbrev nBuf : Space → Nat
  | .hbm => 61
  | .vmem => 0
  | .smem => 0
  | _ => 0

abbrev bufTy : (tb : Table) → Fin (tcTables nBuf tb) → BufTy
  | .hbm, ⟨0, _⟩ => ⟨S8x1x256, .f32⟩
  | .hbm, ⟨1, _⟩ => ⟨S2x1x256, .f32⟩
  | .hbm, ⟨2, _⟩ => ⟨S2x1x256, .f32⟩
  | .hbm, ⟨3, _⟩ => ⟨S2x1x256, .f32⟩
  | .hbm, ⟨4, _⟩ => ⟨S2x1x256, .f32⟩
  | .hbm, ⟨5, _⟩ => ⟨S2x1x256, .f32⟩
  | .hbm, ⟨6, _⟩ => ⟨S2x1x256, .f32⟩
  | .hbm, ⟨7, _⟩ => ⟨S2x1x256, .f32⟩
  | .hbm, ⟨8, _⟩ => ⟨S_, .f32⟩
  | .hbm, ⟨9, _⟩ => ⟨S1x256, .f32⟩
  | .hbm, ⟨10, _⟩ => ⟨S1x1x256, .f32⟩
  | .hbm, ⟨11, _⟩ => ⟨S1x256, .f32⟩
  | .hbm, ⟨12, _⟩ => ⟨S1x1x256, .f32⟩
  | .hbm, ⟨13, _⟩ => ⟨S1x256, .f32⟩
  | .hbm, ⟨14, _⟩ => ⟨S1x1x256, .f32⟩
  | .hbm, ⟨15, _⟩ => ⟨S1x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S_, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S1x1x256, .f32⟩
  | .hbm, ⟨50, _⟩ => ⟨S1x1x256, .f32⟩
  | .hbm, ⟨51, _⟩ => ⟨S2x1x256, .f32⟩
  | .hbm, ⟨52, _⟩ => ⟨S1x1x256, .f32⟩
  | .hbm, ⟨53, _⟩ => ⟨S1x1x256, .f32⟩
  | .hbm, ⟨54, _⟩ => ⟨S2x1x256, .f32⟩
  | .hbm, ⟨55, _⟩ => ⟨S1x1x256, .f32⟩
  | .hbm, ⟨56, _⟩ => ⟨S1x1x256, .f32⟩
  | .hbm, ⟨57, _⟩ => ⟨S2x1x256, .f32⟩
  | .hbm, ⟨58, _⟩ => ⟨S1x1x256, .f32⟩
  | .hbm, ⟨59, _⟩ => ⟨S1x1x256, .f32⟩
  | .hbm, ⟨60, _⟩ => ⟨S2x1x256, .f32⟩
  | _, _ => ⟨S8x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel52.lean ====
abbrev S8x256x1024 : Shape := ⟨3, ![8, 256, 1024]⟩
abbrev S2x256x1024 : Shape := ⟨3, ![2, 256, 1024]⟩
abbrev S8x128 : Shape := ⟨2, ![8, 128]⟩
abbrev S1x256x1024 : Shape := ⟨3, ![1, 256, 1024]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S8x128, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S8x128, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference52Ideal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S1x256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S1x256x1024, .f32⟩
  | .hbm, ⟨51, _⟩ => ⟨S1x256x1024, .f32⟩
  | .hbm, ⟨52, _⟩ => ⟨S2x256x1024, .f32⟩
  | .hbm, ⟨53, _⟩ => ⟨S1x256x1024, .f32⟩
  | .hbm, ⟨54, _⟩ => ⟨S1x256x1024, .f32⟩
  | .hbm, ⟨55, _⟩ => ⟨S2x256x1024, .f32⟩
  | .hbm, ⟨56, _⟩ => ⟨S1x256x1024, .f32⟩
  | .hbm, ⟨57, _⟩ => ⟨S1x256x1024, .f32⟩
  | .hbm, ⟨58, _⟩ => ⟨S2x256x1024, .f32⟩
  | .hbm, ⟨59, _⟩ => ⟨S1x256x1024, .f32⟩
  | .hbm, ⟨60, _⟩ => ⟨S1x256x1024, .f32⟩
  | .hbm, ⟨61, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel53.lean ====
abbrev S8x4096x192 : Shape := ⟨3, ![8, 4096, 192]⟩
abbrev S8x4096x256 : Shape := ⟨3, ![8, 4096, 256]⟩
abbrev S4096x704 : Shape := ⟨2, ![4096, 704]⟩
abbrev S4096x64 : Shape := ⟨2, ![4096, 64]⟩
abbrev S128 : Shape := ⟨1, ![128]⟩
abbrev S64 : Shape := ⟨1, ![64]⟩
abbrev S8x4096x128 : Shape := ⟨3, ![8, 4096, 128]⟩
abbrev S64x64 : Shape := ⟨2, ![64, 64]⟩
abbrev S1x128 : Shape := ⟨2, ![1, 128]⟩
abbrev S1x64 : Shape := ⟨2, ![1, 64]⟩
abbrev S1x1024x192 : Shape := ⟨3, ![1, 1024, 192]⟩
abbrev S1x1024x256 : Shape := ⟨3, ![1, 1024, 256]⟩
abbrev S1024x704 : Shape := ⟨2, ![1024, 704]⟩
abbrev S1024x64 : Shape := ⟨2, ![1024, 64]⟩
abbrev S1x1024x128 : Shape := ⟨3, ![1, 1024, 128]⟩
abbrev S1024x192 : Shape := ⟨2, ![1024, 192]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 24
  | .vmem => 31
  | .smem => 0
  | _ => 0

abbrev bufTy : (tb : Table) → Fin (tcTables nBuf tb) → BufTy
  | .hbm, ⟨0, _⟩ => ⟨S8x4096x192, .f32⟩
  | .hbm, ⟨1, _⟩ => ⟨S8x4096x256, .f32⟩
  | .hbm, ⟨2, _⟩ => ⟨S4096x704, .f32⟩
  | .hbm, ⟨3, _⟩ => ⟨S4096x64, .f32⟩
  | .hbm, ⟨4, _⟩ => ⟨S4096x64, .f32⟩
  | .hbm, ⟨5, _⟩ => ⟨S128, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S8x4096x192, .f32⟩
  | .hbm, ⟨10, _⟩ => ⟨S8x4096x192, .f32⟩
  | .hbm, ⟨11, _⟩ => ⟨S8x4096x128, .f32⟩
  | .hbm, ⟨12, _⟩ => ⟨S64x64, .f32⟩
  | .hbm, ⟨13, _⟩ => ⟨S1x128, .f32⟩
  | .hbm, ⟨14, _⟩ => ⟨S1x64, .f32⟩
  | .hbm, ⟨15, _⟩ => ⟨S1x128, .f32⟩
  | .hbm, ⟨16, _⟩ => ⟨S1x64, .f32⟩
  | .hbm, ⟨17, _⟩ => ⟨S8x4096x192, .bf16⟩
  | .hbm, ⟨18, _⟩ => ⟨S8x4096x256, .bf16⟩
  | .hbm, ⟨19, _⟩ => ⟨S4096x64, .f32⟩
  | .hbm, ⟨20, _⟩ => ⟨S1x128, .f32⟩
  | .hbm, ⟨21, _⟩ => ⟨S1x64, .f32⟩
  | .hbm, ⟨22, _⟩ => ⟨S1x128, .f32⟩
  | .hbm, ⟨23, _⟩ => ⟨S1x64, .f32⟩
  | .local _ .vmem, ⟨0, _⟩ => ⟨S1x1024x192, .f32⟩
  | .local _ .vmem, ⟨1, _⟩ => ⟨S1x1024x192, .f32⟩
  | .local _ .vmem, ⟨2, _⟩ => ⟨S1x1024x256, .f32⟩
  | .local _ .vmem, ⟨3, _⟩ => ⟨S1x1024x256, .f32⟩
  | .local _ .vmem, ⟨4, _⟩ => ⟨S1024x704, .f32⟩
  | .local _ .vmem, ⟨5, _⟩ => ⟨S1024x704, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S64x64, .f32⟩
  | .local _ .vmem, ⟨11, _⟩ => ⟨S1x128, .f32⟩
  | .local _ .vmem, ⟨12, _⟩ => ⟨S1x64, .f32⟩
  | .local _ .vmem, ⟨13, _⟩ => ⟨S1x128, .f32⟩
  | .local _ .vmem, ⟨14, _⟩ => ⟨S1x64, .f32⟩
  | .local _ .vmem, ⟨15, _⟩ => ⟨S1x1024x192, .f32⟩
  | .local _ .vmem, ⟨16, _⟩ => ⟨S1x1024x192, .f32⟩
  | .local _ .vmem, ⟨17, _⟩ => ⟨S1x1024x192, .f32⟩
  | .local _ .vmem, ⟨18, _⟩ => ⟨S1x1024x192, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x192, .bf16⟩
  | .local _ .vmem, ⟨22, _⟩ => ⟨S1x1024x192, .bf16⟩
  | .local _ .vmem, ⟨23, _⟩ => ⟨S1x1024x256, .bf16⟩
  | .local _ .vmem, ⟨24, _⟩ => ⟨S1x1024x256, .bf16⟩
  | .local _ .vmem, ⟨25, _⟩ => ⟨S1024x64, .f32⟩
  | .local _ .vmem, ⟨26, _⟩ => ⟨S1024x64, .f32⟩
  | .local _ .vmem, ⟨27, _⟩ => ⟨S1x128, .f32⟩
  | .local _ .vmem, ⟨28, _⟩ => ⟨S1x64, .f32⟩
  | .local _ .vmem, ⟨29, _⟩ => ⟨S1x128, .f32⟩
  | .local _ .vmem, ⟨30, _⟩ => ⟨S1x64, .f32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== Reference53Ideal.lean ====
abbrev S8x4096x192 : Shape := ⟨3, ![8, 4096, 192]⟩
abbrev S8x4096x256 : Shape := ⟨3, ![8, 4096, 256]⟩
abbrev S4096x704 : Shape := ⟨2, ![4096, 704]⟩
abbrev S4096x64 : Shape := ⟨2, ![4096, 64]⟩
abbrev S128 : Shape := ⟨1, ![128]⟩
abbrev S64 : Shape := ⟨1, ![64]⟩
abbrev S8x4096x128 : Shape := ⟨3, ![8, 4096, 128]⟩
abbrev S8x4096x64 : Shape := ⟨3, ![8, 4096, 64]⟩
abbrev S4096x384 : Shape := ⟨2, ![4096, 384]⟩
abbrev S4096x256 : Shape := ⟨2, ![4096, 256]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x32 : Shape := ⟨3, ![8, 4096, 32]⟩
abbrev S4096x32 : Shape := ⟨2, ![4096, 32]⟩
abbrev S1x4096x32 : Shape := ⟨3, ![1, 4096, 32]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S8x4096x192, .f32⟩
  | 1 => ⟨S8x4096x256, .f32⟩
  | 2 => ⟨S4096x704, .f32⟩
  | 3 => ⟨S4096x64, .f32⟩
  | 4 => ⟨S4096x64, .f32⟩
  | 5 => ⟨S128, .f32⟩
  | 6 => ⟨S64, .f32⟩
  | 7 => ⟨S128, .f32⟩
  | 8 => ⟨S64, .f32⟩
  | 9 => ⟨S8x4096x192, .f32⟩
  | 10 => ⟨S8x4096x192, .f32⟩
  | 11 => ⟨S8x4096x128, .f32⟩
  | 12 => ⟨S8x4096x128, .f32⟩
  | 13 => ⟨S8x4096x64, .f32⟩
  | 14 => ⟨S4096x384, .f32⟩
  | 15 => ⟨S4096x256, .f32⟩
  | 16 => ⟨S4096x64, .f32⟩
  | 17 => ⟨S8x4096x64, .f32⟩
  | 18 => ⟨S8x4096x128, .f32⟩
  | 19 => ⟨S8x4096x64, .f32⟩
  | 20 => ⟨S8x4096x128, .f32⟩
  | 21 => ⟨S8x4096x64, .f32⟩
  | 22 => ⟨S8x4096x64, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x64, .f32⟩
  | 34 => ⟨S8x4096x64, .f32⟩
  | 35 => ⟨S1x1x64, .f32⟩
  | 36 => ⟨S8x4096x64, .f32⟩
  | 37 => ⟨S8x4096x64, .f32⟩
  | 38 => ⟨S8x4096x32, .f32⟩
  | 39 => ⟨S8x4096x32, .f32⟩
  | 40 => ⟨S4096x32, .f32⟩
  | 41 => ⟨S4096x32, .f32⟩
  | 42 => ⟨S4096x32, .f32⟩
  | 43 => ⟨S4096x32, .f32⟩
  | 44 => ⟨S1x4096x32, .f32⟩
  | 45 => ⟨S8x4096x32, .f32⟩
  | 46 => ⟨S8x4096x32, .f32⟩
  | 47 => ⟨S1x4096x32, .f32⟩
  | 48 => ⟨S8x4096x32, .f32⟩
  | 49 => ⟨S8x4096x32, .f32⟩
  | 50 => ⟨S8x4096x32, .f32⟩
  | 51 => ⟨S1x4096x32, .f32⟩
  | 52 => ⟨S8x4096x32, .f32⟩
  | 53 => ⟨S8x4096x32, .f32⟩
  | 54 => ⟨S1x4096x32, .f32⟩
  | 55 => ⟨S8x4096x32, .f32⟩
  | 56 => ⟨S8x4096x32, .f32⟩
  | 57 => ⟨S8x4096x32, .f32⟩
  | 58 => ⟨S8x4096x64, .f32⟩
  | 59 => ⟨S8x4096x64, .f32⟩
  | 60 => ⟨S_, .f32⟩
  | 61 => ⟨S8x4096, .f32⟩
  | 62 => ⟨S8x4096x1, .f32⟩
  | 63 => ⟨S_, .f32⟩
  | 64 => ⟨S8x4096x1, .f32⟩
  | 65 => ⟨S8x4096x1, .f32⟩
  | 66 => ⟨S_, .f32⟩
  | 67 => ⟨S8x4096x1, .f32⟩
  | 68 => ⟨S8x4096x1, .f32⟩
  | 69 => ⟨S8x4096x1, .f32⟩
  | 70 => ⟨S8x4096x64, .f32⟩
  | 71 => ⟨S8x4096x64, .f32⟩
  | 72 => ⟨S1x1x64, .f32⟩
  | 73 => ⟨S8x4096x64, .f32⟩
  | 74 => ⟨S8x4096x64, .f32⟩
  | 75 => ⟨S8x4096x32, .f32⟩
  | 76 => ⟨S8x4096x32, .f32⟩
  | 77 => ⟨S4096x32, .f32⟩
  | 78 => ⟨S4096x32, .f32⟩
  | 79 => ⟨S4096x32, .f32⟩
  | 80 => ⟨S4096x32, .f32⟩
  | 81 => ⟨S1x4096x32, .f32⟩
  | 82 => ⟨S8x4096x32, .f32⟩
  | 83 => ⟨S8x4096x32, .f32⟩
  | 84 => ⟨S1x4096x32, .f32⟩
  | 85 => ⟨S8x4096x32, .f32⟩
  | 86 => ⟨S8x4096x32, .f32⟩
  | 87 => ⟨S8x4096x32, .f32⟩
  | 88 => ⟨S1x4096x32, .f32⟩
  | 89 => ⟨S8x4096x32, .f32⟩
  | 90 => ⟨S8x4096x32, .f32⟩
  | 91 => ⟨S1x4096x32, .f32⟩
  | 92 => ⟨S8x4096x32, .f32⟩
  | 93 => ⟨S8x4096x32, .f32⟩
  | 94 => ⟨S8x4096x32, .f32⟩
  | 95 => ⟨S8x4096x64, .f32⟩
  | 96 => ⟨S8x4096x32, .f32⟩
  | 97 => ⟨S8x4096x32, .f32⟩
  | 98 => ⟨S8x4096x32, .f32⟩
  | 99 => ⟨S8x4096x32, .f32⟩
  | 100 => ⟨S8x4096x32, .f32⟩
  | 101 => ⟨S8x4096x32, .f32⟩
  | 102 => ⟨S8x4096x32, .f32⟩
  | 103 => ⟨S8x4096x32, .f32⟩
  | 104 => ⟨S8x4096x32, .f32⟩
  | 105 => ⟨S8x4096x32, .f32⟩
  | 106 => ⟨S8x4096x32, .f32⟩
  | 107 => ⟨S8x4096x32, .f32⟩
  | 108 => ⟨S8x4096x32, .f32⟩
  | 109 => ⟨S8x4096x64, .f32⟩
  | 110 => ⟨S8x4096x64, .f32⟩
  | 111 => ⟨S_, .f32⟩
  | 112 => ⟨S64, .f32⟩
  | 113 => ⟨S1x1x64, .f32⟩
  | 114 => ⟨S_, .f32⟩
  | 115 => ⟨S64, .f32⟩
  | 116 => ⟨S1x64, .f32⟩
  | 117 => ⟨S8x4096x32, .f32⟩
  | 118 => ⟨S8x4096x32, .f32⟩
  | 119 => ⟨S8x4096x32, .f32⟩
  | 120 => ⟨S8x4096x32, .f32⟩
  | 121 => ⟨S8x4096x32, .f32⟩
  | 122 => ⟨S8x4096x32, .f32⟩
  | 123 => ⟨S8x4096x32, .f32⟩
  | 124 => ⟨S8x4096x32, .f32⟩
  | 125 => ⟨S8x4096x32, .f32⟩
  | 126 => ⟨S8x4096x32, .f32⟩
  | 127 => ⟨S8x4096x32, .f32⟩
  | _ => ⟨S8x4096x192, .f32⟩

abbrev hbmTy0_1 (i : Nat) : BufTy := match i % 128 with
  | 0 => ⟨S8x4096x32, .f32⟩
  | 1 => ⟨S8x4096x32, .f32⟩
  | 2 => ⟨S8x4096x64, .f32⟩
  | 3 => ⟨S8x4096x64, .f32⟩
  | 4 => ⟨S_, .f32⟩
  | 5 => ⟨S64, .f32⟩
  | 6 => ⟨S1x1x64, .f32⟩
  | 7 => ⟨S_, .f32⟩
  | 8 => ⟨S64, .f32⟩
  | 9 => ⟨S1x64, .f32⟩
  | _ => ⟨S8x4096x192, .f32⟩

abbrev hbmTy (i : Nat) : BufTy := match i / 128 with
  | 0 => hbmTy0_0 i
  | 1 => hbmTy0_1 i
  | _ => ⟨S8x4096x192, .f32⟩

abbrev bufTy : (tb : Table) → Fin (tcTables nBuf tb) → BufTy
  | .hbm, ⟨i, _⟩ => hbmTy i
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_5 : Ref sig .tc := ⟨.hbm, 111, rfl⟩
abbrev main_v93 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_7 : Ref sig .tc := ⟨.hbm, 132, rfl⟩
abbrev main_v112 : Ref sig .tc := ⟨.hbm, 133, rfl⟩
abbrev main_v113 : Ref sig .tc := ⟨.hbm, 134, rfl⟩
abbrev main_cst_8 : Ref sig .tc := ⟨.hbm, 135, rfl⟩
abbrev main_v114 : Ref sig .tc := ⟨.hbm, 136, rfl⟩
abbrev main_v115 : Ref sig .tc := ⟨.hbm, 137, rfl⟩

abbrev nD : Nat := 1
abbrev τ : Topo := Topo.v7x

variable {F : FTy → Type} [FloatOps F]
-- ==== Kernel54.lean ====
abbrev S8x4096x192 : Shape := ⟨3, ![8, 4096, 192]⟩
abbrev S8x4096x256 : Shape := ⟨3, ![8, 4096, 256]⟩
abbrev S4096x704 : Shape := ⟨2, ![4096, 704]⟩
abbrev S4096x64 : Shape := ⟨2, ![4096, 64]⟩
abbrev S128 : Shape := ⟨1, ![128]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S8x4096x128 : Shape := ⟨3, ![8, 4096, 128]⟩
abbrev S1x1024x192 : Shape := ⟨3, ![1, 1024, 192]⟩
abbrev S1x1024x256 : Shape := ⟨3, ![1, 1024, 256]⟩
abbrev S1024x704 : Shape := ⟨2, ![1024, 704]⟩
abbrev S1024x64 : Shape := ⟨2, ![1024, 64]⟩
abbrev S1x1024x128 : Shape := ⟨3, ![1, 1024, 128]⟩
abbrev S1024x192 : Shape := ⟨2, ![1024, 192]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 17
  | .vmem => 21
  | .smem => 0
  | _ => 0

abbrev bufTy : (tb : Table) → Fin (tcTables nBuf tb) → BufTy
  | .hbm, ⟨0, _⟩ => ⟨S8x4096x192, .f32⟩
  | .hbm, ⟨1, _⟩ => ⟨S8x4096x256, .f32⟩
  | .hbm, ⟨2, _⟩ => ⟨S4096x704, .f32⟩
  | .hbm, ⟨3, _⟩ => ⟨S4096x64, .f32⟩
  | .hbm, ⟨4, _⟩ => ⟨S4096x64, .f32⟩
  | .hbm, ⟨5, _⟩ => ⟨S128, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S64x64, .f32⟩
  | .hbm, ⟨10, _⟩ => ⟨S1x128, .f32⟩
  | .hbm, ⟨11, _⟩ => ⟨S1x64, .f32⟩
  | .hbm, ⟨12, _⟩ => ⟨S1x128, .f32⟩
  | .hbm, ⟨13, _⟩ => ⟨S1x64, .f32⟩
  | .hbm, ⟨14, _⟩ => ⟨S8x4096x192, .bf16⟩
  | .hbm, ⟨15, _⟩ => ⟨S8x4096x192, .bf16⟩
  | .hbm, ⟨16, _⟩ => ⟨S8x4096x128, .bf16⟩
  | .local _ .vmem, ⟨0, _⟩ => ⟨S1x1024x192, .f32⟩
  | .local _ .vmem, ⟨1, _⟩ => ⟨S1x1024x192, .f32⟩
  | .local _ .vmem, ⟨2, _⟩ => ⟨S1x1024x256, .f32⟩
  | .local _ .vmem, ⟨3, _⟩ => ⟨S1x1024x256, .f32⟩
  | .local _ .vmem, ⟨4, _⟩ => ⟨S1024x704, .f32⟩
  | .local _ .vmem, ⟨5, _⟩ => ⟨S1024x704, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S64x64, .f32⟩
  | .local _ .vmem, ⟨11, _⟩ => ⟨S1x128, .f32⟩
  | .local _ .vmem, ⟨12, _⟩ => ⟨S1x64, .f32⟩
  | .local _ .vmem, ⟨13, _⟩ => ⟨S1x128, .f32⟩
  | .local _ .vmem, ⟨14, _⟩ => ⟨S1x64, .f32⟩
  | .local _ .vmem, ⟨15, _⟩ => ⟨S1x1024x192, .bf16⟩
  | .local _ .vmem, ⟨16, _⟩ => ⟨S1x1024x192, .bf16⟩
  | .local _ .vmem, ⟨17, _⟩ => ⟨S1x1024x192, .bf16⟩
  | .local _ .vmem, ⟨18, _⟩ => ⟨S1x1024x192, .bf16⟩
  | .local _ .vmem, ⟨19, _⟩ => ⟨S1x1024x128, .bf16⟩
  | .local _ .vmem, ⟨20, _⟩ => ⟨S1x1024x128, .bf16⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference54Ideal.lean ====
abbrev S8x4096x192 : Shape := ⟨3, ![8, 4096, 192]⟩
abbrev S8x4096x256 : Shape := ⟨3, ![8, 4096, 256]⟩
abbrev S4096x704 : Shape := ⟨2, ![4096, 704]⟩
abbrev S4096x64 : Shape := ⟨2, ![4096, 64]⟩
abbrev S128 : Shape := ⟨1, ![128]⟩
abbrev S64 : Shape := ⟨1, ![64]⟩
abbrev S8x4096x128 : Shape := ⟨3, ![8, 4096, 128]⟩
abbrev S8x4096x64 : Shape := ⟨3, ![8, 4096, 64]⟩
abbrev S4096x384 : Shape := ⟨2, ![4096, 384]⟩
abbrev S4096x256 : Shape := ⟨2, ![4096, 256]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x32 : Shape := ⟨3, ![8, 4096, 32]⟩
abbrev S4096x32 : Shape := ⟨2, ![4096, 32]⟩
abbrev S1x4096x32 : Shape := ⟨3, ![1, 4096, 32]⟩
abbrev S4096 : Shape := ⟨1, ![4096]⟩
abbrev S4096x1 : Shape := ⟨2, ![4096, 1]⟩
abbrev S1x64 : Shape := ⟨2, ![1, 64]⟩
abbrev S1x1x128 : Shape := ⟨3, ![1, 1, 128]⟩

abbrev nBuf : Space → Nat
  | .hbm => 120
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x256, .f32⟩
  | .hbm, ⟨2, _⟩ => ⟨S4096x704, .f32⟩
  | .hbm, ⟨3, _⟩ => ⟨S4096x64, .f32⟩
  | .hbm, ⟨4, _⟩ => ⟨S4096x64, .f32⟩
  | .hbm, ⟨5, _⟩ => ⟨S128, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S8x4096x128, .f32⟩
  | .hbm, ⟨10, _⟩ => ⟨S8x4096x64, .f32⟩
  | .hbm, ⟨11, _⟩ => ⟨S8x4096x128, .f32⟩
  | .hbm, ⟨12, _⟩ => ⟨S8x4096x128, .f32⟩
  | .hbm, ⟨13, _⟩ => ⟨S4096x384, .f32⟩
  | .hbm, ⟨14, _⟩ => ⟨S4096x256, .f32⟩
  | .hbm, ⟨15, _⟩ => ⟨S4096x64, .f32⟩
  | .hbm, ⟨16, _⟩ => ⟨S8x4096x64, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x64, .f32⟩
  | .hbm, ⟨28, _⟩ => ⟨S8x4096x64, .f32⟩
  | .hbm, ⟨29, _⟩ => ⟨S1x1x64, .f32⟩
  | .hbm, ⟨30, _⟩ => ⟨S8x4096x64, .f32⟩
  | .hbm, ⟨31, _⟩ => ⟨S8x4096x64, .f32⟩
  | .hbm, ⟨32, _⟩ => ⟨S8x4096x32, .f32⟩
  | .hbm, ⟨33, _⟩ => ⟨S8x4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S1x4096x32, .f32⟩
  | .hbm, ⟨39, _⟩ => ⟨S8x4096x32, .f32⟩
  | .hbm, ⟨40, _⟩ => ⟨S8x4096x32, .f32⟩
  | .hbm, ⟨41, _⟩ => ⟨S1x4096x32, .f32⟩
  | .hbm, ⟨42, _⟩ => ⟨S8x4096x32, .f32⟩
  | .hbm, ⟨43, _⟩ => ⟨S8x4096x32, .f32⟩
  | .hbm, ⟨44, _⟩ => ⟨S8x4096x32, .f32⟩
  | .hbm, ⟨45, _⟩ => ⟨S1x4096x32, .f32⟩
  | .hbm, ⟨46, _⟩ => ⟨S8x4096x32, .f32⟩
  | .hbm, ⟨47, _⟩ => ⟨S8x4096x32, .f32⟩
  | .hbm, ⟨48, _⟩ => ⟨S1x4096x32, .f32⟩
  | .hbm, ⟨49, _⟩ => ⟨S8x4096x32, .f32⟩
  | .hbm, ⟨50, _⟩ => ⟨S8x4096x32, .f32⟩
  | .hbm, ⟨51, _⟩ => ⟨S8x4096x32, .f32⟩
  | .hbm, ⟨52, _⟩ => ⟨S8x4096x64, .f32⟩
  | .hbm, ⟨53, _⟩ => ⟨S4096x64, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x64, .f32⟩
  | .hbm, ⟨65, _⟩ => ⟨S4096x64, .f32⟩
  | .hbm, ⟨66, _⟩ => ⟨S1x64, .f32⟩
  | .hbm, ⟨67, _⟩ => ⟨S4096x64, .f32⟩
  | .hbm, ⟨68, _⟩ => ⟨S4096x64, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S4096x64, .f32⟩
  | .hbm, ⟨82, _⟩ => ⟨S8x4096x64, .f32⟩
  | .hbm, ⟨83, _⟩ => ⟨S8x4096x128, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S8x4096x1, .f32⟩
  | .hbm, ⟨94, _⟩ => ⟨S8x4096x128, .f32⟩
  | .hbm, ⟨95, _⟩ => ⟨S8x4096x128, .f32⟩
  | .hbm, ⟨96, _⟩ => ⟨S1x1x128, .f32⟩
  | .hbm, ⟨97, _⟩ => ⟨S8x4096x128, .f32⟩
  | .hbm, ⟨98, _⟩ => ⟨S8x4096x128, .f32⟩
  | .hbm, ⟨99, _⟩ => ⟨S8x4096x192, .f32⟩
  | .hbm, ⟨100, _⟩ => ⟨S8x4096x128, .f32⟩
  | .hbm, ⟨101, _⟩ => ⟨S_, .f32⟩
  | .hbm, ⟨102, _⟩ => ⟨S8x4096, .f32⟩
  | .hbm, ⟨103, _⟩ => ⟨S8x4096x1, .f32⟩
  | .hbm, ⟨104, _⟩ => ⟨S_, .f32⟩
  | .hbm, ⟨105, _⟩ => ⟨S8x4096x1, .f32⟩
  | .hbm, ⟨106, _⟩ => ⟨S8x4096x1, .f32⟩
  | .hbm, ⟨107, _⟩ => ⟨S_, .f32⟩
  | .hbm, ⟨108, _⟩ => ⟨S8x4096x1, .f32⟩
  | .hbm, ⟨109, _⟩ => ⟨S8x4096x1, .f32⟩
  | .hbm, ⟨110, _⟩ => ⟨S8x4096x1, .f32⟩
  | .hbm, ⟨111, _⟩ => ⟨S8x4096x128, .f32⟩
  | .hbm, ⟨112, _⟩ => ⟨S8x4096x128, .f32⟩
  | .hbm, ⟨113, _⟩ => ⟨S1x1x128, .f32⟩
  | .hbm, ⟨114, _⟩ => ⟨S8x4096x128, .f32⟩
  | .hbm, ⟨115, _⟩ => ⟨S8x4096x128, .f32⟩
  | .hbm, ⟨116, _⟩ => ⟨S8x4096x192, .f32⟩
  | .hbm, ⟨117, _⟩ => ⟨S8x4096x192, .bf16⟩
  | .hbm, ⟨118, _⟩ => ⟨S8x4096x192, .bf16⟩
  | .hbm, ⟨119, _⟩ => ⟨S8x4096x128, .bf16⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_5 : Ref sig .tc := ⟨.hbm, 84, rfl⟩
abbrev main_v69 : Ref sig .tc := ⟨.hbm, 85, rfl⟩
abbrev main_v70 : Ref sig .tc := ⟨.hbm, 86, rfl⟩
abbrev main_cst_6 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_8 : Ref sig .tc := ⟨.hbm, 101, rfl⟩
abbrev main_v83 : Ref sig .tc := ⟨.hbm, 102, rfl⟩
abbrev main_v84 : Ref sig .tc := ⟨.hbm, 103, rfl⟩
abbrev main_cst_9 : Ref sig .tc := ⟨.hbm, 104, rfl⟩
abbrev main_v85 : Ref sig .tc := ⟨.hbm, 105, rfl⟩
abbrev main_v86 : Ref sig .tc := ⟨.hbm, 106, rfl⟩
abbrev main_cst_10 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩

abbrev nD : Nat := 1
abbrev τ : Topo := Topo.v7x

variable {F : FTy → Type} [FloatOps F]
-- ==== Proof.SguSpec.lean ====
module

public import Idealize.ShloMosaic.Lib.Pointwise
public import Idealize.ShloMosaic.Lib.WordCmp

/-!
# The gating unit's gradients, in closed form

Token rows are cut into chunks of 128; channels into eight groups of 256. Inside a chunk and a group the forward
pass is `y t = u t * (∑ s ≤ t, w t s * v s + b t)`, so its gradients are the four functions below.
-/

@[expose] public section

noncomputable section

namespace Cert.SpatialGate

open Idealize.ShloMosaic

/-- The causal mask: an entry whose column `s` is not after its row `t` is kept, another is zero. -/
def keep (s t : ℕ) (a : EReal) : EReal := if s ≤ t then a else 0

theorem keep_add (s t : ℕ) (a b : EReal) : keep s t (a + b) = keep s t a + keep s t b := by
  unfold keep; split <;> simp

theorem select_sle (s t : ℕ) (hs : s < 128) (ht : t < 128) (a : EReal) :
    Scalar.select (IntOp.cmpi .sle (BitVec.ofNat 32 s) (BitVec.ofNat 32 t)) a 0 = keep s t a := by
  rw [WordCmp.cmpi_sle_ofNat (by omega) (by omega), WordCmp.select_decide]; rfl

theorem select_sge (s t : ℕ) (hs : s < 128) (ht : t < 128) (a : EReal) :
    Scalar.select (IntOp.cmpi .sge (IntOp.addi (BitVec.ofNat 32 t) 0#32) (BitVec.ofNat 32 s)) a 0 = keep s t a := by
  rw [show IntOp.addi (BitVec.ofNat 32 t) 0#32 = BitVec.ofNat 32 t from BitVec.add_zero _,
    WordCmp.cmpi_sge_ofNat (by omega) (by omega), WordCmp.select_decide]; rfl

/-- Tokens by channels. -/
abbrev Tok := (⟨2, ![4096, 2048]⟩ : Shape).Idx → EReal
/-- The eight gates. -/
abbrev Gate := (⟨3, ![8, 128, 128]⟩ : Shape).Idx → EReal
/-- The eight biases. -/
abbrev Bias := (⟨2, ![8, 128]⟩ : Shape).Idx → EReal

/-- Row `s` of chunk `n`. -/
def tokRow (n : Fin 32) (s : Fin 128) : Fin 4096 := ⟨n.val * 128 + s.val, by have := n.isLt; have := s.isLt; omega⟩
/-- The chunk a row lies in. -/
def chunkOf (r : Fin 4096) : Fin 32 := ⟨r.val / 128, by have := r.isLt; omega⟩
/-- A row's place in its chunk. -/
def posOf (r : Fin 4096) : Fin 128 := ⟨r.val % 128, by omega⟩
/-- The group a channel lies in. -/
def groupOf (d : Fin 2048) : Fin 8 := ⟨d.val / 256, by have := d.isLt; omega⟩
/-- Channel `d` of group `g`. -/
def chan (g : Fin 8) (d : Fin 256) : Fin 2048 := ⟨g.val * 256 + d.val, by have := g.isLt; have := d.isLt; omega⟩

/-- The gradient of `u`. -/
def gradU (vn dy : Tok) (w : Gate) (b : Bias) (r : Fin 4096) (k : Fin 2048) : EReal :=
  dy (ix2 r k) * (∑ s : Fin 128, keep s.val (posOf r).val
    (w (ix3 (groupOf k) (posOf r) s) * vn (ix2 (tokRow (chunkOf r) s) k)) + b (ix2 (groupOf k) (posOf r)))

/-- The gradient of the gated half. -/
def gradV (u dy : Tok) (w : Gate) (r : Fin 4096) (k : Fin 2048) : EReal :=
  ∑ t : Fin 128, keep (posOf r).val t.val (w (ix3 (groupOf k) t (posOf r)) *
    (dy (ix2 (tokRow (chunkOf r) t) k) * u (ix2 (tokRow (chunkOf r) t) k)))

/-- The gradient of the gates. -/
def gradW (u vn dy : Tok) (g : Fin 8) (t s : Fin 128) : EReal :=
  keep s.val t.val (∑ n : Fin 32, ∑ d : Fin 256, dy (ix2 (tokRow n t) (chan g d)) * u (ix2 (tokRow n t) (chan g d))
    * vn (ix2 (tokRow n s) (chan g d)))

/-- The gradient of the biases. -/
def gradB (u dy : Tok) (g : Fin 8) (t : Fin 128) : EReal :=
  ∑ n : Fin 32, ∑ d : Fin 256, dy (ix2 (tokRow n t) (chan g d)) * u (ix2 (tokRow n t) (chan g d))

end Cert.SpatialGate
-- ==== Proof.SguBlock.lean ====
module

public import proofs.«01_k».proof.Proof.Gen.KernelIdeal.Value
public import Idealize.ShloMosaic.Lib.Pointwise
public import Idealize.ShloMosaic.Lib.Pipeline.ValueKit
public import proofs.«01_k».proof.Proof.SguSpec

/-!
# One grid point of the gating unit's backward call

The body works through sixteen chunks of 128 tokens. Over the extended reals each of its four output blocks has a
closed form at an index; the last two add to what the block held unless the point is the group's first.
-/

@[expose] public section

set_option maxRecDepth 16384

noncomputable section

namespace Cert.SpatialGate

open Cert.KernelIdeal Cert.KernelIdeal.Gen Idealize.ShloMosaic Idealize.ShloMosaic.TcCoe Idealize.SL.Sem

/-- A block of 2048 tokens by one group's 256 channels. -/
abbrev TokBlk := (⟨2, ![2048, 256]⟩ : Shape).Idx → EReal
/-- One group's 128 by 128 gate. -/
abbrev GateBlk := (⟨3, ![1, 128, 128]⟩ : Shape).Idx → EReal
/-- One group's bias, a column. -/
abbrev BiasBlk := (⟨3, ![1, 128, 1]⟩ : Shape).Idx → EReal

/-- Row `s` of chunk `n` in a block. -/
def blkRow (n : Fin 16) (s : Fin 128) : Fin 2048 := ⟨n.val * 128 + s.val, by have := n.isLt; have := s.isLt; omega⟩
/-- The chunk a block's row lies in. -/
def blkChunk (r : Fin 2048) : Fin 16 := ⟨r.val / 128, by have := r.isLt; omega⟩
/-- A block row's place in its chunk. -/
def blkPos (r : Fin 2048) : Fin 128 := ⟨r.val % 128, by omega⟩

/-- The gradient of `u` on a block. -/
def blkDu (vn dy : TokBlk) (w : GateBlk) (b : BiasBlk) (r : Fin 2048) (d : Fin 256) : EReal :=
  dy (ix2 r d) * (∑ s : Fin 128, keep s.val (blkPos r).val
    (w (ix3 0 (blkPos r) s) * vn (ix2 (blkRow (blkChunk r) s) d)) + b (ix3 0 (blkPos r) 0))

/-- The gradient of the normalised half on a block. -/
def blkDvn (u dy : TokBlk) (w : GateBlk) (r : Fin 2048) (d : Fin 256) : EReal :=
  ∑ t : Fin 128, keep (blkPos r).val t.val (w (ix3 0 t (blkPos r)) *
    (dy (ix2 (blkRow (blkChunk r) t) d) * u (ix2 (blkRow (blkChunk r) t) d)))

/-- What a block adds to the gate's gradient. -/
def blkDws (u vn dy : TokBlk) (t s : Fin 128) : EReal :=
  keep s.val t.val (∑ n : Fin 16, ∑ d : Fin 256,
    dy (ix2 (blkRow n t) d) * u (ix2 (blkRow n t) d) * vn (ix2 (blkRow n s) d))

/-- What a block adds to the bias's gradient. -/
def blkDbs (u dy : TokBlk) (t : Fin 128) : EReal :=
  ∑ n : Fin 16, ∑ d : Fin 256, dy (ix2 (blkRow n t) d) * u (ix2 (blkRow n t) d)

section pieces

variable (u vn dy : TokBlk) (w : GateBlk) (b : BiasBlk)

theorem blkDu_piece (y : (⟨2, ![2048, 256]⟩ : Shape).Idx) (o : ℕ) (r : Fin 2048) (p : Fin 128) (d : Fin 256)
    (q : Fin 128 → Fin 2048) (ho : o % 128 = 0) (h0 : (y 0).val = o + p.val) (h1 : (y 1).val = d.val)
    (hr : r.val = o + p.val) (hq : ∀ s, (q s).val = o + s.val) :
    dy (ix2 r d) * (∑ s : Fin 128, Scalar.select (IntOp.cmpi .sle (BitVec.ofNat 32 s.val) (BitVec.ofNat 32 p.val))
      (w (ix3 0 p s) * vn (ix2 (q s) d)) 0 + b (ix3 0 p 0)) = blkDu vn dy w b (y 0) (y 1) := by
  have e0 : y 0 = r := Fin.ext (h0.trans hr.symm)
  have e1 : y 1 = d := Fin.ext h1
  have ep : blkPos r = p := Fin.ext (by show r.val % 128 = p.val; have := p.isLt; omega)
  have eq : ∀ s, blkRow (blkChunk r) s = q s := fun s =>
    Fin.ext (by show r.val / 128 * 128 + s.val = (q s).val; have := p.isLt; have := hq s; omega)
  rw [e0, e1, blkDu, ep]
  simp only [eq, select_sle _ _ (Fin.isLt _) (Fin.isLt _)]

theorem blkDvn_piece (y : (⟨2, ![2048, 256]⟩ : Shape).Idx) (o : ℕ) (p : Fin 128) (d : Fin 256)
    (q : Fin 128 → Fin 2048) (ho : o % 128 = 0) (h0 : (y 0).val = o + p.val) (h1 : (y 1).val = d.val)
    (hq : ∀ s, (q s).val = o + s.val) :
    ∑ t : Fin 128, Scalar.select (IntOp.cmpi .sle (BitVec.ofNat 32 p.val) (BitVec.ofNat 32 t.val))
      (w (ix3 0 t p) * (dy (ix2 (q t) d) * u (ix2 (q t) d))) 0 = blkDvn u dy w (y 0) (y 1) := by
  have e1 : y 1 = d := Fin.ext h1
  have ep : blkPos (y 0) = p := Fin.ext (by show (y 0).val % 128 = p.val; have := p.isLt; omega)
  have eq : ∀ s, blkRow (blkChunk (y 0)) s = q s := fun s =>
    Fin.ext (by show (y 0).val / 128 * 128 + s.val = (q s).val; have := p.isLt; have := hq s; omega)
  rw [e1]
  unfold blkDvn
  rw [ep]
  simp only [eq, select_sle _ _ (Fin.isLt _) (Fin.isLt _)]

/-- A sum over sixteen chunks, written out from the left. -/
theorem sum_chunks (f : Fin 16 → EReal) : ∑ n, f n =
    f 0 + f 1 + f 2 + f 3 + f 4 + f 5 + f 6 + f 7 + f 8 + f 9 + f 10 + f 11 + f 12 + f 13 + f 14 + f 15 := by
  simp only [Fin.sum_univ_castSucc, Fin.sum_univ_zero, zero_add]; rfl

theorem blkRow_zero (p : Fin 128) (h : p.val < 2048) : (⟨p.val, h⟩ : Fin 2048) = blkRow 0 p :=
  Fin.ext (by show p.val = 0 * 128 + p.val; omega)

end pieces

variable (c : Dev nD) (i : grid0.Coords) (a2 : Memref sig .tc .vmem S2048x256 .bf16) (h2 : a2.IsWhole)
  (a3 : Memref sig .tc .vmem S2048x256 .bf16) (h3 : a3.IsWhole) (a4 : Memref sig .tc .vmem S2048x256 .bf16) (h4 : a4.IsWhole)
  (a5 : Memref sig .tc .vmem S1x128x128 .f32) (h5 : a5.IsWhole) (a6 : Memref sig .tc .vmem S1x128x1 .f32) (h6 : a6.IsWhole)
  (a7 : Memref sig .tc .vmem S2048x256 .bf16) (h7 : a7.IsWhole) (a8 : Memref sig .tc .vmem S2048x256 .bf16) (h8 : a8.IsWhole)
  (a9 : Memref sig .tc .vmem S1x128x128 .f32) (h9 : a9.IsWhole) (a10 : Memref sig .tc .vmem S1x128x1 .f32) (h10 : a10.IsWhole)
  (u vn dy : Vec Ideal S2048x256 .bf16) (w : Vec Ideal S1x128x128 .f32) (b : Vec Ideal S1x128x1 .f32)
  (ow : Vec Ideal S1x128x128 .f32) (ob : Vec Ideal S1x128x1 .f32)

set_option maxHeartbeats 4000000 in
/-- At a first point of a group, the block of the first output. -/
theorem du_A (hc : cond0_0 i) (y : S2048x256.Idx) :
    out0_A_5 c i a2 h2 a3 h3 a4 h4 a5 h5 a6 h6 a7 h7 a8 h8 a9 h9 a10 h10 hc u vn dy w b y = blkDu vn dy w b (y 0) (y 1) := by
  frame_out
  canon_tiles z h
  all_goals
    unfold_payloads
    idx_vars z
    pointwise
    first
    | exact blkDu_piece vn dy w b y _ _ z0 z1 _ (by decide) h0 h1 rfl (fun _ => rfl)
    | exact blkDu_piece vn dy w b y 0 _ z0 z1 _ rfl (h0.trans (zero_add _).symm) h1 (zero_add _).symm (fun _ => (zero_add _).symm)

set_option maxHeartbeats 4000000 in
/-- At a first point of a group, the block of the second output. -/
theorem dvn_A (hc : cond0_0 i) (y : S2048x256.Idx) :
    out0_A_6 c i a2 h2 a3 h3 a4 h4 a5 h5 a6 h6 a7 h7 a8 h8 a9 h9 a10 h10 hc u vn dy w b y = blkDvn u dy w (y 0) (y 1) := by
  frame_out
  canon_tiles z h
  all_goals
    unfold_payloads
    idx_vars z
    pointwise
    first
    | exact blkDvn_piece u dy w y _ z0 z1 _ (by decide) h0 h1 (fun _ => rfl)
    | exact blkDvn_piece u dy w y 0 z0 z1 _ rfl (h0.trans (zero_add _).symm) h1 (fun _ => (zero_add _).symm)

set_option maxHeartbeats 4000000 in
/-- At a first point of a group, the gate's gradient. -/
theorem dws_A (hc : cond0_0 i) (y : S1x128x128.Idx) :
    out0_A_7 c i a2 h2 a3 h3 a4 h4 a5 h5 a6 h6 a7 h7 a8 h8 a9 h9 a10 h10 hc u vn dy w b y = blkDws u vn dy (y 1) (y 2) := by
  frame_out
  unfold_payloads
  idx_vars y
  pointwise
  rw [select_sle _ _ y2.isLt y1.isLt, blkDws, sum_chunks]
  simp only [blkRow_zero]
  rfl

set_option maxHeartbeats 4000000 in
/-- At a first point of a group, the bias's gradient. -/
theorem dbs_A (hc : cond0_0 i) (y : S1x128x1.Idx) :
    out0_A_8 c i a2 h2 a3 h3 a4 h4 a5 h5 a6 h6 a7 h7 a8 h8 a9 h9 a10 h10 hc u vn dy w b y = blkDbs u dy (y 1) := by
  frame_out
  unfold_payloads
  idx_vars y
  pointwise
  rw [blkDbs, sum_chunks]
  simp only [blkRow_zero]
  rfl

set_option maxHeartbeats 4000000 in
/-- At a later point of a group, the block of the first output. -/
theorem du_B (hc : ¬ cond0_0 i) (y : S2048x256.Idx) :
    out0_B_5 c i a2 h2 a3 h3 a4 h4 a5 h5 a6 h6 a7 h7 a8 h8 a9 h9 a10 h10 hc u vn dy w b ow ob y = blkDu vn dy w b (y 0) (y 1) := by
  frame_out
  canon_tiles z h
  all_goals
    unfold_payloads
    idx_vars z
    pointwise
    first
    | exact blkDu_piece vn dy w b y _ _ z0 z1 _ (by decide) h0 h1 rfl (fun _ => rfl)
    | exact blkDu_piece vn dy w b y 0 _ z0 z1 _ rfl (h0.trans (zero_add _).symm) h1 (zero_add _).symm (fun _ => (zero_add _).symm)

set_option maxHeartbeats 4000000 in
/-- At a later point of a group, the block of the second output. -/
theorem dvn_B (hc : ¬ cond0_0 i) (y : S2048x256.Idx) :
    out0_B_6 c i a2 h2 a3 h3 a4 h4 a5 h5 a6 h6 a7 h7 a8 h8 a9 h9 a10 h10 hc u vn dy w b ow ob y = blkDvn u dy w (y 0) (y 1) := by
  frame_out
  canon_tiles z h
  all_goals
    unfold_payloads
    idx_vars z
    pointwise
    first
    | exact blkDvn_piece u dy w y _ z0 z1 _ (by decide) h0 h1 (fun _ => rfl)
    | exact blkDvn_piece u dy w y 0 z0 z1 _ rfl (h0.trans (zero_add _).symm) h1 (fun _ => (zero_add _).symm)

set_option maxHeartbeats 4000000 in
/-- At a later point of a group, the gate's gradient. -/
theorem dws_B (hc : ¬ cond0_0 i) (y : S1x128x128.Idx) :
    out0_B_7 c i a2 h2 a3 h3 a4 h4 a5 h5 a6 h6 a7 h7 a8 h8 a9 h9 a10 h10 hc u vn dy w b ow ob y = ow y + blkDws u vn dy (y 1) (y 2) := by
  frame_out
  unfold_payloads
  idx_vars y
  pointwise
  rw [select_sle _ _ y2.isLt y1.isLt, blkDws, sum_chunks]
  simp only [blkRow_zero]
  obtain rfl : y0 = 0 := Subsingleton.elim _ _
  rfl

set_option maxHeartbeats 4000000 in
/-- At a later point of a group, the bias's gradient. -/
theorem dbs_B (hc : ¬ cond0_0 i) (y : S1x128x1.Idx) :
    out0_B_8 c i a2 h2 a3 h3 a4 h4 a5 h5 a6 h6 a7 h7 a8 h8 a9 h9 a10 h10 hc u vn dy w b ow ob y = ob y + blkDbs u dy (y 1) := by
  frame_out
  unfold_payloads
  idx_vars y
  pointwise
  rw [blkDbs, sum_chunks]
  simp only [blkRow_zero]
  obtain rfl : y0 = 0 := Subsingleton.elim _ _
  obtain rfl : y2 = 0 := Subsingleton.elim _ _
  rfl

end Cert.SpatialGate
-- ==== Proof.SguArrays.lean ====
module

public import proofs.«01_k».proof.Proof.SguBlock

/-!
# The call's four arrays

A grid point is a group and one of two halves of the tokens. The token-shaped outputs are written block by block; a
group's gate and bias gradients are summed over its two points.
-/

@[expose] public section

set_option maxRecDepth 16384

noncomputable section

namespace Cert.SpatialGate

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows: the tokens' by half and group, the gates' by group. -/
theorem indices : ∀ t : Fin grid0.N,
    win0_0.index t = ![t.val % 2, t.val / 2] ∧ win0_1.index t = ![t.val % 2, t.val / 2] ∧
    win0_2.index t = ![t.val % 2, t.val / 2] ∧ win0_3.index t = ![t.val / 2, 0, 0] ∧
    win0_4.index t = ![t.val / 2, 0, 0] ∧ win0_5.index t = ![t.val % 2, t.val / 2] ∧
    win0_6.index t = ![t.val % 2, t.val / 2] ∧ win0_7.index t = ![t.val / 2, 0, 0] ∧
    win0_8.index t = ![t.val / 2, 0, 0] := by decide +kernel

theorem lt16 (t : Fin cfg0.N) : t.val < 16 := by have h := t.isLt; have e : cfg0.N = 16 := N_0; omega

/-- Row `r` of the half that point `t` works on. -/
def halfRow (t : Fin cfg0.N) (r : Fin 2048) : Fin 4096 := ⟨t.val % 2 * 2048 + r.val, by have := r.isLt; omega⟩
/-- The group of point `t`. -/
def grp (t : Fin cfg0.N) : Fin 8 := ⟨t.val / 2, by have := lt16 t; omega⟩

theorem blk0 (c : Dev nD) (t : Fin cfg0.N) (r : Fin 2048) (d : Fin 256) :
    iblk m c 0 t (ix2 r d) = m ((c : Thread nD τ).loc main_arg0) (ix2 (halfRow t r) (chan (grp t) d)) := by
  have idx := indices
  blk_point [iblk, V, idx t] <;> rfl

theorem blk1 (c : Dev nD) (t : Fin cfg0.N) (r : Fin 2048) (d : Fin 256) :
    iblk m c 1 t (ix2 r d) = m ((c : Thread nD τ).loc main_arg1) (ix2 (halfRow t r) (chan (grp t) d)) := by
  have idx := indices
  blk_point [iblk, V, idx t] <;> rfl

theorem blk2 (c : Dev nD) (t : Fin cfg0.N) (r : Fin 2048) (d : Fin 256) :
    iblk m c 2 t (ix2 r d) = m ((c : Thread nD τ).loc main_arg2) (ix2 (halfRow t r) (chan (grp t) d)) := by
  have idx := indices
  blk_point [iblk, V, idx t] <;> rfl

theorem blk3 (c : Dev nD) (t : Fin cfg0.N) (r s : Fin 128) :
    iblk m c 3 t (ix3 0 r s) = m ((c : Thread nD τ).loc main_arg3) (ix3 (grp t) r s) := by
  have idx := indices
  blk_point [iblk, V, idx t] <;> rfl

theorem blk4 (c : Dev nD) (t : Fin cfg0.N) (r : Fin 128) :
    iblk m c 4 t (ix3 0 r 0) = m ((c : Thread nD τ).loc main_arg4) (ix2 (grp t) r) := by
  have idx := indices
  blk_point [iblk, V, idx t] <;> rfl

theorem groupOf_chan (g : Fin 8) (d : Fin 256) : groupOf (chan g d) = g :=
  Fin.ext (by show (g.val * 256 + d.val) / 256 = g.val; have := d.isLt; omega)

theorem posOf_halfRow (t : Fin cfg0.N) (r : Fin 2048) : posOf (halfRow t r) = blkPos r :=
  Fin.ext (by show (t.val % 2 * 2048 + r.val) % 128 = r.val % 128; omega)

theorem halfRow_blkRow (t : Fin cfg0.N) (r : Fin 2048) (s : Fin 128) :
    halfRow t (blkRow (blkChunk r) s) = tokRow (chunkOf (halfRow t r)) s :=
  Fin.ext (by
    show t.val % 2 * 2048 + (r.val / 128 * 128 + s.val) = (t.val % 2 * 2048 + r.val) / 128 * 128 + s.val
    omega)

/-- The arrays the call reads. -/
abbrev inU (c : Dev nD) : Tok := m ((c : Thread nD τ).loc main_arg0)
abbrev inV (c : Dev nD) : Tok := m ((c : Thread nD τ).loc main_arg1)
abbrev inD (c : Dev nD) : Tok := m ((c : Thread nD τ).loc main_arg2)
abbrev inW (c : Dev nD) : Gate := m ((c : Thread nD τ).loc main_arg3)
abbrev inB (c : Dev nD) : Bias := m ((c : Thread nD τ).loc main_arg4)

theorem blkDu_eq (c : Dev nD) (t : Fin cfg0.N) (r : Fin 2048) (d : Fin 256) :
    blkDu (iblk m c 1 t) (iblk m c 2 t) (iblk m c 3 t) (iblk m c 4 t) r d
      = gradU (inV m c) (inD m c) (inW m c) (inB m c) (halfRow t r) (chan (grp t) d) := by
  unfold blkDu gradU
  simp only [groupOf_chan, posOf_halfRow, ← halfRow_blkRow]
  rw [blk2, blk4]
  refine congrArg₂ (· * ·) rfl (congrArg₂ (· + ·) (Finset.sum_congr rfl fun s _ => ?_) rfl)
  rw [blk1, blk3]

theorem blkDvn_eq (c : Dev nD) (t : Fin cfg0.N) (r : Fin 2048) (d : Fin 256) :
    blkDvn (iblk m c 0 t) (iblk m c 2 t) (iblk m c 3 t) r d
      = gradV (inU m c) (inD m c) (inW m c) (halfRow t r) (chan (grp t) d) := by
  unfold blkDvn gradV
  simp only [groupOf_chan, posOf_halfRow, ← halfRow_blkRow]
  refine Finset.sum_congr rfl fun s _ => ?_
  rw [blk0, blk2, blk3]

theorem outs5 (c : Dev nD) (t : Fin cfg0.N) (y : S2048x256.Idx) : (outsAt0 m c t.val t.isLt).1 y
    = gradU (inV m c) (inD m c) (inW m c) (inB m c) (halfRow t (y 0)) (chan (grp t) (y 1)) := by
  refine Eq.trans ?_ (blkDu_eq m c t (y 0) (y 1))
  by_cases h0 : t.val % 2 = 0
  · rw [outsAt0_A m c t h0]
    dsimp only
    rw [du_A]
  · rw [outsAt0_B m c t h0]
    dsimp only
    rw [du_B]

theorem outs6 (c : Dev nD) (t : Fin cfg0.N) (y : S2048x256.Idx) : (outsAt0 m c t.val t.isLt).2.1 y
    = gradV (inU m c) (inD m c) (inW m c) (halfRow t (y 0)) (chan (grp t) (y 1)) := by
  refine Eq.trans ?_ (blkDvn_eq m c t (y 0) (y 1))
  by_cases h0 : t.val % 2 = 0
  · rw [outsAt0_A m c t h0]
    dsimp only
    rw [dvn_A]
  · rw [outsAt0_B m c t h0]
    dsimp only
    rw [dvn_B]

/-- The gradient of `u` after the run. -/
theorem arr5 (c : Dev nD) : (dats m 0 c).arrAt 5 cfg0.N
    = fun y => gradU (inV m c) (inD m c) (inW m c) (inB m c) (y 0) (y 1) := by
  have idx := indices
  refine (dats m 0 c).arrAt_eq_of_covers 5 _ (by decide +kernel) fun t hf y => ?_
  blk_simp
  rw [after0_5]
  refine (outs5 m c t y).trans (congrArg₂ (gradU _ _ _ _) (Fin.ext ?_) (Fin.ext ?_)) <;>
    blk_simp [idx t] <;> rfl

/-- The gradient of the gated half after the run. -/
theorem arr6 (c : Dev nD) : (dats m 0 c).arrAt 6 cfg0.N
    = fun y => gradV (inU m c) (inD m c) (inW m c) (y 0) (y 1) := by
  have idx := indices
  refine (dats m 0 c).arrAt_eq_of_covers 6 _ (by decide +kernel) fun t hf y => ?_
  blk_simp
  rw [after0_6]
  refine (outs6 m c t y).trans (congrArg₂ (gradV _ _ _) (Fin.ext ?_) (Fin.ext ?_)) <;>
    blk_simp [idx t] <;> rfl

/-- What point `t` adds to its group's gate gradient. -/
def partW (c : Dev nD) (t : Fin cfg0.N) (p s : Fin 128) : EReal :=
  keep s.val p.val (∑ n : Fin 16, ∑ d : Fin 256,
    inD m c (ix2 (halfRow t (blkRow n p)) (chan (grp t) d)) * inU m c (ix2 (halfRow t (blkRow n p)) (chan (grp t) d))
      * inV m c (ix2 (halfRow t (blkRow n s)) (chan (grp t) d)))

/-- What point `t` adds to its group's bias gradient. -/
def partB (c : Dev nD) (t : Fin cfg0.N) (p : Fin 128) : EReal :=
  ∑ n : Fin 16, ∑ d : Fin 256,
    inD m c (ix2 (halfRow t (blkRow n p)) (chan (grp t) d)) * inU m c (ix2 (halfRow t (blkRow n p)) (chan (grp t) d))

theorem blkDws_eq (c : Dev nD) (t : Fin cfg0.N) (p s : Fin 128) :
    blkDws (iblk m c 0 t) (iblk m c 1 t) (iblk m c 2 t) p s = partW m c t p s := by
  unfold blkDws partW
  refine congrArg (keep _ _) (Finset.sum_congr rfl fun n _ => Finset.sum_congr rfl fun d _ => ?_)
  rw [blk0, blk1, blk2]

theorem blkDbs_eq (c : Dev nD) (t : Fin cfg0.N) (p : Fin 128) :
    blkDbs (iblk m c 0 t) (iblk m c 2 t) p = partB m c t p := by
  unfold blkDbs partB
  refine Finset.sum_congr rfl fun n _ => Finset.sum_congr rfl fun d _ => ?_
  rw [blk0, blk2]

/-- A group's two points together run over the thirty-two chunks. -/
theorem sum_halves (f : Fin 32 → EReal) (F : Fin cfg0.N → Fin 16 → EReal)
    (h : ∀ t n, F t n = f ⟨t.val % 2 * 16 + n.val, by have := n.isLt; omega⟩) (t : ℕ) (h0 : 2 * t < cfg0.N)
    (h1 : 2 * t + 1 < cfg0.N) : (∑ n, F ⟨2 * t, h0⟩ n) + ∑ n, F ⟨2 * t + 1, h1⟩ n = ∑ n, f n := by
  have e := Fin.sum_univ_univ_mul_add 2 16 fun l => if h : l < 32 then f ⟨l, h⟩ else 0
  rw [Fin.sum_univ_two] at e
  refine (congrArg₂ (· + ·) (Finset.sum_congr rfl fun n _ => ?_) (Finset.sum_congr rfl fun n _ => ?_)).trans
    (e.trans (Finset.sum_congr rfl fun l _ => dif_pos l.isLt))
  · rw [h, dif_pos (by have := n.isLt; show 0 * 16 + n.val < 32; omega)]
    exact congrArg f (Fin.ext (by show 2 * t % 2 * 16 + n.val = 0 * 16 + n.val; omega))
  · rw [h, dif_pos (by have := n.isLt; show 1 * 16 + n.val < 32; omega)]
    exact congrArg f (Fin.ext (by show (2 * t + 1) % 2 * 16 + n.val = 1 * 16 + n.val; omega))

theorem outs7_first (c : Dev nD) (t : Fin cfg0.N) (h0 : t.val % 2 = 0) (y : S1x128x128.Idx) :
    (outsAt0 m c t.val t.isLt).2.2.1 y = 0 + partW m c t (y 1) (y 2) := by
  rw [outsAt0_A m c t h0, zero_add]
  dsimp only
  rw [dws_A]
  exact blkDws_eq ..

theorem outs7_later (c : Dev nD) (t : Fin cfg0.N) (h0 : ¬t.val % 2 = 0) (y : S1x128x128.Idx) :
    (outsAt0 m c t.val t.isLt).2.2.1 y
      = (outsAt0 m c (t.val - 1) (Nat.lt_of_le_of_lt (Nat.sub_le _ _) t.isLt)).2.2.1 y + partW m c t (y 1) (y 2) := by
  rw [outsAt0_B m c t h0]
  dsimp only
  rw [dws_B]
  exact congrArg _ (blkDws_eq ..)

theorem outs8_first (c : Dev nD) (t : Fin cfg0.N) (h0 : t.val % 2 = 0) (y : S1x128x1.Idx) :
    (outsAt0 m c t.val t.isLt).2.2.2 y = 0 + partB m c t (y 1) := by
  rw [outsAt0_A m c t h0, zero_add]
  dsimp only
  rw [dbs_A]
  exact blkDbs_eq ..

theorem outs8_later (c : Dev nD) (t : Fin cfg0.N) (h0 : ¬t.val % 2 = 0) (y : S1x128x1.Idx) :
    (outsAt0 m c t.val t.isLt).2.2.2 y
      = (outsAt0 m c (t.val - 1) (Nat.lt_of_le_of_lt (Nat.sub_le _ _) t.isLt)).2.2.2 y + partB m c t (y 1) := by
  rw [outsAt0_B m c t h0]
  dsimp only
  rw [dbs_B]
  exact congrArg _ (blkDbs_eq ..)

theorem halfRow_tokRow (t : Fin cfg0.N) (n : Fin 16) (s : Fin 128) :
    halfRow t (blkRow n s) = tokRow ⟨t.val % 2 * 16 + n.val, by have := n.isLt; omega⟩ s :=
  Fin.ext (by show t.val % 2 * 2048 + (n.val * 128 + s.val) = (t.val % 2 * 16 + n.val) * 128 + s.val; omega)

theorem partW_sum (c : Dev nD) (g : ℕ) (h0 : 2 * g < cfg0.N) (h1 : 2 * g + 1 < cfg0.N) (q : Fin 8) (hq : q.val = g)
    (p s : Fin 128) : partW m c ⟨2 * g, h0⟩ p s + partW m c ⟨2 * g + 1, h1⟩ p s
      = gradW (inU m c) (inV m c) (inD m c) q p s := by
  have e0 : grp ⟨2 * g, h0⟩ = q := Fin.ext (by show 2 * g / 2 = q.val; omega)
  have e1 : grp ⟨2 * g + 1, h1⟩ = q := Fin.ext (by show (2 * g + 1) / 2 = q.val; omega)
  unfold partW
  rw [← keep_add]
  simp only [halfRow_tokRow, e0, e1]
  refine congrArg (keep _ _) (sum_halves (fun n => ∑ d : Fin 256, inD m c (ix2 (tokRow n p) (chan q d))
    * inU m c (ix2 (tokRow n p) (chan q d)) * inV m c (ix2 (tokRow n s) (chan q d)))
    (fun t n => ∑ d : Fin 256, inD m c (ix2 (tokRow ⟨t.val % 2 * 16 + n.val, by have := n.isLt; omega⟩ p) (chan q d))
    * inU m c (ix2 (tokRow ⟨t.val % 2 * 16 + n.val, by have := n.isLt; omega⟩ p) (chan q d))
    * inV m c (ix2 (tokRow ⟨t.val % 2 * 16 + n.val, by have := n.isLt; omega⟩ s) (chan q d))) (fun _ _ => rfl) g h0 h1)

theorem partB_sum (c : Dev nD) (g : ℕ) (h0 : 2 * g < cfg0.N) (h1 : 2 * g + 1 < cfg0.N) (q : Fin 8) (hq : q.val = g)
    (p : Fin 128) : partB m c ⟨2 * g, h0⟩ p + partB m c ⟨2 * g + 1, h1⟩ p
      = gradB (inU m c) (inD m c) q p := by
  have e0 : grp ⟨2 * g, h0⟩ = q := Fin.ext (by show 2 * g / 2 = q.val; omega)
  have e1 : grp ⟨2 * g + 1, h1⟩ = q := Fin.ext (by show (2 * g + 1) / 2 = q.val; omega)
  unfold partB
  simp only [halfRow_tokRow, e0, e1]
  exact sum_halves (fun n => ∑ d : Fin 256, inD m c (ix2 (tokRow n p) (chan q d))
    * inU m c (ix2 (tokRow n p) (chan q d)))
    (fun t n => ∑ d : Fin 256, inD m c (ix2 (tokRow ⟨t.val % 2 * 16 + n.val, by have := n.isLt; omega⟩ p) (chan q d))
    * inU m c (ix2 (tokRow ⟨t.val % 2 * 16 + n.val, by have := n.isLt; omega⟩ p) (chan q d))) (fun _ _ => rfl) g h0 h1

theorem outs7 (c : Dev nD) (t : Fin cfg0.N) (ht : t.val % 2 = 2 - 1) (y : S1x128x128.Idx) :
    (outsAt0 m c t.val t.isLt).2.2.1 y = gradW (inU m c) (inV m c) (inD m c) (grp t) (y 1) (y 2) := by
  have e := Pipeline.eq_sum_fin_of_reset_step_apply_of_flush (fun n h => (outsAt0 m c n h).2.2.1) 2 (fun _ => (0 : EReal))
    (fun t y => partW m c t (y 1) (y 2)) (outs7_first m c) (outs7_later m c) t ht y
  refine e.trans ?_
  rw [Fin.sum_univ_two, zero_add]
  exact partW_sum m c (t.val / 2) _ _ (grp t) rfl (y 1) (y 2)

theorem outs8 (c : Dev nD) (t : Fin cfg0.N) (ht : t.val % 2 = 2 - 1) (y : S1x128x1.Idx) :
    (outsAt0 m c t.val t.isLt).2.2.2 y = gradB (inU m c) (inD m c) (grp t) (y 1) := by
  have e := Pipeline.eq_sum_fin_of_reset_step_apply_of_flush (fun n h => (outsAt0 m c n h).2.2.2) 2 (fun _ => (0 : EReal))
    (fun t y => partB m c t (y 1)) (outs8_first m c) (outs8_later m c) t ht y
  refine e.trans ?_
  rw [Fin.sum_univ_two, zero_add]
  exact partB_sum m c (t.val / 2) _ _ (grp t) rfl (y 1)

/-- The gradient of the gates after the run. -/
theorem arr7 (c : Dev nD) : (dats m 0 c).arrAt 7 cfg0.N
    = fun y => gradW (inU m c) (inV m c) (inD m c) (y 0) (y 1) (y 2) := by
  have idx := indices
  refine (dats m 0 c).arrAt_eq_of_covers 7 _ (by decide +kernel) fun t hf y => ?_
  blk_simp
  rw [after0_7]
  idx_bounds y
  refine (outs7 m c t ((flush0_7 t).mp hf) y).trans (congr (congrArg₂ (gradW _ _ _) (Fin.ext ?_) (Fin.ext ?_)) (Fin.ext ?_)) <;>
    blk_simp [idx t]
  all_goals first | rfl | (show t.val / 2 = _; omega) | omega

/-- The gradient of the biases after the run. -/
theorem arr8 (c : Dev nD) : (dats m 0 c).arrAt 8 cfg0.N
    = fun y => gradB (inU m c) (inD m c) (y 0) (y 1) := by
  have idx := indices
  refine (dats m 0 c).arrAt_eq_of_covers 8 _ (by decide +kernel) fun t hf y => ?_
  blk_simp
  rw [after0_8]
  idx_bounds y
  refine (outs8 m c t ((flush0_8 t).mp hf) y).trans (congrArg₂ (gradB _ _) (Fin.ext ?_) (Fin.ext ?_)) <;>
    blk_simp [idx t]
  all_goals first | rfl | (show t.val / 2 = _; omega) | omega

end Cert.SpatialGate
-- ==== Proof.SguReference.lean ====
module

public import proofs.«01_k».proof.Proof.Gen.ReferenceIdeal.Read
public import Idealize.ShloMosaic.Lib.Pointwise
public import Idealize.ShloMosaic.Lib.Pipeline.ValueKit
public import proofs.«01_k».proof.Proof.SguSpec

/-!
# The reference's four results at an index

The reference differentiates the gate on arrays of five axes. Its contraction over three axes and its reductions over
axes 0, 1 and 4 are opened here; the two batches of sixteen chunks are the closed forms' thirty-two.
-/

@[expose] public section

set_option maxRecDepth 16384

noncomputable section

namespace Cert.SpatialGate

open Cert.ReferenceIdeal Cert.ReferenceIdeal.Read Idealize.ShloMosaic Idealize.ShloMosaic.TcCoe Idealize.SL.Sem

section contraction

/-- The gate gradient's contraction: batch, chunk and channel. -/
abbrev dot3 := dot_S8x2x16x256x128_S2x16x128x8x256_S8x128x128_123_014_4_2_0_3

/-- Its contraction indices are the triples of batch, chunk and channel. -/
def tripleEquiv : dot3.contr.Idx ≃ Fin 2 × Fin 16 × Fin 256 where
  toFun q := (q ⟨0, by decide⟩, q ⟨1, by decide⟩, q ⟨2, by decide⟩)
  invFun p := fun a => match a with
    | ⟨0, _⟩ => p.1
    | ⟨1, _⟩ => p.2.1
    | ⟨2, _⟩ => p.2.2
  left_inv q := by
    funext a
    match a with
    | ⟨0, _⟩ => rfl
    | ⟨1, _⟩ => rfl
    | ⟨2, _⟩ => rfl
  right_inv p := rfl

theorem dot3_lhs (g : Fin 8) (t s : Fin 128) (p : Fin 2 × Fin 16 × Fin 256) :
    dot3.lhsIdx (ix3 g t s) (tripleEquiv.symm p) = ix5 g p.1 p.2.1 p.2.2 t := by
  funext a
  refine Fin.ext ?_
  match a with
  | ⟨0, _⟩ => rfl
  | ⟨1, _⟩ => rfl
  | ⟨2, _⟩ => rfl
  | ⟨3, _⟩ => rfl
  | ⟨4, _⟩ => rfl

theorem dot3_rhs (g : Fin 8) (t s : Fin 128) (p : Fin 2 × Fin 16 × Fin 256) :
    dot3.rhsIdx (ix3 g t s) (tripleEquiv.symm p) = ix5 p.1 p.2.1 s g p.2.2 := by
  funext a
  refine Fin.ext ?_
  match a with
  | ⟨0, _⟩ => rfl
  | ⟨1, _⟩ => rfl
  | ⟨2, _⟩ => rfl
  | ⟨3, _⟩ => rfl
  | ⟨4, _⟩ => rfl

theorem dot3_apply (A : S8x2x16x256x128.Idx → EReal) (B : S2x16x128x8x256.Idx → EReal) (g : Fin 8) (t s : Fin 128) :
    Ideal.matmul dot3 A B (fun _ => 0) (ix3 g t s)
      = ∑ a : Fin 2, ∑ n : Fin 16, ∑ d : Fin 256, A (ix5 g a n d t) * B (ix5 a n s g d) := by
  show (0 : EReal) + ∑ q : dot3.contr.Idx, A (dot3.lhsIdx (ix3 g t s) q) * B (dot3.rhsIdx (ix3 g t s) q) = _
  rw [zero_add, ← Equiv.sum_comp tripleEquiv.symm]
  simp only [Fintype.sum_prod_type, dot3_lhs, dot3_rhs]

end contraction

section reduction

variable {n0 n1 n2 n3 n4 : ℕ}

/-- The indices that a reduction over axes 0, 1 and 4 sends to `(b, c)`. -/
theorem drop014 (h : (⟨5, ![n0, n1, n2, n3, n4]⟩ : Shape).ReducesTo [0, 1, 4] ⟨2, ![n2, n3]⟩) (b : Fin n2) (c : Fin n3)
    (i : (⟨5, ![n0, n1, n2, n3, n4]⟩ : Shape).Idx) :
    h.drop i = ix2 b c ↔ ∃ k : Fin n0 × Fin n1 × Fin n4, ix5 k.1 k.2.1 b c k.2.2 = i := by
  constructor
  · intro e
    refine ⟨(i 0, i 1, i 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext a
    apply Fin.ext
    match a with
    | ⟨0, _⟩ => rfl
    | ⟨1, _⟩ => rfl

theorem reduce014 (h : (⟨5, ![n0, n1, n2, n3, n4]⟩ : Shape).ReducesTo [0, 1, 4] ⟨2, ![n2, n3]⟩)
    (v : (⟨5, ![n0, n1, n2, n3, n4]⟩ : Shape).Idx → EReal) (z : EReal) (b : Fin n2) (c : Fin n3) :
    Ideal.hostReduceAdd h v z (ix2 b c) = z + ∑ x : Fin n0, ∑ y : Fin n1, ∑ d : Fin n4, v (ix5 x y b c d) := by
  refine congrArg (z + ·) ((Finset.sum_filter_eq_sum_of_fiber _ (fun k : Fin n0 × Fin n1 × Fin n4 =>
    ix5 k.1 k.2.1 b c k.2.2) ?_ (drop014 h b c) v).trans ?_)
  · rintro ⟨k0, k1, k2⟩ ⟨l0, l1, l2⟩ e
    have e0 := congrFun e 0
    have e1 := congrFun e 1
    have e4 := congrFun e 4
    exact Prod.ext e0 (Prod.ext e1 e4)
  · simp only [Fintype.sum_prod_type]

end reduction

variable (x0 x1 x2 : (⟨S4096x2048, .bf16⟩ : BufTy).Contents (Elt Ideal)) (x3 : (⟨S8x128x128, .f32⟩ : BufTy).Contents (Elt Ideal))
  (x4 : (⟨S8x128, .f32⟩ : BufTy).Contents (Elt Ideal))

/-- Two batches of sixteen chunks are thirty-two chunks. -/
theorem sum_batches (f : Fin 32 → EReal) :
    ∑ a : Fin 2, ∑ n : Fin 16, f ⟨a.val * 16 + n.val, by have := a.isLt; have := n.isLt; omega⟩ = ∑ n, f n := by
  have h := Fin.sum_univ_univ_mul_add 2 16 fun l => if h : l < 32 then f ⟨l, h⟩ else 0
  refine (Finset.sum_congr rfl fun a _ => Finset.sum_congr rfl fun n _ => ?_).trans (h.trans ?_)
  · have := a.isLt; have := n.isLt
    rw [dif_pos (by omega)]
  · exact Finset.sum_congr rfl fun l _ => dif_pos l.isLt

theorem read2 (A : Tok) {r r' : Fin 4096} {k k' : Fin 2048} (hr : r.val = r'.val) (hk : k.val = k'.val) :
    A (ix2 r k) = A (ix2 r' k') := by rw [Fin.ext hr, Fin.ext hk]

set_option maxHeartbeats 1000000 in
theorem reference_du (y : S4096x2048.Idx) : val_main_v34 (F := Ideal) x1 x2 x3 x4 y = gradU x1 x2 x3 x4 (y 0) (y 1) := by
  rw [← val_main_v34_eq]
  idx_vars y
  pointwise
  simp only [select_sge _ _ (Fin.isLt _) (Nat.mod_lt _ (by decide : 128 > 0))]
  have hp : y0.val % 2048 % 128 = y0.val % 128 := by omega
  have hpos (h) : (⟨y0.val % 2048 % 128, h⟩ : Fin 128) = posOf y0 := Fin.ext hp
  have hrow (s : Fin 128) (h) :
      (⟨y0.val / 2048 * 2048 + y0.val % 2048 / 128 * 128 + s.val, h⟩ : Fin 4096) = tokRow (chunkOf y0) s :=
    Fin.ext (by show _ = y0.val / 128 * 128 + s.val; dsimp only; omega)
  simp only [hpos, hrow]
  refine congrArg₂ (· * ·) rfl (congrArg₂ (· + ·) (Finset.sum_congr rfl fun s _ => ?_) rfl)
  rw [mul_comm]
  exact congrArg (fun n => keep s.val n _) hp

set_option maxHeartbeats 1000000 in
theorem reference_dv (y : S4096x2048.Idx) : val_main_v35 (F := Ideal) x0 x2 x3 y = gradV x0 x2 x3 (y 0) (y 1) := by
  rw [← val_main_v35_eq]
  idx_vars y
  pointwise
  simp only [select_sge _ _ (Nat.mod_lt _ (by decide : 128 > 0)) (Fin.isLt _)]
  have hr (s : Fin 128) : y0.val / 2048 * 2048 + (y0.val / 128 % 16 * 128 + s.val) = y0.val / 128 * 128 + s.val := by omega
  simp only [hr]
  refine Finset.sum_congr rfl fun t _ => congrArg (keep _ _) ?_
  rw [mul_comm, mul_comm (x0 _)]
  rfl

set_option maxHeartbeats 1000000 in
theorem reference_dw (y : S8x128x128.Idx) : val_main_v32 (F := Ideal) x0 x1 x2 y = gradW x0 x1 x2 (y 0) (y 1) (y 2) := by
  rw [← val_main_v32_eq]
  idx_vars y
  pointwise
  rw [dot3_apply, select_sge _ _ (Fin.isLt _) (Fin.isLt _)]
  pointwise
  refine congrArg (keep _ _) (Eq.trans ?_ (sum_batches _))
  refine Finset.sum_congr rfl fun a _ => Finset.sum_congr rfl fun n _ => Finset.sum_congr rfl fun d _ => ?_
  rw [mul_comm (x0 _)]
  refine congrArg₂ (· * ·) (congrArg₂ (· * ·) ?_ ?_) ?_ <;>
    exact read2 _ (by show _ = (a.val * 16 + n.val) * 128 + _; dsimp only; omega) rfl

set_option maxHeartbeats 1000000 in
theorem reference_db (y : S8x128x1.Idx) : val_main_v36 (F := Ideal) x0 x2 y = gradB x0 x2 (y 0) (y 1) := by
  rw [← val_main_v36_eq]
  idx_vars y
  pointwise
  rw [reduce014]
  pointwise
  simp only [reduce014, Finset.univ_unique, Finset.sum_singleton]
  pointwise
  refine Eq.trans ?_ (sum_batches fun n => ∑ d : Fin 256, x2 (ix2 (tokRow n y1) (chan y0 d)) * x0 (ix2 (tokRow n y1) (chan y0 d)))
  refine Finset.sum_congr rfl fun a _ => Finset.sum_congr rfl fun n _ => Finset.sum_congr rfl fun d _ => ?_
  rw [mul_comm (x0 _)]
  refine congrArg₂ (· * ·) ?_ ?_ <;>
    exact read2 _ (by show _ = (a.val * 16 + n.val) * 128 + _; dsimp only; omega) rfl

end Cert.SpatialGate
-- ==== Proof.SguClaims.lean ====
module

public import proofs.«01_k».proof.Defs
public import proofs.«01_k».proof.Proof.Gen.KernelIdeal.Value
public import proofs.«01_k».proof.Proof.Gen.ReferenceIdeal.Run
public import proofs.«01_k».proof.Proof.SguArrays
public import proofs.«01_k».proof.Proof.SguReference

/-!
# The gating unit's claims

The call and the reference both end at the closed forms of `SguSpec`.
-/

@[expose] public section

set_option maxRecDepth 16384

noncomputable section

namespace Cert.SpatialGate

open Idealize.ShloMosaic Idealize.ShloMosaic.TcCoe Idealize.SL.Sem

/-- The reference's frame. -/
theorem frame_reference : Cert.quiescent_ReferenceIdeal := by
  intro m ρ _
  exact (θ_run Cert.ReferenceIdeal.defs _ _).mono
    (fun r h => ⟨fun c => (h c).2.2.2.2, sem_eq_zero_of_no_sems (by decide) r.2⟩)
    (Cert.ReferenceIdeal.Value.run (F := Ideal) m ρ)

/-- The call's four results are the reference's. -/
theorem algebraic : Cert.algebraic_KernelIdeal_ReferenceIdeal := by
  intro m ρ m' ρ' _ hag
  refine ⟨fun c => fun y => gradU (inV m c) (inD m c) (inW m c) (inB m c) (y 0) (y 1),
    fun c => fun y => gradV (inU m c) (inD m c) (inW m c) (y 0) (y 1),
    fun c => fun y => gradW (inU m c) (inV m c) (inD m c) (y 0) (y 1) (y 2),
    fun c => fun y => gradB (inU m c) (inD m c) (y 0) (y 1), ?_, ?_⟩
  · refine (θ_run Cert.KernelIdeal.defs _ _).mono (fun r h c => ?_) (Cert.KernelIdeal.Value.run_blocks (F := Ideal) m ρ)
    obtain ⟨h5, h6, h7, h8, hargs⟩ := h c
    exact ⟨h5.trans (arr5 m c), h6.trans (arr6 m c), h7.trans (arr7 m c), h8.trans (arr8 m c), hargs⟩
  · refine (θ_run Cert.ReferenceIdeal.defs _ _).mono (fun r h c => ?_) (Cert.ReferenceIdeal.Value.run (F := Ideal) m' ρ')
    obtain ⟨h5, h6, h7, h8, hargs⟩ := h c
    obtain ⟨e0, e1, e2, e3, e4⟩ := hag c
    refine ⟨h5.trans ?_, h6.trans ?_, h7.trans ?_, h8.trans ?_, hargs⟩
    · rw [e1, e2, e3, e4]
      exact funext (reference_du _ _ _ _)
    · rw [e0, e2, e3]
      exact funext (reference_dv _ _ _)
    · rw [e0, e1, e2]
      exact funext (reference_dw _ _ _)
    · rw [e0, e2]
      exact funext (reference_db _ _)

end Cert.SpatialGate
-- ==== Proof.FfnDownDx.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

/-!
# The gradient of the squared-ReLU block's pre-activation

One product with the transposed down projection, times the slope of the squared ReLU.
-/

@[expose] public section

set_option maxRecDepth 16384

noncomputable section

namespace Cert.FfnDownDx

open Idealize.ShloMosaic Idealize.ShloMosaic.TcCoe Idealize.SL.Sem
open Idealize.ShloMosaic.Pipeline (Dat)

/-- The literal two. -/
abbrev two : EReal := Ideal.ofBits .f32 0x40000000#32

/-- The gradient of the pre-activation `a` at token `t` and hidden channel `f`. -/
def grad (a : (⟨2, ![4096, 4096]⟩ : Shape).Idx → EReal) (w dh : (⟨2, ![4096, 1024]⟩ : Shape).Idx → EReal)
    (t f : Fin 4096) : EReal :=
  (∑ k : Fin 1024, dh (ix2 t k) * w (ix2 f k)) * (two * max (a (ix2 t f)) 0)

section call

open Cert.Kernel2Ideal Cert.Kernel2Ideal.Gen

/-- The gradient on a block of tokens by hidden channels. -/
def blkGrad (x : (⟨2, ![2048, 1024]⟩ : Shape).Idx → EReal) (w : (⟨2, ![1024, 1024]⟩ : Shape).Idx → EReal)
    (a : (⟨2, ![2048, 1024]⟩ : Shape).Idx → EReal) (r : Fin 2048) (f : Fin 1024) : EReal :=
  (∑ k : Fin 1024, x (ix2 r k) * w (ix2 f k)) * (two * max (a (ix2 r f)) 0)

theorem block (x : Vec Ideal S2048x1024 .bf16) (w : Vec Ideal S1024x1024 .bf16) (a : Vec Ideal S2048x1024 .bf16)
    (y : S2048x1024.Idx) : out0_3 x w a y = blkGrad x w a (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 4, 0] ∧ win0_1.index t = ![t.val % 4, 0] ∧
    win0_2.index t = ![t.val / 4, t.val % 4] ∧ win0_3.index t = ![t.val / 4, t.val % 4] := by decide +kernel

theorem lt8 (t : Fin cfg0.N) : t.val < 8 := by have h := t.isLt; have e : cfg0.N = 8 := N_0; omega

/-- Row `r` of the tokens that point `t` works on. -/
def tokRow (t : Fin cfg0.N) (r : Fin 2048) : Fin 4096 :=
  ⟨t.val / 4 * 2048 + r.val, by have := r.isLt; have := lt8 t; omega⟩
/-- Column `f` of the hidden channels that point `t` works on. -/
def chan (t : Fin cfg0.N) (f : Fin 1024) : Fin 4096 := ⟨t.val % 4 * 1024 + f.val, by have := f.isLt; omega⟩

theorem blk0 (c : Dev nD) (t : Fin cfg0.N) (r : Fin 2048) (k : Fin 1024) :
    iblk m c 0 t (ix2 r k) = m ((c : Thread nD τ).loc main_arg2) (ix2 (tokRow t r) k) := by
  have idx := indices
  blk_point [iblk, V, idx t] <;> rfl

theorem blk1 (c : Dev nD) (t : Fin cfg0.N) (f k : Fin 1024) :
    iblk m c 1 t (ix2 f k) = m ((c : Thread nD τ).loc main_arg1) (ix2 (chan t f) k) := by
  have idx := indices
  blk_point [iblk, V, idx t] <;> rfl

theorem blk2 (c : Dev nD) (t : Fin cfg0.N) (r : Fin 2048) (f : Fin 1024) :
    iblk m c 2 t (ix2 r f) = m ((c : Thread nD τ).loc main_arg0) (ix2 (tokRow t r) (chan t f)) := by
  have idx := indices
  blk_point [iblk, V, idx t] <;> rfl

/-- The gradient that the call leaves. -/
abbrev result (c : Dev nD) (t f : Fin 4096) : EReal :=
  grad (m ((c : Thread nD τ).loc main_arg0)) (m ((c : Thread nD τ).loc main_arg1)) (m ((c : Thread nD τ).loc main_arg2)) t f

theorem block_eq (c : Dev nD) (t : Fin cfg0.N) (r : Fin 2048) (f : Fin 1024) :
    blkGrad (iblk m c 0 t) (iblk m c 1 t) (iblk m c 2 t) r f = result m c (tokRow t r) (chan t f) := by
  unfold blkGrad
  rw [blk2]
  refine congrArg (· * _) (Finset.sum_congr rfl fun k _ => ?_)
  rw [blk0, blk1]

theorem outs (c : Dev nD) (t : Fin cfg0.N) (y : S2048x1024.Idx) :
    out0_3 (iblk m c 0 t) (iblk m c 1 t) (iblk m c 2 t) y = result m c (tokRow t (y 0)) (chan t (y 1)) :=
  (block _ _ _ y).trans (block_eq m c t (y 0) (y 1))

theorem arr (c : Dev nD) : (dats m 0 c).arrAt 3 cfg0.N = fun y => result m c (y 0) (y 1) := by
  have idx := indices
  refine (dats m 0 c).arrAt_eq_of_covers 3 _ (by decide +kernel) fun t hf y => ?_
  blk_simp
  rw [after0_3]
  refine (outs m c t y).trans (congrArg₂ (result m c) (Fin.ext ?_) (Fin.ext ?_)) <;> blk_simp [idx t] <;> rfl

end call

section plain

open Cert.Reference2Ideal Cert.Reference2Ideal.Read

variable (x0 : (⟨S4096x4096, .bf16⟩ : BufTy).Contents (Elt Ideal)) (x1 : (⟨S4096x1024, .bf16⟩ : BufTy).Contents (Elt Ideal))
  (x2 : (⟨S4096x1024, .f32⟩ : BufTy).Contents (Elt Ideal))

theorem reference (y : S4096x4096.Idx) : val_main_v14 (F := Ideal) x0 x1 x2 y = grad x0 x1 x2 (y 0) (y 1) := by
  rw [← val_main_v14_eq]
  idx_vars y
  pointwise
  unfold grad
  by_cases h : 0 < x0 (ix2 y0 y1)
  · rw [if_pos h]
  · rw [if_neg h, max_eq_right (not_lt.mp h), mul_zero, mul_zero]

end plain

/-- The reference's frame. -/
theorem frame_reference : Cert.quiescent_Reference2Ideal := by
  intro m ρ _
  exact (θ_run Cert.Reference2Ideal.defs _ _).mono
    (fun r h => ⟨fun c => (h c).2, sem_eq_zero_of_no_sems (by decide) r.2⟩)
    (Cert.Reference2Ideal.Value.run (F := Ideal) m ρ)

/-- The call's result is the reference's. -/
theorem algebraic : Cert.algebraic_Kernel2Ideal_Reference2Ideal := by
  intro m ρ m' ρ' _ hag
  refine ⟨fun c => fun y => result m c (y 0) (y 1), ?_, ?_⟩
  · refine (θ_run Cert.Kernel2Ideal.defs _ _).mono (fun r h c => ?_) (Cert.Kernel2Ideal.Value.run_blocks (F := Ideal) m ρ)
    obtain ⟨h3, hargs⟩ := h c
    exact ⟨h3.trans (arr m c), hargs⟩
  · refine (θ_run Cert.Reference2Ideal.defs _ _).mono (fun r h c => ?_) (Cert.Reference2Ideal.Value.run (F := Ideal) m' ρ')
    obtain ⟨h3, hargs⟩ := h c
    obtain ⟨e0, e1, e2⟩ := hag c
    refine ⟨h3.trans ?_, hargs⟩
    unfold result
    rw [e0, e1, e2]
    exact funext (reference _ _ _)

end Cert.FfnDownDx

end
-- ==== Proof.FfnDownDw.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.StableHlo.ReadAt

/-!
# The gradient of the squared-ReLU block's down projection

The squared ReLU, transposed, times the gradient of the block's result.
-/

@[expose] public section

set_option maxRecDepth 16384

noncomputable section

namespace Cert.FfnDownDw

open Idealize.ShloMosaic Idealize.ShloMosaic.TcCoe Idealize.SL.Sem
open Idealize.ShloMosaic.Pipeline (Dat)

/-- The squared ReLU. -/
def relu2 (x : EReal) : EReal := max x 0 * max x 0

/-- The gradient of the down projection at hidden channel `f` and model channel `d`. -/
def grad (a : (⟨2, ![4096, 4096]⟩ : Shape).Idx → EReal) (dh : (⟨2, ![4096, 1024]⟩ : Shape).Idx → EReal)
    (f : Fin 4096) (d : Fin 1024) : EReal :=
  ∑ t : Fin 4096, relu2 (a (ix2 t f)) * dh (ix2 t d)

section call

open Cert.Kernel3Ideal Cert.Kernel3Ideal.Gen

/-- The gradient on a block of hidden channels. -/
def blkGrad (r x : (⟨2, ![4096, 1024]⟩ : Shape).Idx → EReal) (f d : Fin 1024) : EReal :=
  ∑ t : Fin 4096, r (ix2 t f) * x (ix2 t d)

theorem block (r x : Vec Ideal S4096x1024 .bf16) (y : S1024x1024.Idx) : out0_2 r x y = blkGrad r x (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, t.val] ∧ win0_1.index t = ![0, 0] ∧
    win0_2.index t = ![t.val, 0] := by decide +kernel

theorem lt4 (t : Fin cfg0.N) : t.val < 4 := by have h := t.isLt; have e : cfg0.N = 4 := N_0; omega

/-- Hidden channel `f` of those that point `t` works on. -/
def chan (t : Fin cfg0.N) (f : Fin 1024) : Fin 4096 := ⟨t.val * 1024 + f.val, by have := f.isLt; have := lt4 t; omega⟩

/-- The squared ReLU's array as the call is entered. -/
theorem entry (c : Dev nD) (i : Fin 4096) (j : Fin 4096) :
    V m c main_v3 (ix2 i j) = relu2 (m ((c : Thread nD τ).loc main_arg0) (ix2 i j)) := by
  unfold V
  simp only [List.flatten_cons, List.flatten_nil, List.append_nil, List.cons_append, List.nil_append]
  after_reads_at
  rfl

theorem blk0 (c : Dev nD) (t : Fin cfg0.N) (k : Fin 4096) (f : Fin 1024) :
    iblk m c 0 t (ix2 k f) = relu2 (m ((c : Thread nD τ).loc main_arg0) (ix2 k (chan t f))) := by
  have idx := indices
  refine Eq.trans (b := V m c main_v3 (ix2 k (chan t f))) ?_ (entry m c _ _)
  blk_point [iblk, idx t] <;> rfl

theorem blk1 (c : Dev nD) (t : Fin cfg0.N) (k : Fin 4096) (d : Fin 1024) :
    iblk m c 1 t (ix2 k d) = m ((c : Thread nD τ).loc main_arg1) (ix2 k d) := by
  have idx := indices
  blk_point [iblk, V, idx t] <;> rfl

/-- The gradient that the call leaves. -/
abbrev result (c : Dev nD) (f : Fin 4096) (d : Fin 1024) : EReal :=
  grad (m ((c : Thread nD τ).loc main_arg0)) (m ((c : Thread nD τ).loc main_arg1)) f d

theorem block_eq (c : Dev nD) (t : Fin cfg0.N) (f d : Fin 1024) :
    blkGrad (iblk m c 0 t) (iblk m c 1 t) f d = result m c (chan t f) d := by
  refine Finset.sum_congr rfl fun k _ => ?_
  rw [blk0, blk1]

theorem outs (c : Dev nD) (t : Fin cfg0.N) (y : S1024x1024.Idx) :
    out0_2 (iblk m c 0 t) (iblk m c 1 t) y = result m c (chan t (y 0)) (y 1) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference3Ideal Cert.Reference3Ideal.Read

variable (x0 : (⟨S4096x4096, .bf16⟩ : BufTy).Contents (Elt Ideal)) (x1 : (⟨S4096x1024, .f32⟩ : BufTy).Contents (Elt Ideal))

theorem reference (y : S4096x1024.Idx) : val_main_v7 (F := Ideal) x0 x1 y = grad x0 x1 (y 0) (y 1) := by
  rw [← val_main_v7_eq]
  idx_vars y
  pointwise
  refine Finset.sum_congr rfl fun t _ => ?_
  rw [mul_comm]
  rfl

end plain

/-- The reference's frame. -/
theorem frame_reference : Cert.quiescent_Reference3Ideal := by
  intro m ρ _
  exact (θ_run Cert.Reference3Ideal.defs _ _).mono
    (fun r h => ⟨fun c => (h c).2, sem_eq_zero_of_no_sems (by decide) r.2⟩)
    (Cert.Reference3Ideal.Value.run (F := Ideal) m ρ)

/-- The call's result is the reference's. -/
theorem algebraic : Cert.algebraic_Kernel3Ideal_Reference3Ideal := by
  intro m ρ m' ρ' _ hag
  refine ⟨fun c => fun y => result m c (y 0) (y 1), ?_, ?_⟩
  · refine (θ_run Cert.Kernel3Ideal.defs _ _).mono (fun r h c => ?_) (Cert.Kernel3Ideal.Value.run_blocks (F := Ideal) m ρ)
    obtain ⟨h3, hargs⟩ := h c
    exact ⟨h3.trans (arr m c), hargs⟩
  · refine (θ_run Cert.Reference3Ideal.defs _ _).mono (fun r h c => ?_) (Cert.Reference3Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.FfnDownDw

end
-- ==== Proof.FfnUpDw.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

/-!
# The gradient of the squared-ReLU block's up projection

The normalised tokens, transposed, times the gradient of the pre-activation; the result's columns are kept in eight
groups of 512, one per owner.
-/

@[expose] public section

set_option maxRecDepth 16384

noncomputable section

namespace Cert.FfnUpDw

open Idealize.ShloMosaic Idealize.ShloMosaic.TcCoe Idealize.SL.Sem
open Idealize.ShloMosaic.Pipeline (Dat)

/-- Column `f` of owner `g`. -/
def column (g : Fin 8) (f : Fin 512) : Fin 4096 := ⟨g.val * 512 + f.val, by have := g.isLt; have := f.isLt; omega⟩

/-- The gradient of the up projection at owner `g`, model channel `d` and the owner's column `f`. -/
def grad (hn : (⟨2, ![4096, 1024]⟩ : Shape).Idx → EReal) (da : (⟨2, ![4096, 4096]⟩ : Shape).Idx → EReal)
    (g : Fin 8) (d : Fin 1024) (f : Fin 512) : EReal :=
  ∑ t : Fin 4096, hn (ix2 t d) * da (ix2 t (column g f))

section call

open Cert.Kernel4Ideal Cert.Kernel4Ideal.Gen

/-- The gradient on one owner's columns. -/
def blkGrad (x : (⟨2, ![4096, 1024]⟩ : Shape).Idx → EReal) (a : (⟨2, ![4096, 512]⟩ : Shape).Idx → EReal)
    (d : Fin 1024) (f : Fin 512) : EReal :=
  ∑ t : Fin 4096, x (ix2 t d) * a (ix2 t f)

theorem block (x : Vec Ideal S4096x1024 .bf16) (a : Vec Ideal S4096x512 .bf16) (y : S1x1024x512.Idx) :
    out0_2 x a y = blkGrad x a (y 1) (y 2) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![0, t.val] ∧
    win0_2.index t = ![t.val, 0, 0] := by decide +kernel

theorem lt8 (t : Fin cfg0.N) : t.val < 8 := by have h := t.isLt; have e : cfg0.N = 8 := N_0; omega

/-- The owner whose columns point `t` works on. -/
def owner (t : Fin cfg0.N) : Fin 8 := ⟨t.val, lt8 t⟩

theorem blk0 (c : Dev nD) (t : Fin cfg0.N) (k : Fin 4096) (d : Fin 1024) :
    iblk m c 0 t (ix2 k d) = m ((c : Thread nD τ).loc main_arg0) (ix2 k d) := by
  have idx := indices
  blk_point [iblk, V, idx t] <;> rfl

theorem blk1 (c : Dev nD) (t : Fin cfg0.N) (k : Fin 4096) (f : Fin 512) :
    iblk m c 1 t (ix2 k f) = m ((c : Thread nD τ).loc main_arg1) (ix2 k (column (owner t) f)) := by
  have idx := indices
  blk_point [iblk, V, idx t] <;> rfl

/-- The gradient that the call leaves. -/
abbrev result (c : Dev nD) (g : Fin 8) (d : Fin 1024) (f : Fin 512) : EReal :=
  grad (m ((c : Thread nD τ).loc main_arg0)) (m ((c : Thread nD τ).loc main_arg1)) g d f

theorem block_eq (c : Dev nD) (t : Fin cfg0.N) (d : Fin 1024) (f : Fin 512) :
    blkGrad (iblk m c 0 t) (iblk m c 1 t) d f = result m c (owner t) d f := by
  refine Finset.sum_congr rfl fun k _ => ?_
  rw [blk0, blk1]

theorem outs (c : Dev nD) (t : Fin cfg0.N) (y : S1x1024x512.Idx) :
    out0_2 (iblk m c 0 t) (iblk m c 1 t) y = result m c (owner t) (y 1) (y 2) :=
  (block _ _ y).trans (block_eq m c t (y 1) (y 2))

theorem arr (c : Dev nD) : (dats m 0 c).arrAt 2 cfg0.N = fun y => result m c (y 0) (y 1) (y 2) := by
  have idx := indices
  refine (dats m 0 c).arrAt_eq_of_covers 2 _ (by decide +kernel) fun t hf y => ?_
  blk_simp
  rw [after0_2]
  idx_bounds y
  refine (outs m c t y).trans (congr (congrArg₂ (result m c) (Fin.ext ?_) (Fin.ext ?_)) (Fin.ext ?_)) <;>
    blk_simp [idx t]
  all_goals first | rfl | (show t.val = _; omega) | omega

end call

section plain

open Cert.Reference4Ideal Cert.Reference4Ideal.Read

variable (x0 : (⟨S4096x1024, .bf16⟩ : BufTy).Contents (Elt Ideal)) (x1 : (⟨S4096x4096, .bf16⟩ : BufTy).Contents (Elt Ideal))

theorem reference (y : S8x1024x512.Idx) : val_main_v8 (F := Ideal) x0 x1 y = grad x0 x1 (y 0) (y 1) (y 2) := by
  rw [← val_main_v8_eq]
  idx_vars y
  pointwise
  refine Finset.sum_congr rfl fun t _ => ?_
  rw [mul_comm]
  rfl

end plain

/-- The reference's frame. -/
theorem frame_reference : Cert.quiescent_Reference4Ideal := by
  intro m ρ _
  exact (θ_run Cert.Reference4Ideal.defs _ _).mono
    (fun r h => ⟨fun c => (h c).2, sem_eq_zero_of_no_sems (by decide) r.2⟩)
    (Cert.Reference4Ideal.Value.run (F := Ideal) m ρ)

/-- The call's result is the reference's. -/
theorem algebraic : Cert.algebraic_Kernel4Ideal_Reference4Ideal := by
  intro m ρ m' ρ' _ hag
  refine ⟨fun c => fun y => result m c (y 0) (y 1) (y 2), ?_, ?_⟩
  · refine (θ_run Cert.Kernel4Ideal.defs _ _).mono (fun r h c => ?_) (Cert.Kernel4Ideal.Value.run_blocks (F := Ideal) m ρ)
    obtain ⟨h3, hargs⟩ := h c
    exact ⟨h3.trans (arr m c), hargs⟩
  · refine (θ_run Cert.Reference4Ideal.defs _ _).mono (fun r h c => ?_) (Cert.Reference4Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.FfnUpDw

end
-- ==== Proof.RmsNormBack.lean ====
module

public import Idealize.ShloMosaic.Lib.Pointwise

/-!
# Backward through the RMS norm of one token

A token `x` of 1024 channels is divided by the root of its mean square, and multiplied by a gain. With `d` the gradient of
the divided token, the token's own gradient is `back x d`.
-/

@[expose] public section

noncomputable section

namespace Cert.RmsNorm

open Idealize.ShloMosaic

/-- The number of channels. -/
abbrev width : EReal := Ideal.ofBits .f32 0x44800000#32
/-- What is added to the mean square. -/
abbrev eps : EReal := Ideal.ofBits .f32 0x358637BD#32
/-- The exponent of the inverse root. -/
abbrev expo : EReal := Ideal.ofBits .f32 0xBF000000#32

/-- The mean square, with `eps` added. -/
def meanSq (x : Fin 1024 → EReal) : EReal := Ideal.div (∑ k, x k * x k) width + eps

/-- The inverse root of the mean square. -/
def inv (x : Fin 1024 → EReal) : EReal := Ideal.rsqrt (meanSq x)

/-- The gradient of each square in the mean. -/
def slope (x d : Fin 1024 → EReal) : EReal :=
  Ideal.div ((∑ k, x k * d k) * (expo * Ideal.div (inv x) (meanSq x))) width

/-- The gradient of the token. -/
def back (x d : Fin 1024 → EReal) (j : Fin 1024) : EReal := d j * inv x + x j * slope x d + slope x d * x j

end Cert.RmsNorm

end
-- ==== Proof.FfnUpDx.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import proofs.«01_k».proof.Proof.RmsNormBack

/-!
# Backward through the squared-ReLU block's up projection and norm

The pre-activation's gradient times the up projection, transposed, then back through the RMS norm; the tokens' gradient
is added to the one that passed beside the block, and the gain's gradient is summed over the tokens.
-/

@[expose] public section

set_option maxRecDepth 16384

noncomputable section

namespace Cert.FfnUpDx

open Idealize.ShloMosaic Idealize.ShloMosaic.TcCoe Idealize.SL.Sem
open Idealize.ShloMosaic.Pipeline (Dat)

/-- The gradient of the normalised token `t`'s channel `k`. -/
def dot (da : (⟨2, ![4096, 4096]⟩ : Shape).Idx → EReal) (w : (⟨2, ![1024, 4096]⟩ : Shape).Idx → EReal) (t : Fin 4096)
    (k : Fin 1024) : EReal := ∑ j : Fin 4096, da (ix2 t j) * w (ix2 k j)

/-- The gradient of token `t`'s channel `k`. -/
def gradH (h : (⟨2, ![4096, 1024]⟩ : Shape).Idx → EReal) (gain : (⟨1, ![1024]⟩ : Shape).Idx → EReal)
    (w : (⟨2, ![1024, 4096]⟩ : Shape).Idx → EReal) (da : (⟨2, ![4096, 4096]⟩ : Shape).Idx → EReal)
    (dh : (⟨2, ![4096, 1024]⟩ : Shape).Idx → EReal) (t : Fin 4096) (k : Fin 1024) : EReal :=
  dh (ix2 t k) + RmsNorm.back (fun j => h (ix2 t j)) (fun j => dot da w t j * gain (ix1 j)) k

/-- What token `t` adds to the gradient of the gain at channel `k`. -/
def termG (h : (⟨2, ![4096, 1024]⟩ : Shape).Idx → EReal) (w : (⟨2, ![1024, 4096]⟩ : Shape).Idx → EReal)
    (da : (⟨2, ![4096, 4096]⟩ : Shape).Idx → EReal) (t : Fin 4096) (k : Fin 1024) : EReal :=
  h (ix2 t k) * RmsNorm.inv (fun j => h (ix2 t j)) * dot da w t k

/-- The gradient of the gain at channel `k`. -/
def gradG (h : (⟨2, ![4096, 1024]⟩ : Shape).Idx → EReal) (w : (⟨2, ![1024, 4096]⟩ : Shape).Idx → EReal)
    (da : (⟨2, ![4096, 4096]⟩ : Shape).Idx → EReal) (k : Fin 1024) : EReal := ∑ t : Fin 4096, termG h w da t k

/-- The tokens' gradient as an array. -/
def arrayH (h : (⟨2, ![4096, 1024]⟩ : Shape).Idx → EReal) (gain : (⟨1, ![1024]⟩ : Shape).Idx → EReal)
    (w : (⟨2, ![1024, 4096]⟩ : Shape).Idx → EReal) (da : (⟨2, ![4096, 4096]⟩ : Shape).Idx → EReal)
    (dh : (⟨2, ![4096, 1024]⟩ : Shape).Idx → EReal) : (⟨2, ![4096, 1024]⟩ : Shape).Idx → EReal :=
  fun y => gradH h gain w da dh (y 0) (y 1)

/-- The gain's gradient as an array. -/
def arrayG (h : (⟨2, ![4096, 1024]⟩ : Shape).Idx → EReal) (w : (⟨2, ![1024, 4096]⟩ : Shape).Idx → EReal)
    (da : (⟨2, ![4096, 4096]⟩ : Shape).Idx → EReal) : (⟨2, ![1, 1024]⟩ : Shape).Idx → EReal :=
  fun y => gradG h w da (y 1)

section call

open Cert.Kernel5Ideal Cert.Kernel5Ideal.Gen

/-- `dot` on a block of tokens. -/
def blkDot (da : (⟨2, ![512, 4096]⟩ : Shape).Idx → EReal) (w : (⟨2, ![1024, 4096]⟩ : Shape).Idx → EReal) (r : Fin 512)
    (k : Fin 1024) : EReal := ∑ j : Fin 4096, da (ix2 r j) * w (ix2 k j)

/-- `gradH` on a block of tokens. -/
def blkH (da : (⟨2, ![512, 4096]⟩ : Shape).Idx → EReal) (w : (⟨2, ![1024, 4096]⟩ : Shape).Idx → EReal)
    (h dh : (⟨2, ![512, 1024]⟩ : Shape).Idx → EReal) (gain : (⟨2, ![1, 1024]⟩ : Shape).Idx → EReal) (r : Fin 512)
    (k : Fin 1024) : EReal :=
  dh (ix2 r k) + RmsNorm.back (fun j => h (ix2 r j)) (fun j => blkDot da w r j * gain (ix2 0 j)) k

/-- What a block of tokens adds to the gradient of the gain. -/
def blkG (da : (⟨2, ![512, 4096]⟩ : Shape).Idx → EReal) (w : (⟨2, ![1024, 4096]⟩ : Shape).Idx → EReal)
    (h : (⟨2, ![512, 1024]⟩ : Shape).Idx → EReal) (k : Fin 1024) : EReal :=
  ∑ r : Fin 512, h (ix2 r k) * RmsNorm.inv (fun j => h (ix2 r j)) * blkDot da w r k

section block

variable (c : Dev nD) (i : grid0.Coords) (a3 : Memref sig .tc .vmem S512x4096 .bf16) (h3 : a3.IsWhole)
  (a4 : Memref sig .tc .vmem S1024x4096 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole)
  (da : Vec Ideal S512x4096 .bf16) (w : Vec Ideal S1024x4096 .bf16) (h dh : Vec Ideal S512x1024 .f32)
  (gain og : Vec Ideal S1x1024 .f32)

/-- At the first point, the tokens' gradient. -/
theorem dh_A (hc0 : cond0_0 i) (hc1 : ¬cond0_1 i) (y : S512x1024.Idx) :
    out0_A_5 c i a3 h3 a4 h4 a5 h5 a6 h6 a7 h7 a8 h8 a9 h9 a10 h10 hc0 hc1 da w h dh gain y = blkH da w h dh gain (y 0) (y 1) := by
  frame_out
  unfold_payloads
  idx_vars y
  pointwise
  simp only [Fin.sum_univ_one]
  rfl

/-- At the first point, the tokens' gradient, the second copy. -/
theorem dhb_A (hc0 : cond0_0 i) (hc1 : ¬cond0_1 i) (y : S512x1024.Idx) :
    out0_A_6 c i a3 h3 a4 h4 a5 h5 a6 h6 a7 h7 a8 h8 a9 h9 a10 h10 hc0 hc1 da w h dh gain y = blkH da w h dh gain (y 0) (y 1) := by
  frame_out
  unfold_payloads
  idx_vars y
  pointwise
  simp only [Fin.sum_univ_one]
  rfl

/-- At the first point, the gain's gradient. -/
theorem dg_A (hc0 : cond0_0 i) (hc1 : ¬cond0_1 i) (y : S1x1024.Idx) :
    out0_A_7 c i a3 h3 a4 h4 a5 h5 a6 h6 a7 h7 a8 h8 a9 h9 a10 h10 hc0 hc1 da w h dh gain y = blkG da w h (y 1) := by
  frame_out
  unfold_payloads
  idx_vars y
  pointwise
  rfl

/-- At a later point, the tokens' gradient. -/
theorem dh_B (hc0 : ¬cond0_0 i) (hc1 : cond0_1 i) (y : S512x1024.Idx) :
    out0_B_5 c i a3 h3 a4 h4 a5 h5 a6 h6 a7 h7 a8 h8 a9 h9 a10 h10 hc0 hc1 da w h dh gain og y = blkH da w h dh gain (y 0) (y 1) := by
  frame_out
  unfold_payloads
  idx_vars y
  pointwise
  simp only [Fin.sum_univ_one]
  rfl

/-- At a later point, the tokens' gradient, the second copy. -/
theorem dhb_B (hc0 : ¬cond0_0 i) (hc1 : cond0_1 i) (y : S512x1024.Idx) :
    out0_B_6 c i a3 h3 a4 h4 a5 h5 a6 h6 a7 h7 a8 h8 a9 h9 a10 h10 hc0 hc1 da w h dh gain og y = blkH da w h dh gain (y 0) (y 1) := by
  frame_out
  unfold_payloads
  idx_vars y
  pointwise
  simp only [Fin.sum_univ_one]
  rfl

/-- At a later point, the gain's gradient. -/
theorem dg_B (hc0 : ¬cond0_0 i) (hc1 : cond0_1 i) (y : S1x1024.Idx) :
    out0_B_7 c i a3 h3 a4 h4 a5 h5 a6 h6 a7 h7 a8 h8 a9 h9 a10 h10 hc0 hc1 da w h dh gain og y = og y + blkG da w h (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧ win0_4.index t = ![0, 0] ∧
    win0_5.index t = ![t.val, 0] ∧ win0_6.index t = ![t.val, 0] ∧ win0_7.index t = ![0, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) (j : Fin 4096) :
    iblk m c 0 t (ix2 r j) = m ((c : Thread nD τ).loc main_arg3) (ix2 (tokRow t r) j) := by
  have idx := indices
  blk_point [iblk, V, idx t] <;> rfl

theorem blk1 (c : Dev nD) (t : Fin cfg0.N) (k : Fin 1024) (j : Fin 4096) :
    iblk m c 1 t (ix2 k j) = m ((c : Thread nD τ).loc main_arg2) (ix2 k j) := by
  have idx := indices
  blk_point [iblk, V, idx t] <;> rfl

theorem blk2 (c : Dev nD) (t : Fin cfg0.N) (r : Fin 512) (k : Fin 1024) :
    iblk m c 2 t (ix2 r k) = m ((c : Thread nD τ).loc main_arg0) (ix2 (tokRow t r) k) := by
  have idx := indices
  blk_point [iblk, V, idx t] <;> rfl

theorem blk3 (c : Dev nD) (t : Fin cfg0.N) (r : Fin 512) (k : Fin 1024) :
    iblk m c 3 t (ix2 r k) = m ((c : Thread nD τ).loc main_arg4) (ix2 (tokRow t r) k) := by
  have idx := indices
  blk_point [iblk, V, idx t] <;> rfl

theorem blk4 (c : Dev nD) (t : Fin cfg0.N) (k : Fin 1024) :
    iblk m c 4 t (ix2 0 k) = m ((c : Thread nD τ).loc main_arg1) (ix1 k) := by
  have idx := indices
  blk_point [iblk, V, idx t] <;> rfl

/-- The tokens' gradient that the call leaves. -/
abbrev resultH (c : Dev nD) (t : Fin 4096) (k : Fin 1024) : EReal :=
  gradH (m ((c : Thread nD τ).loc main_arg0)) (m ((c : Thread nD τ).loc main_arg1)) (m ((c : Thread nD τ).loc main_arg2))
    (m ((c : Thread nD τ).loc main_arg3)) (m ((c : Thread nD τ).loc main_arg4)) t k

/-- What token `t` adds to the gain's gradient. -/
abbrev termOf (c : Dev nD) (t : Fin 4096) (k : Fin 1024) : EReal :=
  termG (m ((c : Thread nD τ).loc main_arg0)) (m ((c : Thread nD τ).loc main_arg2)) (m ((c : Thread nD τ).loc main_arg3)) t k

/-- The gain's gradient that the call leaves. -/
abbrev resultG (c : Dev nD) (k : Fin 1024) : EReal :=
  gradG (m ((c : Thread nD τ).loc main_arg0)) (m ((c : Thread nD τ).loc main_arg2)) (m ((c : Thread nD τ).loc main_arg3)) k

theorem dot_eq (c : Dev nD) (t : Fin cfg0.N) (r : Fin 512) (k : Fin 1024) :
    blkDot (iblk m c 0 t) (iblk m c 1 t) r k
      = dot (m ((c : Thread nD τ).loc main_arg3)) (m ((c : Thread nD τ).loc main_arg2)) (tokRow t r) k := by
  refine Finset.sum_congr rfl fun j _ => ?_
  rw [blk0, blk1]

theorem blkH_eq (c : Dev nD) (t : Fin cfg0.N) (r : Fin 512) (k : Fin 1024) :
    blkH (iblk m c 0 t) (iblk m c 1 t) (iblk m c 2 t) (iblk m c 3 t) (iblk m c 4 t) r k = resultH m c (tokRow t r) k := by
  unfold blkH
  refine congrArg₂ (fun p q : EReal => p + q) (blk3 m c t r k) (congrFun (congrArg₂ RmsNorm.back (funext fun j => blk2 m c t r j) (funext fun j => ?_)) k)
  rw [blk4, dot_eq]

/-- What point `t` adds to the gain's gradient. -/
def partG (c : Dev nD) (t : Fin cfg0.N) (k : Fin 1024) : EReal := ∑ r : Fin 512, termOf m c (tokRow t r) k

theorem blkG_eq (c : Dev nD) (t : Fin cfg0.N) (k : Fin 1024) :
    blkG (iblk m c 0 t) (iblk m c 1 t) (iblk m c 2 t) k = partG m c t k := by
  refine Finset.sum_congr rfl fun r _ => ?_
  rw [dot_eq]
  refine congrArg (· * _) (congrArg₂ (· * ·) (blk2 m c t r k) (congrArg RmsNorm.inv (funext fun j => blk2 m c t r j)))

theorem outs5 (c : Dev nD) (t : Fin cfg0.N) (y : S512x1024.Idx) :
    (outsAt0 m c t.val t.isLt).1 y = resultH m c (tokRow t (y 0)) (y 1) := by
  refine Eq.trans ?_ (blkH_eq m c t (y 0) (y 1))
  have := lt8 t
  by_cases h0 : t.val % 8 = 0
  · rw [outsAt0_A m c t h0 (by omega)]
    dsimp only
    rw [dh_A]
  · rw [outsAt0_B m c t h0 (by omega)]
    dsimp only
    rw [dh_B]

theorem outs6 (c : Dev nD) (t : Fin cfg0.N) (y : S512x1024.Idx) :
    (outsAt0 m c t.val t.isLt).2.1 y = resultH m c (tokRow t (y 0)) (y 1) := by
  refine Eq.trans ?_ (blkH_eq m c t (y 0) (y 1))
  have := lt8 t
  by_cases h0 : t.val % 8 = 0
  · rw [outsAt0_A m c t h0 (by omega)]
    dsimp only
    rw [dhb_A]
  · rw [outsAt0_B m c t h0 (by omega)]
    dsimp only
    rw [dhb_B]

theorem outs7_first (c : Dev nD) (t : Fin cfg0.N) (h0 : t.val % 8 = 0) (y : S1x1024.Idx) :
    (outsAt0 m c t.val t.isLt).2.2 y = 0 + partG m c t (y 1) := by
  have := lt8 t
  rw [outsAt0_A m c t h0 (by omega), zero_add]
  dsimp only
  rw [dg_A]
  exact blkG_eq ..

theorem outs7_later (c : Dev nD) (t : Fin cfg0.N) (h0 : ¬t.val % 8 = 0) (y : S1x1024.Idx) :
    (outsAt0 m c t.val t.isLt).2.2 y
      = (outsAt0 m c (t.val - 1) (Nat.lt_of_le_of_lt (Nat.sub_le _ _) t.isLt)).2.2 y + partG m c t (y 1) := by
  have := lt8 t
  rw [outsAt0_B m c t h0 (by omega)]
  dsimp only
  rw [dg_B]
  exact congrArg _ (blkG_eq ..)

theorem outs7 (c : Dev nD) (t : Fin cfg0.N) (ht : t.val % 8 = 8 - 1) (y : S1x1024.Idx) :
    (outsAt0 m c t.val t.isLt).2.2 y = resultG m c (y 1) := by
  have e := Pipeline.eq_sum_fin_of_reset_step_apply_of_flush (fun n h => (outsAt0 m c n h).2.2) 8 (fun _ => (0 : EReal))
    (fun t y => partG m c t (y 1)) (outs7_first m c) (outs7_later m c) t ht y
  refine e.trans ?_
  rw [zero_add]
  have s := Fin.sum_univ_univ_mul_add 8 512 fun l => if h : l < 4096 then termOf m c ⟨l, h⟩ (y 1) else 0
  refine (Finset.sum_congr rfl fun l _ => Finset.sum_congr rfl fun r _ => ?_).trans
    (s.trans (Finset.sum_congr rfl fun l _ => dif_pos l.isLt))
  have := l.isLt
  have := r.isLt
  have := lt8 t
  rw [dif_pos (by omega)]
  exact congrArg (termOf m c · (y 1)) (Fin.ext (by show (8 * (t.val / 8) + l.val) * 512 + r.val = l.val * 512 + r.val; omega))

theorem arr5 (c : Dev nD) : (dats m 0 c).arrAt 5 cfg0.N = fun y => resultH m c (y 0) (y 1) := by
  have idx := indices
  refine (dats m 0 c).arrAt_eq_of_covers 5 _ (by decide +kernel) fun t hf y => ?_
  blk_simp
  rw [after0_5]
  refine (outs5 m c t y).trans (congrArg₂ (resultH m c) (Fin.ext ?_) (Fin.ext ?_)) <;> blk_simp [idx t] <;> rfl

theorem arr6 (c : Dev nD) : (dats m 0 c).arrAt 6 cfg0.N = fun y => resultH m c (y 0) (y 1) := by
  have idx := indices
  refine (dats m 0 c).arrAt_eq_of_covers 6 _ (by decide +kernel) fun t hf y => ?_
  blk_simp
  rw [after0_6]
  refine (outs6 m c t y).trans (congrArg₂ (resultH m c) (Fin.ext ?_) (Fin.ext ?_)) <;> blk_simp [idx t] <;> rfl

theorem arr7 (c : Dev nD) : (dats m 0 c).arrAt 7 cfg0.N = fun y => resultG m c (y 1) := by
  have idx := indices
  refine (dats m 0 c).arrAt_eq_of_covers 7 _ (by decide +kernel) fun t hf y => ?_
  blk_simp
  rw [after0_7]
  idx_bounds y
  refine (outs7 m c t ((flush0_7 t).mp hf) y).trans (congrArg (resultG m c) (Fin.ext ?_)) <;> blk_simp [idx t]

/-- The tokens' gradient the call leaves, as an array. -/
abbrev wholeH (c : Dev nD) : (⟨2, ![4096, 1024]⟩ : Shape).Idx → EReal :=
  arrayH (m ((c : Thread nD τ).loc main_arg0)) (m ((c : Thread nD τ).loc main_arg1))
    (m ((c : Thread nD τ).loc main_arg2)) (m ((c : Thread nD τ).loc main_arg3)) (m ((c : Thread nD τ).loc main_arg4))

/-- The gain's gradient the call leaves, as an array. -/
abbrev wholeG (c : Dev nD) : (⟨2, ![1, 1024]⟩ : Shape).Idx → EReal :=
  arrayG (m ((c : Thread nD τ).loc main_arg0)) (m ((c : Thread nD τ).loc main_arg2)) (m ((c : Thread nD τ).loc main_arg3))

end call

section plain

open Cert.Reference5Ideal Cert.Reference5Ideal.Read Cert.Reference5Ideal.Value

variable (m : (ℓ : Loc nD τ sig) → Buf (Elt Ideal) ℓ) (c : Dev nD)

theorem reference_h (y : S4096x1024.Idx) : res_main_v40 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v40
  idx_vars y
  pointwise
  simp only [Fin.sum_univ_one]
  rw [add_assoc, add_assoc, ← add_assoc (_ * _)]
  rfl

theorem reference_hb (y : S4096x1024.Idx) : res_main_v41 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v41
  exact reference_h m c y

theorem reference_g (x0 : (⟨S4096x1024, .f32⟩ : BufTy).Contents (Elt Ideal))
    (x2 : (⟨S1024x4096, .bf16⟩ : BufTy).Contents (Elt Ideal)) (x3 : (⟨S4096x4096, .bf16⟩ : BufTy).Contents (Elt Ideal))
    (y : S1x1024.Idx) : val_main_v42 (F := Ideal) x0 x2 x3 y = gradG x0 x2 x3 (y 1) := by
  rw [← val_main_v42_eq]
  idx_vars y
  pointwise
  simp only [Fin.sum_univ_one]
  rfl

end plain

/-- The reference's frame. -/
theorem frame_reference : Cert.quiescent_Reference5Ideal := by
  intro m ρ _
  exact (θ_run Cert.Reference5Ideal.defs _ _).mono
    (fun r h => ⟨fun c => (h c).2.2.2, sem_eq_zero_of_no_sems (by decide) r.2⟩)
    (Cert.Reference5Ideal.Value.run (F := Ideal) m ρ)

/-- The call's results are the reference's. -/
theorem algebraic : Cert.algebraic_Kernel5Ideal_Reference5Ideal := by
  intro m ρ m' ρ' _ hag
  refine ⟨wholeH m, wholeH m, wholeG m, ?_, ?_⟩
  · refine (θ_run Cert.Kernel5Ideal.defs _ _).mono (fun r h c => ?_) (Cert.Kernel5Ideal.Value.run_blocks (F := Ideal) m ρ)
    obtain ⟨h5, h6, h7, hargs⟩ := h c
    exact ⟨h5.trans (arr5 m c), h6.trans (arr6 m c), h7.trans (arr7 m c), hargs⟩
  · refine (θ_run Cert.Reference5Ideal.defs _ _).mono (fun r h c => ?_) (Cert.Reference5Ideal.Value.run (F := Ideal) m' ρ')
    obtain ⟨h5, h6, h7, hargs⟩ := h c
    obtain ⟨e0, e1, e2, e3, e4⟩ := hag c
    refine ⟨h5.trans ?_, h6.trans ?_, h7.trans ?_, hargs⟩
    · show _ = arrayH _ _ _ _ _
      rw [← e0, ← e1, ← e2, ← e3, ← e4]
      exact funext (reference_h m' c)
    · show _ = arrayH _ _ _ _ _
      rw [← e0, ← e1, ← e2, ← e3, ← e4]
      exact funext (reference_hb m' c)
    · show _ = arrayG _ _ _
      rw [← e0, ← e2, ← e3]
      exact funext (reference_g _ _ _)

end Cert.FfnUpDx

end
-- ==== Proof.GmlpOutDx.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

/-!
# The gradient of the gated block's hidden channels

One product of the result's gradient with the transposed output projection.
-/

@[expose] public section

set_option maxRecDepth 16384

noncomputable section

namespace Cert.GmlpOutDx

open Idealize.ShloMosaic Idealize.ShloMosaic.TcCoe Idealize.SL.Sem
open Idealize.ShloMosaic.Pipeline (Dat)

/-- The gradient at row `i` and column `j`. -/
def grad (x : (⟨2, ![4096, 1024]⟩ : Shape).Idx → EReal) (w : (⟨2, ![2048, 1024]⟩ : Shape).Idx → EReal) (i : Fin 4096) (j : Fin 2048) : EReal :=
  ∑ k : Fin 1024, x (ix2 i k) * w (ix2 j k)

section call

open Cert.Kernel6Ideal Cert.Kernel6Ideal.Gen

/-- The gradient on a block of rows by columns. -/
def blkGrad (x : (⟨2, ![2048, 1024]⟩ : Shape).Idx → EReal) (w : (⟨2, ![1024, 1024]⟩ : Shape).Idx → EReal) (i : Fin 2048) (j : Fin 1024) : EReal :=
  ∑ k : Fin 1024, x (ix2 i k) * w (ix2 j k)

theorem block (x : Vec Ideal S2048x1024 .bf16) (w : Vec Ideal S1024x1024 .bf16) (y : S2048x1024.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 2, 0] ∧ win0_1.index t = ![t.val % 2, 0] ∧
    win0_2.index t = ![t.val / 2, t.val % 2] := by decide +kernel

theorem points (t : Fin cfg0.N) : t.val < 4 := by have h := t.isLt; have e : cfg0.N = 4 := N_0; omega

/-- Row `i` of those that point `t` works on. -/
def row (t : Fin cfg0.N) (i : Fin 2048) : Fin 4096 :=
  ⟨t.val / 2 * 2048 + i.val, by have := i.isLt; have := points t; omega⟩
/-- Column `j` of those that point `t` works on. -/
def column (t : Fin cfg0.N) (j : Fin 1024) : Fin 2048 := ⟨t.val % 2 * 1024 + j.val, by have := j.isLt; omega⟩

theorem blk0 (c : Dev nD) (t : Fin cfg0.N) (i : Fin 2048) (k : Fin 1024) :
    iblk m c 0 t (ix2 i k) = m ((c : Thread nD τ).loc main_arg1) (ix2 (row t i) k) := by
  have idx := indices
  blk_point [iblk, V, idx t] <;> rfl

theorem blk1 (c : Dev nD) (t : Fin cfg0.N) (j : Fin 1024) (k : Fin 1024) :
    iblk m c 1 t (ix2 j k) = m ((c : Thread nD τ).loc main_arg0) (ix2 (column t j) k) := by
  have idx := indices
  blk_point [iblk, V, idx t] <;> rfl

/-- The gradient that the call leaves. -/
abbrev result (c : Dev nD) (i : Fin 4096) (j : Fin 2048) : EReal :=
  grad (m ((c : Thread nD τ).loc main_arg1)) (m ((c : Thread nD τ).loc main_arg0)) i j

theorem block_eq (c : Dev nD) (t : Fin cfg0.N) (i : Fin 2048) (j : Fin 1024) :
    blkGrad (iblk m c 0 t) (iblk m c 1 t) i j = result m c (row t i) (column t j) := by
  refine Finset.sum_congr rfl fun k _ => ?_
  rw [blk0, blk1]

theorem outs (c : Dev nD) (t : Fin cfg0.N) (y : S2048x1024.Idx) :
    out0_2 (iblk m c 0 t) (iblk m c 1 t) y = result m c (row t (y 0)) (column t (y 1)) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference6Ideal Cert.Reference6Ideal.Read

variable (x0 : (⟨S2048x1024, .bf16⟩ : BufTy).Contents (Elt Ideal)) (x1 : (⟨S4096x1024, .f32⟩ : BufTy).Contents (Elt Ideal))

theorem reference (y : S4096x2048.Idx) : val_main_v4 (F := Ideal) x0 x1 y = grad x1 x0 (y 0) (y 1) := by
  rw [← val_main_v4_eq]
  idx_vars y
  pointwise
  rfl

end plain

/-- The reference's frame. -/
theorem frame_reference : Cert.quiescent_Reference6Ideal := by
  intro m ρ _
  exact (θ_run Cert.Reference6Ideal.defs _ _).mono
    (fun r h => ⟨fun c => (h c).2, sem_eq_zero_of_no_sems (by decide) r.2⟩)
    (Cert.Reference6Ideal.Value.run (F := Ideal) m ρ)

/-- The call's result is the reference's. -/
theorem algebraic : Cert.algebraic_Kernel6Ideal_Reference6Ideal := by
  intro m ρ m' ρ' _ hag
  refine ⟨fun c => fun y => result m c (y 0) (y 1), ?_, ?_⟩
  · refine (θ_run Cert.Kernel6Ideal.defs _ _).mono (fun r h c => ?_) (Cert.Kernel6Ideal.Value.run_blocks (F := Ideal) m ρ)
    obtain ⟨h3, hargs⟩ := h c
    exact ⟨h3.trans (arr m c), hargs⟩
  · refine (θ_run Cert.Reference6Ideal.defs _ _).mono (fun r h c => ?_) (Cert.Reference6Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.GmlpOutDx

end
-- ==== Proof.GmlpOutDw.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit

/-!
# The gradient of the gated block's output projection

The hidden channels, transposed, times the gradient of the block's result.
-/

@[expose] public section

set_option maxRecDepth 16384

noncomputable section

namespace Cert.GmlpOutDw

open Idealize.ShloMosaic Idealize.ShloMosaic.TcCoe Idealize.SL.Sem
open Idealize.ShloMosaic.Pipeline (Dat)

/-- The gradient at row `i` and column `j`. -/
def grad (x : (⟨2, ![4096, 2048]⟩ : Shape).Idx → EReal) (w : (⟨2, ![4096, 1024]⟩ : Shape).Idx → EReal) (i : Fin 2048) (j : Fin 1024) : EReal :=
  ∑ k : Fin 4096, x (ix2 k i) * w (ix2 k j)

section call

open Cert.Kernel7Ideal Cert.Kernel7Ideal.Gen

/-- The gradient on a block of rows by columns. -/
def blkGrad (x : (⟨2, ![4096, 1024]⟩ : Shape).Idx → EReal) (w : (⟨2, ![4096, 1024]⟩ : Shape).Idx → EReal) (i : Fin 1024) (j : Fin 1024) : EReal :=
  ∑ k : Fin 4096, x (ix2 k i) * w (ix2 k j)

theorem block (x : Vec Ideal S4096x1024 .bf16) (w : Vec Ideal S4096x1024 .bf16) (y : S1024x1024.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, t.val / 1] ∧ win0_1.index t = ![0, t.val % 1] ∧
    win0_2.index t = ![t.val / 1, t.val % 1] := by decide +kernel

theorem points (t : Fin cfg0.N) : t.val < 2 := by have h := t.isLt; have e : cfg0.N = 2 := N_0; omega

/-- Row `i` of those that point `t` works on. -/
def row (t : Fin cfg0.N) (i : Fin 1024) : Fin 2048 :=
  ⟨t.val / 1 * 1024 + i.val, by have := i.isLt; have := points t; omega⟩
/-- Column `j` of those that point `t` works on. -/
def column (t : Fin cfg0.N) (j : Fin 1024) : Fin 1024 := ⟨t.val % 1 * 1024 + j.val, by have := j.isLt; omega⟩

theorem blk0 (c : Dev nD) (t : Fin cfg0.N) (i : Fin 1024) (k : Fin 4096) :
    iblk m c 0 t (ix2 k i) = m ((c : Thread nD τ).loc main_arg0) (ix2 k (row t i)) := by
  have idx := indices
  blk_point [iblk, V, idx t] <;> rfl

theorem blk1 (c : Dev nD) (t : Fin cfg0.N) (j : Fin 1024) (k : Fin 4096) :
    iblk m c 1 t (ix2 k j) = m ((c : Thread nD τ).loc main_arg1) (ix2 k (column t j)) := by
  have idx := indices
  blk_point [iblk, V, idx t] <;> rfl

/-- The gradient that the call leaves. -/
abbrev result (c : Dev nD) (i : Fin 2048) (j : Fin 1024) : EReal :=
  grad (m ((c : Thread nD τ).loc main_arg0)) (m ((c : Thread nD τ).loc main_arg1)) i j

theorem block_eq (c : Dev nD) (t : Fin cfg0.N) (i : Fin 1024) (j : Fin 1024) :
    blkGrad (iblk m c 0 t) (iblk m c 1 t) i j = result m c (row t i) (column t j) := by
  refine Finset.sum_congr rfl fun k _ => ?_
  rw [blk0, blk1]

theorem outs (c : Dev nD) (t : Fin cfg0.N) (y : S1024x1024.Idx) :
    out0_2 (iblk m c 0 t) (iblk m c 1 t) y = result m c (row t (y 0)) (column t (y 1)) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference7Ideal Cert.Reference7Ideal.Read

variable (x0 : (⟨S4096x2048, .bf16⟩ : BufTy).Contents (Elt Ideal)) (x1 : (⟨S4096x1024, .f32⟩ : BufTy).Contents (Elt Ideal))

theorem reference (y : S2048x1024.Idx) : val_main_v5 (F := Ideal) x0 x1 y = grad x0 x1 (y 0) (y 1) := by
  rw [← val_main_v5_eq]
  idx_vars y
  pointwise
  exact Finset.sum_congr rfl fun t _ => mul_comm _ _

end plain

/-- The reference's frame. -/
theorem frame_reference : Cert.quiescent_Reference7Ideal := by
  intro m ρ _
  exact (θ_run Cert.Reference7Ideal.defs _ _).mono
    (fun r h => ⟨fun c => (h c).2, sem_eq_zero_of_no_sems (by decide) r.2⟩)
    (Cert.Reference7Ideal.Value.run (F := Ideal) m ρ)

/-- The call's result is the reference's. -/
theorem algebraic : Cert.algebraic_Kernel7Ideal_Reference7Ideal := by
  intro m ρ m' ρ' _ hag
  refine ⟨fun c => fun y => result m c (y 0) (y 1), ?_, ?_⟩
  · refine (θ_run Cert.Kernel7Ideal.defs _ _).mono (fun r h c => ?_) (Cert.Kernel7Ideal.Value.run_blocks (F := Ideal) m ρ)
    obtain ⟨h3, hargs⟩ := h c
    exact ⟨h3.trans (arr m c), hargs⟩
  · refine (θ_run Cert.Reference7Ideal.defs _ _).mono (fun r h c => ?_) (Cert.Reference7Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.GmlpOutDw

end
-- ==== Proof.GmlpInDx.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import proofs.«01_k».proof.Proof.RmsNormBack

/-!
# Backward through the gated block's input projection and norm, and the gate below

The gradient of the gated block's channels times the input projection, transposed, then back through the RMS norm; the
tokens' gradient is added to the one that passed beside the block, and the gain's gradient is summed over the tokens.
The layer below ended in a gated embedding: the same call leaves the gradients of its two factors.
-/

@[expose] public section

set_option maxRecDepth 16384

noncomputable section

namespace Cert.GmlpInDx

open Idealize.ShloMosaic Idealize.ShloMosaic.TcCoe Idealize.SL.Sem
open Idealize.ShloMosaic.Pipeline (Dat)

/-- The gradient of the normalised token `t`'s channel `k`. -/
def dot (da : (⟨2, ![4096, 4096]⟩ : Shape).Idx → EReal) (w : (⟨2, ![1024, 4096]⟩ : Shape).Idx → EReal) (t : Fin 4096)
    (k : Fin 1024) : EReal := ∑ j : Fin 4096, da (ix2 t j) * w (ix2 k j)

/-- The gradient of token `t`'s channel `k`. -/
def gradH (h : (⟨2, ![4096, 1024]⟩ : Shape).Idx → EReal) (gain : (⟨1, ![1024]⟩ : Shape).Idx → EReal)
    (w : (⟨2, ![1024, 4096]⟩ : Shape).Idx → EReal) (da : (⟨2, ![4096, 4096]⟩ : Shape).Idx → EReal)
    (dh : (⟨2, ![4096, 1024]⟩ : Shape).Idx → EReal) (t : Fin 4096) (k : Fin 1024) : EReal :=
  dh (ix2 t k) + RmsNorm.back (fun j => h (ix2 t j)) (fun j => dot da w t j * gain (ix1 j)) k

/-- What token `t` adds to the gradient of the gain at channel `k`. -/
def termG (h : (⟨2, ![4096, 1024]⟩ : Shape).Idx → EReal) (w : (⟨2, ![1024, 4096]⟩ : Shape).Idx → EReal)
    (da : (⟨2, ![4096, 4096]⟩ : Shape).Idx → EReal) (t : Fin 4096) (k : Fin 1024) : EReal :=
  h (ix2 t k) * RmsNorm.inv (fun j => h (ix2 t j)) * dot da w t k

/-- The gradient of the gain at channel `k`. -/
def gradG (h : (⟨2, ![4096, 1024]⟩ : Shape).Idx → EReal) (w : (⟨2, ![1024, 4096]⟩ : Shape).Idx → EReal)
    (da : (⟨2, ![4096, 4096]⟩ : Shape).Idx → EReal) (k : Fin 1024) : EReal := ∑ t : Fin 4096, termG h w da t k

/-- The literal one. -/
abbrev one : EReal := Ideal.ofBits .f32 0x3F800000#32

/-- The sigmoid. -/
def sigmoid (x : EReal) : EReal := Ideal.div one (one + Ideal.exp (-x))

/-- The gradient of the gate's logit, from the gradient `d` of the gated embedding. -/
def gateGrad (d gt pp : EReal) : EReal := d * pp * sigmoid gt * (one - sigmoid gt)

theorem gateGrad_congr {a b p q u v : EReal} (h : a = b) (h' : p = q) (h'' : u = v) : gateGrad a p u = gateGrad b q v := by
  rw [h, h', h'']

/-- The tokens' gradient as an array. -/
def arrayH (h : (⟨2, ![4096, 1024]⟩ : Shape).Idx → EReal) (gain : (⟨1, ![1024]⟩ : Shape).Idx → EReal)
    (w : (⟨2, ![1024, 4096]⟩ : Shape).Idx → EReal) (da : (⟨2, ![4096, 4096]⟩ : Shape).Idx → EReal)
    (dh : (⟨2, ![4096, 1024]⟩ : Shape).Idx → EReal) : (⟨2, ![4096, 1024]⟩ : Shape).Idx → EReal :=
  fun y => gradH h gain w da dh (y 0) (y 1)

/-- The gradient of the projected embeddings as an array. -/
def arrayP (h : (⟨2, ![4096, 1024]⟩ : Shape).Idx → EReal) (gain : (⟨1, ![1024]⟩ : Shape).Idx → EReal)
    (w : (⟨2, ![1024, 4096]⟩ : Shape).Idx → EReal) (da : (⟨2, ![4096, 4096]⟩ : Shape).Idx → EReal)
    (dh gt : (⟨2, ![4096, 1024]⟩ : Shape).Idx → EReal) : (⟨2, ![4096, 1024]⟩ : Shape).Idx → EReal :=
  fun y => gradH h gain w da dh (y 0) (y 1) * sigmoid (gt (ix2 (y 0) (y 1)))

/-- The gradient of the gate's logits as an array. -/
def arrayT (h : (⟨2, ![4096, 1024]⟩ : Shape).Idx → EReal) (gain : (⟨1, ![1024]⟩ : Shape).Idx → EReal)
    (w : (⟨2, ![1024, 4096]⟩ : Shape).Idx → EReal) (da : (⟨2, ![4096, 4096]⟩ : Shape).Idx → EReal)
    (dh gt pp : (⟨2, ![4096, 1024]⟩ : Shape).Idx → EReal) : (⟨2, ![4096, 1024]⟩ : Shape).Idx → EReal :=
  fun y => gateGrad (gradH h gain w da dh (y 0) (y 1)) (gt (ix2 (y 0) (y 1))) (pp (ix2 (y 0) (y 1)))

/-- The gain's gradient as an array. -/
def arrayG (h : (⟨2, ![4096, 1024]⟩ : Shape).Idx → EReal) (w : (⟨2, ![1024, 4096]⟩ : Shape).Idx → EReal)
    (da : (⟨2, ![4096, 4096]⟩ : Shape).Idx → EReal) : (⟨2, ![1, 1024]⟩ : Shape).Idx → EReal :=
  fun y => gradG h w da (y 1)

section call

open Cert.Kernel8Ideal Cert.Kernel8Ideal.Gen

/-- `dot` on a block of tokens. -/
def blkDot (da : (⟨2, ![256, 4096]⟩ : Shape).Idx → EReal) (w : (⟨2, ![1024, 4096]⟩ : Shape).Idx → EReal) (r : Fin 256)
    (k : Fin 1024) : EReal := ∑ j : Fin 4096, da (ix2 r j) * w (ix2 k j)

/-- `gradH` on a block of tokens. -/
def blkH (da : (⟨2, ![256, 4096]⟩ : Shape).Idx → EReal) (w : (⟨2, ![1024, 4096]⟩ : Shape).Idx → EReal)
    (h dh : (⟨2, ![256, 1024]⟩ : Shape).Idx → EReal) (gain : (⟨2, ![1, 1024]⟩ : Shape).Idx → EReal) (r : Fin 256)
    (k : Fin 1024) : EReal :=
  dh (ix2 r k) + RmsNorm.back (fun j => h (ix2 r j)) (fun j => blkDot da w r j * gain (ix2 0 j)) k

/-- What a block of tokens adds to the gradient of the gain. -/
def blkG (da : (⟨2, ![256, 4096]⟩ : Shape).Idx → EReal) (w : (⟨2, ![1024, 4096]⟩ : Shape).Idx → EReal)
    (h : (⟨2, ![256, 1024]⟩ : Shape).Idx → EReal) (k : Fin 1024) : EReal :=
  ∑ r : Fin 256, h (ix2 r k) * RmsNorm.inv (fun j => h (ix2 r j)) * blkDot da w r k

section block

variable (c : Dev nD) (i : grid0.Coords)
  (a3 : Memref sig .tc .vmem S256x4096 .bf16) (h3 : a3.IsWhole)
  (a4 : Memref sig .tc .vmem S1024x4096 .bf16) (h4 : a4.IsWhole)
  (a5 : Memref sig .tc .vmem S256x1024 .f32) (h5 : a5.IsWhole)
  (a6 : Memref sig .tc .vmem S256x1024 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S1x1024 .f32) (h9 : a9.IsWhole)
  (a10 : Memref sig .tc .vmem S256x1024 .f32) (h10 : a10.IsWhole)
  (a11 : Memref sig .tc .vmem S256x1024 .bf16) (h11 : a11.IsWhole)
  (a12 : Memref sig .tc .vmem S256x1024 .bf16) (h12 : a12.IsWhole)
  (a13 : Memref sig .tc .vmem S1x1024 .f32) (h13 : a13.IsWhole)
  (da : Vec Ideal S256x4096 .bf16) (w : Vec Ideal S1024x4096 .bf16) (h dh gt pp : Vec Ideal S256x1024 .f32)
  (gain og : Vec Ideal S1x1024 .f32)

/-- At the first point, the tokens' gradient. -/
theorem dh_A (hc0 : cond0_0 i) (hc1 : ¬cond0_1 i) (y : S256x1024.Idx) :
    out0_A_7 c i a3 h3 a4 h4 a5 h5 a6 h6 a7 h7 a8 h8 a9 h9 a10 h10 a11 h11 a12 h12 a13 h13 hc0 hc1 da w h dh gt pp gain y
      = blkH da w h dh gain (y 0) (y 1) := by
  frame_out
  unfold_payloads
  idx_vars y
  pointwise
  simp only [Fin.sum_univ_one]
  rfl

/-- At the first point, the projected embeddings' gradient. -/
theorem dp_A (hc0 : cond0_0 i) (hc1 : ¬cond0_1 i) (y : S256x1024.Idx) :
    out0_A_8 c i a3 h3 a4 h4 a5 h5 a6 h6 a7 h7 a8 h8 a9 h9 a10 h10 a11 h11 a12 h12 a13 h13 hc0 hc1 da w h dh gt pp gain y
      = blkH da w h dh gain (y 0) (y 1) * sigmoid (gt (ix2 (y 0) (y 1))) := by
  frame_out
  unfold_payloads
  idx_vars y
  pointwise
  simp only [Fin.sum_univ_one, zero_sub, sigmoid, one, Ideal.ofBits_one_f32]
  rfl

/-- At the first point, the gate's gradient. -/
theorem dt_A (hc0 : cond0_0 i) (hc1 : ¬cond0_1 i) (y : S256x1024.Idx) :
    out0_A_9 c i a3 h3 a4 h4 a5 h5 a6 h6 a7 h7 a8 h8 a9 h9 a10 h10 a11 h11 a12 h12 a13 h13 hc0 hc1 da w h dh gt pp gain y
      = gateGrad (blkH da w h dh gain (y 0) (y 1)) (gt (ix2 (y 0) (y 1))) (pp (ix2 (y 0) (y 1))) := by
  frame_out
  unfold_payloads
  idx_vars y
  pointwise
  simp only [Fin.sum_univ_one, zero_sub, gateGrad, sigmoid, one, Ideal.ofBits_one_f32]
  rfl

/-- At the first point, the gain's gradient. -/
theorem dg_A (hc0 : cond0_0 i) (hc1 : ¬cond0_1 i) (y : S1x1024.Idx) :
    out0_A_10 c i a3 h3 a4 h4 a5 h5 a6 h6 a7 h7 a8 h8 a9 h9 a10 h10 a11 h11 a12 h12 a13 h13 hc0 hc1 da w h dh gt pp gain y
      = blkG da w h (y 1) := by
  frame_out
  unfold_payloads
  idx_vars y
  pointwise
  rfl

/-- At a later point, the tokens' gradient. -/
theorem dh_B (hc0 : ¬cond0_0 i) (hc1 : cond0_1 i) (y : S256x1024.Idx) :
    out0_B_7 c i a3 h3 a4 h4 a5 h5 a6 h6 a7 h7 a8 h8 a9 h9 a10 h10 a11 h11 a12 h12 a13 h13 hc0 hc1 da w h dh gt pp gain og y
      = blkH da w h dh gain (y 0) (y 1) := by
  frame_out
  unfold_payloads
  idx_vars y
  pointwise
  simp only [Fin.sum_univ_one]
  rfl

/-- At a later point, the projected embeddings' gradient. -/
theorem dp_B (hc0 : ¬cond0_0 i) (hc1 : cond0_1 i) (y : S256x1024.Idx) :
    out0_B_8 c i a3 h3 a4 h4 a5 h5 a6 h6 a7 h7 a8 h8 a9 h9 a10 h10 a11 h11 a12 h12 a13 h13 hc0 hc1 da w h dh gt pp gain og y
      = blkH da w h dh gain (y 0) (y 1) * sigmoid (gt (ix2 (y 0) (y 1))) := by
  frame_out
  unfold_payloads
  idx_vars y
  pointwise
  simp only [Fin.sum_univ_one, zero_sub, sigmoid, one, Ideal.ofBits_one_f32]
  rfl

/-- At a later point, the gate's gradient. -/
theorem dt_B (hc0 : ¬cond0_0 i) (hc1 : cond0_1 i) (y : S256x1024.Idx) :
    out0_B_9 c i a3 h3 a4 h4 a5 h5 a6 h6 a7 h7 a8 h8 a9 h9 a10 h10 a11 h11 a12 h12 a13 h13 hc0 hc1 da w h dh gt pp gain og y
      = gateGrad (blkH da w h dh gain (y 0) (y 1)) (gt (ix2 (y 0) (y 1))) (pp (ix2 (y 0) (y 1))) := by
  frame_out
  unfold_payloads
  idx_vars y
  pointwise
  simp only [Fin.sum_univ_one, zero_sub, gateGrad, sigmoid, one, Ideal.ofBits_one_f32]
  rfl

/-- At a later point, the gain's gradient. -/
theorem dg_B (hc0 : ¬cond0_0 i) (hc1 : cond0_1 i) (y : S1x1024.Idx) :
    out0_B_10 c i a3 h3 a4 h4 a5 h5 a6 h6 a7 h7 a8 h8 a9 h9 a10 h10 a11 h11 a12 h12 a13 h13 hc0 hc1 da w h dh gt pp gain og y
      = og y + blkG da w h (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧ win0_4.index t = ![t.val, 0] ∧
    win0_5.index t = ![t.val, 0] ∧ win0_6.index t = ![0, 0] ∧ win0_7.index t = ![t.val, 0] ∧
    win0_8.index t = ![t.val, 0] ∧ win0_9.index t = ![t.val, 0] ∧ win0_10.index t = ![0, 0] := by decide +kernel

theorem lt16 (t : Fin cfg0.N) : t.val < 16 := by have h := t.isLt; have e : cfg0.N = 16 := N_0; omega

/-- Row `r` of the tokens that point `t` works on. -/
def tokRow (t : Fin cfg0.N) (r : Fin 256) : Fin 4096 := ⟨t.val * 256 + r.val, by have := r.isLt; have := lt16 t; omega⟩

theorem blk0 (c : Dev nD) (t : Fin cfg0.N) (r : Fin 256) (j : Fin 4096) :
    iblk m c 0 t (ix2 r j) = m ((c : Thread nD τ).loc main_arg3) (ix2 (tokRow t r) j) := by
  have idx := indices
  blk_point [iblk, V, idx t] <;> rfl

theorem blk1 (c : Dev nD) (t : Fin cfg0.N) (k : Fin 1024) (j : Fin 4096) :
    iblk m c 1 t (ix2 k j) = m ((c : Thread nD τ).loc main_arg2) (ix2 k j) := by
  have idx := indices
  blk_point [iblk, V, idx t] <;> rfl

theorem blk2 (c : Dev nD) (t : Fin cfg0.N) (r : Fin 256) (k : Fin 1024) :
    iblk m c 2 t (ix2 r k) = m ((c : Thread nD τ).loc main_arg0) (ix2 (tokRow t r) k) := by
  have idx := indices
  blk_point [iblk, V, idx t] <;> rfl

theorem blk3 (c : Dev nD) (t : Fin cfg0.N) (r : Fin 256) (k : Fin 1024) :
    iblk m c 3 t (ix2 r k) = m ((c : Thread nD τ).loc main_arg4) (ix2 (tokRow t r) k) := by
  have idx := indices
  blk_point [iblk, V, idx t] <;> rfl

theorem blk4 (c : Dev nD) (t : Fin cfg0.N) (r : Fin 256) (k : Fin 1024) :
    iblk m c 4 t (ix2 r k) = m ((c : Thread nD τ).loc main_arg5) (ix2 (tokRow t r) k) := by
  have idx := indices
  blk_point [iblk, V, idx t] <;> rfl

theorem blk5 (c : Dev nD) (t : Fin cfg0.N) (r : Fin 256) (k : Fin 1024) :
    iblk m c 5 t (ix2 r k) = m ((c : Thread nD τ).loc main_arg6) (ix2 (tokRow t r) k) := by
  have idx := indices
  blk_point [iblk, V, idx t] <;> rfl

theorem blk6 (c : Dev nD) (t : Fin cfg0.N) (k : Fin 1024) :
    iblk m c 6 t (ix2 0 k) = m ((c : Thread nD τ).loc main_arg1) (ix1 k) := by
  have idx := indices
  blk_point [iblk, V, idx t] <;> rfl

/-- The tokens' gradient that the call leaves. -/
abbrev resultH (c : Dev nD) (t : Fin 4096) (k : Fin 1024) : EReal :=
  gradH (m ((c : Thread nD τ).loc main_arg0)) (m ((c : Thread nD τ).loc main_arg1)) (m ((c : Thread nD τ).loc main_arg2))
    (m ((c : Thread nD τ).loc main_arg3)) (m ((c : Thread nD τ).loc main_arg4)) t k

/-- The projected embeddings' gradient that the call leaves. -/
abbrev resultP (c : Dev nD) (t : Fin 4096) (k : Fin 1024) : EReal :=
  resultH m c t k * sigmoid ((m ((c : Thread nD τ).loc main_arg5) : (⟨2, ![4096, 1024]⟩ : Shape).Idx → EReal) (ix2 t k))

/-- The gate's gradient that the call leaves. -/
abbrev resultT (c : Dev nD) (t : Fin 4096) (k : Fin 1024) : EReal :=
  gateGrad (resultH m c t k) ((m ((c : Thread nD τ).loc main_arg5) : (⟨2, ![4096, 1024]⟩ : Shape).Idx → EReal) (ix2 t k))
    ((m ((c : Thread nD τ).loc main_arg6) : (⟨2, ![4096, 1024]⟩ : Shape).Idx → EReal) (ix2 t k))

/-- What token `t` adds to the gain's gradient. -/
abbrev termOf (c : Dev nD) (t : Fin 4096) (k : Fin 1024) : EReal :=
  termG (m ((c : Thread nD τ).loc main_arg0)) (m ((c : Thread nD τ).loc main_arg2)) (m ((c : Thread nD τ).loc main_arg3)) t k

/-- The gain's gradient that the call leaves. -/
abbrev resultG (c : Dev nD) (k : Fin 1024) : EReal :=
  gradG (m ((c : Thread nD τ).loc main_arg0)) (m ((c : Thread nD τ).loc main_arg2)) (m ((c : Thread nD τ).loc main_arg3)) k

theorem dot_eq (c : Dev nD) (t : Fin cfg0.N) (r : Fin 256) (k : Fin 1024) :
    blkDot (iblk m c 0 t) (iblk m c 1 t) r k
      = dot (m ((c : Thread nD τ).loc main_arg3)) (m ((c : Thread nD τ).loc main_arg2)) (tokRow t r) k := by
  refine Finset.sum_congr rfl fun j _ => ?_
  rw [blk0, blk1]

theorem blkH_eq (c : Dev nD) (t : Fin cfg0.N) (r : Fin 256) (k : Fin 1024) :
    blkH (iblk m c 0 t) (iblk m c 1 t) (iblk m c 2 t) (iblk m c 3 t) (iblk m c 6 t) r k = resultH m c (tokRow t r) k := by
  unfold blkH
  refine congrArg₂ (fun p q : EReal => p + q) (blk3 m c t r k) (congrFun (congrArg₂ RmsNorm.back (funext fun j => blk2 m c t r j) (funext fun j => ?_)) k)
  rw [blk6, dot_eq]

/-- What point `t` adds to the gain's gradient. -/
def partG (c : Dev nD) (t : Fin cfg0.N) (k : Fin 1024) : EReal := ∑ r : Fin 256, termOf m c (tokRow t r) k

theorem blkG_eq (c : Dev nD) (t : Fin cfg0.N) (k : Fin 1024) :
    blkG (iblk m c 0 t) (iblk m c 1 t) (iblk m c 2 t) k = partG m c t k := by
  refine Finset.sum_congr rfl fun r _ => ?_
  rw [dot_eq]
  refine congrArg (· * _) (congrArg₂ (· * ·) (blk2 m c t r k) (congrArg RmsNorm.inv (funext fun j => blk2 m c t r j)))

theorem outs7 (c : Dev nD) (t : Fin cfg0.N) (y : S256x1024.Idx) :
    (outsAt0 m c t.val t.isLt).1 y = resultH m c (tokRow t (y 0)) (y 1) := by
  refine Eq.trans ?_ (blkH_eq m c t (y 0) (y 1))
  have := lt16 t
  by_cases h0 : t.val % 16 = 0
  · rw [outsAt0_A m c t h0 (by omega)]
    dsimp only
    rw [dh_A]
  · rw [outsAt0_B m c t h0 (by omega)]
    dsimp only
    rw [dh_B]

theorem outs8 (c : Dev nD) (t : Fin cfg0.N) (y : S256x1024.Idx) :
    (outsAt0 m c t.val t.isLt).2.1 y = resultP m c (tokRow t (y 0)) (y 1) := by
  refine Eq.trans ?_ (congrArg₂ (fun p q : EReal => p * sigmoid q) (blkH_eq m c t (y 0) (y 1)) (blk4 m c t (y 0) (y 1)))
  have := lt16 t
  by_cases h0 : t.val % 16 = 0
  · rw [outsAt0_A m c t h0 (by omega)]
    dsimp only
    rw [dp_A]
  · rw [outsAt0_B m c t h0 (by omega)]
    dsimp only
    rw [dp_B]

theorem outs9 (c : Dev nD) (t : Fin cfg0.N) (y : S256x1024.Idx) :
    (outsAt0 m c t.val t.isLt).2.2.1 y = resultT m c (tokRow t (y 0)) (y 1) := by
  refine Eq.trans ?_ (gateGrad_congr (blkH_eq m c t (y 0) (y 1)) (blk4 m c t (y 0) (y 1)) (blk5 m c t (y 0) (y 1)))
  have := lt16 t
  by_cases h0 : t.val % 16 = 0
  · rw [outsAt0_A m c t h0 (by omega)]
    dsimp only
    rw [dt_A]
  · rw [outsAt0_B m c t h0 (by omega)]
    dsimp only
    rw [dt_B]

theorem outs10_first (c : Dev nD) (t : Fin cfg0.N) (h0 : t.val % 16 = 0) (y : S1x1024.Idx) :
    (outsAt0 m c t.val t.isLt).2.2.2 y = 0 + partG m c t (y 1) := by
  have := lt16 t
  rw [outsAt0_A m c t h0 (by omega), zero_add]
  dsimp only
  rw [dg_A]
  exact blkG_eq ..

theorem outs10_later (c : Dev nD) (t : Fin cfg0.N) (h0 : ¬t.val % 16 = 0) (y : S1x1024.Idx) :
    (outsAt0 m c t.val t.isLt).2.2.2 y
      = (outsAt0 m c (t.val - 1) (Nat.lt_of_le_of_lt (Nat.sub_le _ _) t.isLt)).2.2.2 y + partG m c t (y 1) := by
  have := lt16 t
  rw [outsAt0_B m c t h0 (by omega)]
  dsimp only
  rw [dg_B]
  exact congrArg _ (blkG_eq ..)

theorem outs10 (c : Dev nD) (t : Fin cfg0.N) (ht : t.val % 16 = 16 - 1) (y : S1x1024.Idx) :
    (outsAt0 m c t.val t.isLt).2.2.2 y = resultG m c (y 1) := by
  have e := Pipeline.eq_sum_fin_of_reset_step_apply_of_flush (fun n h => (outsAt0 m c n h).2.2.2) 16 (fun _ => (0 : EReal))
    (fun t y => partG m c t (y 1)) (outs10_first m c) (outs10_later m c) t ht y
  refine e.trans ?_
  rw [zero_add]
  have s := Fin.sum_univ_univ_mul_add 16 256 fun l => if h : l < 4096 then termOf m c ⟨l, h⟩ (y 1) else 0
  refine (Finset.sum_congr rfl fun l _ => Finset.sum_congr rfl fun r _ => ?_).trans
    (s.trans (Finset.sum_congr rfl fun l _ => dif_pos l.isLt))
  have := l.isLt
  have := r.isLt
  have := lt16 t
  rw [dif_pos (by omega)]
  exact congrArg (termOf m c · (y 1)) (Fin.ext (by show (16 * (t.val / 16) + l.val) * 256 + r.val = l.val * 256 + r.val; omega))

theorem arr7 (c : Dev nD) : (dats m 0 c).arrAt 7 cfg0.N = fun y => resultH m c (y 0) (y 1) := by
  have idx := indices
  refine (dats m 0 c).arrAt_eq_of_covers 7 _ (by decide +kernel) fun t hf y => ?_
  blk_simp
  rw [after0_7]
  refine (outs7 m c t y).trans (congrArg₂ (resultH m c) (Fin.ext ?_) (Fin.ext ?_)) <;> blk_simp [idx t] <;> rfl

theorem arr8 (c : Dev nD) : (dats m 0 c).arrAt 8 cfg0.N = fun y => resultP m c (y 0) (y 1) := by
  have idx := indices
  refine (dats m 0 c).arrAt_eq_of_covers 8 _ (by decide +kernel) fun t hf y => ?_
  blk_simp
  rw [after0_8]
  refine (outs8 m c t y).trans (congrArg₂ (resultP m c) (Fin.ext ?_) (Fin.ext ?_)) <;> blk_simp [idx t] <;> rfl

theorem arr9 (c : Dev nD) : (dats m 0 c).arrAt 9 cfg0.N = fun y => resultT m c (y 0) (y 1) := by
  have idx := indices
  refine (dats m 0 c).arrAt_eq_of_covers 9 _ (by decide +kernel) fun t hf y => ?_
  blk_simp
  rw [after0_9]
  refine (outs9 m c t y).trans (congrArg₂ (resultT m c) (Fin.ext ?_) (Fin.ext ?_)) <;> blk_simp [idx t] <;> rfl

theorem arr10 (c : Dev nD) : (dats m 0 c).arrAt 10 cfg0.N = fun y => resultG m c (y 1) := by
  have idx := indices
  refine (dats m 0 c).arrAt_eq_of_covers 10 _ (by decide +kernel) fun t hf y => ?_
  blk_simp
  rw [after0_10]
  idx_bounds y
  refine (outs10 m c t ((flush0_10 t).mp hf) y).trans (congrArg (resultG m c) (Fin.ext ?_)) <;> blk_simp [idx t]

/-- The tokens' gradient the call leaves, as an array. -/
abbrev wholeH (c : Dev nD) : (⟨2, ![4096, 1024]⟩ : Shape).Idx → EReal :=
  arrayH (m ((c : Thread nD τ).loc main_arg0)) (m ((c : Thread nD τ).loc main_arg1))
    (m ((c : Thread nD τ).loc main_arg2)) (m ((c : Thread nD τ).loc main_arg3)) (m ((c : Thread nD τ).loc main_arg4))

/-- The projected embeddings' gradient the call leaves, as an array. -/
abbrev wholeP (c : Dev nD) : (⟨2, ![4096, 1024]⟩ : Shape).Idx → EReal :=
  arrayP (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The gate's gradient the call leaves, as an array. -/
abbrev wholeT (c : Dev nD) : (⟨2, ![4096, 1024]⟩ : Shape).Idx → EReal :=
  arrayT (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The gain's gradient the call leaves, as an array. -/
abbrev wholeG (c : Dev nD) : (⟨2, ![1, 1024]⟩ : Shape).Idx → EReal :=
  arrayG (m ((c : Thread nD τ).loc main_arg0)) (m ((c : Thread nD τ).loc main_arg2)) (m ((c : Thread nD τ).loc main_arg3))

end call

section plain

open Cert.Reference8Ideal Cert.Reference8Ideal.Read Cert.Reference8Ideal.Value

variable (m : (ℓ : Loc nD τ sig) → Buf (Elt Ideal) ℓ) (c : Dev nD)

theorem reference_h (y : S4096x1024.Idx) : res_main_v40 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v40
  idx_vars y
  pointwise
  simp only [Fin.sum_univ_one]
  rw [add_assoc, add_assoc, ← add_assoc (_ * _)]
  rfl

theorem reference_p (y : S4096x1024.Idx) : res_main_v55 (F := Ideal) m c y
    = arrayP (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) y := by
  have h := reference_h m c y
  unfold res_main_v40 at h
  unfold res_main_v55
  idx_vars y
  pointwise at h ⊢
  rw [h]
  simp only [arrayP, sigmoid, one, Ideal.ofBits_one_f32]
  exact mul_comm (G := EReal) _ _

theorem reference_t (y : S4096x1024.Idx) : res_main_v56 (F := Ideal) m c y
    = arrayT (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) y := by
  have h := reference_h m c y
  unfold res_main_v40 at h
  unfold res_main_v56
  idx_vars y
  pointwise at h ⊢
  rw [h]
  simp only [arrayT, gateGrad, sigmoid, one, Ideal.ofBits_one_f32]
  exact (mul_assoc (G := EReal) _ _ _).symm

theorem reference_g (x0 : (⟨S4096x1024, .f32⟩ : BufTy).Contents (Elt Ideal))
    (x2 : (⟨S1024x4096, .bf16⟩ : BufTy).Contents (Elt Ideal)) (x3 : (⟨S4096x4096, .bf16⟩ : BufTy).Contents (Elt Ideal))
    (y : S1x1024.Idx) : val_main_v41 (F := Ideal) x0 x2 x3 y = gradG x0 x2 x3 (y 1) := by
  rw [← val_main_v41_eq]
  idx_vars y
  pointwise
  simp only [Fin.sum_univ_one]
  rfl

end plain

/-- The reference's frame. -/
theorem frame_reference : Cert.quiescent_Reference8Ideal := by
  intro m ρ _
  exact (θ_run Cert.Reference8Ideal.defs _ _).mono
    (fun r h => ⟨fun c => (h c).2.2.2.2, sem_eq_zero_of_no_sems (by decide) r.2⟩)
    (Cert.Reference8Ideal.Value.run (F := Ideal) m ρ)

/-- The call's results are the reference's. -/
theorem algebraic : Cert.algebraic_Kernel8Ideal_Reference8Ideal := by
  intro m ρ m' ρ' _ hag
  refine ⟨wholeH m, wholeP m, wholeT m, wholeG m, ?_, ?_⟩
  · refine (θ_run Cert.Kernel8Ideal.defs _ _).mono (fun r h c => ?_) (Cert.Kernel8Ideal.Value.run_blocks (F := Ideal) m ρ)
    obtain ⟨h7, h8, h9, h10, hargs⟩ := h c
    exact ⟨h7.trans (arr7 m c), h8.trans (arr8 m c), h9.trans (arr9 m c), h10.trans (arr10 m c), hargs⟩
  · refine (θ_run Cert.Reference8Ideal.defs _ _).mono (fun r h c => ?_) (Cert.Reference8Ideal.Value.run (F := Ideal) m' ρ')
    obtain ⟨h7, h8, h9, h10, hargs⟩ := h c
    obtain ⟨e0, e1, e2, e3, e4, e5, e6⟩ := hag c
    refine ⟨h7.trans ?_, h8.trans ?_, h9.trans ?_, h10.trans ?_, hargs⟩
    · show _ = arrayH _ _ _ _ _
      rw [← e0, ← e1, ← e2, ← e3, ← e4]
      exact funext (reference_h m' c)
    · show _ = arrayP _ _ _ _ _ _
      rw [← e0, ← e1, ← e2, ← e3, ← e4, ← e5]
      exact funext (reference_p m' c)
    · show _ = arrayT _ _ _ _ _ _ _
      rw [← e0, ← e1, ← e2, ← e3, ← e4, ← e5, ← e6]
      exact funext (reference_t m' c)
    · show _ = arrayG _ _ _
      rw [← e0, ← e2, ← e3]
      exact funext (reference_g _ _ _)

end Cert.GmlpInDx

end
-- ==== Proof.PleGateDx.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import proofs.«01_k».proof.Proof.RmsNormBack

/-!
# Backward through the per-layer gate's projection and norm

The gate's gradient times the gate's projection, transposed, then back through the RMS norm; the tokens' gradient
is added to the one that passed beside the block, and the gain's gradient is summed over the tokens.
-/

@[expose] public section

set_option maxRecDepth 16384

noncomputable section

namespace Cert.PleGateDx

open Idealize.ShloMosaic Idealize.ShloMosaic.TcCoe Idealize.SL.Sem
open Idealize.ShloMosaic.Pipeline (Dat)

/-- The gradient of the normalised token `t`'s channel `k`. -/
def dot (da : (⟨2, ![4096, 1024]⟩ : Shape).Idx → EReal) (w : (⟨2, ![1024, 1024]⟩ : Shape).Idx → EReal) (t : Fin 4096)
    (k : Fin 1024) : EReal := ∑ j : Fin 1024, da (ix2 t j) * w (ix2 k j)

/-- The gradient of token `t`'s channel `k`. -/
def gradH (h : (⟨2, ![4096, 1024]⟩ : Shape).Idx → EReal) (gain : (⟨1, ![1024]⟩ : Shape).Idx → EReal)
    (w : (⟨2, ![1024, 1024]⟩ : Shape).Idx → EReal) (da : (⟨2, ![4096, 1024]⟩ : Shape).Idx → EReal)
    (dh : (⟨2, ![4096, 1024]⟩ : Shape).Idx → EReal) (t : Fin 4096) (k : Fin 1024) : EReal :=
  dh (ix2 t k) + RmsNorm.back (fun j => h (ix2 t j)) (fun j => dot da w t j * gain (ix1 j)) k

/-- What token `t` adds to the gradient of the gain at channel `k`. -/
def termG (h : (⟨2, ![4096, 1024]⟩ : Shape).Idx → EReal) (w : (⟨2, ![1024, 1024]⟩ : Shape).Idx → EReal)
    (da : (⟨2, ![4096, 1024]⟩ : Shape).Idx → EReal) (t : Fin 4096) (k : Fin 1024) : EReal :=
  h (ix2 t k) * RmsNorm.inv (fun j => h (ix2 t j)) * dot da w t k

/-- The gradient of the gain at channel `k`. -/
def gradG (h : (⟨2, ![4096, 1024]⟩ : Shape).Idx → EReal) (w : (⟨2, ![1024, 1024]⟩ : Shape).Idx → EReal)
    (da : (⟨2, ![4096, 1024]⟩ : Shape).Idx → EReal) (k : Fin 1024) : EReal := ∑ t : Fin 4096, termG h w da t k

/-- The tokens' gradient as an array. -/
def arrayH (h : (⟨2, ![4096, 1024]⟩ : Shape).Idx → EReal) (gain : (⟨1, ![1024]⟩ : Shape).Idx → EReal)
    (w : (⟨2, ![1024, 1024]⟩ : Shape).Idx → EReal) (da : (⟨2, ![4096, 1024]⟩ : Shape).Idx → EReal)
    (dh : (⟨2, ![4096, 1024]⟩ : Shape).Idx → EReal) : (⟨2, ![4096, 1024]⟩ : Shape).Idx → EReal :=
  fun y => gradH h gain w da dh (y 0) (y 1)

/-- The gain's gradient as an array. -/
def arrayG (h : (⟨2, ![4096, 1024]⟩ : Shape).Idx → EReal) (w : (⟨2, ![1024, 1024]⟩ : Shape).Idx → EReal)
    (da : (⟨2, ![4096, 1024]⟩ : Shape).Idx → EReal) : (⟨2, ![1, 1024]⟩ : Shape).Idx → EReal :=
  fun y => gradG h w da (y 1)

section call

open Cert.Kernel9Ideal Cert.Kernel9Ideal.Gen

/-- `dot` on a block of tokens. -/
def blkDot (da : (⟨2, ![1024, 1024]⟩ : Shape).Idx → EReal) (w : (⟨2, ![1024, 1024]⟩ : Shape).Idx → EReal) (r : Fin 1024)
    (k : Fin 1024) : EReal := ∑ j : Fin 1024, da (ix2 r j) * w (ix2 k j)

/-- `gradH` on a block of tokens. -/
def blkH (da : (⟨2, ![1024, 1024]⟩ : Shape).Idx → EReal) (w : (⟨2, ![1024, 1024]⟩ : Shape).Idx → EReal)
    (h dh : (⟨2, ![1024, 1024]⟩ : Shape).Idx → EReal) (gain : (⟨2, ![1, 1024]⟩ : Shape).Idx → EReal) (r : Fin 1024)
    (k : Fin 1024) : EReal :=
  dh (ix2 r k) + RmsNorm.back (fun j => h (ix2 r j)) (fun j => blkDot da w r j * gain (ix2 0 j)) k

/-- What a block of tokens adds to the gradient of the gain. -/
def blkG (da : (⟨2, ![1024, 1024]⟩ : Shape).Idx → EReal) (w : (⟨2, ![1024, 1024]⟩ : Shape).Idx → EReal)
    (h : (⟨2, ![1024, 1024]⟩ : Shape).Idx → EReal) (k : Fin 1024) : EReal :=
  ∑ r : Fin 1024, h (ix2 r k) * RmsNorm.inv (fun j => h (ix2 r j)) * blkDot da w r k

section block

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole)
  (da : Vec Ideal S1024x1024 .bf16) (w : Vec Ideal S1024x1024 .bf16) (h dh : Vec Ideal S1024x1024 .f32)
  (gain og : Vec Ideal S1x1024 .f32)

/-- At the first point, the tokens' gradient. -/
theorem dh_A (hc0 : cond0_0 i) (hc1 : ¬cond0_1 i) (y : S1024x1024.Idx) :
    out0_A_5 c i a3 h3 a4 h4 a5 h5 a6 h6 a7 h7 a8 h8 a9 h9 a10 h10 hc0 hc1 da w h dh gain y = blkH da w h dh gain (y 0) (y 1) := by
  frame_out
  unfold_payloads
  idx_vars y
  pointwise
  simp only [Fin.sum_univ_one]
  rfl

/-- At the first point, the tokens' gradient, the second copy. -/
theorem dhb_A (hc0 : cond0_0 i) (hc1 : ¬cond0_1 i) (y : S1024x1024.Idx) :
    out0_A_6 c i a3 h3 a4 h4 a5 h5 a6 h6 a7 h7 a8 h8 a9 h9 a10 h10 hc0 hc1 da w h dh gain y = blkH da w h dh gain (y 0) (y 1) := by
  frame_out
  unfold_payloads
  idx_vars y
  pointwise
  simp only [Fin.sum_univ_one]
  rfl

/-- At the first point, the gain's gradient. -/
theorem dg_A (hc0 : cond0_0 i) (hc1 : ¬cond0_1 i) (y : S1x1024.Idx) :
    out0_A_7 c i a3 h3 a4 h4 a5 h5 a6 h6 a7 h7 a8 h8 a9 h9 a10 h10 hc0 hc1 da w h dh gain y = blkG da w h (y 1) := by
  frame_out
  unfold_payloads
  idx_vars y
  pointwise
  rfl

/-- At a later point, the tokens' gradient. -/
theorem dh_B (hc0 : ¬cond0_0 i) (hc1 : cond0_1 i) (y : S1024x1024.Idx) :
    out0_B_5 c i a3 h3 a4 h4 a5 h5 a6 h6 a7 h7 a8 h8 a9 h9 a10 h10 hc0 hc1 da w h dh gain og y = blkH da w h dh gain (y 0) (y 1) := by
  frame_out
  unfold_payloads
  idx_vars y
  pointwise
  simp only [Fin.sum_univ_one]
  rfl

/-- At a later point, the tokens' gradient, the second copy. -/
theorem dhb_B (hc0 : ¬cond0_0 i) (hc1 : cond0_1 i) (y : S1024x1024.Idx) :
    out0_B_6 c i a3 h3 a4 h4 a5 h5 a6 h6 a7 h7 a8 h8 a9 h9 a10 h10 hc0 hc1 da w h dh gain og y = blkH da w h dh gain (y 0) (y 1) := by
  frame_out
  unfold_payloads
  idx_vars y
  pointwise
  simp only [Fin.sum_univ_one]
  rfl

/-- At a later point, the gain's gradient. -/
theorem dg_B (hc0 : ¬cond0_0 i) (hc1 : cond0_1 i) (y : S1x1024.Idx) :
    out0_B_7 c i a3 h3 a4 h4 a5 h5 a6 h6 a7 h7 a8 h8 a9 h9 a10 h10 hc0 hc1 da w h dh gain og y = og y + blkG da w h (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧ win0_4.index t = ![0, 0] ∧
    win0_5.index t = ![t.val, 0] ∧ win0_6.index t = ![t.val, 0] ∧ win0_7.index t = ![0, 0] := by decide +kernel

theorem lt4 (t : Fin cfg0.N) : t.val < 4 := by have h := t.isLt; have e : cfg0.N = 4 := N_0; omega

/-- Row `r` of the tokens that point `t` works on. -/
def tokRow (t : Fin cfg0.N) (r : Fin 1024) : Fin 4096 := ⟨t.val * 1024 + r.val, by have := r.isLt; have := lt4 t; omega⟩

theorem blk0 (c : Dev nD) (t : Fin cfg0.N) (r : Fin 1024) (j : Fin 1024) :
    iblk m c 0 t (ix2 r j) = m ((c : Thread nD τ).loc main_arg3) (ix2 (tokRow t r) j) := by
  have idx := indices
  blk_point [iblk, V, idx t] <;> rfl

theorem blk1 (c : Dev nD) (t : Fin cfg0.N) (k : Fin 1024) (j : Fin 1024) :
    iblk m c 1 t (ix2 k j) = m ((c : Thread nD τ).loc main_arg2) (ix2 k j) := by
  have idx := indices
  blk_point [iblk, V, idx t] <;> rfl

theorem blk2 (c : Dev nD) (t : Fin cfg0.N) (r : Fin 1024) (k : Fin 1024) :
    iblk m c 2 t (ix2 r k) = m ((c : Thread nD τ).loc main_arg0) (ix2 (tokRow t r) k) := by
  have idx := indices
  blk_point [iblk, V, idx t] <;> rfl

theorem blk3 (c : Dev nD) (t : Fin cfg0.N) (r : Fin 1024) (k : Fin 1024) :
    iblk m c 3 t (ix2 r k) = m ((c : Thread nD τ).loc main_arg4) (ix2 (tokRow t r) k) := by
  have idx := indices
  blk_point [iblk, V, idx t] <;> rfl

theorem blk4 (c : Dev nD) (t : Fin cfg0.N) (k : Fin 1024) :
    iblk m c 4 t (ix2 0 k) = m ((c : Thread nD τ).loc main_arg1) (ix1 k) := by
  have idx := indices
  blk_point [iblk, V, idx t] <;> rfl

/-- The tokens' gradient that the call leaves. -/
abbrev resultH (c : Dev nD) (t : Fin 4096) (k : Fin 1024) : EReal :=
  gradH (m ((c : Thread nD τ).loc main_arg0)) (m ((c : Thread nD τ).loc main_arg1)) (m ((c : Thread nD τ).loc main_arg2))
    (m ((c : Thread nD τ).loc main_arg3)) (m ((c : Thread nD τ).loc main_arg4)) t k

/-- What token `t` adds to the gain's gradient. -/
abbrev termOf (c : Dev nD) (t : Fin 4096) (k : Fin 1024) : EReal :=
  termG (m ((c : Thread nD τ).loc main_arg0)) (m ((c : Thread nD τ).loc main_arg2)) (m ((c : Thread nD τ).loc main_arg3)) t k

/-- The gain's gradient that the call leaves. -/
abbrev resultG (c : Dev nD) (k : Fin 1024) : EReal :=
  gradG (m ((c : Thread nD τ).loc main_arg0)) (m ((c : Thread nD τ).loc main_arg2)) (m ((c : Thread nD τ).loc main_arg3)) k

theorem dot_eq (c : Dev nD) (t : Fin cfg0.N) (r : Fin 1024) (k : Fin 1024) :
    blkDot (iblk m c 0 t) (iblk m c 1 t) r k
      = dot (m ((c : Thread nD τ).loc main_arg3)) (m ((c : Thread nD τ).loc main_arg2)) (tokRow t r) k := by
  refine Finset.sum_congr rfl fun j _ => ?_
  rw [blk0, blk1]

theorem blkH_eq (c : Dev nD) (t : Fin cfg0.N) (r : Fin 1024) (k : Fin 1024) :
    blkH (iblk m c 0 t) (iblk m c 1 t) (iblk m c 2 t) (iblk m c 3 t) (iblk m c 4 t) r k = resultH m c (tokRow t r) k := by
  unfold blkH
  refine congrArg₂ (fun p q : EReal => p + q) (blk3 m c t r k) (congrFun (congrArg₂ RmsNorm.back (funext fun j => blk2 m c t r j) (funext fun j => ?_)) k)
  rw [blk4, dot_eq]

/-- What point `t` adds to the gain's gradient. -/
def partG (c : Dev nD) (t : Fin cfg0.N) (k : Fin 1024) : EReal := ∑ r : Fin 1024, termOf m c (tokRow t r) k

theorem blkG_eq (c : Dev nD) (t : Fin cfg0.N) (k : Fin 1024) :
    blkG (iblk m c 0 t) (iblk m c 1 t) (iblk m c 2 t) k = partG m c t k := by
  refine Finset.sum_congr rfl fun r _ => ?_
  rw [dot_eq]
  refine congrArg (· * _) (congrArg₂ (· * ·) (blk2 m c t r k) (congrArg RmsNorm.inv (funext fun j => blk2 m c t r j)))

theorem outs5 (c : Dev nD) (t : Fin cfg0.N) (y : S1024x1024.Idx) :
    (outsAt0 m c t.val t.isLt).1 y = resultH m c (tokRow t (y 0)) (y 1) := by
  refine Eq.trans ?_ (blkH_eq m c t (y 0) (y 1))
  have := lt4 t
  by_cases h0 : t.val % 4 = 0
  · rw [outsAt0_A m c t h0 (by omega)]
    dsimp only
    rw [dh_A]
  · rw [outsAt0_B m c t h0 (by omega)]
    dsimp only
    rw [dh_B]

theorem outs6 (c : Dev nD) (t : Fin cfg0.N) (y : S1024x1024.Idx) :
    (outsAt0 m c t.val t.isLt).2.1 y = resultH m c (tokRow t (y 0)) (y 1) := by
  refine Eq.trans ?_ (blkH_eq m c t (y 0) (y 1))
  have := lt4 t
  by_cases h0 : t.val % 4 = 0
  · rw [outsAt0_A m c t h0 (by omega)]
    dsimp only
    rw [dhb_A]
  · rw [outsAt0_B m c t h0 (by omega)]
    dsimp only
    rw [dhb_B]

theorem outs7_first (c : Dev nD) (t : Fin cfg0.N) (h0 : t.val % 4 = 0) (y : S1x1024.Idx) :
    (outsAt0 m c t.val t.isLt).2.2 y = 0 + partG m c t (y 1) := by
  have := lt4 t
  rw [outsAt0_A m c t h0 (by omega), zero_add]
  dsimp only
  rw [dg_A]
  exact blkG_eq ..

theorem outs7_later (c : Dev nD) (t : Fin cfg0.N) (h0 : ¬t.val % 4 = 0) (y : S1x1024.Idx) :
    (outsAt0 m c t.val t.isLt).2.2 y
      = (outsAt0 m c (t.val - 1) (Nat.lt_of_le_of_lt (Nat.sub_le _ _) t.isLt)).2.2 y + partG m c t (y 1) := by
  have := lt4 t
  rw [outsAt0_B m c t h0 (by omega)]
  dsimp only
  rw [dg_B]
  exact congrArg _ (blkG_eq ..)

theorem outs7 (c : Dev nD) (t : Fin cfg0.N) (ht : t.val % 4 = 4 - 1) (y : S1x1024.Idx) :
    (outsAt0 m c t.val t.isLt).2.2 y = resultG m c (y 1) := by
  have e := Pipeline.eq_sum_fin_of_reset_step_apply_of_flush (fun n h => (outsAt0 m c n h).2.2) 4 (fun _ => (0 : EReal))
    (fun t y => partG m c t (y 1)) (outs7_first m c) (outs7_later m c) t ht y
  refine e.trans ?_
  rw [zero_add]
  have s := Fin.sum_univ_univ_mul_add 4 1024 fun l => if h : l < 4096 then termOf m c ⟨l, h⟩ (y 1) else 0
  refine (Finset.sum_congr rfl fun l _ => Finset.sum_congr rfl fun r _ => ?_).trans
    (s.trans (Finset.sum_congr rfl fun l _ => dif_pos l.isLt))
  have := l.isLt
  have := r.isLt
  have := lt4 t
  rw [dif_pos (by omega)]
  exact congrArg (termOf m c · (y 1)) (Fin.ext (by show (4 * (t.val / 4) + l.val) * 1024 + r.val = l.val * 1024 + r.val; omega))

theorem arr5 (c : Dev nD) : (dats m 0 c).arrAt 5 cfg0.N = fun y => resultH m c (y 0) (y 1) := by
  have idx := indices
  refine (dats m 0 c).arrAt_eq_of_covers 5 _ (by decide +kernel) fun t hf y => ?_
  blk_simp
  rw [after0_5]
  refine (outs5 m c t y).trans (congrArg₂ (resultH m c) (Fin.ext ?_) (Fin.ext ?_)) <;> blk_simp [idx t] <;> rfl

theorem arr6 (c : Dev nD) : (dats m 0 c).arrAt 6 cfg0.N = fun y => resultH m c (y 0) (y 1) := by
  have idx := indices
  refine (dats m 0 c).arrAt_eq_of_covers 6 _ (by decide +kernel) fun t hf y => ?_
  blk_simp
  rw [after0_6]
  refine (outs6 m c t y).trans (congrArg₂ (resultH m c) (Fin.ext ?_) (Fin.ext ?_)) <;> blk_simp [idx t] <;> rfl

theorem arr7 (c : Dev nD) : (dats m 0 c).arrAt 7 cfg0.N = fun y => resultG m c (y 1) := by
  have idx := indices
  refine (dats m 0 c).arrAt_eq_of_covers 7 _ (by decide +kernel) fun t hf y => ?_
  blk_simp
  rw [after0_7]
  idx_bounds y
  refine (outs7 m c t ((flush0_7 t).mp hf) y).trans (congrArg (resultG m c) (Fin.ext ?_)) <;> blk_simp [idx t]

/-- The tokens' gradient the call leaves, as an array. -/
abbrev wholeH (c : Dev nD) : (⟨2, ![4096, 1024]⟩ : Shape).Idx → EReal :=
  arrayH (m ((c : Thread nD τ).loc main_arg0)) (m ((c : Thread nD τ).loc main_arg1))
    (m ((c : Thread nD τ).loc main_arg2)) (m ((c : Thread nD τ).loc main_arg3)) (m ((c : Thread nD τ).loc main_arg4))

/-- The gain's gradient the call leaves, as an array. -/
abbrev wholeG (c : Dev nD) : (⟨2, ![1, 1024]⟩ : Shape).Idx → EReal :=
  arrayG (m ((c : Thread nD τ).loc main_arg0)) (m ((c : Thread nD τ).loc main_arg2)) (m ((c : Thread nD τ).loc main_arg3))

end call

section plain

open Cert.Reference9Ideal Cert.Reference9Ideal.Read Cert.Reference9Ideal.Value

variable (m : (ℓ : Loc nD τ sig) → Buf (Elt Ideal) ℓ) (c : Dev nD)

theorem reference_h (y : S4096x1024.Idx) : res_main_v40 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v40
  idx_vars y
  pointwise
  simp only [Fin.sum_univ_one]
  rw [add_assoc, add_assoc, ← add_assoc (_ * _)]
  rfl

theorem reference_hb (y : S4096x1024.Idx) : res_main_v42 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v42
  exact reference_h m c y

theorem reference_g (x0 : (⟨S4096x1024, .f32⟩ : BufTy).Contents (Elt Ideal))
    (x2 : (⟨S1024x1024, .bf16⟩ : BufTy).Contents (Elt Ideal)) (x3 : (⟨S4096x1024, .bf16⟩ : BufTy).Contents (Elt Ideal))
    (y : S1x1024.Idx) : val_main_v41 (F := Ideal) x0 x2 x3 y = gradG x0 x2 x3 (y 1) := by
  rw [← val_main_v41_eq]
  idx_vars y
  pointwise
  simp only [Fin.sum_univ_one]
  rfl

end plain

/-- The reference's frame. -/
theorem frame_reference : Cert.quiescent_Reference9Ideal := by
  intro m ρ _
  exact (θ_run Cert.Reference9Ideal.defs _ _).mono
    (fun r h => ⟨fun c => (h c).2.2.2, sem_eq_zero_of_no_sems (by decide) r.2⟩)
    (Cert.Reference9Ideal.Value.run (F := Ideal) m ρ)

/-- The call's results are the reference's. -/
theorem algebraic : Cert.algebraic_Kernel9Ideal_Reference9Ideal := by
  intro m ρ m' ρ' _ hag
  refine ⟨wholeH m, wholeH m, wholeG m, ?_, ?_⟩
  · refine (θ_run Cert.Kernel9Ideal.defs _ _).mono (fun r h c => ?_) (Cert.Kernel9Ideal.Value.run_blocks (F := Ideal) m ρ)
    obtain ⟨h5, h6, h7, hargs⟩ := h c
    exact ⟨h5.trans (arr5 m c), h6.trans (arr6 m c), h7.trans (arr7 m c), hargs⟩
  · refine (θ_run Cert.Reference9Ideal.defs _ _).mono (fun r h c => ?_) (Cert.Reference9Ideal.Value.run (F := Ideal) m' ρ')
    obtain ⟨h5, h6, h7, hargs⟩ := h c
    obtain ⟨e0, e1, e2, e3, e4⟩ := hag c
    refine ⟨h5.trans ?_, h6.trans ?_, h7.trans ?_, hargs⟩
    · show _ = arrayH _ _ _ _ _
      rw [← e0, ← e1, ← e2, ← e3, ← e4]
      exact funext (reference_h m' c)
    · show _ = arrayH _ _ _ _ _
      rw [← e0, ← e1, ← e2, ← e3, ← e4]
      exact funext (reference_hb m' c)
    · show _ = arrayG _ _ _
      rw [← e0, ← e2, ← e3]
      exact funext (reference_g _ _ _)

end Cert.PleGateDx

end
-- ==== Proof.PleGateDw.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit

/-!
# The gradient of the per-layer gate's projection

The normalised tokens, transposed, times the gate's gradient.
-/

@[expose] public section

set_option maxRecDepth 16384

noncomputable section

namespace Cert.PleGateDw

open Idealize.ShloMosaic Idealize.ShloMosaic.TcCoe Idealize.SL.Sem
open Idealize.ShloMosaic.Pipeline (Dat)

/-- The gradient at row `i` and column `j`. -/
def grad (x : (⟨2, ![4096, 1024]⟩ : Shape).Idx → EReal) (w : (⟨2, ![4096, 1024]⟩ : Shape).Idx → EReal) (i : Fin 1024) (j : Fin 1024) : EReal :=
  ∑ k : Fin 4096, x (ix2 k i) * w (ix2 k j)

section call

open Cert.Kernel10Ideal Cert.Kernel10Ideal.Gen

/-- The gradient on a block of rows by columns. -/
def blkGrad (x : (⟨2, ![4096, 1024]⟩ : Shape).Idx → EReal) (w : (⟨2, ![4096, 1024]⟩ : Shape).Idx → EReal) (i : Fin 1024) (j : Fin 1024) : EReal :=
  ∑ k : Fin 4096, x (ix2 k i) * w (ix2 k j)

theorem block (x : Vec Ideal S4096x1024 .bf16) (w : Vec Ideal S4096x1024 .bf16) (y : S1024x1024.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![0, 0] ∧
    win0_2.index t = ![0, 0] := by decide +kernel

theorem blk0 (c : Dev nD) (t : Fin cfg0.N) (i : Fin 1024) (k : Fin 4096) :
    iblk m c 0 t (ix2 k i) = m ((c : Thread nD τ).loc main_arg0) (ix2 k i) := by
  have idx := indices
  blk_point [iblk, V, idx t] <;> rfl

theorem blk1 (c : Dev nD) (t : Fin cfg0.N) (j : Fin 1024) (k : Fin 4096) :
    iblk m c 1 t (ix2 k j) = m ((c : Thread nD τ).loc main_arg1) (ix2 k j) := by
  have idx := indices
  blk_point [iblk, V, idx t] <;> rfl

/-- The gradient that the call leaves. -/
abbrev result (c : Dev nD) (i : Fin 1024) (j : Fin 1024) : EReal :=
  grad (m ((c : Thread nD τ).loc main_arg0)) (m ((c : Thread nD τ).loc main_arg1)) i j

theorem block_eq (c : Dev nD) (t : Fin cfg0.N) (i : Fin 1024) (j : Fin 1024) :
    blkGrad (iblk m c 0 t) (iblk m c 1 t) i j = result m c i j := by
  refine Finset.sum_congr rfl fun k _ => ?_
  rw [blk0, blk1]

theorem outs (c : Dev nD) (t : Fin cfg0.N) (y : S1024x1024.Idx) :
    out0_2 (iblk m c 0 t) (iblk m c 1 t) y = result m c (y 0) (y 1) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference10Ideal Cert.Reference10Ideal.Read

variable (x0 : (⟨S4096x1024, .bf16⟩ : BufTy).Contents (Elt Ideal)) (x1 : (⟨S4096x1024, .bf16⟩ : BufTy).Contents (Elt Ideal))

theorem reference (y : S1024x1024.Idx) : val_main_v6 (F := Ideal) x0 x1 y = grad x0 x1 (y 0) (y 1) := by
  rw [← val_main_v6_eq]
  idx_vars y
  pointwise
  exact Finset.sum_congr rfl fun t _ => mul_comm _ _

end plain

/-- The reference's frame. -/
theorem frame_reference : Cert.quiescent_Reference10Ideal := by
  intro m ρ _
  exact (θ_run Cert.Reference10Ideal.defs _ _).mono
    (fun r h => ⟨fun c => (h c).2, sem_eq_zero_of_no_sems (by decide) r.2⟩)
    (Cert.Reference10Ideal.Value.run (F := Ideal) m ρ)

/-- The call's result is the reference's. -/
theorem algebraic : Cert.algebraic_Kernel10Ideal_Reference10Ideal := by
  intro m ρ m' ρ' _ hag
  refine ⟨fun c => fun y => result m c (y 0) (y 1), ?_, ?_⟩
  · refine (θ_run Cert.Kernel10Ideal.defs _ _).mono (fun r h c => ?_) (Cert.Kernel10Ideal.Value.run_blocks (F := Ideal) m ρ)
    obtain ⟨h3, hargs⟩ := h c
    exact ⟨h3.trans (arr m c), hargs⟩
  · refine (θ_run Cert.Reference10Ideal.defs _ _).mono (fun r h c => ?_) (Cert.Reference10Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.PleGateDw

end
-- ==== Proof.PleProjDw.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit

/-!
# The gradient of the per-layer embedding's projection

The per-layer embeddings, transposed, times the projected embeddings' gradient.
-/

@[expose] public section

set_option maxRecDepth 16384

noncomputable section

namespace Cert.PleProjDw

open Idealize.ShloMosaic Idealize.ShloMosaic.TcCoe Idealize.SL.Sem
open Idealize.ShloMosaic.Pipeline (Dat)

/-- The gradient at row `i` and column `j`. -/
def grad (x : (⟨2, ![4096, 256]⟩ : Shape).Idx → EReal) (w : (⟨2, ![4096, 1024]⟩ : Shape).Idx → EReal) (i : Fin 256) (j : Fin 1024) : EReal :=
  ∑ k : Fin 4096, x (ix2 k i) * w (ix2 k j)

section call

open Cert.Kernel11Ideal Cert.Kernel11Ideal.Gen

/-- The gradient on a block of rows by columns. -/
def blkGrad (x : (⟨2, ![4096, 256]⟩ : Shape).Idx → EReal) (w : (⟨2, ![4096, 1024]⟩ : Shape).Idx → EReal) (i : Fin 256) (j : Fin 1024) : EReal :=
  ∑ k : Fin 4096, x (ix2 k i) * w (ix2 k j)

theorem block (x : Vec Ideal S4096x256 .bf16) (w : Vec Ideal S4096x1024 .bf16) (y : S256x1024.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![0, 0] ∧
    win0_2.index t = ![0, 0] := by decide +kernel

theorem blk0 (c : Dev nD) (t : Fin cfg0.N) (i : Fin 256) (k : Fin 4096) :
    iblk m c 0 t (ix2 k i) = m ((c : Thread nD τ).loc main_arg0) (ix2 k i) := by
  have idx := indices
  blk_point [iblk, V, idx t] <;> rfl

theorem blk1 (c : Dev nD) (t : Fin cfg0.N) (j : Fin 1024) (k : Fin 4096) :
    iblk m c 1 t (ix2 k j) = m ((c : Thread nD τ).loc main_arg1) (ix2 k j) := by
  have idx := indices
  blk_point [iblk, V, idx t] <;> rfl

/-- The gradient that the call leaves. -/
abbrev result (c : Dev nD) (i : Fin 256) (j : Fin 1024) : EReal :=
  grad (m ((c : Thread nD τ).loc main_arg0)) (m ((c : Thread nD τ).loc main_arg1)) i j

theorem block_eq (c : Dev nD) (t : Fin cfg0.N) (i : Fin 256) (j : Fin 1024) :
    blkGrad (iblk m c 0 t) (iblk m c 1 t) i j = result m c i j := by
  refine Finset.sum_congr rfl fun k _ => ?_
  rw [blk0, blk1]

theorem outs (c : Dev nD) (t : Fin cfg0.N) (y : S256x1024.Idx) :
    out0_2 (iblk m c 0 t) (iblk m c 1 t) y = result m c (y 0) (y 1) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference11Ideal Cert.Reference11Ideal.Read

variable (x0 : (⟨S4096x256, .bf16⟩ : BufTy).Contents (Elt Ideal)) (x1 : (⟨S4096x1024, .bf16⟩ : BufTy).Contents (Elt Ideal))

theorem reference (y : S256x1024.Idx) : val_main_v6 (F := Ideal) x0 x1 y = grad x0 x1 (y 0) (y 1) := by
  rw [← val_main_v6_eq]
  idx_vars y
  pointwise
  exact Finset.sum_congr rfl fun t _ => mul_comm _ _

end plain

/-- The reference's frame. -/
theorem frame_reference : Cert.quiescent_Reference11Ideal := by
  intro m ρ _
  exact (θ_run Cert.Reference11Ideal.defs _ _).mono
    (fun r h => ⟨fun c => (h c).2, sem_eq_zero_of_no_sems (by decide) r.2⟩)
    (Cert.Reference11Ideal.Value.run (F := Ideal) m ρ)

/-- The call's result is the reference's. -/
theorem algebraic : Cert.algebraic_Kernel11Ideal_Reference11Ideal := by
  intro m ρ m' ρ' _ hag
  refine ⟨fun c => fun y => result m c (y 0) (y 1), ?_, ?_⟩
  · refine (θ_run Cert.Kernel11Ideal.defs _ _).mono (fun r h c => ?_) (Cert.Kernel11Ideal.Value.run_blocks (F := Ideal) m ρ)
    obtain ⟨h3, hargs⟩ := h c
    exact ⟨h3.trans (arr m c), hargs⟩
  · refine (θ_run Cert.Reference11Ideal.defs _ _).mono (fun r h c => ?_) (Cert.Reference11Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.PleProjDw

end
-- ==== Proof.MlaOutDx.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit

/-!
# The gradient of the attention heads' results

One product of the result's gradient with the transposed output projection.
-/

@[expose] public section

set_option maxRecDepth 16384

noncomputable section

namespace Cert.MlaOutDx

open Idealize.ShloMosaic Idealize.ShloMosaic.TcCoe Idealize.SL.Sem
open Idealize.ShloMosaic.Pipeline (Dat)

/-- The gradient at row `i` and column `j`. -/
def grad (x : (⟨2, ![4096, 1024]⟩ : Shape).Idx → EReal) (w : (⟨2, ![1024, 1024]⟩ : Shape).Idx → EReal) (i : Fin 4096) (j : Fin 1024) : EReal :=
  ∑ k : Fin 1024, x (ix2 i k) * w (ix2 j k)

section call

open Cert.Kernel12Ideal Cert.Kernel12Ideal.Gen

/-- The gradient on a block of rows by columns. -/
def blkGrad (x : (⟨2, ![2048, 1024]⟩ : Shape).Idx → EReal) (w : (⟨2, ![1024, 1024]⟩ : Shape).Idx → EReal) (i : Fin 2048) (j : Fin 1024) : EReal :=
  ∑ k : Fin 1024, x (ix2 i k) * w (ix2 j k)

theorem block (x : Vec Ideal S2048x1024 .bf16) (w : Vec Ideal S1024x1024 .bf16) (y : S2048x1024.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 1, 0] ∧ win0_1.index t = ![t.val % 1, 0] ∧
    win0_2.index t = ![t.val / 1, t.val % 1] := by decide +kernel

theorem points (t : Fin cfg0.N) : t.val < 2 := by have h := t.isLt; have e : cfg0.N = 2 := N_0; omega

/-- Row `i` of those that point `t` works on. -/
def row (t : Fin cfg0.N) (i : Fin 2048) : Fin 4096 :=
  ⟨t.val / 1 * 2048 + i.val, by have := i.isLt; have := points t; omega⟩
/-- Column `j` of those that point `t` works on. -/
def column (t : Fin cfg0.N) (j : Fin 1024) : Fin 1024 := ⟨t.val % 1 * 1024 + j.val, by have := j.isLt; omega⟩

theorem blk0 (c : Dev nD) (t : Fin cfg0.N) (i : Fin 2048) (k : Fin 1024) :
    iblk m c 0 t (ix2 i k) = m ((c : Thread nD τ).loc main_arg1) (ix2 (row t i) k) := by
  have idx := indices
  blk_point [iblk, V, idx t] <;> rfl

theorem blk1 (c : Dev nD) (t : Fin cfg0.N) (j : Fin 1024) (k : Fin 1024) :
    iblk m c 1 t (ix2 j k) = m ((c : Thread nD τ).loc main_arg0) (ix2 (column t j) k) := by
  have idx := indices
  blk_point [iblk, V, idx t] <;> rfl

/-- The gradient that the call leaves. -/
abbrev result (c : Dev nD) (i : Fin 4096) (j : Fin 1024) : EReal :=
  grad (m ((c : Thread nD τ).loc main_arg1)) (m ((c : Thread nD τ).loc main_arg0)) i j

theorem block_eq (c : Dev nD) (t : Fin cfg0.N) (i : Fin 2048) (j : Fin 1024) :
    blkGrad (iblk m c 0 t) (iblk m c 1 t) i j = result m c (row t i) (column t j) := by
  refine Finset.sum_congr rfl fun k _ => ?_
  rw [blk0, blk1]

theorem outs (c : Dev nD) (t : Fin cfg0.N) (y : S2048x1024.Idx) :
    out0_2 (iblk m c 0 t) (iblk m c 1 t) y = result m c (row t (y 0)) (column t (y 1)) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference12Ideal Cert.Reference12Ideal.Read

variable (x0 : (⟨S1024x1024, .bf16⟩ : BufTy).Contents (Elt Ideal)) (x1 : (⟨S4096x1024, .f32⟩ : BufTy).Contents (Elt Ideal))

theorem reference (y : S4096x1024.Idx) : val_main_v4 (F := Ideal) x0 x1 y = grad x1 x0 (y 0) (y 1) := by
  rw [← val_main_v4_eq]
  idx_vars y
  pointwise
  rfl

end plain

/-- The reference's frame. -/
theorem frame_reference : Cert.quiescent_Reference12Ideal := by
  intro m ρ _
  exact (θ_run Cert.Reference12Ideal.defs _ _).mono
    (fun r h => ⟨fun c => (h c).2, sem_eq_zero_of_no_sems (by decide) r.2⟩)
    (Cert.Reference12Ideal.Value.run (F := Ideal) m ρ)

/-- The call's result is the reference's. -/
theorem algebraic : Cert.algebraic_Kernel12Ideal_Reference12Ideal := by
  intro m ρ m' ρ' _ hag
  refine ⟨fun c => fun y => result m c (y 0) (y 1), ?_, ?_⟩
  · refine (θ_run Cert.Kernel12Ideal.defs _ _).mono (fun r h c => ?_) (Cert.Kernel12Ideal.Value.run_blocks (F := Ideal) m ρ)
    obtain ⟨h3, hargs⟩ := h c
    exact ⟨h3.trans (arr m c), hargs⟩
  · refine (θ_run Cert.Reference12Ideal.defs _ _).mono (fun r h c => ?_) (Cert.Reference12Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.MlaOutDx

end
-- ==== Proof.MlaOutDw.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit

/-!
# The gradient of the attention block's output projection

The heads' results, transposed, times the gradient of the block's result.
-/

@[expose] public section

set_option maxRecDepth 16384

noncomputable section

namespace Cert.MlaOutDw

open Idealize.ShloMosaic Idealize.ShloMosaic.TcCoe Idealize.SL.Sem
open Idealize.ShloMosaic.Pipeline (Dat)

/-- The gradient at row `i` and column `j`. -/
def grad (x : (⟨2, ![4096, 1024]⟩ : Shape).Idx → EReal) (w : (⟨2, ![4096, 1024]⟩ : Shape).Idx → EReal) (i : Fin 1024) (j : Fin 1024) : EReal :=
  ∑ k : Fin 4096, x (ix2 k i) * w (ix2 k j)

section call

open Cert.Kernel13Ideal Cert.Kernel13Ideal.Gen

/-- The gradient on a block of rows by columns. -/
def blkGrad (x : (⟨2, ![4096, 1024]⟩ : Shape).Idx → EReal) (w : (⟨2, ![4096, 1024]⟩ : Shape).Idx → EReal) (i : Fin 1024) (j : Fin 1024) : EReal :=
  ∑ k : Fin 4096, x (ix2 k i) * w (ix2 k j)

theorem block (x : Vec Ideal S4096x1024 .bf16) (w : Vec Ideal S4096x1024 .bf16) (y : S1024x1024.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![0, 0] ∧
    win0_2.index t = ![0, 0] := by decide +kernel

theorem blk0 (c : Dev nD) (t : Fin cfg0.N) (i : Fin 1024) (k : Fin 4096) :
    iblk m c 0 t (ix2 k i) = m ((c : Thread nD τ).loc main_arg0) (ix2 k i) := by
  have idx := indices
  blk_point [iblk, V, idx t] <;> rfl

theorem blk1 (c : Dev nD) (t : Fin cfg0.N) (j : Fin 1024) (k : Fin 4096) :
    iblk m c 1 t (ix2 k j) = m ((c : Thread nD τ).loc main_arg1) (ix2 k j) := by
  have idx := indices
  blk_point [iblk, V, idx t] <;> rfl

/-- The gradient that the call leaves. -/
abbrev result (c : Dev nD) (i : Fin 1024) (j : Fin 1024) : EReal :=
  grad (m ((c : Thread nD τ).loc main_arg0)) (m ((c : Thread nD τ).loc main_arg1)) i j

theorem block_eq (c : Dev nD) (t : Fin cfg0.N) (i : Fin 1024) (j : Fin 1024) :
    blkGrad (iblk m c 0 t) (iblk m c 1 t) i j = result m c i j := by
  refine Finset.sum_congr rfl fun k _ => ?_
  rw [blk0, blk1]

theorem outs (c : Dev nD) (t : Fin cfg0.N) (y : S1024x1024.Idx) :
    out0_2 (iblk m c 0 t) (iblk m c 1 t) y = result m c (y 0) (y 1) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference13Ideal Cert.Reference13Ideal.Read

variable (x0 : (⟨S4096x1024, .bf16⟩ : BufTy).Contents (Elt Ideal)) (x1 : (⟨S4096x1024, .f32⟩ : BufTy).Contents (Elt Ideal))

theorem reference (y : S1024x1024.Idx) : val_main_v5 (F := Ideal) x0 x1 y = grad x0 x1 (y 0) (y 1) := by
  rw [← val_main_v5_eq]
  idx_vars y
  pointwise
  exact Finset.sum_congr rfl fun t _ => mul_comm _ _

end plain

/-- The reference's frame. -/
theorem frame_reference : Cert.quiescent_Reference13Ideal := by
  intro m ρ _
  exact (θ_run Cert.Reference13Ideal.defs _ _).mono
    (fun r h => ⟨fun c => (h c).2, sem_eq_zero_of_no_sems (by decide) r.2⟩)
    (Cert.Reference13Ideal.Value.run (F := Ideal) m ρ)

/-- The call's result is the reference's. -/
theorem algebraic : Cert.algebraic_Kernel13Ideal_Reference13Ideal := by
  intro m ρ m' ρ' _ hag
  refine ⟨fun c => fun y => result m c (y 0) (y 1), ?_, ?_⟩
  · refine (θ_run Cert.Kernel13Ideal.defs _ _).mono (fun r h c => ?_) (Cert.Kernel13Ideal.Value.run_blocks (F := Ideal) m ρ)
    obtain ⟨h3, hargs⟩ := h c
    exact ⟨h3.trans (arr m c), hargs⟩
  · refine (θ_run Cert.Reference13Ideal.defs _ _).mono (fun r h c => ?_) (Cert.Reference13Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.MlaOutDw

end
-- ==== Proof.MlaDownDx.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import proofs.«01_k».proof.Proof.RmsNormBack

/-!
# Backward through the attention block's down projection and norm, and the gate below

The latents' gradient times the down projection, transposed, then back through the RMS norm; the tokens' gradient
is added to the one that passed beside the block, and the gain's gradient is summed over the tokens. The layer below
ended in a gated embedding: the same call leaves the gradients of its two factors.
-/

@[expose] public section

set_option maxRecDepth 16384

noncomputable section

namespace Cert.MlaDownDx

open Idealize.ShloMosaic Idealize.ShloMosaic.TcCoe Idealize.SL.Sem
open Idealize.ShloMosaic.Pipeline (Dat)

/-- The gradient of the normalised token `t`'s channel `k`. -/
def dot (da : (⟨2, ![4096, 704]⟩ : Shape).Idx → EReal) (w : (⟨2, ![1024, 704]⟩ : Shape).Idx → EReal) (t : Fin 4096)
    (k : Fin 1024) : EReal := ∑ j : Fin 704, da (ix2 t j) * w (ix2 k j)

/-- The gradient of token `t`'s channel `k`. -/
def gradH (h : (⟨2, ![4096, 1024]⟩ : Shape).Idx → EReal) (gain : (⟨1, ![1024]⟩ : Shape).Idx → EReal)
    (w : (⟨2, ![1024, 704]⟩ : Shape).Idx → EReal) (da : (⟨2, ![4096, 704]⟩ : Shape).Idx → EReal)
    (dh : (⟨2, ![4096, 1024]⟩ : Shape).Idx → EReal) (t : Fin 4096) (k : Fin 1024) : EReal :=
  dh (ix2 t k) + RmsNorm.back (fun j => h (ix2 t j)) (fun j => dot da w t j * gain (ix1 j)) k

/-- What token `t` adds to the gradient of the gain at channel `k`. -/
def termG (h : (⟨2, ![4096, 1024]⟩ : Shape).Idx → EReal) (w : (⟨2, ![1024, 704]⟩ : Shape).Idx → EReal)
    (da : (⟨2, ![4096, 704]⟩ : Shape).Idx → EReal) (t : Fin 4096) (k : Fin 1024) : EReal :=
  h (ix2 t k) * RmsNorm.inv (fun j => h (ix2 t j)) * dot da w t k

/-- The gradient of the gain at channel `k`. -/
def gradG (h : (⟨2, ![4096, 1024]⟩ : Shape).Idx → EReal) (w : (⟨2, ![1024, 704]⟩ : Shape).Idx → EReal)
    (da : (⟨2, ![4096, 704]⟩ : Shape).Idx → EReal) (k : Fin 1024) : EReal := ∑ t : Fin 4096, termG h w da t k

/-- The literal one. -/
abbrev one : EReal := Ideal.ofBits .f32 0x3F800000#32

/-- The sigmoid. -/
def sigmoid (x : EReal) : EReal := Ideal.div one (one + Ideal.exp (-x))

/-- The gradient of the gate's logit, from the gradient `d` of the gated embedding. -/
def gateGrad (d gt pp : EReal) : EReal := d * pp * sigmoid gt * (one - sigmoid gt)

theorem gateGrad_congr {a b p q u v : EReal} (h : a = b) (h' : p = q) (h'' : u = v) : gateGrad a p u = gateGrad b q v := by
  rw [h, h', h'']

/-- The tokens' gradient as an array. -/
def arrayH (h : (⟨2, ![4096, 1024]⟩ : Shape).Idx → EReal) (gain : (⟨1, ![1024]⟩ : Shape).Idx → EReal)
    (w : (⟨2, ![1024, 704]⟩ : Shape).Idx → EReal) (da : (⟨2, ![4096, 704]⟩ : Shape).Idx → EReal)
    (dh : (⟨2, ![4096, 1024]⟩ : Shape).Idx → EReal) : (⟨2, ![4096, 1024]⟩ : Shape).Idx → EReal :=
  fun y => gradH h gain w da dh (y 0) (y 1)

/-- The gradient of the projected embeddings as an array. -/
def arrayP (h : (⟨2, ![4096, 1024]⟩ : Shape).Idx → EReal) (gain : (⟨1, ![1024]⟩ : Shape).Idx → EReal)
    (w : (⟨2, ![1024, 704]⟩ : Shape).Idx → EReal) (da : (⟨2, ![4096, 704]⟩ : Shape).Idx → EReal)
    (dh gt : (⟨2, ![4096, 1024]⟩ : Shape).Idx → EReal) : (⟨2, ![4096, 1024]⟩ : Shape).Idx → EReal :=
  fun y => gradH h gain w da dh (y 0) (y 1) * sigmoid (gt (ix2 (y 0) (y 1)))

/-- The gradient of the gate's logits as an array. -/
def arrayT (h : (⟨2, ![4096, 1024]⟩ : Shape).Idx → EReal) (gain : (⟨1, ![1024]⟩ : Shape).Idx → EReal)
    (w : (⟨2, ![1024, 704]⟩ : Shape).Idx → EReal) (da : (⟨2, ![4096, 704]⟩ : Shape).Idx → EReal)
    (dh gt pp : (⟨2, ![4096, 1024]⟩ : Shape).Idx → EReal) : (⟨2, ![4096, 1024]⟩ : Shape).Idx → EReal :=
  fun y => gateGrad (gradH h gain w da dh (y 0) (y 1)) (gt (ix2 (y 0) (y 1))) (pp (ix2 (y 0) (y 1)))

/-- The gain's gradient as an array. -/
def arrayG (h : (⟨2, ![4096, 1024]⟩ : Shape).Idx → EReal) (w : (⟨2, ![1024, 704]⟩ : Shape).Idx → EReal)
    (da : (⟨2, ![4096, 704]⟩ : Shape).Idx → EReal) : (⟨2, ![1, 1024]⟩ : Shape).Idx → EReal :=
  fun y => gradG h w da (y 1)

section call

open Cert.Kernel14Ideal Cert.Kernel14Ideal.Gen

/-- `dot` on a block of tokens. -/
def blkDot (da : (⟨2, ![512, 704]⟩ : Shape).Idx → EReal) (w : (⟨2, ![1024, 704]⟩ : Shape).Idx → EReal) (r : Fin 512)
    (k : Fin 1024) : EReal := ∑ j : Fin 704, da (ix2 r j) * w (ix2 k j)

/-- `gradH` on a block of tokens. -/
def blkH (da : (⟨2, ![512, 704]⟩ : Shape).Idx → EReal) (w : (⟨2, ![1024, 704]⟩ : Shape).Idx → EReal)
    (h dh : (⟨2, ![512, 1024]⟩ : Shape).Idx → EReal) (gain : (⟨2, ![1, 1024]⟩ : Shape).Idx → EReal) (r : Fin 512)
    (k : Fin 1024) : EReal :=
  dh (ix2 r k) + RmsNorm.back (fun j => h (ix2 r j)) (fun j => blkDot da w r j * gain (ix2 0 j)) k

/-- What a block of tokens adds to the gradient of the gain. -/
def blkG (da : (⟨2, ![512, 704]⟩ : Shape).Idx → EReal) (w : (⟨2, ![1024, 704]⟩ : Shape).Idx → EReal)
    (h : (⟨2, ![512, 1024]⟩ : Shape).Idx → EReal) (k : Fin 1024) : EReal :=
  ∑ r : Fin 512, h (ix2 r k) * RmsNorm.inv (fun j => h (ix2 r j)) * blkDot da w r k

section block

variable (c : Dev nD) (i : grid0.Coords)
  (a3 : Memref sig .tc .vmem S512x704 .bf16) (h3 : a3.IsWhole)
  (a4 : Memref sig .tc .vmem S1024x704 .bf16) (h4 : a4.IsWhole)
  (a5 : Memref sig .tc .vmem S512x1024 .f32) (h5 : a5.IsWhole)
  (a6 : Memref sig .tc .vmem S512x1024 .f32) (h6 : a6.IsWhole)
  (a7 : Memref sig .tc .vmem S512x1024 .f32) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x1024 .bf16) (h11 : a11.IsWhole)
  (a12 : Memref sig .tc .vmem S512x1024 .bf16) (h12 : a12.IsWhole)
  (a13 : Memref sig .tc .vmem S1x1024 .f32) (h13 : a13.IsWhole)
  (da : Vec Ideal S512x704 .bf16) (w : Vec Ideal S1024x704 .bf16) (h dh gt pp : Vec Ideal S512x1024 .f32)
  (gain og : Vec Ideal S1x1024 .f32)

/-- At the first point, the tokens' gradient. -/
theorem dh_A (hc0 : cond0_0 i) (hc1 : ¬cond0_1 i) (y : S512x1024.Idx) :
    out0_A_7 c i a3 h3 a4 h4 a5 h5 a6 h6 a7 h7 a8 h8 a9 h9 a10 h10 a11 h11 a12 h12 a13 h13 hc0 hc1 da w h dh gt pp gain y
      = blkH da w h dh gain (y 0) (y 1) := by
  frame_out
  unfold_payloads
  idx_vars y
  pointwise
  simp only [Fin.sum_univ_one]
  rfl

/-- At the first point, the projected embeddings' gradient. -/
theorem dp_A (hc0 : cond0_0 i) (hc1 : ¬cond0_1 i) (y : S512x1024.Idx) :
    out0_A_8 c i a3 h3 a4 h4 a5 h5 a6 h6 a7 h7 a8 h8 a9 h9 a10 h10 a11 h11 a12 h12 a13 h13 hc0 hc1 da w h dh gt pp gain y
      = blkH da w h dh gain (y 0) (y 1) * sigmoid (gt (ix2 (y 0) (y 1))) := by
  frame_out
  unfold_payloads
  idx_vars y
  pointwise
  simp only [Fin.sum_univ_one, zero_sub, sigmoid, one, Ideal.ofBits_one_f32]
  rfl

/-- At the first point, the gate's gradient. -/
theorem dt_A (hc0 : cond0_0 i) (hc1 : ¬cond0_1 i) (y : S512x1024.Idx) :
    out0_A_9 c i a3 h3 a4 h4 a5 h5 a6 h6 a7 h7 a8 h8 a9 h9 a10 h10 a11 h11 a12 h12 a13 h13 hc0 hc1 da w h dh gt pp gain y
      = gateGrad (blkH da w h dh gain (y 0) (y 1)) (gt (ix2 (y 0) (y 1))) (pp (ix2 (y 0) (y 1))) := by
  frame_out
  unfold_payloads
  idx_vars y
  pointwise
  simp only [Fin.sum_univ_one, zero_sub, gateGrad, sigmoid, one, Ideal.ofBits_one_f32]
  rfl

/-- At the first point, the gain's gradient. -/
theorem dg_A (hc0 : cond0_0 i) (hc1 : ¬cond0_1 i) (y : S1x1024.Idx) :
    out0_A_10 c i a3 h3 a4 h4 a5 h5 a6 h6 a7 h7 a8 h8 a9 h9 a10 h10 a11 h11 a12 h12 a13 h13 hc0 hc1 da w h dh gt pp gain y
      = blkG da w h (y 1) := by
  frame_out
  unfold_payloads
  idx_vars y
  pointwise
  rfl

/-- At a later point, the tokens' gradient. -/
theorem dh_B (hc0 : ¬cond0_0 i) (hc1 : cond0_1 i) (y : S512x1024.Idx) :
    out0_B_7 c i a3 h3 a4 h4 a5 h5 a6 h6 a7 h7 a8 h8 a9 h9 a10 h10 a11 h11 a12 h12 a13 h13 hc0 hc1 da w h dh gt pp gain og y
      = blkH da w h dh gain (y 0) (y 1) := by
  frame_out
  unfold_payloads
  idx_vars y
  pointwise
  simp only [Fin.sum_univ_one]
  rfl

/-- At a later point, the projected embeddings' gradient. -/
theorem dp_B (hc0 : ¬cond0_0 i) (hc1 : cond0_1 i) (y : S512x1024.Idx) :
    out0_B_8 c i a3 h3 a4 h4 a5 h5 a6 h6 a7 h7 a8 h8 a9 h9 a10 h10 a11 h11 a12 h12 a13 h13 hc0 hc1 da w h dh gt pp gain og y
      = blkH da w h dh gain (y 0) (y 1) * sigmoid (gt (ix2 (y 0) (y 1))) := by
  frame_out
  unfold_payloads
  idx_vars y
  pointwise
  simp only [Fin.sum_univ_one, zero_sub, sigmoid, one, Ideal.ofBits_one_f32]
  rfl

/-- At a later point, the gate's gradient. -/
theorem dt_B (hc0 : ¬cond0_0 i) (hc1 : cond0_1 i) (y : S512x1024.Idx) :
    out0_B_9 c i a3 h3 a4 h4 a5 h5 a6 h6 a7 h7 a8 h8 a9 h9 a10 h10 a11 h11 a12 h12 a13 h13 hc0 hc1 da w h dh gt pp gain og y
      = gateGrad (blkH da w h dh gain (y 0) (y 1)) (gt (ix2 (y 0) (y 1))) (pp (ix2 (y 0) (y 1))) := by
  frame_out
  unfold_payloads
  idx_vars y
  pointwise
  simp only [Fin.sum_univ_one, zero_sub, gateGrad, sigmoid, one, Ideal.ofBits_one_f32]
  rfl

/-- At a later point, the gain's gradient. -/
theorem dg_B (hc0 : ¬cond0_0 i) (hc1 : cond0_1 i) (y : S1x1024.Idx) :
    out0_B_10 c i a3 h3 a4 h4 a5 h5 a6 h6 a7 h7 a8 h8 a9 h9 a10 h10 a11 h11 a12 h12 a13 h13 hc0 hc1 da w h dh gt pp gain og y
      = og y + blkG da w h (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧ win0_4.index t = ![t.val, 0] ∧
    win0_5.index t = ![t.val, 0] ∧ win0_6.index t = ![0, 0] ∧ win0_7.index t = ![t.val, 0] ∧
    win0_8.index t = ![t.val, 0] ∧ win0_9.index t = ![t.val, 0] ∧ win0_10.index t = ![0, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) (j : Fin 704) :
    iblk m c 0 t (ix2 r j) = m ((c : Thread nD τ).loc main_arg3) (ix2 (tokRow t r) j) := by
  have idx := indices
  blk_point [iblk, V, idx t] <;> rfl

theorem blk1 (c : Dev nD) (t : Fin cfg0.N) (k : Fin 1024) (j : Fin 704) :
    iblk m c 1 t (ix2 k j) = m ((c : Thread nD τ).loc main_arg2) (ix2 k j) := by
  have idx := indices
  blk_point [iblk, V, idx t] <;> rfl

theorem blk2 (c : Dev nD) (t : Fin cfg0.N) (r : Fin 512) (k : Fin 1024) :
    iblk m c 2 t (ix2 r k) = m ((c : Thread nD τ).loc main_arg0) (ix2 (tokRow t r) k) := by
  have idx := indices
  blk_point [iblk, V, idx t] <;> rfl

theorem blk3 (c : Dev nD) (t : Fin cfg0.N) (r : Fin 512) (k : Fin 1024) :
    iblk m c 3 t (ix2 r k) = m ((c : Thread nD τ).loc main_arg4) (ix2 (tokRow t r) k) := by
  have idx := indices
  blk_point [iblk, V, idx t] <;> rfl

theorem blk4 (c : Dev nD) (t : Fin cfg0.N) (r : Fin 512) (k : Fin 1024) :
    iblk m c 4 t (ix2 r k) = m ((c : Thread nD τ).loc main_arg5) (ix2 (tokRow t r) k) := by
  have idx := indices
  blk_point [iblk, V, idx t] <;> rfl

theorem blk5 (c : Dev nD) (t : Fin cfg0.N) (r : Fin 512) (k : Fin 1024) :
    iblk m c 5 t (ix2 r k) = m ((c : Thread nD τ).loc main_arg6) (ix2 (tokRow t r) k) := by
  have idx := indices
  blk_point [iblk, V, idx t] <;> rfl

theorem blk6 (c : Dev nD) (t : Fin cfg0.N) (k : Fin 1024) :
    iblk m c 6 t (ix2 0 k) = m ((c : Thread nD τ).loc main_arg1) (ix1 k) := by
  have idx := indices
  blk_point [iblk, V, idx t] <;> rfl

/-- The tokens' gradient that the call leaves. -/
abbrev resultH (c : Dev nD) (t : Fin 4096) (k : Fin 1024) : EReal :=
  gradH (m ((c : Thread nD τ).loc main_arg0)) (m ((c : Thread nD τ).loc main_arg1)) (m ((c : Thread nD τ).loc main_arg2))
    (m ((c : Thread nD τ).loc main_arg3)) (m ((c : Thread nD τ).loc main_arg4)) t k

/-- The projected embeddings' gradient that the call leaves. -/
abbrev resultP (c : Dev nD) (t : Fin 4096) (k : Fin 1024) : EReal :=
  resultH m c t k * sigmoid ((m ((c : Thread nD τ).loc main_arg5) : (⟨2, ![4096, 1024]⟩ : Shape).Idx → EReal) (ix2 t k))

/-- The gate's gradient that the call leaves. -/
abbrev resultT (c : Dev nD) (t : Fin 4096) (k : Fin 1024) : EReal :=
  gateGrad (resultH m c t k) ((m ((c : Thread nD τ).loc main_arg5) : (⟨2, ![4096, 1024]⟩ : Shape).Idx → EReal) (ix2 t k))
    ((m ((c : Thread nD τ).loc main_arg6) : (⟨2, ![4096, 1024]⟩ : Shape).Idx → EReal) (ix2 t k))

/-- What token `t` adds to the gain's gradient. -/
abbrev termOf (c : Dev nD) (t : Fin 4096) (k : Fin 1024) : EReal :=
  termG (m ((c : Thread nD τ).loc main_arg0)) (m ((c : Thread nD τ).loc main_arg2)) (m ((c : Thread nD τ).loc main_arg3)) t k

/-- The gain's gradient that the call leaves. -/
abbrev resultG (c : Dev nD) (k : Fin 1024) : EReal :=
  gradG (m ((c : Thread nD τ).loc main_arg0)) (m ((c : Thread nD τ).loc main_arg2)) (m ((c : Thread nD τ).loc main_arg3)) k

theorem dot_eq (c : Dev nD) (t : Fin cfg0.N) (r : Fin 512) (k : Fin 1024) :
    blkDot (iblk m c 0 t) (iblk m c 1 t) r k
      = dot (m ((c : Thread nD τ).loc main_arg3)) (m ((c : Thread nD τ).loc main_arg2)) (tokRow t r) k := by
  refine Finset.sum_congr rfl fun j _ => ?_
  rw [blk0, blk1]

theorem blkH_eq (c : Dev nD) (t : Fin cfg0.N) (r : Fin 512) (k : Fin 1024) :
    blkH (iblk m c 0 t) (iblk m c 1 t) (iblk m c 2 t) (iblk m c 3 t) (iblk m c 6 t) r k = resultH m c (tokRow t r) k := by
  unfold blkH
  refine congrArg₂ (fun p q : EReal => p + q) (blk3 m c t r k) (congrFun (congrArg₂ RmsNorm.back (funext fun j => blk2 m c t r j) (funext fun j => ?_)) k)
  rw [blk6, dot_eq]

/-- What point `t` adds to the gain's gradient. -/
def partG (c : Dev nD) (t : Fin cfg0.N) (k : Fin 1024) : EReal := ∑ r : Fin 512, termOf m c (tokRow t r) k

theorem blkG_eq (c : Dev nD) (t : Fin cfg0.N) (k : Fin 1024) :
    blkG (iblk m c 0 t) (iblk m c 1 t) (iblk m c 2 t) k = partG m c t k := by
  refine Finset.sum_congr rfl fun r _ => ?_
  rw [dot_eq]
  refine congrArg (· * _) (congrArg₂ (· * ·) (blk2 m c t r k) (congrArg RmsNorm.inv (funext fun j => blk2 m c t r j)))

theorem outs7 (c : Dev nD) (t : Fin cfg0.N) (y : S512x1024.Idx) :
    (outsAt0 m c t.val t.isLt).1 y = resultH m c (tokRow t (y 0)) (y 1) := by
  refine Eq.trans ?_ (blkH_eq m c t (y 0) (y 1))
  have := lt8 t
  by_cases h0 : t.val % 8 = 0
  · rw [outsAt0_A m c t h0 (by omega)]
    dsimp only
    rw [dh_A]
  · rw [outsAt0_B m c t h0 (by omega)]
    dsimp only
    rw [dh_B]

theorem outs8 (c : Dev nD) (t : Fin cfg0.N) (y : S512x1024.Idx) :
    (outsAt0 m c t.val t.isLt).2.1 y = resultP m c (tokRow t (y 0)) (y 1) := by
  refine Eq.trans ?_ (congrArg₂ (fun p q : EReal => p * sigmoid q) (blkH_eq m c t (y 0) (y 1)) (blk4 m c t (y 0) (y 1)))
  have := lt8 t
  by_cases h0 : t.val % 8 = 0
  · rw [outsAt0_A m c t h0 (by omega)]
    dsimp only
    rw [dp_A]
  · rw [outsAt0_B m c t h0 (by omega)]
    dsimp only
    rw [dp_B]

theorem outs9 (c : Dev nD) (t : Fin cfg0.N) (y : S512x1024.Idx) :
    (outsAt0 m c t.val t.isLt).2.2.1 y = resultT m c (tokRow t (y 0)) (y 1) := by
  refine Eq.trans ?_ (gateGrad_congr (blkH_eq m c t (y 0) (y 1)) (blk4 m c t (y 0) (y 1)) (blk5 m c t (y 0) (y 1)))
  have := lt8 t
  by_cases h0 : t.val % 8 = 0
  · rw [outsAt0_A m c t h0 (by omega)]
    dsimp only
    rw [dt_A]
  · rw [outsAt0_B m c t h0 (by omega)]
    dsimp only
    rw [dt_B]

theorem outs10_first (c : Dev nD) (t : Fin cfg0.N) (h0 : t.val % 8 = 0) (y : S1x1024.Idx) :
    (outsAt0 m c t.val t.isLt).2.2.2 y = 0 + partG m c t (y 1) := by
  have := lt8 t
  rw [outsAt0_A m c t h0 (by omega), zero_add]
  dsimp only
  rw [dg_A]
  exact blkG_eq ..

theorem outs10_later (c : Dev nD) (t : Fin cfg0.N) (h0 : ¬t.val % 8 = 0) (y : S1x1024.Idx) :
    (outsAt0 m c t.val t.isLt).2.2.2 y
      = (outsAt0 m c (t.val - 1) (Nat.lt_of_le_of_lt (Nat.sub_le _ _) t.isLt)).2.2.2 y + partG m c t (y 1) := by
  have := lt8 t
  rw [outsAt0_B m c t h0 (by omega)]
  dsimp only
  rw [dg_B]
  exact congrArg _ (blkG_eq ..)

theorem outs10 (c : Dev nD) (t : Fin cfg0.N) (ht : t.val % 8 = 8 - 1) (y : S1x1024.Idx) :
    (outsAt0 m c t.val t.isLt).2.2.2 y = resultG m c (y 1) := by
  have e := Pipeline.eq_sum_fin_of_reset_step_apply_of_flush (fun n h => (outsAt0 m c n h).2.2.2) 8 (fun _ => (0 : EReal))
    (fun t y => partG m c t (y 1)) (outs10_first m c) (outs10_later m c) t ht y
  refine e.trans ?_
  rw [zero_add]
  have s := Fin.sum_univ_univ_mul_add 8 512 fun l => if h : l < 4096 then termOf m c ⟨l, h⟩ (y 1) else 0
  refine (Finset.sum_congr rfl fun l _ => Finset.sum_congr rfl fun r _ => ?_).trans
    (s.trans (Finset.sum_congr rfl fun l _ => dif_pos l.isLt))
  have := l.isLt
  have := r.isLt
  have := lt8 t
  rw [dif_pos (by omega)]
  exact congrArg (termOf m c · (y 1)) (Fin.ext (by show (8 * (t.val / 8) + l.val) * 512 + r.val = l.val * 512 + r.val; omega))

theorem arr7 (c : Dev nD) : (dats m 0 c).arrAt 7 cfg0.N = fun y => resultH m c (y 0) (y 1) := by
  have idx := indices
  refine (dats m 0 c).arrAt_eq_of_covers 7 _ (by decide +kernel) fun t hf y => ?_
  blk_simp
  rw [after0_7]
  refine (outs7 m c t y).trans (congrArg₂ (resultH m c) (Fin.ext ?_) (Fin.ext ?_)) <;> blk_simp [idx t] <;> rfl

theorem arr8 (c : Dev nD) : (dats m 0 c).arrAt 8 cfg0.N = fun y => resultP m c (y 0) (y 1) := by
  have idx := indices
  refine (dats m 0 c).arrAt_eq_of_covers 8 _ (by decide +kernel) fun t hf y => ?_
  blk_simp
  rw [after0_8]
  refine (outs8 m c t y).trans (congrArg₂ (resultP m c) (Fin.ext ?_) (Fin.ext ?_)) <;> blk_simp [idx t] <;> rfl

theorem arr9 (c : Dev nD) : (dats m 0 c).arrAt 9 cfg0.N = fun y => resultT m c (y 0) (y 1) := by
  have idx := indices
  refine (dats m 0 c).arrAt_eq_of_covers 9 _ (by decide +kernel) fun t hf y => ?_
  blk_simp
  rw [after0_9]
  refine (outs9 m c t y).trans (congrArg₂ (resultT m c) (Fin.ext ?_) (Fin.ext ?_)) <;> blk_simp [idx t] <;> rfl

theorem arr10 (c : Dev nD) : (dats m 0 c).arrAt 10 cfg0.N = fun y => resultG m c (y 1) := by
  have idx := indices
  refine (dats m 0 c).arrAt_eq_of_covers 10 _ (by decide +kernel) fun t hf y => ?_
  blk_simp
  rw [after0_10]
  idx_bounds y
  refine (outs10 m c t ((flush0_10 t).mp hf) y).trans (congrArg (resultG m c) (Fin.ext ?_)) <;> blk_simp [idx t]

/-- The tokens' gradient the call leaves, as an array. -/
abbrev wholeH (c : Dev nD) : (⟨2, ![4096, 1024]⟩ : Shape).Idx → EReal :=
  arrayH (m ((c : Thread nD τ).loc main_arg0)) (m ((c : Thread nD τ).loc main_arg1))
    (m ((c : Thread nD τ).loc main_arg2)) (m ((c : Thread nD τ).loc main_arg3)) (m ((c : Thread nD τ).loc main_arg4))

/-- The projected embeddings' gradient the call leaves, as an array. -/
abbrev wholeP (c : Dev nD) : (⟨2, ![4096, 1024]⟩ : Shape).Idx → EReal :=
  arrayP (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The gate's gradient the call leaves, as an array. -/
abbrev wholeT (c : Dev nD) : (⟨2, ![4096, 1024]⟩ : Shape).Idx → EReal :=
  arrayT (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The gain's gradient the call leaves, as an array. -/
abbrev wholeG (c : Dev nD) : (⟨2, ![1, 1024]⟩ : Shape).Idx → EReal :=
  arrayG (m ((c : Thread nD τ).loc main_arg0)) (m ((c : Thread nD τ).loc main_arg2)) (m ((c : Thread nD τ).loc main_arg3))

end call

section plain

open Cert.Reference14Ideal Cert.Reference14Ideal.Read Cert.Reference14Ideal.Value

variable (m : (ℓ : Loc nD τ sig) → Buf (Elt Ideal) ℓ) (c : Dev nD)

theorem reference_h (y : S4096x1024.Idx) : res_main_v40 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v40
  idx_vars y
  pointwise
  simp only [Fin.sum_univ_one]
  rw [add_assoc, add_assoc, ← add_assoc (_ * _)]
  rfl

theorem reference_p (y : S4096x1024.Idx) : res_main_v55 (F := Ideal) m c y
    = arrayP (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) y := by
  have h := reference_h m c y
  unfold res_main_v40 at h
  unfold res_main_v55
  idx_vars y
  pointwise at h ⊢
  rw [h]
  simp only [arrayP, sigmoid, one, Ideal.ofBits_one_f32]
  exact mul_comm (G := EReal) _ _

theorem reference_t (y : S4096x1024.Idx) : res_main_v56 (F := Ideal) m c y
    = arrayT (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) y := by
  have h := reference_h m c y
  unfold res_main_v40 at h
  unfold res_main_v56
  idx_vars y
  pointwise at h ⊢
  rw [h]
  simp only [arrayT, gateGrad, sigmoid, one, Ideal.ofBits_one_f32]
  exact (mul_assoc (G := EReal) _ _ _).symm

theorem reference_g (x0 : (⟨S4096x1024, .f32⟩ : BufTy).Contents (Elt Ideal))
    (x2 : (⟨S1024x704, .bf16⟩ : BufTy).Contents (Elt Ideal)) (x3 : (⟨S4096x704, .bf16⟩ : BufTy).Contents (Elt Ideal))
    (y : S1x1024.Idx) : val_main_v41 (F := Ideal) x0 x2 x3 y = gradG x0 x2 x3 (y 1) := by
  rw [← val_main_v41_eq]
  idx_vars y
  pointwise
  simp only [Fin.sum_univ_one]
  rfl

end plain

/-- The reference's frame. -/
theorem frame_reference : Cert.quiescent_Reference14Ideal := by
  intro m ρ _
  exact (θ_run Cert.Reference14Ideal.defs _ _).mono
    (fun r h => ⟨fun c => (h c).2.2.2.2, sem_eq_zero_of_no_sems (by decide) r.2⟩)
    (Cert.Reference14Ideal.Value.run (F := Ideal) m ρ)

/-- The call's results are the reference's. -/
theorem algebraic : Cert.algebraic_Kernel14Ideal_Reference14Ideal := by
  intro m ρ m' ρ' _ hag
  refine ⟨wholeH m, wholeP m, wholeT m, wholeG m, ?_, ?_⟩
  · refine (θ_run Cert.Kernel14Ideal.defs _ _).mono (fun r h c => ?_) (Cert.Kernel14Ideal.Value.run_blocks (F := Ideal) m ρ)
    obtain ⟨h7, h8, h9, h10, hargs⟩ := h c
    exact ⟨h7.trans (arr7 m c), h8.trans (arr8 m c), h9.trans (arr9 m c), h10.trans (arr10 m c), hargs⟩
  · refine (θ_run Cert.Reference14Ideal.defs _ _).mono (fun r h c => ?_) (Cert.Reference14Ideal.Value.run (F := Ideal) m' ρ')
    obtain ⟨h7, h8, h9, h10, hargs⟩ := h c
    obtain ⟨e0, e1, e2, e3, e4, e5, e6⟩ := hag c
    refine ⟨h7.trans ?_, h8.trans ?_, h9.trans ?_, h10.trans ?_, hargs⟩
    · show _ = arrayH _ _ _ _ _
      rw [← e0, ← e1, ← e2, ← e3, ← e4]
      exact funext (reference_h m' c)
    · show _ = arrayP _ _ _ _ _ _
      rw [← e0, ← e1, ← e2, ← e3, ← e4, ← e5]
      exact funext (reference_p m' c)
    · show _ = arrayT _ _ _ _ _ _ _
      rw [← e0, ← e1, ← e2, ← e3, ← e4, ← e5, ← e6]
      exact funext (reference_t m' c)
    · show _ = arrayG _ _ _
      rw [← e0, ← e2, ← e3]
      exact funext (reference_g _ _ _)

end Cert.MlaDownDx

end
-- ==== Proof.MlaDownDw.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit

/-!
# The gradient of the attention block's down projection

The normalised tokens, transposed, times the latents' gradient.
-/

@[expose] public section

set_option maxRecDepth 16384

noncomputable section

namespace Cert.MlaDownDw

open Idealize.ShloMosaic Idealize.ShloMosaic.TcCoe Idealize.SL.Sem
open Idealize.ShloMosaic.Pipeline (Dat)

/-- The gradient at row `i` and column `j`. -/
def grad (x : (⟨2, ![4096, 1024]⟩ : Shape).Idx → EReal) (w : (⟨2, ![4096, 704]⟩ : Shape).Idx → EReal) (i : Fin 1024) (j : Fin 704) : EReal :=
  ∑ k : Fin 4096, x (ix2 k i) * w (ix2 k j)

section call

open Cert.Kernel15Ideal Cert.Kernel15Ideal.Gen

/-- The gradient on a block of rows by columns. -/
def blkGrad (x : (⟨2, ![4096, 1024]⟩ : Shape).Idx → EReal) (w : (⟨2, ![4096, 704]⟩ : Shape).Idx → EReal) (i : Fin 1024) (j : Fin 704) : EReal :=
  ∑ k : Fin 4096, x (ix2 k i) * w (ix2 k j)

theorem block (x : Vec Ideal S4096x1024 .bf16) (w : Vec Ideal S4096x704 .bf16) (y : S1024x704.Idx) :
    out0_2 x w y = blkGrad x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![0, 0] ∧
    win0_2.index t = ![0, 0] := by decide +kernel

theorem blk0 (c : Dev nD) (t : Fin cfg0.N) (i : Fin 1024) (k : Fin 4096) :
    iblk m c 0 t (ix2 k i) = m ((c : Thread nD τ).loc main_arg0) (ix2 k i) := by
  have idx := indices
  blk_point [iblk, V, idx t] <;> rfl

theorem blk1 (c : Dev nD) (t : Fin cfg0.N) (j : Fin 704) (k : Fin 4096) :
    iblk m c 1 t (ix2 k j) = m ((c : Thread nD τ).loc main_arg1) (ix2 k j) := by
  have idx := indices
  blk_point [iblk, V, idx t] <;> rfl

/-- The gradient that the call leaves. -/
abbrev result (c : Dev nD) (i : Fin 1024) (j : Fin 704) : EReal :=
  grad (m ((c : Thread nD τ).loc main_arg0)) (m ((c : Thread nD τ).loc main_arg1)) i j

theorem block_eq (c : Dev nD) (t : Fin cfg0.N) (i : Fin 1024) (j : Fin 704) :
    blkGrad (iblk m c 0 t) (iblk m c 1 t) i j = result m c i j := by
  refine Finset.sum_congr rfl fun k _ => ?_
  rw [blk0, blk1]

theorem outs (c : Dev nD) (t : Fin cfg0.N) (y : S1024x704.Idx) :
    out0_2 (iblk m c 0 t) (iblk m c 1 t) y = result m c (y 0) (y 1) :=
  (block _ _ y).trans (block_eq m c t (y 0) (y 1))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

end call

section plain

open Cert.Reference15Ideal Cert.Reference15Ideal.Read

variable (x0 : (⟨S4096x1024, .bf16⟩ : BufTy).Contents (Elt Ideal)) (x1 : (⟨S4096x704, .bf16⟩ : BufTy).Contents (Elt Ideal))

theorem reference (y : S1024x704.Idx) : val_main_v6 (F := Ideal) x0 x1 y = grad x0 x1 (y 0) (y 1) := by
  rw [← val_main_v6_eq]
  idx_vars y
  pointwise
  exact Finset.sum_congr rfl fun t _ => mul_comm _ _

end plain

/-- The reference's frame. -/
theorem frame_reference : Cert.quiescent_Reference15Ideal := by
  intro m ρ _
  exact (θ_run Cert.Reference15Ideal.defs _ _).mono
    (fun r h => ⟨fun c => (h c).2, sem_eq_zero_of_no_sems (by decide) r.2⟩)
    (Cert.Reference15Ideal.Value.run (F := Ideal) m ρ)

/-- The call's result is the reference's. -/
theorem algebraic : Cert.algebraic_Kernel15Ideal_Reference15Ideal := by
  intro m ρ m' ρ' _ hag
  refine ⟨fun c => fun y => result m c (y 0) (y 1), ?_, ?_⟩
  · refine (θ_run Cert.Kernel15Ideal.defs _ _).mono (fun r h c => ?_) (Cert.Kernel15Ideal.Value.run_blocks (F := Ideal) m ρ)
    obtain ⟨h3, hargs⟩ := h c
    exact ⟨h3.trans (arr m c), hargs⟩
  · refine (θ_run Cert.Reference15Ideal.defs _ _).mono (fun r h c => ?_) (Cert.Reference15Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.MlaDownDw

end
-- ==== Proof.MlaUqDw.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit

/-!
# The gradient of the query up projection

Head by head: the normalised query latents, transposed, times the gradient of the head's queries.
-/

@[expose] public section

set_option maxRecDepth 16384

noncomputable section

namespace Cert.MlaUqDw

open Idealize.ShloMosaic Idealize.ShloMosaic.TcCoe Idealize.SL.Sem
open Idealize.ShloMosaic.Pipeline (Dat)

/-- The gradient of head `g`'s weight at latent channel `i` and head channel `j`. -/
def grad (x : (⟨2, ![4096, 384]⟩ : Shape).Idx → EReal) (d : (⟨3, ![8, 4096, 192]⟩ : Shape).Idx → EReal)
    (g : Fin 8) (i : Fin 384) (j : Fin 192) : EReal :=
  ∑ t : Fin 4096, x (ix2 t i) * d (ix3 g t j)

section call

open Cert.Kernel16Ideal Cert.Kernel16Ideal.Gen

/-- The gradient of one head's weight. -/
def blkGrad (x : (⟨2, ![4096, 384]⟩ : Shape).Idx → EReal) (d : (⟨3, ![1, 4096, 192]⟩ : Shape).Idx → EReal)
    (i : Fin 384) (j : Fin 192) : EReal :=
  ∑ t : Fin 4096, x (ix2 t i) * d (ix3 0 t j)

theorem block (x : Vec Ideal S4096x384 .bf16) (d : Vec Ideal S1x4096x192 .bf16) (y : S1x384x192.Idx) :
    out0_2 x d y = blkGrad x d (y 1) (y 2) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![t.val, 0, 0] ∧
    win0_2.index t = ![t.val, 0, 0] := by decide +kernel

theorem lt8 (t : Fin cfg0.N) : t.val < 8 := by have h := t.isLt; have e : cfg0.N = 8 := N_0; omega

/-- The head that point `t` works on. -/
def head (t : Fin cfg0.N) : Fin 8 := ⟨t.val, lt8 t⟩

theorem blk0 (c : Dev nD) (t : Fin cfg0.N) (k : Fin 4096) (i : Fin 384) :
    iblk m c 0 t (ix2 k i) = m ((c : Thread nD τ).loc main_arg0) (ix2 k i) := by
  have idx := indices
  blk_point [iblk, V, idx t] <;> rfl

theorem blk1 (c : Dev nD) (t : Fin cfg0.N) (k : Fin 4096) (j : Fin 192) :
    iblk m c 1 t (ix3 0 k j) = m ((c : Thread nD τ).loc main_arg1) (ix3 (head t) k j) := by
  have idx := indices
  blk_point [iblk, V, idx t] <;> rfl

/-- The gradient that the call leaves. -/
abbrev result (c : Dev nD) (g : Fin 8) (i : Fin 384) (j : Fin 192) : EReal :=
  grad (m ((c : Thread nD τ).loc main_arg0)) (m ((c : Thread nD τ).loc main_arg1)) g i j

theorem block_eq (c : Dev nD) (t : Fin cfg0.N) (i : Fin 384) (j : Fin 192) :
    blkGrad (iblk m c 0 t) (iblk m c 1 t) i j = result m c (head t) i j := by
  refine Finset.sum_congr rfl fun k _ => ?_
  rw [blk0, blk1]

theorem outs (c : Dev nD) (t : Fin cfg0.N) (y : S1x384x192.Idx) :
    out0_2 (iblk m c 0 t) (iblk m c 1 t) y = result m c (head t) (y 1) (y 2) :=
  (block _ _ y).trans (block_eq m c t (y 1) (y 2))

theorem arr (c : Dev nD) : (dats m 0 c).arrAt 2 cfg0.N = fun y => result m c (y 0) (y 1) (y 2) := by
  have idx := indices
  refine (dats m 0 c).arrAt_eq_of_covers 2 _ (by decide +kernel) fun t hf y => ?_
  blk_simp
  rw [after0_2]
  idx_bounds y
  refine (outs m c t y).trans (congr (congrArg₂ (result m c) (Fin.ext ?_) (Fin.ext ?_)) (Fin.ext ?_)) <;>
    blk_simp [idx t]
  all_goals first | rfl | (show t.val = _; omega) | omega

end call

section plain

open Cert.Reference16Ideal Cert.Reference16Ideal.Read

variable (x0 : (⟨S4096x384, .bf16⟩ : BufTy).Contents (Elt Ideal)) (x1 : (⟨S8x4096x192, .bf16⟩ : BufTy).Contents (Elt Ideal))

theorem reference (y : S8x384x192.Idx) : val_main_v12 (F := Ideal) x0 x1 y = grad x0 x1 (y 0) (y 1) (y 2) := by
  rw [← val_main_v12_eq]
  idx_vars y
  pointwise
  exact Finset.sum_congr rfl fun t _ => mul_comm _ _

end plain

/-- The reference's frame. -/
theorem frame_reference : Cert.quiescent_Reference16Ideal := by
  intro m ρ _
  exact (θ_run Cert.Reference16Ideal.defs _ _).mono
    (fun r h => ⟨fun c => (h c).2, sem_eq_zero_of_no_sems (by decide) r.2⟩)
    (Cert.Reference16Ideal.Value.run (F := Ideal) m ρ)

/-- The call's result is the reference's. -/
theorem algebraic : Cert.algebraic_Kernel16Ideal_Reference16Ideal := by
  intro m ρ m' ρ' _ hag
  refine ⟨fun c => fun y => result m c (y 0) (y 1) (y 2), ?_, ?_⟩
  · refine (θ_run Cert.Kernel16Ideal.defs _ _).mono (fun r h c => ?_) (Cert.Kernel16Ideal.Value.run_blocks (F := Ideal) m ρ)
    obtain ⟨h3, hargs⟩ := h c
    exact ⟨h3.trans (arr m c), hargs⟩
  · refine (θ_run Cert.Reference16Ideal.defs _ _).mono (fun r h c => ?_) (Cert.Reference16Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.MlaUqDw

end
-- ==== Proof.MlaUkvDw.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit

/-!
# The gradient of the key and value up projection

Head by head: the normalised key and value latents, transposed, times the gradient of the head's keys and values.
-/

@[expose] public section

set_option maxRecDepth 16384

noncomputable section

namespace Cert.MlaUkvDw

open Idealize.ShloMosaic Idealize.ShloMosaic.TcCoe Idealize.SL.Sem
open Idealize.ShloMosaic.Pipeline (Dat)

/-- The gradient of head `g`'s weight at latent channel `i` and head channel `j`. -/
def grad (x : (⟨2, ![4096, 256]⟩ : Shape).Idx → EReal) (d : (⟨3, ![8, 4096, 256]⟩ : Shape).Idx → EReal)
    (g : Fin 8) (i : Fin 256) (j : Fin 256) : EReal :=
  ∑ t : Fin 4096, x (ix2 t i) * d (ix3 g t j)

section call

open Cert.Kernel17Ideal Cert.Kernel17Ideal.Gen

/-- The gradient of one head's weight. -/
def blkGrad (x : (⟨2, ![4096, 256]⟩ : Shape).Idx → EReal) (d : (⟨3, ![1, 4096, 256]⟩ : Shape).Idx → EReal)
    (i : Fin 256) (j : Fin 256) : EReal :=
  ∑ t : Fin 4096, x (ix2 t i) * d (ix3 0 t j)

theorem block (x : Vec Ideal S4096x256 .bf16) (d : Vec Ideal S1x4096x256 .bf16) (y : S1x256x256.Idx) :
    out0_2 x d y = blkGrad x d (y 1) (y 2) := by
  frame_out
  unfold_payloads
  idx_vars y
  pointwise
  rfl

variable (m : (ℓ : Loc nD τ sig) → Buf (Elt Ideal) ℓ)

/-- The block indices of the windows. -/
theorem indices : ∀ t : Fin grid0.N, win0_0.index t = ![0, 0] ∧ win0_1.index t = ![t.val, 0, 0] ∧
    win0_2.index t = ![t.val, 0, 0] := by decide +kernel

theorem lt8 (t : Fin cfg0.N) : t.val < 8 := by have h := t.isLt; have e : cfg0.N = 8 := N_0; omega

/-- The head that point `t` works on. -/
def head (t : Fin cfg0.N) : Fin 8 := ⟨t.val, lt8 t⟩

theorem blk0 (c : Dev nD) (t : Fin cfg0.N) (k : Fin 4096) (i : Fin 256) :
    iblk m c 0 t (ix2 k i) = m ((c : Thread nD τ).loc main_arg0) (ix2 k i) := by
  have idx := indices
  blk_point [iblk, V, idx t] <;> rfl

theorem blk1 (c : Dev nD) (t : Fin cfg0.N) (k : Fin 4096) (j : Fin 256) :
    iblk m c 1 t (ix3 0 k j) = m ((c : Thread nD τ).loc main_arg1) (ix3 (head t) k j) := by
  have idx := indices
  blk_point [iblk, V, idx t] <;> rfl

/-- The gradient that the call leaves. -/
abbrev result (c : Dev nD) (g : Fin 8) (i : Fin 256) (j : Fin 256) : EReal :=
  grad (m ((c : Thread nD τ).loc main_arg0)) (m ((c : Thread nD τ).loc main_arg1)) g i j

theorem block_eq (c : Dev nD) (t : Fin cfg0.N) (i : Fin 256) (j : Fin 256) :
    blkGrad (iblk m c 0 t) (iblk m c 1 t) i j = result m c (head t) i j := by
  refine Finset.sum_congr rfl fun k _ => ?_
  rw [blk0, blk1]

theorem outs (c : Dev nD) (t : Fin cfg0.N) (y : S1x256x256.Idx) :
    out0_2 (iblk m c 0 t) (iblk m c 1 t) y = result m c (head t) (y 1) (y 2) :=
  (block _ _ y).trans (block_eq m c t (y 1) (y 2))

theorem arr (c : Dev nD) : (dats m 0 c).arrAt 2 cfg0.N = fun y => result m c (y 0) (y 1) (y 2) := by
  have idx := indices
  refine (dats m 0 c).arrAt_eq_of_covers 2 _ (by decide +kernel) fun t hf y => ?_
  blk_simp
  rw [after0_2]
  idx_bounds y
  refine (outs m c t y).trans (congr (congrArg₂ (result m c) (Fin.ext ?_) (Fin.ext ?_)) (Fin.ext ?_)) <;>
    blk_simp [idx t]
  all_goals first | rfl | (show t.val = _; omega) | omega

end call

section plain

open Cert.Reference17Ideal Cert.Reference17Ideal.Read

variable (x0 : (⟨S4096x256, .bf16⟩ : BufTy).Contents (Elt Ideal)) (x1 : (⟨S8x4096x256, .bf16⟩ : BufTy).Contents (Elt Ideal))

theorem reference (y : S8x256x256.Idx) : val_main_v12 (F := Ideal) x0 x1 y = grad x0 x1 (y 0) (y 1) (y 2) := by
  rw [← val_main_v12_eq]
  idx_vars y
  pointwise
  exact Finset.sum_congr rfl fun t _ => mul_comm _ _

end plain

/-- The reference's frame. -/
theorem frame_reference : Cert.quiescent_Reference17Ideal := by
  intro m ρ _
  exact (θ_run Cert.Reference17Ideal.defs _ _).mono
    (fun r h => ⟨fun c => (h c).2, sem_eq_zero_of_no_sems (by decide) r.2⟩)
    (Cert.Reference17Ideal.Value.run (F := Ideal) m ρ)

/-- The call's result is the reference's. -/
theorem algebraic : Cert.algebraic_Kernel17Ideal_Reference17Ideal := by
  intro m ρ m' ρ' _ hag
  refine ⟨fun c => fun y => result m c (y 0) (y 1) (y 2), ?_, ?_⟩
  · refine (θ_run Cert.Kernel17Ideal.defs _ _).mono (fun r h c => ?_) (Cert.Kernel17Ideal.Value.run_blocks (F := Ideal) m ρ)
    obtain ⟨h3, hargs⟩ := h c
    exact ⟨h3.trans (arr m c), hargs⟩
  · refine (θ_run Cert.Reference17Ideal.defs _ _).mono (fun r h c => ?_) (Cert.Reference17Ideal.Value.run (F := Ideal) m' ρ')
    obtain ⟨h3, hargs⟩ := h c
    obtain ⟨e0, e1⟩ := hag c
    refine ⟨h3.trans ?_, hargs⟩
    unfold result
    rw [e0, e1]
    exact funext (reference _ _)

end Cert.MlaUkvDw

end
-- ==== Proof.MlaLatentsBack.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit

/-!
# Backward through the norms of the query and key-value latents

A token's 704 latent channels are 384 for the queries, 256 for the keys and values, and 64 that rotate. The first two
groups are RMS-normalised, each with its gain; this is the gradient of the channels and of the two gains.
-/

@[expose] public section

set_option maxRecDepth 16384

noncomputable section

namespace Cert.MlaLatentsBack

open Idealize.ShloMosaic Idealize.ShloMosaic.TcCoe Idealize.SL.Sem
open Idealize.ShloMosaic.Pipeline (Dat)

/-- What is added to the mean square. -/
abbrev eps : EReal := Ideal.ofBits .f32 0x358637BD#32
/-- The exponent of the inverse root. -/
abbrev expo : EReal := Ideal.ofBits .f32 0xBF000000#32
/-- The number of query channels. -/
abbrev wq : EReal := Ideal.ofBits .f32 0x43C00000#32
/-- The number of key-value channels. -/
abbrev wkv : EReal := Ideal.ofBits .f32 0x43800000#32

/-- The mean square of `n` channels, with `eps` added. -/
def meanSq {n : Nat} (w : EReal) (x : Fin n → EReal) : EReal := Ideal.div (∑ k, x k * x k) w + eps

/-- The inverse root of the mean square. -/
def inv {n : Nat} (w : EReal) (x : Fin n → EReal) : EReal := Ideal.rsqrt (meanSq w x)

/-- The gradient of each square in the mean. -/
def slope {n : Nat} (w : EReal) (x d : Fin n → EReal) : EReal :=
  Ideal.div ((∑ k, x k * d k) * (expo * Ideal.div (inv w x) (meanSq w x))) w

/-- The gradient of the channels, from the gradient `d` of the divided channels. -/
def back {n : Nat} (w : EReal) (x d : Fin n → EReal) (j : Fin n) : EReal :=
  d j * inv w x + x j * slope w x d + slope w x d * x j

/-- The query channels of a token. -/
def qs (l : Fin 704 → EReal) (j : Fin 384) : EReal := l ⟨j.val, by have := j.isLt; omega⟩
/-- The key-value channels of a token. -/
def kvs (l : Fin 704 → EReal) (j : Fin 256) : EReal := l ⟨384 + j.val, by have := j.isLt; omega⟩

/-- The gradient of a token's channel `k`. -/
def row (l : Fin 704 → EReal) (gq dq : Fin 384 → EReal) (gkv dkv : Fin 256 → EReal) (dkr : Fin 64 → EReal) (k : Fin 704) :
    EReal :=
  if h : k.val < 384 then back wq (qs l) (fun j => dq j * gq j) ⟨k.val, h⟩
  else if h' : k.val - 384 < 256 then back wkv (kvs l) (fun j => dkv j * gkv j) ⟨k.val - 384, h'⟩
  else dkr ⟨k.val - 384 - 256, by have := k.isLt; omega⟩

theorem row_congr {l l' : Fin 704 → EReal} {gq gq' dq dq' : Fin 384 → EReal} {gkv gkv' dkv dkv' : Fin 256 → EReal}
    {dkr dkr' : Fin 64 → EReal} {k : Fin 704} (h0 : l = l') (h1 : gq = gq') (h2 : dq = dq') (h3 : gkv = gkv') (h4 : dkv = dkv')
    (h5 : dkr = dkr') : row l gq dq gkv dkv dkr k = row l' gq' dq' gkv' dkv' dkr' k := by
  rw [h0, h1, h2, h3, h4, h5]

/-- What a token adds to the gradient of the query gain. -/
def termQ (l : Fin 704 → EReal) (dq : Fin 384 → EReal) (k : Fin 384) : EReal := qs l k * inv wq (qs l) * dq k
/-- What a token adds to the gradient of the key-value gain. -/
def termKv (l : Fin 704 → EReal) (dkv : Fin 256 → EReal) (k : Fin 256) : EReal := kvs l k * inv wkv (kvs l) * dkv k

/-- Row `t` of an array of `n` tokens. -/
def at_ {n w : Nat} (x : (⟨2, ![n, w]⟩ : Shape).Idx → EReal) (t : Fin n) (j : Fin w) : EReal := x (ix2 t j)
/-- A gain's channels. -/
def gain {w : Nat} (g : (⟨1, ![w]⟩ : Shape).Idx → EReal) (j : Fin w) : EReal := g (ix1 j)

/-- The channels' gradient as an array. -/
def arrayL (lat : (⟨2, ![4096, 704]⟩ : Shape).Idx → EReal) (gq : (⟨1, ![384]⟩ : Shape).Idx → EReal)
    (gkv : (⟨1, ![256]⟩ : Shape).Idx → EReal) (dq : (⟨2, ![4096, 384]⟩ : Shape).Idx → EReal)
    (dkv : (⟨2, ![4096, 256]⟩ : Shape).Idx → EReal) (dkr : (⟨2, ![4096, 64]⟩ : Shape).Idx → EReal) :
    (⟨2, ![4096, 704]⟩ : Shape).Idx → EReal :=
  fun y => row (at_ lat (y 0)) (gain gq) (at_ dq (y 0)) (gain gkv) (at_ dkv (y 0)) (at_ dkr (y 0)) (y 1)

/-- The query gain's gradient as an array. -/
def arrayQ (lat : (⟨2, ![4096, 704]⟩ : Shape).Idx → EReal) (dq : (⟨2, ![4096, 384]⟩ : Shape).Idx → EReal) :
    (⟨2, ![1, 384]⟩ : Shape).Idx → EReal := fun y => ∑ t : Fin 4096, termQ (at_ lat t) (at_ dq t) (y 1)

/-- The key-value gain's gradient as an array. -/
def arrayKv (lat : (⟨2, ![4096, 704]⟩ : Shape).Idx → EReal) (dkv : (⟨2, ![4096, 256]⟩ : Shape).Idx → EReal) :
    (⟨2, ![1, 256]⟩ : Shape).Idx → EReal := fun y => ∑ t : Fin 4096, termKv (at_ lat t) (at_ dkv t) (y 1)

section call

open Cert.Kernel18Ideal Cert.Kernel18Ideal.Gen

section block

variable (c : Dev nD) (i : grid0.Coords)
  (a1 : Memref sig .tc .vmem S512x704 .f32) (h1 : a1.IsWhole) (a2 : Memref sig .tc .vmem S512x384 .bf16) (h2 : a2.IsWhole)
  (a3 : Memref sig .tc .vmem S512x256 .bf16) (h3 : a3.IsWhole) (a4 : Memref sig .tc .vmem S512x64 .f32) (h4 : a4.IsWhole)
  (a5 : Memref sig .tc .vmem S1x384 .f32) (h5 : a5.IsWhole) (a6 : Memref sig .tc .vmem S1x256 .f32) (h6 : a6.IsWhole)
  (a7 : Memref sig .tc .vmem S512x704 .bf16) (h7 : a7.IsWhole) (a8 : Memref sig .tc .vmem S1x384 .f32) (h8 : a8.IsWhole)
  (a9 : Memref sig .tc .vmem S1x256 .f32) (h9 : a9.IsWhole)
  (lat : Vec Ideal S512x704 .f32) (dq : Vec Ideal S512x384 .bf16) (dkv : Vec Ideal S512x256 .bf16)
  (dkr : Vec Ideal S512x64 .f32) (gq oq : Vec Ideal S1x384 .f32) (gkv okv : Vec Ideal S1x256 .f32)

/-- At the first point, the channels' gradient. -/
theorem dl_A (hc0 : cond0_0 i) (y : S512x704.Idx) :
    out0_A_6 c i a1 h1 a2 h2 a3 h3 a4 h4 a5 h5 a6 h6 a7 h7 a8 h8 a9 h9 hc0 lat dq dkv dkr gq gkv y
      = row (at_ lat (y 0)) (at_ gq 0) (at_ dq (y 0)) (at_ gkv 0) (at_ dkv (y 0)) (at_ dkr (y 0)) (y 1) := by
  frame_out
  unfold_payloads
  idx_vars y
  pointwise
  simp only [Fin.sum_univ_one]
  rfl

/-- At a later point, the channels' gradient. -/
theorem dl_B (hc0 : ¬cond0_0 i) (y : S512x704.Idx) :
    out0_B_6 c i a1 h1 a2 h2 a3 h3 a4 h4 a5 h5 a6 h6 a7 h7 a8 h8 a9 h9 hc0 lat dq dkv dkr gq gkv oq okv y
      = row (at_ lat (y 0)) (at_ gq 0) (at_ dq (y 0)) (at_ gkv 0) (at_ dkv (y 0)) (at_ dkr (y 0)) (y 1) := by
  frame_out
  unfold_payloads
  idx_vars y
  pointwise
  simp only [Fin.sum_univ_one]
  rfl

/-- At the first point, the query gain's gradient. -/
theorem dgq_A (hc0 : cond0_0 i) (y : S1x384.Idx) :
    out0_A_7 c i a1 h1 a2 h2 a3 h3 a4 h4 a5 h5 a6 h6 a7 h7 a8 h8 a9 h9 hc0 lat dq dkv dkr gq gkv y
      = 0 + ∑ r : Fin 512, termQ (at_ lat r) (at_ dq r) (y 1) := by
  rw [zero_add]
  frame_out
  unfold_payloads
  idx_vars y
  pointwise
  rfl

/-- At a later point, the query gain's gradient. -/
theorem dgq_B (hc0 : ¬cond0_0 i) (y : S1x384.Idx) :
    out0_B_7 c i a1 h1 a2 h2 a3 h3 a4 h4 a5 h5 a6 h6 a7 h7 a8 h8 a9 h9 hc0 lat dq dkv dkr gq gkv oq okv y
      = oq y + ∑ r : Fin 512, termQ (at_ lat r) (at_ dq r) (y 1) := by
  frame_out
  unfold_payloads
  idx_vars y
  pointwise
  rfl

/-- At the first point, the key-value gain's gradient. -/
theorem dgkv_A (hc0 : cond0_0 i) (y : S1x256.Idx) :
    out0_A_8 c i a1 h1 a2 h2 a3 h3 a4 h4 a5 h5 a6 h6 a7 h7 a8 h8 a9 h9 hc0 lat dq dkv dkr gq gkv y
      = 0 + ∑ r : Fin 512, termKv (at_ lat r) (at_ dkv r) (y 1) := by
  rw [zero_add]
  frame_out
  unfold_payloads
  idx_vars y
  pointwise
  rfl

/-- At a later point, the key-value gain's gradient. -/
theorem dgkv_B (hc0 : ¬cond0_0 i) (y : S1x256.Idx) :
    out0_B_8 c i a1 h1 a2 h2 a3 h3 a4 h4 a5 h5 a6 h6 a7 h7 a8 h8 a9 h9 hc0 lat dq dkv dkr gq gkv oq okv y
      = okv y + ∑ r : Fin 512, termKv (at_ lat r) (at_ dkv r) (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![t.val, 0] ∧
    win0_2.index t = ![t.val, 0] ∧ win0_3.index t = ![t.val, 0] ∧ win0_4.index t = ![0, 0] ∧
    win0_5.index t = ![0, 0] ∧ win0_6.index t = ![t.val, 0] ∧ win0_7.index t = ![0, 0] ∧ win0_8.index t = ![0, 0] := by
  decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) :
    at_ (iblk m c 0 t) r = at_ (m ((c : Thread nD τ).loc main_arg0)) (tokRow t r) := by
  have idx := indices
  funext j
  unfold at_
  blk_point [iblk, V, idx t] <;> rfl

theorem blk1 (c : Dev nD) (t : Fin cfg0.N) (r : Fin 512) :
    at_ (iblk m c 1 t) r = at_ (m ((c : Thread nD τ).loc main_arg3)) (tokRow t r) := by
  have idx := indices
  funext j
  unfold at_
  blk_point [iblk, V, idx t] <;> rfl

theorem blk2 (c : Dev nD) (t : Fin cfg0.N) (r : Fin 512) :
    at_ (iblk m c 2 t) r = at_ (m ((c : Thread nD τ).loc main_arg4)) (tokRow t r) := by
  have idx := indices
  funext j
  unfold at_
  blk_point [iblk, V, idx t] <;> rfl

theorem blk3 (c : Dev nD) (t : Fin cfg0.N) (r : Fin 512) :
    at_ (iblk m c 3 t) r = at_ (m ((c : Thread nD τ).loc main_arg5)) (tokRow t r) := by
  have idx := indices
  funext j
  unfold at_
  blk_point [iblk, V, idx t] <;> rfl

theorem blk4 (c : Dev nD) (t : Fin cfg0.N) : at_ (iblk m c 4 t) 0 = gain (m ((c : Thread nD τ).loc main_arg1)) := by
  have idx := indices
  funext j
  unfold at_ gain
  blk_point [iblk, V, idx t] <;> rfl

theorem blk5 (c : Dev nD) (t : Fin cfg0.N) : at_ (iblk m c 5 t) 0 = gain (m ((c : Thread nD τ).loc main_arg2)) := by
  have idx := indices
  funext j
  unfold at_ gain
  blk_point [iblk, V, idx t] <;> rfl

/-- The channels' gradient that the call leaves. -/
abbrev resultL (c : Dev nD) (t : Fin 4096) (k : Fin 704) : EReal :=
  row (at_ (m ((c : Thread nD τ).loc main_arg0)) t) (gain (m ((c : Thread nD τ).loc main_arg1)))
    (at_ (m ((c : Thread nD τ).loc main_arg3)) t) (gain (m ((c : Thread nD τ).loc main_arg2)))
    (at_ (m ((c : Thread nD τ).loc main_arg4)) t) (at_ (m ((c : Thread nD τ).loc main_arg5)) t) k

/-- What token `t` adds to the query gain's gradient. -/
abbrev termQOf (c : Dev nD) (t : Fin 4096) (k : Fin 384) : EReal :=
  termQ (at_ (m ((c : Thread nD τ).loc main_arg0)) t) (at_ (m ((c : Thread nD τ).loc main_arg3)) t) k

/-- What token `t` adds to the key-value gain's gradient. -/
abbrev termKvOf (c : Dev nD) (t : Fin 4096) (k : Fin 256) : EReal :=
  termKv (at_ (m ((c : Thread nD τ).loc main_arg0)) t) (at_ (m ((c : Thread nD τ).loc main_arg4)) t) k

/-- What point `t` adds to the query gain's gradient. -/
def partQ (c : Dev nD) (t : Fin cfg0.N) (k : Fin 384) : EReal := ∑ r : Fin 512, termQOf m c (tokRow t r) k
/-- What point `t` adds to the key-value gain's gradient. -/
def partKv (c : Dev nD) (t : Fin cfg0.N) (k : Fin 256) : EReal := ∑ r : Fin 512, termKvOf m c (tokRow t r) k

theorem outs6 (c : Dev nD) (t : Fin cfg0.N) (y : S512x704.Idx) :
    (outsAt0 m c t.val t.isLt).1 y = resultL m c (tokRow t (y 0)) (y 1) := by
  by_cases h0 : t.val % 8 = 0
  · rw [outsAt0_A m c t h0]
    dsimp only
    rw [dl_A]
    exact row_congr (blk0 ..) (blk4 ..) (blk1 ..) (blk5 ..) (blk2 ..) (blk3 ..)
  · rw [outsAt0_B m c t h0]
    dsimp only
    rw [dl_B]
    exact row_congr (blk0 ..) (blk4 ..) (blk1 ..) (blk5 ..) (blk2 ..) (blk3 ..)

theorem sumQ (c : Dev nD) (t : Fin cfg0.N) (k : Fin 384) :
    ∑ r : Fin 512, termQ (at_ (iblk m c 0 t) r) (at_ (iblk m c 1 t) r) k = partQ m c t k :=
  Finset.sum_congr rfl fun r _ => congrFun (congrArg₂ termQ (blk0 m c t r) (blk1 m c t r)) k

theorem sumKv (c : Dev nD) (t : Fin cfg0.N) (k : Fin 256) :
    ∑ r : Fin 512, termKv (at_ (iblk m c 0 t) r) (at_ (iblk m c 2 t) r) k = partKv m c t k :=
  Finset.sum_congr rfl fun r _ => congrFun (congrArg₂ termKv (blk0 m c t r) (blk2 m c t r)) k

theorem outs7_first (c : Dev nD) (t : Fin cfg0.N) (h0 : t.val % 8 = 0) (y : S1x384.Idx) :
    (outsAt0 m c t.val t.isLt).2.1 y = 0 + partQ m c t (y 1) := by
  rw [outsAt0_A m c t h0]
  dsimp only
  rw [dgq_A]
  exact congrArg _ (sumQ ..)

theorem outs7_later (c : Dev nD) (t : Fin cfg0.N) (h0 : ¬t.val % 8 = 0) (y : S1x384.Idx) :
    (outsAt0 m c t.val t.isLt).2.1 y
      = (outsAt0 m c (t.val - 1) (Nat.lt_of_le_of_lt (Nat.sub_le _ _) t.isLt)).2.1 y + partQ m c t (y 1) := by
  rw [outsAt0_B m c t h0]
  dsimp only
  rw [dgq_B]
  exact congrArg _ (sumQ ..)

theorem outs8_first (c : Dev nD) (t : Fin cfg0.N) (h0 : t.val % 8 = 0) (y : S1x256.Idx) :
    (outsAt0 m c t.val t.isLt).2.2 y = 0 + partKv m c t (y 1) := by
  rw [outsAt0_A m c t h0]
  dsimp only
  rw [dgkv_A]
  exact congrArg _ (sumKv ..)

theorem outs8_later (c : Dev nD) (t : Fin cfg0.N) (h0 : ¬t.val % 8 = 0) (y : S1x256.Idx) :
    (outsAt0 m c t.val t.isLt).2.2 y
      = (outsAt0 m c (t.val - 1) (Nat.lt_of_le_of_lt (Nat.sub_le _ _) t.isLt)).2.2 y + partKv m c t (y 1) := by
  rw [outsAt0_B m c t h0]
  dsimp only
  rw [dgkv_B]
  exact congrArg _ (sumKv ..)

/-- A sum over the tokens, by the block each lies in. -/
theorem sum_tok (t : Fin cfg0.N) (f : Fin 4096 → EReal) (p : Fin cfg0.N → EReal)
    (hp : ∀ s, p s = ∑ r : Fin 512, f (tokRow s r)) (hs : ∀ l : Fin 8, 8 * (t.val / 8) + l.val < cfg0.N) :
    ∑ l : Fin 8, p ⟨8 * (t.val / 8) + l.val, hs l⟩ = ∑ l : Fin 4096, f l := by
  have s := Fin.sum_univ_univ_mul_add 8 512 fun l => if h : l < 4096 then f ⟨l, h⟩ else 0
  refine (Finset.sum_congr rfl fun l _ => (hp _).trans (Finset.sum_congr rfl fun r _ => ?_)).trans
    (s.trans (Finset.sum_congr rfl fun l _ => dif_pos l.isLt))
  have := l.isLt
  have := r.isLt
  have := lt8 t
  rw [dif_pos (by omega)]
  exact congrArg f (Fin.ext (by show (8 * (t.val / 8) + l.val) * 512 + r.val = l.val * 512 + r.val; omega))

theorem outs7 (c : Dev nD) (t : Fin cfg0.N) (ht : t.val % 8 = 8 - 1) (y : S1x384.Idx) :
    (outsAt0 m c t.val t.isLt).2.1 y = ∑ l : Fin 4096, termQOf m c l (y 1) := by
  have e := Pipeline.eq_sum_fin_of_reset_step_apply_of_flush (fun n h => (outsAt0 m c n h).2.1) 8 (fun _ => (0 : EReal))
    (fun t y => partQ m c t (y 1)) (outs7_first m c) (outs7_later m c) t ht y
  refine e.trans ((zero_add _).trans ?_)
  exact sum_tok t (fun l => termQOf m c l (y 1)) (fun s => partQ m c s (y 1)) (fun s => rfl) _

theorem outs8 (c : Dev nD) (t : Fin cfg0.N) (ht : t.val % 8 = 8 - 1) (y : S1x256.Idx) :
    (outsAt0 m c t.val t.isLt).2.2 y = ∑ l : Fin 4096, termKvOf m c l (y 1) := by
  have e := Pipeline.eq_sum_fin_of_reset_step_apply_of_flush (fun n h => (outsAt0 m c n h).2.2) 8 (fun _ => (0 : EReal))
    (fun t y => partKv m c t (y 1)) (outs8_first m c) (outs8_later m c) t ht y
  refine e.trans ((zero_add _).trans ?_)
  exact sum_tok t (fun l => termKvOf m c l (y 1)) (fun s => partKv m c s (y 1)) (fun s => rfl) _

theorem arr6 (c : Dev nD) : (dats m 0 c).arrAt 6 cfg0.N = fun y => resultL m c (y 0) (y 1) := by
  have idx := indices
  refine (dats m 0 c).arrAt_eq_of_covers 6 _ (by decide +kernel) fun t hf y => ?_
  blk_simp
  rw [after0_6]
  refine (outs6 m c t y).trans (congrArg₂ (resultL m c) (Fin.ext ?_) (Fin.ext ?_)) <;> blk_simp [idx t] <;> rfl

theorem arr7 (c : Dev nD) : (dats m 0 c).arrAt 7 cfg0.N = fun y => ∑ l : Fin 4096, termQOf m c l (y 1) := by
  have idx := indices
  refine (dats m 0 c).arrAt_eq_of_covers 7 _ (by decide +kernel) fun t hf y => ?_
  blk_simp
  rw [after0_7]
  idx_bounds y
  refine (outs7 m c t ((flush0_7 t).mp hf) y).trans
    (congrArg (fun k => ∑ l : Fin 4096, termQOf m c l k) (Fin.ext ?_)) <;> blk_simp [idx t]

theorem arr8 (c : Dev nD) : (dats m 0 c).arrAt 8 cfg0.N = fun y => ∑ l : Fin 4096, termKvOf m c l (y 1) := by
  have idx := indices
  refine (dats m 0 c).arrAt_eq_of_covers 8 _ (by decide +kernel) fun t hf y => ?_
  blk_simp
  rw [after0_8]
  idx_bounds y
  refine (outs8 m c t ((flush0_8 t).mp hf) y).trans
    (congrArg (fun k => ∑ l : Fin 4096, termKvOf m c l k) (Fin.ext ?_)) <;> blk_simp [idx t]

/-- The channels' gradient the call leaves, as an array. -/
abbrev wholeL (c : Dev nD) : (⟨2, ![4096, 704]⟩ : Shape).Idx → EReal :=
  arrayL (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
/-- The query gain's gradient the call leaves, as an array. -/
abbrev wholeQ (c : Dev nD) : (⟨2, ![1, 384]⟩ : Shape).Idx → EReal :=
  arrayQ (m ((c : Thread nD τ).loc main_arg0)) (m ((c : Thread nD τ).loc main_arg3))
/-- The key-value gain's gradient the call leaves, as an array. -/
abbrev wholeKv (c : Dev nD) : (⟨2, ![1, 256]⟩ : Shape).Idx → EReal :=
  arrayKv (m ((c : Thread nD τ).loc main_arg0)) (m ((c : Thread nD τ).loc main_arg4))

end call

section plain

open Cert.Reference18Ideal Cert.Reference18Ideal.Read Cert.Reference18Ideal.Value

theorem reference_l (m : (ℓ : Loc nD τ sig) → Buf (Elt Ideal) ℓ) (c : Dev nD) (y : S4096x704.Idx) :
    res_main_v78 (F := Ideal) m c y
      = arrayL (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) y := by
  unfold res_main_v78
  idx_vars y
  pointwise
  simp only [Fin.sum_univ_one]
  rfl

theorem reference_q (x0 : (⟨S4096x704, .f32⟩ : BufTy).Contents (Elt Ideal))
    (x3 : (⟨S4096x384, .bf16⟩ : BufTy).Contents (Elt Ideal)) (y : S1x384.Idx) :
    val_main_v79 (F := Ideal) x0 x3 y = arrayQ x0 x3 y := by
  rw [← val_main_v79_eq]
  idx_vars y
  pointwise
  simp only [Fin.sum_univ_one]
  rfl

theorem reference_kv (x0 : (⟨S4096x704, .f32⟩ : BufTy).Contents (Elt Ideal))
    (x4 : (⟨S4096x256, .bf16⟩ : BufTy).Contents (Elt Ideal)) (y : S1x256.Idx) :
    val_main_v80 (F := Ideal) x0 x4 y = arrayKv x0 x4 y := by
  rw [← val_main_v80_eq]
  idx_vars y
  pointwise
  simp only [Fin.sum_univ_one]
  rfl

end plain

/-- The reference's frame. -/
theorem frame_reference : Cert.quiescent_Reference18Ideal := by
  intro m ρ _
  exact (θ_run Cert.Reference18Ideal.defs _ _).mono
    (fun r h => ⟨fun c => (h c).2.2.2, sem_eq_zero_of_no_sems (by decide) r.2⟩)
    (Cert.Reference18Ideal.Value.run (F := Ideal) m ρ)

/-- The call's results are the reference's. -/
theorem algebraic : Cert.algebraic_Kernel18Ideal_Reference18Ideal := by
  intro m ρ m' ρ' _ hag
  refine ⟨wholeL m, wholeQ m, wholeKv m, ?_, ?_⟩
  · refine (θ_run Cert.Kernel18Ideal.defs _ _).mono (fun r h c => ?_) (Cert.Kernel18Ideal.Value.run_blocks (F := Ideal) m ρ)
    obtain ⟨h6, h7, h8, hargs⟩ := h c
    exact ⟨h6.trans (arr6 m c), h7.trans (arr7 m c), h8.trans (arr8 m c), hargs⟩
  · refine (θ_run Cert.Reference18Ideal.defs _ _).mono (fun r h c => ?_) (Cert.Reference18Ideal.Value.run (F := Ideal) m' ρ')
    obtain ⟨h6, h7, h8, hargs⟩ := h c
    obtain ⟨e0, e1, e2, e3, e4, e5⟩ := hag c
    refine ⟨h6.trans ?_, h7.trans ?_, h8.trans ?_, hargs⟩
    · show _ = arrayL _ _ _ _ _ _
      rw [← e0, ← e1, ← e2, ← e3, ← e4, ← e5]
      exact funext (reference_l m' c)
    · show _ = arrayQ _ _
      rw [← e0, ← e3]
      exact funext (reference_q _ _)
    · show _ = arrayKv _ _
      rw [← e0, ← e4]
      exact funext (reference_kv _ _)

end Cert.MlaLatentsBack

end
-- ==== Proof.MlaUqDx.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Pipeline.ValueKit

/-!
# The gradient of the normalised query latents

The gradients of the heads' queries times the heads' up projections, transposed, summed over the heads.
-/

@[expose] public section

set_option maxRecDepth 16384

noncomputable section

namespace Cert.MlaUqDx

open Idealize.ShloMosaic Idealize.ShloMosaic.TcCoe Idealize.SL.Sem
open Idealize.ShloMosaic.Pipeline (Dat)

/-- What head `g` adds to the gradient of token `t`'s latent channel `i`. -/
def term (w : (⟨3, ![8, 384, 192]⟩ : Shape).Idx → EReal) (d : (⟨3, ![8, 4096, 192]⟩ : Shape).Idx → EReal)
    (t : Fin 4096) (i : Fin 384) (g : Fin 8) : EReal := ∑ j : Fin 192, d (ix3 g t j) * w (ix3 g i j)

/-- The gradient of token `t`'s latent channel `i`. -/
def grad (w : (⟨3, ![8, 384, 192]⟩ : Shape).Idx → EReal) (d : (⟨3, ![8, 4096, 192]⟩ : Shape).Idx → EReal)
    (t : Fin 4096) (i : Fin 384) : EReal := ∑ g : Fin 8, term w d t i g

section call

open Cert.Kernel19Ideal Cert.Kernel19Ideal.Gen

/-- What one head adds on a block of tokens. -/
def blkTerm (d : (⟨3, ![1, 2048, 192]⟩ : Shape).Idx → EReal) (w : (⟨3, ![1, 384, 192]⟩ : Shape).Idx → EReal)
    (r : Fin 2048) (i : Fin 384) : EReal := ∑ j : Fin 192, d (ix3 0 r j) * w (ix3 0 i j)

section block

variable (c : Dev nD) (i : grid0.Coords) (a3 : Memref sig .tc .vmem S1x2048x192 .bf16) (h3 : a3.IsWhole)
  (a4 : Memref sig .tc .vmem S1x384x192 .bf16) (h4 : a4.IsWhole) (a5 : Memref sig .tc .vmem S2048x384 .bf16) (h5 : a5.IsWhole)
  (a6 : Memref sig .tc .vmem S2048x384 .f32) (h6 : a6.IsWhole)
  (d : Vec Ideal S1x2048x192 .bf16) (w : Vec Ideal S1x384x192 .bf16) (acc : Vec Ideal S2048x384 .f32)

/-- At the first head, the sum so far. -/
theorem acc_A (hc0 : cond0_0 i) (hc1 : ¬cond0_1 i) (hc2 : ¬cond0_2 i) (y : S2048x384.Idx) :
    sout0_A_0 c i a3 h3 a4 h4 a5 h5 a6 h6 hc0 hc1 hc2 d w y = blkTerm d w (y 0) (y 1) := by
  frame_out
  unfold_payloads
  idx_vars y
  pointwise
  rfl

/-- At a later head, the sum so far. -/
theorem acc_B (hc0 : ¬cond0_0 i) (hc1 : cond0_1 i) (hc2 : ¬cond0_2 i) (y : S2048x384.Idx) :
    sout0_B_0 c i a3 h3 a4 h4 a5 h5 a6 h6 hc0 hc1 hc2 d w acc y = acc y + blkTerm d w (y 0) (y 1) := by
  frame_out
  unfold_payloads
  idx_vars y
  pointwise
  rfl

/-- At the last head, the sum. -/
theorem acc_C (hc0 : ¬cond0_0 i) (hc1 : cond0_1 i) (hc2 : cond0_2 i) (y : S2048x384.Idx) :
    sout0_C_0 c i a3 h3 a4 h4 a5 h5 a6 h6 hc0 hc1 hc2 d w acc y = acc y + blkTerm d w (y 0) (y 1) := by
  frame_out
  unfold_payloads
  idx_vars y
  pointwise
  rfl

/-- At the last head, the block that is written back. -/
theorem out_C (hc0 : ¬cond0_0 i) (hc1 : cond0_1 i) (hc2 : cond0_2 i) (y : S2048x384.Idx) :
    out0_C_2 c i a3 h3 a4 h4 a5 h5 a6 h6 hc0 hc1 hc2 d w acc y = acc y + blkTerm d w (y 0) (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val % 8, t.val / 8, 0] ∧ win0_1.index t = ![t.val % 8, 0, 0] ∧
    win0_2.index t = ![t.val / 8, 0] := by decide +kernel

theorem lt16 (t : Fin cfg0.N) : t.val < 16 := by have h := t.isLt; have e : cfg0.N = 16 := N_0; omega

/-- The head that point `t` works on. -/
def head (t : Fin cfg0.N) : Fin 8 := ⟨t.val % 8, Nat.mod_lt _ (by decide)⟩

/-- Row `r` of the tokens that point `t` works on. -/
def tokRow (t : Fin cfg0.N) (r : Fin 2048) : Fin 4096 :=
  ⟨t.val / 8 * 2048 + r.val, by have := r.isLt; have := lt16 t; omega⟩

theorem blk0 (c : Dev nD) (t : Fin cfg0.N) (r : Fin 2048) (j : Fin 192) :
    iblk m c 0 t (ix3 0 r j) = m ((c : Thread nD τ).loc main_arg1) (ix3 (head t) (tokRow t r) j) := by
  have idx := indices
  blk_point [iblk, V, idx t] <;> rfl

theorem blk1 (c : Dev nD) (t : Fin cfg0.N) (i : Fin 384) (j : Fin 192) :
    iblk m c 1 t (ix3 0 i j) = m ((c : Thread nD τ).loc main_arg0) (ix3 (head t) i j) := by
  have idx := indices
  blk_point [iblk, V, idx t] <;> rfl

/-- What one head adds, over the call's arguments. -/
abbrev termOf (c : Dev nD) (t : Fin 4096) (i : Fin 384) (g : Fin 8) : EReal :=
  term (m ((c : Thread nD τ).loc main_arg0)) (m ((c : Thread nD τ).loc main_arg1)) t i g

/-- The gradient that the call leaves. -/
abbrev result (c : Dev nD) (t : Fin 4096) (i : Fin 384) : EReal :=
  grad (m ((c : Thread nD τ).loc main_arg0)) (m ((c : Thread nD τ).loc main_arg1)) t i

theorem block_eq (c : Dev nD) (t : Fin cfg0.N) (r : Fin 2048) (i : Fin 384) :
    blkTerm (iblk m c 0 t) (iblk m c 1 t) r i = termOf m c (tokRow t r) i (head t) := by
  refine Finset.sum_congr rfl fun j _ => ?_
  rw [blk0, blk1]

/-- What point `t` adds to the sum. -/
def part (c : Dev nD) (t : Fin cfg0.N) (y : S2048x384.Idx) : EReal := termOf m c (tokRow t (y 0)) (y 1) (head t)

theorem acc_first (c : Dev nD) (t : Fin cfg0.N) (h0 : t.val % 8 = 0) (y : S2048x384.Idx) :
    (outsAt0 m c t.val t.isLt).2 y = 0 + part m c t y := by
  rw [outsAt0_A m c t h0 (by omega) (by omega), zero_add]
  dsimp only
  rw [acc_A]
  exact block_eq ..

theorem acc_later (c : Dev nD) (t : Fin cfg0.N) (h0 : ¬t.val % 8 = 0) (y : S2048x384.Idx) :
    (outsAt0 m c t.val t.isLt).2 y
      = (outsAt0 m c (t.val - 1) (Nat.lt_of_le_of_lt (Nat.sub_le _ _) t.isLt)).2 y + part m c t y := by
  by_cases h2 : t.val % 8 = 7
  · rw [outsAt0_C m c t h0 (by omega) h2]
    dsimp only
    rw [acc_C]
    exact congrArg _ (block_eq ..)
  · rw [outsAt0_B m c t h0 (by omega) h2]
    dsimp only
    rw [acc_B]
    exact congrArg _ (block_eq ..)

theorem acc_last (c : Dev nD) (t : Fin cfg0.N) (ht : t.val % 8 = 8 - 1) (y : S2048x384.Idx) :
    (outsAt0 m c t.val t.isLt).2 y = result m c (tokRow t (y 0)) (y 1) := by
  have e := Pipeline.eq_sum_fin_of_reset_step_apply_of_flush (fun n h => (outsAt0 m c n h).2) 8 (fun _ => (0 : EReal))
    (fun t y => part m c t y) (acc_first m c) (acc_later m c) t ht y
  refine e.trans ?_
  rw [zero_add]
  refine Finset.sum_congr rfl fun g _ => ?_
  have := g.isLt
  exact congrArg₂ (fun a b => termOf m c a (y 1) b)
    (Fin.ext (by show (8 * (t.val / 8) + g.val) / 8 * 2048 + _ = t.val / 8 * 2048 + _; omega))
    (Fin.ext (by show (8 * (t.val / 8) + g.val) % 8 = g.val; omega))

theorem outs (c : Dev nD) (t : Fin cfg0.N) (ht : t.val % 8 = 8 - 1) (y : S2048x384.Idx) :
    (outsAt0 m c t.val t.isLt).1 y = result m c (tokRow t (y 0)) (y 1) := by
  refine Eq.trans ?_ (acc_last m c t ht y)
  rw [outsAt0_C m c t (by omega) (by omega) ht]
  dsimp only
  rw [out_C, acc_C]

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t ((flush0_2 t).mp hf) y).trans (congrArg₂ (result m c) (Fin.ext ?_) (Fin.ext ?_)) <;>
    blk_simp [idx t] <;> rfl

/-- The gradient the call leaves, as an array. -/
abbrev whole (c : Dev nD) : (⟨2, ![4096, 384]⟩ : Shape).Idx → EReal := fun y => result m c (y 0) (y 1)

end call

section plain

open Cert.Reference19Ideal Cert.Reference19Ideal.Read

variable (x0 : (⟨S8x384x192, .bf16⟩ : BufTy).Contents (Elt Ideal)) (x1 : (⟨S8x4096x192, .bf16⟩ : BufTy).Contents (Elt Ideal))

theorem reference (y : S4096x384.Idx) : val_main_v11 (F := Ideal) x0 x1 y = grad x0 x1 (y 0) (y 1) := by
  rw [← val_main_v11_eq]
  idx_vars y
  pointwise
  have s := Fin.sum_univ_univ_mul_add 8 192 fun l => if h : l < 1536 then
    x1 (ix3 (⟨l / 192, by omega⟩ : Fin 8) y0 ⟨l % 192, by omega⟩) * x0 (ix3 (⟨l / 192, by omega⟩ : Fin 8) y1 ⟨l % 192, by omega⟩)
    else 0
  refine (Finset.sum_congr rfl fun l _ => by rw [dif_pos (show l.val < 1536 from l.isLt)]).trans (s.symm.trans
    (Finset.sum_congr rfl fun g _ => Finset.sum_congr rfl fun j _ => ?_))
  have := g.isLt
  have := j.isLt
  rw [dif_pos (by omega)]
  exact congrArg₂ (fun a b => x1 (ix3 a y0 b) * x0 (ix3 a y1 b)) (Fin.ext (by show (g.val * 192 + j.val) / 192 = g.val; omega))
    (Fin.ext (by show (g.val * 192 + j.val) % 192 = j.val; omega))

end plain

/-- The reference's frame. -/
theorem frame_reference : Cert.quiescent_Reference19Ideal := by
  intro m ρ _
  exact (θ_run Cert.Reference19Ideal.defs _ _).mono
    (fun r h => ⟨fun c => (h c).2, sem_eq_zero_of_no_sems (by decide) r.2⟩)
    (Cert.Reference19Ideal.Value.run (F := Ideal) m ρ)

/-- The call's result is the reference's. -/
theorem algebraic : Cert.algebraic_Kernel19Ideal_Reference19Ideal := by
  intro m ρ m' ρ' _ hag
  refine ⟨whole m, ?_, ?_⟩
  · refine (θ_run Cert.Kernel19Ideal.defs _ _).mono (fun r h c => ?_) (Cert.Kernel19Ideal.Value.run_blocks (F := Ideal) m ρ)
    obtain ⟨h3, hargs⟩ := h c
    exact ⟨h3.trans (arr m c), hargs⟩
  · refine (θ_run Cert.Reference19Ideal.defs _ _).mono (fun r h c => ?_) (Cert.Reference19Ideal.Value.run (F := Ideal) m' ρ')
    obtain ⟨h3, hargs⟩ := h c
    obtain ⟨e0, e1⟩ := hag c
    refine ⟨h3.trans ?_, hargs⟩
    unfold whole result
    rw [e0, e1]
    exact funext (reference _ _)

end Cert.MlaUqDx

end
-- ==== Proof.FfnUp.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Pipeline.ValueKit

/-!
# The squared-ReLU block's up projection

The product of the normalised tokens with the up projection, and its squared ReLU.
-/

@[expose] public section

set_option maxRecDepth 16384

noncomputable section

namespace Cert.FfnUp

open Idealize.ShloMosaic Idealize.ShloMosaic.TcCoe Idealize.SL.Sem
open Idealize.ShloMosaic.Pipeline (Dat)

/-- The pre-activation of token `t` and hidden channel `f`. -/
def pre (x : (⟨2, ![4096, 1024]⟩ : Shape).Idx → EReal) (w : (⟨2, ![1024, 4096]⟩ : Shape).Idx → EReal) (t f : Fin 4096) : EReal :=
  ∑ k : Fin 1024, x (ix2 t k) * w (ix2 k f)

/-- The pre-activations as an array. -/
def arrayA (x : (⟨2, ![4096, 1024]⟩ : Shape).Idx → EReal) (w : (⟨2, ![1024, 4096]⟩ : Shape).Idx → EReal) :
    (⟨2, ![4096, 4096]⟩ : Shape).Idx → EReal := fun y => pre x w (y 0) (y 1)

/-- The squared ReLU of the pre-activations as an array. -/
def arrayR (x : (⟨2, ![4096, 1024]⟩ : Shape).Idx → EReal) (w : (⟨2, ![1024, 4096]⟩ : Shape).Idx → EReal) :
    (⟨2, ![4096, 4096]⟩ : Shape).Idx → EReal := fun y => max (pre x w (y 0) (y 1)) 0 * max (pre x w (y 0) (y 1)) 0

section call

open Cert.Kernel20Ideal Cert.Kernel20Ideal.Gen

/-- The pre-activations on a block of tokens by hidden channels. -/
def blkPre (x : (⟨2, ![2048, 1024]⟩ : Shape).Idx → EReal) (w : (⟨2, ![1024, 1024]⟩ : Shape).Idx → EReal) (r : Fin 2048) (f : Fin 1024) : EReal :=
  ∑ k : Fin 1024, x (ix2 r k) * w (ix2 k f)

theorem block_a (x : Vec Ideal S2048x1024 .bf16) (w : Vec Ideal S1024x1024 .bf16) (y : S2048x1024.Idx) :
    out0_2 x w y = blkPre x w (y 0) (y 1) := by
  frame_out
  unfold_payloads
  idx_vars y
  pointwise
  rfl

theorem block_r (x : Vec Ideal S2048x1024 .bf16) (w : Vec Ideal S1024x1024 .bf16) (y : S2048x1024.Idx) :
    out0_3 x w y = max (blkPre x w (y 0) (y 1)) 0 * max (blkPre x w (y 0) (y 1)) 0 := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 4, 0] ∧ win0_1.index t = ![0, t.val % 4] ∧
    win0_2.index t = ![t.val / 4, t.val % 4] ∧ win0_3.index t = ![t.val / 4, t.val % 4] := by decide +kernel

theorem lt8 (t : Fin cfg0.N) : t.val < 8 := by have h := t.isLt; have e : cfg0.N = 8 := N_0; omega

/-- Row `r` of the tokens that point `t` works on. -/
def tokRow (t : Fin cfg0.N) (r : Fin 2048) : Fin 4096 :=
  ⟨t.val / 4 * 2048 + r.val, by have := r.isLt; have := lt8 t; omega⟩
/-- Column `f` of the hidden channels that point `t` works on. -/
def chan (t : Fin cfg0.N) (f : Fin 1024) : Fin 4096 := ⟨t.val % 4 * 1024 + f.val, by have := f.isLt; omega⟩

theorem blk0 (c : Dev nD) (t : Fin cfg0.N) (r : Fin 2048) (k : Fin 1024) :
    iblk m c 0 t (ix2 r k) = m ((c : Thread nD τ).loc main_arg0) (ix2 (tokRow t r) k) := by
  have idx := indices
  blk_point [iblk, V, idx t] <;> rfl

theorem blk1 (c : Dev nD) (t : Fin cfg0.N) (k f : Fin 1024) :
    iblk m c 1 t (ix2 k f) = m ((c : Thread nD τ).loc main_arg1) (ix2 k (chan t f)) := by
  have idx := indices
  blk_point [iblk, V, idx t] <;> rfl

/-- The pre-activation that the call computes. -/
abbrev preOf (c : Dev nD) (t f : Fin 4096) : EReal :=
  pre (m ((c : Thread nD τ).loc main_arg0)) (m ((c : Thread nD τ).loc main_arg1)) t f
/-- Its squared ReLU. -/
abbrev reluOf (c : Dev nD) (t f : Fin 4096) : EReal := max (preOf m c t f) 0 * max (preOf m c t f) 0

theorem block_eq (c : Dev nD) (t : Fin cfg0.N) (r : Fin 2048) (f : Fin 1024) :
    blkPre (iblk m c 0 t) (iblk m c 1 t) r f = preOf m c (tokRow t r) (chan t f) := by
  refine Finset.sum_congr rfl fun k _ => ?_
  rw [blk0, blk1]

theorem outs_a (c : Dev nD) (t : Fin cfg0.N) (y : S2048x1024.Idx) :
    out0_2 (iblk m c 0 t) (iblk m c 1 t) y = preOf m c (tokRow t (y 0)) (chan t (y 1)) :=
  (block_a _ _ y).trans (block_eq m c t (y 0) (y 1))

theorem outs_r (c : Dev nD) (t : Fin cfg0.N) (y : S2048x1024.Idx) :
    out0_3 (iblk m c 0 t) (iblk m c 1 t) y = reluOf m c (tokRow t (y 0)) (chan t (y 1)) :=
  (block_r _ _ y).trans (congrArg (fun p : EReal => max p 0 * max p 0) (block_eq m c t (y 0) (y 1)))

theorem arr_a (c : Dev nD) : (dats m 0 c).arrAt 2 cfg0.N = fun y => preOf m c (y 0) (y 1) := by
  have idx := indices
  refine (dats m 0 c).arrAt_eq_of_covers 2 _ (by decide +kernel) fun t hf y => ?_
  blk_simp
  rw [after0_2]
  refine (outs_a m c t y).trans (congrArg₂ (preOf m c) (Fin.ext ?_) (Fin.ext ?_)) <;> blk_simp [idx t] <;> rfl

theorem arr_r (c : Dev nD) : (dats m 0 c).arrAt 3 cfg0.N = fun y => reluOf m c (y 0) (y 1) := by
  have idx := indices
  refine (dats m 0 c).arrAt_eq_of_covers 3 _ (by decide +kernel) fun t hf y => ?_
  blk_simp
  rw [after0_3]
  refine (outs_r m c t y).trans (congrArg₂ (reluOf m c) (Fin.ext ?_) (Fin.ext ?_)) <;> blk_simp [idx t] <;> rfl

/-- The pre-activations the call leaves, as an array. -/
abbrev wholeA (c : Dev nD) : (⟨2, ![4096, 4096]⟩ : Shape).Idx → EReal :=
  arrayA (m ((c : Thread nD τ).loc main_arg0)) (m ((c : Thread nD τ).loc main_arg1))
/-- Their squared ReLU, as an array. -/
abbrev wholeR (c : Dev nD) : (⟨2, ![4096, 4096]⟩ : Shape).Idx → EReal :=
  arrayR (m ((c : Thread nD τ).loc main_arg0)) (m ((c : Thread nD τ).loc main_arg1))

end call

section plain

open Cert.Reference20Ideal Cert.Reference20Ideal.Read

variable (x0 : (⟨S4096x1024, .bf16⟩ : BufTy).Contents (Elt Ideal)) (x1 : (⟨S1024x4096, .bf16⟩ : BufTy).Contents (Elt Ideal))

theorem reference_a (y : S4096x4096.Idx) : val_main_v3 (F := Ideal) x0 x1 y = arrayA x0 x1 y := by
  rw [← val_main_v3_eq]
  idx_vars y
  pointwise
  rfl

theorem reference_r (y : S4096x4096.Idx) : val_main_v6 (F := Ideal) x0 x1 y = arrayR x0 x1 y := by
  rw [← val_main_v6_eq]
  idx_vars y
  pointwise
  rfl

end plain

/-- The reference's frame. -/
theorem frame_reference : Cert.quiescent_Reference20Ideal := by
  intro m ρ _
  exact (θ_run Cert.Reference20Ideal.defs _ _).mono
    (fun r h => ⟨fun c => (h c).2.2, sem_eq_zero_of_no_sems (by decide) r.2⟩)
    (Cert.Reference20Ideal.Value.run (F := Ideal) m ρ)

/-- The call's results are the reference's. -/
theorem algebraic : Cert.algebraic_Kernel20Ideal_Reference20Ideal := by
  intro m ρ m' ρ' _ hag
  refine ⟨wholeA m, wholeR m, ?_, ?_⟩
  · refine (θ_run Cert.Kernel20Ideal.defs _ _).mono (fun r h c => ?_) (Cert.Kernel20Ideal.Value.run_blocks (F := Ideal) m ρ)
    obtain ⟨h0, h1, hargs⟩ := h c
    exact ⟨h0.trans (arr_a m c), h1.trans (arr_r m c), hargs⟩
  · refine (θ_run Cert.Reference20Ideal.defs _ _).mono (fun r h c => ?_) (Cert.Reference20Ideal.Value.run (F := Ideal) m' ρ')
    obtain ⟨h0, h1, hargs⟩ := h c
    obtain ⟨e0, e1⟩ := hag c
    refine ⟨h0.trans ?_, h1.trans ?_, hargs⟩
    · show _ = arrayA _ _
      rw [← e0, ← e1]
      exact funext (reference_a _ _)
    · show _ = arrayR _ _
      rw [← e0, ← e1]
      exact funext (reference_r _ _)

end Cert.FfnUp

end
-- ==== Proof.FfnDown.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Pipeline.ValueKit
public import proofs.«01_k».proof.Proof.RmsNormBack

/-!
# The squared-ReLU block's down projection, the residual and the next norm

The block's activations times the down projection, added to the tokens; beside it the sum's RMS norm.
-/

@[expose] public section

set_option maxRecDepth 16384

noncomputable section

namespace Cert.FfnDown

open Idealize.ShloMosaic Idealize.ShloMosaic.TcCoe Idealize.SL.Sem
open Idealize.ShloMosaic.Pipeline (Dat)

/-- Channel `k` of token `t` after the block. -/
def tok (x : (⟨2, ![4096, 4096]⟩ : Shape).Idx → EReal) (w : (⟨2, ![4096, 1024]⟩ : Shape).Idx → EReal)
    (h : (⟨2, ![4096, 1024]⟩ : Shape).Idx → EReal) (t : Fin 4096) (k : Fin 1024) : EReal :=
  h (ix2 t k) + ∑ j : Fin 4096, x (ix2 t j) * w (ix2 j k)

/-- Channel `k` of a token `x` divided by the root of its mean square, times the gain. -/
def normed (x g : Fin 1024 → EReal) (k : Fin 1024) : EReal := x k * RmsNorm.inv x * g k

/-- The tokens as an array. -/
def arrayH (x : (⟨2, ![4096, 4096]⟩ : Shape).Idx → EReal) (w : (⟨2, ![4096, 1024]⟩ : Shape).Idx → EReal)
    (h : (⟨2, ![4096, 1024]⟩ : Shape).Idx → EReal) : (⟨2, ![4096, 1024]⟩ : Shape).Idx → EReal :=
  fun y => tok x w h (y 0) (y 1)

/-- The normalised tokens as an array. -/
def arrayN (x : (⟨2, ![4096, 4096]⟩ : Shape).Idx → EReal) (w : (⟨2, ![4096, 1024]⟩ : Shape).Idx → EReal)
    (h : (⟨2, ![4096, 1024]⟩ : Shape).Idx → EReal) (g : (⟨1, ![1024]⟩ : Shape).Idx → EReal) :
    (⟨2, ![4096, 1024]⟩ : Shape).Idx → EReal :=
  fun y => normed (tok x w h (y 0)) (fun k => g (ix1 k)) (y 1)

section call

open Cert.Kernel21Ideal Cert.Kernel21Ideal.Gen

/-- The tokens on a block. -/
def blkTok (x : (⟨2, ![512, 4096]⟩ : Shape).Idx → EReal) (w : (⟨2, ![4096, 1024]⟩ : Shape).Idx → EReal)
    (h : (⟨2, ![512, 1024]⟩ : Shape).Idx → EReal) (r : Fin 512) (k : Fin 1024) : EReal :=
  h (ix2 r k) + ∑ j : Fin 4096, x (ix2 r j) * w (ix2 j k)

theorem block_h (x : Vec Ideal S512x4096 .bf16) (w : Vec Ideal S4096x1024 .bf16) (h : Vec Ideal S512x1024 .f32)
    (g : Vec Ideal S1x1024 .f32) (y : S512x1024.Idx) : out0_4 x w h g y = blkTok x w h (y 0) (y 1) := by
  frame_out
  unfold_payloads
  idx_vars y
  pointwise
  rfl

theorem block_n (x : Vec Ideal S512x4096 .bf16) (w : Vec Ideal S4096x1024 .bf16) (h : Vec Ideal S512x1024 .f32)
    (g : Vec Ideal S1x1024 .f32) (y : S512x1024.Idx) :
    out0_5 x w h g y = normed (blkTok x w h (y 0)) (fun k => g (ix2 0 k)) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![0, 0] ∧
    win0_4.index t = ![t.val, 0] ∧ win0_5.index t = ![t.val, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) (j : Fin 4096) :
    iblk m c 0 t (ix2 r j) = m ((c : Thread nD τ).loc main_arg0) (ix2 (tokRow t r) j) := by
  have idx := indices
  blk_point [iblk, V, idx t] <;> rfl

theorem blk1 (c : Dev nD) (t : Fin cfg0.N) (j : Fin 4096) (k : Fin 1024) :
    iblk m c 1 t (ix2 j k) = m ((c : Thread nD τ).loc main_arg1) (ix2 j k) := by
  have idx := indices
  blk_point [iblk, V, idx t] <;> rfl

theorem blk2 (c : Dev nD) (t : Fin cfg0.N) (r : Fin 512) (k : Fin 1024) :
    iblk m c 2 t (ix2 r k) = m ((c : Thread nD τ).loc main_arg2) (ix2 (tokRow t r) k) := by
  have idx := indices
  blk_point [iblk, V, idx t] <;> rfl

theorem blk3 (c : Dev nD) (t : Fin cfg0.N) (k : Fin 1024) :
    iblk m c 3 t (ix2 0 k) = m ((c : Thread nD τ).loc main_arg3) (ix1 k) := by
  have idx := indices
  blk_point [iblk, V, idx t] <;> rfl

/-- The tokens that the call leaves. -/
abbrev tokOf (c : Dev nD) (t : Fin 4096) (k : Fin 1024) : EReal :=
  tok (m ((c : Thread nD τ).loc main_arg0)) (m ((c : Thread nD τ).loc main_arg1)) (m ((c : Thread nD τ).loc main_arg2)) t k

/-- The normalised tokens that the call leaves. -/
abbrev normOf (c : Dev nD) (t : Fin 4096) (k : Fin 1024) : EReal :=
  normed (tokOf m c t) (fun j => m ((c : Thread nD τ).loc main_arg3) (ix1 j)) k

theorem block_eq (c : Dev nD) (t : Fin cfg0.N) (r : Fin 512) (k : Fin 1024) :
    blkTok (iblk m c 0 t) (iblk m c 1 t) (iblk m c 2 t) r k = tokOf m c (tokRow t r) k := by
  refine congrArg₂ (fun p q : EReal => p + q) (blk2 m c t r k) (Finset.sum_congr rfl fun j _ => ?_)
  rw [blk0, blk1]

theorem outs_h (c : Dev nD) (t : Fin cfg0.N) (y : S512x1024.Idx) :
    out0_4 (iblk m c 0 t) (iblk m c 1 t) (iblk m c 2 t) (iblk m c 3 t) y = tokOf m c (tokRow t (y 0)) (y 1) :=
  (block_h _ _ _ _ y).trans (block_eq m c t (y 0) (y 1))

theorem outs_n (c : Dev nD) (t : Fin cfg0.N) (y : S512x1024.Idx) :
    out0_5 (iblk m c 0 t) (iblk m c 1 t) (iblk m c 2 t) (iblk m c 3 t) y = normOf m c (tokRow t (y 0)) (y 1) :=
  (block_n _ _ _ _ y).trans (congrFun (congrArg₂ normed (funext fun k => block_eq m c t (y 0) k)
    (funext fun k => blk3 m c t k)) (y 1))

theorem arr_h (c : Dev nD) : (dats m 0 c).arrAt 4 cfg0.N = fun y => tokOf m c (y 0) (y 1) := by
  have idx := indices
  refine (dats m 0 c).arrAt_eq_of_covers 4 _ (by decide +kernel) fun t hf y => ?_
  blk_simp
  rw [after0_4]
  refine (outs_h m c t y).trans (congrArg₂ (tokOf m c) (Fin.ext ?_) (Fin.ext ?_)) <;> blk_simp [idx t] <;> rfl

theorem arr_n (c : Dev nD) : (dats m 0 c).arrAt 5 cfg0.N = fun y => normOf m c (y 0) (y 1) := by
  have idx := indices
  refine (dats m 0 c).arrAt_eq_of_covers 5 _ (by decide +kernel) fun t hf y => ?_
  blk_simp
  rw [after0_5]
  refine (outs_n m c t y).trans (congrArg₂ (normOf m c) (Fin.ext ?_) (Fin.ext ?_)) <;> blk_simp [idx t] <;> rfl

/-- The tokens the call leaves, as an array. -/
abbrev wholeH (c : Dev nD) : (⟨2, ![4096, 1024]⟩ : Shape).Idx → EReal :=
  arrayH (m ((c : Thread nD τ).loc main_arg0)) (m ((c : Thread nD τ).loc main_arg1)) (m ((c : Thread nD τ).loc main_arg2))
/-- The normalised tokens the call leaves, as an array. -/
abbrev wholeN (c : Dev nD) : (⟨2, ![4096, 1024]⟩ : Shape).Idx → EReal :=
  arrayN (m ((c : Thread nD τ).loc main_arg0)) (m ((c : Thread nD τ).loc main_arg1)) (m ((c : Thread nD τ).loc main_arg2))
    (m ((c : Thread nD τ).loc main_arg3))

end call

section plain

open Cert.Reference21Ideal Cert.Reference21Ideal.Read

variable (x0 : (⟨S4096x4096, .bf16⟩ : BufTy).Contents (Elt Ideal)) (x1 : (⟨S4096x1024, .bf16⟩ : BufTy).Contents (Elt Ideal))
  (x2 : (⟨S4096x1024, .f32⟩ : BufTy).Contents (Elt Ideal)) (x3 : (⟨S1024, .f32⟩ : BufTy).Contents (Elt Ideal))

theorem reference_h (y : S4096x1024.Idx) : val_main_v3 (F := Ideal) x0 x1 x2 y = arrayH x0 x1 x2 y := by
  rw [← val_main_v3_eq]
  idx_vars y
  pointwise
  rfl

theorem reference_n (y : S4096x1024.Idx) : val_main_v17 (F := Ideal) x0 x1 x2 x3 y = arrayN x0 x1 x2 x3 y := by
  rw [← val_main_v17_eq]
  idx_vars y
  pointwise
  rfl

end plain

/-- The reference's frame. -/
theorem frame_reference : Cert.quiescent_Reference21Ideal := by
  intro m ρ _
  exact (θ_run Cert.Reference21Ideal.defs _ _).mono
    (fun r h => ⟨fun c => (h c).2.2, sem_eq_zero_of_no_sems (by decide) r.2⟩)
    (Cert.Reference21Ideal.Value.run (F := Ideal) m ρ)

/-- The call's results are the reference's. -/
theorem algebraic : Cert.algebraic_Kernel21Ideal_Reference21Ideal := by
  intro m ρ m' ρ' _ hag
  refine ⟨wholeH m, wholeN m, ?_, ?_⟩
  · refine (θ_run Cert.Kernel21Ideal.defs _ _).mono (fun r h c => ?_) (Cert.Kernel21Ideal.Value.run_blocks (F := Ideal) m ρ)
    obtain ⟨h0, h1, hargs⟩ := h c
    exact ⟨h0.trans (arr_h m c), h1.trans (arr_n m c), hargs⟩
  · refine (θ_run Cert.Reference21Ideal.defs _ _).mono (fun r h c => ?_) (Cert.Reference21Ideal.Value.run (F := Ideal) m' ρ')
    obtain ⟨h0, h1, hargs⟩ := h c
    obtain ⟨e0, e1, e2, e3⟩ := hag c
    refine ⟨h0.trans ?_, h1.trans ?_, hargs⟩
    · show _ = arrayH _ _ _
      rw [← e0, ← e1, ← e2]
      exact funext (reference_h _ _ _)
    · show _ = arrayN _ _ _ _
      rw [← e0, ← e1, ← e2, ← e3]
      exact funext (reference_n _ _ _ _)

end Cert.FfnDown

end
-- ==== Proof.MlaUkvDx.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise
public import Idealize.ShloMosaic.Lib.Pipeline.ValueKit

/-!
# The gradient of the normalised key-value latents

The gradients of the heads' keys and values times the heads' up projections, transposed, summed over the heads.
-/

@[expose] public section

set_option maxRecDepth 16256

noncomputable section

namespace Cert.MlaUkvDx

open Idealize.ShloMosaic Idealize.ShloMosaic.TcCoe Idealize.SL.Sem
open Idealize.ShloMosaic.Pipeline (Dat)

/-- What head `g` adds to the gradient of token `t`'s latent channel `i`. -/
def term (w : (⟨3, ![8, 256, 256]⟩ : Shape).Idx → EReal) (d : (⟨3, ![8, 4096, 256]⟩ : Shape).Idx → EReal)
    (t : Fin 4096) (i : Fin 256) (g : Fin 8) : EReal := ∑ j : Fin 256, d (ix3 g t j) * w (ix3 g i j)

/-- The gradient of token `t`'s latent channel `i`. -/
def grad (w : (⟨3, ![8, 256, 256]⟩ : Shape).Idx → EReal) (d : (⟨3, ![8, 4096, 256]⟩ : Shape).Idx → EReal)
    (t : Fin 4096) (i : Fin 256) : EReal := ∑ g : Fin 8, term w d t i g

section call

open Cert.Kernel22Ideal Cert.Kernel22Ideal.Gen

/-- What one head adds on a block of tokens. -/
def blkTerm (d : (⟨3, ![1, 2048, 256]⟩ : Shape).Idx → EReal) (w : (⟨3, ![1, 256, 256]⟩ : Shape).Idx → EReal)
    (r : Fin 2048) (i : Fin 256) : EReal := ∑ j : Fin 256, d (ix3 0 r j) * w (ix3 0 i j)

section block

variable (c : Dev nD) (i : grid0.Coords) (a3 : Memref sig .tc .vmem S1x2048x256 .bf16) (h3 : a3.IsWhole)
  (a4 : Memref sig .tc .vmem S1x256x256 .bf16) (h4 : a4.IsWhole) (a5 : Memref sig .tc .vmem S2048x256 .bf16) (h5 : a5.IsWhole)
  (a6 : Memref sig .tc .vmem S2048x256 .f32) (h6 : a6.IsWhole)
  (d : Vec Ideal S1x2048x256 .bf16) (w : Vec Ideal S1x256x256 .bf16) (acc : Vec Ideal S2048x256 .f32)

/-- At the first head, the sum so far. -/
theorem acc_A (hc0 : cond0_0 i) (hc1 : ¬cond0_1 i) (hc2 : ¬cond0_2 i) (y : S2048x256.Idx) :
    sout0_A_0 c i a3 h3 a4 h4 a5 h5 a6 h6 hc0 hc1 hc2 d w y = blkTerm d w (y 0) (y 1) := by
  frame_out
  unfold_payloads
  idx_vars y
  pointwise
  rfl

/-- At a later head, the sum so far. -/
theorem acc_B (hc0 : ¬cond0_0 i) (hc1 : cond0_1 i) (hc2 : ¬cond0_2 i) (y : S2048x256.Idx) :
    sout0_B_0 c i a3 h3 a4 h4 a5 h5 a6 h6 hc0 hc1 hc2 d w acc y = acc y + blkTerm d w (y 0) (y 1) := by
  frame_out
  unfold_payloads
  idx_vars y
  pointwise
  rfl

/-- At the last head, the sum. -/
theorem acc_C (hc0 : ¬cond0_0 i) (hc1 : cond0_1 i) (hc2 : cond0_2 i) (y : S2048x256.Idx) :
    sout0_C_0 c i a3 h3 a4 h4 a5 h5 a6 h6 hc0 hc1 hc2 d w acc y = acc y + blkTerm d w (y 0) (y 1) := by
  frame_out
  unfold_payloads
  idx_vars y
  pointwise
  rfl

/-- At the last head, the block that is written back. -/
theorem out_C (hc0 : ¬cond0_0 i) (hc1 : cond0_1 i) (hc2 : cond0_2 i) (y : S2048x256.Idx) :
    out0_C_2 c i a3 h3 a4 h4 a5 h5 a6 h6 hc0 hc1 hc2 d w acc y = acc y + blkTerm d w (y 0) (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val % 8, t.val / 8, 0] ∧ win0_1.index t = ![t.val % 8, 0, 0] ∧
    win0_2.index t = ![t.val / 8, 0] := by decide +kernel

theorem lt16 (t : Fin cfg0.N) : t.val < 16 := by have h := t.isLt; have e : cfg0.N = 16 := N_0; omega

/-- The head that point `t` works on. -/
def head (t : Fin cfg0.N) : Fin 8 := ⟨t.val % 8, Nat.mod_lt _ (by decide)⟩

/-- Row `r` of the tokens that point `t` works on. -/
def tokRow (t : Fin cfg0.N) (r : Fin 2048) : Fin 4096 :=
  ⟨t.val / 8 * 2048 + r.val, by have := r.isLt; have := lt16 t; omega⟩

theorem blk0 (c : Dev nD) (t : Fin cfg0.N) (r : Fin 2048) (j : Fin 256) :
    iblk m c 0 t (ix3 0 r j) = m ((c : Thread nD τ).loc main_arg1) (ix3 (head t) (tokRow t r) j) := by
  have idx := indices
  blk_point [iblk, V, idx t] <;> rfl

theorem blk1 (c : Dev nD) (t : Fin cfg0.N) (i : Fin 256) (j : Fin 256) :
    iblk m c 1 t (ix3 0 i j) = m ((c : Thread nD τ).loc main_arg0) (ix3 (head t) i j) := by
  have idx := indices
  blk_point [iblk, V, idx t] <;> rfl

/-- What one head adds, over the call's arguments. -/
abbrev termOf (c : Dev nD) (t : Fin 4096) (i : Fin 256) (g : Fin 8) : EReal :=
  term (m ((c : Thread nD τ).loc main_arg0)) (m ((c : Thread nD τ).loc main_arg1)) t i g

/-- The gradient that the call leaves. -/
abbrev result (c : Dev nD) (t : Fin 4096) (i : Fin 256) : EReal :=
  grad (m ((c : Thread nD τ).loc main_arg0)) (m ((c : Thread nD τ).loc main_arg1)) t i

theorem block_eq (c : Dev nD) (t : Fin cfg0.N) (r : Fin 2048) (i : Fin 256) :
    blkTerm (iblk m c 0 t) (iblk m c 1 t) r i = termOf m c (tokRow t r) i (head t) := by
  refine Finset.sum_congr rfl fun j _ => ?_
  rw [blk0, blk1]

/-- What point `t` adds to the sum. -/
def part (c : Dev nD) (t : Fin cfg0.N) (y : S2048x256.Idx) : EReal := termOf m c (tokRow t (y 0)) (y 1) (head t)

theorem acc_first (c : Dev nD) (t : Fin cfg0.N) (h0 : t.val % 8 = 0) (y : S2048x256.Idx) :
    (outsAt0 m c t.val t.isLt).2 y = 0 + part m c t y := by
  rw [outsAt0_A m c t h0 (by omega) (by omega), zero_add]
  dsimp only
  rw [acc_A]
  exact block_eq ..

theorem acc_later (c : Dev nD) (t : Fin cfg0.N) (h0 : ¬t.val % 8 = 0) (y : S2048x256.Idx) :
    (outsAt0 m c t.val t.isLt).2 y
      = (outsAt0 m c (t.val - 1) (Nat.lt_of_le_of_lt (Nat.sub_le _ _) t.isLt)).2 y + part m c t y := by
  by_cases h2 : t.val % 8 = 7
  · rw [outsAt0_C m c t h0 (by omega) h2]
    dsimp only
    rw [acc_C]
    exact congrArg _ (block_eq ..)
  · rw [outsAt0_B m c t h0 (by omega) h2]
    dsimp only
    rw [acc_B]
    exact congrArg _ (block_eq ..)

theorem acc_last (c : Dev nD) (t : Fin cfg0.N) (ht : t.val % 8 = 8 - 1) (y : S2048x256.Idx) :
    (outsAt0 m c t.val t.isLt).2 y = result m c (tokRow t (y 0)) (y 1) := by
  have e := Pipeline.eq_sum_fin_of_reset_step_apply_of_flush (fun n h => (outsAt0 m c n h).2) 8 (fun _ => (0 : EReal))
    (fun t y => part m c t y) (acc_first m c) (acc_later m c) t ht y
  refine e.trans ?_
  rw [zero_add]
  refine Finset.sum_congr rfl fun g _ => ?_
  have := g.isLt
  exact congrArg₂ (fun a b => termOf m c a (y 1) b)
    (Fin.ext (by show (8 * (t.val / 8) + g.val) / 8 * 2048 + _ = t.val / 8 * 2048 + _; omega))
    (Fin.ext (by show (8 * (t.val / 8) + g.val) % 8 = g.val; omega))

theorem outs (c : Dev nD) (t : Fin cfg0.N) (ht : t.val % 8 = 8 - 1) (y : S2048x256.Idx) :
    (outsAt0 m c t.val t.isLt).1 y = result m c (tokRow t (y 0)) (y 1) := by
  refine Eq.trans ?_ (acc_last m c t ht y)
  rw [outsAt0_C m c t (by omega) (by omega) ht]
  dsimp only
  rw [out_C, acc_C]

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t ((flush0_2 t).mp hf) y).trans (congrArg₂ (result m c) (Fin.ext ?_) (Fin.ext ?_)) <;>
    blk_simp [idx t] <;> rfl

/-- The gradient the call leaves, as an array. -/
abbrev whole (c : Dev nD) : (⟨2, ![4096, 256]⟩ : Shape).Idx → EReal := fun y => result m c (y 0) (y 1)

end call

section plain

open Cert.Reference22Ideal Cert.Reference22Ideal.Read

variable (x0 : (⟨S8x256x256, .bf16⟩ : BufTy).Contents (Elt Ideal)) (x1 : (⟨S8x4096x256, .bf16⟩ : BufTy).Contents (Elt Ideal))

theorem reference (y : S4096x256.Idx) : val_main_v11 (F := Ideal) x0 x1 y = grad x0 x1 (y 0) (y 1) := by
  rw [← val_main_v11_eq]
  idx_vars y
  pointwise
  have s := Fin.sum_univ_univ_mul_add 8 256 fun l => if h : l < 2048 then
    x1 (ix3 (⟨l / 256, by omega⟩ : Fin 8) y0 ⟨l % 256, by omega⟩) * x0 (ix3 (⟨l / 256, by omega⟩ : Fin 8) y1 ⟨l % 256, by omega⟩)
    else 0
  refine (Finset.sum_congr rfl fun l _ => by rw [dif_pos (show l.val < 2048 from l.isLt)]).trans (s.symm.trans
    (Finset.sum_congr rfl fun g _ => Finset.sum_congr rfl fun j _ => ?_))
  have := g.isLt
  have := j.isLt
  rw [dif_pos (by omega)]
  exact congrArg₂ (fun a b => x1 (ix3 a y0 b) * x0 (ix3 a y1 b)) (Fin.ext (by show (g.val * 256 + j.val) / 256 = g.val; omega))
    (Fin.ext (by show (g.val * 256 + j.val) % 256 = j.val; omega))

end plain

/-- The reference's frame. -/
theorem frame_reference : Cert.quiescent_Reference22Ideal := by
  intro m ρ _
  exact (θ_run Cert.Reference22Ideal.defs _ _).mono
    (fun r h => ⟨fun c => (h c).2, sem_eq_zero_of_no_sems (by decide) r.2⟩)
    (Cert.Reference22Ideal.Value.run (F := Ideal) m ρ)

/-- The call's result is the reference's. -/
theorem algebraic : Cert.algebraic_Kernel22Ideal_Reference22Ideal := by
  intro m ρ m' ρ' _ hag
  refine ⟨whole m, ?_, ?_⟩
  · refine (θ_run Cert.Kernel22Ideal.defs _ _).mono (fun r h c => ?_) (Cert.Kernel22Ideal.Value.run_blocks (F := Ideal) m ρ)
    obtain ⟨h3, hargs⟩ := h c
    exact ⟨h3.trans (arr m c), hargs⟩
  · refine (θ_run Cert.Reference22Ideal.defs _ _).mono (fun r h c => ?_) (Cert.Reference22Ideal.Value.run (F := Ideal) m' ρ')
    obtain ⟨h3, hargs⟩ := h c
    obtain ⟨e0, e1⟩ := hag c
    refine ⟨h3.trans ?_, hargs⟩
    unfold whole result
    rw [e0, e1]
    exact funext (reference _ _)

end Cert.MlaUkvDx

end
-- ==== Proof.MlaDownDxFirst.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise
public import Idealize.ShloMosaic.Lib.Pipeline.ValueKit
public import proofs.«01_k».proof.Proof.RmsNormBack

/-!
# Backward through attention's down projection and norm, in the first layer

The latents' gradient times the down projection, transposed, then back through the RMS norm; the tokens' gradient
is added to the one that passed beside the block, and the gain's gradient is summed over the tokens.
-/

@[expose] public section

set_option maxRecDepth 16384

noncomputable section

namespace Cert.MlaDownDxFirst

open Idealize.ShloMosaic Idealize.ShloMosaic.TcCoe Idealize.SL.Sem
open Idealize.ShloMosaic.Pipeline (Dat)

/-- The gradient of the normalised token `t`'s channel `k`. -/
def dot (da : (⟨2, ![4096, 704]⟩ : Shape).Idx → EReal) (w : (⟨2, ![1024, 704]⟩ : Shape).Idx → EReal) (t : Fin 4096)
    (k : Fin 1024) : EReal := ∑ j : Fin 704, da (ix2 t j) * w (ix2 k j)

/-- The gradient of token `t`'s channel `k`. -/
def gradH (h : (⟨2, ![4096, 1024]⟩ : Shape).Idx → EReal) (gain : (⟨1, ![1024]⟩ : Shape).Idx → EReal)
    (w : (⟨2, ![1024, 704]⟩ : Shape).Idx → EReal) (da : (⟨2, ![4096, 704]⟩ : Shape).Idx → EReal)
    (dh : (⟨2, ![4096, 1024]⟩ : Shape).Idx → EReal) (t : Fin 4096) (k : Fin 1024) : EReal :=
  dh (ix2 t k) + RmsNorm.back (fun j => h (ix2 t j)) (fun j => dot da w t j * gain (ix1 j)) k

/-- What token `t` adds to the gradient of the gain at channel `k`. -/
def termG (h : (⟨2, ![4096, 1024]⟩ : Shape).Idx → EReal) (w : (⟨2, ![1024, 704]⟩ : Shape).Idx → EReal)
    (da : (⟨2, ![4096, 704]⟩ : Shape).Idx → EReal) (t : Fin 4096) (k : Fin 1024) : EReal :=
  h (ix2 t k) * RmsNorm.inv (fun j => h (ix2 t j)) * dot da w t k

/-- The gradient of the gain at channel `k`. -/
def gradG (h : (⟨2, ![4096, 1024]⟩ : Shape).Idx → EReal) (w : (⟨2, ![1024, 704]⟩ : Shape).Idx → EReal)
    (da : (⟨2, ![4096, 704]⟩ : Shape).Idx → EReal) (k : Fin 1024) : EReal := ∑ t : Fin 4096, termG h w da t k

/-- The tokens' gradient as an array. -/
def arrayH (h : (⟨2, ![4096, 1024]⟩ : Shape).Idx → EReal) (gain : (⟨1, ![1024]⟩ : Shape).Idx → EReal)
    (w : (⟨2, ![1024, 704]⟩ : Shape).Idx → EReal) (da : (⟨2, ![4096, 704]⟩ : Shape).Idx → EReal)
    (dh : (⟨2, ![4096, 1024]⟩ : Shape).Idx → EReal) : (⟨2, ![4096, 1024]⟩ : Shape).Idx → EReal :=
  fun y => gradH h gain w da dh (y 0) (y 1)

/-- The gain's gradient as an array. -/
def arrayG (h : (⟨2, ![4096, 1024]⟩ : Shape).Idx → EReal) (w : (⟨2, ![1024, 704]⟩ : Shape).Idx → EReal)
    (da : (⟨2, ![4096, 704]⟩ : Shape).Idx → EReal) : (⟨2, ![1, 1024]⟩ : Shape).Idx → EReal :=
  fun y => gradG h w da (y 1)

section call

open Cert.Kernel23Ideal Cert.Kernel23Ideal.Gen

/-- `dot` on a block of tokens. -/
def blkDot (da : (⟨2, ![1024, 704]⟩ : Shape).Idx → EReal) (w : (⟨2, ![1024, 704]⟩ : Shape).Idx → EReal) (r : Fin 1024)
    (k : Fin 1024) : EReal := ∑ j : Fin 704, da (ix2 r j) * w (ix2 k j)

/-- `gradH` on a block of tokens. -/
def blkH (da : (⟨2, ![1024, 704]⟩ : Shape).Idx → EReal) (w : (⟨2, ![1024, 704]⟩ : Shape).Idx → EReal)
    (h dh : (⟨2, ![1024, 1024]⟩ : Shape).Idx → EReal) (gain : (⟨2, ![1, 1024]⟩ : Shape).Idx → EReal) (r : Fin 1024)
    (k : Fin 1024) : EReal :=
  dh (ix2 r k) + RmsNorm.back (fun j => h (ix2 r j)) (fun j => blkDot da w r j * gain (ix2 0 j)) k

/-- What a block of tokens adds to the gradient of the gain. -/
def blkG (da : (⟨2, ![1024, 704]⟩ : Shape).Idx → EReal) (w : (⟨2, ![1024, 704]⟩ : Shape).Idx → EReal)
    (h : (⟨2, ![1024, 1024]⟩ : Shape).Idx → EReal) (k : Fin 1024) : EReal :=
  ∑ r : Fin 1024, h (ix2 r k) * RmsNorm.inv (fun j => h (ix2 r j)) * blkDot da w r k

section block

variable (c : Dev nD) (i : grid0.Coords) (a3 : Memref sig .tc .vmem S1024x704 .bf16) (h3 : a3.IsWhole)
  (a4 : Memref sig .tc .vmem S1024x704 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole)
  (da : Vec Ideal S1024x704 .bf16) (w : Vec Ideal S1024x704 .bf16) (h dh : Vec Ideal S1024x1024 .f32)
  (gain og : Vec Ideal S1x1024 .f32)

/-- At the first point, the tokens' gradient. -/
theorem dh_A (hc0 : cond0_0 i) (hc1 : ¬cond0_1 i) (y : S1024x1024.Idx) :
    out0_A_5 c i a3 h3 a4 h4 a5 h5 a6 h6 a7 h7 a8 h8 a9 h9 a10 h10 hc0 hc1 da w h dh gain y = blkH da w h dh gain (y 0) (y 1) := by
  frame_out
  unfold_payloads
  idx_vars y
  pointwise
  simp only [Fin.sum_univ_one]
  rfl

/-- At the first point, the tokens' gradient, the second copy. -/
theorem dhb_A (hc0 : cond0_0 i) (hc1 : ¬cond0_1 i) (y : S1024x1024.Idx) :
    out0_A_6 c i a3 h3 a4 h4 a5 h5 a6 h6 a7 h7 a8 h8 a9 h9 a10 h10 hc0 hc1 da w h dh gain y = blkH da w h dh gain (y 0) (y 1) := by
  frame_out
  unfold_payloads
  idx_vars y
  pointwise
  simp only [Fin.sum_univ_one]
  rfl

/-- At the first point, the gain's gradient. -/
theorem dg_A (hc0 : cond0_0 i) (hc1 : ¬cond0_1 i) (y : S1x1024.Idx) :
    out0_A_7 c i a3 h3 a4 h4 a5 h5 a6 h6 a7 h7 a8 h8 a9 h9 a10 h10 hc0 hc1 da w h dh gain y = blkG da w h (y 1) := by
  frame_out
  unfold_payloads
  idx_vars y
  pointwise
  rfl

/-- At a later point, the tokens' gradient. -/
theorem dh_B (hc0 : ¬cond0_0 i) (hc1 : cond0_1 i) (y : S1024x1024.Idx) :
    out0_B_5 c i a3 h3 a4 h4 a5 h5 a6 h6 a7 h7 a8 h8 a9 h9 a10 h10 hc0 hc1 da w h dh gain og y = blkH da w h dh gain (y 0) (y 1) := by
  frame_out
  unfold_payloads
  idx_vars y
  pointwise
  simp only [Fin.sum_univ_one]
  rfl

/-- At a later point, the tokens' gradient, the second copy. -/
theorem dhb_B (hc0 : ¬cond0_0 i) (hc1 : cond0_1 i) (y : S1024x1024.Idx) :
    out0_B_6 c i a3 h3 a4 h4 a5 h5 a6 h6 a7 h7 a8 h8 a9 h9 a10 h10 hc0 hc1 da w h dh gain og y = blkH da w h dh gain (y 0) (y 1) := by
  frame_out
  unfold_payloads
  idx_vars y
  pointwise
  simp only [Fin.sum_univ_one]
  rfl

/-- At a later point, the gain's gradient. -/
theorem dg_B (hc0 : ¬cond0_0 i) (hc1 : cond0_1 i) (y : S1x1024.Idx) :
    out0_B_7 c i a3 h3 a4 h4 a5 h5 a6 h6 a7 h7 a8 h8 a9 h9 a10 h10 hc0 hc1 da w h dh gain og y = og y + blkG da w h (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧ win0_4.index t = ![0, 0] ∧
    win0_5.index t = ![t.val, 0] ∧ win0_6.index t = ![t.val, 0] ∧ win0_7.index t = ![0, 0] := by decide +kernel

theorem lt4 (t : Fin cfg0.N) : t.val < 4 := by have h := t.isLt; have e : cfg0.N = 4 := N_0; omega

/-- Row `r` of the tokens that point `t` works on. -/
def tokRow (t : Fin cfg0.N) (r : Fin 1024) : Fin 4096 := ⟨t.val * 1024 + r.val, by have := r.isLt; have := lt4 t; omega⟩

theorem blk0 (c : Dev nD) (t : Fin cfg0.N) (r : Fin 1024) (j : Fin 704) :
    iblk m c 0 t (ix2 r j) = m ((c : Thread nD τ).loc main_arg3) (ix2 (tokRow t r) j) := by
  have idx := indices
  blk_point [iblk, V, idx t] <;> rfl

theorem blk1 (c : Dev nD) (t : Fin cfg0.N) (k : Fin 1024) (j : Fin 704) :
    iblk m c 1 t (ix2 k j) = m ((c : Thread nD τ).loc main_arg2) (ix2 k j) := by
  have idx := indices
  blk_point [iblk, V, idx t] <;> rfl

theorem blk2 (c : Dev nD) (t : Fin cfg0.N) (r : Fin 1024) (k : Fin 1024) :
    iblk m c 2 t (ix2 r k) = m ((c : Thread nD τ).loc main_arg0) (ix2 (tokRow t r) k) := by
  have idx := indices
  blk_point [iblk, V, idx t] <;> rfl

theorem blk3 (c : Dev nD) (t : Fin cfg0.N) (r : Fin 1024) (k : Fin 1024) :
    iblk m c 3 t (ix2 r k) = m ((c : Thread nD τ).loc main_arg4) (ix2 (tokRow t r) k) := by
  have idx := indices
  blk_point [iblk, V, idx t] <;> rfl

theorem blk4 (c : Dev nD) (t : Fin cfg0.N) (k : Fin 1024) :
    iblk m c 4 t (ix2 0 k) = m ((c : Thread nD τ).loc main_arg1) (ix1 k) := by
  have idx := indices
  blk_point [iblk, V, idx t] <;> rfl

/-- The tokens' gradient that the call leaves. -/
abbrev resultH (c : Dev nD) (t : Fin 4096) (k : Fin 1024) : EReal :=
  gradH (m ((c : Thread nD τ).loc main_arg0)) (m ((c : Thread nD τ).loc main_arg1)) (m ((c : Thread nD τ).loc main_arg2))
    (m ((c : Thread nD τ).loc main_arg3)) (m ((c : Thread nD τ).loc main_arg4)) t k

/-- What token `t` adds to the gain's gradient. -/
abbrev termOf (c : Dev nD) (t : Fin 4096) (k : Fin 1024) : EReal :=
  termG (m ((c : Thread nD τ).loc main_arg0)) (m ((c : Thread nD τ).loc main_arg2)) (m ((c : Thread nD τ).loc main_arg3)) t k

/-- The gain's gradient that the call leaves. -/
abbrev resultG (c : Dev nD) (k : Fin 1024) : EReal :=
  gradG (m ((c : Thread nD τ).loc main_arg0)) (m ((c : Thread nD τ).loc main_arg2)) (m ((c : Thread nD τ).loc main_arg3)) k

theorem dot_eq (c : Dev nD) (t : Fin cfg0.N) (r : Fin 1024) (k : Fin 1024) :
    blkDot (iblk m c 0 t) (iblk m c 1 t) r k
      = dot (m ((c : Thread nD τ).loc main_arg3)) (m ((c : Thread nD τ).loc main_arg2)) (tokRow t r) k := by
  refine Finset.sum_congr rfl fun j _ => ?_
  rw [blk0, blk1]

theorem blkH_eq (c : Dev nD) (t : Fin cfg0.N) (r : Fin 1024) (k : Fin 1024) :
    blkH (iblk m c 0 t) (iblk m c 1 t) (iblk m c 2 t) (iblk m c 3 t) (iblk m c 4 t) r k = resultH m c (tokRow t r) k := by
  unfold blkH
  refine congrArg₂ (fun p q : EReal => p + q) (blk3 m c t r k) (congrFun (congrArg₂ RmsNorm.back (funext fun j => blk2 m c t r j) (funext fun j => ?_)) k)
  rw [blk4, dot_eq]

/-- What point `t` adds to the gain's gradient. -/
def partG (c : Dev nD) (t : Fin cfg0.N) (k : Fin 1024) : EReal := ∑ r : Fin 1024, termOf m c (tokRow t r) k

theorem blkG_eq (c : Dev nD) (t : Fin cfg0.N) (k : Fin 1024) :
    blkG (iblk m c 0 t) (iblk m c 1 t) (iblk m c 2 t) k = partG m c t k := by
  refine Finset.sum_congr rfl fun r _ => ?_
  rw [dot_eq]
  refine congrArg (· * _) (congrArg₂ (· * ·) (blk2 m c t r k) (congrArg RmsNorm.inv (funext fun j => blk2 m c t r j)))

theorem outs5 (c : Dev nD) (t : Fin cfg0.N) (y : S1024x1024.Idx) :
    (outsAt0 m c t.val t.isLt).1 y = resultH m c (tokRow t (y 0)) (y 1) := by
  refine Eq.trans ?_ (blkH_eq m c t (y 0) (y 1))
  have := lt4 t
  by_cases h0 : t.val % 4 = 0
  · rw [outsAt0_A m c t h0 (by omega)]
    dsimp only
    rw [dh_A]
  · rw [outsAt0_B m c t h0 (by omega)]
    dsimp only
    rw [dh_B]

theorem outs6 (c : Dev nD) (t : Fin cfg0.N) (y : S1024x1024.Idx) :
    (outsAt0 m c t.val t.isLt).2.1 y = resultH m c (tokRow t (y 0)) (y 1) := by
  refine Eq.trans ?_ (blkH_eq m c t (y 0) (y 1))
  have := lt4 t
  by_cases h0 : t.val % 4 = 0
  · rw [outsAt0_A m c t h0 (by omega)]
    dsimp only
    rw [dhb_A]
  · rw [outsAt0_B m c t h0 (by omega)]
    dsimp only
    rw [dhb_B]

theorem outs7_first (c : Dev nD) (t : Fin cfg0.N) (h0 : t.val % 4 = 0) (y : S1x1024.Idx) :
    (outsAt0 m c t.val t.isLt).2.2 y = 0 + partG m c t (y 1) := by
  have := lt4 t
  rw [outsAt0_A m c t h0 (by omega), zero_add]
  dsimp only
  rw [dg_A]
  exact blkG_eq ..

theorem outs7_later (c : Dev nD) (t : Fin cfg0.N) (h0 : ¬t.val % 4 = 0) (y : S1x1024.Idx) :
    (outsAt0 m c t.val t.isLt).2.2 y
      = (outsAt0 m c (t.val - 1) (Nat.lt_of_le_of_lt (Nat.sub_le _ _) t.isLt)).2.2 y + partG m c t (y 1) := by
  have := lt4 t
  rw [outsAt0_B m c t h0 (by omega)]
  dsimp only
  rw [dg_B]
  exact congrArg _ (blkG_eq ..)

theorem outs7 (c : Dev nD) (t : Fin cfg0.N) (ht : t.val % 4 = 4 - 1) (y : S1x1024.Idx) :
    (outsAt0 m c t.val t.isLt).2.2 y = resultG m c (y 1) := by
  have e := Pipeline.eq_sum_fin_of_reset_step_apply_of_flush (fun n h => (outsAt0 m c n h).2.2) 4 (fun _ => (0 : EReal))
    (fun t y => partG m c t (y 1)) (outs7_first m c) (outs7_later m c) t ht y
  refine e.trans ?_
  rw [zero_add]
  have s := Fin.sum_univ_univ_mul_add 4 1024 fun l => if h : l < 4096 then termOf m c ⟨l, h⟩ (y 1) else 0
  refine (Finset.sum_congr rfl fun l _ => Finset.sum_congr rfl fun r _ => ?_).trans
    (s.trans (Finset.sum_congr rfl fun l _ => dif_pos l.isLt))
  have := l.isLt
  have := r.isLt
  have := lt4 t
  rw [dif_pos (by omega)]
  exact congrArg (termOf m c · (y 1)) (Fin.ext (by show (4 * (t.val / 4) + l.val) * 1024 + r.val = l.val * 1024 + r.val; omega))

theorem arr5 (c : Dev nD) : (dats m 0 c).arrAt 5 cfg0.N = fun y => resultH m c (y 0) (y 1) := by
  have idx := indices
  refine (dats m 0 c).arrAt_eq_of_covers 5 _ (by decide +kernel) fun t hf y => ?_
  blk_simp
  rw [after0_5]
  refine (outs5 m c t y).trans (congrArg₂ (resultH m c) (Fin.ext ?_) (Fin.ext ?_)) <;> blk_simp [idx t] <;> rfl

theorem arr6 (c : Dev nD) : (dats m 0 c).arrAt 6 cfg0.N = fun y => resultH m c (y 0) (y 1) := by
  have idx := indices
  refine (dats m 0 c).arrAt_eq_of_covers 6 _ (by decide +kernel) fun t hf y => ?_
  blk_simp
  rw [after0_6]
  refine (outs6 m c t y).trans (congrArg₂ (resultH m c) (Fin.ext ?_) (Fin.ext ?_)) <;> blk_simp [idx t] <;> rfl

theorem arr7 (c : Dev nD) : (dats m 0 c).arrAt 7 cfg0.N = fun y => resultG m c (y 1) := by
  have idx := indices
  refine (dats m 0 c).arrAt_eq_of_covers 7 _ (by decide +kernel) fun t hf y => ?_
  blk_simp
  rw [after0_7]
  idx_bounds y
  refine (outs7 m c t ((flush0_7 t).mp hf) y).trans (congrArg (resultG m c) (Fin.ext ?_)) <;> blk_simp [idx t]

/-- The tokens' gradient the call leaves, as an array. -/
abbrev wholeH (c : Dev nD) : (⟨2, ![4096, 1024]⟩ : Shape).Idx → EReal :=
  arrayH (m ((c : Thread nD τ).loc main_arg0)) (m ((c : Thread nD τ).loc main_arg1))
    (m ((c : Thread nD τ).loc main_arg2)) (m ((c : Thread nD τ).loc main_arg3)) (m ((c : Thread nD τ).loc main_arg4))

/-- The gain's gradient the call leaves, as an array. -/
abbrev wholeG (c : Dev nD) : (⟨2, ![1, 1024]⟩ : Shape).Idx → EReal :=
  arrayG (m ((c : Thread nD τ).loc main_arg0)) (m ((c : Thread nD τ).loc main_arg2)) (m ((c : Thread nD τ).loc main_arg3))

end call

section plain

open Cert.Reference23Ideal Cert.Reference23Ideal.Read Cert.Reference23Ideal.Value

variable (m : (ℓ : Loc nD τ sig) → Buf (Elt Ideal) ℓ) (c : Dev nD)

theorem reference_h (y : S4096x1024.Idx) : res_main_v40 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v40
  idx_vars y
  pointwise
  simp only [Fin.sum_univ_one]
  rw [add_assoc, add_assoc, ← add_assoc (_ * _)]
  rfl

theorem reference_hb (y : S4096x1024.Idx) : res_main_v42 (F := Ideal) m c y
    = gradH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (y 0) (y 1) := by
  unfold res_main_v42
  exact reference_h m c y

theorem reference_g (x0 : (⟨S4096x1024, .f32⟩ : BufTy).Contents (Elt Ideal))
    (x2 : (⟨S1024x704, .bf16⟩ : BufTy).Contents (Elt Ideal)) (x3 : (⟨S4096x704, .bf16⟩ : BufTy).Contents (Elt Ideal))
    (y : S1x1024.Idx) : val_main_v41 (F := Ideal) x0 x2 x3 y = gradG x0 x2 x3 (y 1) := by
  rw [← val_main_v41_eq]
  idx_vars y
  pointwise
  simp only [Fin.sum_univ_one]
  rfl

end plain

/-- The reference's frame. -/
theorem frame_reference : Cert.quiescent_Reference23Ideal := by
  intro m ρ _
  exact (θ_run Cert.Reference23Ideal.defs _ _).mono
    (fun r h => ⟨fun c => (h c).2.2.2, sem_eq_zero_of_no_sems (by decide) r.2⟩)
    (Cert.Reference23Ideal.Value.run (F := Ideal) m ρ)

/-- The call's results are the reference's. -/
theorem algebraic : Cert.algebraic_Kernel23Ideal_Reference23Ideal := by
  intro m ρ m' ρ' _ hag
  refine ⟨wholeH m, wholeH m, wholeG m, ?_, ?_⟩
  · refine (θ_run Cert.Kernel23Ideal.defs _ _).mono (fun r h c => ?_) (Cert.Kernel23Ideal.Value.run_blocks (F := Ideal) m ρ)
    obtain ⟨h5, h6, h7, hargs⟩ := h c
    exact ⟨h5.trans (arr5 m c), h6.trans (arr6 m c), h7.trans (arr7 m c), hargs⟩
  · refine (θ_run Cert.Reference23Ideal.defs _ _).mono (fun r h c => ?_) (Cert.Reference23Ideal.Value.run (F := Ideal) m' ρ')
    obtain ⟨h5, h6, h7, hargs⟩ := h c
    obtain ⟨e0, e1, e2, e3, e4⟩ := hag c
    refine ⟨h5.trans ?_, h6.trans ?_, h7.trans ?_, hargs⟩
    · show _ = arrayH _ _ _ _ _
      rw [← e0, ← e1, ← e2, ← e3, ← e4]
      exact funext (reference_h m' c)
    · show _ = arrayH _ _ _ _ _
      rw [← e0, ← e1, ← e2, ← e3, ← e4]
      exact funext (reference_hb m' c)
    · show _ = arrayG _ _ _
      rw [← e0, ← e2, ← e3]
      exact funext (reference_g _ _ _)

end Cert.MlaDownDxFirst

end
-- ==== Proof.Forward.lean ====
module

public import Idealize.ShloMosaic.Lib.Pointwise
public import Idealize.ShloMosaic.Lib.Pipeline.ValueKit
public import proofs.«01_k».proof.Proof.RmsNormBack

/-!
# What the forward calls compute

A product, the residual beside it, the gated input embedding, and the RMS norm of a token.
-/

@[expose] public section

noncomputable section

namespace Cert.Forward

open Idealize.ShloMosaic

/-- An array of `a` rows and `b` columns. -/
abbrev Mat (a b : ℕ) := (⟨2, ![a, b]⟩ : Shape).Idx → EReal
/-- Row `r` and column `j` of a product. -/
def prod {a k b : ℕ} (x : Mat a k) (w : Mat k b) (r : Fin a) (j : Fin b) : EReal := ∑ i : Fin k, x (ix2 r i) * w (ix2 i j)

/-- A product depends on one row of its first factor and one column of its second. -/
theorem prod_congr {a a' k b b' : ℕ} {x : Mat a k} {w : Mat k b} {x' : Mat a' k} {w' : Mat k b'} {r : Fin a} {j : Fin b}
    {r' : Fin a'} {j' : Fin b'} (hx : ∀ i, x (ix2 r i) = x' (ix2 r' i)) (hw : ∀ i, w (ix2 i j) = w' (ix2 i j')) :
    prod x w r j = prod x' w' r' j' := Finset.sum_congr rfl fun i _ => by rw [hx, hw]

/-- A product added to the tokens. -/
def added {a k : ℕ} (x : Mat a k) (w : Mat k 1024) (h : Mat a 1024) (r : Fin a) (j : Fin 1024) : EReal :=
  h (ix2 r j) + prod x w r j

/-- The sigmoid. -/
def sigmoid (x : EReal) : EReal := Ideal.div (Ideal.ofBits .f32 0x3F800000#32) (Ideal.ofBits .f32 0x3F800000#32 + Ideal.exp (-x))

/-- A product, gated, added to the tokens. -/
def gated {a k : ℕ} (x : Mat a k) (w : Mat k 1024) (g h : Mat a 1024) (r : Fin a) (j : Fin 1024) : EReal :=
  h (ix2 r j) + sigmoid (g (ix2 r j)) * prod x w r j

/-- Channel `k` of a token `x` divided by the root of its mean square, times the gain. -/
def normed (x g : Fin 1024 → EReal) (k : Fin 1024) : EReal := x k * RmsNorm.inv x * g k

theorem normed_congr {x x' g g' : Fin 1024 → EReal} {k : Fin 1024} (hx : ∀ j, x j = x' j) (hg : ∀ j, g j = g' j) :
    normed x g k = normed x' g' k := by rw [funext hx, funext hg]

/-- A product as an array. -/
def prodA {a k b : ℕ} (x : Mat a k) (w : Mat k b) : Mat a b := fun y => prod x w (y 0) (y 1)
/-- The tokens after a block, as an array. -/
def addedA {a k : ℕ} (x : Mat a k) (w : Mat k 1024) (h : Mat a 1024) : Mat a 1024 := fun y => added x w h (y 0) (y 1)
/-- The tokens after the gated input embedding, as an array. -/
def gatedA {a k : ℕ} (x : Mat a k) (w : Mat k 1024) (g h : Mat a 1024) : Mat a 1024 := fun y => gated x w g h (y 0) (y 1)
/-- The normalised tokens, as an array. -/
def normedA {a : ℕ} (h : Mat a 1024) (g : (⟨1, ![1024]⟩ : Shape).Idx → EReal) : Mat a 1024 :=
  fun y => normed (fun j => h (ix2 (y 0) j)) (fun j => g (ix1 j)) (y 1)

/-- Channel `k` of token `t` in the product by head `h`'s weights. -/
def headAt {a k b : ℕ} (x : Mat a k) (w : (⟨3, ![8, k, b]⟩ : Shape).Idx → EReal) (h : Fin 8) (t : Fin a) (j : Fin b) : EReal :=
  ∑ i : Fin k, x (ix2 t i) * w (ix3 h i j)

/-- Eight weights, one per head, times the tokens, one head after the other. -/
def headsA {a k b : ℕ} (x : Mat a k) (w : (⟨3, ![8, k, b]⟩ : Shape).Idx → EReal) : (⟨3, ![8, a, b]⟩ : Shape).Idx → EReal :=
  fun y => headAt x w (y 0) (y 1) (y 2)

end Cert.Forward

end
-- ==== Proof.GmlpIn.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.Pipeline.ValueKit
public import proofs.«01_k».proof.Proof.Forward

/-!
# The gated block's input projection

The product of the normalised tokens with the projection.
-/

@[expose] public section

set_option maxRecDepth 16384

noncomputable section

namespace Cert.GmlpIn

open Cert.Forward Idealize.ShloMosaic Idealize.ShloMosaic.TcCoe Idealize.SL.Sem
open Idealize.ShloMosaic.Pipeline (Dat)

section call

open Cert.Kernel24Ideal Cert.Kernel24Ideal.Gen

theorem block (x : Vec Ideal S2048x1024 .bf16) (w : Vec Ideal S1024x1024 .bf16) (y : S2048x1024.Idx) :
    out0_2 x w y = prod x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 4, 0] ∧ win0_1.index t = ![0, t.val % 4] ∧
    win0_2.index t = ![t.val / 4, t.val % 4] := by decide +kernel

theorem lt8 (t : Fin cfg0.N) : t.val < 8 := by have h := t.isLt; have e : cfg0.N = 8 := N_0; omega

/-- Row `r` of the tokens that point `t` works on. -/
def tokRow (t : Fin cfg0.N) (r : Fin 2048) : Fin 4096 := ⟨t.val / 4 * 2048 + r.val, by have := r.isLt; have := lt8 t; omega⟩

/-- Column `f` of the channels that point `t` works on. -/
def chan (t : Fin cfg0.N) (f : Fin 1024) : Fin 4096 := ⟨t.val % 4 * 1024 + f.val, by have := f.isLt; omega⟩

theorem blk0 (c : Dev nD) (t : Fin cfg0.N) (r : Fin 2048) (i : Fin 1024) :
    iblk m c 0 t (ix2 r i) = m ((c : Thread nD τ).loc main_arg0) (ix2 (tokRow t r) i) := by
  have idx := indices
  blk_point [iblk, V, idx t] <;> rfl

theorem blk1 (c : Dev nD) (t : Fin cfg0.N) (i : Fin 1024) (f : Fin 1024) :
    iblk m c 1 t (ix2 i f) = m ((c : Thread nD τ).loc main_arg1) (ix2 i (chan t f)) := by
  have idx := indices
  blk_point [iblk, V, idx t] <;> rfl

/-- The product that the call leaves. -/
abbrev result (c : Dev nD) (t : Fin 4096) (f : Fin 4096) : EReal := prod (m ((c : Thread nD τ).loc main_arg0) : Mat 4096 1024) (m ((c : Thread nD τ).loc main_arg1) : Mat 1024 4096) t f

theorem outs (c : Dev nD) (t : Fin cfg0.N) (y : S2048x1024.Idx) :
    out0_2 (iblk m c 0 t) (iblk m c 1 t) y = result m c (tokRow t (y 0)) (chan t (y 1)) :=
  (block _ _ y).trans (prod_congr (fun i => blk0 m c t (y 0) i) (fun i => blk1 m c t i (y 1)))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

/-- The product the call leaves, as an array. -/
abbrev whole (c : Dev nD) : Mat 4096 4096 := prodA (m ((c : Thread nD τ).loc main_arg0) : Mat 4096 1024) (m ((c : Thread nD τ).loc main_arg1) : Mat 1024 4096)

end call

section plain

open Cert.Reference24Ideal Cert.Reference24Ideal.Read

variable (x0 : (⟨S4096x1024, .bf16⟩ : BufTy).Contents (Elt Ideal)) (x1 : (⟨S1024x4096, .bf16⟩ : BufTy).Contents (Elt Ideal))

theorem reference (y : S4096x4096.Idx) : val_main_v3 (F := Ideal) x0 x1 y = prodA (x0 : Mat 4096 1024) (x1 : Mat 1024 4096) y := by
  rw [← val_main_v3_eq]
  idx_vars y
  pointwise
  rfl

end plain

/-- The reference's frame. -/
theorem frame_reference : Cert.quiescent_Reference24Ideal := by
  intro m ρ _
  exact (θ_run Cert.Reference24Ideal.defs _ _).mono
    (fun r h => ⟨fun c => (h c).2, sem_eq_zero_of_no_sems (by decide) r.2⟩)
    (Cert.Reference24Ideal.Value.run (F := Ideal) m ρ)

/-- The call's results are the reference's. -/
theorem algebraic : Cert.algebraic_Kernel24Ideal_Reference24Ideal := by
  intro m ρ m' ρ' _ hag
  refine ⟨whole m, ?_, ?_⟩
  · refine (θ_run Cert.Kernel24Ideal.defs _ _).mono (fun r h c => ?_) (Cert.Kernel24Ideal.Value.run_blocks (F := Ideal) m ρ)
    obtain ⟨h0, hargs⟩ := h c
    exact ⟨h0.trans (arr m c), hargs⟩
  · refine (θ_run Cert.Reference24Ideal.defs _ _).mono (fun r h c => ?_) (Cert.Reference24Ideal.Value.run (F := Ideal) m' ρ')
    obtain ⟨h0, hargs⟩ := h c
    obtain ⟨e0, e1⟩ := hag c
    refine ⟨h0.trans ?_, hargs⟩
    · show _ = prodA _ _
      rw [← e0, ← e1]
      exact funext (reference _ _)

end Cert.GmlpIn

end
-- ==== Proof.MlaDown.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pointwise
public import Idealize.ShloMosaic.Lib.Pipeline.ValueKit
public import proofs.«01_k».proof.Proof.Forward

/-!
# Attention's down projection

The product of the normalised tokens with the projection: the latents.
-/

@[expose] public section

set_option maxRecDepth 16384

noncomputable section

namespace Cert.MlaDown

open Cert.Forward Idealize.ShloMosaic Idealize.ShloMosaic.TcCoe Idealize.SL.Sem
open Idealize.ShloMosaic.Pipeline (Dat)

section call

open Cert.Kernel25Ideal Cert.Kernel25Ideal.Gen

theorem block (x : Vec Ideal S2048x1024 .bf16) (w : Vec Ideal S1024x704 .bf16) (y : S2048x704.Idx) :
    out0_2 x w y = prod x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] := by decide +kernel

theorem lt2 (t : Fin cfg0.N) : t.val < 2 := by have h := t.isLt; have e : cfg0.N = 2 := N_0; omega

/-- Row `r` of the tokens that point `t` works on. -/
def tokRow (t : Fin cfg0.N) (r : Fin 2048) : Fin 4096 := ⟨t.val * 2048 + r.val, by have := r.isLt; have := lt2 t; omega⟩

theorem blk0 (c : Dev nD) (t : Fin cfg0.N) (r : Fin 2048) (i : Fin 1024) :
    iblk m c 0 t (ix2 r i) = m ((c : Thread nD τ).loc main_arg0) (ix2 (tokRow t r) i) := by
  have idx := indices
  blk_point [iblk, V, idx t] <;> rfl

theorem blk1 (c : Dev nD) (t : Fin cfg0.N) (i : Fin 1024) (f : Fin 704) :
    iblk m c 1 t (ix2 i f) = m ((c : Thread nD τ).loc main_arg1) (ix2 i f) := by
  have idx := indices
  blk_point [iblk, V, idx t] <;> rfl

/-- The product that the call leaves. -/
abbrev result (c : Dev nD) (t : Fin 4096) (f : Fin 704) : EReal := prod (m ((c : Thread nD τ).loc main_arg0) : Mat 4096 1024) (m ((c : Thread nD τ).loc main_arg1) : Mat 1024 704) t f

theorem outs (c : Dev nD) (t : Fin cfg0.N) (y : S2048x704.Idx) :
    out0_2 (iblk m c 0 t) (iblk m c 1 t) y = result m c (tokRow t (y 0)) (y 1) :=
  (block _ _ y).trans (prod_congr (fun i => blk0 m c t (y 0) i) (fun i => blk1 m c t i (y 1)))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

/-- The product the call leaves, as an array. -/
abbrev whole (c : Dev nD) : Mat 4096 704 := prodA (m ((c : Thread nD τ).loc main_arg0) : Mat 4096 1024) (m ((c : Thread nD τ).loc main_arg1) : Mat 1024 704)

end call

section plain

open Cert.Reference25Ideal Cert.Reference25Ideal.Read

variable (x0 : (⟨S4096x1024, .bf16⟩ : BufTy).Contents (Elt Ideal)) (x1 : (⟨S1024x704, .bf16⟩ : BufTy).Contents (Elt Ideal))

theorem reference (y : S4096x704.Idx) : val_main_v2 (F := Ideal) x0 x1 y = prodA (x0 : Mat 4096 1024) (x1 : Mat 1024 704) y := by
  rw [← val_main_v2_eq]
  idx_vars y
  pointwise
  rfl

end plain

/-- The reference's frame. -/
theorem frame_reference : Cert.quiescent_Reference25Ideal := by
  intro m ρ _
  exact (θ_run Cert.Reference25Ideal.defs _ _).mono
    (fun r h => ⟨fun c => (h c).2, sem_eq_zero_of_no_sems (by decide) r.2⟩)
    (Cert.Reference25Ideal.Value.run (F := Ideal) m ρ)

/-- The call's results are the reference's. -/
theorem algebraic : Cert.algebraic_Kernel25Ideal_Reference25Ideal := by
  intro m ρ m' ρ' _ hag
  refine ⟨whole m, ?_, ?_⟩
  · refine (θ_run Cert.Kernel25Ideal.defs _ _).mono (fun r h c => ?_) (Cert.Kernel25Ideal.Value.run_blocks (F := Ideal) m ρ)
    obtain ⟨h0, hargs⟩ := h c
    exact ⟨h0.trans (arr m c), hargs⟩
  · refine (θ_run Cert.Reference25Ideal.defs _ _).mono (fun r h c => ?_) (Cert.Reference25Ideal.Value.run (F := Ideal) m' ρ')
    obtain ⟨h0, hargs⟩ := h c
    obtain ⟨e0, e1⟩ := hag c
    refine ⟨h0.trans ?_, hargs⟩
    · show _ = prodA _ _
      rw [← e0, ← e1]
      exact funext (reference _ _)

end Cert.MlaDown

end
-- ==== Proof.MlaUq.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise
public import Idealize.ShloMosaic.Lib.Pipeline.ValueKit
public import proofs.«01_k».proof.Proof.Forward

/-!
# The queries' up projection

The normalised query latents times one head's weights after the other.
-/

@[expose] public section

set_option maxRecDepth 16384

noncomputable section

namespace Cert.MlaUq

open Cert.Forward Idealize.ShloMosaic Idealize.ShloMosaic.TcCoe Idealize.SL.Sem
open Idealize.ShloMosaic.Pipeline (Dat)

section call

open Cert.Kernel26Ideal Cert.Kernel26Ideal.Gen

/-- One head's product on a block of tokens. -/
def blk (x : Mat 2048 384) (w : (⟨3, ![1, 384, 192]⟩ : Shape).Idx → EReal) (r : Fin 2048) (j : Fin 192) : EReal :=
  ∑ i : Fin 384, x (ix2 r i) * w (ix3 0 i j)

theorem block (x : Vec Ideal S2048x384 .bf16) (w : Vec Ideal S1x384x192 .bf16) (y : S1x2048x192.Idx) :
    out0_2 x w y = blk x w (y 1) (y 2) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 8, 0] ∧ win0_1.index t = ![t.val % 8, 0, 0] ∧
    win0_2.index t = ![t.val % 8, t.val / 8, 0] := by decide +kernel

theorem lt16 (t : Fin cfg0.N) : t.val < 16 := by have h := t.isLt; have e : cfg0.N = 16 := N_0; omega

/-- Row `r` of the tokens that point `t` works on. -/
def tokRow (t : Fin cfg0.N) (r : Fin 2048) : Fin 4096 := ⟨t.val / 8 * 2048 + r.val, by have := r.isLt; have := lt16 t; omega⟩

/-- The head that point `t` works on. -/
def headOf (t : Fin cfg0.N) : Fin 8 := ⟨t.val % 8, Nat.mod_lt _ (by decide)⟩

theorem blk0 (c : Dev nD) (t : Fin cfg0.N) (r : Fin 2048) (i : Fin 384) :
    iblk m c 0 t (ix2 r i) = m ((c : Thread nD τ).loc main_arg0) (ix2 (tokRow t r) i) := by
  have idx := indices
  blk_point [iblk, V, idx t] <;> rfl

theorem blk1 (c : Dev nD) (t : Fin cfg0.N) (i : Fin 384) (j : Fin 192) :
    iblk m c 1 t (ix3 0 i j) = m ((c : Thread nD τ).loc main_arg1) (ix3 (headOf t) i j) := by
  have idx := indices
  blk_point [iblk, V, idx t] <;> rfl

/-- The heads' products, as an array. -/
abbrev whole (c : Dev nD) : (⟨3, ![8, 4096, 192]⟩ : Shape).Idx → EReal :=
  headsA (m ((c : Thread nD τ).loc main_arg0) : Mat 4096 384) (m ((c : Thread nD τ).loc main_arg1) : (⟨3, ![8, 384, 192]⟩ : Shape).Idx → EReal)

/-- The product of one token by one head's weights. -/
abbrev result (c : Dev nD) (h : Fin 8) (t : Fin 4096) (j : Fin 192) : EReal :=
  headAt (m ((c : Thread nD τ).loc main_arg0) : Mat 4096 384) (m ((c : Thread nD τ).loc main_arg1) : (⟨3, ![8, 384, 192]⟩ : Shape).Idx → EReal) h t j

theorem outs (c : Dev nD) (t : Fin cfg0.N) (y : S1x2048x192.Idx) :
    out0_2 (iblk m c 0 t) (iblk m c 1 t) y = result m c (headOf t) (tokRow t (y 1)) (y 2) :=
  (block _ _ y).trans (Finset.sum_congr rfl fun i _ =>
    congrArg₂ (fun p q : EReal => p * q) (blk0 m c t (y 1) i) (blk1 m c t i (y 2)))

theorem arr (c : Dev nD) : (dats m 0 c).arrAt 2 cfg0.N = whole m c := by
  have idx := indices
  refine (dats m 0 c).arrAt_eq_of_covers 2 _ (by decide +kernel) fun t hf y => ?_
  blk_simp
  rw [after0_2]
  idx_bounds y
  refine (outs m c t y).trans (congr (congrArg₂ (result m c) (Fin.ext ?_) (Fin.ext ?_)) (Fin.ext ?_)) <;>
    blk_simp [idx t]
  all_goals first | rfl | (show t.val = _; omega) | omega

end call

section plain

open Cert.Reference26Ideal Cert.Reference26Ideal.Read

variable (x0 : (⟨S4096x384, .bf16⟩ : BufTy).Contents (Elt Ideal)) (x1 : (⟨S8x384x192, .bf16⟩ : BufTy).Contents (Elt Ideal))

theorem reference (y : S8x4096x192.Idx) :
    val_main_v6 (F := Ideal) x0 x1 y = headsA (x0 : Mat 4096 384) (x1 : (⟨3, ![8, 384, 192]⟩ : Shape).Idx → EReal) y := by
  rw [← val_main_v6_eq]
  idx_vars y
  pointwise
  rfl

end plain

/-- The reference's frame. -/
theorem frame_reference : Cert.quiescent_Reference26Ideal := by
  intro m ρ _
  exact (θ_run Cert.Reference26Ideal.defs _ _).mono
    (fun r h => ⟨fun c => (h c).2, sem_eq_zero_of_no_sems (by decide) r.2⟩)
    (Cert.Reference26Ideal.Value.run (F := Ideal) m ρ)

/-- The call's results are the reference's. -/
theorem algebraic : Cert.algebraic_Kernel26Ideal_Reference26Ideal := by
  intro m ρ m' ρ' _ hag
  refine ⟨whole m, ?_, ?_⟩
  · refine (θ_run Cert.Kernel26Ideal.defs _ _).mono (fun r h c => ?_) (Cert.Kernel26Ideal.Value.run_blocks (F := Ideal) m ρ)
    obtain ⟨h0, hargs⟩ := h c
    exact ⟨h0.trans (arr m c), hargs⟩
  · refine (θ_run Cert.Reference26Ideal.defs _ _).mono (fun r h c => ?_) (Cert.Reference26Ideal.Value.run (F := Ideal) m' ρ')
    obtain ⟨h0, hargs⟩ := h c
    obtain ⟨e0, e1⟩ := hag c
    refine ⟨h0.trans ?_, hargs⟩
    · show _ = headsA _ _
      rw [← e0, ← e1]
      exact funext (reference _ _)

end Cert.MlaUq

end
-- ==== Proof.MlaUkv.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise
public import Idealize.ShloMosaic.Lib.Pipeline.ValueKit
public import proofs.«01_k».proof.Proof.Forward

/-!
# The keys' and values' up projection

The normalised key-value latents times one head's weights after the other.
-/

@[expose] public section

set_option maxRecDepth 16384

noncomputable section

namespace Cert.MlaUkv

open Cert.Forward Idealize.ShloMosaic Idealize.ShloMosaic.TcCoe Idealize.SL.Sem
open Idealize.ShloMosaic.Pipeline (Dat)

section call

open Cert.Kernel27Ideal Cert.Kernel27Ideal.Gen

/-- One head's product on a block of tokens. -/
def blk (x : Mat 2048 256) (w : (⟨3, ![1, 256, 256]⟩ : Shape).Idx → EReal) (r : Fin 2048) (j : Fin 256) : EReal :=
  ∑ i : Fin 256, x (ix2 r i) * w (ix3 0 i j)

theorem block (x : Vec Ideal S2048x256 .bf16) (w : Vec Ideal S1x256x256 .bf16) (y : S1x2048x256.Idx) :
    out0_2 x w y = blk x w (y 1) (y 2) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val / 8, 0] ∧ win0_1.index t = ![t.val % 8, 0, 0] ∧
    win0_2.index t = ![t.val % 8, t.val / 8, 0] := by decide +kernel

theorem lt16 (t : Fin cfg0.N) : t.val < 16 := by have h := t.isLt; have e : cfg0.N = 16 := N_0; omega

/-- Row `r` of the tokens that point `t` works on. -/
def tokRow (t : Fin cfg0.N) (r : Fin 2048) : Fin 4096 := ⟨t.val / 8 * 2048 + r.val, by have := r.isLt; have := lt16 t; omega⟩

/-- The head that point `t` works on. -/
def headOf (t : Fin cfg0.N) : Fin 8 := ⟨t.val % 8, Nat.mod_lt _ (by decide)⟩

theorem blk0 (c : Dev nD) (t : Fin cfg0.N) (r : Fin 2048) (i : Fin 256) :
    iblk m c 0 t (ix2 r i) = m ((c : Thread nD τ).loc main_arg0) (ix2 (tokRow t r) i) := by
  have idx := indices
  blk_point [iblk, V, idx t] <;> rfl

theorem blk1 (c : Dev nD) (t : Fin cfg0.N) (i : Fin 256) (j : Fin 256) :
    iblk m c 1 t (ix3 0 i j) = m ((c : Thread nD τ).loc main_arg1) (ix3 (headOf t) i j) := by
  have idx := indices
  blk_point [iblk, V, idx t] <;> rfl

/-- The heads' products, as an array. -/
abbrev whole (c : Dev nD) : (⟨3, ![8, 4096, 256]⟩ : Shape).Idx → EReal :=
  headsA (m ((c : Thread nD τ).loc main_arg0) : Mat 4096 256) (m ((c : Thread nD τ).loc main_arg1) : (⟨3, ![8, 256, 256]⟩ : Shape).Idx → EReal)

/-- The product of one token by one head's weights. -/
abbrev result (c : Dev nD) (h : Fin 8) (t : Fin 4096) (j : Fin 256) : EReal :=
  headAt (m ((c : Thread nD τ).loc main_arg0) : Mat 4096 256) (m ((c : Thread nD τ).loc main_arg1) : (⟨3, ![8, 256, 256]⟩ : Shape).Idx → EReal) h t j

theorem outs (c : Dev nD) (t : Fin cfg0.N) (y : S1x2048x256.Idx) :
    out0_2 (iblk m c 0 t) (iblk m c 1 t) y = result m c (headOf t) (tokRow t (y 1)) (y 2) :=
  (block _ _ y).trans (Finset.sum_congr rfl fun i _ =>
    congrArg₂ (fun p q : EReal => p * q) (blk0 m c t (y 1) i) (blk1 m c t i (y 2)))

theorem arr (c : Dev nD) : (dats m 0 c).arrAt 2 cfg0.N = whole m c := by
  have idx := indices
  refine (dats m 0 c).arrAt_eq_of_covers 2 _ (by decide +kernel) fun t hf y => ?_
  blk_simp
  rw [after0_2]
  idx_bounds y
  refine (outs m c t y).trans (congr (congrArg₂ (result m c) (Fin.ext ?_) (Fin.ext ?_)) (Fin.ext ?_)) <;>
    blk_simp [idx t]
  all_goals first | rfl | (show t.val = _; omega) | omega

end call

section plain

open Cert.Reference27Ideal Cert.Reference27Ideal.Read

variable (x0 : (⟨S4096x256, .bf16⟩ : BufTy).Contents (Elt Ideal)) (x1 : (⟨S8x256x256, .bf16⟩ : BufTy).Contents (Elt Ideal))

theorem reference (y : S8x4096x256.Idx) :
    val_main_v6 (F := Ideal) x0 x1 y = headsA (x0 : Mat 4096 256) (x1 : (⟨3, ![8, 256, 256]⟩ : Shape).Idx → EReal) y := by
  rw [← val_main_v6_eq]
  idx_vars y
  pointwise
  rfl

end plain

/-- The reference's frame. -/
theorem frame_reference : Cert.quiescent_Reference27Ideal := by
  intro m ρ _
  exact (θ_run Cert.Reference27Ideal.defs _ _).mono
    (fun r h => ⟨fun c => (h c).2, sem_eq_zero_of_no_sems (by decide) r.2⟩)
    (Cert.Reference27Ideal.Value.run (F := Ideal) m ρ)

/-- The call's results are the reference's. -/
theorem algebraic : Cert.algebraic_Kernel27Ideal_Reference27Ideal := by
  intro m ρ m' ρ' _ hag
  refine ⟨whole m, ?_, ?_⟩
  · refine (θ_run Cert.Kernel27Ideal.defs _ _).mono (fun r h c => ?_) (Cert.Kernel27Ideal.Value.run_blocks (F := Ideal) m ρ)
    obtain ⟨h0, hargs⟩ := h c
    exact ⟨h0.trans (arr m c), hargs⟩
  · refine (θ_run Cert.Reference27Ideal.defs _ _).mono (fun r h c => ?_) (Cert.Reference27Ideal.Value.run (F := Ideal) m' ρ')
    obtain ⟨h0, hargs⟩ := h c
    obtain ⟨e0, e1⟩ := hag c
    refine ⟨h0.trans ?_, hargs⟩
    · show _ = headsA _ _
      rw [← e0, ← e1]
      exact funext (reference _ _)

end Cert.MlaUkv

end
-- ==== Proof.MlaOut.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise
public import Idealize.ShloMosaic.Lib.Pipeline.ValueKit
public import proofs.«01_k».proof.Proof.Forward

/-!
# Attention's output projection, the residual and the next norm

The heads' outputs times the projection, added to the tokens; beside it the sum's RMS norm.
-/

@[expose] public section

set_option maxRecDepth 16384

noncomputable section

namespace Cert.MlaOut

open Cert.Forward Idealize.ShloMosaic Idealize.ShloMosaic.TcCoe Idealize.SL.Sem
open Idealize.ShloMosaic.Pipeline (Dat)

section call

open Cert.Kernel28Ideal Cert.Kernel28Ideal.Gen

theorem block_h (x : Vec Ideal S1024x1024 .bf16) (w : Vec Ideal S1024x1024 .bf16) (h : Vec Ideal S1024x1024 .f32)
    (g : Vec Ideal S1x1024 .f32) (y : S1024x1024.Idx) :
    out0_4 x w h g y = added x w h (y 0) (y 1) := by
  frame_out
  unfold_payloads
  idx_vars y
  pointwise
  rfl

theorem block_n (x : Vec Ideal S1024x1024 .bf16) (w : Vec Ideal S1024x1024 .bf16) (h : Vec Ideal S1024x1024 .f32)
    (g : Vec Ideal S1x1024 .f32) (y : S1024x1024.Idx) :
    out0_5 x w h g y = normed (added x w h (y 0)) (fun k => g (ix2 0 k)) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![0, 0] ∧
    win0_4.index t = ![t.val, 0] ∧ win0_5.index t = ![t.val, 0] := by decide +kernel

theorem lt4 (t : Fin cfg0.N) : t.val < 4 := by have h := t.isLt; have e : cfg0.N = 4 := N_0; omega

/-- Row `r` of the tokens that point `t` works on. -/
def tokRow (t : Fin cfg0.N) (r : Fin 1024) : Fin 4096 := ⟨t.val * 1024 + r.val, by have := r.isLt; have := lt4 t; omega⟩

theorem blk0 (c : Dev nD) (t : Fin cfg0.N) (r : Fin 1024) (j : Fin 1024) :
    iblk m c 0 t (ix2 r j) = m ((c : Thread nD τ).loc main_arg0) (ix2 (tokRow t r) j) := by
  have idx := indices
  blk_point [iblk, V, idx t] <;> rfl

theorem blk1 (c : Dev nD) (t : Fin cfg0.N) (j : Fin 1024) (k : Fin 1024) :
    iblk m c 1 t (ix2 j k) = m ((c : Thread nD τ).loc main_arg1) (ix2 j k) := by
  have idx := indices
  blk_point [iblk, V, idx t] <;> rfl

theorem blk2 (c : Dev nD) (t : Fin cfg0.N) (r : Fin 1024) (k : Fin 1024) :
    iblk m c 2 t (ix2 r k) = m ((c : Thread nD τ).loc main_arg2) (ix2 (tokRow t r) k) := by
  have idx := indices
  blk_point [iblk, V, idx t] <;> rfl

theorem blk3 (c : Dev nD) (t : Fin cfg0.N) (k : Fin 1024) : iblk m c 3 t (ix2 0 k) = m ((c : Thread nD τ).loc main_arg3) (ix1 k) := by
  have idx := indices
  blk_point [iblk, V, idx t] <;> rfl

/-- The tokens that the call leaves. -/
abbrev tokOf (c : Dev nD) (t : Fin 4096) (k : Fin 1024) : EReal :=
  added (m ((c : Thread nD τ).loc main_arg0) : Mat 4096 1024) (m ((c : Thread nD τ).loc main_arg1) : Mat 1024 1024) (m ((c : Thread nD τ).loc main_arg2) : Mat 4096 1024) t k

/-- The normalised tokens that the call leaves. -/
abbrev normOf (c : Dev nD) (t : Fin 4096) (k : Fin 1024) : EReal :=
  normed (tokOf m c t) (fun j => m ((c : Thread nD τ).loc main_arg3) (ix1 j)) k

theorem block_eq (c : Dev nD) (t : Fin cfg0.N) (r : Fin 1024) (k : Fin 1024) :
    added (iblk m c 0 t : Mat 1024 1024) (iblk m c 1 t : Mat 1024 1024) (iblk m c 2 t : Mat 1024 1024) r k = tokOf m c (tokRow t r) k :=
  congrArg₂ (fun p q : EReal => p + q) (blk2 m c t r k) (prod_congr (fun i => blk0 m c t r i) (fun i => blk1 m c t i k))

theorem outs_h (c : Dev nD) (t : Fin cfg0.N) (y : S1024x1024.Idx) :
    out0_4 (iblk m c 0 t) (iblk m c 1 t) (iblk m c 2 t) (iblk m c 3 t) y = tokOf m c (tokRow t (y 0)) (y 1) :=
  (block_h _ _ _ _ y).trans (block_eq m c t (y 0) (y 1))

theorem outs_n (c : Dev nD) (t : Fin cfg0.N) (y : S1024x1024.Idx) :
    out0_5 (iblk m c 0 t) (iblk m c 1 t) (iblk m c 2 t) (iblk m c 3 t) y = normOf m c (tokRow t (y 0)) (y 1) :=
  (block_n _ _ _ _ y).trans (normed_congr (fun k => block_eq m c t (y 0) k) (fun k => blk3 m c t k))

theorem arr_h (c : Dev nD) : (dats m 0 c).arrAt 4 cfg0.N = fun y => tokOf m c (y 0) (y 1) := by
  have idx := indices
  refine (dats m 0 c).arrAt_eq_of_covers 4 _ (by decide +kernel) fun t hf y => ?_
  blk_simp
  rw [after0_4]
  refine (outs_h m c t y).trans (congrArg₂ (tokOf m c) (Fin.ext ?_) (Fin.ext ?_)) <;> blk_simp [idx t] <;> rfl

theorem arr_n (c : Dev nD) : (dats m 0 c).arrAt 5 cfg0.N = fun y => normOf m c (y 0) (y 1) := by
  have idx := indices
  refine (dats m 0 c).arrAt_eq_of_covers 5 _ (by decide +kernel) fun t hf y => ?_
  blk_simp
  rw [after0_5]
  refine (outs_n m c t y).trans (congrArg₂ (normOf m c) (Fin.ext ?_) (Fin.ext ?_)) <;> blk_simp [idx t] <;> rfl

/-- The tokens the call leaves, as an array. -/
abbrev wholeH (c : Dev nD) : Mat 4096 1024 := addedA (m ((c : Thread nD τ).loc main_arg0) : Mat 4096 1024) (m ((c : Thread nD τ).loc main_arg1) : Mat 1024 1024) (m ((c : Thread nD τ).loc main_arg2) : Mat 4096 1024)
/-- The normalised tokens the call leaves, as an array. -/
abbrev wholeN (c : Dev nD) : Mat 4096 1024 := normedA (wholeH m c) (m ((c : Thread nD τ).loc main_arg3))

end call

section plain

open Cert.Reference28Ideal Cert.Reference28Ideal.Read

variable (x0 : (⟨S4096x1024, .bf16⟩ : BufTy).Contents (Elt Ideal)) (x1 : (⟨S1024x1024, .bf16⟩ : BufTy).Contents (Elt Ideal))
  (x2 : (⟨S4096x1024, .f32⟩ : BufTy).Contents (Elt Ideal)) (x3 : (⟨S1024, .f32⟩ : BufTy).Contents (Elt Ideal))

theorem reference_h (y : S4096x1024.Idx) :
    val_main_v3 (F := Ideal) x0 x1 x2 y = addedA (x0 : Mat 4096 1024) (x1 : Mat 1024 1024) (x2 : Mat 4096 1024) y := by
  rw [← val_main_v3_eq]
  idx_vars y
  pointwise
  rfl

theorem reference_n (y : S4096x1024.Idx) : val_main_v17 (F := Ideal) x0 x1 x2 x3 y
    = normedA (addedA (x0 : Mat 4096 1024) (x1 : Mat 1024 1024) (x2 : Mat 4096 1024)) x3 y := by
  rw [← val_main_v17_eq]
  idx_vars y
  pointwise
  rfl

end plain

/-- The reference's frame. -/
theorem frame_reference : Cert.quiescent_Reference28Ideal := by
  intro m ρ _
  exact (θ_run Cert.Reference28Ideal.defs _ _).mono
    (fun r h => ⟨fun c => (h c).2.2, sem_eq_zero_of_no_sems (by decide) r.2⟩)
    (Cert.Reference28Ideal.Value.run (F := Ideal) m ρ)

/-- The call's results are the reference's. -/
theorem algebraic : Cert.algebraic_Kernel28Ideal_Reference28Ideal := by
  intro m ρ m' ρ' _ hag
  refine ⟨wholeH m, wholeN m, ?_, ?_⟩
  · refine (θ_run Cert.Kernel28Ideal.defs _ _).mono (fun r h c => ?_) (Cert.Kernel28Ideal.Value.run_blocks (F := Ideal) m ρ)
    obtain ⟨h0, h1, hargs⟩ := h c
    exact ⟨h0.trans (arr_h m c), h1.trans (arr_n m c), hargs⟩
  · refine (θ_run Cert.Reference28Ideal.defs _ _).mono (fun r h c => ?_) (Cert.Reference28Ideal.Value.run (F := Ideal) m' ρ')
    obtain ⟨h0, h1, hargs⟩ := h c
    obtain ⟨e0, e1, e2, e3⟩ := hag c
    refine ⟨h0.trans ?_, h1.trans ?_, hargs⟩
    · show _ = addedA _ _ _
      rw [← e0, ← e1, ← e2]
      exact funext (reference_h _ _ _)
    · show _ = normedA (addedA _ _ _) _
      rw [← e0, ← e1, ← e2, ← e3]
      exact funext (reference_n _ _ _ _)

end Cert.MlaOut

end
-- ==== Proof.GmlpOut.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pointwise
public import Idealize.ShloMosaic.Lib.Pipeline.ValueKit
public import proofs.«01_k».proof.Proof.Forward

/-!
# The gated block's output projection, the residual and the next norm

The gated channels times the projection, added to the tokens; beside it the sum's RMS norm.
-/

@[expose] public section

set_option maxRecDepth 16384

noncomputable section

namespace Cert.GmlpOut

open Cert.Forward Idealize.ShloMosaic Idealize.ShloMosaic.TcCoe Idealize.SL.Sem
open Idealize.ShloMosaic.Pipeline (Dat)

section call

open Cert.Kernel29Ideal Cert.Kernel29Ideal.Gen

theorem block_h (x : Vec Ideal S1024x2048 .bf16) (w : Vec Ideal S2048x1024 .bf16) (h : Vec Ideal S1024x1024 .f32)
    (g : Vec Ideal S1x1024 .f32) (y : S1024x1024.Idx) :
    out0_4 x w h g y = added x w h (y 0) (y 1) := by
  frame_out
  unfold_payloads
  idx_vars y
  pointwise
  rfl

theorem block_n (x : Vec Ideal S1024x2048 .bf16) (w : Vec Ideal S2048x1024 .bf16) (h : Vec Ideal S1024x1024 .f32)
    (g : Vec Ideal S1x1024 .f32) (y : S1024x1024.Idx) :
    out0_5 x w h g y = normed (added x w h (y 0)) (fun k => g (ix2 0 k)) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![0, 0] ∧
    win0_4.index t = ![t.val, 0] ∧ win0_5.index t = ![t.val, 0] := by decide +kernel

theorem lt4 (t : Fin cfg0.N) : t.val < 4 := by have h := t.isLt; have e : cfg0.N = 4 := N_0; omega

/-- Row `r` of the tokens that point `t` works on. -/
def tokRow (t : Fin cfg0.N) (r : Fin 1024) : Fin 4096 := ⟨t.val * 1024 + r.val, by have := r.isLt; have := lt4 t; omega⟩

theorem blk0 (c : Dev nD) (t : Fin cfg0.N) (r : Fin 1024) (j : Fin 2048) :
    iblk m c 0 t (ix2 r j) = m ((c : Thread nD τ).loc main_arg0) (ix2 (tokRow t r) j) := by
  have idx := indices
  blk_point [iblk, V, idx t] <;> rfl

theorem blk1 (c : Dev nD) (t : Fin cfg0.N) (j : Fin 2048) (k : Fin 1024) :
    iblk m c 1 t (ix2 j k) = m ((c : Thread nD τ).loc main_arg1) (ix2 j k) := by
  have idx := indices
  blk_point [iblk, V, idx t] <;> rfl

theorem blk2 (c : Dev nD) (t : Fin cfg0.N) (r : Fin 1024) (k : Fin 1024) :
    iblk m c 2 t (ix2 r k) = m ((c : Thread nD τ).loc main_arg2) (ix2 (tokRow t r) k) := by
  have idx := indices
  blk_point [iblk, V, idx t] <;> rfl

theorem blk3 (c : Dev nD) (t : Fin cfg0.N) (k : Fin 1024) : iblk m c 3 t (ix2 0 k) = m ((c : Thread nD τ).loc main_arg3) (ix1 k) := by
  have idx := indices
  blk_point [iblk, V, idx t] <;> rfl

/-- The tokens that the call leaves. -/
abbrev tokOf (c : Dev nD) (t : Fin 4096) (k : Fin 1024) : EReal :=
  added (m ((c : Thread nD τ).loc main_arg0) : Mat 4096 2048) (m ((c : Thread nD τ).loc main_arg1) : Mat 2048 1024) (m ((c : Thread nD τ).loc main_arg2) : Mat 4096 1024) t k

/-- The normalised tokens that the call leaves. -/
abbrev normOf (c : Dev nD) (t : Fin 4096) (k : Fin 1024) : EReal :=
  normed (tokOf m c t) (fun j => m ((c : Thread nD τ).loc main_arg3) (ix1 j)) k

theorem block_eq (c : Dev nD) (t : Fin cfg0.N) (r : Fin 1024) (k : Fin 1024) :
    added (iblk m c 0 t : Mat 1024 2048) (iblk m c 1 t : Mat 2048 1024) (iblk m c 2 t : Mat 1024 1024) r k = tokOf m c (tokRow t r) k :=
  congrArg₂ (fun p q : EReal => p + q) (blk2 m c t r k) (prod_congr (fun i => blk0 m c t r i) (fun i => blk1 m c t i k))

theorem outs_h (c : Dev nD) (t : Fin cfg0.N) (y : S1024x1024.Idx) :
    out0_4 (iblk m c 0 t) (iblk m c 1 t) (iblk m c 2 t) (iblk m c 3 t) y = tokOf m c (tokRow t (y 0)) (y 1) :=
  (block_h _ _ _ _ y).trans (block_eq m c t (y 0) (y 1))

theorem outs_n (c : Dev nD) (t : Fin cfg0.N) (y : S1024x1024.Idx) :
    out0_5 (iblk m c 0 t) (iblk m c 1 t) (iblk m c 2 t) (iblk m c 3 t) y = normOf m c (tokRow t (y 0)) (y 1) :=
  (block_n _ _ _ _ y).trans (normed_congr (fun k => block_eq m c t (y 0) k) (fun k => blk3 m c t k))

theorem arr_h (c : Dev nD) : (dats m 0 c).arrAt 4 cfg0.N = fun y => tokOf m c (y 0) (y 1) := by
  have idx := indices
  refine (dats m 0 c).arrAt_eq_of_covers 4 _ (by decide +kernel) fun t hf y => ?_
  blk_simp
  rw [after0_4]
  refine (outs_h m c t y).trans (congrArg₂ (tokOf m c) (Fin.ext ?_) (Fin.ext ?_)) <;> blk_simp [idx t] <;> rfl

theorem arr_n (c : Dev nD) : (dats m 0 c).arrAt 5 cfg0.N = fun y => normOf m c (y 0) (y 1) := by
  have idx := indices
  refine (dats m 0 c).arrAt_eq_of_covers 5 _ (by decide +kernel) fun t hf y => ?_
  blk_simp
  rw [after0_5]
  refine (outs_n m c t y).trans (congrArg₂ (normOf m c) (Fin.ext ?_) (Fin.ext ?_)) <;> blk_simp [idx t] <;> rfl

/-- The tokens the call leaves, as an array. -/
abbrev wholeH (c : Dev nD) : Mat 4096 1024 := addedA (m ((c : Thread nD τ).loc main_arg0) : Mat 4096 2048) (m ((c : Thread nD τ).loc main_arg1) : Mat 2048 1024) (m ((c : Thread nD τ).loc main_arg2) : Mat 4096 1024)
/-- The normalised tokens the call leaves, as an array. -/
abbrev wholeN (c : Dev nD) : Mat 4096 1024 := normedA (wholeH m c) (m ((c : Thread nD τ).loc main_arg3))

end call

section plain

open Cert.Reference29Ideal Cert.Reference29Ideal.Read

variable (x0 : (⟨S4096x2048, .bf16⟩ : BufTy).Contents (Elt Ideal)) (x1 : (⟨S2048x1024, .bf16⟩ : BufTy).Contents (Elt Ideal))
  (x2 : (⟨S4096x1024, .f32⟩ : BufTy).Contents (Elt Ideal)) (x3 : (⟨S1024, .f32⟩ : BufTy).Contents (Elt Ideal))

theorem reference_h (y : S4096x1024.Idx) :
    val_main_v3 (F := Ideal) x0 x1 x2 y = addedA (x0 : Mat 4096 2048) (x1 : Mat 2048 1024) (x2 : Mat 4096 1024) y := by
  rw [← val_main_v3_eq]
  idx_vars y
  pointwise
  rfl

theorem reference_n (y : S4096x1024.Idx) : val_main_v17 (F := Ideal) x0 x1 x2 x3 y
    = normedA (addedA (x0 : Mat 4096 2048) (x1 : Mat 2048 1024) (x2 : Mat 4096 1024)) x3 y := by
  rw [← val_main_v17_eq]
  idx_vars y
  pointwise
  rfl

end plain

/-- The reference's frame. -/
theorem frame_reference : Cert.quiescent_Reference29Ideal := by
  intro m ρ _
  exact (θ_run Cert.Reference29Ideal.defs _ _).mono
    (fun r h => ⟨fun c => (h c).2.2, sem_eq_zero_of_no_sems (by decide) r.2⟩)
    (Cert.Reference29Ideal.Value.run (F := Ideal) m ρ)

/-- The call's results are the reference's. -/
theorem algebraic : Cert.algebraic_Kernel29Ideal_Reference29Ideal := by
  intro m ρ m' ρ' _ hag
  refine ⟨wholeH m, wholeN m, ?_, ?_⟩
  · refine (θ_run Cert.Kernel29Ideal.defs _ _).mono (fun r h c => ?_) (Cert.Kernel29Ideal.Value.run_blocks (F := Ideal) m ρ)
    obtain ⟨h0, h1, hargs⟩ := h c
    exact ⟨h0.trans (arr_h m c), h1.trans (arr_n m c), hargs⟩
  · refine (θ_run Cert.Reference29Ideal.defs _ _).mono (fun r h c => ?_) (Cert.Reference29Ideal.Value.run (F := Ideal) m' ρ')
    obtain ⟨h0, h1, hargs⟩ := h c
    obtain ⟨e0, e1, e2, e3⟩ := hag c
    refine ⟨h0.trans ?_, h1.trans ?_, hargs⟩
    · show _ = addedA _ _ _
      rw [← e0, ← e1, ← e2]
      exact funext (reference_h _ _ _)
    · show _ = normedA (addedA _ _ _) _
      rw [← e0, ← e1, ← e2, ← e3]
      exact funext (reference_n _ _ _ _)

end Cert.GmlpOut

end
-- ==== Proof.PleGate.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pointwise
public import Idealize.ShloMosaic.Lib.Pipeline.ValueKit
public import proofs.«01_k».proof.Proof.Forward

/-!
# The gate of the input embedding

The product of the normalised tokens with the gate's weights.
-/

@[expose] public section

set_option maxRecDepth 16384

noncomputable section

namespace Cert.PleGate

open Cert.Forward Idealize.ShloMosaic Idealize.ShloMosaic.TcCoe Idealize.SL.Sem
open Idealize.ShloMosaic.Pipeline (Dat)

section call

open Cert.Kernel30Ideal Cert.Kernel30Ideal.Gen

theorem block (x : Vec Ideal S2048x1024 .bf16) (w : Vec Ideal S1024x1024 .bf16) (y : S2048x1024.Idx) :
    out0_2 x w y = prod x w (y 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] := by decide +kernel

theorem lt2 (t : Fin cfg0.N) : t.val < 2 := by have h := t.isLt; have e : cfg0.N = 2 := N_0; omega

/-- Row `r` of the tokens that point `t` works on. -/
def tokRow (t : Fin cfg0.N) (r : Fin 2048) : Fin 4096 := ⟨t.val * 2048 + r.val, by have := r.isLt; have := lt2 t; omega⟩

theorem blk0 (c : Dev nD) (t : Fin cfg0.N) (r : Fin 2048) (i : Fin 1024) :
    iblk m c 0 t (ix2 r i) = m ((c : Thread nD τ).loc main_arg0) (ix2 (tokRow t r) i) := by
  have idx := indices
  blk_point [iblk, V, idx t] <;> rfl

theorem blk1 (c : Dev nD) (t : Fin cfg0.N) (i : Fin 1024) (f : Fin 1024) :
    iblk m c 1 t (ix2 i f) = m ((c : Thread nD τ).loc main_arg1) (ix2 i f) := by
  have idx := indices
  blk_point [iblk, V, idx t] <;> rfl

/-- The product that the call leaves. -/
abbrev result (c : Dev nD) (t : Fin 4096) (f : Fin 1024) : EReal := prod (m ((c : Thread nD τ).loc main_arg0) : Mat 4096 1024) (m ((c : Thread nD τ).loc main_arg1) : Mat 1024 1024) t f

theorem outs (c : Dev nD) (t : Fin cfg0.N) (y : S2048x1024.Idx) :
    out0_2 (iblk m c 0 t) (iblk m c 1 t) y = result m c (tokRow t (y 0)) (y 1) :=
  (block _ _ y).trans (prod_congr (fun i => blk0 m c t (y 0) i) (fun i => blk1 m c t i (y 1)))

theorem arr (c : Dev nD) : (dats m 0 c).arrAt 2 cfg0.N = fun y => result m c (y 0) (y 1) := by
  have idx := indices
  refine (dats m 0 c).arrAt_eq_of_covers 2 _ (by decide +kernel) fun t hf y => ?_
  blk_simp
  rw [after0_2]
  refine (outs m c t y).trans (congrArg₂ (result m c) (Fin.ext ?_) (Fin.ext ?_)) <;> blk_simp [idx t] <;> rfl

/-- The product the call leaves, as an array. -/
abbrev whole (c : Dev nD) : Mat 4096 1024 := prodA (m ((c : Thread nD τ).loc main_arg0) : Mat 4096 1024) (m ((c : Thread nD τ).loc main_arg1) : Mat 1024 1024)

end call

section plain

open Cert.Reference30Ideal Cert.Reference30Ideal.Read

variable (x0 : (⟨S4096x1024, .bf16⟩ : BufTy).Contents (Elt Ideal)) (x1 : (⟨S1024x1024, .bf16⟩ : BufTy).Contents (Elt Ideal))

theorem reference (y : S4096x1024.Idx) : val_main_v2 (F := Ideal) x0 x1 y = prodA (x0 : Mat 4096 1024) (x1 : Mat 1024 1024) y := by
  rw [← val_main_v2_eq]
  idx_vars y
  pointwise
  rfl

end plain

/-- The reference's frame. -/
theorem frame_reference : Cert.quiescent_Reference30Ideal := by
  intro m ρ _
  exact (θ_run Cert.Reference30Ideal.defs _ _).mono
    (fun r h => ⟨fun c => (h c).2, sem_eq_zero_of_no_sems (by decide) r.2⟩)
    (Cert.Reference30Ideal.Value.run (F := Ideal) m ρ)

/-- The call's results are the reference's. -/
theorem algebraic : Cert.algebraic_Kernel30Ideal_Reference30Ideal := by
  intro m ρ m' ρ' _ hag
  refine ⟨whole m, ?_, ?_⟩
  · refine (θ_run Cert.Kernel30Ideal.defs _ _).mono (fun r h c => ?_) (Cert.Kernel30Ideal.Value.run_blocks (F := Ideal) m ρ)
    obtain ⟨h0, hargs⟩ := h c
    exact ⟨h0.trans (arr m c), hargs⟩
  · refine (θ_run Cert.Reference30Ideal.defs _ _).mono (fun r h c => ?_) (Cert.Reference30Ideal.Value.run (F := Ideal) m' ρ')
    obtain ⟨h0, hargs⟩ := h c
    obtain ⟨e0, e1⟩ := hag c
    refine ⟨h0.trans ?_, hargs⟩
    · show _ = prodA _ _
      rw [← e0, ← e1]
      exact funext (reference _ _)

end Cert.PleGate

end
-- ==== Proof.PleProj.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pointwise
public import Idealize.ShloMosaic.Lib.Pipeline.ValueKit
public import proofs.«01_k».proof.Proof.Forward

/-!
# The gated input embedding and the next layer's norm

The input embedding's projection, gated and added to the tokens; beside it the sum's RMS norm.
-/

@[expose] public section

set_option maxRecDepth 16384

noncomputable section

namespace Cert.PleProj

open Cert.Forward Idealize.ShloMosaic Idealize.ShloMosaic.TcCoe Idealize.SL.Sem
open Idealize.ShloMosaic.Pipeline (Dat)

section call

open Cert.Kernel31Ideal Cert.Kernel31Ideal.Gen

theorem block_p (x : Vec Ideal S512x256 .bf16) (w : Vec Ideal S256x1024 .bf16)
    (gt h : Vec Ideal S512x1024 .f32) (g : Vec Ideal S1x1024 .f32) (y : S512x1024.Idx) :
    out0_5 x w gt h g y = prod x w (y 0) (y 1) := by
  frame_out
  unfold_payloads
  idx_vars y
  pointwise
  rfl

theorem block_h (x : Vec Ideal S512x256 .bf16) (w : Vec Ideal S256x1024 .bf16)
    (gt h : Vec Ideal S512x1024 .f32) (g : Vec Ideal S1x1024 .f32) (y : S512x1024.Idx) :
    out0_6 x w gt h g y = gated x w gt h (y 0) (y 1) := by
  frame_out
  unfold_payloads
  idx_vars y
  pointwise
  simp only [zero_sub, gated, sigmoid, Ideal.ofBits_one_f32]
  rfl

theorem block_n (x : Vec Ideal S512x256 .bf16) (w : Vec Ideal S256x1024 .bf16)
    (gt h : Vec Ideal S512x1024 .f32) (g : Vec Ideal S1x1024 .f32) (y : S512x1024.Idx) :
    out0_7 x w gt h g y = normed (gated x w gt h (y 0)) (fun k => g (ix2 0 k)) (y 1) := by
  frame_out
  unfold_payloads
  idx_vars y
  pointwise
  simp only [zero_sub, normed, RmsNorm.inv, RmsNorm.meanSq, gated, sigmoid, Ideal.ofBits_one_f32]
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧ win0_4.index t = ![0, 0] ∧
    win0_5.index t = ![t.val, 0] ∧ win0_6.index t = ![t.val, 0] ∧ win0_7.index t = ![t.val, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) (j : Fin 256) :
    iblk m c 0 t (ix2 r j) = m ((c : Thread nD τ).loc main_arg0) (ix2 (tokRow t r) j) := by
  have idx := indices
  blk_point [iblk, V, idx t] <;> rfl

theorem blk1 (c : Dev nD) (t : Fin cfg0.N) (j : Fin 256) (k : Fin 1024) :
    iblk m c 1 t (ix2 j k) = m ((c : Thread nD τ).loc main_arg1) (ix2 j k) := by
  have idx := indices
  blk_point [iblk, V, idx t] <;> rfl

theorem blk2 (c : Dev nD) (t : Fin cfg0.N) (r : Fin 512) (k : Fin 1024) :
    iblk m c 2 t (ix2 r k) = m ((c : Thread nD τ).loc main_arg2) (ix2 (tokRow t r) k) := by
  have idx := indices
  blk_point [iblk, V, idx t] <;> rfl

theorem blk3 (c : Dev nD) (t : Fin cfg0.N) (r : Fin 512) (k : Fin 1024) :
    iblk m c 3 t (ix2 r k) = m ((c : Thread nD τ).loc main_arg3) (ix2 (tokRow t r) k) := by
  have idx := indices
  blk_point [iblk, V, idx t] <;> rfl

theorem blk4 (c : Dev nD) (t : Fin cfg0.N) (k : Fin 1024) : iblk m c 4 t (ix2 0 k) = m ((c : Thread nD τ).loc main_arg4) (ix1 k) := by
  have idx := indices
  blk_point [iblk, V, idx t] <;> rfl

/-- The embedding that the call leaves. -/
abbrev prodOf (c : Dev nD) (t : Fin 4096) (k : Fin 1024) : EReal := prod (m ((c : Thread nD τ).loc main_arg0) : Mat 4096 256) (m ((c : Thread nD τ).loc main_arg1) : Mat 256 1024) t k
/-- The tokens that the call leaves. -/
abbrev tokOf (c : Dev nD) (t : Fin 4096) (k : Fin 1024) : EReal :=
  gated (m ((c : Thread nD τ).loc main_arg0) : Mat 4096 256) (m ((c : Thread nD τ).loc main_arg1) : Mat 256 1024) (m ((c : Thread nD τ).loc main_arg2) : Mat 4096 1024) (m ((c : Thread nD τ).loc main_arg3) : Mat 4096 1024) t k
/-- The normalised tokens that the call leaves. -/
abbrev normOf (c : Dev nD) (t : Fin 4096) (k : Fin 1024) : EReal :=
  normed (tokOf m c t) (fun j => m ((c : Thread nD τ).loc main_arg4) (ix1 j)) k

theorem prod_eq (c : Dev nD) (t : Fin cfg0.N) (r : Fin 512) (k : Fin 1024) :
    prod (iblk m c 0 t : Mat 512 256) (iblk m c 1 t : Mat 256 1024) r k = prodOf m c (tokRow t r) k :=
  prod_congr (fun i => blk0 m c t r i) (fun i => blk1 m c t i k)

theorem tok_eq (c : Dev nD) (t : Fin cfg0.N) (r : Fin 512) (k : Fin 1024) :
    gated (iblk m c 0 t : Mat 512 256) (iblk m c 1 t : Mat 256 1024) (iblk m c 2 t : Mat 512 1024) (iblk m c 3 t : Mat 512 1024) r k
      = tokOf m c (tokRow t r) k :=
  congrArg₂ (fun p q : EReal => p + q) (blk3 m c t r k)
    (congrArg₂ (fun p q : EReal => sigmoid p * q) (blk2 m c t r k) (prod_eq m c t r k))

theorem outs_p (c : Dev nD) (t : Fin cfg0.N) (y : S512x1024.Idx) :
    out0_5 (iblk m c 0 t) (iblk m c 1 t) (iblk m c 2 t) (iblk m c 3 t) (iblk m c 4 t) y = prodOf m c (tokRow t (y 0)) (y 1) :=
  (block_p _ _ _ _ _ y).trans (prod_eq m c t (y 0) (y 1))

theorem outs_h (c : Dev nD) (t : Fin cfg0.N) (y : S512x1024.Idx) :
    out0_6 (iblk m c 0 t) (iblk m c 1 t) (iblk m c 2 t) (iblk m c 3 t) (iblk m c 4 t) y = tokOf m c (tokRow t (y 0)) (y 1) :=
  (block_h _ _ _ _ _ y).trans (tok_eq m c t (y 0) (y 1))

theorem outs_n (c : Dev nD) (t : Fin cfg0.N) (y : S512x1024.Idx) :
    out0_7 (iblk m c 0 t) (iblk m c 1 t) (iblk m c 2 t) (iblk m c 3 t) (iblk m c 4 t) y = normOf m c (tokRow t (y 0)) (y 1) :=
  (block_n _ _ _ _ _ y).trans (normed_congr (fun k => tok_eq m c t (y 0) k) (fun k => blk4 m c t k))

theorem arr_p (c : Dev nD) : (dats m 0 c).arrAt 5 cfg0.N = fun y => prodOf m c (y 0) (y 1) := by
  have idx := indices
  refine (dats m 0 c).arrAt_eq_of_covers 5 _ (by decide +kernel) fun t hf y => ?_
  blk_simp
  rw [after0_5]
  refine (outs_p m c t y).trans (congrArg₂ (prodOf m c) (Fin.ext ?_) (Fin.ext ?_)) <;> blk_simp [idx t] <;> rfl

theorem arr_h (c : Dev nD) : (dats m 0 c).arrAt 6 cfg0.N = fun y => tokOf m c (y 0) (y 1) := by
  have idx := indices
  refine (dats m 0 c).arrAt_eq_of_covers 6 _ (by decide +kernel) fun t hf y => ?_
  blk_simp
  rw [after0_6]
  refine (outs_h m c t y).trans (congrArg₂ (tokOf m c) (Fin.ext ?_) (Fin.ext ?_)) <;> blk_simp [idx t] <;> rfl

theorem arr_n (c : Dev nD) : (dats m 0 c).arrAt 7 cfg0.N = fun y => normOf m c (y 0) (y 1) := by
  have idx := indices
  refine (dats m 0 c).arrAt_eq_of_covers 7 _ (by decide +kernel) fun t hf y => ?_
  blk_simp
  rw [after0_7]
  refine (outs_n m c t y).trans (congrArg₂ (normOf m c) (Fin.ext ?_) (Fin.ext ?_)) <;> blk_simp [idx t] <;> rfl

/-- The embedding the call leaves, as an array. -/
abbrev wholeP (c : Dev nD) : Mat 4096 1024 := prodA (m ((c : Thread nD τ).loc main_arg0) : Mat 4096 256) (m ((c : Thread nD τ).loc main_arg1) : Mat 256 1024)
/-- The tokens the call leaves, as an array. -/
abbrev wholeH (c : Dev nD) : Mat 4096 1024 := gatedA (m ((c : Thread nD τ).loc main_arg0) : Mat 4096 256) (m ((c : Thread nD τ).loc main_arg1) : Mat 256 1024) (m ((c : Thread nD τ).loc main_arg2) : Mat 4096 1024) (m ((c : Thread nD τ).loc main_arg3) : Mat 4096 1024)
/-- The normalised tokens the call leaves, as an array. -/
abbrev wholeN (c : Dev nD) : Mat 4096 1024 := normedA (wholeH m c) (m ((c : Thread nD τ).loc main_arg4))

end call

section plain

open Cert.Reference31Ideal Cert.Reference31Ideal.Read

variable (x0 : (⟨S4096x256, .bf16⟩ : BufTy).Contents (Elt Ideal)) (x1 : (⟨S256x1024, .bf16⟩ : BufTy).Contents (Elt Ideal))
  (x2 x3 : (⟨S4096x1024, .f32⟩ : BufTy).Contents (Elt Ideal)) (x4 : (⟨S1024, .f32⟩ : BufTy).Contents (Elt Ideal))

theorem reference_p (y : S4096x1024.Idx) : val_main_v2 (F := Ideal) x0 x1 y = prodA (x0 : Mat 4096 256) (x1 : Mat 256 1024) y := by
  rw [← val_main_v2_eq]
  idx_vars y
  pointwise
  rfl

theorem reference_h (y : S4096x1024.Idx) : val_main_v10 (F := Ideal) x0 x1 x2 x3 y
    = gatedA (x0 : Mat 4096 256) (x1 : Mat 256 1024) (x2 : Mat 4096 1024) (x3 : Mat 4096 1024) y := by
  rw [← val_main_v10_eq]
  idx_vars y
  pointwise
  simp only [gatedA, gated, sigmoid, Ideal.ofBits_one_f32]
  rfl

theorem reference_n (y : S4096x1024.Idx) : val_main_v24 (F := Ideal) x0 x1 x2 x3 x4 y
    = normedA (gatedA (x0 : Mat 4096 256) (x1 : Mat 256 1024) (x2 : Mat 4096 1024) (x3 : Mat 4096 1024)) x4 y := by
  rw [← val_main_v24_eq]
  idx_vars y
  pointwise
  simp only [normedA, normed, RmsNorm.inv, RmsNorm.meanSq, gatedA, gated, sigmoid, Ideal.ofBits_one_f32]
  rfl

end plain

/-- The reference's frame. -/
theorem frame_reference : Cert.quiescent_Reference31Ideal := by
  intro m ρ _
  exact (θ_run Cert.Reference31Ideal.defs _ _).mono
    (fun r h => ⟨fun c => (h c).2.2.2, sem_eq_zero_of_no_sems (by decide) r.2⟩)
    (Cert.Reference31Ideal.Value.run (F := Ideal) m ρ)

/-- The call's results are the reference's. -/
theorem algebraic : Cert.algebraic_Kernel31Ideal_Reference31Ideal := by
  intro m ρ m' ρ' _ hag
  refine ⟨wholeP m, wholeH m, wholeN m, ?_, ?_⟩
  · refine (θ_run Cert.Kernel31Ideal.defs _ _).mono (fun r h c => ?_) (Cert.Kernel31Ideal.Value.run_blocks (F := Ideal) m ρ)
    obtain ⟨h0, h1, h2, hargs⟩ := h c
    exact ⟨h0.trans (arr_p m c), h1.trans (arr_h m c), h2.trans (arr_n m c), hargs⟩
  · refine (θ_run Cert.Reference31Ideal.defs _ _).mono (fun r h c => ?_) (Cert.Reference31Ideal.Value.run (F := Ideal) m' ρ')
    obtain ⟨h0, h1, h2, hargs⟩ := h c
    obtain ⟨e0, e1, e2, e3, e4⟩ := hag c
    refine ⟨h0.trans ?_, h1.trans ?_, h2.trans ?_, hargs⟩
    · show _ = prodA _ _
      rw [← e0, ← e1]
      exact funext (reference_p _ _)
    · show _ = gatedA _ _ _ _
      rw [← e0, ← e1, ← e2, ← e3]
      exact funext (reference_h _ _ _ _)
    · show _ = normedA (gatedA _ _ _ _) _
      rw [← e0, ← e1, ← e2, ← e3, ← e4]
      exact funext (reference_n _ _ _ _ _)

end Cert.PleProj

end
-- ==== Proof.PleProjLast.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pointwise
public import Idealize.ShloMosaic.Lib.Pipeline.ValueKit
public import proofs.«01_k».proof.Proof.Forward

/-!
# The gated input embedding of the last layer

The input embedding's projection, gated and added to the tokens.
-/

@[expose] public section

set_option maxRecDepth 16384

noncomputable section

namespace Cert.PleProjLast

open Cert.Forward Idealize.ShloMosaic Idealize.ShloMosaic.TcCoe Idealize.SL.Sem
open Idealize.ShloMosaic.Pipeline (Dat)

section call

open Cert.Kernel32Ideal Cert.Kernel32Ideal.Gen

theorem block_p (x : Vec Ideal S1024x256 .bf16) (w : Vec Ideal S256x1024 .bf16)
    (gt h : Vec Ideal S1024x1024 .f32) (y : S1024x1024.Idx) :
    out0_4 x w gt h y = prod x w (y 0) (y 1) := by
  frame_out
  unfold_payloads
  idx_vars y
  pointwise
  rfl

theorem block_h (x : Vec Ideal S1024x256 .bf16) (w : Vec Ideal S256x1024 .bf16)
    (gt h : Vec Ideal S1024x1024 .f32) (y : S1024x1024.Idx) :
    out0_5 x w gt h y = gated x w gt h (y 0) (y 1) := by
  frame_out
  unfold_payloads
  idx_vars y
  pointwise
  simp only [zero_sub, gated, sigmoid, Ideal.ofBits_one_f32]
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] ∧ win0_3.index t = ![t.val, 0] ∧
    win0_4.index t = ![t.val, 0] ∧ win0_5.index t = ![t.val, 0] := by decide +kernel

theorem lt4 (t : Fin cfg0.N) : t.val < 4 := by have h := t.isLt; have e : cfg0.N = 4 := N_0; omega

/-- Row `r` of the tokens that point `t` works on. -/
def tokRow (t : Fin cfg0.N) (r : Fin 1024) : Fin 4096 := ⟨t.val * 1024 + r.val, by have := r.isLt; have := lt4 t; omega⟩

theorem blk0 (c : Dev nD) (t : Fin cfg0.N) (r : Fin 1024) (j : Fin 256) :
    iblk m c 0 t (ix2 r j) = m ((c : Thread nD τ).loc main_arg0) (ix2 (tokRow t r) j) := by
  have idx := indices
  blk_point [iblk, V, idx t] <;> rfl

theorem blk1 (c : Dev nD) (t : Fin cfg0.N) (j : Fin 256) (k : Fin 1024) :
    iblk m c 1 t (ix2 j k) = m ((c : Thread nD τ).loc main_arg1) (ix2 j k) := by
  have idx := indices
  blk_point [iblk, V, idx t] <;> rfl

theorem blk2 (c : Dev nD) (t : Fin cfg0.N) (r : Fin 1024) (k : Fin 1024) :
    iblk m c 2 t (ix2 r k) = m ((c : Thread nD τ).loc main_arg2) (ix2 (tokRow t r) k) := by
  have idx := indices
  blk_point [iblk, V, idx t] <;> rfl

theorem blk3 (c : Dev nD) (t : Fin cfg0.N) (r : Fin 1024) (k : Fin 1024) :
    iblk m c 3 t (ix2 r k) = m ((c : Thread nD τ).loc main_arg3) (ix2 (tokRow t r) k) := by
  have idx := indices
  blk_point [iblk, V, idx t] <;> rfl

/-- The embedding that the call leaves. -/
abbrev prodOf (c : Dev nD) (t : Fin 4096) (k : Fin 1024) : EReal := prod (m ((c : Thread nD τ).loc main_arg0) : Mat 4096 256) (m ((c : Thread nD τ).loc main_arg1) : Mat 256 1024) t k
/-- The tokens that the call leaves. -/
abbrev tokOf (c : Dev nD) (t : Fin 4096) (k : Fin 1024) : EReal :=
  gated (m ((c : Thread nD τ).loc main_arg0) : Mat 4096 256) (m ((c : Thread nD τ).loc main_arg1) : Mat 256 1024) (m ((c : Thread nD τ).loc main_arg2) : Mat 4096 1024) (m ((c : Thread nD τ).loc main_arg3) : Mat 4096 1024) t k

theorem prod_eq (c : Dev nD) (t : Fin cfg0.N) (r : Fin 1024) (k : Fin 1024) :
    prod (iblk m c 0 t : Mat 1024 256) (iblk m c 1 t : Mat 256 1024) r k = prodOf m c (tokRow t r) k :=
  prod_congr (fun i => blk0 m c t r i) (fun i => blk1 m c t i k)

theorem tok_eq (c : Dev nD) (t : Fin cfg0.N) (r : Fin 1024) (k : Fin 1024) :
    gated (iblk m c 0 t : Mat 1024 256) (iblk m c 1 t : Mat 256 1024) (iblk m c 2 t : Mat 1024 1024) (iblk m c 3 t : Mat 1024 1024) r k
      = tokOf m c (tokRow t r) k :=
  congrArg₂ (fun p q : EReal => p + q) (blk3 m c t r k)
    (congrArg₂ (fun p q : EReal => sigmoid p * q) (blk2 m c t r k) (prod_eq m c t r k))

theorem outs_p (c : Dev nD) (t : Fin cfg0.N) (y : S1024x1024.Idx) :
    out0_4 (iblk m c 0 t) (iblk m c 1 t) (iblk m c 2 t) (iblk m c 3 t) y = prodOf m c (tokRow t (y 0)) (y 1) :=
  (block_p _ _ _ _ y).trans (prod_eq m c t (y 0) (y 1))

theorem outs_h (c : Dev nD) (t : Fin cfg0.N) (y : S1024x1024.Idx) :
    out0_5 (iblk m c 0 t) (iblk m c 1 t) (iblk m c 2 t) (iblk m c 3 t) y = tokOf m c (tokRow t (y 0)) (y 1) :=
  (block_h _ _ _ _ y).trans (tok_eq m c t (y 0) (y 1))

theorem arr_p (c : Dev nD) : (dats m 0 c).arrAt 4 cfg0.N = fun y => prodOf m c (y 0) (y 1) := by
  have idx := indices
  refine (dats m 0 c).arrAt_eq_of_covers 4 _ (by decide +kernel) fun t hf y => ?_
  blk_simp
  rw [after0_4]
  refine (outs_p m c t y).trans (congrArg₂ (prodOf m c) (Fin.ext ?_) (Fin.ext ?_)) <;> blk_simp [idx t] <;> rfl

theorem arr_h (c : Dev nD) : (dats m 0 c).arrAt 5 cfg0.N = fun y => tokOf m c (y 0) (y 1) := by
  have idx := indices
  refine (dats m 0 c).arrAt_eq_of_covers 5 _ (by decide +kernel) fun t hf y => ?_
  blk_simp
  rw [after0_5]
  refine (outs_h m c t y).trans (congrArg₂ (tokOf m c) (Fin.ext ?_) (Fin.ext ?_)) <;> blk_simp [idx t] <;> rfl

/-- The embedding the call leaves, as an array. -/
abbrev wholeP (c : Dev nD) : Mat 4096 1024 := prodA (m ((c : Thread nD τ).loc main_arg0) : Mat 4096 256) (m ((c : Thread nD τ).loc main_arg1) : Mat 256 1024)
/-- The tokens the call leaves, as an array. -/
abbrev wholeH (c : Dev nD) : Mat 4096 1024 := gatedA (m ((c : Thread nD τ).loc main_arg0) : Mat 4096 256) (m ((c : Thread nD τ).loc main_arg1) : Mat 256 1024) (m ((c : Thread nD τ).loc main_arg2) : Mat 4096 1024) (m ((c : Thread nD τ).loc main_arg3) : Mat 4096 1024)

end call

section plain

open Cert.Reference32Ideal Cert.Reference32Ideal.Read

variable (x0 : (⟨S4096x256, .bf16⟩ : BufTy).Contents (Elt Ideal)) (x1 : (⟨S256x1024, .bf16⟩ : BufTy).Contents (Elt Ideal))
  (x2 x3 : (⟨S4096x1024, .f32⟩ : BufTy).Contents (Elt Ideal))

theorem reference_p (y : S4096x1024.Idx) : val_main_v2 (F := Ideal) x0 x1 y = prodA (x0 : Mat 4096 256) (x1 : Mat 256 1024) y := by
  rw [← val_main_v2_eq]
  idx_vars y
  pointwise
  rfl

theorem reference_h (y : S4096x1024.Idx) : val_main_v10 (F := Ideal) x0 x1 x2 x3 y
    = gatedA (x0 : Mat 4096 256) (x1 : Mat 256 1024) (x2 : Mat 4096 1024) (x3 : Mat 4096 1024) y := by
  rw [← val_main_v10_eq]
  idx_vars y
  pointwise
  simp only [gatedA, gated, sigmoid, Ideal.ofBits_one_f32]
  rfl

end plain

/-- The reference's frame. -/
theorem frame_reference : Cert.quiescent_Reference32Ideal := by
  intro m ρ _
  exact (θ_run Cert.Reference32Ideal.defs _ _).mono
    (fun r h => ⟨fun c => (h c).2.2, sem_eq_zero_of_no_sems (by decide) r.2⟩)
    (Cert.Reference32Ideal.Value.run (F := Ideal) m ρ)

/-- The call's results are the reference's. -/
theorem algebraic : Cert.algebraic_Kernel32Ideal_Reference32Ideal := by
  intro m ρ m' ρ' _ hag
  refine ⟨wholeP m, wholeH m, ?_, ?_⟩
  · refine (θ_run Cert.Kernel32Ideal.defs _ _).mono (fun r h c => ?_) (Cert.Kernel32Ideal.Value.run_blocks (F := Ideal) m ρ)
    obtain ⟨h0, h1, hargs⟩ := h c
    exact ⟨h0.trans (arr_p m c), h1.trans (arr_h m c), hargs⟩
  · refine (θ_run Cert.Reference32Ideal.defs _ _).mono (fun r h c => ?_) (Cert.Reference32Ideal.Value.run (F := Ideal) m' ρ')
    obtain ⟨h0, h1, hargs⟩ := h c
    obtain ⟨e0, e1, e2, e3⟩ := hag c
    refine ⟨h0.trans ?_, h1.trans ?_, hargs⟩
    · show _ = prodA _ _
      rw [← e0, ← e1]
      exact funext (reference_p _ _)
    · show _ = gatedA _ _ _ _
      rw [← e0, ← e1, ← e2, ← e3]
      exact funext (reference_h _ _ _ _)

end Cert.PleProjLast

end
-- ==== Proof.RmsFwd.lean ====
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pointwise
public import Idealize.ShloMosaic.Lib.Pipeline.ValueKit
public import proofs.«01_k».proof.Proof.Forward

/-!
# The RMS norm of the embedded tokens

Each token is divided by the root of its mean square and multiplied by the gain.
-/

@[expose] public section

set_option maxRecDepth 16384

noncomputable section

namespace Cert.RmsFwd

open Cert.Forward Idealize.ShloMosaic Idealize.ShloMosaic.TcCoe Idealize.SL.Sem
open Idealize.ShloMosaic.Pipeline (Dat)

section call

open Cert.Kernel33Ideal Cert.Kernel33Ideal.Gen

theorem block (x : Vec Ideal S512x1024 .f32) (g : Vec Ideal S1x1024 .f32) (y : S512x1024.Idx) :
    out0_2 x g y = normed (fun j => x (ix2 (y 0) j)) (fun j => g (ix2 0 j)) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![t.val, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) (k : Fin 1024) :
    iblk m c 0 t (ix2 r k) = m ((c : Thread nD τ).loc main_arg0) (ix2 (tokRow t r) k) := by
  have idx := indices
  blk_point [iblk, V, idx t] <;> rfl

theorem blk1 (c : Dev nD) (t : Fin cfg0.N) (k : Fin 1024) : iblk m c 1 t (ix2 0 k) = m ((c : Thread nD τ).loc main_arg1) (ix1 k) := by
  have idx := indices
  blk_point [iblk, V, idx t] <;> rfl

/-- The normalised tokens that the call leaves. -/
abbrev normOf (c : Dev nD) (t : Fin 4096) (k : Fin 1024) : EReal :=
  normed (fun j => m ((c : Thread nD τ).loc main_arg0) (ix2 t j)) (fun j => m ((c : Thread nD τ).loc main_arg1) (ix1 j)) k

theorem outs (c : Dev nD) (t : Fin cfg0.N) (y : S512x1024.Idx) :
    out0_2 (iblk m c 0 t) (iblk m c 1 t) y = normOf m c (tokRow t (y 0)) (y 1) :=
  (block _ _ y).trans (normed_congr (fun k => blk0 m c t (y 0) k) (fun k => blk1 m c t k))

theorem arr (c : Dev nD) : (dats m 0 c).arrAt 2 cfg0.N = fun y => normOf m c (y 0) (y 1) := by
  have idx := indices
  refine (dats m 0 c).arrAt_eq_of_covers 2 _ (by decide +kernel) fun t hf y => ?_
  blk_simp
  rw [after0_2]
  refine (outs m c t y).trans (congrArg₂ (normOf m c) (Fin.ext ?_) (Fin.ext ?_)) <;> blk_simp [idx t] <;> rfl

/-- The normalised tokens the call leaves, as an array. -/
abbrev whole (c : Dev nD) : Mat 4096 1024 := normedA (m ((c : Thread nD τ).loc main_arg0) : Mat 4096 1024) (m ((c : Thread nD τ).loc main_arg1))

end call

section plain

open Cert.Reference33Ideal Cert.Reference33Ideal.Read

variable (x0 : (⟨S4096x1024, .f32⟩ : BufTy).Contents (Elt Ideal)) (x1 : (⟨S1024, .f32⟩ : BufTy).Contents (Elt Ideal))

theorem reference (y : S4096x1024.Idx) : val_main_v13 (F := Ideal) x0 x1 y = normedA (x0 : Mat 4096 1024) x1 y := by
  rw [← val_main_v13_eq]
  idx_vars y
  pointwise
  rfl

end plain

/-- The reference's frame. -/
theorem frame_reference : Cert.quiescent_Reference33Ideal := by
  intro m ρ _
  exact (θ_run Cert.Reference33Ideal.defs _ _).mono
    (fun r h => ⟨fun c => (h c).2, sem_eq_zero_of_no_sems (by decide) r.2⟩)
    (Cert.Reference33Ideal.Value.run (F := Ideal) m ρ)

/-- The call's results are the reference's. -/
theorem algebraic : Cert.algebraic_Kernel33Ideal_Reference33Ideal := by
  intro m ρ m' ρ' _ hag
  refine ⟨whole m, ?_, ?_⟩
  · refine (θ_run Cert.Kernel33Ideal.defs _ _).mono (fun r h c => ?_) (Cert.Kernel33Ideal.Value.run_blocks (F := Ideal) m ρ)
    obtain ⟨h0, hargs⟩ := h c
    exact ⟨h0.trans (arr m c), hargs⟩
  · refine (θ_run Cert.Reference33Ideal.defs _ _).mono (fun r h c => ?_) (Cert.Reference33Ideal.Value.run (F := Ideal) m' ρ')
    obtain ⟨h0, hargs⟩ := h c
    obtain ⟨e0, e1⟩ := hag c
    refine ⟨h0.trans ?_, hargs⟩
    · show _ = normedA _ _
      rw [← e0, ← e1]
      exact funext (reference _ _)

end Cert.RmsFwd

end
-- ==== Proof.MlaLatents.lean ====
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pointwise
public import Idealize.ShloMosaic.Lib.Pipeline.ValueKit
public import proofs.«01_k».proof.Proof.MlaLatentsBack

/-!
# The norms of the query and key-value latents

The first 384 and the next 256 channels of a token's latents, each group RMS-normalised with its gain.
-/

@[expose] public section

set_option maxRecDepth 16384

noncomputable section

namespace Cert.MlaLatents

open Cert.MlaLatentsBack (qs kvs inv wq wkv at_ gain)
open Idealize.ShloMosaic Idealize.ShloMosaic.TcCoe Idealize.SL.Sem
open Idealize.ShloMosaic.Pipeline (Dat)

/-- Channel `k` of a token's normalised query latents. -/
def normQ (l : Fin 704 → EReal) (g : Fin 384 → EReal) (k : Fin 384) : EReal := qs l k * inv wq (qs l) * g k
/-- Channel `k` of a token's normalised key-value latents. -/
def normKv (l : Fin 704 → EReal) (g : Fin 256 → EReal) (k : Fin 256) : EReal := kvs l k * inv wkv (kvs l) * g k

/-- The normalised query latents as an array. -/
def arrayQ (l : (⟨2, ![4096, 704]⟩ : Shape).Idx → EReal) (g : (⟨1, ![384]⟩ : Shape).Idx → EReal) :
    (⟨2, ![4096, 384]⟩ : Shape).Idx → EReal := fun y => normQ (at_ l (y 0)) (gain g) (y 1)
/-- The normalised key-value latents as an array. -/
def arrayKv (l : (⟨2, ![4096, 704]⟩ : Shape).Idx → EReal) (g : (⟨1, ![256]⟩ : Shape).Idx → EReal) :
    (⟨2, ![4096, 256]⟩ : Shape).Idx → EReal := fun y => normKv (at_ l (y 0)) (gain g) (y 1)

section call

open Cert.Kernel34Ideal Cert.Kernel34Ideal.Gen

theorem block_q (l : Vec Ideal S512x704 .f32) (gq : Vec Ideal S1x384 .f32) (gkv : Vec Ideal S1x256 .f32) (y : S512x384.Idx) :
    out0_3 l gq gkv y = normQ (at_ l (y 0)) (at_ gq 0) (y 1) := by
  frame_out
  unfold_payloads
  idx_vars y
  pointwise
  rfl

theorem block_kv (l : Vec Ideal S512x704 .f32) (gq : Vec Ideal S1x384 .f32) (gkv : Vec Ideal S1x256 .f32) (y : S512x256.Idx) :
    out0_4 l gq gkv y = normKv (at_ l (y 0)) (at_ gkv 0) (y 1) := by
  frame_out
  unfold_payloads
  idx_vars y
  pointwise
  rfl

variable (m : (ℓ : Loc nD τ sig) → Buf (Elt Ideal) ℓ)

/-- The block indices of the windows. -/
theorem indices : ∀ t : Fin grid0.N, win0_0.index t = ![t.val, 0] ∧ win0_1.index t = ![0, 0] ∧ win0_2.index t = ![0, 0] ∧
    win0_3.index t = ![t.val, 0] ∧ win0_4.index t = ![t.val, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) :
    at_ (iblk m c 0 t) r = at_ (m ((c : Thread nD τ).loc main_arg0)) (tokRow t r) := by
  have idx := indices
  funext j
  unfold at_
  blk_point [iblk, V, idx t] <;> rfl

theorem blk1 (c : Dev nD) (t : Fin cfg0.N) : at_ (iblk m c 1 t) 0 = gain (m ((c : Thread nD τ).loc main_arg1)) := by
  have idx := indices
  funext j
  unfold at_ gain
  blk_point [iblk, V, idx t] <;> rfl

theorem blk2 (c : Dev nD) (t : Fin cfg0.N) : at_ (iblk m c 2 t) 0 = gain (m ((c : Thread nD τ).loc main_arg2)) := by
  have idx := indices
  funext j
  unfold at_ gain
  blk_point [iblk, V, idx t] <;> rfl

/-- The normalised query latents that the call leaves. -/
abbrev resultQ (c : Dev nD) (t : Fin 4096) (k : Fin 384) : EReal := normQ (at_ (m ((c : Thread nD τ).loc main_arg0)) t) (gain (m ((c : Thread nD τ).loc main_arg1))) k
/-- The normalised key-value latents that the call leaves. -/
abbrev resultKv (c : Dev nD) (t : Fin 4096) (k : Fin 256) : EReal := normKv (at_ (m ((c : Thread nD τ).loc main_arg0)) t) (gain (m ((c : Thread nD τ).loc main_arg2))) k

theorem outs_q (c : Dev nD) (t : Fin cfg0.N) (y : S512x384.Idx) :
    out0_3 (iblk m c 0 t) (iblk m c 1 t) (iblk m c 2 t) y = resultQ m c (tokRow t (y 0)) (y 1) :=
  (block_q _ _ _ y).trans (congrFun (congrArg₂ normQ (blk0 m c t (y 0)) (blk1 m c t)) (y 1))

theorem outs_kv (c : Dev nD) (t : Fin cfg0.N) (y : S512x256.Idx) :
    out0_4 (iblk m c 0 t) (iblk m c 1 t) (iblk m c 2 t) y = resultKv m c (tokRow t (y 0)) (y 1) :=
  (block_kv _ _ _ y).trans (congrFun (congrArg₂ normKv (blk0 m c t (y 0)) (blk2 m c t)) (y 1))

theorem arr_q (c : Dev nD) : (dats m 0 c).arrAt 3 cfg0.N = fun y => resultQ m c (y 0) (y 1) := by
  have idx := indices
  refine (dats m 0 c).arrAt_eq_of_covers 3 _ (by decide +kernel) fun t hf y => ?_
  blk_simp
  rw [after0_3]
  refine (outs_q m c t y).trans (congrArg₂ (resultQ m c) (Fin.ext ?_) (Fin.ext ?_)) <;> blk_simp [idx t] <;> rfl

theorem arr_kv (c : Dev nD) : (dats m 0 c).arrAt 4 cfg0.N = fun y => resultKv m c (y 0) (y 1) := by
  have idx := indices
  refine (dats m 0 c).arrAt_eq_of_covers 4 _ (by decide +kernel) fun t hf y => ?_
  blk_simp
  rw [after0_4]
  refine (outs_kv m c t y).trans (congrArg₂ (resultKv m c) (Fin.ext ?_) (Fin.ext ?_)) <;> blk_simp [idx t] <;> rfl

/-- The normalised query latents the call leaves, as an array. -/
abbrev wholeQ (c : Dev nD) : (⟨2, ![4096, 384]⟩ : Shape).Idx → EReal := arrayQ (m ((c : Thread nD τ).loc main_arg0)) (m ((c : Thread nD τ).loc main_arg1))
/-- The normalised key-value latents the call leaves, as an array. -/
abbrev wholeKv (c : Dev nD) : (⟨2, ![4096, 256]⟩ : Shape).Idx → EReal := arrayKv (m ((c : Thread nD τ).loc main_arg0)) (m ((c : Thread nD τ).loc main_arg2))

end call

section plain

open Cert.Reference34Ideal Cert.Reference34Ideal.Read

variable (x0 : (⟨S4096x704, .f32⟩ : BufTy).Contents (Elt Ideal)) (x1 : (⟨S384, .f32⟩ : BufTy).Contents (Elt Ideal))
  (x2 : (⟨S256, .f32⟩ : BufTy).Contents (Elt Ideal))

theorem reference_q (y : S4096x384.Idx) : val_main_v16 (F := Ideal) x0 x1 y = arrayQ x0 x1 y := by
  rw [← val_main_v16_eq]
  idx_vars y
  pointwise
  rfl

theorem reference_kv (y : S4096x256.Idx) : val_main_v30 (F := Ideal) x0 x2 y = arrayKv x0 x2 y := by
  rw [← val_main_v30_eq]
  idx_vars y
  pointwise
  rfl

end plain

/-- The reference's frame. -/
theorem frame_reference : Cert.quiescent_Reference34Ideal := by
  intro m ρ _
  exact (θ_run Cert.Reference34Ideal.defs _ _).mono
    (fun r h => ⟨fun c => (h c).2.2, sem_eq_zero_of_no_sems (by decide) r.2⟩)
    (Cert.Reference34Ideal.Value.run (F := Ideal) m ρ)

/-- The call's results are the reference's. -/
theorem algebraic : Cert.algebraic_Kernel34Ideal_Reference34Ideal := by
  intro m ρ m' ρ' _ hag
  refine ⟨wholeQ m, wholeKv m, ?_, ?_⟩
  · refine (θ_run Cert.Kernel34Ideal.defs _ _).mono (fun r h c => ?_) (Cert.Kernel34Ideal.Value.run_blocks (F := Ideal) m ρ)
    obtain ⟨h0, h1, hargs⟩ := h c
    exact ⟨h0.trans (arr_q m c), h1.trans (arr_kv m c), hargs⟩
  · refine (θ_run Cert.Reference34Ideal.defs _ _).mono (fun r h c => ?_) (Cert.Reference34Ideal.Value.run (F := Ideal) m' ρ')
    obtain ⟨h0, h1, hargs⟩ := h c
    obtain ⟨e0, e1, e2⟩ := hag c
    refine ⟨h0.trans ?_, h1.trans ?_, hargs⟩
    · show _ = arrayQ _ _
      rw [← e0, ← e1]
      exact funext (reference_q _ _)
    · show _ = arrayKv _ _
      rw [← e0, ← e2]
      exact funext (reference_kv _ _)

end Cert.MlaLatents

end
-- ==== Proof.SguForward.lean ====
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import Idealize.ShloMosaic.Lib.Pointwise
public import Idealize.ShloMosaic.Lib.Pipeline.ValueKit
public import proofs.«01_k».proof.Proof.SguArrays
public import proofs.«01_k».proof.Proof.SguReference

/-!
# The chunked causal spatial gating unit

Each chunk of the normalised half goes through its group's lower-triangular gate, gets its bias, and gates the other half.
This is the backward pass's gradient of `u` with the other half in the gradient's place.
-/

@[expose] public section

set_option maxRecDepth 16384

noncomputable section

namespace Cert.SguForward

open Cert.SpatialGate (Tok Gate Bias keep select_sge gradU blkDu blkDu_piece chan groupOf posOf chunkOf tokRow blkRow blkChunk blkPos
  groupOf_chan)
open Idealize.ShloMosaic Idealize.ShloMosaic.TcCoe Idealize.SL.Sem
open Idealize.ShloMosaic.Pipeline (Dat)

section call

open Cert.Kernel35Ideal Cert.Kernel35Ideal.Gen

set_option maxHeartbeats 4000000 in
theorem block (u vn : Vec Ideal S2048x256 .bf16) (w : Vec Ideal S1x128x128 .f32) (b : Vec Ideal S1x128x1 .f32) (y : S2048x256.Idx) :
    out0_4 u vn w b y = blkDu vn u w b (y 0) (y 1) := by
  frame_out
  canon_tiles z h
  all_goals
    unfold_payloads
    idx_vars z
    pointwise
    first
    | exact blkDu_piece vn u w b y _ _ z0 z1 _ (by decide) h0 h1 rfl (fun _ => rfl)
    | exact blkDu_piece vn u w b y 0 _ z0 z1 _ rfl (h0.trans (zero_add _).symm) h1 (zero_add _).symm (fun _ => (zero_add _).symm)

variable (m : (ℓ : Loc nD τ sig) → Buf (Elt Ideal) ℓ)

/-- The block indices of the windows. -/
theorem indices : ∀ t : Fin grid0.N, win0_0.index t = ![t.val % 2, t.val / 2] ∧ win0_1.index t = ![t.val % 2, t.val / 2] ∧
    win0_2.index t = ![t.val / 2, 0, 0] ∧ win0_3.index t = ![t.val / 2, 0, 0] ∧
    win0_4.index t = ![t.val % 2, t.val / 2] := by decide +kernel

theorem lt16 (t : Fin cfg0.N) : t.val < 16 := by have h := t.isLt; have e : cfg0.N = 16 := N_0; omega

/-- Row `r` of the half that point `t` works on. -/
def halfRow (t : Fin cfg0.N) (r : Fin 2048) : Fin 4096 := ⟨t.val % 2 * 2048 + r.val, by have := r.isLt; omega⟩
/-- The group of point `t`. -/
def grp (t : Fin cfg0.N) : Fin 8 := ⟨t.val / 2, by have := lt16 t; omega⟩

theorem blk0 (c : Dev nD) (t : Fin cfg0.N) (r : Fin 2048) (d : Fin 256) :
    iblk m c 0 t (ix2 r d) = m ((c : Thread nD τ).loc main_arg0) (ix2 (halfRow t r) (chan (grp t) d)) := by
  have idx := indices
  blk_point [iblk, V, idx t] <;> rfl

theorem blk1 (c : Dev nD) (t : Fin cfg0.N) (r : Fin 2048) (d : Fin 256) :
    iblk m c 1 t (ix2 r d) = m ((c : Thread nD τ).loc main_arg1) (ix2 (halfRow t r) (chan (grp t) d)) := by
  have idx := indices
  blk_point [iblk, V, idx t] <;> rfl

theorem blk2 (c : Dev nD) (t : Fin cfg0.N) (r s : Fin 128) :
    iblk m c 2 t (ix3 0 r s) = m ((c : Thread nD τ).loc main_arg2) (ix3 (grp t) r s) := by
  have idx := indices
  blk_point [iblk, V, idx t] <;> rfl

theorem blk3 (c : Dev nD) (t : Fin cfg0.N) (r : Fin 128) :
    iblk m c 3 t (ix3 0 r 0) = m ((c : Thread nD τ).loc main_arg3) (ix2 (grp t) r) := by
  have idx := indices
  blk_point [iblk, V, idx t] <;> rfl

theorem posOf_halfRow (t : Fin cfg0.N) (r : Fin 2048) : posOf (halfRow t r) = blkPos r :=
  Fin.ext (by show (t.val % 2 * 2048 + r.val) % 128 = r.val % 128; omega)

theorem halfRow_blkRow (t : Fin cfg0.N) (r : Fin 2048) (s : Fin 128) :
    halfRow t (blkRow (blkChunk r) s) = tokRow (chunkOf (halfRow t r)) s :=
  Fin.ext (by
    show t.val % 2 * 2048 + (r.val / 128 * 128 + s.val) = (t.val % 2 * 2048 + r.val) / 128 * 128 + s.val
    omega)

/-- The gated channels that the call leaves. -/
abbrev result (c : Dev nD) (t : Fin 4096) (k : Fin 2048) : EReal :=
  gradU (m ((c : Thread nD τ).loc main_arg1) : Tok) (m ((c : Thread nD τ).loc main_arg0) : Tok) (m ((c : Thread nD τ).loc main_arg2) : Gate) (m ((c : Thread nD τ).loc main_arg3) : Bias) t k

theorem block_eq (c : Dev nD) (t : Fin cfg0.N) (r : Fin 2048) (d : Fin 256) :
    blkDu (iblk m c 1 t) (iblk m c 0 t) (iblk m c 2 t) (iblk m c 3 t) r d = result m c (halfRow t r) (chan (grp t) d) := by
  unfold blkDu result gradU
  simp only [groupOf_chan, posOf_halfRow, ← halfRow_blkRow]
  rw [blk0, blk3]
  refine congrArg₂ (· * ·) rfl (congrArg₂ (· + ·) (Finset.sum_congr rfl fun s _ => ?_) rfl)
  rw [blk1, blk2]

theorem outs (c : Dev nD) (t : Fin cfg0.N) (y : S2048x256.Idx) :
    out0_4 (iblk m c 0 t) (iblk m c 1 t) (iblk m c 2 t) (iblk m c 3 t) y = result m c (halfRow t (y 0)) (chan (grp t) (y 1)) :=
  (block _ _ _ _ y).trans (block_eq m c t (y 0) (y 1))

theorem arr (c : Dev nD) : (dats m 0 c).arrAt 4 cfg0.N = fun y => result m c (y 0) (y 1) := by
  have idx := indices
  refine (dats m 0 c).arrAt_eq_of_covers 4 _ (by decide +kernel) fun t hf y => ?_
  blk_simp
  rw [after0_4]
  refine (outs m c t y).trans (congrArg₂ (result m c) (Fin.ext ?_) (Fin.ext ?_)) <;> blk_simp [idx t] <;> rfl

/-- The gated channels the call leaves, as an array. -/
abbrev whole (c : Dev nD) : Tok := fun y => result m c (y 0) (y 1)

end call

section plain

open Cert.Reference35Ideal Cert.Reference35Ideal.Read

variable (x0 x1 : (⟨S4096x2048, .bf16⟩ : BufTy).Contents (Elt Ideal)) (x2 : (⟨S8x128x128, .f32⟩ : BufTy).Contents (Elt Ideal))
  (x3 : (⟨S8x128, .f32⟩ : BufTy).Contents (Elt Ideal))

set_option maxHeartbeats 1000000 in
theorem reference (y : S4096x2048.Idx) : val_main_v18 (F := Ideal) x0 x1 x2 x3 y = gradU x1 x0 x2 x3 (y 0) (y 1) := by
  rw [← val_main_v18_eq]
  idx_vars y
  pointwise
  simp only [select_sge _ _ (Fin.isLt _) (Nat.mod_lt _ (by decide : 128 > 0))]
  have hp : y0.val % 2048 % 128 = y0.val % 128 := by omega
  have hpos (h) : (⟨y0.val % 2048 % 128, h⟩ : Fin 128) = posOf y0 := Fin.ext hp
  have hrow (s : Fin 128) (h) :
      (⟨y0.val / 2048 * 2048 + y0.val % 2048 / 128 * 128 + s.val, h⟩ : Fin 4096) = tokRow (chunkOf y0) s :=
    Fin.ext (by show _ = y0.val / 128 * 128 + s.val; dsimp only; omega)
  simp only [hpos, hrow]
  refine congrArg₂ (· * ·) rfl (congrArg₂ (· + ·) (Finset.sum_congr rfl fun s _ => ?_) rfl)
  rw [mul_comm]
  exact congrArg (fun n => keep s.val n _) hp

end plain

/-- The reference's frame. -/
theorem frame_reference : Cert.quiescent_Reference35Ideal := by
  intro m ρ _
  exact (θ_run Cert.Reference35Ideal.defs _ _).mono
    (fun r h => ⟨fun c => (h c).2, sem_eq_zero_of_no_sems (by decide) r.2⟩)
    (Cert.Reference35Ideal.Value.run (F := Ideal) m ρ)

/-- The call's results are the reference's. -/
theorem algebraic : Cert.algebraic_Kernel35Ideal_Reference35Ideal := by
  intro m ρ m' ρ' _ hag
  refine ⟨whole m, ?_, ?_⟩
  · refine (θ_run Cert.Kernel35Ideal.defs _ _).mono (fun r h c => ?_) (Cert.Kernel35Ideal.Value.run_blocks (F := Ideal) m ρ)
    obtain ⟨h0, hargs⟩ := h c
    exact ⟨h0.trans (arr m c), hargs⟩
  · refine (θ_run Cert.Reference35Ideal.defs _ _).mono (fun r h c => ?_) (Cert.Reference35Ideal.Value.run (F := Ideal) m' ρ')
    obtain ⟨h0, hargs⟩ := h c
    obtain ⟨e0, e1, e2, e3⟩ := hag c
    refine ⟨h0.trans ?_, hargs⟩
    · unfold whole result
      rw [e0, e1, e2, e3]
      exact funext (reference _ _ _ _)

end Cert.SguForward

end
-- ==== Proof.GeluNorm.lean ====
module

public import Idealize.ShloMosaic.Lib.Pointwise
public import Idealize.ShloMosaic.Lib.Pipeline.ValueKit

/-!
# GELU and the layer norm

GELU by the hyperbolic tangent, in the three ways the programs write it, and the layer norm of 2048 channels.
-/

@[expose] public section

noncomputable section

namespace Cert.GeluNorm

open Idealize.ShloMosaic

/-- One half. -/
abbrev half : EReal := Ideal.ofBits .f32 0x3F000000#32
/-- The root of two over pi. -/
abbrev scale : EReal := Ideal.ofBits .f32 0x3F4C422A#32
/-- The cube's weight. -/
abbrev cubic : EReal := Ideal.ofBits .f32 0x3D372713#32
/-- The number of channels. -/
abbrev width : EReal := Ideal.ofBits .f32 0x45000000#32
/-- What is added to the variance. -/
abbrev eps : EReal := Ideal.ofBits .f32 0x358637BD#32

theorem scale_pos : ∃ r : ℝ, 0 < r ∧ scale = (r : EReal) := by
  refine ⟨13386282 / 16777216, by norm_num, ?_⟩
  simp [Ideal.ofBits, Ideal.ieee, -EReal.coe_mul]; norm_num

theorem cubic_pos : ∃ r : ℝ, 0 < r ∧ cubic = (r : EReal) := by
  refine ⟨12003091 / 268435456, by norm_num, ?_⟩
  simp [Ideal.ofBits, Ideal.ieee, -EReal.coe_mul]; norm_num

/-- GELU. -/
def gelu (x : EReal) : EReal := half * x * (1 + Ideal.tanh (scale * (x + cubic * (x * x * x))))
/-- GELU as `x` times a half of one and the tangent. -/
def geluCdf (x : EReal) : EReal := x * (half * (1 + Ideal.tanh (scale * (x + cubic * (x * x * x)))))
/-- GELU with `x` taken out of the tangent's argument. -/
def geluOut (x : EReal) : EReal := half * x * (1 + Ideal.tanh (scale * x * (1 + cubic * (x * x))))

theorem geluCdf_eq (x : EReal) : geluCdf x = gelu x := by
  unfold geluCdf gelu
  rw [← mul_assoc, mul_comm x half]

theorem argument (x : EReal) : scale * x * (1 + cubic * (x * x)) = scale * (x + cubic * (x * x * x)) := by
  obtain ⟨s, hs, es⟩ := scale_pos
  obtain ⟨a, ha, ea⟩ := cubic_pos
  rw [es, ea]
  induction x with
  | bot =>
    simp only [EReal.bot_mul_bot, EReal.top_mul_bot, EReal.coe_mul_bot_of_pos hs, EReal.coe_mul_bot_of_pos ha,
      EReal.coe_mul_top_of_pos ha, EReal.bot_add, EReal.bot_mul_top]
    rw [← EReal.coe_one, EReal.coe_add_top, EReal.bot_mul_top]
  | coe r =>
    norm_cast
    ring_nf
  | top =>
    simp only [EReal.top_mul_top, EReal.coe_mul_top_of_pos hs, EReal.coe_mul_top_of_pos ha, EReal.top_add_top]
    rw [← EReal.coe_one, EReal.coe_add_top, EReal.top_mul_top]

theorem geluOut_eq (x : EReal) : geluOut x = gelu x := by
  unfold geluOut gelu
  rw [argument]

/-- The mean of a token's channels. -/
def mean (v : Fin 2048 → EReal) : EReal := Ideal.div (∑ k, v k) width
/-- A channel less the mean. -/
def centred (v : Fin 2048 → EReal) (k : Fin 2048) : EReal := v k - mean v
/-- The inverse root of the variance. -/
def inv (v : Fin 2048 → EReal) : EReal := Ideal.rsqrt (Ideal.div (∑ k, centred v k * centred v k) width + eps)
/-- A channel after the layer norm, before its gain and bias. -/
def unit (v : Fin 2048 → EReal) (k : Fin 2048) : EReal := centred v k * inv v

/-- The first half of a token's channels, after GELU. -/
def lower (f : EReal → EReal) (z : Fin 4096 → EReal) (k : Fin 2048) : EReal := f (z ⟨k.val, by have := k.isLt; omega⟩)
/-- The second half of a token's channels, after GELU. -/
def upper (f : EReal → EReal) (z : Fin 4096 → EReal) (k : Fin 2048) : EReal := f (z ⟨2048 + k.val, by have := k.isLt; omega⟩)

theorem funCdf : geluCdf = gelu := funext geluCdf_eq
theorem funOut : geluOut = gelu := funext geluOut_eq

theorem upper_congr {f : EReal → EReal} {z z' : Fin 4096 → EReal} (h : z = z') : upper f z = upper f z' := by rw [h]

/-- The layer norm of a token's second half, with its gain and bias. -/
def normed (f : EReal → EReal) (z : Fin 4096 → EReal) (g b : Fin 2048 → EReal) (k : Fin 2048) : EReal :=
  unit (upper f z) k * g k + b k

theorem normed_congr {f : EReal → EReal} {z z' : Fin 4096 → EReal} {g g' b b' : Fin 2048 → EReal} (h0 : z = z')
    (h1 : g = g') (h2 : b = b') (k : Fin 2048) : normed f z g b k = normed f z' g' b' k := by rw [h0, h1, h2]

/-- Row `t` of an array of `n` tokens. -/
def at_ {n w : Nat} (x : (⟨2, ![n, w]⟩ : Shape).Idx → EReal) (t : Fin n) (j : Fin w) : EReal := x (ix2 t j)
/-- A gain's channels. -/
def gain {w : Nat} (g : (⟨1, ![w]⟩ : Shape).Idx → EReal) (j : Fin w) : EReal := g (ix1 j)

/-- The first half after GELU, as an array. -/
def lowerA (z : (⟨2, ![4096, 4096]⟩ : Shape).Idx → EReal) : (⟨2, ![4096, 2048]⟩ : Shape).Idx → EReal :=
  fun y => lower gelu (at_ z (y 0)) (y 1)
/-- The second half after GELU and the layer norm, as an array. -/
def normedA (z : (⟨2, ![4096, 4096]⟩ : Shape).Idx → EReal) (g b : (⟨1, ![2048]⟩ : Shape).Idx → EReal) :
    (⟨2, ![4096, 2048]⟩ : Shape).Idx → EReal := fun y => normed gelu (at_ z (y 0)) (gain g) (gain b) (y 1)
/-- The gain's gradient as an array. -/
def gainA (z : (⟨2, ![4096, 4096]⟩ : Shape).Idx → EReal) (d : (⟨2, ![4096, 2048]⟩ : Shape).Idx → EReal) :
    (⟨2, ![1, 2048]⟩ : Shape).Idx → EReal :=
  fun y => ∑ t : Fin 4096, at_ d t (y 1) * unit (upper gelu (at_ z t)) (y 1)
/-- The bias's gradient as an array. -/
def biasA (d : (⟨2, ![4096, 2048]⟩ : Shape).Idx → EReal) : (⟨2, ![1, 2048]⟩ : Shape).Idx → EReal :=
  fun y => ∑ t : Fin 4096, at_ d t (y 1)

end Cert.GeluNorm

end
-- ==== Proof.GeluLnFwd.lean ====
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import Idealize.ShloMosaic.Lib.Pointwise
public import Idealize.ShloMosaic.Lib.Pipeline.ValueKit
public import proofs.«01_k».proof.Proof.GeluNorm

/-!
# GELU and the layer norm of the spatial gating unit

Both halves of the channels go through GELU; the second is then layer-normalised.
-/

@[expose] public section

set_option maxRecDepth 16384

noncomputable section

namespace Cert.GeluLnFwd

open Cert.GeluNorm Idealize.ShloMosaic Idealize.ShloMosaic.TcCoe Idealize.SL.Sem
open Idealize.ShloMosaic.Pipeline (Dat)

section call

open Cert.Kernel36Ideal Cert.Kernel36Ideal.Gen

section block

variable (z : Vec Ideal S512x4096 .bf16) (g b : Vec Ideal S1x2048 .f32) (y : S512x2048.Idx)

theorem block_u : out0_3 z g b y = lower gelu (at_ z (y 0)) (y 1) := by
  frame_out
  unfold_payloads
  idx_vars y
  pointwise
  rfl

theorem block_vn : out0_4 z g b y = normed gelu (at_ z (y 0)) (at_ g 0) (at_ b 0) (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_1.index t = ![0, 0] ∧
    win0_2.index t = ![0, 0] ∧ win0_3.index t = ![t.val, 0] ∧ win0_4.index t = ![t.val, 0] := by decide +kernel

theorem lt8 (t : Fin cfg0.N) : t.val < 8 := by have h := t.isLt; have e : cfg0.N = 8 := N_0; omega

/-- Row `r` of the tokens that point `t` works on. -/
def tokRow (t : Fin cfg0.N) (r : Fin 512) : Fin 4096 := ⟨t.val * 512 + r.val, by have := r.isLt; have := lt8 t; omega⟩

theorem blk0 (c : Dev nD) (t : Fin cfg0.N) (r : Fin 512) : at_ (iblk m c 0 t) r = at_ (m ((c : Thread nD τ).loc main_arg0)) (tokRow t r) := by
  have idx := indices
  funext j
  unfold at_
  blk_point [iblk, V, idx t] <;> rfl

theorem blk1 (c : Dev nD) (t : Fin cfg0.N) : at_ (iblk m c 1 t) 0 = gain (m ((c : Thread nD τ).loc main_arg1)) := by
  have idx := indices
  funext j
  unfold at_ gain
  blk_point [iblk, V, idx t] <;> rfl

theorem blk2 (c : Dev nD) (t : Fin cfg0.N) : at_ (iblk m c 2 t) 0 = gain (m ((c : Thread nD τ).loc main_arg2)) := by
  have idx := indices
  funext j
  unfold at_ gain
  blk_point [iblk, V, idx t] <;> rfl

/-- The first half that the call leaves. -/
abbrev uOf (c : Dev nD) (t : Fin 4096) (k : Fin 2048) : EReal := lower gelu (at_ (m ((c : Thread nD τ).loc main_arg0)) t) k
/-- The second half that the call leaves. -/
abbrev vnOf (c : Dev nD) (t : Fin 4096) (k : Fin 2048) : EReal :=
  normed gelu (at_ (m ((c : Thread nD τ).loc main_arg0)) t) (gain (m ((c : Thread nD τ).loc main_arg1))) (gain (m ((c : Thread nD τ).loc main_arg2))) k

theorem outs3 (c : Dev nD) (t : Fin cfg0.N) (y : S512x2048.Idx) :
    out0_3 (iblk m c 0 t) (iblk m c 1 t) (iblk m c 2 t) y = uOf m c (tokRow t (y 0)) (y 1) :=
  (block_u _ _ _ y).trans (congrArg (fun z => lower gelu z (y 1)) (blk0 m c t (y 0)))

theorem outs4 (c : Dev nD) (t : Fin cfg0.N) (y : S512x2048.Idx) :
    out0_4 (iblk m c 0 t) (iblk m c 1 t) (iblk m c 2 t) y = vnOf m c (tokRow t (y 0)) (y 1) :=
  (block_vn _ _ _ y).trans (normed_congr (blk0 m c t (y 0)) (blk1 m c t) (blk2 m c t) (y 1))

theorem arr3 (c : Dev nD) : (dats m 0 c).arrAt 3 cfg0.N = fun y => uOf m c (y 0) (y 1) := by
  have idx := indices
  refine (dats m 0 c).arrAt_eq_of_covers 3 _ (by decide +kernel) fun t hf y => ?_
  blk_simp
  rw [after0_3]
  refine (outs3 m c t y).trans (congrArg₂ (uOf m c) (Fin.ext ?_) (Fin.ext ?_)) <;> blk_simp [idx t] <;> rfl

theorem arr4 (c : Dev nD) : (dats m 0 c).arrAt 4 cfg0.N = fun y => vnOf m c (y 0) (y 1) := by
  have idx := indices
  refine (dats m 0 c).arrAt_eq_of_covers 4 _ (by decide +kernel) fun t hf y => ?_
  blk_simp
  rw [after0_4]
  refine (outs4 m c t y).trans (congrArg₂ (vnOf m c) (Fin.ext ?_) (Fin.ext ?_)) <;> blk_simp [idx t] <;> rfl

/-- The first half the call leaves, as an array. -/
abbrev wholeU (c : Dev nD) : (⟨2, ![4096, 2048]⟩ : Shape).Idx → EReal := lowerA (m ((c : Thread nD τ).loc main_arg0))
/-- The second half the call leaves, as an array. -/
abbrev wholeVn (c : Dev nD) : (⟨2, ![4096, 2048]⟩ : Shape).Idx → EReal :=
  normedA (m ((c : Thread nD τ).loc main_arg0)) (m ((c : Thread nD τ).loc main_arg1)) (m ((c : Thread nD τ).loc main_arg2))

end call

section plain

open Cert.Reference36Ideal Cert.Reference36Ideal.Read Cert.Reference36Ideal.Value

theorem reference_u (x0 : (⟨S4096x4096, .bf16⟩ : BufTy).Contents (Elt Ideal)) (y : S4096x2048.Idx) :
    val_main_v16 (F := Ideal) x0 y = lowerA x0 y := by
  unfold lowerA
  rw [← funCdf, ← val_main_v16_eq]
  idx_vars y
  pointwise
  rfl

theorem reference_vn (m : (ℓ : Loc nD τ sig) → Buf (Elt Ideal) ℓ) (c : Dev nD) (y : S4096x2048.Idx) :
    res_main_v39 (F := Ideal) m c y
      = normedA (m ((c.tc : Thread nD τ).loc main_arg0)) (m ((c.tc : Thread nD τ).loc main_arg1))
        (m ((c.tc : Thread nD τ).loc main_arg2)) y := by
  unfold res_main_v39 normedA
  rw [← funCdf]
  idx_vars y
  pointwise
  rfl

end plain

/-- The reference's frame. -/
theorem frame_reference : Cert.quiescent_Reference36Ideal := by
  intro m ρ _
  exact (θ_run Cert.Reference36Ideal.defs _ _).mono
    (fun r h => ⟨fun c => (h c).2.2, sem_eq_zero_of_no_sems (by decide) r.2⟩)
    (Cert.Reference36Ideal.Value.run (F := Ideal) m ρ)

/-- The call's results are the reference's. -/
theorem algebraic : Cert.algebraic_Kernel36Ideal_Reference36Ideal := by
  intro m ρ m' ρ' _ hag
  refine ⟨wholeU m, wholeVn m, ?_, ?_⟩
  · refine (θ_run Cert.Kernel36Ideal.defs _ _).mono (fun r h c => ?_) (Cert.Kernel36Ideal.Value.run_blocks (F := Ideal) m ρ)
    obtain ⟨h3, h4, hargs⟩ := h c
    exact ⟨h3.trans (arr3 m c), h4.trans (arr4 m c), hargs⟩
  · refine (θ_run Cert.Reference36Ideal.defs _ _).mono (fun r h c => ?_) (Cert.Reference36Ideal.Value.run (F := Ideal) m' ρ')
    obtain ⟨h3, h4, hargs⟩ := h c
    obtain ⟨e0, e1, e2⟩ := hag c
    refine ⟨h3.trans ?_, h4.trans ?_, hargs⟩
    · show _ = lowerA _
      rw [← e0]
      exact funext (reference_u _)
    · show _ = normedA _ _ _
      rw [← e0, ← e1, ← e2]
      exact funext (reference_vn m' c)

end Cert.GeluLnFwd

end
-- ==== Proof.GeluLnGains.lean ====
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import Idealize.ShloMosaic.Lib.Pointwise
public import Idealize.ShloMosaic.Lib.Pipeline.ValueKit
public import proofs.«01_k».proof.Proof.GeluNorm

/-!
# Backward through the layer norm of the spatial gating unit: its gain and bias

The layer norm comes after GELU, which is computed again. Each gradient is a sum over all tokens.
-/

@[expose] public section

set_option maxRecDepth 16384

noncomputable section

namespace Cert.GeluLnGains

open Cert.GeluNorm Idealize.ShloMosaic Idealize.ShloMosaic.TcCoe Idealize.SL.Sem
open Idealize.ShloMosaic.Pipeline (Dat)

/-- What a token adds to the gain's gradient. -/
def term (z : Fin 4096 → EReal) (d : Fin 2048 → EReal) (k : Fin 2048) : EReal := d k * unit (upper gelu z) k

section call

open Cert.Kernel37Ideal Cert.Kernel37Ideal.Gen

section block

variable (c : Dev nD) (i : grid0.Coords)
  (a1 : Memref sig .tc .vmem S128x4096 .bf16) (h1 : a1.IsWhole)
  (a2 : Memref sig .tc .vmem S128x2048 .bf16) (h2 : a2.IsWhole)
  (a3 : Memref sig .tc .vmem S128x2048 .bf16) (h3 : a3.IsWhole)
  (a4 : Memref sig .tc .vmem S1x2048 .f32) (h4 : a4.IsWhole)
  (a5 : Memref sig .tc .vmem S1x2048 .f32) (h5 : a5.IsWhole)
  (a6 : Memref sig .tc .vmem S128x4096 .bf16) (h6 : a6.IsWhole)
  (a7 : Memref sig .tc .vmem S1x2048 .f32) (h7 : a7.IsWhole)
  (a8 : Memref sig .tc .vmem S1x2048 .f32) (h8 : a8.IsWhole)
  (z : Vec Ideal S128x4096 .bf16) (du dvn : Vec Ideal S128x2048 .bf16) (g b og ob : Vec Ideal S1x2048 .f32)

/-- At the first point, the gain's gradient. -/
theorem dg_A (hc0 : cond0_0 i) (y : S1x2048.Idx) :
    out0_A_6 c i a1 h1 a2 h2 a3 h3 a4 h4 a5 h5 a6 h6 a7 h7 a8 h8 hc0 z du dvn g b y
      = 0 + ∑ r : Fin 128, at_ dvn r (y 1) * unit (upper gelu (at_ z r)) (y 1) := by
  rw [zero_add]
  rw [← funOut]
  frame_out
  unfold_payloads
  idx_vars y
  pointwise
  rfl

/-- At a later point, the gain's gradient. -/
theorem dg_B (hc0 : ¬cond0_0 i) (y : S1x2048.Idx) :
    out0_B_6 c i a1 h1 a2 h2 a3 h3 a4 h4 a5 h5 a6 h6 a7 h7 a8 h8 hc0 z du dvn g b og ob y
      = og y + ∑ r : Fin 128, at_ dvn r (y 1) * unit (upper gelu (at_ z r)) (y 1) := by
  rw [← funOut]
  frame_out
  unfold_payloads
  idx_vars y
  pointwise
  rfl

/-- At the first point, the bias's gradient. -/
theorem db_A (hc0 : cond0_0 i) (y : S1x2048.Idx) :
    out0_A_7 c i a1 h1 a2 h2 a3 h3 a4 h4 a5 h5 a6 h6 a7 h7 a8 h8 hc0 z du dvn g b y
      = 0 + ∑ r : Fin 128, at_ dvn r (y 1) := by
  rw [zero_add]
  frame_out
  unfold_payloads
  idx_vars y
  pointwise
  rfl

/-- At a later point, the bias's gradient. -/
theorem db_B (hc0 : ¬cond0_0 i) (y : S1x2048.Idx) :
    out0_B_7 c i a1 h1 a2 h2 a3 h3 a4 h4 a5 h5 a6 h6 a7 h7 a8 h8 hc0 z du dvn g b og ob y
      = ob y + ∑ r : Fin 128, at_ dvn r (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val, 0] ∧ win0_2.index t = ![t.val, 0] ∧
    win0_6.index t = ![0, 0] ∧ win0_7.index t = ![0, 0] := by decide +kernel

theorem lt32 (t : Fin cfg0.N) : t.val < 32 := by have h := t.isLt; have e : cfg0.N = 32 := N_0; omega

/-- Row `r` of the tokens that point `t` works on. -/
def tokRow (t : Fin cfg0.N) (r : Fin 128) : Fin 4096 := ⟨t.val * 128 + r.val, by have := r.isLt; have := lt32 t; omega⟩

theorem blk0 (c : Dev nD) (t : Fin cfg0.N) (r : Fin 128) : at_ (iblk m c 0 t) r = at_ (m ((c : Thread nD τ).loc main_arg0)) (tokRow t r) := by
  have idx := indices
  funext j
  unfold at_
  blk_point [iblk, V, idx t] <;> rfl

theorem blk2 (c : Dev nD) (t : Fin cfg0.N) (r : Fin 128) : at_ (iblk m c 2 t) r = at_ (m ((c : Thread nD τ).loc main_arg2)) (tokRow t r) := by
  have idx := indices
  funext j
  unfold at_
  blk_point [iblk, V, idx t] <;> rfl

/-- What token `t` adds to the gain's gradient. -/
abbrev dgOf (c : Dev nD) (t : Fin 4096) (k : Fin 2048) : EReal := term (at_ (m ((c : Thread nD τ).loc main_arg0)) t) (at_ (m ((c : Thread nD τ).loc main_arg2)) t) k
/-- What token `t` adds to the bias's gradient. -/
abbrev dbOf (c : Dev nD) (t : Fin 4096) (k : Fin 2048) : EReal := at_ (m ((c : Thread nD τ).loc main_arg2)) t k

/-- What point `t` adds to the gain's gradient. -/
def partG (c : Dev nD) (t : Fin cfg0.N) (k : Fin 2048) : EReal := ∑ r : Fin 128, dgOf m c (tokRow t r) k
/-- What point `t` adds to the bias's gradient. -/
def partB (c : Dev nD) (t : Fin cfg0.N) (k : Fin 2048) : EReal := ∑ r : Fin 128, dbOf m c (tokRow t r) k

theorem sum_dg (c : Dev nD) (t : Fin cfg0.N) (k : Fin 2048) :
    ∑ r : Fin 128, at_ (iblk m c 2 t) r k * unit (upper gelu (at_ (iblk m c 0 t) r)) k = partG m c t k :=
  Finset.sum_congr rfl fun r _ => congrFun (congrArg₂ term (blk0 m c t r) (blk2 m c t r)) k

theorem sum_db (c : Dev nD) (t : Fin cfg0.N) (k : Fin 2048) :
    ∑ r : Fin 128, at_ (iblk m c 2 t) r k = partB m c t k :=
  Finset.sum_congr rfl fun r _ => congrFun (blk2 m c t r) k

/-- A sum over the tokens, by the block each lies in. -/
theorem sum_tok (t : Fin cfg0.N) (f : Fin 4096 → EReal) (p : Fin cfg0.N → EReal)
    (hp : ∀ s, p s = ∑ r : Fin 128, f (tokRow s r)) (hs : ∀ l : Fin 32, 32 * (t.val / 32) + l.val < cfg0.N) :
    ∑ l : Fin 32, p ⟨32 * (t.val / 32) + l.val, hs l⟩ = ∑ l : Fin 4096, f l := by
  have s := Fin.sum_univ_univ_mul_add 32 128 fun l => if h : l < 4096 then f ⟨l, h⟩ else 0
  refine (Finset.sum_congr rfl fun l _ => (hp _).trans (Finset.sum_congr rfl fun r _ => ?_)).trans
    (s.trans (Finset.sum_congr rfl fun l _ => dif_pos l.isLt))
  have := l.isLt
  have := r.isLt
  have := lt32 t
  rw [dif_pos (by omega)]
  exact congrArg f (Fin.ext (by show (32 * (t.val / 32) + l.val) * 128 + r.val = l.val * 128 + r.val; omega))

theorem outs6_first (c : Dev nD) (t : Fin cfg0.N) (h0 : t.val % 32 = 0) (y : S1x2048.Idx) :
    (outsAt0 m c t.val t.isLt).2.1 y = 0 + partG m c t (y 1) := by
  rw [outsAt0_A m c t h0]
  dsimp only
  rw [dg_A]
  exact congrArg _ (sum_dg ..)

theorem outs6_later (c : Dev nD) (t : Fin cfg0.N) (h0 : ¬t.val % 32 = 0) (y : S1x2048.Idx) :
    (outsAt0 m c t.val t.isLt).2.1 y
      = (outsAt0 m c (t.val - 1) (Nat.lt_of_le_of_lt (Nat.sub_le _ _) t.isLt)).2.1 y + partG m c t (y 1) := by
  rw [outsAt0_B m c t h0]
  dsimp only
  rw [dg_B]
  exact congrArg _ (sum_dg ..)

theorem outs6 (c : Dev nD) (t : Fin cfg0.N) (ht : t.val % 32 = 32 - 1) (y : S1x2048.Idx) :
    (outsAt0 m c t.val t.isLt).2.1 y = ∑ l : Fin 4096, dgOf m c l (y 1) := by
  have e := Pipeline.eq_sum_fin_of_reset_step_apply_of_flush (fun n h => (outsAt0 m c n h).2.1) 32 (fun _ => (0 : EReal))
    (fun t y => partG m c t (y 1)) (outs6_first m c) (outs6_later m c) t ht y
  refine e.trans ((zero_add _).trans ?_)
  exact sum_tok t (fun l => dgOf m c l (y 1)) (fun s => partG m c s (y 1)) (fun s => rfl) _

theorem arr6 (c : Dev nD) : (dats m 0 c).arrAt 6 cfg0.N = fun y => ∑ l : Fin 4096, dgOf m c l (y 1) := by
  have idx := indices
  refine (dats m 0 c).arrAt_eq_of_covers 6 _ (by decide +kernel) fun t hf y => ?_
  blk_simp
  rw [after0_6]
  idx_bounds y
  refine (outs6 m c t ((flush0_6 t).mp hf) y).trans
    (congrArg (fun k => ∑ l : Fin 4096, dgOf m c l k) (Fin.ext ?_)) <;> blk_simp [idx t]

theorem outs7_first (c : Dev nD) (t : Fin cfg0.N) (h0 : t.val % 32 = 0) (y : S1x2048.Idx) :
    (outsAt0 m c t.val t.isLt).2.2 y = 0 + partB m c t (y 1) := by
  rw [outsAt0_A m c t h0]
  dsimp only
  rw [db_A]
  exact congrArg _ (sum_db ..)

theorem outs7_later (c : Dev nD) (t : Fin cfg0.N) (h0 : ¬t.val % 32 = 0) (y : S1x2048.Idx) :
    (outsAt0 m c t.val t.isLt).2.2 y
      = (outsAt0 m c (t.val - 1) (Nat.lt_of_le_of_lt (Nat.sub_le _ _) t.isLt)).2.2 y + partB m c t (y 1) := by
  rw [outsAt0_B m c t h0]
  dsimp only
  rw [db_B]
  exact congrArg _ (sum_db ..)

theorem outs7 (c : Dev nD) (t : Fin cfg0.N) (ht : t.val % 32 = 32 - 1) (y : S1x2048.Idx) :
    (outsAt0 m c t.val t.isLt).2.2 y = ∑ l : Fin 4096, dbOf m c l (y 1) := by
  have e := Pipeline.eq_sum_fin_of_reset_step_apply_of_flush (fun n h => (outsAt0 m c n h).2.2) 32 (fun _ => (0 : EReal))
    (fun t y => partB m c t (y 1)) (outs7_first m c) (outs7_later m c) t ht y
  refine e.trans ((zero_add _).trans ?_)
  exact sum_tok t (fun l => dbOf m c l (y 1)) (fun s => partB m c s (y 1)) (fun s => rfl) _

theorem arr7 (c : Dev nD) : (dats m 0 c).arrAt 7 cfg0.N = fun y => ∑ l : Fin 4096, dbOf m c l (y 1) := by
  have idx := indices
  refine (dats m 0 c).arrAt_eq_of_covers 7 _ (by decide +kernel) fun t hf y => ?_
  blk_simp
  rw [after0_7]
  idx_bounds y
  refine (outs7 m c t ((flush0_7 t).mp hf) y).trans
    (congrArg (fun k => ∑ l : Fin 4096, dbOf m c l k) (Fin.ext ?_)) <;> blk_simp [idx t]

/-- The gain's gradient the call leaves, as an array. -/
abbrev wholeG (c : Dev nD) : (⟨2, ![1, 2048]⟩ : Shape).Idx → EReal := gainA (m ((c : Thread nD τ).loc main_arg0)) (m ((c : Thread nD τ).loc main_arg2))
/-- The bias's gradient the call leaves, as an array. -/
abbrev wholeB (c : Dev nD) : (⟨2, ![1, 2048]⟩ : Shape).Idx → EReal := biasA (m ((c : Thread nD τ).loc main_arg2))

end call

section plain

open Cert.Reference37Ideal Cert.Reference37Ideal.Read Cert.Reference37Ideal.Value

/-- The gain's gradient with the factors the other way round. -/
theorem gainA_eq (z : (⟨2, ![4096, 4096]⟩ : Shape).Idx → EReal) (d : (⟨2, ![4096, 2048]⟩ : Shape).Idx → EReal)
    (y : (⟨2, ![1, 2048]⟩ : Shape).Idx) :
    gainA z d y = ∑ t : Fin 4096, unit (upper gelu (at_ z t)) (y 1) * at_ d t (y 1) :=
  Finset.sum_congr rfl fun _ _ => mul_comm _ _

theorem reference_g (m : (ℓ : Loc nD τ sig) → Buf (Elt Ideal) ℓ) (c : Dev nD) (y : S1x2048.Idx) :
    res_main_v46 (F := Ideal) m c y
      = gainA (m ((c.tc : Thread nD τ).loc main_arg0)) (m ((c.tc : Thread nD τ).loc main_arg2)) y := by
  rw [gainA_eq, ← funCdf]
  unfold res_main_v46
  idx_vars y
  pointwise
  simp only [Fin.sum_univ_one]
  rfl

theorem reference_b (x2 : (⟨S4096x2048, .bf16⟩ : BufTy).Contents (Elt Ideal)) (y : S1x2048.Idx) :
    val_main_v47 (F := Ideal) x2 y = biasA x2 y := by
  rw [← val_main_v47_eq]
  idx_vars y
  pointwise
  simp only [Fin.sum_univ_one]
  rfl

end plain

/-- The reference's frame. -/
theorem frame_reference : Cert.quiescent_Reference37Ideal := by
  intro m ρ _
  exact (θ_run Cert.Reference37Ideal.defs _ _).mono
    (fun r h => ⟨fun c => (h c).2.2, sem_eq_zero_of_no_sems (by decide) r.2⟩)
    (Cert.Reference37Ideal.Value.run (F := Ideal) m ρ)

/-- The call's results are the reference's. -/
theorem algebraic : Cert.algebraic_Kernel37Ideal_Reference37Ideal := by
  intro m ρ m' ρ' _ hag
  refine ⟨wholeG m, wholeB m, ?_, ?_⟩
  · refine (θ_run Cert.Kernel37Ideal.defs _ _).mono (fun r h c => ?_) (Cert.Kernel37Ideal.Value.run_blocks (F := Ideal) m ρ)
    obtain ⟨-, h6, h7, hargs⟩ := h c
    exact ⟨h6.trans (arr6 m c), h7.trans (arr7 m c), hargs⟩
  · refine (θ_run Cert.Reference37Ideal.defs _ _).mono (fun r h c => ?_) (Cert.Reference37Ideal.Value.run (F := Ideal) m' ρ')
    obtain ⟨h6, h7, hargs⟩ := h c
    obtain ⟨e0, e1, e2, e3, e4⟩ := hag c
    refine ⟨h6.trans ?_, h7.trans ?_, hargs⟩
    · show _ = gainA _ _
      rw [← e0, ← e2]
      exact funext (reference_g m' c)
    · show _ = biasA _
      rw [← e2]
      exact funext (reference_b _)

end Cert.GeluLnGains

end
-- ==== Proof.LossHead.lean ====
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import Idealize.ShloMosaic.Lib.Pointwise
public import Idealize.ShloMosaic.Lib.Pipeline.ValueKit

/-!
# The loss, and backward through it and the gate below it

The loss is half the sum over the tokens of the mean squared error. Its slope in the last hidden states goes on
through the gated input embedding. The call adds the loss block by block, and writes it in each lane.
-/

@[expose] public section

set_option maxRecDepth 16384

noncomputable section

namespace Cert.LossHead

open Idealize.ShloMosaic Idealize.ShloMosaic.TcCoe Idealize.SL.Sem
open Idealize.ShloMosaic.Pipeline (Dat)

/-- The width of a token. -/
def width : EReal := Ideal.ofBits .f32 0x44800000#32

/-- One half. -/
def half : EReal := Ideal.ofBits .f32 0x3F000000#32

theorem width_eq : width = ((1024 : ℝ) : EReal) := by
  unfold width
  simp [Ideal.ofBits, Ideal.ieee, -EReal.coe_mul]; norm_num

theorem half_eq : half = ((1 / 2 : ℝ) : EReal) := by
  unfold half
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- Half times a sum, term by term. -/
theorem half_mul_sum {ι : Type} (s : Finset ι) (f : ι → EReal) : ∑ i ∈ s, half * f i = half * ∑ i ∈ s, f i := by
  classical
  induction s using Finset.induction_on with
  | empty => rw [Finset.sum_empty, Finset.sum_empty, mul_zero]
  | insert a s ha ih =>
    rw [Finset.sum_insert ha, Finset.sum_insert ha, ih, half_eq,
      EReal.left_distrib_of_nonneg_of_ne_top (by exact_mod_cast (by norm_num : (0 : ℝ) ≤ 1 / 2)) (EReal.coe_ne_top _)]

/-- The mean's share of the slope times the square's slope is the difference over the width. -/
theorem slope_eq (d : EReal) : Ideal.div half width * (Ideal.ofBits .f32 0x40000000#32 * d) = Ideal.div d width := by
  rw [width_eq, Ideal.div_coe (by norm_num), Ideal.div_coe (by norm_num), half_eq, two_eq, ← mul_assoc, ← EReal.coe_mul,
    ← EReal.coe_mul, mul_comm]
  norm_num

/-- The sigmoid. -/
def sigm (x : EReal) : EReal := Ideal.div 1 (1 + Ideal.exp (-x))

/-- The slope of the loss at one value. -/
def slope (y t : EReal) : EReal := Ideal.div (y - t) width

/-- The gradient of the gate's logits at one value. -/
def gateBack (d g p : EReal) : EReal := d * p * sigm g * (1 - sigm g)

/-- The mean squared error of a token. -/
def err (y t : Fin 1024 → EReal) : EReal := Ideal.div (∑ j, (y j - t j) * (y j - t j)) width

/-- Row `r` of an array. -/
def at_ {n w : Nat} (x : (⟨2, ![n, w]⟩ : Shape).Idx → EReal) (r : Fin n) (j : Fin w) : EReal := x (ix2 r j)

/-- The loss's slope in the last hidden states, as an array. -/
def dyA (y t : (⟨2, ![4096, 1024]⟩ : Shape).Idx → EReal) : (⟨2, ![4096, 1024]⟩ : Shape).Idx → EReal :=
  fun i => slope (at_ y (i 0) (i 1)) (at_ t (i 0) (i 1))

/-- The gradient of the projected embedding, as an array. -/
def dpA (y t g : (⟨2, ![4096, 1024]⟩ : Shape).Idx → EReal) : (⟨2, ![4096, 1024]⟩ : Shape).Idx → EReal :=
  fun i => slope (at_ y (i 0) (i 1)) (at_ t (i 0) (i 1)) * sigm (at_ g (i 0) (i 1))

/-- The gradient of the gate's logits, as an array. -/
def dgA (y t g p : (⟨2, ![4096, 1024]⟩ : Shape).Idx → EReal) : (⟨2, ![4096, 1024]⟩ : Shape).Idx → EReal :=
  fun i => gateBack (slope (at_ y (i 0) (i 1)) (at_ t (i 0) (i 1))) (at_ g (i 0) (i 1)) (at_ p (i 0) (i 1))

/-- The loss in each lane. -/
def lossA (y t : (⟨2, ![4096, 1024]⟩ : Shape).Idx → EReal) : (⟨2, ![1, 128]⟩ : Shape).Idx → EReal :=
  fun _ => half * ∑ r : Fin 4096, err (at_ y r) (at_ t r)

section call

open Cert.Kernel38Ideal Cert.Kernel38Ideal.Gen

section block

variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x1024 .f32) (h3 : a3.IsWhole)
  (a4 : Memref sig .tc .vmem S256x1024 .f32) (h4 : a4.IsWhole)
  (a5 : Memref sig .tc .vmem S256x1024 .f32) (h5 : a5.IsWhole)
  (a6 : Memref sig .tc .vmem S256x1024 .bf16) (h6 : a6.IsWhole)
  (a7 : Memref sig .tc .vmem S256x1024 .bf16) (h7 : a7.IsWhole)
  (a8 : Memref sig .tc .vmem S1x128 .f32) (h8 : a8.IsWhole)
  (x t g p : Vec Ideal S256x1024 .f32) (ol : Vec Ideal S1x128 .f32)

/-- At the first point, the loss's slope. -/
theorem dy_A (hc0 : cond0_0 i) (y : S256x1024.Idx) :
    out0_A_4 c i a1 h1 a2 h2 a3 h3 a4 h4 a5 h5 a6 h6 a7 h7 a8 h8 hc0 x t g p y
      = slope (at_ x (y 0) (y 1)) (at_ t (y 0) (y 1)) := by
  frame_out
  unfold_payloads
  idx_vars y
  pointwise
  rfl

/-- At a later point, the loss's slope. -/
theorem dy_B (hc0 : ¬cond0_0 i) (y : S256x1024.Idx) :
    out0_B_4 c i a1 h1 a2 h2 a3 h3 a4 h4 a5 h5 a6 h6 a7 h7 a8 h8 hc0 x t g p ol y
      = slope (at_ x (y 0) (y 1)) (at_ t (y 0) (y 1)) := by
  frame_out
  unfold_payloads
  idx_vars y
  pointwise
  rfl

/-- At the first point, the gradient of the projected embedding. -/
theorem dp_A (hc0 : cond0_0 i) (y : S256x1024.Idx) :
    out0_A_5 c i a1 h1 a2 h2 a3 h3 a4 h4 a5 h5 a6 h6 a7 h7 a8 h8 hc0 x t g p y
      = slope (at_ x (y 0) (y 1)) (at_ t (y 0) (y 1)) * sigm (at_ g (y 0) (y 1)) := by
  frame_out
  unfold_payloads
  idx_vars y
  pointwise
  simp only [zero_sub]
  rfl

/-- At a later point, the gradient of the projected embedding. -/
theorem dp_B (hc0 : ¬cond0_0 i) (y : S256x1024.Idx) :
    out0_B_5 c i a1 h1 a2 h2 a3 h3 a4 h4 a5 h5 a6 h6 a7 h7 a8 h8 hc0 x t g p ol y
      = slope (at_ x (y 0) (y 1)) (at_ t (y 0) (y 1)) * sigm (at_ g (y 0) (y 1)) := by
  frame_out
  unfold_payloads
  idx_vars y
  pointwise
  simp only [zero_sub]
  rfl

/-- At the first point, the gradient of the gate's logits. -/
theorem dg_A (hc0 : cond0_0 i) (y : S256x1024.Idx) :
    out0_A_6 c i a1 h1 a2 h2 a3 h3 a4 h4 a5 h5 a6 h6 a7 h7 a8 h8 hc0 x t g p y
      = gateBack (slope (at_ x (y 0) (y 1)) (at_ t (y 0) (y 1))) (at_ g (y 0) (y 1)) (at_ p (y 0) (y 1)) := by
  frame_out
  unfold_payloads
  idx_vars y
  pointwise
  simp only [zero_sub]
  rfl

/-- At a later point, the gradient of the gate's logits. -/
theorem dg_B (hc0 : ¬cond0_0 i) (y : S256x1024.Idx) :
    out0_B_6 c i a1 h1 a2 h2 a3 h3 a4 h4 a5 h5 a6 h6 a7 h7 a8 h8 hc0 x t g p ol y
      = gateBack (slope (at_ x (y 0) (y 1)) (at_ t (y 0) (y 1))) (at_ g (y 0) (y 1)) (at_ p (y 0) (y 1)) := by
  frame_out
  unfold_payloads
  idx_vars y
  pointwise
  simp only [zero_sub]
  rfl

/-- At the first point, the loss. -/
theorem loss_A (hc0 : cond0_0 i) (y : S1x128.Idx) :
    out0_A_7 c i a1 h1 a2 h2 a3 h3 a4 h4 a5 h5 a6 h6 a7 h7 a8 h8 hc0 x t g p y
      = 0 + half * ∑ r : Fin 256, err (at_ x r) (at_ t r) := by
  rw [zero_add]
  frame_out
  unfold_payloads
  idx_vars y
  obtain rfl : y0 = 0 := Subsingleton.elim _ _
  pointwise
  rfl

/-- At a later point, the loss. -/
theorem loss_B (hc0 : ¬cond0_0 i) (y : S1x128.Idx) :
    out0_B_7 c i a1 h1 a2 h2 a3 h3 a4 h4 a5 h5 a6 h6 a7 h7 a8 h8 hc0 x t g p ol y
      = ol y + half * ∑ r : Fin 256, err (at_ x r) (at_ t r) := by
  frame_out
  unfold_payloads
  idx_vars y
  obtain rfl : y0 = 0 := Subsingleton.elim _ _
  pointwise
  rfl

end block

variable (m : (ℓ : Loc nD τ sig) → Buf (Elt Ideal) ℓ)

/-- The block indices of the windows. -/
theorem indices : ∀ t : Fin grid0.N, win0_0.index t = ![t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![0, 0] := by decide +kernel

theorem lt16 (t : Fin cfg0.N) : t.val < 16 := by have h := t.isLt; have e : cfg0.N = 16 := N_0; omega

/-- Row `r` of the tokens that point `t` works on. -/
def tokRow (t : Fin cfg0.N) (r : Fin 256) : Fin 4096 := ⟨t.val * 256 + r.val, by have := r.isLt; have := lt16 t; omega⟩

theorem blk0 (c : Dev nD) (t : Fin cfg0.N) (r : Fin 256) : at_ (iblk m c 0 t) r = at_ (m ((c : Thread nD τ).loc main_arg0)) (tokRow t r) := by
  have idx := indices
  funext j
  unfold at_
  blk_point [iblk, V, idx t] <;> rfl

theorem blk1 (c : Dev nD) (t : Fin cfg0.N) (r : Fin 256) : at_ (iblk m c 1 t) r = at_ (m ((c : Thread nD τ).loc main_arg1)) (tokRow t r) := by
  have idx := indices
  funext j
  unfold at_
  blk_point [iblk, V, idx t] <;> rfl

theorem blk2 (c : Dev nD) (t : Fin cfg0.N) (r : Fin 256) : at_ (iblk m c 2 t) r = at_ (m ((c : Thread nD τ).loc main_arg2)) (tokRow t r) := by
  have idx := indices
  funext j
  unfold at_
  blk_point [iblk, V, idx t] <;> rfl

theorem blk3 (c : Dev nD) (t : Fin cfg0.N) (r : Fin 256) : at_ (iblk m c 3 t) r = at_ (m ((c : Thread nD τ).loc main_arg3)) (tokRow t r) := by
  have idx := indices
  funext j
  unfold at_
  blk_point [iblk, V, idx t] <;> rfl

/-- The loss's slope at channel `k` of token `r`. -/
abbrev dyOf (c : Dev nD) (r : Fin 4096) (k : Fin 1024) : EReal :=
  slope (at_ (m ((c : Thread nD τ).loc main_arg0)) r k) (at_ (m ((c : Thread nD τ).loc main_arg1)) r k)

theorem outs4 (c : Dev nD) (t : Fin cfg0.N) (y : S256x1024.Idx) :
    (outsAt0 m c t.val t.isLt).1 y = dyOf m c (tokRow t (y 0)) (y 1) := by
  by_cases h0 : t.val % 16 = 0
  · rw [outsAt0_A m c t h0]
    dsimp only
    rw [dy_A]
    exact congrArg₂ slope (congrFun (blk0 m c t (y 0)) (y 1)) (congrFun (blk1 m c t (y 0)) (y 1))
  · rw [outsAt0_B m c t h0]
    dsimp only
    rw [dy_B]
    exact congrArg₂ slope (congrFun (blk0 m c t (y 0)) (y 1)) (congrFun (blk1 m c t (y 0)) (y 1))

theorem arr4 (c : Dev nD) : (dats m 0 c).arrAt 4 cfg0.N = fun y => dyOf m c (y 0) (y 1) := by
  have idx := indices
  refine (dats m 0 c).arrAt_eq_of_covers 4 _ (by decide +kernel) fun t hf y => ?_
  blk_simp
  rw [after0_4]
  refine (outs4 m c t y).trans (congrArg₂ (dyOf m c) (Fin.ext ?_) (Fin.ext ?_)) <;> blk_simp [idx t] <;> rfl

/-- The gradient of the projected embedding at channel `k` of token `r`. -/
abbrev dpOf (c : Dev nD) (r : Fin 4096) (k : Fin 1024) : EReal :=
  slope (at_ (m ((c : Thread nD τ).loc main_arg0)) r k) (at_ (m ((c : Thread nD τ).loc main_arg1)) r k) * sigm (at_ (m ((c : Thread nD τ).loc main_arg2)) r k)

theorem outs5 (c : Dev nD) (t : Fin cfg0.N) (y : S256x1024.Idx) :
    (outsAt0 m c t.val t.isLt).2.1 y = dpOf m c (tokRow t (y 0)) (y 1) := by
  by_cases h0 : t.val % 16 = 0
  · rw [outsAt0_A m c t h0]
    dsimp only
    rw [dp_A]
    exact congrArg₂ (fun d g : EReal => d * sigm g) (congrArg₂ slope (congrFun (blk0 m c t (y 0)) (y 1)) (congrFun (blk1 m c t (y 0)) (y 1)))
      (congrFun (blk2 m c t (y 0)) (y 1))
  · rw [outsAt0_B m c t h0]
    dsimp only
    rw [dp_B]
    exact congrArg₂ (fun d g : EReal => d * sigm g) (congrArg₂ slope (congrFun (blk0 m c t (y 0)) (y 1)) (congrFun (blk1 m c t (y 0)) (y 1)))
      (congrFun (blk2 m c t (y 0)) (y 1))

theorem arr5 (c : Dev nD) : (dats m 0 c).arrAt 5 cfg0.N = fun y => dpOf m c (y 0) (y 1) := by
  have idx := indices
  refine (dats m 0 c).arrAt_eq_of_covers 5 _ (by decide +kernel) fun t hf y => ?_
  blk_simp
  rw [after0_5]
  refine (outs5 m c t y).trans (congrArg₂ (dpOf m c) (Fin.ext ?_) (Fin.ext ?_)) <;> blk_simp [idx t] <;> rfl

/-- The gradient of the gate's logits at channel `k` of token `r`. -/
abbrev dgOf (c : Dev nD) (r : Fin 4096) (k : Fin 1024) : EReal :=
  gateBack (slope (at_ (m ((c : Thread nD τ).loc main_arg0)) r k) (at_ (m ((c : Thread nD τ).loc main_arg1)) r k)) (at_ (m ((c : Thread nD τ).loc main_arg2)) r k) (at_ (m ((c : Thread nD τ).loc main_arg3)) r k)

theorem outs6 (c : Dev nD) (t : Fin cfg0.N) (y : S256x1024.Idx) :
    (outsAt0 m c t.val t.isLt).2.2.1 y = dgOf m c (tokRow t (y 0)) (y 1) := by
  by_cases h0 : t.val % 16 = 0
  · rw [outsAt0_A m c t h0]
    dsimp only
    rw [dg_A]
    exact congr (congrArg₂ gateBack (congrArg₂ slope (congrFun (blk0 m c t (y 0)) (y 1)) (congrFun (blk1 m c t (y 0)) (y 1)))
      (congrFun (blk2 m c t (y 0)) (y 1))) (congrFun (blk3 m c t (y 0)) (y 1))
  · rw [outsAt0_B m c t h0]
    dsimp only
    rw [dg_B]
    exact congr (congrArg₂ gateBack (congrArg₂ slope (congrFun (blk0 m c t (y 0)) (y 1)) (congrFun (blk1 m c t (y 0)) (y 1)))
      (congrFun (blk2 m c t (y 0)) (y 1))) (congrFun (blk3 m c t (y 0)) (y 1))

theorem arr6 (c : Dev nD) : (dats m 0 c).arrAt 6 cfg0.N = fun y => dgOf m c (y 0) (y 1) := by
  have idx := indices
  refine (dats m 0 c).arrAt_eq_of_covers 6 _ (by decide +kernel) fun t hf y => ?_
  blk_simp
  rw [after0_6]
  refine (outs6 m c t y).trans (congrArg₂ (dgOf m c) (Fin.ext ?_) (Fin.ext ?_)) <;> blk_simp [idx t] <;> rfl

/-- The mean squared error of token `r`. -/
abbrev errOf (c : Dev nD) (r : Fin 4096) : EReal := err (at_ (m ((c : Thread nD τ).loc main_arg0)) r) (at_ (m ((c : Thread nD τ).loc main_arg1)) r)

/-- What point `t` adds to the loss. -/
def part (c : Dev nD) (t : Fin cfg0.N) : EReal := half * ∑ r : Fin 256, errOf m c (tokRow t r)

theorem part_eq (c : Dev nD) (t : Fin cfg0.N) :
    half * ∑ r : Fin 256, err (at_ (iblk m c 0 t) r) (at_ (iblk m c 1 t) r) = part m c t :=
  congrArg _ (Finset.sum_congr rfl fun r _ => congrArg₂ err (blk0 m c t r) (blk1 m c t r))

/-- A sum over the tokens, by the block each lies in. -/
theorem sum_tok (t : Fin cfg0.N) (f : Fin 4096 → EReal) (p : Fin cfg0.N → EReal)
    (hp : ∀ s, p s = half * ∑ r : Fin 256, f (tokRow s r)) (hs : ∀ l : Fin 16, 16 * (t.val / 16) + l.val < cfg0.N) :
    ∑ l : Fin 16, p ⟨16 * (t.val / 16) + l.val, hs l⟩ = half * ∑ l : Fin 4096, f l := by
  have s := Fin.sum_univ_univ_mul_add 16 256 fun l => if h : l < 4096 then f ⟨l, h⟩ else 0
  refine (Finset.sum_congr rfl fun l _ => (hp _).trans (congrArg _ (Finset.sum_congr rfl fun r _ => ?_))).trans
    ((half_mul_sum _ _).trans (congrArg _ (s.trans (Finset.sum_congr rfl fun l _ => dif_pos l.isLt))))
  have := l.isLt
  have := r.isLt
  have := lt16 t
  rw [dif_pos (by omega)]
  exact congrArg f (Fin.ext (by show (16 * (t.val / 16) + l.val) * 256 + r.val = l.val * 256 + r.val; omega))

theorem outs7_first (c : Dev nD) (t : Fin cfg0.N) (h0 : t.val % 16 = 0) (y : S1x128.Idx) :
    (outsAt0 m c t.val t.isLt).2.2.2 y = 0 + part m c t := by
  rw [outsAt0_A m c t h0]
  dsimp only
  rw [loss_A]
  exact congrArg _ (part_eq ..)

theorem outs7_later (c : Dev nD) (t : Fin cfg0.N) (h0 : ¬t.val % 16 = 0) (y : S1x128.Idx) :
    (outsAt0 m c t.val t.isLt).2.2.2 y
      = (outsAt0 m c (t.val - 1) (Nat.lt_of_le_of_lt (Nat.sub_le _ _) t.isLt)).2.2.2 y + part m c t := by
  rw [outsAt0_B m c t h0]
  dsimp only
  rw [loss_B]
  exact congrArg _ (part_eq ..)

theorem outs7 (c : Dev nD) (t : Fin cfg0.N) (ht : t.val % 16 = 16 - 1) (y : S1x128.Idx) :
    (outsAt0 m c t.val t.isLt).2.2.2 y = half * ∑ l : Fin 4096, errOf m c l := by
  have e := Pipeline.eq_sum_fin_of_reset_step_apply_of_flush (fun n h => (outsAt0 m c n h).2.2.2) 16 (fun _ => (0 : EReal))
    (fun t _ => part m c t) (outs7_first m c) (outs7_later m c) t ht y
  refine e.trans ((zero_add _).trans ?_)
  exact sum_tok t (errOf m c) (part m c) (fun s => rfl) _

theorem arr7 (c : Dev nD) : (dats m 0 c).arrAt 7 cfg0.N = fun _ => half * ∑ l : Fin 4096, errOf m c l := by
  have idx := indices
  refine (dats m 0 c).arrAt_eq_of_covers 7 _ (by decide +kernel) fun t hf y => ?_
  blk_simp
  rw [after0_7]
  exact outs7 m c t ((flush0_7 t).mp hf) y

/-- The loss's slope the call leaves, as an array. -/
abbrev wholeY (c : Dev nD) : (⟨2, ![4096, 1024]⟩ : Shape).Idx → EReal := dyA (m ((c : Thread nD τ).loc main_arg0)) (m ((c : Thread nD τ).loc main_arg1))
/-- The gradient of the projected embedding the call leaves, as an array. -/
abbrev wholeP (c : Dev nD) : (⟨2, ![4096, 1024]⟩ : Shape).Idx → EReal := dpA (m ((c : Thread nD τ).loc main_arg0)) (m ((c : Thread nD τ).loc main_arg1)) (m ((c : Thread nD τ).loc main_arg2))
/-- The gradient of the gate's logits the call leaves, as an array. -/
abbrev wholeG (c : Dev nD) : (⟨2, ![4096, 1024]⟩ : Shape).Idx → EReal := dgA (m ((c : Thread nD τ).loc main_arg0)) (m ((c : Thread nD τ).loc main_arg1)) (m ((c : Thread nD τ).loc main_arg2)) (m ((c : Thread nD τ).loc main_arg3))
/-- The loss the call leaves, in each lane. -/
abbrev wholeL (c : Dev nD) : (⟨2, ![1, 128]⟩ : Shape).Idx → EReal := lossA (m ((c : Thread nD τ).loc main_arg0)) (m ((c : Thread nD τ).loc main_arg1))

end call

section plain

open Cert.Reference38Ideal Cert.Reference38Ideal.Read Cert.Reference38Ideal.Value

variable (x0 x1 x2 x3 : (⟨S4096x1024, .f32⟩ : BufTy).Contents (Elt Ideal))

theorem reference_y (y : S4096x1024.Idx) : val_main_v14 (F := Ideal) x0 x1 y = dyA x0 x1 y := by
  rw [← val_main_v14_eq]
  idx_vars y
  pointwise
  exact slope_eq _

theorem reference_p (y : S4096x1024.Idx) : val_main_v28 (F := Ideal) x0 x1 x2 y = dpA x0 x1 x2 y := by
  rw [← val_main_v28_eq]
  idx_vars y
  pointwise
  exact (mul_comm _ _).trans (congrArg (· * _) (slope_eq _))

theorem reference_g (y : S4096x1024.Idx) : val_main_v29 (F := Ideal) x0 x1 x2 x3 y = dgA x0 x1 x2 x3 y := by
  rw [← val_main_v29_eq]
  idx_vars y
  pointwise
  exact (mul_assoc _ _ _).symm.trans (congrArg (fun d => d * x3 (ix2 y0 y1) * sigm (x2 (ix2 y0 y1)) * (1 - sigm (x2 (ix2 y0 y1)))) (slope_eq _))

theorem reference_l (y : S1x128.Idx) : val_main_v30 (F := Ideal) x0 x1 y = lossA x0 x1 y := by
  rw [← val_main_v30_eq]
  idx_vars y
  pointwise
  rfl

end plain

/-- The reference's frame. -/
theorem frame_reference : Cert.quiescent_Reference38Ideal := by
  intro m ρ _
  exact (θ_run Cert.Reference38Ideal.defs _ _).mono
    (fun r h => ⟨fun c => (h c).2.2.2.2, sem_eq_zero_of_no_sems (by decide) r.2⟩)
    (Cert.Reference38Ideal.Value.run (F := Ideal) m ρ)

/-- The call's results are the reference's. -/
theorem algebraic : Cert.algebraic_Kernel38Ideal_Reference38Ideal := by
  intro m ρ m' ρ' _ hag
  refine ⟨wholeY m, wholeP m, wholeG m, wholeL m, ?_, ?_⟩
  · refine (θ_run Cert.Kernel38Ideal.defs _ _).mono (fun r h c => ?_) (Cert.Kernel38Ideal.Value.run_blocks (F := Ideal) m ρ)
    obtain ⟨h4, h5, h6, h7, hargs⟩ := h c
    exact ⟨h4.trans (arr4 m c), h5.trans (arr5 m c), h6.trans (arr6 m c), h7.trans (arr7 m c), hargs⟩
  · refine (θ_run Cert.Reference38Ideal.defs _ _).mono (fun r h c => ?_) (Cert.Reference38Ideal.Value.run (F := Ideal) m' ρ')
    obtain ⟨h4, h5, h6, h7, hargs⟩ := h c
    obtain ⟨e0, e1, e2, e3⟩ := hag c
    refine ⟨h4.trans ?_, h5.trans ?_, h6.trans ?_, h7.trans ?_, hargs⟩
    · show _ = dyA _ _
      rw [← e0, ← e1]
      exact funext (reference_y _ _)
    · show _ = dpA _ _ _
      rw [← e0, ← e1, ← e2]
      exact funext (reference_p _ _ _)
    · show _ = dgA _ _ _ _
      rw [← e0, ← e1, ← e2, ← e3]
      exact funext (reference_g _ _ _ _)
    · show _ = lossA _ _
      rw [← e0, ← e1]
      exact funext (reference_l _ _)

end Cert.LossHead

end
-- ==== Proof.NopeBack.lean ====
module

public import proofs.«01_k».proof.Defs
public import proofs.«01_k».proof.Proof.Gen.Kernel39Ideal.Value
public import proofs.«01_k».proof.Proof.Gen.Reference39Ideal.Run
public import proofs.«01_k».proof.Proof.Gen.Reference39Ideal.Read
public import Idealize.ShloMosaic.Lib.Pointwise
public import Idealize.ShloMosaic.Lib.Pipeline.ValueKit
public import proofs.«01_k».proof.Proof.MlaLatentsBack

/-!
# Backward through the norms of the queries and keys

The first 128 channels of a head's queries, and of its keys, are RMS-normalised and do not rotate. This is the gradient of their
two gains, and that of the keys' channels beside that of the values.
-/

@[expose] public section

set_option maxRecDepth 16384

noncomputable section

namespace Cert.NopeBack

open Cert.MlaLatentsBack Idealize.ShloMosaic Idealize.ShloMosaic.TcCoe Idealize.SL.Sem
open Idealize.ShloMosaic.Pipeline (Dat)

/-- The number of channels that do not rotate. -/
abbrev width : EReal := Ideal.ofBits .f32 0x43000000#32

/-- The channels that do not rotate. -/
def lo {n : Nat} (h : 128 ≤ n) (x : Fin n → EReal) (j : Fin 128) : EReal := x ⟨j.val, by have := j.isLt; omega⟩

/-- What a head's token adds to its gain's gradient. -/
def term {n n' : Nat} (h : 128 ≤ n) (h' : 128 ≤ n') (x : Fin n → EReal) (d : Fin n' → EReal) (k : Fin 128) : EReal :=
  lo h x k * inv width (lo h x) * lo h' d k

theorem term_congr {n n' : Nat} (h : 128 ≤ n) (h' : 128 ≤ n') {x x' : Fin n → EReal} {d d' : Fin n' → EReal} (k : Fin 128)
    (e : x = x') (f : d = d') : term h h' x d k = term h h' x' d' k := by rw [e, f]

/-- The gradient of a head's key and value channel `k` of a token. -/
def rowKv (x : Fin 256 → EReal) (g : Fin 128 → EReal) (dk : Fin 192 → EReal) (dv : Fin 128 → EReal) (k : Fin 256) : EReal :=
  if h : k.val < 128 then back width (lo (by decide) x) (fun j => lo (by decide) dk j * g j) ⟨k.val, h⟩
  else dv ⟨k.val - 128, by have := k.isLt; omega⟩

theorem rowKv_congr {x x' : Fin 256 → EReal} {g g' : Fin 128 → EReal} {dk dk' : Fin 192 → EReal} {dv dv' : Fin 128 → EReal}
    (k : Fin 256) (h0 : x = x') (h1 : g = g') (h2 : dk = dk') (h3 : dv = dv') : rowKv x g dk dv k = rowKv x' g' dk' dv' k := by
  rw [h0, h1, h2, h3]

theorem rowKv_lo (x : Fin 256 → EReal) (g : Fin 128 → EReal) (dk : Fin 192 → EReal) (dv : Fin 128 → EReal) (k : Fin 256)
    (j : Fin 128) (h : k.val = j.val) :
    rowKv x g dk dv k = back width (lo (by decide) x) (fun j => lo (by decide) dk j * g j) j :=
  (dif_pos (show k.val < 128 from h ▸ j.isLt)).trans (congrArg _ (Fin.ext h))

theorem rowKv_hi (x : Fin 256 → EReal) (g : Fin 128 → EReal) (dk : Fin 192 → EReal) (dv : Fin 128 → EReal) (k : Fin 256)
    (j : Fin 128) (h : k.val = 128 + j.val) : rowKv x g dk dv k = dv j :=
  (dif_neg (show ¬k.val < 128 by omega)).trans (congrArg _ (Fin.ext (show k.val - 128 = j.val by omega)))

/-- Token `t` of head `h`. -/
def tok {l n w : Nat} (x : (⟨3, ![l, n, w]⟩ : Shape).Idx → EReal) (h : Fin l) (t : Fin n) (j : Fin w) : EReal := x (ix3 h t j)

/-- The gradient of the keys and values, as an array. -/
def kvA (kv : (⟨3, ![8, 4096, 256]⟩ : Shape).Idx → EReal) (g : (⟨1, ![128]⟩ : Shape).Idx → EReal)
    (dk : (⟨3, ![8, 4096, 192]⟩ : Shape).Idx → EReal) (dv : (⟨3, ![8, 4096, 128]⟩ : Shape).Idx → EReal) :
    (⟨3, ![8, 4096, 256]⟩ : Shape).Idx → EReal :=
  fun y => rowKv (tok kv (y 0) (y 1)) (gain g) (tok dk (y 0) (y 1)) (tok dv (y 0) (y 1)) (y 2)

/-- The gradient of a gain, as an array. -/
def gainA {n n' : Nat} (h : 128 ≤ n) (h' : 128 ≤ n') (x : (⟨3, ![8, 4096, n]⟩ : Shape).Idx → EReal)
    (d : (⟨3, ![8, 4096, n']⟩ : Shape).Idx → EReal) : (⟨2, ![1, 128]⟩ : Shape).Idx → EReal :=
  fun y => ∑ a : Fin 8, ∑ t : Fin 4096, term h h' (tok x a t) (tok d a t) (y 1)

/-- A sum over the points, each with a head and a block of tokens, is one over the heads and the tokens. -/
theorem sum_points (f : Fin 8 → Fin 4096 → EReal) (p : Fin 32 → EReal)
    (hp : ∀ l : Fin 32, p l = ∑ r : Fin 1024, f ⟨l.val % 8, Nat.mod_lt _ (by decide)⟩
      ⟨l.val / 8 * 1024 + r.val, by have := r.isLt; have := l.isLt; omega⟩) :
    ∑ l, p l = ∑ a, ∑ t, f a t := by
  let F : ℕ → ℕ → EReal := fun a t => if h : a < 8 ∧ t < 4096 then f ⟨a, h.1⟩ ⟨t, h.2⟩ else 0
  have hF : ∀ a t (ha : a < 8) (ht : t < 4096), F a t = f ⟨a, ha⟩ ⟨t, ht⟩ := fun a t ha ht =>
    dif_pos (c := a < 8 ∧ t < 4096) ⟨ha, ht⟩
  have e := Fin.sum_univ_univ_mul_add 4 8 fun l => ∑ r : Fin 1024, F (l % 8) (l / 8 * 1024 + r.val)
  have hl : ∀ l : Fin 32, p l = ∑ r : Fin 1024, F (l.val % 8) (l.val / 8 * 1024 + r.val) := fun l =>
    (hp l).trans (Finset.sum_congr rfl fun r _ => (hF _ _ (Nat.mod_lt _ (by decide)) (by
      have := r.isLt; have := l.isLt; omega)).symm)
  refine (Finset.sum_congr rfl fun l _ => hl l).trans (e.symm.trans (Finset.sum_comm.trans (Finset.sum_congr rfl fun a _ => ?_)))
  have s := Fin.sum_univ_univ_mul_add 4 1024 fun t => F a.val t
  refine (Finset.sum_congr rfl fun b _ => Finset.sum_congr rfl fun r _ => ?_).trans
    (s.trans (Finset.sum_congr rfl fun t _ => hF _ _ a.isLt t.isLt))
  have := a.isLt
  exact congrArg₂ F (by omega) (by omega)

section call

open Cert.Kernel39Ideal Cert.Kernel39Ideal.Gen

section block

variable (c : Dev nD) (i : grid0.Coords)
  (a1 : Memref sig .tc .vmem S1x1024x192 .f32) (h1 : a1.IsWhole)
  (a2 : Memref sig .tc .vmem S1x1024x256 .f32) (h2 : a2.IsWhole)
  (a3 : Memref sig .tc .vmem S1024x704 .f32) (h3 : a3.IsWhole)
  (a4 : Memref sig .tc .vmem S1024x64 .f32) (h4 : a4.IsWhole)
  (a5 : Memref sig .tc .vmem S1024x64 .f32) (h5 : a5.IsWhole)
  (a6 : Memref sig .tc .vmem S64x64 .f32) (h6 : a6.IsWhole)
  (a7 : Memref sig .tc .vmem S1x128 .f32) (h7 : a7.IsWhole)
  (a8 : Memref sig .tc .vmem S1x64 .f32) (h8 : a8.IsWhole)
  (a9 : Memref sig .tc .vmem S1x128 .f32) (h9 : a9.IsWhole)
  (a10 : Memref sig .tc .vmem S1x64 .f32) (h10 : a10.IsWhole)
  (a11 : Memref sig .tc .vmem S1x1024x192 .f32) (h11 : a11.IsWhole)
  (a12 : Memref sig .tc .vmem S1x1024x192 .f32) (h12 : a12.IsWhole)
  (a13 : Memref sig .tc .vmem S1x1024x128 .f32) (h13 : a13.IsWhole)
  (a14 : Memref sig .tc .vmem S1x1024x192 .bf16) (h14 : a14.IsWhole)
  (a15 : Memref sig .tc .vmem S1x1024x256 .bf16) (h15 : a15.IsWhole)
  (a16 : Memref sig .tc .vmem S1024x64 .f32) (h16 : a16.IsWhole)
  (a17 : Memref sig .tc .vmem S1x128 .f32) (h17 : a17.IsWhole)
  (a18 : Memref sig .tc .vmem S1x64 .f32) (h18 : a18.IsWhole)
  (a19 : Memref sig .tc .vmem S1x128 .f32) (h19 : a19.IsWhole)
  (a20 : Memref sig .tc .vmem S1x64 .f32) (h20 : a20.IsWhole)
  (q dq dk : Vec Ideal S1x1024x192 .f32) (kv : Vec Ideal S1x1024x256 .f32) (lat : Vec Ideal S1024x704 .f32)
  (cs sn okr : Vec Ideal S1024x64 .f32) (rm : Vec Ideal S64x64 .f32) (gq gk og1 og3 : Vec Ideal S1x128 .f32)
  (gqr gkr og2 og4 : Vec Ideal S1x64 .f32) (dv : Vec Ideal S1x1024x128 .f32)

/-- At the first point, the gradient of the keys and values. -/
theorem kv_A (hc0 : cond0_0 i) (hc1 : cond0_1 i) (y : S1x1024x256.Idx) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv y
      = rowKv (tok kv 0 (y 1)) (at_ gk 0) (tok dk 0 (y 1)) (tok dv 0 (y 1)) (y 2) := by
  frame_out
  unfold_payloads
  canon_tiles x e
  · rw [rowKv_hi _ _ _ _ _ (x 2) e2, show y 1 = x 1 from Fin.ext e1]
    idx_vars x
    obtain rfl : x0 = 0 := Subsingleton.elim _ _
    pointwise
    rfl
  · rw [rowKv_lo _ _ _ _ _ (x 2) e2, show y 1 = x 1 from Fin.ext e1]
    idx_vars x
    obtain rfl : x0 = 0 := Subsingleton.elim _ _
    pointwise
    simp only [Fin.sum_univ_one]
    rfl

/-- At a head after the first, the gradient of the keys and values. -/
theorem kv_B (hc0 : ¬cond0_0 i) (hc1 : ¬cond0_1 i) (y : S1x1024x256.Idx) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv okr og1 og2 og3 og4 y
      = rowKv (tok kv 0 (y 1)) (at_ gk 0) (tok dk 0 (y 1)) (tok dv 0 (y 1)) (y 2) := by
  frame_out
  unfold_payloads
  canon_tiles x e
  · rw [rowKv_hi _ _ _ _ _ (x 2) e2, show y 1 = x 1 from Fin.ext e1]
    idx_vars x
    obtain rfl : x0 = 0 := Subsingleton.elim _ _
    pointwise
    rfl
  · rw [rowKv_lo _ _ _ _ _ (x 2) e2, show y 1 = x 1 from Fin.ext e1]
    idx_vars x
    obtain rfl : x0 = 0 := Subsingleton.elim _ _
    pointwise
    simp only [Fin.sum_univ_one]
    rfl

/-- At the first head of a later block of tokens, the gradient of the keys and values. -/
theorem kv_C (hc0 : cond0_0 i) (hc1 : ¬cond0_1 i) (y : S1x1024x256.Idx) :
    out0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv og1 og2 og3 og4 y
      = rowKv (tok kv 0 (y 1)) (at_ gk 0) (tok dk 0 (y 1)) (tok dv 0 (y 1)) (y 2) := by
  frame_out
  unfold_payloads
  canon_tiles x e
  · rw [rowKv_hi _ _ _ _ _ (x 2) e2, show y 1 = x 1 from Fin.ext e1]
    idx_vars x
    obtain rfl : x0 = 0 := Subsingleton.elim _ _
    pointwise
    rfl
  · rw [rowKv_lo _ _ _ _ _ (x 2) e2, show y 1 = x 1 from Fin.ext e1]
    idx_vars x
    obtain rfl : x0 = 0 := Subsingleton.elim _ _
    pointwise
    simp only [Fin.sum_univ_one]
    rfl

/-- At the first point, the query gain's gradient. -/
theorem gq_A (hc0 : cond0_0 i) (hc1 : cond0_1 i) (y : S1x128.Idx) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv y
      = 0 + ∑ r : Fin 1024, term (by decide) (by decide) (tok q 0 r) (tok dq 0 r) (y 1) := by
  rw [zero_add]
  frame_out
  unfold_payloads
  idx_vars y
  pointwise
  rfl

/-- At a head after the first, the query gain's gradient. -/
theorem gq_B (hc0 : ¬cond0_0 i) (hc1 : ¬cond0_1 i) (y : S1x128.Idx) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv okr og1 og2 og3 og4 y
      = og1 y + ∑ r : Fin 1024, term (by decide) (by decide) (tok q 0 r) (tok dq 0 r) (y 1) := by
  frame_out
  unfold_payloads
  idx_vars y
  pointwise
  rfl

/-- At the first head of a later block of tokens, the query gain's gradient. -/
theorem gq_C (hc0 : cond0_0 i) (hc1 : ¬cond0_1 i) (y : S1x128.Idx) :
    out0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv og1 og2 og3 og4 y
      = og1 y + ∑ r : Fin 1024, term (by decide) (by decide) (tok q 0 r) (tok dq 0 r) (y 1) := by
  frame_out
  unfold_payloads
  idx_vars y
  pointwise
  rfl

/-- At the first point, the key gain's gradient. -/
theorem gk_A (hc0 : cond0_0 i) (hc1 : cond0_1 i) (y : S1x128.Idx) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv y
      = 0 + ∑ r : Fin 1024, term (by decide) (by decide) (tok kv 0 r) (tok dk 0 r) (y 1) := by
  rw [zero_add]
  frame_out
  unfold_payloads
  idx_vars y
  pointwise
  rfl

/-- At a head after the first, the key gain's gradient. -/
theorem gk_B (hc0 : ¬cond0_0 i) (hc1 : ¬cond0_1 i) (y : S1x128.Idx) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv okr og1 og2 og3 og4 y
      = og3 y + ∑ r : Fin 1024, term (by decide) (by decide) (tok kv 0 r) (tok dk 0 r) (y 1) := by
  frame_out
  unfold_payloads
  idx_vars y
  pointwise
  rfl

/-- At the first head of a later block of tokens, the key gain's gradient. -/
theorem gk_C (hc0 : cond0_0 i) (hc1 : ¬cond0_1 i) (y : S1x128.Idx) :
    out0_C_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv og1 og2 og3 og4 y
      = og3 y + ∑ r : Fin 1024, term (by decide) (by decide) (tok kv 0 r) (tok dk 0 r) (y 1) := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![t.val % 8, t.val / 8, 0] ∧
    win0_1.index t = ![t.val % 8, t.val / 8, 0] ∧ win0_8.index t = ![0, 0] ∧
    win0_10.index t = ![t.val % 8, t.val / 8, 0] ∧ win0_11.index t = ![t.val % 8, t.val / 8, 0] ∧
    win0_12.index t = ![t.val % 8, t.val / 8, 0] ∧ win0_14.index t = ![t.val % 8, t.val / 8, 0] ∧
    win0_16.index t = ![0, 0] ∧ win0_18.index t = ![0, 0] := by decide +kernel

theorem lt32 (t : Fin cfg0.N) : t.val < 32 := by have h := t.isLt; have e : cfg0.N = 32 := N_0; omega

/-- The head that point `t` works on. -/
def headOf (t : Fin cfg0.N) : Fin 8 := ⟨t.val % 8, Nat.mod_lt _ (by decide)⟩
/-- Row `r` of the tokens that point `t` works on. -/
def tokRow (t : Fin cfg0.N) (r : Fin 1024) : Fin 4096 :=
  ⟨t.val / 8 * 1024 + r.val, by have := r.isLt; have := lt32 t; omega⟩

theorem blk0 (c : Dev nD) (t : Fin cfg0.N) (r : Fin 1024) :
    tok (iblk m c 0 t) 0 r = tok (m ((c : Thread nD τ).loc main_arg0)) (headOf t) (tokRow t r) := by
  have idx := indices
  funext j
  unfold tok
  blk_point [iblk, V, idx t] <;> rfl

theorem blk1 (c : Dev nD) (t : Fin cfg0.N) (r : Fin 1024) :
    tok (iblk m c 1 t) 0 r = tok (m ((c : Thread nD τ).loc main_arg1)) (headOf t) (tokRow t r) := by
  have idx := indices
  funext j
  unfold tok
  blk_point [iblk, V, idx t] <;> rfl

theorem blk10 (c : Dev nD) (t : Fin cfg0.N) (r : Fin 1024) :
    tok (iblk m c 10 t) 0 r = tok (m ((c : Thread nD τ).loc main_arg10)) (headOf t) (tokRow t r) := by
  have idx := indices
  funext j
  unfold tok
  blk_point [iblk, V, idx t] <;> rfl

theorem blk11 (c : Dev nD) (t : Fin cfg0.N) (r : Fin 1024) :
    tok (iblk m c 11 t) 0 r = tok (m ((c : Thread nD τ).loc main_arg11)) (headOf t) (tokRow t r) := by
  have idx := indices
  funext j
  unfold tok
  blk_point [iblk, V, idx t] <;> rfl

theorem blk12 (c : Dev nD) (t : Fin cfg0.N) (r : Fin 1024) :
    tok (iblk m c 12 t) 0 r = tok (m ((c : Thread nD τ).loc main_arg12)) (headOf t) (tokRow t r) := by
  have idx := indices
  funext j
  unfold tok
  blk_point [iblk, V, idx t] <;> rfl

theorem blk8 (c : Dev nD) (t : Fin cfg0.N) : at_ (iblk m c 8 t) 0 = gain (m ((c : Thread nD τ).loc main_arg8)) := by
  have idx := indices
  funext j
  unfold at_ gain
  blk_point [iblk, V, idx t] <;> rfl

/-- The gradient of the keys and values that the call leaves. -/
abbrev kvOf (c : Dev nD) (a : Fin 8) (t : Fin 4096) (k : Fin 256) : EReal :=
  rowKv (tok (m ((c : Thread nD τ).loc main_arg1)) a t) (gain (m ((c : Thread nD τ).loc main_arg8))) (tok (m ((c : Thread nD τ).loc main_arg11)) a t) (tok (m ((c : Thread nD τ).loc main_arg12)) a t) k
/-- What head `a`'s token `t` adds to the query gain's gradient. -/
abbrev gqOf (c : Dev nD) (k : Fin 128) (a : Fin 8) (t : Fin 4096) : EReal :=
  term (by decide) (by decide) (tok (m ((c : Thread nD τ).loc main_arg0) : S8x4096x192.Idx → EReal) a t) (tok (m ((c : Thread nD τ).loc main_arg10) : S8x4096x192.Idx → EReal) a t) k
/-- What head `a`'s token `t` adds to the key gain's gradient. -/
abbrev gkOf (c : Dev nD) (k : Fin 128) (a : Fin 8) (t : Fin 4096) : EReal :=
  term (by decide) (by decide) (tok (m ((c : Thread nD τ).loc main_arg1) : S8x4096x256.Idx → EReal) a t) (tok (m ((c : Thread nD τ).loc main_arg11) : S8x4096x192.Idx → EReal) a t) k

/-- What point `t` adds to the query gain's gradient. -/
def partQ (c : Dev nD) (t : Fin cfg0.N) (k : Fin 128) : EReal := ∑ r : Fin 1024, gqOf m c k (headOf t) (tokRow t r)
/-- What point `t` adds to the key gain's gradient. -/
def partK (c : Dev nD) (t : Fin cfg0.N) (k : Fin 128) : EReal := ∑ r : Fin 1024, gkOf m c k (headOf t) (tokRow t r)

theorem outs14 (c : Dev nD) (t : Fin cfg0.N) (y : S1x1024x256.Idx) :
    (outsAt0 m c t.val t.isLt).2.1 y = kvOf m c (headOf t) (tokRow t (y 1)) (y 2) := by
  by_cases h1 : t.val % 32 = 0
  · rw [outsAt0_A m c t (by omega) h1]
    dsimp only
    rw [kv_A]
    exact rowKv_congr _ (blk1 ..) (blk8 ..) (blk11 ..) (blk12 ..)
  by_cases h0 : t.val % 8 = 0
  · rw [outsAt0_C m c t h0 h1]
    dsimp only
    rw [kv_C]
    exact rowKv_congr _ (blk1 ..) (blk8 ..) (blk11 ..) (blk12 ..)
  · rw [outsAt0_B m c t h0 h1]
    dsimp only
    rw [kv_B]
    exact rowKv_congr _ (blk1 ..) (blk8 ..) (blk11 ..) (blk12 ..)

theorem sum_gq (c : Dev nD) (t : Fin cfg0.N) (k : Fin 128) :
    ∑ r : Fin 1024, term (by decide) (by decide) (tok (iblk m c 0 t) 0 r) (tok (iblk m c 10 t) 0 r) k = partQ m c t k :=
  Finset.sum_congr rfl fun r _ => term_congr _ _ k (blk0 m c t r) (blk10 m c t r)

theorem outs16_first (c : Dev nD) (t : Fin cfg0.N) (h1 : t.val % 32 = 0) (y : S1x128.Idx) :
    (outsAt0 m c t.val t.isLt).2.2.2.1 y = 0 + partQ m c t (y 1) := by
  rw [outsAt0_A m c t (by omega) h1]
  dsimp only
  rw [gq_A]
  exact congrArg _ (sum_gq ..)

theorem outs16_later (c : Dev nD) (t : Fin cfg0.N) (h1 : ¬t.val % 32 = 0) (y : S1x128.Idx) :
    (outsAt0 m c t.val t.isLt).2.2.2.1 y
      = (outsAt0 m c (t.val - 1) (Nat.lt_of_le_of_lt (Nat.sub_le _ _) t.isLt)).2.2.2.1 y + partQ m c t (y 1) := by
  by_cases h0 : t.val % 8 = 0
  · rw [outsAt0_C m c t h0 h1]
    dsimp only
    rw [gq_C]
    exact congrArg _ (sum_gq ..)
  · rw [outsAt0_B m c t h0 h1]
    dsimp only
    rw [gq_B]
    exact congrArg _ (sum_gq ..)

theorem outs16 (c : Dev nD) (t : Fin cfg0.N) (ht : t.val % 32 = 32 - 1) (y : S1x128.Idx) :
    (outsAt0 m c t.val t.isLt).2.2.2.1 y = ∑ a : Fin 8, ∑ l : Fin 4096, gqOf m c (y 1) a l := by
  have e := Pipeline.eq_sum_fin_of_reset_step_apply_of_flush (fun n h => (outsAt0 m c n h).2.2.2.1) 32 (fun _ => (0 : EReal))
    (fun t y => partQ m c t (y 1)) (outs16_first m c) (outs16_later m c) t ht y
  refine e.trans ((zero_add _).trans ?_)
  have := lt32 t
  refine sum_points (gqOf m c (y 1)) _ fun l => ?_
  have := l.isLt
  exact Finset.sum_congr rfl fun r _ => congrArg₂ (gqOf m c (y 1))
    (Fin.ext (by show (32 * (t.val / 32) + l.val) % 8 = l.val % 8; omega))
    (Fin.ext (by show (32 * (t.val / 32) + l.val) / 8 * 1024 + r.val = l.val / 8 * 1024 + r.val; omega))

theorem arr16 (c : Dev nD) : (dats m 0 c).arrAt 16 cfg0.N = fun y => ∑ a : Fin 8, ∑ l : Fin 4096, gqOf m c (y 1) a l := by
  have idx := indices
  refine (dats m 0 c).arrAt_eq_of_covers 16 _ (by decide +kernel) fun t hf y => ?_
  blk_simp
  rw [after0_16]
  idx_bounds y
  refine (outs16 m c t ((flush0_16 t).mp hf) y).trans
    (congrArg (fun k => ∑ a : Fin 8, ∑ l : Fin 4096, gqOf m c k a l) (Fin.ext ?_)) <;> blk_simp [idx t]

theorem sum_gk (c : Dev nD) (t : Fin cfg0.N) (k : Fin 128) :
    ∑ r : Fin 1024, term (by decide) (by decide) (tok (iblk m c 1 t) 0 r) (tok (iblk m c 11 t) 0 r) k = partK m c t k :=
  Finset.sum_congr rfl fun r _ => term_congr _ _ k (blk1 m c t r) (blk11 m c t r)

theorem outs18_first (c : Dev nD) (t : Fin cfg0.N) (h1 : t.val % 32 = 0) (y : S1x128.Idx) :
    (outsAt0 m c t.val t.isLt).2.2.2.2.2.1 y = 0 + partK m c t (y 1) := by
  rw [outsAt0_A m c t (by omega) h1]
  dsimp only
  rw [gk_A]
  exact congrArg _ (sum_gk ..)

theorem outs18_later (c : Dev nD) (t : Fin cfg0.N) (h1 : ¬t.val % 32 = 0) (y : S1x128.Idx) :
    (outsAt0 m c t.val t.isLt).2.2.2.2.2.1 y
      = (outsAt0 m c (t.val - 1) (Nat.lt_of_le_of_lt (Nat.sub_le _ _) t.isLt)).2.2.2.2.2.1 y + partK m c t (y 1) := by
  by_cases h0 : t.val % 8 = 0
  · rw [outsAt0_C m c t h0 h1]
    dsimp only
    rw [gk_C]
    exact congrArg _ (sum_gk ..)
  · rw [outsAt0_B m c t h0 h1]
    dsimp only
    rw [gk_B]
    exact congrArg _ (sum_gk ..)

theorem outs18 (c : Dev nD) (t : Fin cfg0.N) (ht : t.val % 32 = 32 - 1) (y : S1x128.Idx) :
    (outsAt0 m c t.val t.isLt).2.2.2.2.2.1 y = ∑ a : Fin 8, ∑ l : Fin 4096, gkOf m c (y 1) a l := by
  have e := Pipeline.eq_sum_fin_of_reset_step_apply_of_flush (fun n h => (outsAt0 m c n h).2.2.2.2.2.1) 32 (fun _ => (0 : EReal))
    (fun t y => partK m c t (y 1)) (outs18_first m c) (outs18_later m c) t ht y
  refine e.trans ((zero_add _).trans ?_)
  have := lt32 t
  refine sum_points (gkOf m c (y 1)) _ fun l => ?_
  have := l.isLt
  exact Finset.sum_congr rfl fun r _ => congrArg₂ (gkOf m c (y 1))
    (Fin.ext (by show (32 * (t.val / 32) + l.val) % 8 = l.val % 8; omega))
    (Fin.ext (by show (32 * (t.val / 32) + l.val) / 8 * 1024 + r.val = l.val / 8 * 1024 + r.val; omega))

theorem arr18 (c : Dev nD) : (dats m 0 c).arrAt 18 cfg0.N = fun y => ∑ a : Fin 8, ∑ l : Fin 4096, gkOf m c (y 1) a l := by
  have idx := indices
  refine (dats m 0 c).arrAt_eq_of_covers 18 _ (by decide +kernel) fun t hf y => ?_
  blk_simp
  rw [after0_18]
  idx_bounds y
  refine (outs18 m c t ((flush0_18 t).mp hf) y).trans
    (congrArg (fun k => ∑ a : Fin 8, ∑ l : Fin 4096, gkOf m c k a l) (Fin.ext ?_)) <;> blk_simp [idx t]

theorem arr14 (c : Dev nD) : (dats m 0 c).arrAt 14 cfg0.N = fun y => kvOf m c (y 0) (y 1) (y 2) := by
  have idx := indices
  refine (dats m 0 c).arrAt_eq_of_covers 14 _ (by decide +kernel) fun t hf y => ?_
  blk_simp
  rw [after0_14]
  idx_bounds y
  refine (outs14 m c t y).trans (congr (congrArg₂ (kvOf m c) (Fin.ext ?_) (Fin.ext ?_)) (Fin.ext ?_)) <;> blk_simp [idx t]
  all_goals first | rfl | (show t.val % 8 = _; omega) | omega

/-- The gradient of the keys and values the call leaves, as an array. -/
abbrev wholeKv (c : Dev nD) : (⟨3, ![8, 4096, 256]⟩ : Shape).Idx → EReal :=
  kvA (m ((c : Thread nD τ).loc main_arg1)) (m ((c : Thread nD τ).loc main_arg8)) (m ((c : Thread nD τ).loc main_arg11)) (m ((c : Thread nD τ).loc main_arg12))
/-- The query gain's gradient the call leaves, as an array. -/
abbrev wholeQ (c : Dev nD) : (⟨2, ![1, 128]⟩ : Shape).Idx → EReal :=
  gainA (n := 192) (n' := 192) (by decide) (by decide) (m ((c : Thread nD τ).loc main_arg0)) (m ((c : Thread nD τ).loc main_arg10))
/-- The key gain's gradient the call leaves, as an array. -/
abbrev wholeK (c : Dev nD) : (⟨2, ![1, 128]⟩ : Shape).Idx → EReal :=
  gainA (n := 256) (n' := 192) (by decide) (by decide) (m ((c : Thread nD τ).loc main_arg1)) (m ((c : Thread nD τ).loc main_arg11))

end call

section reduction

variable {n0 n1 n2 : ℕ}

/-- The indices that a reduction over the first two axes sends to `b`. -/
theorem drop01 (h : (⟨3, ![n0, n1, n2]⟩ : Shape).ReducesTo [0, 1] ⟨1, ![n2]⟩) (b : Fin n2) (i : (⟨3, ![n0, n1, n2]⟩ : Shape).Idx) :
    h.drop i = ix1 b ↔ ∃ k : Fin n0 × Fin n1, ix3 k.1 k.2 b = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext a
    apply Fin.ext
    match a with
    | ⟨0, _⟩ => rfl

theorem reduce01 (h : (⟨3, ![n0, n1, n2]⟩ : Shape).ReducesTo [0, 1] ⟨1, ![n2]⟩)
    (v : (⟨3, ![n0, n1, n2]⟩ : Shape).Idx → EReal) (z : EReal) (b : Fin n2) :
    Ideal.hostReduceAdd h v z (ix1 b) = z + ∑ x : Fin n0, ∑ y : Fin n1, v (ix3 x y b) := by
  refine congrArg (z + ·) ((Finset.sum_filter_eq_sum_of_fiber _ (fun k : Fin n0 × Fin n1 => ix3 k.1 k.2 b) ?_ (drop01 h b)
    v).trans ?_)
  · rintro ⟨k0, k1⟩ ⟨l0, l1⟩ e
    have e0 := congrFun e 0
    have e1 := congrFun e 1
    exact Prod.ext e0 e1
  · simp only [Fintype.sum_prod_type]

end reduction

section plain

open Cert.Reference39Ideal Cert.Reference39Ideal.Read Cert.Reference39Ideal.Value

theorem reference_kv (m : (ℓ : Loc nD τ sig) → Buf (Elt Ideal) ℓ) (c : Dev nD) (y : S8x4096x256.Idx) :
    res_main_v58 (F := Ideal) m c y
      = kvA (m ((c.tc : Thread nD τ).loc main_arg1)) (m ((c.tc : Thread nD τ).loc main_arg8))
        (m ((c.tc : Thread nD τ).loc main_arg11)) (m ((c.tc : Thread nD τ).loc main_arg12)) y := by
  unfold res_main_v58
  idx_vars y
  pointwise
  simp only [Fin.sum_univ_one]
  rfl

theorem reference_q (x0 x10 : (⟨S8x4096x192, .f32⟩ : BufTy).Contents (Elt Ideal)) (y : S1x128.Idx) :
    val_main_v63 (F := Ideal) x0 x10 y = gainA (by decide) (by decide) x0 x10 y := by
  rw [← val_main_v63_eq]
  idx_vars y
  pointwise
  rw [reduce01]
  pointwise
  simp only [reduce01, zero_add, Finset.univ_unique, Finset.sum_singleton]
  pointwise
  rfl

theorem reference_k (x1 : (⟨S8x4096x256, .f32⟩ : BufTy).Contents (Elt Ideal))
    (x11 : (⟨S8x4096x192, .f32⟩ : BufTy).Contents (Elt Ideal)) (y : S1x128.Idx) :
    val_main_v64 (F := Ideal) x1 x11 y = gainA (by decide) (by decide) x1 x11 y := by
  rw [← val_main_v64_eq]
  idx_vars y
  pointwise
  rw [reduce01]
  pointwise
  simp only [reduce01, zero_add, Finset.univ_unique, Finset.sum_singleton]
  pointwise
  rfl

end plain

/-- The reference's frame. -/
theorem frame_reference : Cert.quiescent_Reference39Ideal := by
  intro m ρ _
  exact (θ_run Cert.Reference39Ideal.defs _ _).mono
    (fun r h => ⟨fun c => (h c).2.2.2, sem_eq_zero_of_no_sems (by decide) r.2⟩)
    (Cert.Reference39Ideal.Value.run (F := Ideal) m ρ)

/-- The call's results are the reference's. -/
theorem algebraic : Cert.algebraic_Kernel39Ideal_Reference39Ideal := by
  intro m ρ m' ρ' _ hag
  refine ⟨wholeKv m, wholeQ m, wholeK m, ?_, ?_⟩
  · refine (θ_run Cert.Kernel39Ideal.defs _ _).mono (fun r h c => ?_) (Cert.Kernel39Ideal.Value.run_blocks (F := Ideal) m ρ)
    obtain ⟨-, h14, -, h16, -, h18, -, hargs⟩ := h c
    exact ⟨h14.trans (arr14 m c), h16.trans (arr16 m c), h18.trans (arr18 m c), hargs⟩
  · refine (θ_run Cert.Reference39Ideal.defs _ _).mono (fun r h c => ?_) (Cert.Reference39Ideal.Value.run (F := Ideal) m' ρ')
    obtain ⟨h14, h16, h18, hargs⟩ := h c
    obtain ⟨e0, e1, e2, e3, e4, e5, e6, e7, e8, e9, e10, e11, e12⟩ := hag c
    refine ⟨h14.trans ?_, h16.trans ?_, h18.trans ?_, hargs⟩
    · show _ = kvA _ _ _ _
      rw [← e1, ← e8, ← e11, ← e12]
      exact funext (reference_kv m' c)
    · show _ = gainA _ _ _ _
      rw [← e0, ← e10]
      exact funext (reference_q _ _)
    · show _ = gainA _ _ _ _
      rw [← e1, ← e11]
      exact funext (reference_k _ _)

end Cert.NopeBack

end
-- ==== Proof.AdamSpec.lean ====
module

public import Idealize.ShloMosaic.Lib.Pointwise
public import Idealize.ShloMosaic.Lib.Pipeline.ValueKit

/-!
# One AdamW step

A weight's gradient is the sum of the eight devices' shares; the moments decay towards it and its square, and the
update follows from the corrected moments and the weight.
-/

@[expose] public section

noncomputable section

namespace Cert.AdamSpec

open Idealize.ShloMosaic

/-- The devices' shares, summed in order. -/
def total (p : Fin 8 → EReal) : EReal := p 0 + p 1 + p 2 + p 3 + p 4 + p 5 + p 6 + p 7

theorem sum_eq (p : Fin 8 → EReal) : ∑ d, p d = total p := Fin.sum_univ_eight p

/-- The new first moment. -/
def first (g m : EReal) : EReal := Ideal.ofBits .f32 1063675494#32 * m + Ideal.ofBits .f32 1036831949#32 * g

/-- The new second moment. -/
def second (g v : EReal) : EReal := Ideal.ofBits .f32 1065336439#32 * v + Ideal.ofBits .f32 981668463#32 * (g * g)

/-- The update. -/
def delta (g w m v : EReal) : EReal :=
  Ideal.ofBits .f32 3129152111#32 *
    (Ideal.div (Ideal.div (first g m) (Ideal.ofBits .f32 1059503362#32))
        (Ideal.sqrt (Ideal.div (second g v) (Ideal.ofBits .f32 1008933580#32)) + Ideal.ofBits .f32 841731191#32)
      + Ideal.ofBits .f32 1008981770#32 * w)

/-- An array of three axes. -/
abbrev Arr (l n w : Nat) : Type := (⟨3, ![l, n, w]⟩ : Shape).Idx → EReal

variable {l n w : Nat}

/-- The gradient at row `r`, column `k`. -/
def gradAt (p : Arr 8 n w) (r : Fin n) (k : Fin w) : EReal := total fun d => p (ix3 d r k)

/-- The gradient, as an array. -/
def gradA (p : Arr 8 n w) : Arr 1 n w := fun y => gradAt p (y 1) (y 2)
/-- The update, as an array. -/
def deltaA (p : Arr 8 n w) (x m v : Arr 1 n w) : Arr 1 n w :=
  fun y => delta (gradAt p (y 1) (y 2)) (x (ix3 0 (y 1) (y 2))) (m (ix3 0 (y 1) (y 2))) (v (ix3 0 (y 1) (y 2)))
/-- The new first moment, as an array. -/
def firstA (p : Arr 8 n w) (m : Arr 1 n w) : Arr 1 n w := fun y => first (gradAt p (y 1) (y 2)) (m (ix3 0 (y 1) (y 2)))
/-- The new second moment, as an array. -/
def secondA (p : Arr 8 n w) (v : Arr 1 n w) : Arr 1 n w := fun y => second (gradAt p (y 1) (y 2)) (v (ix3 0 (y 1) (y 2)))

/-- The layer a call updates is the first: there `new`, elsewhere what was there. -/
def layer (new : Fin n → Fin w → EReal) (old : Arr l n w) : Arr l n w := fun y => if (y 0 : ℕ) = 0 then new (y 1) (y 2) else old y

/-- A first layer before the others is the array with that layer replaced. -/
theorem concatenate_layer (a : Arr 1 n w) (b : Arr l n w) (h) (new : Fin n → Fin w → EReal) (old : Arr (l + 1) n w)
    (ha : ∀ r k, a (ix3 0 r k) = new r k) (hb : ∀ (d : Fin l) r k, b (ix3 d r k) = old (ix3 d.succ r k)) :
    concatenate (⟨3, ![l + 1, n, w]⟩ : Shape) 0 [⟨⟨3, ![1, n, w]⟩, a⟩, ⟨⟨3, ![l, n, w]⟩, b⟩] h = layer new old := by
  funext y
  by_cases hy : (y 0 : ℕ) = 0
  · refine (concatenate_pair_apply_left 0 a b h y rfl (ix3 0 (y 1) (y 2)) fun e => ?_).trans ((ha (y 1) (y 2)).trans (if_pos hy).symm)
    match e with
    | 0 => exact hy.symm
    | 1 => rfl
    | 2 => rfl
  · have hl : (y 0 : ℕ) < l + 1 := (y 0).isLt
    let d : Fin l := ⟨(y 0 : ℕ) - 1, by omega⟩
    refine (concatenate_pair_apply_right 0 a b h y rfl rfl (ix3 d (y 1) (y 2)) (fun e he => ?_) ?_).trans
      ((hb d (y 1) (y 2)).trans ((congrArg old (funext fun e => ?_)).trans (if_neg hy).symm))
    · match e with
      | 0 => exact absurd rfl he
      | 1 => rfl
      | 2 => rfl
    · show (y 0 : ℕ) - 1 + 1 = y 0
      omega
    · match e with
      | 0 => exact Fin.ext (show (y 0 : ℕ) - 1 + 1 = y 0 by omega)
      | 1 => rfl
      | 2 => rfl

/-- The update of the first layer. -/
def deltaAt (p : Arr 8 n w) (x m v : Arr (l + 1) n w) (r : Fin n) (k : Fin w) : EReal := delta (gradAt p r k) (x (ix3 0 r k)) (m (ix3 0 r k)) (v (ix3 0 r k))
/-- The new first moment of the first layer. -/
def firstAt (p : Arr 8 n w) (m : Arr (l + 1) n w) (r : Fin n) (k : Fin w) : EReal := first (gradAt p r k) (m (ix3 0 r k))
/-- The new second moment of the first layer. -/
def secondAt (p : Arr 8 n w) (v : Arr (l + 1) n w) (r : Fin n) (k : Fin w) : EReal := second (gradAt p r k) (v (ix3 0 r k))

section rows

variable {b : Nat} (row : Fin b → Fin n) {p : Arr 8 n w} {x m v : Arr (l + 1) n w} {p' : Arr 8 b w} {x' m' v' : Arr 1 b w}
  (hp : ∀ d r k, p' (ix3 d r k) = p (ix3 d (row r) k))
include hp

/-- A block of rows has its rows' gradients. -/
theorem gradA_rows (y : (⟨3, ![1, b, w]⟩ : Shape).Idx) : gradA p' y = gradAt p (row (y 1)) (y 2) := by
  have e : ∀ (r : Fin b) (k : Fin w), gradAt p' r k = gradAt p (row r) k := fun r k => by
    unfold gradAt
    exact congrArg total (funext fun d => hp d r k)
  exact e (y 1) (y 2)

/-- A block of rows has its rows' first moments. -/
theorem firstA_rows (hm : ∀ r k, m' (ix3 0 r k) = m (ix3 0 (row r) k)) (y : (⟨3, ![1, b, w]⟩ : Shape).Idx) :
    firstA p' m' y = firstAt p m (row (y 1)) (y 2) :=
  congrArg₂ first (gradA_rows row hp y) (hm (y 1) (y 2))

/-- A block of rows has its rows' second moments. -/
theorem secondA_rows (hv : ∀ r k, v' (ix3 0 r k) = v (ix3 0 (row r) k)) (y : (⟨3, ![1, b, w]⟩ : Shape).Idx) :
    secondA p' v' y = secondAt p v (row (y 1)) (y 2) :=
  congrArg₂ second (gradA_rows row hp y) (hv (y 1) (y 2))

/-- A block of rows has its rows' updates. -/
theorem deltaA_rows (hx : ∀ r k, x' (ix3 0 r k) = x (ix3 0 (row r) k)) (hm : ∀ r k, m' (ix3 0 r k) = m (ix3 0 (row r) k))
    (hv : ∀ r k, v' (ix3 0 r k) = v (ix3 0 (row r) k)) (y : (⟨3, ![1, b, w]⟩ : Shape).Idx) :
    deltaA p' x' m' v' y = deltaAt p x m v (row (y 1)) (y 2) :=
  congr (congr (congrArg₂ delta (gradA_rows row hp y) (hx (y 1) (y 2))) (hm (y 1) (y 2))) (hv (y 1) (y 2))

end rows

/-- An entry of the first layer. -/
theorem layer_first {new : Fin n → Fin w → EReal} {old : Arr l n w} {y : (⟨3, ![l, n, w]⟩ : Shape).Idx} {r : Fin n} {k : Fin w}
    (h0 : (y 0 : ℕ) = 0) (h1 : (y 1 : ℕ) = r) (h2 : (y 2 : ℕ) = k) : new r k = layer new old y :=
  (congrArg₂ new (Fin.ext h1.symm) (Fin.ext h2.symm)).trans (if_pos h0).symm

/-- An entry of another layer. -/
theorem layer_kept {new : Fin n → Fin w → EReal} {old : Arr l n w} {y : (⟨3, ![l, n, w]⟩ : Shape).Idx} (h : ¬(y 0 : ℕ) / 1 = 0) :
    old y = layer new old y :=
  (if_neg (by rwa [Nat.div_one] at h)).symm

/-- The layers after the first are counted from the second. -/
theorem next_layer (old : Arr (l + 1) n w) (d : Fin l) (h) (r : Fin n) (k : Fin w) : old (ix3 ⟨1 + d.val, h⟩ r k) = old (ix3 d.succ r k) :=
  congrArg (fun e => old (ix3 e r k)) (Fin.ext (Nat.add_comm 1 d.val))

end Cert.AdamSpec

end
-- ==== Proof.AdamGains.lean ====
module

public import proofs.«01_k».proof.Defs
public import proofs.«01_k».proof.Proof.Gen.Kernel40Ideal.Value
public import proofs.«01_k».proof.Proof.Gen.Reference40Ideal.Run
public import proofs.«01_k».proof.Proof.Gen.Reference40Ideal.Read
public import Idealize.ShloMosaic.Lib.Pointwise
public import Idealize.ShloMosaic.Lib.Pipeline.ValueKit
public import proofs.«01_k».proof.Proof.AdamSpec

/-!
# The AdamW step of the replicated gains

The gains are packed into 112 rows of 128.
-/

@[expose] public section

set_option maxRecDepth 16384

noncomputable section

namespace Cert.AdamGains

open Cert.AdamSpec Idealize.ShloMosaic Idealize.ShloMosaic.TcCoe Idealize.SL.Sem
open Idealize.ShloMosaic.Pipeline (Dat)

section call

open Cert.Kernel40Ideal Cert.Kernel40Ideal.Gen

section block

variable (c : Dev nD) (i : grid0.Coords)
  (a1 : Memref sig .tc .vmem S8x112x128 .f32) (h1 : a1.IsWhole)
  (a2 : Memref sig .tc .vmem S1x112x128 .f32) (h2 : a2.IsWhole)
  (a3 : Memref sig .tc .vmem S1x112x128 .f32) (h3 : a3.IsWhole)
  (a4 : Memref sig .tc .vmem S1x112x128 .f32) (h4 : a4.IsWhole)
  (a5 : Memref sig .tc .vmem S1x112x128 .f32) (h5 : a5.IsWhole)
  (a6 : Memref sig .tc .vmem S1x112x128 .f32) (h6 : a6.IsWhole)
  (a7 : Memref sig .tc .vmem S1x112x128 .f32) (h7 : a7.IsWhole)
  (a8 : Memref sig .tc .vmem S1x112x128 .f32) (h8 : a8.IsWhole)
  (a9 : Memref sig .tc .vmem S8x128 .f32) (h9 : a9.IsWhole)
  (p : Vec Ideal S8x112x128 .f32) (x m v : Vec Ideal S1x112x128 .f32) (y : S1x112x128.Idx)

theorem grad_block : out0_A_4 c i a1 h1 a2 h2 a3 h3 a4 h4 a5 h5 a6 h6 a7 h7 a8 h8 a9 h9 p x m v y = gradA p y := by
  frame_out
  unfold_payloads
  idx_vars y
  pointwise
  rfl

theorem delta_block : out0_A_5 c i a1 h1 a2 h2 a3 h3 a4 h4 a5 h5 a6 h6 a7 h7 a8 h8 a9 h9 p x m v y = deltaA p x m v y := by
  frame_out
  unfold_payloads
  idx_vars y
  pointwise
  rfl

theorem first_block : out0_A_6 c i a1 h1 a2 h2 a3 h3 a4 h4 a5 h5 a6 h6 a7 h7 a8 h8 a9 h9 p x m v y = firstA p m y := by
  frame_out
  unfold_payloads
  idx_vars y
  pointwise
  rfl

theorem second_block : out0_A_7 c i a1 h1 a2 h2 a3 h3 a4 h4 a5 h5 a6 h6 a7 h7 a8 h8 a9 h9 p x m v y = secondA p v y := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (c : Dev nD) (t : Fin cfg0.N) (d : Fin 8) (r : Fin 112) (k : Fin 128) :
    iblk m c 0 t (ix3 d r k) = m ((c : Thread nD τ).loc main_arg0) (ix3 d r k) := by
  have idx := indices
  blk_point [iblk, V, idx t] <;> rfl

theorem blk1 (c : Dev nD) (t : Fin cfg0.N) (d : Fin 1) (r : Fin 112) (k : Fin 128) :
    iblk m c 1 t (ix3 d r k) = m ((c : Thread nD τ).loc main_arg1) (ix3 d r k) := by
  have idx := indices
  blk_point [iblk, V, idx t] <;> rfl

theorem blk2 (c : Dev nD) (t : Fin cfg0.N) (d : Fin 1) (r : Fin 112) (k : Fin 128) :
    iblk m c 2 t (ix3 d r k) = m ((c : Thread nD τ).loc main_arg2) (ix3 d r k) := by
  have idx := indices
  blk_point [iblk, V, idx t] <;> rfl

theorem blk3 (c : Dev nD) (t : Fin cfg0.N) (d : Fin 1) (r : Fin 112) (k : Fin 128) :
    iblk m c 3 t (ix3 d r k) = m ((c : Thread nD τ).loc main_arg3) (ix3 d r k) := by
  have idx := indices
  blk_point [iblk, V, idx t] <;> rfl

theorem grad_at (c : Dev nD) (t : Fin cfg0.N) (r : Fin 112) (k : Fin 128) :
    gradAt (iblk m c 0 t) r k = gradAt (m ((c : Thread nD τ).loc main_arg0)) r k :=
  congrArg total (funext fun d => blk0 m c t d r k)

/-- The gradient that the call leaves. -/
abbrev gradOf (c : Dev nD) (r : Fin 112) (k : Fin 128) : EReal := gradAt (m ((c : Thread nD τ).loc main_arg0)) r k
/-- The update that the call leaves. -/
abbrev deltaOf (c : Dev nD) (r : Fin 112) (k : Fin 128) : EReal :=
  delta (gradOf m c r k) (m ((c : Thread nD τ).loc main_arg1) (ix3 0 r k)) (m ((c : Thread nD τ).loc main_arg2) (ix3 0 r k)) (m ((c : Thread nD τ).loc main_arg3) (ix3 0 r k))
/-- The first moment that the call leaves. -/
abbrev firstOf (c : Dev nD) (r : Fin 112) (k : Fin 128) : EReal := first (gradOf m c r k) (m ((c : Thread nD τ).loc main_arg2) (ix3 0 r k))
/-- The second moment that the call leaves. -/
abbrev secondOf (c : Dev nD) (r : Fin 112) (k : Fin 128) : EReal := second (gradOf m c r k) (m ((c : Thread nD τ).loc main_arg3) (ix3 0 r k))

theorem outs4 (c : Dev nD) (t : Fin cfg0.N) (y : S1x112x128.Idx) : (outsAt0 m c t).1 y = gradOf m c (y 1) (y 2) := by
  unfold outsAt0
  dsimp only
  rw [grad_block]
  exact (grad_at m c t (y 1) (y 2))

theorem outs5 (c : Dev nD) (t : Fin cfg0.N) (y : S1x112x128.Idx) :
    (outsAt0 m c t).2.1 y = deltaOf m c (y 1) (y 2) := by
  unfold outsAt0
  dsimp only
  rw [delta_block]
  exact (congr (congr (congrArg₂ delta (grad_at m c t (y 1) (y 2)) (blk1 m c t 0 (y 1) (y 2)))
    (blk2 m c t 0 (y 1) (y 2))) (blk3 m c t 0 (y 1) (y 2)))

theorem outs6 (c : Dev nD) (t : Fin cfg0.N) (y : S1x112x128.Idx) :
    (outsAt0 m c t).2.2.1 y = firstOf m c (y 1) (y 2) := by
  unfold outsAt0
  dsimp only
  rw [first_block]
  exact (congrArg₂ first (grad_at m c t (y 1) (y 2)) (blk2 m c t 0 (y 1) (y 2)))

theorem outs7 (c : Dev nD) (t : Fin cfg0.N) (y : S1x112x128.Idx) :
    (outsAt0 m c t).2.2.2.1 y = secondOf m c (y 1) (y 2) := by
  unfold outsAt0
  dsimp only
  rw [second_block]
  exact (congrArg₂ second (grad_at m c t (y 1) (y 2)) (blk3 m c t 0 (y 1) (y 2)))

theorem arr4 (c : Dev nD) : (dats m 0 c).arrAt 4 cfg0.N = fun y => gradOf m c (y 1) (y 2) := by
  have idx := indices
  refine (dats m 0 c).arrAt_eq_of_covers 4 _ (by decide +kernel) fun t hf y => ?_
  blk_simp
  rw [after0_4]
  refine (outs4 m c t y).trans (congrArg₂ (gradOf m c) (Fin.ext ?_) (Fin.ext ?_)) <;> blk_simp [idx t] <;> rfl

theorem arr5 (c : Dev nD) : (dats m 0 c).arrAt 5 cfg0.N = fun y => deltaOf m c (y 1) (y 2) := by
  have idx := indices
  refine (dats m 0 c).arrAt_eq_of_covers 5 _ (by decide +kernel) fun t hf y => ?_
  blk_simp
  rw [after0_5]
  refine (outs5 m c t y).trans (congrArg₂ (deltaOf m c) (Fin.ext ?_) (Fin.ext ?_)) <;> blk_simp [idx t] <;> rfl

theorem arr6 (c : Dev nD) : (dats m 0 c).arrAt 6 cfg0.N = fun y => firstOf m c (y 1) (y 2) := by
  have idx := indices
  refine (dats m 0 c).arrAt_eq_of_covers 6 _ (by decide +kernel) fun t hf y => ?_
  blk_simp
  rw [after0_6]
  refine (outs6 m c t y).trans (congrArg₂ (firstOf m c) (Fin.ext ?_) (Fin.ext ?_)) <;> blk_simp [idx t] <;> rfl

theorem arr7 (c : Dev nD) : (dats m 0 c).arrAt 7 cfg0.N = fun y => secondOf m c (y 1) (y 2) := by
  have idx := indices
  refine (dats m 0 c).arrAt_eq_of_covers 7 _ (by decide +kernel) fun t hf y => ?_
  blk_simp
  rw [after0_7]
  refine (outs7 m c t y).trans (congrArg₂ (secondOf m c) (Fin.ext ?_) (Fin.ext ?_)) <;> blk_simp [idx t] <;> rfl

/-- The gradient the call leaves, as an array. -/
abbrev wholeG (c : Dev nD) : Arr 1 112 128 := gradA (m ((c : Thread nD τ).loc main_arg0) : Arr 8 112 128)
/-- The update the call leaves, as an array. -/
abbrev wholeD (c : Dev nD) : Arr 1 112 128 := deltaA (m ((c : Thread nD τ).loc main_arg0) : Arr 8 112 128) (m ((c : Thread nD τ).loc main_arg1)) (m ((c : Thread nD τ).loc main_arg2)) (m ((c : Thread nD τ).loc main_arg3))
/-- The first moment the call leaves, as an array. -/
abbrev wholeM (c : Dev nD) : Arr 1 112 128 := firstA (m ((c : Thread nD τ).loc main_arg0) : Arr 8 112 128) (m ((c : Thread nD τ).loc main_arg2))
/-- The second moment the call leaves, as an array. -/
abbrev wholeV (c : Dev nD) : Arr 1 112 128 := secondA (m ((c : Thread nD τ).loc main_arg0) : Arr 8 112 128) (m ((c : Thread nD τ).loc main_arg3))

end call

section plain

open Cert.Reference40Ideal Cert.Reference40Ideal.Read

variable (x0 : (⟨S8x112x128, .f32⟩ : BufTy).Contents (Elt Ideal)) (x1 x2 x3 : (⟨S1x112x128, .f32⟩ : BufTy).Contents (Elt Ideal)) (y : S1x112x128.Idx)

theorem reference_grad : val_main_v1 (F := Ideal) x0 y = gradA x0 y := by
  rw [← val_main_v1_eq]
  idx_vars y
  obtain rfl : y0 = 0 := Subsingleton.elim _ _
  pointwise
  simp only [Fin.sum_univ_eight]
  rfl

theorem reference_delta : val_main_v25 (F := Ideal) x0 x1 x2 x3 y = deltaA x0 x1 x2 x3 y := by
  rw [← val_main_v25_eq]
  idx_vars y
  obtain rfl : y0 = 0 := Subsingleton.elim _ _
  pointwise
  simp only [Fin.sum_univ_eight]
  rfl

theorem reference_first : val_main_v6 (F := Ideal) x0 x2 y = firstA x0 x2 y := by
  rw [← val_main_v6_eq]
  idx_vars y
  obtain rfl : y0 = 0 := Subsingleton.elim _ _
  pointwise
  simp only [Fin.sum_univ_eight]
  rfl

theorem reference_second : val_main_v12 (F := Ideal) x0 x3 y = secondA x0 x3 y := by
  rw [← val_main_v12_eq]
  idx_vars y
  obtain rfl : y0 = 0 := Subsingleton.elim _ _
  pointwise
  simp only [Fin.sum_univ_eight]
  rfl

end plain

/-- The reference's frame. -/
theorem frame_reference : Cert.quiescent_Reference40Ideal := by
  intro m ρ _
  exact (θ_run Cert.Reference40Ideal.defs _ _).mono
    (fun r h => ⟨fun c => (h c).2.2.2.2, sem_eq_zero_of_no_sems (by decide) r.2⟩)
    (Cert.Reference40Ideal.Value.run (F := Ideal) m ρ)

/-- The call's results are the reference's. -/
theorem algebraic : Cert.algebraic_Kernel40Ideal_Reference40Ideal := by
  intro m ρ m' ρ' _ hag
  refine ⟨wholeG m, wholeD m, wholeM m, wholeV m, ?_, ?_⟩
  · refine (θ_run Cert.Kernel40Ideal.defs _ _).mono (fun r h c => ?_) (Cert.Kernel40Ideal.Value.run_blocks (F := Ideal) m ρ)
    obtain ⟨h4, h5, h6, h7, -, hargs⟩ := h c
    exact ⟨h4.trans (arr4 m c), h5.trans (arr5 m c), h6.trans (arr6 m c), h7.trans (arr7 m c), hargs⟩
  · refine (θ_run Cert.Reference40Ideal.defs _ _).mono (fun r h c => ?_) (Cert.Reference40Ideal.Value.run (F := Ideal) m' ρ')
    obtain ⟨h4, h5, h6, h7, hargs⟩ := h c
    obtain ⟨e0, e1, e2, e3, -⟩ := hag c
    refine ⟨h4.trans ?_, h5.trans ?_, h6.trans ?_, h7.trans ?_, hargs⟩
    · show _ = gradA _
      rw [← e0]
      exact funext (reference_grad _)
    · show _ = deltaA _ _ _ _
      rw [← e0, ← e1, ← e2, ← e3]
      exact funext (reference_delta _ _ _ _)
    · show _ = firstA _ _
      rw [← e0, ← e2]
      exact funext (reference_first _ _)
    · show _ = secondA _ _
      rw [← e0, ← e3]
      exact funext (reference_second _ _)

end Cert.AdamGains

end
-- ==== Proof.AdamSpatial.lean ====
module

public import proofs.«01_k».proof.Defs
public import proofs.«01_k».proof.Proof.Gen.Kernel41Ideal.Value
public import proofs.«01_k».proof.Proof.Gen.Reference41Ideal.Run
public import proofs.«01_k».proof.Proof.Gen.Reference41Ideal.Read
public import Idealize.ShloMosaic.Lib.Pointwise
public import Idealize.ShloMosaic.Lib.Pipeline.ValueKit
public import proofs.«01_k».proof.Proof.AdamSpec

/-!
# The AdamW step of the spatial weights

The spatial weights and biases are packed into 2064 rows of 128, in two blocks.
-/

@[expose] public section

set_option maxRecDepth 16384

noncomputable section

namespace Cert.AdamSpatial

open Cert.AdamSpec Idealize.ShloMosaic Idealize.ShloMosaic.TcCoe Idealize.SL.Sem
open Idealize.ShloMosaic.Pipeline (Dat)

section call

open Cert.Kernel41Ideal Cert.Kernel41Ideal.Gen

section block

variable (c : Dev nD) (i : grid0.Coords)
  (a1 : Memref sig .tc .vmem S8x1032x128 .f32) (h1 : a1.IsWhole)
  (a2 : Memref sig .tc .vmem S1x1032x128 .f32) (h2 : a2.IsWhole)
  (a3 : Memref sig .tc .vmem S1x1032x128 .f32) (h3 : a3.IsWhole)
  (a4 : Memref sig .tc .vmem S1x1032x128 .f32) (h4 : a4.IsWhole)
  (a5 : Memref sig .tc .vmem S1x1032x128 .f32) (h5 : a5.IsWhole)
  (a6 : Memref sig .tc .vmem S1x1032x128 .f32) (h6 : a6.IsWhole)
  (a7 : Memref sig .tc .vmem S1x1032x128 .f32) (h7 : a7.IsWhole)
  (a8 : Memref sig .tc .vmem S1x1032x128 .f32) (h8 : a8.IsWhole)
  (a9 : Memref sig .tc .vmem S8x128 .f32) (h9 : a9.IsWhole)
  (p : Vec Ideal S8x1032x128 .f32) (x m v : Vec Ideal S1x1032x128 .f32) (y : S1x1032x128.Idx)

theorem grad_block : out0_A_4 c i a1 h1 a2 h2 a3 h3 a4 h4 a5 h5 a6 h6 a7 h7 a8 h8 a9 h9 p x m v y = gradA p y := by
  frame_out
  unfold_payloads
  idx_vars y
  pointwise
  rfl

theorem delta_block : out0_A_5 c i a1 h1 a2 h2 a3 h3 a4 h4 a5 h5 a6 h6 a7 h7 a8 h8 a9 h9 p x m v y = deltaA p x m v y := by
  frame_out
  unfold_payloads
  idx_vars y
  pointwise
  rfl

theorem first_block : out0_A_6 c i a1 h1 a2 h2 a3 h3 a4 h4 a5 h5 a6 h6 a7 h7 a8 h8 a9 h9 p x m v y = firstA p m y := by
  frame_out
  unfold_payloads
  idx_vars y
  pointwise
  rfl

theorem second_block : out0_A_7 c i a1 h1 a2 h2 a3 h3 a4 h4 a5 h5 a6 h6 a7 h7 a8 h8 a9 h9 p x m v y = secondA p v y := by
  frame_out
  unfold_payloads
  idx_vars y
  pointwise
  rfl

end block

variable (m : (ℓ : Loc nD τ sig) → Buf (Elt Ideal) ℓ)

/-- The block indices of the windows. -/
theorem indices : ∀ t : Fin grid0.N, win0_0.index t = ![0, t.val, 0] ∧
    win0_1.index t = ![0, t.val, 0] ∧
    win0_2.index t = ![0, t.val, 0] ∧
    win0_3.index t = ![0, t.val, 0] ∧
    win0_4.index t = ![0, t.val, 0] ∧
    win0_5.index t = ![0, t.val, 0] ∧
    win0_6.index t = ![0, t.val, 0] ∧
    win0_7.index t = ![0, t.val, 0] := by decide +kernel

theorem lt2 (t : Fin cfg0.N) : t.val < 2 := by have h := t.isLt; have e : cfg0.N = 2 := N_0; omega

/-- Row `r` of those that point `t` works on. -/
def tokRow (t : Fin cfg0.N) (r : Fin 1032) : Fin 2064 := ⟨t.val * 1032 + r.val, by have := r.isLt; have := lt2 t; omega⟩

theorem blk0 (c : Dev nD) (t : Fin cfg0.N) (d : Fin 8) (r : Fin 1032) (k : Fin 128) :
    iblk m c 0 t (ix3 d r k) = m ((c : Thread nD τ).loc main_arg0) (ix3 d (tokRow t r) k) := by
  have idx := indices
  blk_point [iblk, V, idx t] <;> rfl

theorem blk1 (c : Dev nD) (t : Fin cfg0.N) (d : Fin 1) (r : Fin 1032) (k : Fin 128) :
    iblk m c 1 t (ix3 d r k) = m ((c : Thread nD τ).loc main_arg1) (ix3 d (tokRow t r) k) := by
  have idx := indices
  blk_point [iblk, V, idx t] <;> rfl

theorem blk2 (c : Dev nD) (t : Fin cfg0.N) (d : Fin 1) (r : Fin 1032) (k : Fin 128) :
    iblk m c 2 t (ix3 d r k) = m ((c : Thread nD τ).loc main_arg2) (ix3 d (tokRow t r) k) := by
  have idx := indices
  blk_point [iblk, V, idx t] <;> rfl

theorem blk3 (c : Dev nD) (t : Fin cfg0.N) (d : Fin 1) (r : Fin 1032) (k : Fin 128) :
    iblk m c 3 t (ix3 d r k) = m ((c : Thread nD τ).loc main_arg3) (ix3 d (tokRow t r) k) := by
  have idx := indices
  blk_point [iblk, V, idx t] <;> rfl

theorem grad_at (c : Dev nD) (t : Fin cfg0.N) (r : Fin 1032) (k : Fin 128) :
    gradAt (iblk m c 0 t) r k = gradAt (m ((c : Thread nD τ).loc main_arg0)) (tokRow t r) k :=
  congrArg total (funext fun d => blk0 m c t d r k)

/-- The gradient that the call leaves. -/
abbrev gradOf (c : Dev nD) (r : Fin 2064) (k : Fin 128) : EReal := gradAt (m ((c : Thread nD τ).loc main_arg0)) r k
/-- The update that the call leaves. -/
abbrev deltaOf (c : Dev nD) (r : Fin 2064) (k : Fin 128) : EReal :=
  delta (gradOf m c r k) (m ((c : Thread nD τ).loc main_arg1) (ix3 0 r k)) (m ((c : Thread nD τ).loc main_arg2) (ix3 0 r k)) (m ((c : Thread nD τ).loc main_arg3) (ix3 0 r k))
/-- The first moment that the call leaves. -/
abbrev firstOf (c : Dev nD) (r : Fin 2064) (k : Fin 128) : EReal := first (gradOf m c r k) (m ((c : Thread nD τ).loc main_arg2) (ix3 0 r k))
/-- The second moment that the call leaves. -/
abbrev secondOf (c : Dev nD) (r : Fin 2064) (k : Fin 128) : EReal := second (gradOf m c r k) (m ((c : Thread nD τ).loc main_arg3) (ix3 0 r k))

theorem outs4 (c : Dev nD) (t : Fin cfg0.N) (y : S1x1032x128.Idx) : (outsAt0 m c t).1 y = gradOf m c (tokRow t (y 1)) (y 2) := by
  unfold outsAt0
  dsimp only
  rw [grad_block]
  exact (grad_at m c t (y 1) (y 2))

theorem outs5 (c : Dev nD) (t : Fin cfg0.N) (y : S1x1032x128.Idx) :
    (outsAt0 m c t).2.1 y = deltaOf m c (tokRow t (y 1)) (y 2) := by
  unfold outsAt0
  dsimp only
  rw [delta_block]
  exact (congr (congr (congrArg₂ delta (grad_at m c t (y 1) (y 2)) (blk1 m c t 0 (y 1) (y 2)))
    (blk2 m c t 0 (y 1) (y 2))) (blk3 m c t 0 (y 1) (y 2)))

theorem outs6 (c : Dev nD) (t : Fin cfg0.N) (y : S1x1032x128.Idx) :
    (outsAt0 m c t).2.2.1 y = firstOf m c (tokRow t (y 1)) (y 2) := by
  unfold outsAt0
  dsimp only
  rw [first_block]
  exact (congrArg₂ first (grad_at m c t (y 1) (y 2)) (blk2 m c t 0 (y 1) (y 2)))

theorem outs7 (c : Dev nD) (t : Fin cfg0.N) (y : S1x1032x128.Idx) :
    (outsAt0 m c t).2.2.2.1 y = secondOf m c (tokRow t (y 1)) (y 2) := by
  unfold outsAt0
  dsimp only
  rw [second_block]
  exact (congrArg₂ second (grad_at m c t (y 1) (y 2)) (blk3 m c t 0 (y 1) (y 2)))

theorem arr4 (c : Dev nD) : (dats m 0 c).arrAt 4 cfg0.N = fun y => gradOf m c (y 1) (y 2) := by
  have idx := indices
  refine (dats m 0 c).arrAt_eq_of_covers 4 _ (by decide +kernel) fun t hf y => ?_
  blk_simp
  rw [after0_4]
  refine (outs4 m c t y).trans (congrArg₂ (gradOf m c) (Fin.ext ?_) (Fin.ext ?_)) <;> blk_simp [idx t] <;> rfl

theorem arr5 (c : Dev nD) : (dats m 0 c).arrAt 5 cfg0.N = fun y => deltaOf m c (y 1) (y 2) := by
  have idx := indices
  refine (dats m 0 c).arrAt_eq_of_covers 5 _ (by decide +kernel) fun t hf y => ?_
  blk_simp
  rw [after0_5]
  refine (outs5 m c t y).trans (congrArg₂ (deltaOf m c) (Fin.ext ?_) (Fin.ext ?_)) <;> blk_simp [idx t] <;> rfl

theorem arr6 (c : Dev nD) : (dats m 0 c).arrAt 6 cfg0.N = fun y => firstOf m c (y 1) (y 2) := by
  have idx := indices
  refine (dats m 0 c).arrAt_eq_of_covers 6 _ (by decide +kernel) fun t hf y => ?_
  blk_simp
  rw [after0_6]
  refine (outs6 m c t y).trans (congrArg₂ (firstOf m c) (Fin.ext ?_) (Fin.ext ?_)) <;> blk_simp [idx t] <;> rfl

theorem arr7 (c : Dev nD) : (dats m 0 c).arrAt 7 cfg0.N = fun y => secondOf m c (y 1) (y 2) := by
  have idx := indices
  refine (dats m 0 c).arrAt_eq_of_covers 7 _ (by decide +kernel) fun t hf y => ?_
  blk_simp
  rw [after0_7]
  refine (outs7 m c t y).trans (congrArg₂ (secondOf m c) (Fin.ext ?_) (Fin.ext ?_)) <;> blk_simp [idx t] <;> rfl

/-- The gradient the call leaves, as an array. -/
abbrev wholeG (c : Dev nD) : Arr 1 2064 128 := gradA (m ((c : Thread nD τ).loc main_arg0) : Arr 8 2064 128)
/-- The update the call leaves, as an array. -/
abbrev wholeD (c : Dev nD) : Arr 1 2064 128 := deltaA (m ((c : Thread nD τ).loc main_arg0) : Arr 8 2064 128) (m ((c : Thread nD τ).loc main_arg1)) (m ((c : Thread nD τ).loc main_arg2)) (m ((c : Thread nD τ).loc main_arg3))
/-- The first moment the call leaves, as an array. -/
abbrev wholeM (c : Dev nD) : Arr 1 2064 128 := firstA (m ((c : Thread nD τ).loc main_arg0) : Arr 8 2064 128) (m ((c : Thread nD τ).loc main_arg2))
/-- The second moment the call leaves, as an array. -/
abbrev wholeV (c : Dev nD) : Arr 1 2064 128 := secondA (m ((c : Thread nD τ).loc main_arg0) : Arr 8 2064 128) (m ((c : Thread nD τ).loc main_arg3))

end call

section plain

open Cert.Reference41Ideal Cert.Reference41Ideal.Read

variable (x0 : (⟨S8x2064x128, .f32⟩ : BufTy).Contents (Elt Ideal)) (x1 x2 x3 : (⟨S1x2064x128, .f32⟩ : BufTy).Contents (Elt Ideal)) (y : S1x2064x128.Idx)

theorem reference_grad : val_main_v1 (F := Ideal) x0 y = gradA x0 y := by
  rw [← val_main_v1_eq]
  idx_vars y
  obtain rfl : y0 = 0 := Subsingleton.elim _ _
  pointwise
  simp only [Fin.sum_univ_eight]
  rfl

theorem reference_delta : val_main_v25 (F := Ideal) x0 x1 x2 x3 y = deltaA x0 x1 x2 x3 y := by
  rw [← val_main_v25_eq]
  idx_vars y
  obtain rfl : y0 = 0 := Subsingleton.elim _ _
  pointwise
  simp only [Fin.sum_univ_eight]
  rfl

theorem reference_first : val_main_v6 (F := Ideal) x0 x2 y = firstA x0 x2 y := by
  rw [← val_main_v6_eq]
  idx_vars y
  obtain rfl : y0 = 0 := Subsingleton.elim _ _
  pointwise
  simp only [Fin.sum_univ_eight]
  rfl

theorem reference_second : val_main_v12 (F := Ideal) x0 x3 y = secondA x0 x3 y := by
  rw [← val_main_v12_eq]
  idx_vars y
  obtain rfl : y0 = 0 := Subsingleton.elim _ _
  pointwise
  simp only [Fin.sum_univ_eight]
  rfl

end plain

/-- The reference's frame. -/
theorem frame_reference : Cert.quiescent_Reference41Ideal := by
  intro m ρ _
  exact (θ_run Cert.Reference41Ideal.defs _ _).mono
    (fun r h => ⟨fun c => (h c).2.2.2.2, sem_eq_zero_of_no_sems (by decide) r.2⟩)
    (Cert.Reference41Ideal.Value.run (F := Ideal) m ρ)

/-- The call's results are the reference's. -/
theorem algebraic : Cert.algebraic_Kernel41Ideal_Reference41Ideal := by
  intro m ρ m' ρ' _ hag
  refine ⟨wholeG m, wholeD m, wholeM m, wholeV m, ?_, ?_⟩
  · refine (θ_run Cert.Kernel41Ideal.defs _ _).mono (fun r h c => ?_) (Cert.Kernel41Ideal.Value.run_blocks (F := Ideal) m ρ)
    obtain ⟨h4, h5, h6, h7, -, hargs⟩ := h c
    exact ⟨h4.trans (arr4 m c), h5.trans (arr5 m c), h6.trans (arr6 m c), h7.trans (arr7 m c), hargs⟩
  · refine (θ_run Cert.Reference41Ideal.defs _ _).mono (fun r h c => ?_) (Cert.Reference41Ideal.Value.run (F := Ideal) m' ρ')
    obtain ⟨h4, h5, h6, h7, hargs⟩ := h c
    obtain ⟨e0, e1, e2, e3, -⟩ := hag c
    refine ⟨h4.trans ?_, h5.trans ?_, h6.trans ?_, h7.trans ?_, hargs⟩
    · show _ = gradA _
      rw [← e0]
      exact funext (reference_grad _)
    · show _ = deltaA _ _ _ _
      rw [← e0, ← e1, ← e2, ← e3]
      exact funext (reference_delta _ _ _ _)
    · show _ = firstA _ _
      rw [← e0, ← e2]
      exact funext (reference_first _ _)
    · show _ = secondA _ _
      rw [← e0, ← e3]
      exact funext (reference_second _ _)

end Cert.AdamSpatial

end
-- ==== Proof.AdamFfnUp.lean ====
module

public import proofs.«01_k».proof.Defs
public import proofs.«01_k».proof.Proof.Gen.Kernel42Ideal.Value
public import proofs.«01_k».proof.Proof.Gen.Reference42Ideal.Run
public import proofs.«01_k».proof.Proof.Gen.Reference42Ideal.Read
public import Idealize.ShloMosaic.Lib.Pointwise
public import Idealize.ShloMosaic.Lib.Pipeline.ValueKit
public import proofs.«01_k».proof.Proof.AdamSpec

/-!
# The AdamW step of the feed-forward up-projection

The weight has 4 layers of 1024 by 512; the call replaces the first layer of each result and keeps the others.
-/

@[expose] public section

set_option maxRecDepth 16384

noncomputable section

namespace Cert.AdamFfnUp

open Cert.AdamSpec Idealize.ShloMosaic Idealize.ShloMosaic.TcCoe Idealize.SL.Sem
open Idealize.ShloMosaic.Pipeline (Dat)

section call

open Cert.Kernel42Ideal Cert.Kernel42Ideal.Gen

variable (m : (ℓ : Loc nD τ sig) → Buf (Elt Ideal) ℓ) (c : Dev nD) (t : Fin cfg0.N)

/-- The block indices of the windows. -/
theorem indices : ∀ t : Fin grid0.N, win0_0.index t = ![0, t.val, 0] ∧
    win0_1.index t = ![0, t.val, 0] ∧
    win0_2.index t = ![0, t.val, 0] ∧
    win0_3.index t = ![0, t.val, 0] ∧
    win0_4.index t = ![0, t.val, 0] ∧
    win0_5.index t = ![0, t.val, 0] ∧
    win0_6.index t = ![0, t.val, 0] ∧
    win0_7.index t = ![0, t.val, 0] := by decide +kernel

/-- Row `r` of those that point `t` works on. -/
def row (r : Fin 512) : Fin 1024 :=
  ⟨t.val * 512 + r.val, by have := r.isLt; have h := t.isLt; have e : cfg0.N = 2 := N_0; omega⟩

theorem blk0 (d : Fin 8) (r : Fin 512) (k : Fin 512) : iblk m c 0 t (ix3 d r k) = m ((c : Thread nD τ).loc main_arg0) (ix3 d (row t r) k) := by
  have idx := indices
  blk_point [iblk, V, idx t] <;> rfl

theorem blk1 (r : Fin 512) (k : Fin 512) : iblk m c 1 t (ix3 0 r k) = m ((c : Thread nD τ).loc main_arg1) (ix3 0 (row t r) k) := by
  have idx := indices
  blk_point [iblk, V, idx t] <;> rfl

theorem blk2 (r : Fin 512) (k : Fin 512) : iblk m c 2 t (ix3 0 r k) = m ((c : Thread nD τ).loc main_arg2) (ix3 0 (row t r) k) := by
  have idx := indices
  blk_point [iblk, V, idx t] <;> rfl

theorem blk3 (r : Fin 512) (k : Fin 512) : iblk m c 3 t (ix3 0 r k) = m ((c : Thread nD τ).loc main_arg3) (ix3 0 (row t r) k) := by
  have idx := indices
  blk_point [iblk, V, idx t] <;> rfl

/-- What point `t` leaves is the step of its blocks. -/
theorem outs (y : S1x512x512.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows (row t) (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows (row t) (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows (row t) (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows (row t) (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference42Ideal Cert.Reference42Ideal.Read

variable (x0 : (⟨S8x1024x512, .bf16⟩ : BufTy).Contents (Elt Ideal)) (x1 x2 x3 old : (⟨S4x1024x512, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (pointwise; exact next_layer _ _ _ _ _) | (pointwise; simp only [Fin.sum_univ_eight]; rfl)

end plain

/-- The reference's frame. -/
theorem frame_reference : Cert.quiescent_Reference42Ideal := by
  intro m ρ _
  exact (θ_run Cert.Reference42Ideal.defs _ _).mono
    (fun r h => ⟨fun c => (h c).2.2.2.2, sem_eq_zero_of_no_sems (by decide) r.2⟩)
    (Cert.Reference42Ideal.Value.run (F := Ideal) m ρ)

/-- The call's results are the reference's. -/
theorem algebraic : Cert.algebraic_Kernel42Ideal_Reference42Ideal := by
  intro m ρ m' ρ' _ hag
  refine ⟨fun c => (Cert.Kernel42Ideal.Gen.dats m 0 c).arrAt 4 Cert.Kernel42Ideal.cfg0.N, fun c => (Cert.Kernel42Ideal.Gen.dats m 0 c).arrAt 5 Cert.Kernel42Ideal.cfg0.N,
    fun c => (Cert.Kernel42Ideal.Gen.dats m 0 c).arrAt 6 Cert.Kernel42Ideal.cfg0.N, fun c => (Cert.Kernel42Ideal.Gen.dats m 0 c).arrAt 7 Cert.Kernel42Ideal.cfg0.N, ?_, ?_⟩
  · refine (θ_run Cert.Kernel42Ideal.defs _ _).mono (fun r h c => ?_) (Cert.Kernel42Ideal.Value.run_blocks (F := Ideal) m ρ)
    obtain ⟨h4, h5, h6, h7, -, hargs⟩ := h c
    exact ⟨h4, h5, h6, h7, hargs⟩
  · refine (θ_run Cert.Reference42Ideal.defs _ _).mono (fun r h c => ?_) (Cert.Reference42Ideal.Value.run (F := Ideal) m' ρ')
    obtain ⟨h4, h5, h6, h7, hargs⟩ := h c
    obtain ⟨e0, e1, e2, e3, e4, e5, e6, e7⟩ := hag c
    have R := references (m' ((c : Thread Cert.Reference42Ideal.nD Cert.Reference42Ideal.τ).loc Cert.Reference42Ideal.main_arg0))
      (m' ((c : Thread Cert.Reference42Ideal.nD Cert.Reference42Ideal.τ).loc Cert.Reference42Ideal.main_arg1))
      (m' ((c : Thread Cert.Reference42Ideal.nD Cert.Reference42Ideal.τ).loc Cert.Reference42Ideal.main_arg2))
      (m' ((c : Thread Cert.Reference42Ideal.nD Cert.Reference42Ideal.τ).loc Cert.Reference42Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamFfnUp

end
-- ==== Proof.AdamFfnDown.lean ====
module

public import proofs.«01_k».proof.Defs
public import proofs.«01_k».proof.Proof.Gen.Kernel43Ideal.Value
public import proofs.«01_k».proof.Proof.Gen.Reference43Ideal.Run
public import proofs.«01_k».proof.Proof.Gen.Reference43Ideal.Read
public import Idealize.ShloMosaic.Lib.Pointwise
public import Idealize.ShloMosaic.Lib.Pipeline.ValueKit
public import proofs.«01_k».proof.Proof.AdamSpec

/-!
# The AdamW step of the feed-forward down-projection

The weight has 4 layers of 512 by 1024; the call replaces the first layer of each result and keeps the others.
-/

@[expose] public section

set_option maxRecDepth 16384

noncomputable section

namespace Cert.AdamFfnDown

open Cert.AdamSpec Idealize.ShloMosaic Idealize.ShloMosaic.TcCoe Idealize.SL.Sem
open Idealize.ShloMosaic.Pipeline (Dat)

section call

open Cert.Kernel43Ideal Cert.Kernel43Ideal.Gen

variable (m : (ℓ : Loc nD τ sig) → Buf (Elt Ideal) ℓ) (c : Dev nD) (t : Fin cfg0.N)

/-- The block indices of the windows. -/
theorem indices : ∀ t : Fin grid0.N, win0_0.index t = ![0, t.val, 0] ∧
    win0_1.index t = ![0, t.val, 0] ∧
    win0_2.index t = ![0, t.val, 0] ∧
    win0_3.index t = ![0, t.val, 0] ∧
    win0_4.index t = ![0, t.val, 0] ∧
    win0_5.index t = ![0, t.val, 0] ∧
    win0_6.index t = ![0, t.val, 0] ∧
    win0_7.index t = ![0, t.val, 0] := by decide +kernel

/-- Row `r` of those that point `t` works on. -/
def row (r : Fin 256) : Fin 512 :=
  ⟨t.val * 256 + r.val, by have := r.isLt; have h := t.isLt; have e : cfg0.N = 2 := N_0; omega⟩

theorem blk0 (d : Fin 8) (r : Fin 256) (k : Fin 1024) : iblk m c 0 t (ix3 d r k) = m ((c : Thread nD τ).loc main_arg0) (ix3 d (row t r) k) := by
  have idx := indices
  blk_point [iblk, V, idx t] <;> rfl

theorem blk1 (r : Fin 256) (k : Fin 1024) : iblk m c 1 t (ix3 0 r k) = m ((c : Thread nD τ).loc main_arg1) (ix3 0 (row t r) k) := by
  have idx := indices
  blk_point [iblk, V, idx t] <;> rfl

theorem blk2 (r : Fin 256) (k : Fin 1024) : iblk m c 2 t (ix3 0 r k) = m ((c : Thread nD τ).loc main_arg2) (ix3 0 (row t r) k) := by
  have idx := indices
  blk_point [iblk, V, idx t] <;> rfl

theorem blk3 (r : Fin 256) (k : Fin 1024) : iblk m c 3 t (ix3 0 r k) = m ((c : Thread nD τ).loc main_arg3) (ix3 0 (row t r) k) := by
  have idx := indices
  blk_point [iblk, V, idx t] <;> rfl

/-- What point `t` leaves is the step of its blocks. -/
theorem outs (y : S1x256x1024.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows (row t) (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows (row t) (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows (row t) (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows (row t) (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference43Ideal Cert.Reference43Ideal.Read

variable (x0 : (⟨S8x512x1024, .bf16⟩ : BufTy).Contents (Elt Ideal)) (x1 x2 x3 old : (⟨S4x512x1024, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (pointwise; exact next_layer _ _ _ _ _) | (pointwise; simp only [Fin.sum_univ_eight]; rfl)

end plain

/-- The reference's frame. -/
theorem frame_reference : Cert.quiescent_Reference43Ideal := by
  intro m ρ _
  exact (θ_run Cert.Reference43Ideal.defs _ _).mono
    (fun r h => ⟨fun c => (h c).2.2.2.2, sem_eq_zero_of_no_sems (by decide) r.2⟩)
    (Cert.Reference43Ideal.Value.run (F := Ideal) m ρ)

/-- The call's results are the reference's. -/
theorem algebraic : Cert.algebraic_Kernel43Ideal_Reference43Ideal := by
  intro m ρ m' ρ' _ hag
  refine ⟨fun c => (Cert.Kernel43Ideal.Gen.dats m 0 c).arrAt 4 Cert.Kernel43Ideal.cfg0.N, fun c => (Cert.Kernel43Ideal.Gen.dats m 0 c).arrAt 5 Cert.Kernel43Ideal.cfg0.N,
    fun c => (Cert.Kernel43Ideal.Gen.dats m 0 c).arrAt 6 Cert.Kernel43Ideal.cfg0.N, fun c => (Cert.Kernel43Ideal.Gen.dats m 0 c).arrAt 7 Cert.Kernel43Ideal.cfg0.N, ?_, ?_⟩
  · refine (θ_run Cert.Kernel43Ideal.defs _ _).mono (fun r h c => ?_) (Cert.Kernel43Ideal.Value.run_blocks (F := Ideal) m ρ)
    obtain ⟨h4, h5, h6, h7, -, hargs⟩ := h c
    exact ⟨h4, h5, h6, h7, hargs⟩
  · refine (θ_run Cert.Reference43Ideal.defs _ _).mono (fun r h c => ?_) (Cert.Reference43Ideal.Value.run (F := Ideal) m' ρ')
    obtain ⟨h4, h5, h6, h7, hargs⟩ := h c
    obtain ⟨e0, e1, e2, e3, e4, e5, e6, e7⟩ := hag c
    have R := references (m' ((c : Thread Cert.Reference43Ideal.nD Cert.Reference43Ideal.τ).loc Cert.Reference43Ideal.main_arg0))
      (m' ((c : Thread Cert.Reference43Ideal.nD Cert.Reference43Ideal.τ).loc Cert.Reference43Ideal.main_arg1))
      (m' ((c : Thread Cert.Reference43Ideal.nD Cert.Reference43Ideal.τ).loc Cert.Reference43Ideal.main_arg2))
      (m' ((c : Thread Cert.Reference43Ideal.nD Cert.Reference43Ideal.τ).loc Cert.Reference43Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamFfnDown

end
-- ==== Proof.AdamPleGate.lean ====
module

public import proofs.«01_k».proof.Defs
public import proofs.«01_k».proof.Proof.Gen.Kernel44Ideal.Value
public import proofs.«01_k».proof.Proof.Gen.Reference44Ideal.Run
public import proofs.«01_k».proof.Proof.Gen.Reference44Ideal.Read
public import Idealize.ShloMosaic.Lib.Pointwise
public import Idealize.ShloMosaic.Lib.Pipeline.ValueKit
public import proofs.«01_k».proof.Proof.AdamSpec

/-!
# The AdamW step of the per-layer embedding's gate

The weight has 4 layers of 128 by 1024; the call replaces the first layer of each result and keeps the others.
-/

@[expose] public section

set_option maxRecDepth 16384

noncomputable section

namespace Cert.AdamPleGate

open Cert.AdamSpec Idealize.ShloMosaic Idealize.ShloMosaic.TcCoe Idealize.SL.Sem
open Idealize.ShloMosaic.Pipeline (Dat)

section call

open Cert.Kernel44Ideal Cert.Kernel44Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 128) (k : Fin 1024) : iblk m c 0 t (ix3 d r k) = m ((c : Thread nD τ).loc main_arg0) (ix3 d r k) := by
  have idx := indices
  blk_point [iblk, V, idx t] <;> rfl

theorem blk1 (r : Fin 128) (k : Fin 1024) : iblk m c 1 t (ix3 0 r k) = m ((c : Thread nD τ).loc main_arg1) (ix3 0 r k) := by
  have idx := indices
  blk_point [iblk, V, idx t] <;> rfl

theorem blk2 (r : Fin 128) (k : Fin 1024) : iblk m c 2 t (ix3 0 r k) = m ((c : Thread nD τ).loc main_arg2) (ix3 0 r k) := by
  have idx := indices
  blk_point [iblk, V, idx t] <;> rfl

theorem blk3 (r : Fin 128) (k : Fin 1024) : iblk m c 3 t (ix3 0 r k) = m ((c : Thread nD τ).loc main_arg3) (ix3 0 r k) := by
  have idx := indices
  blk_point [iblk, V, idx t] <;> rfl

/-- What point `t` leaves is the step of its blocks. -/
theorem outs (y : S1x128x1024.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference44Ideal Cert.Reference44Ideal.Read

variable (x0 : (⟨S8x128x1024, .bf16⟩ : BufTy).Contents (Elt Ideal)) (x1 x2 x3 old : (⟨S4x128x1024, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (pointwise; exact next_layer _ _ _ _ _) | (pointwise; simp only [Fin.sum_univ_eight]; rfl)

end plain

/-- The reference's frame. -/
theorem frame_reference : Cert.quiescent_Reference44Ideal := by
  intro m ρ _
  exact (θ_run Cert.Reference44Ideal.defs _ _).mono
    (fun r h => ⟨fun c => (h c).2.2.2.2, sem_eq_zero_of_no_sems (by decide) r.2⟩)
    (Cert.Reference44Ideal.Value.run (F := Ideal) m ρ)

/-- The call's results are the reference's. -/
theorem algebraic : Cert.algebraic_Kernel44Ideal_Reference44Ideal := by
  intro m ρ m' ρ' _ hag
  refine ⟨fun c => (Cert.Kernel44Ideal.Gen.dats m 0 c).arrAt 4 Cert.Kernel44Ideal.cfg0.N, fun c => (Cert.Kernel44Ideal.Gen.dats m 0 c).arrAt 5 Cert.Kernel44Ideal.cfg0.N,
    fun c => (Cert.Kernel44Ideal.Gen.dats m 0 c).arrAt 6 Cert.Kernel44Ideal.cfg0.N, fun c => (Cert.Kernel44Ideal.Gen.dats m 0 c).arrAt 7 Cert.Kernel44Ideal.cfg0.N, ?_, ?_⟩
  · refine (θ_run Cert.Kernel44Ideal.defs _ _).mono (fun r h c => ?_) (Cert.Kernel44Ideal.Value.run_blocks (F := Ideal) m ρ)
    obtain ⟨h4, h5, h6, h7, -, hargs⟩ := h c
    exact ⟨h4, h5, h6, h7, hargs⟩
  · refine (θ_run Cert.Reference44Ideal.defs _ _).mono (fun r h c => ?_) (Cert.Reference44Ideal.Value.run (F := Ideal) m' ρ')
    obtain ⟨h4, h5, h6, h7, hargs⟩ := h c
    obtain ⟨e0, e1, e2, e3, e4, e5, e6, e7⟩ := hag c
    have R := references (m' ((c : Thread Cert.Reference44Ideal.nD Cert.Reference44Ideal.τ).loc Cert.Reference44Ideal.main_arg0))
      (m' ((c : Thread Cert.Reference44Ideal.nD Cert.Reference44Ideal.τ).loc Cert.Reference44Ideal.main_arg1))
      (m' ((c : Thread Cert.Reference44Ideal.nD Cert.Reference44Ideal.τ).loc Cert.Reference44Ideal.main_arg2))
      (m' ((c : Thread Cert.Reference44Ideal.nD Cert.Reference44Ideal.τ).loc Cert.Reference44Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamPleGate

end
-- ==== Proof.AdamPleProj.lean ====
module

public import proofs.«01_k».proof.Defs
public import proofs.«01_k».proof.Proof.Gen.Kernel45Ideal.Value
public import proofs.«01_k».proof.Proof.Gen.Reference45Ideal.Run
public import proofs.«01_k».proof.Proof.Gen.Reference45Ideal.Read
public import Idealize.ShloMosaic.Lib.Pointwise
public import Idealize.ShloMosaic.Lib.Pipeline.ValueKit
public import proofs.«01_k».proof.Proof.AdamSpec

/-!
# The AdamW step of the per-layer embedding's projection

The weight has 4 layers of 256 by 128; the call replaces the first layer of each result and keeps the others.
-/

@[expose] public section

set_option maxRecDepth 16384

noncomputable section

namespace Cert.AdamPleProj

open Cert.AdamSpec Idealize.ShloMosaic Idealize.ShloMosaic.TcCoe Idealize.SL.Sem
open Idealize.ShloMosaic.Pipeline (Dat)

section call

open Cert.Kernel45Ideal Cert.Kernel45Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 256) (k : Fin 128) : iblk m c 0 t (ix3 d r k) = m ((c : Thread nD τ).loc main_arg0) (ix3 d r k) := by
  have idx := indices
  blk_point [iblk, V, idx t] <;> rfl

theorem blk1 (r : Fin 256) (k : Fin 128) : iblk m c 1 t (ix3 0 r k) = m ((c : Thread nD τ).loc main_arg1) (ix3 0 r k) := by
  have idx := indices
  blk_point [iblk, V, idx t] <;> rfl

theorem blk2 (r : Fin 256) (k : Fin 128) : iblk m c 2 t (ix3 0 r k) = m ((c : Thread nD τ).loc main_arg2) (ix3 0 r k) := by
  have idx := indices
  blk_point [iblk, V, idx t] <;> rfl

theorem blk3 (r : Fin 256) (k : Fin 128) : iblk m c 3 t (ix3 0 r k) = m ((c : Thread nD τ).loc main_arg3) (ix3 0 r k) := by
  have idx := indices
  blk_point [iblk, V, idx t] <;> rfl

/-- What point `t` leaves is the step of its blocks. -/
theorem outs (y : S1x256x128.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference45Ideal Cert.Reference45Ideal.Read

variable (x0 : (⟨S8x256x128, .bf16⟩ : BufTy).Contents (Elt Ideal)) (x1 x2 x3 old : (⟨S4x256x128, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (pointwise; exact next_layer _ _ _ _ _) | (pointwise; simp only [Fin.sum_univ_eight]; rfl)

end plain

/-- The reference's frame. -/
theorem frame_reference : Cert.quiescent_Reference45Ideal := by
  intro m ρ _
  exact (θ_run Cert.Reference45Ideal.defs _ _).mono
    (fun r h => ⟨fun c => (h c).2.2.2.2, sem_eq_zero_of_no_sems (by decide) r.2⟩)
    (Cert.Reference45Ideal.Value.run (F := Ideal) m ρ)

/-- The call's results are the reference's. -/
theorem algebraic : Cert.algebraic_Kernel45Ideal_Reference45Ideal := by
  intro m ρ m' ρ' _ hag
  refine ⟨fun c => (Cert.Kernel45Ideal.Gen.dats m 0 c).arrAt 4 Cert.Kernel45Ideal.cfg0.N, fun c => (Cert.Kernel45Ideal.Gen.dats m 0 c).arrAt 5 Cert.Kernel45Ideal.cfg0.N,
    fun c => (Cert.Kernel45Ideal.Gen.dats m 0 c).arrAt 6 Cert.Kernel45Ideal.cfg0.N, fun c => (Cert.Kernel45Ideal.Gen.dats m 0 c).arrAt 7 Cert.Kernel45Ideal.cfg0.N, ?_, ?_⟩
  · refine (θ_run Cert.Kernel45Ideal.defs _ _).mono (fun r h c => ?_) (Cert.Kernel45Ideal.Value.run_blocks (F := Ideal) m ρ)
    obtain ⟨h4, h5, h6, h7, -, hargs⟩ := h c
    exact ⟨h4, h5, h6, h7, hargs⟩
  · refine (θ_run Cert.Reference45Ideal.defs _ _).mono (fun r h c => ?_) (Cert.Reference45Ideal.Value.run (F := Ideal) m' ρ')
    obtain ⟨h4, h5, h6, h7, hargs⟩ := h c
    obtain ⟨e0, e1, e2, e3, e4, e5, e6, e7⟩ := hag c
    have R := references (m' ((c : Thread Cert.Reference45Ideal.nD Cert.Reference45Ideal.τ).loc Cert.Reference45Ideal.main_arg0))
      (m' ((c : Thread Cert.Reference45Ideal.nD Cert.Reference45Ideal.τ).loc Cert.Reference45Ideal.main_arg1))
      (m' ((c : Thread Cert.Reference45Ideal.nD Cert.Reference45Ideal.τ).loc Cert.Reference45Ideal.main_arg2))
      (m' ((c : Thread Cert.Reference45Ideal.nD Cert.Reference45Ideal.τ).loc Cert.Reference45Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamPleProj

end
-- ==== Proof.AdamMlaDown.lean ====
module

public import proofs.«01_k».proof.Defs
public import proofs.«01_k».proof.Proof.Gen.Kernel46Ideal.Value
public import proofs.«01_k».proof.Proof.Gen.Reference46Ideal.Run
public import proofs.«01_k».proof.Proof.Gen.Reference46Ideal.Read
public import Idealize.ShloMosaic.Lib.Pointwise
public import Idealize.ShloMosaic.Lib.Pipeline.ValueKit
public import proofs.«01_k».proof.Proof.AdamSpec

/-!
# The AdamW step of the attention's down-projection

The weight has 2 layers of 128 by 704; the call replaces the first layer of each result and keeps the others.
-/

@[expose] public section

set_option maxRecDepth 16384

noncomputable section

namespace Cert.AdamMlaDown

open Cert.AdamSpec Idealize.ShloMosaic Idealize.ShloMosaic.TcCoe Idealize.SL.Sem
open Idealize.ShloMosaic.Pipeline (Dat)

section call

open Cert.Kernel46Ideal Cert.Kernel46Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 128) (k : Fin 704) : iblk m c 0 t (ix3 d r k) = m ((c : Thread nD τ).loc main_arg0) (ix3 d r k) := by
  have idx := indices
  blk_point [iblk, V, idx t] <;> rfl

theorem blk1 (r : Fin 128) (k : Fin 704) : iblk m c 1 t (ix3 0 r k) = m ((c : Thread nD τ).loc main_arg1) (ix3 0 r k) := by
  have idx := indices
  blk_point [iblk, V, idx t] <;> rfl

theorem blk2 (r : Fin 128) (k : Fin 704) : iblk m c 2 t (ix3 0 r k) = m ((c : Thread nD τ).loc main_arg2) (ix3 0 r k) := by
  have idx := indices
  blk_point [iblk, V, idx t] <;> rfl

theorem blk3 (r : Fin 128) (k : Fin 704) : iblk m c 3 t (ix3 0 r k) = m ((c : Thread nD τ).loc main_arg3) (ix3 0 r k) := by
  have idx := indices
  blk_point [iblk, V, idx t] <;> rfl

/-- What point `t` leaves is the step of its blocks. -/
theorem outs (y : S1x128x704.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference46Ideal Cert.Reference46Ideal.Read

variable (x0 : (⟨S8x128x704, .bf16⟩ : BufTy).Contents (Elt Ideal)) (x1 x2 x3 old : (⟨S2x128x704, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (obtain rfl : d = 0 := Subsingleton.elim _ _; pointwise; rfl) | (pointwise; simp only [Fin.sum_univ_eight]; rfl)

end plain

/-- The reference's frame. -/
theorem frame_reference : Cert.quiescent_Reference46Ideal := by
  intro m ρ _
  exact (θ_run Cert.Reference46Ideal.defs _ _).mono
    (fun r h => ⟨fun c => (h c).2.2.2.2, sem_eq_zero_of_no_sems (by decide) r.2⟩)
    (Cert.Reference46Ideal.Value.run (F := Ideal) m ρ)

/-- The call's results are the reference's. -/
theorem algebraic : Cert.algebraic_Kernel46Ideal_Reference46Ideal := by
  intro m ρ m' ρ' _ hag
  refine ⟨fun c => (Cert.Kernel46Ideal.Gen.dats m 0 c).arrAt 4 Cert.Kernel46Ideal.cfg0.N, fun c => (Cert.Kernel46Ideal.Gen.dats m 0 c).arrAt 5 Cert.Kernel46Ideal.cfg0.N,
    fun c => (Cert.Kernel46Ideal.Gen.dats m 0 c).arrAt 6 Cert.Kernel46Ideal.cfg0.N, fun c => (Cert.Kernel46Ideal.Gen.dats m 0 c).arrAt 7 Cert.Kernel46Ideal.cfg0.N, ?_, ?_⟩
  · refine (θ_run Cert.Kernel46Ideal.defs _ _).mono (fun r h c => ?_) (Cert.Kernel46Ideal.Value.run_blocks (F := Ideal) m ρ)
    obtain ⟨h4, h5, h6, h7, -, hargs⟩ := h c
    exact ⟨h4, h5, h6, h7, hargs⟩
  · refine (θ_run Cert.Reference46Ideal.defs _ _).mono (fun r h c => ?_) (Cert.Reference46Ideal.Value.run (F := Ideal) m' ρ')
    obtain ⟨h4, h5, h6, h7, hargs⟩ := h c
    obtain ⟨e0, e1, e2, e3, e4, e5, e6, e7⟩ := hag c
    have R := references (m' ((c : Thread Cert.Reference46Ideal.nD Cert.Reference46Ideal.τ).loc Cert.Reference46Ideal.main_arg0))
      (m' ((c : Thread Cert.Reference46Ideal.nD Cert.Reference46Ideal.τ).loc Cert.Reference46Ideal.main_arg1))
      (m' ((c : Thread Cert.Reference46Ideal.nD Cert.Reference46Ideal.τ).loc Cert.Reference46Ideal.main_arg2))
      (m' ((c : Thread Cert.Reference46Ideal.nD Cert.Reference46Ideal.τ).loc Cert.Reference46Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamMlaDown

end
-- ==== Proof.AdamMlaUq.lean ====
module

public import proofs.«01_k».proof.Defs
public import proofs.«01_k».proof.Proof.Gen.Kernel47Ideal.Value
public import proofs.«01_k».proof.Proof.Gen.Reference47Ideal.Run
public import proofs.«01_k».proof.Proof.Gen.Reference47Ideal.Read
public import Idealize.ShloMosaic.Lib.Pointwise
public import Idealize.ShloMosaic.Lib.Pipeline.ValueKit
public import proofs.«01_k».proof.Proof.AdamSpec

/-!
# The AdamW step of the attention's query up-projection

The weight has 2 layers of 384 by 192; the call replaces the first layer of each result and keeps the others.
-/

@[expose] public section

set_option maxRecDepth 16384

noncomputable section

namespace Cert.AdamMlaUq

open Cert.AdamSpec Idealize.ShloMosaic Idealize.ShloMosaic.TcCoe Idealize.SL.Sem
open Idealize.ShloMosaic.Pipeline (Dat)

section call

open Cert.Kernel47Ideal Cert.Kernel47Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 384) (k : Fin 192) : iblk m c 0 t (ix3 d r k) = m ((c : Thread nD τ).loc main_arg0) (ix3 d r k) := by
  have idx := indices
  blk_point [iblk, V, idx t] <;> rfl

theorem blk1 (r : Fin 384) (k : Fin 192) : iblk m c 1 t (ix3 0 r k) = m ((c : Thread nD τ).loc main_arg1) (ix3 0 r k) := by
  have idx := indices
  blk_point [iblk, V, idx t] <;> rfl

theorem blk2 (r : Fin 384) (k : Fin 192) : iblk m c 2 t (ix3 0 r k) = m ((c : Thread nD τ).loc main_arg2) (ix3 0 r k) := by
  have idx := indices
  blk_point [iblk, V, idx t] <;> rfl

theorem blk3 (r : Fin 384) (k : Fin 192) : iblk m c 3 t (ix3 0 r k) = m ((c : Thread nD τ).loc main_arg3) (ix3 0 r k) := by
  have idx := indices
  blk_point [iblk, V, idx t] <;> rfl

/-- What point `t` leaves is the step of its blocks. -/
theorem outs (y : S1x384x192.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference47Ideal Cert.Reference47Ideal.Read

variable (x0 : (⟨S8x384x192, .bf16⟩ : BufTy).Contents (Elt Ideal)) (x1 x2 x3 old : (⟨S2x384x192, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (obtain rfl : d = 0 := Subsingleton.elim _ _; pointwise; rfl) | (pointwise; simp only [Fin.sum_univ_eight]; rfl)

end plain

/-- The reference's frame. -/
theorem frame_reference : Cert.quiescent_Reference47Ideal := by
  intro m ρ _
  exact (θ_run Cert.Reference47Ideal.defs _ _).mono
    (fun r h => ⟨fun c => (h c).2.2.2.2, sem_eq_zero_of_no_sems (by decide) r.2⟩)
    (Cert.Reference47Ideal.Value.run (F := Ideal) m ρ)

/-- The call's results are the reference's. -/
theorem algebraic : Cert.algebraic_Kernel47Ideal_Reference47Ideal := by
  intro m ρ m' ρ' _ hag
  refine ⟨fun c => (Cert.Kernel47Ideal.Gen.dats m 0 c).arrAt 4 Cert.Kernel47Ideal.cfg0.N, fun c => (Cert.Kernel47Ideal.Gen.dats m 0 c).arrAt 5 Cert.Kernel47Ideal.cfg0.N,
    fun c => (Cert.Kernel47Ideal.Gen.dats m 0 c).arrAt 6 Cert.Kernel47Ideal.cfg0.N, fun c => (Cert.Kernel47Ideal.Gen.dats m 0 c).arrAt 7 Cert.Kernel47Ideal.cfg0.N, ?_, ?_⟩
  · refine (θ_run Cert.Kernel47Ideal.defs _ _).mono (fun r h c => ?_) (Cert.Kernel47Ideal.Value.run_blocks (F := Ideal) m ρ)
    obtain ⟨h4, h5, h6, h7, -, hargs⟩ := h c
    exact ⟨h4, h5, h6, h7, hargs⟩
  · refine (θ_run Cert.Reference47Ideal.defs _ _).mono (fun r h c => ?_) (Cert.Reference47Ideal.Value.run (F := Ideal) m' ρ')
    obtain ⟨h4, h5, h6, h7, hargs⟩ := h c
    obtain ⟨e0, e1, e2, e3, e4, e5, e6, e7⟩ := hag c
    have R := references (m' ((c : Thread Cert.Reference47Ideal.nD Cert.Reference47Ideal.τ).loc Cert.Reference47Ideal.main_arg0))
      (m' ((c : Thread Cert.Reference47Ideal.nD Cert.Reference47Ideal.τ).loc Cert.Reference47Ideal.main_arg1))
      (m' ((c : Thread Cert.Reference47Ideal.nD Cert.Reference47Ideal.τ).loc Cert.Reference47Ideal.main_arg2))
      (m' ((c : Thread Cert.Reference47Ideal.nD Cert.Reference47Ideal.τ).loc Cert.Reference47Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamMlaUq

end
-- ==== Proof.AdamMlaUkv.lean ====
module

public import proofs.«01_k».proof.Defs
public import proofs.«01_k».proof.Proof.Gen.Kernel48Ideal.Value
public import proofs.«01_k».proof.Proof.Gen.Reference48Ideal.Run
public import proofs.«01_k».proof.Proof.Gen.Reference48Ideal.Read
public import Idealize.ShloMosaic.Lib.Pointwise
public import Idealize.ShloMosaic.Lib.Pipeline.ValueKit
public import proofs.«01_k».proof.Proof.AdamSpec

/-!
# The AdamW step of the attention's key and value up-projection

The weight has 2 layers of 256 by 256; the call replaces the first layer of each result and keeps the others.
-/

@[expose] public section

set_option maxRecDepth 16384

noncomputable section

namespace Cert.AdamMlaUkv

open Cert.AdamSpec Idealize.ShloMosaic Idealize.ShloMosaic.TcCoe Idealize.SL.Sem
open Idealize.ShloMosaic.Pipeline (Dat)

section call

open Cert.Kernel48Ideal Cert.Kernel48Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 256) (k : Fin 256) : iblk m c 0 t (ix3 d r k) = m ((c : Thread nD τ).loc main_arg0) (ix3 d r k) := by
  have idx := indices
  blk_point [iblk, V, idx t] <;> rfl

theorem blk1 (r : Fin 256) (k : Fin 256) : iblk m c 1 t (ix3 0 r k) = m ((c : Thread nD τ).loc main_arg1) (ix3 0 r k) := by
  have idx := indices
  blk_point [iblk, V, idx t] <;> rfl

theorem blk2 (r : Fin 256) (k : Fin 256) : iblk m c 2 t (ix3 0 r k) = m ((c : Thread nD τ).loc main_arg2) (ix3 0 r k) := by
  have idx := indices
  blk_point [iblk, V, idx t] <;> rfl

theorem blk3 (r : Fin 256) (k : Fin 256) : iblk m c 3 t (ix3 0 r k) = m ((c : Thread nD τ).loc main_arg3) (ix3 0 r k) := by
  have idx := indices
  blk_point [iblk, V, idx t] <;> rfl

/-- What point `t` leaves is the step of its blocks. -/
theorem outs (y : S1x256x256.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference48Ideal Cert.Reference48Ideal.Read

variable (x0 : (⟨S8x256x256, .bf16⟩ : BufTy).Contents (Elt Ideal)) (x1 x2 x3 old : (⟨S2x256x256, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (obtain rfl : d = 0 := Subsingleton.elim _ _; pointwise; rfl) | (pointwise; simp only [Fin.sum_univ_eight]; rfl)

end plain

/-- The reference's frame. -/
theorem frame_reference : Cert.quiescent_Reference48Ideal := by
  intro m ρ _
  exact (θ_run Cert.Reference48Ideal.defs _ _).mono
    (fun r h => ⟨fun c => (h c).2.2.2.2, sem_eq_zero_of_no_sems (by decide) r.2⟩)
    (Cert.Reference48Ideal.Value.run (F := Ideal) m ρ)

/-- The call's results are the reference's. -/
theorem algebraic : Cert.algebraic_Kernel48Ideal_Reference48Ideal := by
  intro m ρ m' ρ' _ hag
  refine ⟨fun c => (Cert.Kernel48Ideal.Gen.dats m 0 c).arrAt 4 Cert.Kernel48Ideal.cfg0.N, fun c => (Cert.Kernel48Ideal.Gen.dats m 0 c).arrAt 5 Cert.Kernel48Ideal.cfg0.N,
    fun c => (Cert.Kernel48Ideal.Gen.dats m 0 c).arrAt 6 Cert.Kernel48Ideal.cfg0.N, fun c => (Cert.Kernel48Ideal.Gen.dats m 0 c).arrAt 7 Cert.Kernel48Ideal.cfg0.N, ?_, ?_⟩
  · refine (θ_run Cert.Kernel48Ideal.defs _ _).mono (fun r h c => ?_) (Cert.Kernel48Ideal.Value.run_blocks (F := Ideal) m ρ)
    obtain ⟨h4, h5, h6, h7, -, hargs⟩ := h c
    exact ⟨h4, h5, h6, h7, hargs⟩
  · refine (θ_run Cert.Reference48Ideal.defs _ _).mono (fun r h c => ?_) (Cert.Reference48Ideal.Value.run (F := Ideal) m' ρ')
    obtain ⟨h4, h5, h6, h7, hargs⟩ := h c
    obtain ⟨e0, e1, e2, e3, e4, e5, e6, e7⟩ := hag c
    have R := references (m' ((c : Thread Cert.Reference48Ideal.nD Cert.Reference48Ideal.τ).loc Cert.Reference48Ideal.main_arg0))
      (m' ((c : Thread Cert.Reference48Ideal.nD Cert.Reference48Ideal.τ).loc Cert.Reference48Ideal.main_arg1))
      (m' ((c : Thread Cert.Reference48Ideal.nD Cert.Reference48Ideal.τ).loc Cert.Reference48Ideal.main_arg2))
      (m' ((c : Thread Cert.Reference48Ideal.nD Cert.Reference48Ideal.τ).loc Cert.Reference48Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamMlaUkv

end
-- ==== Proof.AdamMlaOut.lean ====
module

public import proofs.«01_k».proof.Defs
public import proofs.«01_k».proof.Proof.Gen.Kernel49Ideal.Value
public import proofs.«01_k».proof.Proof.Gen.Reference49Ideal.Run
public import proofs.«01_k».proof.Proof.Gen.Reference49Ideal.Read
public import Idealize.ShloMosaic.Lib.Pointwise
public import Idealize.ShloMosaic.Lib.Pipeline.ValueKit
public import proofs.«01_k».proof.Proof.AdamSpec

/-!
# The AdamW step of the attention's output projection

The weight has 2 layers of 128 by 1024; the call replaces the first layer of each result and keeps the others.
-/

@[expose] public section

set_option maxRecDepth 16384

noncomputable section

namespace Cert.AdamMlaOut

open Cert.AdamSpec Idealize.ShloMosaic Idealize.ShloMosaic.TcCoe Idealize.SL.Sem
open Idealize.ShloMosaic.Pipeline (Dat)

section call

open Cert.Kernel49Ideal Cert.Kernel49Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 128) (k : Fin 1024) : iblk m c 0 t (ix3 d r k) = m ((c : Thread nD τ).loc main_arg0) (ix3 d r k) := by
  have idx := indices
  blk_point [iblk, V, idx t] <;> rfl

theorem blk1 (r : Fin 128) (k : Fin 1024) : iblk m c 1 t (ix3 0 r k) = m ((c : Thread nD τ).loc main_arg1) (ix3 0 r k) := by
  have idx := indices
  blk_point [iblk, V, idx t] <;> rfl

theorem blk2 (r : Fin 128) (k : Fin 1024) : iblk m c 2 t (ix3 0 r k) = m ((c : Thread nD τ).loc main_arg2) (ix3 0 r k) := by
  have idx := indices
  blk_point [iblk, V, idx t] <;> rfl

theorem blk3 (r : Fin 128) (k : Fin 1024) : iblk m c 3 t (ix3 0 r k) = m ((c : Thread nD τ).loc main_arg3) (ix3 0 r k) := by
  have idx := indices
  blk_point [iblk, V, idx t] <;> rfl

/-- What point `t` leaves is the step of its blocks. -/
theorem outs (y : S1x128x1024.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference49Ideal Cert.Reference49Ideal.Read

variable (x0 : (⟨S8x128x1024, .bf16⟩ : BufTy).Contents (Elt Ideal)) (x1 x2 x3 old : (⟨S2x128x1024, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (obtain rfl : d = 0 := Subsingleton.elim _ _; pointwise; rfl) | (pointwise; simp only [Fin.sum_univ_eight]; rfl)

end plain

/-- The reference's frame. -/
theorem frame_reference : Cert.quiescent_Reference49Ideal := by
  intro m ρ _
  exact (θ_run Cert.Reference49Ideal.defs _ _).mono
    (fun r h => ⟨fun c => (h c).2.2.2.2, sem_eq_zero_of_no_sems (by decide) r.2⟩)
    (Cert.Reference49Ideal.Value.run (F := Ideal) m ρ)

/-- The call's results are the reference's. -/
theorem algebraic : Cert.algebraic_Kernel49Ideal_Reference49Ideal := by
  intro m ρ m' ρ' _ hag
  refine ⟨fun c => (Cert.Kernel49Ideal.Gen.dats m 0 c).arrAt 4 Cert.Kernel49Ideal.cfg0.N, fun c => (Cert.Kernel49Ideal.Gen.dats m 0 c).arrAt 5 Cert.Kernel49Ideal.cfg0.N,
    fun c => (Cert.Kernel49Ideal.Gen.dats m 0 c).arrAt 6 Cert.Kernel49Ideal.cfg0.N, fun c => (Cert.Kernel49Ideal.Gen.dats m 0 c).arrAt 7 Cert.Kernel49Ideal.cfg0.N, ?_, ?_⟩
  · refine (θ_run Cert.Kernel49Ideal.defs _ _).mono (fun r h c => ?_) (Cert.Kernel49Ideal.Value.run_blocks (F := Ideal) m ρ)
    obtain ⟨h4, h5, h6, h7, -, hargs⟩ := h c
    exact ⟨h4, h5, h6, h7, hargs⟩
  · refine (θ_run Cert.Reference49Ideal.defs _ _).mono (fun r h c => ?_) (Cert.Reference49Ideal.Value.run (F := Ideal) m' ρ')
    obtain ⟨h4, h5, h6, h7, hargs⟩ := h c
    obtain ⟨e0, e1, e2, e3, e4, e5, e6, e7⟩ := hag c
    have R := references (m' ((c : Thread Cert.Reference49Ideal.nD Cert.Reference49Ideal.τ).loc Cert.Reference49Ideal.main_arg0))
      (m' ((c : Thread Cert.Reference49Ideal.nD Cert.Reference49Ideal.τ).loc Cert.Reference49Ideal.main_arg1))
      (m' ((c : Thread Cert.Reference49Ideal.nD Cert.Reference49Ideal.τ).loc Cert.Reference49Ideal.main_arg2))
      (m' ((c : Thread Cert.Reference49Ideal.nD Cert.Reference49Ideal.τ).loc Cert.Reference49Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamMlaOut

end
-- ==== Proof.AdamGmlpIn.lean ====
module

public import proofs.«01_k».proof.Defs
public import proofs.«01_k».proof.Proof.Gen.Kernel50Ideal.Value
public import proofs.«01_k».proof.Proof.Gen.Reference50Ideal.Run
public import proofs.«01_k».proof.Proof.Gen.Reference50Ideal.Read
public import Idealize.ShloMosaic.Lib.Pointwise
public import Idealize.ShloMosaic.Lib.Pipeline.ValueKit
public import proofs.«01_k».proof.Proof.AdamSpec

/-!
# The AdamW step of the gated block's input projection

The weight has 2 layers of 1024 by 512; the call replaces the first layer of each result and keeps the others.
-/

@[expose] public section

set_option maxRecDepth 16384

noncomputable section

namespace Cert.AdamGmlpIn

open Cert.AdamSpec Idealize.ShloMosaic Idealize.ShloMosaic.TcCoe Idealize.SL.Sem
open Idealize.ShloMosaic.Pipeline (Dat)

section call

open Cert.Kernel50Ideal Cert.Kernel50Ideal.Gen

variable (m : (ℓ : Loc nD τ sig) → Buf (Elt Ideal) ℓ) (c : Dev nD) (t : Fin cfg0.N)

/-- The block indices of the windows. -/
theorem indices : ∀ t : Fin grid0.N, win0_0.index t = ![0, t.val, 0] ∧
    win0_1.index t = ![0, t.val, 0] ∧
    win0_2.index t = ![0, t.val, 0] ∧
    win0_3.index t = ![0, t.val, 0] ∧
    win0_4.index t = ![0, t.val, 0] ∧
    win0_5.index t = ![0, t.val, 0] ∧
    win0_6.index t = ![0, t.val, 0] ∧
    win0_7.index t = ![0, t.val, 0] := by decide +kernel

/-- Row `r` of those that point `t` works on. -/
def row (r : Fin 512) : Fin 1024 :=
  ⟨t.val * 512 + r.val, by have := r.isLt; have h := t.isLt; have e : cfg0.N = 2 := N_0; omega⟩

theorem blk0 (d : Fin 8) (r : Fin 512) (k : Fin 512) : iblk m c 0 t (ix3 d r k) = m ((c : Thread nD τ).loc main_arg0) (ix3 d (row t r) k) := by
  have idx := indices
  blk_point [iblk, V, idx t] <;> rfl

theorem blk1 (r : Fin 512) (k : Fin 512) : iblk m c 1 t (ix3 0 r k) = m ((c : Thread nD τ).loc main_arg1) (ix3 0 (row t r) k) := by
  have idx := indices
  blk_point [iblk, V, idx t] <;> rfl

theorem blk2 (r : Fin 512) (k : Fin 512) : iblk m c 2 t (ix3 0 r k) = m ((c : Thread nD τ).loc main_arg2) (ix3 0 (row t r) k) := by
  have idx := indices
  blk_point [iblk, V, idx t] <;> rfl

theorem blk3 (r : Fin 512) (k : Fin 512) : iblk m c 3 t (ix3 0 r k) = m ((c : Thread nD τ).loc main_arg3) (ix3 0 (row t r) k) := by
  have idx := indices
  blk_point [iblk, V, idx t] <;> rfl

/-- What point `t` leaves is the step of its blocks. -/
theorem outs (y : S1x512x512.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows (row t) (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows (row t) (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows (row t) (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows (row t) (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference50Ideal Cert.Reference50Ideal.Read

variable (x0 : (⟨S8x1024x512, .bf16⟩ : BufTy).Contents (Elt Ideal)) (x1 x2 x3 old : (⟨S2x1024x512, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (obtain rfl : d = 0 := Subsingleton.elim _ _; pointwise; rfl) | (pointwise; simp only [Fin.sum_univ_eight]; rfl)

end plain

/-- The reference's frame. -/
theorem frame_reference : Cert.quiescent_Reference50Ideal := by
  intro m ρ _
  exact (θ_run Cert.Reference50Ideal.defs _ _).mono
    (fun r h => ⟨fun c => (h c).2.2.2.2, sem_eq_zero_of_no_sems (by decide) r.2⟩)
    (Cert.Reference50Ideal.Value.run (F := Ideal) m ρ)

/-- The call's results are the reference's. -/
theorem algebraic : Cert.algebraic_Kernel50Ideal_Reference50Ideal := by
  intro m ρ m' ρ' _ hag
  refine ⟨fun c => (Cert.Kernel50Ideal.Gen.dats m 0 c).arrAt 4 Cert.Kernel50Ideal.cfg0.N, fun c => (Cert.Kernel50Ideal.Gen.dats m 0 c).arrAt 5 Cert.Kernel50Ideal.cfg0.N,
    fun c => (Cert.Kernel50Ideal.Gen.dats m 0 c).arrAt 6 Cert.Kernel50Ideal.cfg0.N, fun c => (Cert.Kernel50Ideal.Gen.dats m 0 c).arrAt 7 Cert.Kernel50Ideal.cfg0.N, ?_, ?_⟩
  · refine (θ_run Cert.Kernel50Ideal.defs _ _).mono (fun r h c => ?_) (Cert.Kernel50Ideal.Value.run_blocks (F := Ideal) m ρ)
    obtain ⟨h4, h5, h6, h7, -, hargs⟩ := h c
    exact ⟨h4, h5, h6, h7, hargs⟩
  · refine (θ_run Cert.Reference50Ideal.defs _ _).mono (fun r h c => ?_) (Cert.Reference50Ideal.Value.run (F := Ideal) m' ρ')
    obtain ⟨h4, h5, h6, h7, hargs⟩ := h c
    obtain ⟨e0, e1, e2, e3, e4, e5, e6, e7⟩ := hag c
    have R := references (m' ((c : Thread Cert.Reference50Ideal.nD Cert.Reference50Ideal.τ).loc Cert.Reference50Ideal.main_arg0))
      (m' ((c : Thread Cert.Reference50Ideal.nD Cert.Reference50Ideal.τ).loc Cert.Reference50Ideal.main_arg1))
      (m' ((c : Thread Cert.Reference50Ideal.nD Cert.Reference50Ideal.τ).loc Cert.Reference50Ideal.main_arg2))
      (m' ((c : Thread Cert.Reference50Ideal.nD Cert.Reference50Ideal.τ).loc Cert.Reference50Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamGmlpIn

end
-- ==== Proof.AdamGmlpNorm.lean ====
module

public import proofs.«01_k».proof.Defs
public import proofs.«01_k».proof.Proof.Gen.Kernel51Ideal.Value
public import proofs.«01_k».proof.Proof.Gen.Reference51Ideal.Run
public import proofs.«01_k».proof.Proof.Gen.Reference51Ideal.Read
public import Idealize.ShloMosaic.Lib.Pointwise
public import Idealize.ShloMosaic.Lib.Pipeline.ValueKit
public import proofs.«01_k».proof.Proof.AdamSpec

/-!
# The AdamW step of the gated block's gain and bias

The weight has 2 layers of 1 by 256; the call replaces the first layer of each result and keeps the others.
-/

@[expose] public section

set_option maxRecDepth 16384

noncomputable section

namespace Cert.AdamGmlpNorm

open Cert.AdamSpec Idealize.ShloMosaic Idealize.ShloMosaic.TcCoe Idealize.SL.Sem
open Idealize.ShloMosaic.Pipeline (Dat)

section call

open Cert.Kernel51Ideal Cert.Kernel51Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 1) (k : Fin 256) : iblk m c 0 t (ix3 d r k) = m ((c : Thread nD τ).loc main_arg0) (ix3 d r k) := by
  have idx := indices
  blk_point [iblk, V, idx t] <;> rfl

theorem blk1 (r : Fin 1) (k : Fin 256) : iblk m c 1 t (ix3 0 r k) = m ((c : Thread nD τ).loc main_arg1) (ix3 0 r k) := by
  have idx := indices
  blk_point [iblk, V, idx t] <;> rfl

theorem blk2 (r : Fin 1) (k : Fin 256) : iblk m c 2 t (ix3 0 r k) = m ((c : Thread nD τ).loc main_arg2) (ix3 0 r k) := by
  have idx := indices
  blk_point [iblk, V, idx t] <;> rfl

theorem blk3 (r : Fin 1) (k : Fin 256) : iblk m c 3 t (ix3 0 r k) = m ((c : Thread nD τ).loc main_arg3) (ix3 0 r k) := by
  have idx := indices
  blk_point [iblk, V, idx t] <;> rfl

/-- What point `t` leaves is the step of its blocks. -/
theorem outs (y : S1x1x256.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> obtain rfl : y1 = 0 := Subsingleton.elim _ _ <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference51Ideal Cert.Reference51Ideal.Read

variable (x0 : (⟨S8x1x256, .f32⟩ : BufTy).Contents (Elt Ideal)) (x1 x2 x3 old : (⟨S2x1x256, .f32⟩ : BufTy).Contents (Elt Ideal))

/-- The reference's results are the step of the first layer before the other layers. -/
theorem references : val_main_v33 (F := Ideal) x0 old = layer (gradAt x0) old ∧
    val_main_v36 (F := Ideal) x0 x1 x2 x3 old = layer (deltaAt x0 x1 x2 x3) old ∧
    val_main_v39 (F := Ideal) x0 x2 old = layer (firstAt x0 x2) old ∧
    val_main_v42 (F := Ideal) x0 x3 old = layer (secondAt x0 x3) old := by
  rw [← val_main_v33_eq, ← val_main_v36_eq, ← val_main_v39_eq, ← val_main_v42_eq]
  refine ⟨?_, ?_, ?_, ?_⟩ <;> refine concatenate_layer _ _ _ _ _ (fun r k => ?_) (fun d r k => ?_)
  all_goals first | (obtain rfl : r = 0 := Subsingleton.elim _ _; obtain rfl : d = 0 := Subsingleton.elim _ _; pointwise; rfl) | (obtain rfl : r = 0 := Subsingleton.elim _ _; pointwise; simp only [Fin.sum_univ_eight]; rfl)

end plain

/-- The reference's frame. -/
theorem frame_reference : Cert.quiescent_Reference51Ideal := by
  intro m ρ _
  exact (θ_run Cert.Reference51Ideal.defs _ _).mono
    (fun r h => ⟨fun c => (h c).2.2.2.2, sem_eq_zero_of_no_sems (by decide) r.2⟩)
    (Cert.Reference51Ideal.Value.run (F := Ideal) m ρ)

/-- The call's results are the reference's. -/
theorem algebraic : Cert.algebraic_Kernel51Ideal_Reference51Ideal := by
  intro m ρ m' ρ' _ hag
  refine ⟨fun c => (Cert.Kernel51Ideal.Gen.dats m 0 c).arrAt 4 Cert.Kernel51Ideal.cfg0.N, fun c => (Cert.Kernel51Ideal.Gen.dats m 0 c).arrAt 5 Cert.Kernel51Ideal.cfg0.N,
    fun c => (Cert.Kernel51Ideal.Gen.dats m 0 c).arrAt 6 Cert.Kernel51Ideal.cfg0.N, fun c => (Cert.Kernel51Ideal.Gen.dats m 0 c).arrAt 7 Cert.Kernel51Ideal.cfg0.N, ?_, ?_⟩
  · refine (θ_run Cert.Kernel51Ideal.defs _ _).mono (fun r h c => ?_) (Cert.Kernel51Ideal.Value.run_blocks (F := Ideal) m ρ)
    obtain ⟨h4, h5, h6, h7, -, hargs⟩ := h c
    exact ⟨h4, h5, h6, h7, hargs⟩
  · refine (θ_run Cert.Reference51Ideal.defs _ _).mono (fun r h c => ?_) (Cert.Reference51Ideal.Value.run (F := Ideal) m' ρ')
    obtain ⟨h4, h5, h6, h7, hargs⟩ := h c
    obtain ⟨e0, e1, e2, e3, e4, e5, e6, e7⟩ := hag c
    have R := references (m' ((c : Thread Cert.Reference51Ideal.nD Cert.Reference51Ideal.τ).loc Cert.Reference51Ideal.main_arg0))
      (m' ((c : Thread Cert.Reference51Ideal.nD Cert.Reference51Ideal.τ).loc Cert.Reference51Ideal.main_arg1))
      (m' ((c : Thread Cert.Reference51Ideal.nD Cert.Reference51Ideal.τ).loc Cert.Reference51Ideal.main_arg2))
      (m' ((c : Thread Cert.Reference51Ideal.nD Cert.Reference51Ideal.τ).loc Cert.Reference51Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamGmlpNorm

end
-- ==== Proof.AdamGmlpOut.lean ====
module

public import proofs.«01_k».proof.Defs
public import proofs.«01_k».proof.Proof.Gen.Kernel52Ideal.Value
public import proofs.«01_k».proof.Proof.Gen.Reference52Ideal.Run
public import proofs.«01_k».proof.Proof.Gen.Reference52Ideal.Read
public import Idealize.ShloMosaic.Lib.Pointwise
public import Idealize.ShloMosaic.Lib.Pipeline.ValueKit
public import proofs.«01_k».proof.Proof.AdamSpec

/-!
# The AdamW step of the gated block's output projection

The weight has 2 layers of 256 by 1024; the call replaces the first layer of each result and keeps the others.
-/

@[expose] public section

set_option maxRecDepth 16384

noncomputable section

namespace Cert.AdamGmlpOut

open Cert.AdamSpec Idealize.ShloMosaic Idealize.ShloMosaic.TcCoe Idealize.SL.Sem
open Idealize.ShloMosaic.Pipeline (Dat)

section call

open Cert.Kernel52Ideal Cert.Kernel52Ideal.Gen

variable (m : (ℓ : Loc nD τ sig) → Buf (Elt Ideal) ℓ) (c : Dev nD) (t : Fin cfg0.N)

/-- The block indices of the windows. -/
theorem indices : ∀ t : Fin grid0.N, win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] := by decide +kernel

theorem blk0 (d : Fin 8) (r : Fin 256) (k : Fin 1024) : iblk m c 0 t (ix3 d r k) = m ((c : Thread nD τ).loc main_arg0) (ix3 d r k) := by
  have idx := indices
  blk_point [iblk, V, idx t] <;> rfl

theorem blk1 (r : Fin 256) (k : Fin 1024) : iblk m c 1 t (ix3 0 r k) = m ((c : Thread nD τ).loc main_arg1) (ix3 0 r k) := by
  have idx := indices
  blk_point [iblk, V, idx t] <;> rfl

theorem blk2 (r : Fin 256) (k : Fin 1024) : iblk m c 2 t (ix3 0 r k) = m ((c : Thread nD τ).loc main_arg2) (ix3 0 r k) := by
  have idx := indices
  blk_point [iblk, V, idx t] <;> rfl

theorem blk3 (r : Fin 256) (k : Fin 1024) : iblk m c 3 t (ix3 0 r k) = m ((c : Thread nD τ).loc main_arg3) (ix3 0 r k) := by
  have idx := indices
  blk_point [iblk, V, idx t] <;> rfl

/-- What point `t` leaves is the step of its blocks. -/
theorem outs (y : S1x256x1024.Idx) :
    (outsAt0 m c t).1 y = gradA (iblk m c 0 t) y ∧
    (outsAt0 m c t).2.1 y = deltaA (iblk m c 0 t) (iblk m c 1 t) (iblk m c 2 t) (iblk m c 3 t) y ∧
    (outsAt0 m c t).2.2.1 y = firstA (iblk m c 0 t) (iblk m c 2 t) y ∧
    (outsAt0 m c t).2.2.2.1 y = secondA (iblk m c 0 t) (iblk m c 3 t) y := by
  unfold outsAt0
  dsimp only
  generalize iblk m c 0 t = p
  generalize iblk m c 1 t = x
  generalize iblk m c 2 t = f
  generalize iblk m c 3 t = s
  refine ⟨?_, ?_, ?_, ?_⟩ <;> frame_out <;> unfold_payloads <;> idx_vars y <;> pointwise <;> rfl

/-- The call starts from copies of the earlier results. -/
theorem entries : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> (unfold V hostOps0; after_results; rfl)

theorem arr4 : (dats m 0 c).arrAt 4 cfg0.N = layer (gradAt (m ((c : Thread nD τ).loc main_arg0))) (m ((c : Thread nD τ).loc main_arg4)) := by
  have idx := indices
  refine (dats m 0 c).arrAt_eq_of_coversWhere_of_agree 4 _ (fun β => β (0 : Fin _) = 0) (by decide +kernel)
    (fun t hf y => ?_) (fun j hj => ?_)
  · blk_simp
    rw [after0_4]
    refine (outs m c t y).1.trans ((gradA_rows id (blk0 m c t) y).trans (layer_first ?_ ?_ ?_)) <;> blk_simp [idx t] <;> rfl
  · blk_simp [Pipeline.Window.cell_apply] at hj
    exact (congrFun ((A_eq m c 4).trans (entries m c).1) _).trans (layer_kept hj)

theorem arr5 : (dats m 0 c).arrAt 5 cfg0.N = layer (deltaAt (m ((c : Thread nD τ).loc main_arg0)) (m ((c : Thread nD τ).loc main_arg1)) (m ((c : Thread nD τ).loc main_arg2)) (m ((c : Thread nD τ).loc main_arg3))) (m ((c : Thread nD τ).loc main_arg5)) := by
  have idx := indices
  refine (dats m 0 c).arrAt_eq_of_coversWhere_of_agree 5 _ (fun β => β (0 : Fin _) = 0) (by decide +kernel)
    (fun t hf y => ?_) (fun j hj => ?_)
  · blk_simp
    rw [after0_5]
    refine (outs m c t y).2.1.trans ((deltaA_rows id (blk0 m c t) (blk1 m c t) (blk2 m c t) (blk3 m c t) y).trans (layer_first ?_ ?_ ?_)) <;> blk_simp [idx t] <;> rfl
  · blk_simp [Pipeline.Window.cell_apply] at hj
    exact (congrFun ((A_eq m c 5).trans (entries m c).2.1) _).trans (layer_kept hj)

theorem arr6 : (dats m 0 c).arrAt 6 cfg0.N = layer (firstAt (m ((c : Thread nD τ).loc main_arg0)) (m ((c : Thread nD τ).loc main_arg2))) (m ((c : Thread nD τ).loc main_arg6)) := by
  have idx := indices
  refine (dats m 0 c).arrAt_eq_of_coversWhere_of_agree 6 _ (fun β => β (0 : Fin _) = 0) (by decide +kernel)
    (fun t hf y => ?_) (fun j hj => ?_)
  · blk_simp
    rw [after0_6]
    refine (outs m c t y).2.2.1.trans ((firstA_rows id (blk0 m c t) (blk2 m c t) y).trans (layer_first ?_ ?_ ?_)) <;> blk_simp [idx t] <;> rfl
  · blk_simp [Pipeline.Window.cell_apply] at hj
    exact (congrFun ((A_eq m c 6).trans (entries m c).2.2.1) _).trans (layer_kept hj)

theorem arr7 : (dats m 0 c).arrAt 7 cfg0.N = layer (secondAt (m ((c : Thread nD τ).loc main_arg0)) (m ((c : Thread nD τ).loc main_arg3))) (m ((c : Thread nD τ).loc main_arg7)) := by
  have idx := indices
  refine (dats m 0 c).arrAt_eq_of_coversWhere_of_agree 7 _ (fun β => β (0 : Fin _) = 0) (by decide +kernel)
    (fun t hf y => ?_) (fun j hj => ?_)
  · blk_simp
    rw [after0_7]
    refine (outs m c t y).2.2.2.trans ((secondA_rows id (blk0 m c t) (blk3 m c t) y).trans (layer_first ?_ ?_ ?_)) <;> blk_simp [idx t] <;> rfl
  · blk_simp [Pipeline.Window.cell_apply] at hj
    exact (congrFun ((A_eq m c 7).trans (entries m c).2.2.2) _).trans (layer_kept hj)

end call

section plain

open Cert.Reference52Ideal Cert.Reference52Ideal.Read

variable (x0 : (⟨S8x256x1024, .bf16⟩ : BufTy).Contents (Elt Ideal)) (x1 x2 x3 old : (⟨S2x256x1024, .f32⟩ : BufTy).Contents (Elt Ideal))

/-- The reference's results are the step of the first layer before the other layers. -/
theorem references : val_main_v34 (F := Ideal) x0 old = layer (gradAt x0) old ∧
    val_main_v37 (F := Ideal) x0 x1 x2 x3 old = layer (deltaAt x0 x1 x2 x3) old ∧
    val_main_v40 (F := Ideal) x0 x2 old = layer (firstAt x0 x2) old ∧
    val_main_v43 (F := Ideal) x0 x3 old = layer (secondAt x0 x3) old := by
  rw [← val_main_v34_eq, ← val_main_v37_eq, ← val_main_v40_eq, ← val_main_v43_eq]
  refine ⟨?_, ?_, ?_, ?_⟩ <;> refine concatenate_layer _ _ _ _ _ (fun r k => ?_) (fun d r k => ?_)
  all_goals first | (obtain rfl : d = 0 := Subsingleton.elim _ _; pointwise; rfl) | (pointwise; simp only [Fin.sum_univ_eight]; rfl)

end plain

/-- The reference's frame. -/
theorem frame_reference : Cert.quiescent_Reference52Ideal := by
  intro m ρ _
  exact (θ_run Cert.Reference52Ideal.defs _ _).mono
    (fun r h => ⟨fun c => (h c).2.2.2.2, sem_eq_zero_of_no_sems (by decide) r.2⟩)
    (Cert.Reference52Ideal.Value.run (F := Ideal) m ρ)

/-- The call's results are the reference's. -/
theorem algebraic : Cert.algebraic_Kernel52Ideal_Reference52Ideal := by
  intro m ρ m' ρ' _ hag
  refine ⟨fun c => (Cert.Kernel52Ideal.Gen.dats m 0 c).arrAt 4 Cert.Kernel52Ideal.cfg0.N, fun c => (Cert.Kernel52Ideal.Gen.dats m 0 c).arrAt 5 Cert.Kernel52Ideal.cfg0.N,
    fun c => (Cert.Kernel52Ideal.Gen.dats m 0 c).arrAt 6 Cert.Kernel52Ideal.cfg0.N, fun c => (Cert.Kernel52Ideal.Gen.dats m 0 c).arrAt 7 Cert.Kernel52Ideal.cfg0.N, ?_, ?_⟩
  · refine (θ_run Cert.Kernel52Ideal.defs _ _).mono (fun r h c => ?_) (Cert.Kernel52Ideal.Value.run_blocks (F := Ideal) m ρ)
    obtain ⟨h4, h5, h6, h7, -, hargs⟩ := h c
    exact ⟨h4, h5, h6, h7, hargs⟩
  · refine (θ_run Cert.Reference52Ideal.defs _ _).mono (fun r h c => ?_) (Cert.Reference52Ideal.Value.run (F := Ideal) m' ρ')
    obtain ⟨h4, h5, h6, h7, hargs⟩ := h c
    obtain ⟨e0, e1, e2, e3, e4, e5, e6, e7⟩ := hag c
    have R := references (m' ((c : Thread Cert.Reference52Ideal.nD Cert.Reference52Ideal.τ).loc Cert.Reference52Ideal.main_arg0))
      (m' ((c : Thread Cert.Reference52Ideal.nD Cert.Reference52Ideal.τ).loc Cert.Reference52Ideal.main_arg1))
      (m' ((c : Thread Cert.Reference52Ideal.nD Cert.Reference52Ideal.τ).loc Cert.Reference52Ideal.main_arg2))
      (m' ((c : Thread Cert.Reference52Ideal.nD Cert.Reference52Ideal.τ).loc Cert.Reference52Ideal.main_arg3))
    refine ⟨h4.trans ((R _).1.trans ?_), h5.trans ((R _).2.1.trans ?_), h6.trans ((R _).2.2.1.trans ?_), h7.trans ((R _).2.2.2.trans ?_), hargs⟩
    · rw [e0, e4]
      exact (arr4 m c).symm
    · rw [e0, e1, e2, e3, e5]
      exact (arr5 m c).symm
    · rw [e0, e2, e6]
      exact (arr6 m c).symm
    · rw [e0, e3, e7]
      exact (arr7 m c).symm

end Cert.AdamGmlpOut

end
-- ==== Proof.RopeGain.lean ====
module

public import proofs.«01_k».proof.Defs
public import proofs.«01_k».proof.Proof.Gen.Kernel53Ideal.Value
public import proofs.«01_k».proof.Proof.Gen.Reference53Ideal.Run
public import proofs.«01_k».proof.Proof.Gen.Reference53Ideal.Read
public import Idealize.ShloMosaic.Lib.Pointwise
public import Idealize.ShloMosaic.Lib.Pipeline.ValueKit
public import proofs.«01_k».proof.Proof.NopeBack

/-!
# Backward to the gains of the channels that rotate

The last 64 channels of a head's queries, and the 64 channels of the one rotary key that the heads share, are RMS-normalised and
rotated. This is the gradient of their two gains. The kernel rotates by a product with a matrix of zeros, ones and minus ones; the
reference swaps the halves of the channels.
-/

@[expose] public section

set_option maxRecDepth 16384

noncomputable section

namespace Cert.RopeGain

open Cert.MlaLatentsBack Cert.NopeBack Idealize.ShloMosaic Idealize.ShloMosaic.TcCoe Idealize.SL.Sem
open Idealize.ShloMosaic.Pipeline (Dat)

/-- The number of channels that rotate. -/
abbrev turning : EReal := Ideal.ofBits .f32 0x42800000#32

/-- The channels that rotate: 64 of them, from channel `o` on. -/
def from_ {n : Nat} (o : Nat) (h : o + 64 ≤ n) (x : Fin n → EReal) (j : Fin 64) : EReal :=
  x ⟨o + j.val, by have := j.isLt; omega⟩

/-- A gradient `d` back through the rotation, which is a product with `rm`. -/
def turnBy (d c s : Fin 64 → EReal) (rm : Fin 64 → Fin 64 → EReal) (k : Fin 64) : EReal :=
  ∑ j, d j * s j * rm k j + d k * c k

/-- What a head's token adds to its gain's gradient. -/
def termBy (x d c s : Fin 64 → EReal) (rm : Fin 64 → Fin 64 → EReal) (k : Fin 64) : EReal :=
  x k * inv turning x * turnBy d c s rm k

/-- A gradient `d` back through the rotation, half by half. -/
def turn (d c s : Fin 64 → EReal) (k : Fin 64) : EReal :=
  if h : k.val < 32 then d ⟨32 + k.val, by omega⟩ * s ⟨32 + k.val, by omega⟩ + d k * c k
  else d ⟨32 + (k.val - 32), by omega⟩ * c ⟨32 + (k.val - 32), by omega⟩
    + -d ⟨k.val - 32, by omega⟩ * s ⟨k.val - 32, by omega⟩

/-- What a head's token adds to its gain's gradient, half by half. -/
def term (x d c s : Fin 64 → EReal) (k : Fin 64) : EReal := x k * inv turning x * turn d c s k

/-- The rotation's matrix. -/
def matrix (k j : Fin 64) : EReal := if j.val = k.val + 32 then 1 else if k.val = j.val + 32 then -1 else 0

/-- The product with the rotation's matrix swaps the halves. -/
theorem turnBy_matrix (d c s : Fin 64 → EReal) (k : Fin 64) : turnBy d c s matrix k = turn d c s k := by
  have hk := k.isLt
  unfold turnBy turn
  by_cases h : k.val < 32
  · rw [dif_pos h, Finset.sum_eq_single (⟨32 + k.val, by omega⟩ : Fin 64)]
    · rw [show matrix k ⟨32 + k.val, by omega⟩ = 1 from if_pos (add_comm _ _), mul_one]
    · intro j _ hj
      have e : j.val ≠ k.val + 32 := fun e => hj (Fin.ext (show j.val = 32 + k.val by omega))
      rw [show matrix k j = 0 from (if_neg e).trans (if_neg (by omega)), mul_zero]
    · exact fun hn => absurd (Finset.mem_univ _) hn
  · rw [dif_neg h, add_comm, Finset.sum_eq_single (⟨k.val - 32, by omega⟩ : Fin 64)]
    · rw [show matrix k ⟨k.val - 32, by omega⟩ = -1 from
        (if_neg (show ¬k.val - 32 = k.val + 32 by omega)).trans (if_pos (show k.val = k.val - 32 + 32 by omega)),
        mul_neg, mul_one, neg_mul, show (⟨32 + (k.val - 32), by omega⟩ : Fin 64) = k from Fin.ext (by show 32 + (k.val - 32) = k.val; omega)]
    · intro j _ hj
      have e : ¬k.val = j.val + 32 := fun e => hj (Fin.ext (show j.val = k.val - 32 by omega))
      have := j.isLt
      rw [show matrix k j = 0 from (if_neg (by omega)).trans (if_neg e), mul_zero]
    · exact fun hn => absurd (Finset.mem_univ _) hn

theorem termBy_eq {x x' d d' c c' s s' : Fin 64 → EReal} {rm : Fin 64 → Fin 64 → EReal} (k : Fin 64)
    (h0 : x = x') (h1 : d = d') (h2 : c = c') (h3 : s = s') (h4 : rm = matrix) : termBy x d c s rm k = term x' d' c' s' k := by
  rw [h0, h1, h2, h3, h4]
  exact congrArg _ (turnBy_matrix ..)

theorem from_congr {n : Nat} (o : Nat) (h : o + 64 ≤ n) {x x' : Fin n → EReal} (e : x = x') : from_ o h x = from_ o h x' := by
  rw [e]

/-- The query gain's gradient as an array. -/
def gainQ (q dq : (⟨3, ![8, 4096, 192]⟩ : Shape).Idx → EReal) (c s : (⟨2, ![4096, 64]⟩ : Shape).Idx → EReal) :
    (⟨2, ![1, 64]⟩ : Shape).Idx → EReal :=
  fun y => ∑ a : Fin 8, ∑ t : Fin 4096,
    term (from_ 128 (by decide) (tok q a t)) (from_ 128 (by decide) (tok dq a t)) (at_ c t) (at_ s t) (y 1)

/-- The key gain's gradient as an array. -/
def gainK (lat : (⟨2, ![4096, 704]⟩ : Shape).Idx → EReal) (dk : (⟨3, ![8, 4096, 192]⟩ : Shape).Idx → EReal)
    (c s : (⟨2, ![4096, 64]⟩ : Shape).Idx → EReal) : (⟨2, ![1, 64]⟩ : Shape).Idx → EReal :=
  fun y => ∑ a : Fin 8, ∑ t : Fin 4096,
    term (from_ 640 (by decide) (at_ lat t)) (from_ 128 (by decide) (tok dk a t)) (at_ c t) (at_ s t) (y 1)

section call

open Cert.Kernel53Ideal Cert.Kernel53Ideal.Gen

section block

variable (c : Dev nD) (i : grid0.Coords)
  (a1 : Memref sig .tc .vmem S1x1024x192 .f32) (h1 : a1.IsWhole)
  (a2 : Memref sig .tc .vmem S1x1024x256 .f32) (h2 : a2.IsWhole)
  (a3 : Memref sig .tc .vmem S1024x704 .f32) (h3 : a3.IsWhole)
  (a4 : Memref sig .tc .vmem S1024x64 .f32) (h4 : a4.IsWhole)
  (a5 : Memref sig .tc .vmem S1024x64 .f32) (h5 : a5.IsWhole)
  (a6 : Memref sig .tc .vmem S64x64 .f32) (h6 : a6.IsWhole)
  (a7 : Memref sig .tc .vmem S1x128 .f32) (h7 : a7.IsWhole)
  (a8 : Memref sig .tc .vmem S1x64 .f32) (h8 : a8.IsWhole)
  (a9 : Memref sig .tc .vmem S1x128 .f32) (h9 : a9.IsWhole)
  (a10 : Memref sig .tc .vmem S1x64 .f32) (h10 : a10.IsWhole)
  (a11 : Memref sig .tc .vmem S1x1024x192 .f32) (h11 : a11.IsWhole)
  (a12 : Memref sig .tc .vmem S1x1024x192 .f32) (h12 : a12.IsWhole)
  (a13 : Memref sig .tc .vmem S1x1024x128 .f32) (h13 : a13.IsWhole)
  (a14 : Memref sig .tc .vmem S1x1024x192 .bf16) (h14 : a14.IsWhole)
  (a15 : Memref sig .tc .vmem S1x1024x256 .bf16) (h15 : a15.IsWhole)
  (a16 : Memref sig .tc .vmem S1024x64 .f32) (h16 : a16.IsWhole)
  (a17 : Memref sig .tc .vmem S1x128 .f32) (h17 : a17.IsWhole)
  (a18 : Memref sig .tc .vmem S1x64 .f32) (h18 : a18.IsWhole)
  (a19 : Memref sig .tc .vmem S1x128 .f32) (h19 : a19.IsWhole)
  (a20 : Memref sig .tc .vmem S1x64 .f32) (h20 : a20.IsWhole)
  (q dq dk : Vec Ideal S1x1024x192 .f32) (kv : Vec Ideal S1x1024x256 .f32) (lat : Vec Ideal S1024x704 .f32)
  (cs sn okr : Vec Ideal S1024x64 .f32) (rm : Vec Ideal S64x64 .f32) (gq gk og1 og3 : Vec Ideal S1x128 .f32)
  (gqr gkr og2 og4 : Vec Ideal S1x64 .f32) (dv : Vec Ideal S1x1024x128 .f32)

/-- What a point adds to the query gain's gradient. -/
def addQ (q dq : Vec Ideal S1x1024x192 .f32) (cs sn : Vec Ideal S1024x64 .f32) (rm : Vec Ideal S64x64 .f32) (k : Fin 64) : EReal :=
  ∑ r : Fin 1024, termBy (from_ 128 (by decide) (tok q 0 r)) (from_ 128 (by decide) (tok dq 0 r)) (at_ cs r) (at_ sn r) (at_ rm) k

/-- What a point adds to the key gain's gradient. -/
def addK (lat : Vec Ideal S1024x704 .f32) (dk : Vec Ideal S1x1024x192 .f32) (cs sn : Vec Ideal S1024x64 .f32)
    (rm : Vec Ideal S64x64 .f32) (k : Fin 64) : EReal :=
  ∑ r : Fin 1024, termBy (from_ 640 (by decide) (at_ lat r)) (from_ 128 (by decide) (tok dk 0 r)) (at_ cs r) (at_ sn r) (at_ rm) k

/-- At the first point, the query gain's gradient. -/
theorem gq_A (hc0 : cond0_0 i) (hc1 : cond0_1 i) (y : S1x64.Idx) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv y
      = 0 + addQ q dq cs sn rm (y 1) := by
  rw [zero_add]
  frame_out
  unfold_payloads
  idx_vars y
  pointwise
  rfl

/-- At the first point, the key gain's gradient. -/
theorem gk_A (hc0 : cond0_0 i) (hc1 : cond0_1 i) (y : S1x64.Idx) :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv y
      = 0 + addK lat dk cs sn rm (y 1) := by
  rw [zero_add]
  frame_out
  unfold_payloads
  idx_vars y
  pointwise
  rfl

/-- At a head after the first, the query gain's gradient. -/
theorem gq_B (hc0 : ¬cond0_0 i) (hc1 : ¬cond0_1 i) (y : S1x64.Idx) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv okr og1 og2 og3 og4 y
      = og2 y + addQ q dq cs sn rm (y 1) := by
  frame_out
  unfold_payloads
  idx_vars y
  pointwise
  rfl

/-- At the first head of a later block of tokens, the query gain's gradient. -/
theorem gq_C (hc0 : cond0_0 i) (hc1 : ¬cond0_1 i) (y : S1x64.Idx) :
    out0_C_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv og1 og2 og3 og4 y
      = og2 y + addQ q dq cs sn rm (y 1) := by
  frame_out
  unfold_payloads
  idx_vars y
  pointwise
  rfl

/-- At a head after the first, the key gain's gradient. -/
theorem gk_B (hc0 : ¬cond0_0 i) (hc1 : ¬cond0_1 i) (y : S1x64.Idx) :
    out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv okr og1 og2 og3 og4 y
      = og4 y + addK lat dk cs sn rm (y 1) := by
  frame_out
  unfold_payloads
  idx_vars y
  pointwise
  rfl

/-- At the first head of a later block of tokens, the key gain's gradient. -/
theorem gk_C (hc0 : cond0_0 i) (hc1 : ¬cond0_1 i) (y : S1x64.Idx) :
    out0_C_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 q kv lat cs sn rm gq gqr gk gkr dq dk dv og1 og2 og3 og4 y
      = og4 y + addK lat dk cs sn rm (y 1) := by
  frame_out
  unfold_payloads
  idx_vars y
  pointwise
  rfl

end block

/-- The bits of the rotation's matrix. -/
theorem lit_entry : ∀ k j : Fin 64, lit0 (S64x64.rowMajor (ix2 k j)) =
    if j.val = k.val + 32 then 0x3F800000#32 else if k.val = j.val + 32 then 0xBF800000#32 else 0#32 := by
  decide +kernel

/-- These bits are minus one. -/
theorem ofBits_minus_one : Ideal.ofBits .f32 0xBF800000#32 = (-(1 : ℝ) : EReal) := by
  simp [Ideal.ofBits, Ideal.ieee, -EReal.coe_mul, -EReal.coe_neg]; norm_num

theorem lit_matrix (k j : Fin 64) : Ideal.ofBits .f32 (lit0 (S64x64.rowMajor (ix2 k j))) = matrix k j := by
  rw [lit_entry]
  unfold matrix
  split
  · exact Ideal.ofBits_one_f32
  · split
    · exact ofBits_minus_one.trans (by simp)
    · exact Ideal.ofBits_zero_f32

variable (m : (ℓ : Loc nD τ sig) → Buf (Elt Ideal) ℓ)

/-- The block indices of the windows. -/
theorem indices : ∀ t : Fin grid0.N, win0_0.index t = ![t.val % 8, t.val / 8, 0] ∧
    win0_2.index t = ![t.val / 8, 0] ∧ win0_3.index t = ![t.val / 8, 0] ∧ win0_4.index t = ![t.val / 8, 0] ∧
    win0_5.index t = ![0, 0] ∧ win0_10.index t = ![t.val % 8, t.val / 8, 0] ∧
    win0_11.index t = ![t.val % 8, t.val / 8, 0] ∧ win0_17.index t = ![0, 0] ∧ win0_19.index t = ![0, 0] := by
  decide +kernel

theorem lt32 (t : Fin cfg0.N) : t.val < 32 := by have h := t.isLt; have e : cfg0.N = 32 := N_0; omega

/-- The head that point `t` works on. -/
def headOf (t : Fin cfg0.N) : Fin 8 := ⟨t.val % 8, Nat.mod_lt _ (by decide)⟩
/-- Row `r` of the tokens that point `t` works on. -/
def tokRow (t : Fin cfg0.N) (r : Fin 1024) : Fin 4096 :=
  ⟨t.val / 8 * 1024 + r.val, by have := r.isLt; have := lt32 t; omega⟩

/-- What the host writes is the rotation's matrix. -/
theorem entry5 (c : Dev nD) (k j : Fin 64) : (V m c main_cst : S64x64.Idx → EReal) (ix2 k j) = matrix k j := by
  refine Eq.trans ?_ (lit_matrix k j)
  unfold V hostOps0
  after_results
  rfl

theorem blk5 (c : Dev nD) (t : Fin cfg0.N) : at_ (iblk m c 5 t) = matrix := by
  have idx := indices
  funext k j
  refine Eq.trans ?_ (entry5 m c k j)
  unfold at_
  blk_point [iblk, idx t] <;> rfl

theorem blk0 (c : Dev nD) (t : Fin cfg0.N) (r : Fin 1024) :
    tok (iblk m c 0 t) 0 r = tok (m ((c : Thread nD τ).loc main_arg0)) (headOf t) (tokRow t r) := by
  have idx := indices
  funext j
  unfold tok
  blk_point [iblk, V, idx t] <;> rfl

theorem blk10 (c : Dev nD) (t : Fin cfg0.N) (r : Fin 1024) :
    tok (iblk m c 10 t) 0 r = tok (m ((c : Thread nD τ).loc main_arg9)) (headOf t) (tokRow t r) := by
  have idx := indices
  funext j
  unfold tok
  blk_point [iblk, V, idx t] <;> rfl

theorem blk11 (c : Dev nD) (t : Fin cfg0.N) (r : Fin 1024) :
    tok (iblk m c 11 t) 0 r = tok (m ((c : Thread nD τ).loc main_arg10)) (headOf t) (tokRow t r) := by
  have idx := indices
  funext j
  unfold tok
  blk_point [iblk, V, idx t] <;> rfl

theorem blk2 (c : Dev nD) (t : Fin cfg0.N) (r : Fin 1024) :
    at_ (iblk m c 2 t) r = at_ (m ((c : Thread nD τ).loc main_arg2)) (tokRow t r) := by
  have idx := indices
  funext j
  unfold at_
  blk_point [iblk, V, idx t] <;> rfl

theorem blk3 (c : Dev nD) (t : Fin cfg0.N) (r : Fin 1024) :
    at_ (iblk m c 3 t) r = at_ (m ((c : Thread nD τ).loc main_arg3)) (tokRow t r) := by
  have idx := indices
  funext j
  unfold at_
  blk_point [iblk, V, idx t] <;> rfl

theorem blk4 (c : Dev nD) (t : Fin cfg0.N) (r : Fin 1024) :
    at_ (iblk m c 4 t) r = at_ (m ((c : Thread nD τ).loc main_arg4)) (tokRow t r) := by
  have idx := indices
  funext j
  unfold at_
  blk_point [iblk, V, idx t] <;> rfl

/-- What head `a`'s token `t` adds to the query gain's gradient. -/
abbrev gqOf (c : Dev nD) (k : Fin 64) (a : Fin 8) (t : Fin 4096) : EReal :=
  term (from_ 128 (by decide) (tok (m ((c : Thread nD τ).loc main_arg0) : S8x4096x192.Idx → EReal) a t))
    (from_ 128 (by decide) (tok (m ((c : Thread nD τ).loc main_arg9) : S8x4096x192.Idx → EReal) a t))
    (at_ (m ((c : Thread nD τ).loc main_arg3) : S4096x64.Idx → EReal) t)
    (at_ (m ((c : Thread nD τ).loc main_arg4) : S4096x64.Idx → EReal) t) k
/-- What head `a`'s token `t` adds to the key gain's gradient. -/
abbrev gkOf (c : Dev nD) (k : Fin 64) (a : Fin 8) (t : Fin 4096) : EReal :=
  term (from_ 640 (by decide) (at_ (m ((c : Thread nD τ).loc main_arg2) : S4096x704.Idx → EReal) t))
    (from_ 128 (by decide) (tok (m ((c : Thread nD τ).loc main_arg10) : S8x4096x192.Idx → EReal) a t))
    (at_ (m ((c : Thread nD τ).loc main_arg3) : S4096x64.Idx → EReal) t)
    (at_ (m ((c : Thread nD τ).loc main_arg4) : S4096x64.Idx → EReal) t) k

theorem addQ_eq (c : Dev nD) (t : Fin cfg0.N) (k : Fin 64) :
    addQ (iblk m c 0 t) (iblk m c 10 t) (iblk m c 3 t) (iblk m c 4 t) (iblk m c 5 t) k
      = ∑ r : Fin 1024, gqOf m c k (headOf t) (tokRow t r) :=
  Finset.sum_congr rfl fun r _ => termBy_eq k (from_congr _ _ (blk0 m c t r)) (from_congr _ _ (blk10 m c t r))
    (blk3 m c t r) (blk4 m c t r) (blk5 m c t)

theorem addK_eq (c : Dev nD) (t : Fin cfg0.N) (k : Fin 64) :
    addK (iblk m c 2 t) (iblk m c 11 t) (iblk m c 3 t) (iblk m c 4 t) (iblk m c 5 t) k
      = ∑ r : Fin 1024, gkOf m c k (headOf t) (tokRow t r) :=
  Finset.sum_congr rfl fun r _ => termBy_eq k (from_congr _ _ (blk2 m c t r)) (from_congr _ _ (blk11 m c t r))
    (blk3 m c t r) (blk4 m c t r) (blk5 m c t)

/-- A gain's gradient that starts at the first point and grows at each later one is the sum over the heads and the tokens. -/
theorem gain_of_points (o : ∀ n, n < cfg0.N → S1x64.Idx → EReal) (f : Fin 64 → Fin 8 → Fin 4096 → EReal)
    (first : ∀ (t : Fin cfg0.N), t.val % 32 = 0 → ∀ y : S1x64.Idx,
      o t.val t.isLt y = 0 + ∑ r : Fin 1024, f (y 1) (headOf t) (tokRow t r))
    (later : ∀ (t : Fin cfg0.N), ¬t.val % 32 = 0 → ∀ y : S1x64.Idx,
      o t.val t.isLt y = o (t.val - 1) (Nat.lt_of_le_of_lt (Nat.sub_le _ _) t.isLt) y
        + ∑ r : Fin 1024, f (y 1) (headOf t) (tokRow t r))
    (t : Fin cfg0.N) (ht : t.val % 32 = 32 - 1) (y : S1x64.Idx) :
    o t.val t.isLt y = ∑ a : Fin 8, ∑ l : Fin 4096, f (y 1) a l := by
  have e := Pipeline.eq_sum_fin_of_reset_step_apply_of_flush o 32 (fun _ => (0 : EReal))
    (fun t y => ∑ r : Fin 1024, f (y 1) (headOf t) (tokRow t r)) first later t ht y
  refine e.trans ((zero_add _).trans ?_)
  have := lt32 t
  refine sum_points (f (y 1)) _ fun l => ?_
  have := l.isLt
  exact Finset.sum_congr rfl fun r _ => congrArg₂ (f (y 1))
    (Fin.ext (by show (32 * (t.val / 32) + l.val) % 8 = l.val % 8; omega))
    (Fin.ext (by show (32 * (t.val / 32) + l.val) / 8 * 1024 + r.val = l.val / 8 * 1024 + r.val; omega))

theorem outs17 (c : Dev nD) (t : Fin cfg0.N) (ht : t.val % 32 = 32 - 1) (y : S1x64.Idx) :
    (outsAt0 m c t.val t.isLt).2.2.2.2.1 y = ∑ a : Fin 8, ∑ l : Fin 4096, gqOf m c (y 1) a l := by
  refine gain_of_points (fun n h => (outsAt0 m c n h).2.2.2.2.1) (gqOf m c) (fun t h1 y => ?_) (fun t h1 y => ?_) t ht y
  · rw [outsAt0_A m c t (by omega) h1]
    dsimp only
    rw [gq_A]
    exact congrArg _ (addQ_eq ..)
  · by_cases h0 : t.val % 8 = 0
    · rw [outsAt0_C m c t h0 h1]
      dsimp only
      rw [gq_C]
      exact congrArg _ (addQ_eq ..)
    · rw [outsAt0_B m c t h0 h1]
      dsimp only
      rw [gq_B]
      exact congrArg _ (addQ_eq ..)

/-- The query gain's gradient the call leaves, as an array. -/
abbrev wholeQ (c : Dev nD) : (⟨2, ![1, 64]⟩ : Shape).Idx → EReal :=
  gainQ (m ((c : Thread nD τ).loc main_arg0)) (m ((c : Thread nD τ).loc main_arg9)) (m ((c : Thread nD τ).loc main_arg3)) (m ((c : Thread nD τ).loc main_arg4))

theorem arr17 (c : Dev nD) : (dats m 0 c).arrAt 17 cfg0.N = wholeQ m c := by
  have idx := indices
  refine (dats m 0 c).arrAt_eq_of_covers 17 _ (by decide +kernel) fun t hf y => ?_
  blk_simp
  rw [after0_17]
  idx_bounds y
  refine (outs17 m c t ((flush0_17 t).mp hf) y).trans
    (congrArg (fun k => ∑ a : Fin 8, ∑ l : Fin 4096, gqOf m c k a l) (Fin.ext ?_)) <;> blk_simp [idx t]

theorem outs19 (c : Dev nD) (t : Fin cfg0.N) (ht : t.val % 32 = 32 - 1) (y : S1x64.Idx) :
    (outsAt0 m c t.val t.isLt).2.2.2.2.2.2 y = ∑ a : Fin 8, ∑ l : Fin 4096, gkOf m c (y 1) a l := by
  refine gain_of_points (fun n h => (outsAt0 m c n h).2.2.2.2.2.2) (gkOf m c) (fun t h1 y => ?_) (fun t h1 y => ?_) t ht y
  · rw [outsAt0_A m c t (by omega) h1]
    dsimp only
    rw [gk_A]
    exact congrArg _ (addK_eq ..)
  · by_cases h0 : t.val % 8 = 0
    · rw [outsAt0_C m c t h0 h1]
      dsimp only
      rw [gk_C]
      exact congrArg _ (addK_eq ..)
    · rw [outsAt0_B m c t h0 h1]
      dsimp only
      rw [gk_B]
      exact congrArg _ (addK_eq ..)

/-- The key gain's gradient the call leaves, as an array. -/
abbrev wholeK (c : Dev nD) : (⟨2, ![1, 64]⟩ : Shape).Idx → EReal :=
  gainK (m ((c : Thread nD τ).loc main_arg2)) (m ((c : Thread nD τ).loc main_arg10)) (m ((c : Thread nD τ).loc main_arg3)) (m ((c : Thread nD τ).loc main_arg4))

theorem arr19 (c : Dev nD) : (dats m 0 c).arrAt 19 cfg0.N = wholeK m c := by
  have idx := indices
  refine (dats m 0 c).arrAt_eq_of_covers 19 _ (by decide +kernel) fun t hf y => ?_
  blk_simp
  rw [after0_19]
  idx_bounds y
  refine (outs19 m c t ((flush0_19 t).mp hf) y).trans
    (congrArg (fun k => ∑ a : Fin 8, ∑ l : Fin 4096, gkOf m c k a l) (Fin.ext ?_)) <;> blk_simp [idx t]

end call

section plain

open Cert.Reference53Ideal Cert.Reference53Ideal.Read Cert.Reference53Ideal.Value

theorem reference_q (x0 x9 : (⟨S8x4096x192, .f32⟩ : BufTy).Contents (Elt Ideal))
    (x3 x4 : (⟨S4096x64, .f32⟩ : BufTy).Contents (Elt Ideal)) (y : S1x64.Idx) :
    val_main_v96 (F := Ideal) x0 x3 x4 x9 y = gainQ x0 x9 x3 x4 y := by
  rw [← val_main_v96_eq]
  idx_vars y
  pointwise
  rw [reduce01]
  pointwise
  simp only [reduce01, zero_add, Finset.univ_unique, Finset.sum_singleton]
  pointwise
  rfl

theorem reference_k (x2 : (⟨S4096x704, .f32⟩ : BufTy).Contents (Elt Ideal))
    (x3 x4 : (⟨S4096x64, .f32⟩ : BufTy).Contents (Elt Ideal)) (x10 : (⟨S8x4096x192, .f32⟩ : BufTy).Contents (Elt Ideal))
    (y : S1x64.Idx) : val_main_v115 (F := Ideal) x2 x3 x4 x10 y = gainK x2 x10 x3 x4 y := by
  rw [← val_main_v115_eq]
  idx_vars y
  pointwise
  rw [reduce01]
  pointwise
  simp only [reduce01, zero_add, Finset.univ_unique, Finset.sum_singleton]
  pointwise
  rfl

end plain

/-- The reference's frame. -/
theorem frame_reference : Cert.quiescent_Reference53Ideal := by
  intro m ρ _
  exact (θ_run Cert.Reference53Ideal.defs _ _).mono
    (fun r h => ⟨fun c => (h c).2.2, sem_eq_zero_of_no_sems (by decide) r.2⟩)
    (Cert.Reference53Ideal.Value.run (F := Ideal) m ρ)

/-- The call's results are the reference's. -/
theorem algebraic : Cert.algebraic_Kernel53Ideal_Reference53Ideal := by
  intro m ρ m' ρ' _ hag
  refine ⟨wholeQ m, wholeK m, ?_, ?_⟩
  · refine (θ_run Cert.Kernel53Ideal.defs _ _).mono (fun r h c => ?_) (Cert.Kernel53Ideal.Value.run_blocks (F := Ideal) m ρ)
    obtain ⟨-, -, -, -, h17, -, h19, hargs⟩ := h c
    exact ⟨h17.trans (arr17 m c), h19.trans (arr19 m c), hargs⟩
  · refine (θ_run Cert.Reference53Ideal.defs _ _).mono (fun r h c => ?_) (Cert.Reference53Ideal.Value.run (F := Ideal) m' ρ')
    obtain ⟨h17, h19, hargs⟩ := h c
    obtain ⟨e0, e1, e2, e3, e4, e5, e6, e7, e8, e9, e10, e11⟩ := hag c
    refine ⟨h17.trans ?_, h19.trans ?_, hargs⟩
    · show _ = gainQ _ _ _ _
      rw [← e0, ← e9, ← e3, ← e4]
      exact funext (reference_q _ _ _ _)
    · show _ = gainK _ _ _ _
      rw [← e2, ← e10, ← e3, ← e4]
      exact funext (reference_k _ _ _ _)

end Cert.RopeGain

end
-- ==== Proof.RopeFwd.lean ====
module

public import proofs.«01_k».proof.Defs
public import proofs.«01_k».proof.Proof.Gen.Kernel54Ideal.Value
public import proofs.«01_k».proof.Proof.Gen.Reference54Ideal.Run
public import proofs.«01_k».proof.Proof.Gen.Reference54Ideal.Read
public import Idealize.ShloMosaic.Lib.Pointwise
public import Idealize.ShloMosaic.Lib.Pipeline.ValueKit
public import proofs.«01_k».proof.Proof.RopeGain

/-!
# The norms and the rotation of the queries and keys

A head's queries, and its keys, are 128 channels that are RMS-normalised, then 64 that are RMS-normalised and rotated. The keys'
64 rotated channels are the same for all heads. The values pass.
-/

@[expose] public section

set_option maxRecDepth 16384

noncomputable section

namespace Cert.RopeFwd

open Cert.MlaLatentsBack (inv at_ gain)
open Cert.NopeBack (tok lo width)
open Cert.RopeGain (turning from_ from_congr matrix)
open Idealize.ShloMosaic Idealize.ShloMosaic.TcCoe Idealize.SL.Sem
open Idealize.ShloMosaic.Pipeline (Dat)
open Idealize.ShloMosaic.Tactic

/-- Normalised channels, times the gain. -/
def normed {n : Nat} (w : EReal) (x g : Fin n → EReal) (k : Fin n) : EReal := x k * inv w x * g k

/-- The rotation, as a product with `rm`. -/
def spinBy (x c s : Fin 64 → EReal) (rm : Fin 64 → Fin 64 → EReal) (k : Fin 64) : EReal :=
  x k * c k + (∑ j, x j * rm j k) * s k

/-- The rotation, half by half. -/
def spin (x c s : Fin 64 → EReal) (k : Fin 64) : EReal :=
  if h : k.val < 32 then x k * c k - x ⟨32 + k.val, by omega⟩ * s k
  else x ⟨32 + (k.val - 32), by omega⟩ * c ⟨32 + (k.val - 32), by omega⟩
    + x ⟨k.val - 32, by omega⟩ * s ⟨32 + (k.val - 32), by omega⟩

/-- The product with the rotation's matrix swaps the halves. -/
theorem spinBy_matrix (x c s : Fin 64 → EReal) (k : Fin 64) : spinBy x c s matrix k = spin x c s k := by
  have hk := k.isLt
  unfold spinBy spin
  by_cases h : k.val < 32
  · rw [dif_pos h, Finset.sum_eq_single (⟨32 + k.val, by omega⟩ : Fin 64)]
    · rw [show matrix ⟨32 + k.val, by omega⟩ k = -1 from
        (if_neg (show ¬k.val = 32 + k.val + 32 by omega)).trans (if_pos (show 32 + k.val = k.val + 32 by omega)),
        mul_neg, mul_one, neg_mul, sub_eq_add_neg]
    · intro j _ hj
      have e : ¬j.val = k.val + 32 := fun e => hj (Fin.ext (show j.val = 32 + k.val by omega))
      rw [show matrix j k = 0 from (if_neg (by omega)).trans (if_neg e), mul_zero]
    · exact fun hn => absurd (Finset.mem_univ _) hn
  · rw [dif_neg h, Finset.sum_eq_single (⟨k.val - 32, by omega⟩ : Fin 64)]
    · rw [show matrix ⟨k.val - 32, by omega⟩ k = 1 from if_pos (show k.val = k.val - 32 + 32 by omega), mul_one,
        show (⟨32 + (k.val - 32), by omega⟩ : Fin 64) = k from Fin.ext (by show 32 + (k.val - 32) = k.val; omega)]
    · intro j _ hj
      have e : ¬k.val = j.val + 32 := fun e => hj (Fin.ext (show j.val = k.val - 32 by omega))
      have := j.isLt
      rw [show matrix j k = 0 from (if_neg e).trans (if_neg (by omega)), mul_zero]
    · exact fun hn => absurd (Finset.mem_univ _) hn

/-- Channel `k` of a head's token: a normalised one, or one of the rotated ones `r`. -/
def joined (x g : Fin 128 → EReal) (r : Fin 64 → EReal) (k : Fin 192) : EReal :=
  if h : k.val < 128 then normed width x g ⟨k.val, h⟩ else r ⟨k.val - 128, by have := k.isLt; omega⟩

theorem joined_lo (x g : Fin 128 → EReal) (r : Fin 64 → EReal) (k : Fin 192) (j : Fin 128) (h : k.val = j.val) :
    joined x g r k = normed width x g j :=
  (dif_pos (show k.val < 128 from h ▸ j.isLt)).trans (congrArg _ (Fin.ext h))

theorem joined_hi (x g : Fin 128 → EReal) (r : Fin 64 → EReal) (k : Fin 192) (j : Fin 64) (h : k.val = 128 + j.val) :
    joined x g r k = r j :=
  (dif_neg (show ¬k.val < 128 by omega)).trans (congrArg _ (Fin.ext (show k.val - 128 = j.val by omega)))

/-- What the call computes of a head's token is the rotation half by half. -/
theorem joined_eq {x x' g g' : Fin 128 → EReal} {r r' u u' c c' s s' : Fin 64 → EReal} {rm : Fin 64 → Fin 64 → EReal} (k : Fin 192)
    (h0 : x = x') (h1 : g = g') (h2 : r = r') (h3 : u = u') (h4 : c = c') (h5 : s = s') (h6 : rm = matrix) :
    joined x g (spinBy (normed turning r u) c s rm) k = joined x' g' (spin (normed turning r' u') c' s') k := by
  rw [h0, h1, h2, h3, h4, h5, h6]
  exact congrArg (fun r => joined x' g' r k) (funext (spinBy_matrix _ _ _))

/-- The queries, as an array. -/
def headsQ (q : (⟨3, ![8, 4096, 192]⟩ : Shape).Idx → EReal) (gn : (⟨1, ![128]⟩ : Shape).Idx → EReal) (gr : (⟨1, ![64]⟩ : Shape).Idx → EReal)
    (cs sn : (⟨2, ![4096, 64]⟩ : Shape).Idx → EReal) : (⟨3, ![8, 4096, 192]⟩ : Shape).Idx → EReal :=
  fun y => joined (lo (by decide) (tok q (y 0) (y 1))) (gain gn)
    (spin (normed turning (from_ 128 (by decide) (tok q (y 0) (y 1))) (gain gr)) (at_ cs (y 1)) (at_ sn (y 1))) (y 2)

/-- The keys, as an array: the rotated channels come from `lat`, which all heads share. -/
def headsK (kv : (⟨3, ![8, 4096, 256]⟩ : Shape).Idx → EReal) (lat : (⟨2, ![4096, 704]⟩ : Shape).Idx → EReal)
    (gn : (⟨1, ![128]⟩ : Shape).Idx → EReal) (gr : (⟨1, ![64]⟩ : Shape).Idx → EReal)
    (cs sn : (⟨2, ![4096, 64]⟩ : Shape).Idx → EReal) : (⟨3, ![8, 4096, 192]⟩ : Shape).Idx → EReal :=
  fun y => joined (lo (by decide) (tok kv (y 0) (y 1))) (gain gn)
    (spin (normed turning (from_ 640 (by decide) (at_ lat (y 1))) (gain gr)) (at_ cs (y 1)) (at_ sn (y 1))) (y 2)

/-- The values are the channels after the keys'. -/
def up (x : Fin 256 → EReal) (j : Fin 128) : EReal := x ⟨128 + j.val, by have := j.isLt; omega⟩

/-- The values, as an array. -/
def headsV (kv : (⟨3, ![8, 4096, 256]⟩ : Shape).Idx → EReal) : (⟨3, ![8, 4096, 128]⟩ : Shape).Idx → EReal :=
  fun y => up (tok kv (y 0) (y 1)) (y 2)

section call

open Cert.Kernel54Ideal Cert.Kernel54Ideal.Gen

variable (m : (ℓ : Loc nD τ sig) → Buf (Elt Ideal) ℓ)

/-- What a point leaves of the queries. -/
theorem outs_q (c : Dev nD) (t : Fin cfg0.N) (y : S1x1024x192.Idx) : (outsAt0 m c t).1 y
    = joined (lo (by decide) (tok (iblk m c 0 t) 0 (y 1))) (at_ (iblk m c 6 t) 0)
      (spinBy (normed turning (from_ 128 (by decide) (tok (iblk m c 0 t) 0 (y 1))) (at_ (iblk m c 7 t) 0))
        (at_ (iblk m c 3 t) (y 1)) (at_ (iblk m c 4 t) (y 1)) (at_ (iblk m c 5 t))) (y 2) := by
  unfold outsAt0
  dsimp only
  generalize iblk m c 0 t = q
  generalize iblk m c 1 t = kv
  generalize iblk m c 2 t = l
  generalize iblk m c 3 t = cs
  generalize iblk m c 4 t = sn
  generalize iblk m c 5 t = rm
  generalize iblk m c 6 t = g6
  generalize iblk m c 7 t = g7
  generalize iblk m c 8 t = g8
  generalize iblk m c 9 t = g9
  frame_out
  unfold_payloads
  canon_tiles x e using View.cover_of_tiledBy _ ![1, 1024, 64] (by sl_kernel_rfl) _
  · rw [joined_hi _ _ _ _ (x 2) e2, show y 1 = x 1 from Fin.ext e1]
    idx_vars x
    obtain rfl : x0 = 0 := Subsingleton.elim _ _
    pointwise
    rfl
  · rw [joined_lo _ _ _ _ (x 2) e2, show y 1 = x 1 from Fin.ext e1]
    idx_vars x
    obtain rfl : x0 = 0 := Subsingleton.elim _ _
    pointwise
    rfl

/-- What a point leaves of the keys. -/
theorem outs_k (c : Dev nD) (t : Fin cfg0.N) (y : S1x1024x192.Idx) : (outsAt0 m c t).2.1 y
    = joined (lo (by decide) (tok (iblk m c 1 t) 0 (y 1))) (at_ (iblk m c 8 t) 0)
      (spinBy (normed turning (from_ 640 (by decide) (at_ (iblk m c 2 t) (y 1))) (at_ (iblk m c 9 t) 0))
        (at_ (iblk m c 3 t) (y 1)) (at_ (iblk m c 4 t) (y 1)) (at_ (iblk m c 5 t))) (y 2) := by
  unfold outsAt0
  dsimp only
  generalize iblk m c 0 t = q
  generalize iblk m c 1 t = kv
  generalize iblk m c 2 t = l
  generalize iblk m c 3 t = cs
  generalize iblk m c 4 t = sn
  generalize iblk m c 5 t = rm
  generalize iblk m c 6 t = g6
  generalize iblk m c 7 t = g7
  generalize iblk m c 8 t = g8
  generalize iblk m c 9 t = g9
  frame_out
  unfold_payloads
  canon_tiles x e using View.cover_of_tiledBy _ ![1, 1024, 64] (by sl_kernel_rfl) _
  · rw [joined_hi _ _ _ _ (x 2) e2, show y 1 = x 1 from Fin.ext e1]
    idx_vars x
    obtain rfl : x0 = 0 := Subsingleton.elim _ _
    pointwise
    rfl
  · rw [joined_lo _ _ _ _ (x 2) e2, show y 1 = x 1 from Fin.ext e1]
    idx_vars x
    obtain rfl : x0 = 0 := Subsingleton.elim _ _
    pointwise
    rfl

/-- What a point leaves of the values. -/
theorem outs_v (c : Dev nD) (t : Fin cfg0.N) (y : S1x1024x128.Idx) : (outsAt0 m c t).2.2 y = up (tok (iblk m c 1 t) 0 (y 1)) (y 2) := by
  unfold outsAt0
  dsimp only
  generalize iblk m c 0 t = q
  generalize iblk m c 1 t = kv
  generalize iblk m c 2 t = l
  generalize iblk m c 3 t = cs
  generalize iblk m c 4 t = sn
  generalize iblk m c 5 t = rm
  generalize iblk m c 6 t = g6
  generalize iblk m c 7 t = g7
  generalize iblk m c 8 t = g8
  generalize iblk m c 9 t = g9
  frame_out
  unfold_payloads
  idx_vars y
  obtain rfl : y0 = 0 := Subsingleton.elim _ _
  pointwise
  rfl

/-- The block indices of the windows. -/
theorem indices : ∀ t : Fin grid0.N, (win0_0.index t = ![t.val % 8, t.val / 8, 0] ∧ win0_1.index t = ![t.val % 8, t.val / 8, 0] ∧
    win0_2.index t = ![t.val / 8, 0] ∧ win0_3.index t = ![t.val / 8, 0] ∧ win0_4.index t = ![t.val / 8, 0]) ∧
    (win0_5.index t = ![0, 0] ∧ win0_6.index t = ![0, 0] ∧ win0_7.index t = ![0, 0] ∧ win0_8.index t = ![0, 0] ∧
    win0_9.index t = ![0, 0]) ∧ win0_10.index t = ![t.val % 8, t.val / 8, 0] ∧
    win0_11.index t = ![t.val % 8, t.val / 8, 0] ∧ win0_12.index t = ![t.val % 8, t.val / 8, 0] := by
  decide +kernel

theorem lt32 (t : Fin cfg0.N) : t.val < 32 := by have h := t.isLt; have e : cfg0.N = 32 := N_0; omega

/-- The head that point `t` works on. -/
def headOf (t : Fin cfg0.N) : Fin 8 := ⟨t.val % 8, Nat.mod_lt _ (by decide)⟩
/-- Row `r` of the tokens that point `t` works on. -/
def tokRow (t : Fin cfg0.N) (r : Fin 1024) : Fin 4096 :=
  ⟨t.val / 8 * 1024 + r.val, by have := r.isLt; have := lt32 t; omega⟩

/-- The matrix that the host writes. -/
theorem matrix_entry : ∀ k j : Fin 64, lit0 (S64x64.rowMajor (ix2 k j)) = Cert.Kernel53Ideal.lit0 (S64x64.rowMajor (ix2 k j)) := by
  decide +kernel

theorem blk5 (c : Dev nD) (t : Fin cfg0.N) : at_ (iblk m c 5 t) = matrix := by
  have idx := indices
  funext k j
  refine Eq.trans ?_ (Cert.RopeGain.lit_matrix k j)
  refine Eq.trans ?_ (congrArg (Ideal.ofBits .f32) (matrix_entry k j))
  refine Eq.trans (b := (V m c main_cst : S64x64.Idx → EReal) (ix2 k j)) ?_ ?_
  · unfold at_
    blk_point [iblk, idx t] <;> rfl
  · unfold V hostOps0
    after_results
    rfl

theorem blk0 (c : Dev nD) (t : Fin cfg0.N) (r : Fin 1024) : tok (iblk m c 0 t) 0 r = tok (m ((c : Thread nD τ).loc main_arg0)) (headOf t) (tokRow t r) := by
  have idx := indices
  funext j
  unfold tok
  blk_point [iblk, V, idx t] <;> rfl

theorem blk1 (c : Dev nD) (t : Fin cfg0.N) (r : Fin 1024) : tok (iblk m c 1 t) 0 r = tok (m ((c : Thread nD τ).loc main_arg1)) (headOf t) (tokRow t r) := by
  have idx := indices
  funext j
  unfold tok
  blk_point [iblk, V, idx t] <;> rfl

theorem blk2 (c : Dev nD) (t : Fin cfg0.N) (r : Fin 1024) : at_ (iblk m c 2 t) r = at_ (m ((c : Thread nD τ).loc main_arg2)) (tokRow t r) := by
  have idx := indices
  funext j
  unfold at_
  blk_point [iblk, V, idx t] <;> rfl

theorem blk3 (c : Dev nD) (t : Fin cfg0.N) (r : Fin 1024) : at_ (iblk m c 3 t) r = at_ (m ((c : Thread nD τ).loc main_arg3)) (tokRow t r) := by
  have idx := indices
  funext j
  unfold at_
  blk_point [iblk, V, idx t] <;> rfl

theorem blk4 (c : Dev nD) (t : Fin cfg0.N) (r : Fin 1024) : at_ (iblk m c 4 t) r = at_ (m ((c : Thread nD τ).loc main_arg4)) (tokRow t r) := by
  have idx := indices
  funext j
  unfold at_
  blk_point [iblk, V, idx t] <;> rfl

theorem blk6 (c : Dev nD) (t : Fin cfg0.N) : at_ (iblk m c 6 t) 0 = gain (m ((c : Thread nD τ).loc main_arg5)) := by
  have idx := indices
  funext j
  unfold at_ gain
  blk_point [iblk, V, idx t] <;> rfl

theorem blk7 (c : Dev nD) (t : Fin cfg0.N) : at_ (iblk m c 7 t) 0 = gain (m ((c : Thread nD τ).loc main_arg6)) := by
  have idx := indices
  funext j
  unfold at_ gain
  blk_point [iblk, V, idx t] <;> rfl

theorem blk8 (c : Dev nD) (t : Fin cfg0.N) : at_ (iblk m c 8 t) 0 = gain (m ((c : Thread nD τ).loc main_arg7)) := by
  have idx := indices
  funext j
  unfold at_ gain
  blk_point [iblk, V, idx t] <;> rfl

theorem blk9 (c : Dev nD) (t : Fin cfg0.N) : at_ (iblk m c 9 t) 0 = gain (m ((c : Thread nD τ).loc main_arg8)) := by
  have idx := indices
  funext j
  unfold at_ gain
  blk_point [iblk, V, idx t] <;> rfl

/-- The queries the call leaves. -/
abbrev wholeQ (c : Dev nD) : (⟨3, ![8, 4096, 192]⟩ : Shape).Idx → EReal :=
  headsQ (m ((c : Thread nD τ).loc main_arg0)) (m ((c : Thread nD τ).loc main_arg5)) (m ((c : Thread nD τ).loc main_arg6))
    (m ((c : Thread nD τ).loc main_arg3)) (m ((c : Thread nD τ).loc main_arg4))
/-- The keys the call leaves. -/
abbrev wholeK (c : Dev nD) : (⟨3, ![8, 4096, 192]⟩ : Shape).Idx → EReal :=
  headsK (m ((c : Thread nD τ).loc main_arg1)) (m ((c : Thread nD τ).loc main_arg2)) (m ((c : Thread nD τ).loc main_arg7))
    (m ((c : Thread nD τ).loc main_arg8)) (m ((c : Thread nD τ).loc main_arg3)) (m ((c : Thread nD τ).loc main_arg4))
/-- The values the call leaves. -/
abbrev wholeV (c : Dev nD) : (⟨3, ![8, 4096, 128]⟩ : Shape).Idx → EReal := headsV (m ((c : Thread nD τ).loc main_arg1))

theorem arr10 (c : Dev nD) : (dats m 0 c).arrAt 10 cfg0.N = fun y => wholeQ m c (ix3 (y 0) (y 1) (y 2)) := by
  have idx := indices
  refine (dats m 0 c).arrAt_eq_of_covers 10 _ (by decide +kernel) fun t hf y => ?_
  blk_simp
  rw [after0_10]
  idx_bounds y
  refine (outs_q m c t y).trans ((joined_eq (y 2) (congrArg _ (blk0 m c t (y 1))) (blk6 m c t) (from_congr _ _ (blk0 m c t (y 1)))
    (blk7 m c t) (blk3 m c t (y 1)) (blk4 m c t (y 1)) (blk5 m c t)).trans
    (congr (congrArg₂ (fun a l k => wholeQ m c (ix3 a l k)) (Fin.ext ?_) (Fin.ext ?_)) (Fin.ext ?_))) <;> blk_simp [idx t]
  all_goals first | rfl | (show t.val % 8 = _; omega) | omega

theorem arr11 (c : Dev nD) : (dats m 0 c).arrAt 11 cfg0.N = fun y => wholeK m c (ix3 (y 0) (y 1) (y 2)) := by
  have idx := indices
  refine (dats m 0 c).arrAt_eq_of_covers 11 _ (by decide +kernel) fun t hf y => ?_
  blk_simp
  rw [after0_11]
  idx_bounds y
  refine (outs_k m c t y).trans ((joined_eq (y 2) (congrArg _ (blk1 m c t (y 1))) (blk8 m c t) (from_congr _ _ (blk2 m c t (y 1)))
    (blk9 m c t) (blk3 m c t (y 1)) (blk4 m c t (y 1)) (blk5 m c t)).trans
    (congr (congrArg₂ (fun a l k => wholeK m c (ix3 a l k)) (Fin.ext ?_) (Fin.ext ?_)) (Fin.ext ?_))) <;> blk_simp [idx t]
  all_goals first | rfl | (show t.val % 8 = _; omega) | omega

theorem arr12 (c : Dev nD) : (dats m 0 c).arrAt 12 cfg0.N = fun y => wholeV m c (ix3 (y 0) (y 1) (y 2)) := by
  have idx := indices
  refine (dats m 0 c).arrAt_eq_of_covers 12 _ (by decide +kernel) fun t hf y => ?_
  blk_simp
  rw [after0_12]
  idx_bounds y
  refine (outs_v m c t y).trans ((congrArg (fun x => up x (y 2)) (blk1 m c t (y 1))).trans
    (congr (congrArg₂ (fun a l k => wholeV m c (ix3 a l k)) (Fin.ext ?_) (Fin.ext ?_)) (Fin.ext ?_))) <;> blk_simp [idx t]
  all_goals first | rfl | (show t.val % 8 = _; omega) | omega

end call

section plain

open Cert.Reference54Ideal Cert.Reference54Ideal.Read Cert.Reference54Ideal.Value

variable (m : (ℓ : Loc nD τ sig) → Buf (Elt Ideal) ℓ) (c : Dev nD)

theorem reference_q (y : S8x4096x192.Idx) : res_main_v96 (F := Ideal) m c y
    = headsQ (m ((c.tc : Thread nD τ).loc main_arg0)) (m ((c.tc : Thread nD τ).loc main_arg5)) (m ((c.tc : Thread nD τ).loc main_arg6))
      (m ((c.tc : Thread nD τ).loc main_arg3)) (m ((c.tc : Thread nD τ).loc main_arg4)) y := by
  unfold res_main_v96
  idx_vars y
  pointwise
  rfl

theorem reference_k (y : S8x4096x192.Idx) : res_main_v97 (F := Ideal) m c y
    = headsK (m ((c.tc : Thread nD τ).loc main_arg1)) (m ((c.tc : Thread nD τ).loc main_arg2)) (m ((c.tc : Thread nD τ).loc main_arg7))
      (m ((c.tc : Thread nD τ).loc main_arg8)) (m ((c.tc : Thread nD τ).loc main_arg3)) (m ((c.tc : Thread nD τ).loc main_arg4)) y := by
  unfold res_main_v97
  idx_vars y
  pointwise
  rfl

theorem reference_v (x1 : (⟨S8x4096x256, .f32⟩ : BufTy).Contents (Elt Ideal)) (y : S8x4096x128.Idx) :
    val_main_v98 (F := Ideal) x1 y = headsV x1 y := by
  rw [← val_main_v98_eq]
  idx_vars y
  pointwise
  rfl

end plain

/-- The reference's frame. -/
theorem frame_reference : Cert.quiescent_Reference54Ideal := by
  intro m ρ _
  exact (θ_run Cert.Reference54Ideal.defs _ _).mono
    (fun r h => ⟨fun c => (h c).2.2.2, sem_eq_zero_of_no_sems (by decide) r.2⟩)
    (Cert.Reference54Ideal.Value.run (F := Ideal) m ρ)

/-- The call's results are the reference's. -/
theorem algebraic : Cert.algebraic_Kernel54Ideal_Reference54Ideal := by
  intro m ρ m' ρ' _ hag
  refine ⟨wholeQ m, wholeK m, wholeV m, ?_, ?_⟩
  · refine (θ_run Cert.Kernel54Ideal.defs _ _).mono (fun r h c => ?_) (Cert.Kernel54Ideal.Value.run_blocks (F := Ideal) m ρ)
    obtain ⟨h10, h11, h12, hargs⟩ := h c
    exact ⟨h10.trans (arr10 m c), h11.trans (arr11 m c), h12.trans (arr12 m c), hargs⟩
  · refine (θ_run Cert.Reference54Ideal.defs _ _).mono (fun r h c => ?_) (Cert.Reference54Ideal.Value.run (F := Ideal) m' ρ')
    obtain ⟨h10, h11, h12, hargs⟩ := h c
    obtain ⟨e0, e1, e2, e3, e4, e5, e6, e7, e8⟩ := hag c
    refine ⟨h10.trans ?_, h11.trans ?_, h12.trans ?_, hargs⟩
    · show _ = headsQ _ _ _ _ _
      rw [← e0, ← e3, ← e4, ← e5, ← e6]
      exact funext (reference_q m' c)
    · show _ = headsK _ _ _ _ _ _
      rw [← e1, ← e2, ← e3, ← e4, ← e7, ← e8]
      exact funext (reference_k m' c)
    · show _ = headsV _
      rw [← e1]
      exact funext (reference_v _)

end Cert.RopeFwd

end
-- ==== Proof.lean ====
module

public import proofs.«01_k».proof.Defs
public import proofs.«01_k».proof.Proof.Gen.Kernel.Frame
public import proofs.«01_k».proof.Proof.SguClaims
public import proofs.«01_k».proof.Proof.Gen.Kernel2.Frame
public import proofs.«01_k».proof.Proof.FfnDownDx
public import proofs.«01_k».proof.Proof.Gen.Kernel3.Frame
public import proofs.«01_k».proof.Proof.FfnDownDw
public import proofs.«01_k».proof.Proof.Gen.Kernel4.Frame
public import proofs.«01_k».proof.Proof.FfnUpDw
public import proofs.«01_k».proof.Proof.Gen.Kernel5.Frame
public import proofs.«01_k».proof.Proof.FfnUpDx
public import proofs.«01_k».proof.Proof.Gen.Kernel6.Frame
public import proofs.«01_k».proof.Proof.GmlpOutDx
public import proofs.«01_k».proof.Proof.Gen.Kernel7.Frame
public import proofs.«01_k».proof.Proof.GmlpOutDw
public import proofs.«01_k».proof.Proof.Gen.Kernel8.Frame
public import proofs.«01_k».proof.Proof.GmlpInDx
public import proofs.«01_k».proof.Proof.Gen.Kernel9.Frame
public import proofs.«01_k».proof.Proof.PleGateDx
public import proofs.«01_k».proof.Proof.Gen.Kernel10.Frame
public import proofs.«01_k».proof.Proof.PleGateDw
public import proofs.«01_k».proof.Proof.Gen.Kernel11.Frame
public import proofs.«01_k».proof.Proof.PleProjDw
public import proofs.«01_k».proof.Proof.Gen.Kernel12.Frame
public import proofs.«01_k».proof.Proof.MlaOutDx
public import proofs.«01_k».proof.Proof.Gen.Kernel13.Frame
public import proofs.«01_k».proof.Proof.MlaOutDw
public import proofs.«01_k».proof.Proof.Gen.Kernel14.Frame
public import proofs.«01_k».proof.Proof.MlaDownDx
public import proofs.«01_k».proof.Proof.Gen.Kernel15.Frame
public import proofs.«01_k».proof.Proof.MlaDownDw
public import proofs.«01_k».proof.Proof.Gen.Kernel16.Frame
public import proofs.«01_k».proof.Proof.MlaUqDw
public import proofs.«01_k».proof.Proof.Gen.Kernel17.Frame
public import proofs.«01_k».proof.Proof.MlaUkvDw
public import proofs.«01_k».proof.Proof.Gen.Kernel18.Frame
public import proofs.«01_k».proof.Proof.MlaLatentsBack
public import proofs.«01_k».proof.Proof.Gen.Kernel19.Frame
public import proofs.«01_k».proof.Proof.MlaUqDx
public import proofs.«01_k».proof.Proof.Gen.Kernel20.Frame
public import proofs.«01_k».proof.Proof.FfnUp
public import proofs.«01_k».proof.Proof.Gen.Kernel21.Frame
public import proofs.«01_k».proof.Proof.FfnDown
public import proofs.«01_k».proof.Proof.Gen.Kernel22.Frame
public import proofs.«01_k».proof.Proof.MlaUkvDx
public import proofs.«01_k».proof.Proof.Gen.Kernel23.Frame
public import proofs.«01_k».proof.Proof.MlaDownDxFirst
public import proofs.«01_k».proof.Proof.Gen.Kernel24.Frame
public import proofs.«01_k».proof.Proof.GmlpIn
public import proofs.«01_k».proof.Proof.Gen.Kernel25.Frame
public import proofs.«01_k».proof.Proof.MlaDown
public import proofs.«01_k».proof.Proof.Gen.Kernel26.Frame
public import proofs.«01_k».proof.Proof.MlaUq
public import proofs.«01_k».proof.Proof.Gen.Kernel27.Frame
public import proofs.«01_k».proof.Proof.MlaUkv
public import proofs.«01_k».proof.Proof.Gen.Kernel28.Frame
public import proofs.«01_k».proof.Proof.MlaOut
public import proofs.«01_k».proof.Proof.Gen.Kernel29.Frame
public import proofs.«01_k».proof.Proof.GmlpOut
public import proofs.«01_k».proof.Proof.Gen.Kernel30.Frame
public import proofs.«01_k».proof.Proof.PleGate
public import proofs.«01_k».proof.Proof.Gen.Kernel31.Frame
public import proofs.«01_k».proof.Proof.PleProj
public import proofs.«01_k».proof.Proof.Gen.Kernel32.Frame
public import proofs.«01_k».proof.Proof.PleProjLast
public import proofs.«01_k».proof.Proof.Gen.Kernel33.Frame
public import proofs.«01_k».proof.Proof.RmsFwd
public import proofs.«01_k».proof.Proof.Gen.Kernel34.Frame
public import proofs.«01_k».proof.Proof.MlaLatents
public import proofs.«01_k».proof.Proof.Gen.Kernel35.Frame
public import proofs.«01_k».proof.Proof.SguForward
public import proofs.«01_k».proof.Proof.Gen.Kernel36.Frame
public import proofs.«01_k».proof.Proof.GeluLnFwd
public import proofs.«01_k».proof.Proof.Gen.Kernel37.Frame
public import proofs.«01_k».proof.Proof.GeluLnGains
public import proofs.«01_k».proof.Proof.Gen.Kernel38.Frame
public import proofs.«01_k».proof.Proof.LossHead
public import proofs.«01_k».proof.Proof.Gen.Kernel39.Frame
public import proofs.«01_k».proof.Proof.NopeBack
public import proofs.«01_k».proof.Proof.Gen.Kernel40.Frame
public import proofs.«01_k».proof.Proof.AdamGains
public import proofs.«01_k».proof.Proof.Gen.Kernel41.Frame
public import proofs.«01_k».proof.Proof.AdamSpatial
public import proofs.«01_k».proof.Proof.Gen.Kernel42.Frame
public import proofs.«01_k».proof.Proof.AdamFfnUp
public import proofs.«01_k».proof.Proof.Gen.Kernel43.Frame
public import proofs.«01_k».proof.Proof.AdamFfnDown
public import proofs.«01_k».proof.Proof.Gen.Kernel44.Frame
public import proofs.«01_k».proof.Proof.AdamPleGate
public import proofs.«01_k».proof.Proof.Gen.Kernel45.Frame
public import proofs.«01_k».proof.Proof.AdamPleProj
public import proofs.«01_k».proof.Proof.Gen.Kernel46.Frame
public import proofs.«01_k».proof.Proof.AdamMlaDown
public import proofs.«01_k».proof.Proof.Gen.Kernel47.Frame
public import proofs.«01_k».proof.Proof.AdamMlaUq
public import proofs.«01_k».proof.Proof.Gen.Kernel48.Frame
public import proofs.«01_k».proof.Proof.AdamMlaUkv
public import proofs.«01_k».proof.Proof.Gen.Kernel49.Frame
public import proofs.«01_k».proof.Proof.AdamMlaOut
public import proofs.«01_k».proof.Proof.Gen.Kernel50.Frame
public import proofs.«01_k».proof.Proof.AdamGmlpIn
public import proofs.«01_k».proof.Proof.Gen.Kernel51.Frame
public import proofs.«01_k».proof.Proof.AdamGmlpNorm
public import proofs.«01_k».proof.Proof.Gen.Kernel52.Frame
public import proofs.«01_k».proof.Proof.AdamGmlpOut
public import proofs.«01_k».proof.Proof.Gen.Kernel53.Frame
public import proofs.«01_k».proof.Proof.RopeGain
public import proofs.«01_k».proof.Proof.Gen.Kernel54.Frame
public import proofs.«01_k».proof.Proof.RopeFwd
public import Idealize.ShloMosaic.Adequacy

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  Cert.Kernel38.Gen.facts,
  Cert.Kernel38Ideal.Gen.facts,
  Cert.Reference38Ideal.Gen.facts,
  Cert.Kernel39.Gen.facts,
  Cert.Kernel39Ideal.Gen.facts,
  Cert.Reference39Ideal.Gen.facts,
  Cert.Kernel40.Gen.facts,
  Cert.Kernel40Ideal.Gen.facts,
  Cert.Reference40Ideal.Gen.facts,
  Cert.Kernel41.Gen.facts,
  Cert.Kernel41Ideal.Gen.facts,
  Cert.Reference41Ideal.Gen.facts,
  Cert.Kernel42.Gen.facts,
  Cert.Kernel42Ideal.Gen.facts,
  Cert.Reference42Ideal.Gen.facts,
  Cert.Kernel43.Gen.facts,
  Cert.Kernel43Ideal.Gen.facts,
  Cert.Reference43Ideal.Gen.facts,
  Cert.Kernel44.Gen.facts,
  Cert.Kernel44Ideal.Gen.facts,
  Cert.Reference44Ideal.Gen.facts,
  Cert.Kernel45.Gen.facts,
  Cert.Kernel45Ideal.Gen.facts,
  Cert.Reference45Ideal.Gen.facts,
  Cert.Kernel46.Gen.facts,
  Cert.Kernel46Ideal.Gen.facts,
  Cert.Reference46Ideal.Gen.facts,
  Cert.Kernel47.Gen.facts,
  Cert.Kernel47Ideal.Gen.facts,
  Cert.Reference47Ideal.Gen.facts,
  Cert.Kernel48.Gen.facts,
  Cert.Kernel48Ideal.Gen.facts,
  Cert.Reference48Ideal.Gen.facts,
  Cert.Kernel49.Gen.facts,
  Cert.Kernel49Ideal.Gen.facts,
  Cert.Reference49Ideal.Gen.facts,
  Cert.Kernel50.Gen.facts,
  Cert.Kernel50Ideal.Gen.facts,
  Cert.Reference50Ideal.Gen.facts,
  Cert.Kernel51.Gen.facts,
  Cert.Kernel51Ideal.Gen.facts,
  Cert.Reference51Ideal.Gen.facts,
  Cert.Kernel52.Gen.facts,
  Cert.Kernel52Ideal.Gen.facts,
  Cert.Reference52Ideal.Gen.facts,
  Cert.Kernel53.Gen.facts,
  Cert.Kernel53Ideal.Gen.facts,
  Cert.Reference53Ideal.Gen.facts,
  Cert.Kernel54.Gen.facts,
  Cert.Kernel54Ideal.Gen.facts,
  Cert.Reference54Ideal.Gen.facts, by
  exact ⟨fun m ρ _ => Cert.Kernel.Gen.frame m ρ,
    fun m ρ _ => Cert.KernelIdeal.Gen.frame m ρ,
    Cert.SpatialGate.frame_reference,
    fun m ρ _ => Cert.Kernel2.Gen.frame m ρ,
    fun m ρ _ => Cert.Kernel2Ideal.Gen.frame m ρ,
    Cert.FfnDownDx.frame_reference,
    fun m ρ _ => Cert.Kernel3.Gen.frame m ρ,
    fun m ρ _ => Cert.Kernel3Ideal.Gen.frame m ρ,
    Cert.FfnDownDw.frame_reference,
    fun m ρ _ => Cert.Kernel4.Gen.frame m ρ,
    fun m ρ _ => Cert.Kernel4Ideal.Gen.frame m ρ,
    Cert.FfnUpDw.frame_reference,
    fun m ρ _ => Cert.Kernel5.Gen.frame m ρ,
    fun m ρ _ => Cert.Kernel5Ideal.Gen.frame m ρ,
    Cert.FfnUpDx.frame_reference,
    fun m ρ _ => Cert.Kernel6.Gen.frame m ρ,
    fun m ρ _ => Cert.Kernel6Ideal.Gen.frame m ρ,
    Cert.GmlpOutDx.frame_reference,
    fun m ρ _ => Cert.Kernel7.Gen.frame m ρ,
    fun m ρ _ => Cert.Kernel7Ideal.Gen.frame m ρ,
    Cert.GmlpOutDw.frame_reference,
    fun m ρ _ => Cert.Kernel8.Gen.frame m ρ,
    fun m ρ _ => Cert.Kernel8Ideal.Gen.frame m ρ,
    Cert.GmlpInDx.frame_reference,
    fun m ρ _ => Cert.Kernel9.Gen.frame m ρ,
    fun m ρ _ => Cert.Kernel9Ideal.Gen.frame m ρ,
    Cert.PleGateDx.frame_reference,
    fun m ρ _ => Cert.Kernel10.Gen.frame m ρ,
    fun m ρ _ => Cert.Kernel10Ideal.Gen.frame m ρ,
    Cert.PleGateDw.frame_reference,
    fun m ρ _ => Cert.Kernel11.Gen.frame m ρ,
    fun m ρ _ => Cert.Kernel11Ideal.Gen.frame m ρ,
    Cert.PleProjDw.frame_reference,
    fun m ρ _ => Cert.Kernel12.Gen.frame m ρ,
    fun m ρ _ => Cert.Kernel12Ideal.Gen.frame m ρ,
    Cert.MlaOutDx.frame_reference,
    fun m ρ _ => Cert.Kernel13.Gen.frame m ρ,
    fun m ρ _ => Cert.Kernel13Ideal.Gen.frame m ρ,
    Cert.MlaOutDw.frame_reference,
    fun m ρ _ => Cert.Kernel14.Gen.frame m ρ,
    fun m ρ _ => Cert.Kernel14Ideal.Gen.frame m ρ,
    Cert.MlaDownDx.frame_reference,
    fun m ρ _ => Cert.Kernel15.Gen.frame m ρ,
    fun m ρ _ => Cert.Kernel15Ideal.Gen.frame m ρ,
    Cert.MlaDownDw.frame_reference,
    fun m ρ _ => Cert.Kernel16.Gen.frame m ρ,
    fun m ρ _ => Cert.Kernel16Ideal.Gen.frame m ρ,
    Cert.MlaUqDw.frame_reference,
    fun m ρ _ => Cert.Kernel17.Gen.frame m ρ,
    fun m ρ _ => Cert.Kernel17Ideal.Gen.frame m ρ,
    Cert.MlaUkvDw.frame_reference,
    fun m ρ _ => Cert.Kernel18.Gen.frame m ρ,
    fun m ρ _ => Cert.Kernel18Ideal.Gen.frame m ρ,
    Cert.MlaLatentsBack.frame_reference,
    fun m ρ _ => Cert.Kernel19.Gen.frame m ρ,
    fun m ρ _ => Cert.Kernel19Ideal.Gen.frame m ρ,
    Cert.MlaUqDx.frame_reference,
    fun m ρ _ => Cert.Kernel20.Gen.frame m ρ,
    fun m ρ _ => Cert.Kernel20Ideal.Gen.frame m ρ,
    Cert.FfnUp.frame_reference,
    fun m ρ _ => Cert.Kernel21.Gen.frame m ρ,
    fun m ρ _ => Cert.Kernel21Ideal.Gen.frame m ρ,
    Cert.FfnDown.frame_reference,
    fun m ρ _ => Cert.Kernel22.Gen.frame m ρ,
    fun m ρ _ => Cert.Kernel22Ideal.Gen.frame m ρ,
    Cert.MlaUkvDx.frame_reference,
    fun m ρ _ => Cert.Kernel23.Gen.frame m ρ,
    fun m ρ _ => Cert.Kernel23Ideal.Gen.frame m ρ,
    Cert.MlaDownDxFirst.frame_reference,
    fun m ρ _ => Cert.Kernel24.Gen.frame m ρ,
    fun m ρ _ => Cert.Kernel24Ideal.Gen.frame m ρ,
    Cert.GmlpIn.frame_reference,
    fun m ρ _ => Cert.Kernel25.Gen.frame m ρ,
    fun m ρ _ => Cert.Kernel25Ideal.Gen.frame m ρ,
    Cert.MlaDown.frame_reference,
    fun m ρ _ => Cert.Kernel26.Gen.frame m ρ,
    fun m ρ _ => Cert.Kernel26Ideal.Gen.frame m ρ,
    Cert.MlaUq.frame_reference,
    fun m ρ _ => Cert.Kernel27.Gen.frame m ρ,
    fun m ρ _ => Cert.Kernel27Ideal.Gen.frame m ρ,
    Cert.MlaUkv.frame_reference,
    fun m ρ _ => Cert.Kernel28.Gen.frame m ρ,
    fun m ρ _ => Cert.Kernel28Ideal.Gen.frame m ρ,
    Cert.MlaOut.frame_reference,
    fun m ρ _ => Cert.Kernel29.Gen.frame m ρ,
    fun m ρ _ => Cert.Kernel29Ideal.Gen.frame m ρ,
    Cert.GmlpOut.frame_reference,
    fun m ρ _ => Cert.Kernel30.Gen.frame m ρ,
    fun m ρ _ => Cert.Kernel30Ideal.Gen.frame m ρ,
    Cert.PleGate.frame_reference,
    fun m ρ _ => Cert.Kernel31.Gen.frame m ρ,
    fun m ρ _ => Cert.Kernel31Ideal.Gen.frame m ρ,
    Cert.PleProj.frame_reference,
    fun m ρ _ => Cert.Kernel32.Gen.frame m ρ,
    fun m ρ _ => Cert.Kernel32Ideal.Gen.frame m ρ,
    Cert.PleProjLast.frame_reference,
    fun m ρ _ => Cert.Kernel33.Gen.frame m ρ,
    fun m ρ _ => Cert.Kernel33Ideal.Gen.frame m ρ,
    Cert.RmsFwd.frame_reference,
    fun m ρ _ => Cert.Kernel34.Gen.frame m ρ,
    fun m ρ _ => Cert.Kernel34Ideal.Gen.frame m ρ,
    Cert.MlaLatents.frame_reference,
    fun m ρ _ => Cert.Kernel35.Gen.frame m ρ,
    fun m ρ _ => Cert.Kernel35Ideal.Gen.frame m ρ,
    Cert.SguForward.frame_reference,
    fun m ρ _ => Cert.Kernel36.Gen.frame m ρ,
    fun m ρ _ => Cert.Kernel36Ideal.Gen.frame m ρ,
    Cert.GeluLnFwd.frame_reference,
    fun m ρ _ => Cert.Kernel37.Gen.frame m ρ,
    fun m ρ _ => Cert.Kernel37Ideal.Gen.frame m ρ,
    Cert.GeluLnGains.frame_reference,
    fun m ρ _ => Cert.Kernel38.Gen.frame m ρ,
    fun m ρ _ => Cert.Kernel38Ideal.Gen.frame m ρ,
    Cert.LossHead.frame_reference,
    fun m ρ _ => Cert.Kernel39.Gen.frame m ρ,
    fun m ρ _ => Cert.Kernel39Ideal.Gen.frame m ρ,
    Cert.NopeBack.frame_reference,
    fun m ρ _ => Cert.Kernel40.Gen.frame m ρ,
    fun m ρ _ => Cert.Kernel40Ideal.Gen.frame m ρ,
    Cert.AdamGains.frame_reference,
    fun m ρ _ => Cert.Kernel41.Gen.frame m ρ,
    fun m ρ _ => Cert.Kernel41Ideal.Gen.frame m ρ,
    Cert.AdamSpatial.frame_reference,
    fun m ρ _ => Cert.Kernel42.Gen.frame m ρ,
    fun m ρ _ => Cert.Kernel42Ideal.Gen.frame m ρ,
    Cert.AdamFfnUp.frame_reference,
    fun m ρ _ => Cert.Kernel43.Gen.frame m ρ,
    fun m ρ _ => Cert.Kernel43Ideal.Gen.frame m ρ,
    Cert.AdamFfnDown.frame_reference,
    fun m ρ _ => Cert.Kernel44.Gen.frame m ρ,
    fun m ρ _ => Cert.Kernel44Ideal.Gen.frame m ρ,
    Cert.AdamPleGate.frame_reference,
    fun m ρ _ => Cert.Kernel45.Gen.frame m ρ,
    fun m ρ _ => Cert.Kernel45Ideal.Gen.frame m ρ,
    Cert.AdamPleProj.frame_reference,
    fun m ρ _ => Cert.Kernel46.Gen.frame m ρ,
    fun m ρ _ => Cert.Kernel46Ideal.Gen.frame m ρ,
    Cert.AdamMlaDown.frame_reference,
    fun m ρ _ => Cert.Kernel47.Gen.frame m ρ,
    fun m ρ _ => Cert.Kernel47Ideal.Gen.frame m ρ,
    Cert.AdamMlaUq.frame_reference,
    fun m ρ _ => Cert.Kernel48.Gen.frame m ρ,
    fun m ρ _ => Cert.Kernel48Ideal.Gen.frame m ρ,
    Cert.AdamMlaUkv.frame_reference,
    fun m ρ _ => Cert.Kernel49.Gen.frame m ρ,
    fun m ρ _ => Cert.Kernel49Ideal.Gen.frame m ρ,
    Cert.AdamMlaOut.frame_reference,
    fun m ρ _ => Cert.Kernel50.Gen.frame m ρ,
    fun m ρ _ => Cert.Kernel50Ideal.Gen.frame m ρ,
    Cert.AdamGmlpIn.frame_reference,
    fun m ρ _ => Cert.Kernel51.Gen.frame m ρ,
    fun m ρ _ => Cert.Kernel51Ideal.Gen.frame m ρ,
    Cert.AdamGmlpNorm.frame_reference,
    fun m ρ _ => Cert.Kernel52.Gen.frame m ρ,
    fun m ρ _ => Cert.Kernel52Ideal.Gen.frame m ρ,
    Cert.AdamGmlpOut.frame_reference,
    fun m ρ _ => Cert.Kernel53.Gen.frame m ρ,
    fun m ρ _ => Cert.Kernel53Ideal.Gen.frame m ρ,
    Cert.RopeGain.frame_reference,
    fun m ρ _ => Cert.Kernel54.Gen.frame m ρ,
    fun m ρ _ => Cert.Kernel54Ideal.Gen.frame m ρ,
    Cert.RopeFwd.frame_reference,
    trivial,
    Cert.SpatialGate.algebraic,
    trivial,
    Cert.FfnDownDx.algebraic,
    trivial,
    Cert.FfnDownDw.algebraic,
    trivial,
    Cert.FfnUpDw.algebraic,
    trivial,
    Cert.FfnUpDx.algebraic,
    trivial,
    Cert.GmlpOutDx.algebraic,
    trivial,
    Cert.GmlpOutDw.algebraic,
    trivial,
    Cert.GmlpInDx.algebraic,
    trivial,
    Cert.PleGateDx.algebraic,
    trivial,
    Cert.PleGateDw.algebraic,
    trivial,
    Cert.PleProjDw.algebraic,
    trivial,
    Cert.MlaOutDx.algebraic,
    trivial,
    Cert.MlaOutDw.algebraic,
    trivial,
    Cert.MlaDownDx.algebraic,
    trivial,
    Cert.MlaDownDw.algebraic,
    trivial,
    Cert.MlaUqDw.algebraic,
    trivial,
    Cert.MlaUkvDw.algebraic,
    trivial,
    Cert.MlaLatentsBack.algebraic,
    trivial,
    Cert.MlaUqDx.algebraic,
    trivial,
    Cert.FfnUp.algebraic,
    trivial,
    Cert.FfnDown.algebraic,
    trivial,
    Cert.MlaUkvDx.algebraic,
    trivial,
    Cert.MlaDownDxFirst.algebraic,
    trivial,
    Cert.GmlpIn.algebraic,
    trivial,
    Cert.MlaDown.algebraic,
    trivial,
    Cert.MlaUq.algebraic,
    trivial,
    Cert.MlaUkv.algebraic,
    trivial,
    Cert.MlaOut.algebraic,
    trivial,
    Cert.GmlpOut.algebraic,
    trivial,
    Cert.PleGate.algebraic,
    trivial,
    Cert.PleProj.algebraic,
    trivial,
    Cert.PleProjLast.algebraic,
    trivial,
    Cert.RmsFwd.algebraic,
    trivial,
    Cert.MlaLatents.algebraic,
    trivial,
    Cert.SguForward.algebraic,
    trivial,
    Cert.GeluLnFwd.algebraic,
    trivial,
    Cert.GeluLnGains.algebraic,
    trivial,
    Cert.LossHead.algebraic,
    trivial,
    Cert.NopeBack.algebraic,
    trivial,
    Cert.AdamGains.algebraic,
    trivial,
    Cert.AdamSpatial.algebraic,
    trivial,
    Cert.AdamFfnUp.algebraic,
    trivial,
    Cert.AdamFfnDown.algebraic,
    trivial,
    Cert.AdamPleGate.algebraic,
    trivial,
    Cert.AdamPleProj.algebraic,
    trivial,
    Cert.AdamMlaDown.algebraic,
    trivial,
    Cert.AdamMlaUq.algebraic,
    trivial,
    Cert.AdamMlaUkv.algebraic,
    trivial,
    Cert.AdamMlaOut.algebraic,
    trivial,
    Cert.AdamGmlpIn.algebraic,
    trivial,
    Cert.AdamGmlpNorm.algebraic,
    trivial,
    Cert.AdamGmlpOut.algebraic,
    trivial,
    Cert.RopeGain.algebraic,
    trivial,
    Cert.RopeFwd.algebraic⟩⟩

end Cert.Proof

end
